-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelSquareDw (m : (ℓ : Loc Cert.KernelSquareDw.nD Cert.KernelSquareDw.τ Cert.KernelSquareDw.sig) → Buf (Elt Bits) ℓ) : Prop :=
  True

def Pre_KernelSquareDwIdeal (m : (ℓ : Loc Cert.KernelSquareDwIdeal.nD Cert.KernelSquareDwIdeal.τ Cert.KernelSquareDwIdeal.sig) → Buf (Elt Ideal) ℓ) : Prop :=
  True

def Pre_ReferenceSquareDwIdeal (m : (ℓ : Loc Cert.ReferenceSquareDwIdeal.nD Cert.ReferenceSquareDwIdeal.τ Cert.ReferenceSquareDwIdeal.sig) → Buf (Elt Ideal) ℓ) : Prop :=
  True

def Pre_KernelKvDw (m : (ℓ : Loc Cert.KernelKvDw.nD Cert.KernelKvDw.τ Cert.KernelKvDw.sig) → Buf (Elt Bits) ℓ) : Prop :=
  True

def Pre_KernelKvDwIdeal (m : (ℓ : Loc Cert.KernelKvDwIdeal.nD Cert.KernelKvDwIdeal.τ Cert.KernelKvDwIdeal.sig) → Buf (Elt Ideal) ℓ) : Prop :=
  True

def Pre_ReferenceKvDwIdeal (m : (ℓ : Loc Cert.ReferenceKvDwIdeal.nD Cert.ReferenceKvDwIdeal.τ Cert.ReferenceKvDwIdeal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelUpNorm (m : (ℓ : Loc Cert.KernelUpNorm.nD Cert.KernelUpNorm.τ Cert.KernelUpNorm.sig) → Buf (Elt Bits) ℓ) : Prop :=
  True

def Pre_KernelUpNormIdeal (m : (ℓ : Loc Cert.KernelUpNormIdeal.nD Cert.KernelUpNormIdeal.τ Cert.KernelUpNormIdeal.sig) → Buf (Elt Ideal) ℓ) : Prop :=
  True

def Pre_KernelUpNormIdeal_finite_up_norm [hPre_finite_up_norm : Cert.Pre_finite_up_norm.Facts] (m : (ℓ : Loc Cert.KernelUpNormIdeal.nD Cert.KernelUpNormIdeal.τ Cert.KernelUpNormIdeal.sig) → Buf (Elt Ideal) ℓ) : Prop :=
  ∀ c : Dev Cert.KernelUpNormIdeal.nD,
    (Cert.Pre_finite_up_norm.fn (F := Ideal) (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5))).1 = (fun _ => 1#1)
    ∧ (Cert.Pre_finite_up_norm.fn (F := Ideal) (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5))).2.1 = (fun _ => 1#1)
    ∧ (Cert.Pre_finite_up_norm.fn (F := Ideal) (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5))).2.2.1 = (fun _ => 1#1)
    ∧ (Cert.Pre_finite_up_norm.fn (F := Ideal) (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5))).2.2.2.1 = (fun _ => 1#1)
    ∧ (Cert.Pre_finite_up_norm.fn (F := Ideal) (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5))).2.2.2.2.1 = (fun _ => 1#1)
    ∧ (Cert.Pre_finite_up_norm.fn (F := Ideal) (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5))).2.2.2.2.2 = (fun _ => 1#1)

def Pre_ReferenceUpNormIdeal (m : (ℓ : Loc Cert.ReferenceUpNormIdeal.nD Cert.ReferenceUpNormIdeal.τ Cert.ReferenceUpNormIdeal.sig) → Buf (Elt Ideal) ℓ) : Prop :=
  True

def Pre_ReferenceUpNormIdeal_finite_up_norm [hPre_finite_up_norm : Cert.Pre_finite_up_norm.Facts] (m : (ℓ : Loc Cert.ReferenceUpNormIdeal.nD Cert.ReferenceUpNormIdeal.τ Cert.ReferenceUpNormIdeal.sig) → Buf (Elt Ideal) ℓ) : Prop :=
  ∀ c : Dev Cert.ReferenceUpNormIdeal.nD,
    (Cert.Pre_finite_up_norm.fn (F := Ideal) (m ((c.tc : Thread Cert.ReferenceUpNormIdeal.nD Cert.ReferenceUpNormIdeal.τ).loc Cert.ReferenceUpNormIdeal.main_arg0)) (m ((c.tc : Thread Cert.ReferenceUpNormIdeal.nD Cert.ReferenceUpNormIdeal.τ).loc Cert.ReferenceUpNormIdeal.main_arg1)) (m ((c.tc : Thread Cert.ReferenceUpNormIdeal.nD Cert.ReferenceUpNormIdeal.τ).loc Cert.ReferenceUpNormIdeal.main_arg2)) (m ((c.tc : Thread Cert.ReferenceUpNormIdeal.nD Cert.ReferenceUpNormIdeal.τ).loc Cert.ReferenceUpNormIdeal.main_arg3)) (m ((c.tc : Thread Cert.ReferenceUpNormIdeal.nD Cert.ReferenceUpNormIdeal.τ).loc Cert.ReferenceUpNormIdeal.main_arg4)) (m ((c.tc : Thread Cert.ReferenceUpNormIdeal.nD Cert.ReferenceUpNormIdeal.τ).loc Cert.ReferenceUpNormIdeal.main_arg5))).1 = (fun _ => 1#1)
    ∧ (Cert.Pre_finite_up_norm.fn (F := Ideal) (m ((c.tc : Thread Cert.ReferenceUpNormIdeal.nD Cert.ReferenceUpNormIdeal.τ).loc Cert.ReferenceUpNormIdeal.main_arg0)) (m ((c.tc : Thread Cert.ReferenceUpNormIdeal.nD Cert.ReferenceUpNormIdeal.τ).loc Cert.ReferenceUpNormIdeal.main_arg1)) (m ((c.tc : Thread Cert.ReferenceUpNormIdeal.nD Cert.ReferenceUpNormIdeal.τ).loc Cert.ReferenceUpNormIdeal.main_arg2)) (m ((c.tc : Thread Cert.ReferenceUpNormIdeal.nD Cert.ReferenceUpNormIdeal.τ).loc Cert.ReferenceUpNormIdeal.main_arg3)) (m ((c.tc : Thread Cert.ReferenceUpNormIdeal.nD Cert.ReferenceUpNormIdeal.τ).loc Cert.ReferenceUpNormIdeal.main_arg4)) (m ((c.tc : Thread Cert.ReferenceUpNormIdeal.nD Cert.ReferenceUpNormIdeal.τ).loc Cert.ReferenceUpNormIdeal.main_arg5))).2.1 = (fun _ => 1#1)
    ∧ (Cert.Pre_finite_up_norm.fn (F := Ideal) (m ((c.tc : Thread Cert.ReferenceUpNormIdeal.nD Cert.ReferenceUpNormIdeal.τ).loc Cert.ReferenceUpNormIdeal.main_arg0)) (m ((c.tc : Thread Cert.ReferenceUpNormIdeal.nD Cert.ReferenceUpNormIdeal.τ).loc Cert.ReferenceUpNormIdeal.main_arg1)) (m ((c.tc : Thread Cert.ReferenceUpNormIdeal.nD Cert.ReferenceUpNormIdeal.τ).loc Cert.ReferenceUpNormIdeal.main_arg2)) (m ((c.tc : Thread Cert.ReferenceUpNormIdeal.nD Cert.ReferenceUpNormIdeal.τ).loc Cert.ReferenceUpNormIdeal.main_arg3)) (m ((c.tc : Thread Cert.ReferenceUpNormIdeal.nD Cert.ReferenceUpNormIdeal.τ).loc Cert.ReferenceUpNormIdeal.main_arg4)) (m ((c.tc : Thread Cert.ReferenceUpNormIdeal.nD Cert.ReferenceUpNormIdeal.τ).loc Cert.ReferenceUpNormIdeal.main_arg5))).2.2.1 = (fun _ => 1#1)
    ∧ (Cert.Pre_finite_up_norm.fn (F := Ideal) (m ((c.tc : Thread Cert.ReferenceUpNormIdeal.nD Cert.ReferenceUpNormIdeal.τ).loc Cert.ReferenceUpNormIdeal.main_arg0)) (m ((c.tc : Thread Cert.ReferenceUpNormIdeal.nD Cert.ReferenceUpNormIdeal.τ).loc Cert.ReferenceUpNormIdeal.main_arg1)) (m ((c.tc : Thread Cert.ReferenceUpNormIdeal.nD Cert.ReferenceUpNormIdeal.τ).loc Cert.ReferenceUpNormIdeal.main_arg2)) (m ((c.tc : Thread Cert.ReferenceUpNormIdeal.nD Cert.ReferenceUpNormIdeal.τ).loc Cert.ReferenceUpNormIdeal.main_arg3)) (m ((c.tc : Thread Cert.ReferenceUpNormIdeal.nD Cert.ReferenceUpNormIdeal.τ).loc Cert.ReferenceUpNormIdeal.main_arg4)) (m ((c.tc : Thread Cert.ReferenceUpNormIdeal.nD Cert.ReferenceUpNormIdeal.τ).loc Cert.ReferenceUpNormIdeal.main_arg5))).2.2.2.1 = (fun _ => 1#1)
    ∧ (Cert.Pre_finite_up_norm.fn (F := Ideal) (m ((c.tc : Thread Cert.ReferenceUpNormIdeal.nD Cert.ReferenceUpNormIdeal.τ).loc Cert.ReferenceUpNormIdeal.main_arg0)) (m ((c.tc : Thread Cert.ReferenceUpNormIdeal.nD Cert.ReferenceUpNormIdeal.τ).loc Cert.ReferenceUpNormIdeal.main_arg1)) (m ((c.tc : Thread Cert.ReferenceUpNormIdeal.nD Cert.ReferenceUpNormIdeal.τ).loc Cert.ReferenceUpNormIdeal.main_arg2)) (m ((c.tc : Thread Cert.ReferenceUpNormIdeal.nD Cert.ReferenceUpNormIdeal.τ).loc Cert.ReferenceUpNormIdeal.main_arg3)) (m ((c.tc : Thread Cert.ReferenceUpNormIdeal.nD Cert.ReferenceUpNormIdeal.τ).loc Cert.ReferenceUpNormIdeal.main_arg4)) (m ((c.tc : Thread Cert.ReferenceUpNormIdeal.nD Cert.ReferenceUpNormIdeal.τ).loc Cert.ReferenceUpNormIdeal.main_arg5))).2.2.2.2.1 = (fun _ => 1#1)
    ∧ (Cert.Pre_finite_up_norm.fn (F := Ideal) (m ((c.tc : Thread Cert.ReferenceUpNormIdeal.nD Cert.ReferenceUpNormIdeal.τ).loc Cert.ReferenceUpNormIdeal.main_arg0)) (m ((c.tc : Thread Cert.ReferenceUpNormIdeal.nD Cert.ReferenceUpNormIdeal.τ).loc Cert.ReferenceUpNormIdeal.main_arg1)) (m ((c.tc : Thread Cert.ReferenceUpNormIdeal.nD Cert.ReferenceUpNormIdeal.τ).loc Cert.ReferenceUpNormIdeal.main_arg2)) (m ((c.tc : Thread Cert.ReferenceUpNormIdeal.nD Cert.ReferenceUpNormIdeal.τ).loc Cert.ReferenceUpNormIdeal.main_arg3)) (m ((c.tc : Thread Cert.ReferenceUpNormIdeal.nD Cert.ReferenceUpNormIdeal.τ).loc Cert.ReferenceUpNormIdeal.main_arg4)) (m ((c.tc : Thread Cert.ReferenceUpNormIdeal.nD Cert.ReferenceUpNormIdeal.τ).loc Cert.ReferenceUpNormIdeal.main_arg5))).2.2.2.2.2 = (fun _ => 1#1)

def Pre_KernelInNorm (m : (ℓ : Loc Cert.KernelInNorm.nD Cert.KernelInNorm.τ Cert.KernelInNorm.sig) → Buf (Elt Bits) ℓ) : Prop :=
  True

def Pre_KernelInNormIdeal (m : (ℓ : Loc Cert.KernelInNormIdeal.nD Cert.KernelInNormIdeal.τ Cert.KernelInNormIdeal.sig) → Buf (Elt Ideal) ℓ) : Prop :=
  True

def Pre_KernelInNormIdeal_finite_in_norm [hPre_finite_in_norm : Cert.Pre_finite_in_norm.Facts] (m : (ℓ : Loc Cert.KernelInNormIdeal.nD Cert.KernelInNormIdeal.τ Cert.KernelInNormIdeal.sig) → Buf (Elt Ideal) ℓ) : Prop :=
  ∀ c : Dev Cert.KernelInNormIdeal.nD,
    (Cert.Pre_finite_in_norm.fn (F := Ideal) (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6))).1 = (fun _ => 1#1)
    ∧ (Cert.Pre_finite_in_norm.fn (F := Ideal) (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6))).2.1 = (fun _ => 1#1)
    ∧ (Cert.Pre_finite_in_norm.fn (F := Ideal) (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6))).2.2.1 = (fun _ => 1#1)
    ∧ (Cert.Pre_finite_in_norm.fn (F := Ideal) (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6))).2.2.2.1 = (fun _ => 1#1)
    ∧ (Cert.Pre_finite_in_norm.fn (F := Ideal) (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6))).2.2.2.2.1 = (fun _ => 1#1)
    ∧ (Cert.Pre_finite_in_norm.fn (F := Ideal) (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6))).2.2.2.2.2.1 = (fun _ => 1#1)
    ∧ (Cert.Pre_finite_in_norm.fn (F := Ideal) (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6))).2.2.2.2.2.2 = (fun _ => 1#1)

def Pre_ReferenceInNormIdeal (m : (ℓ : Loc Cert.ReferenceInNormIdeal.nD Cert.ReferenceInNormIdeal.τ Cert.ReferenceInNormIdeal.sig) → Buf (Elt Ideal) ℓ) : Prop :=
  True

def Pre_ReferenceInNormIdeal_finite_in_norm [hPre_finite_in_norm : Cert.Pre_finite_in_norm.Facts] (m : (ℓ : Loc Cert.ReferenceInNormIdeal.nD Cert.ReferenceInNormIdeal.τ Cert.ReferenceInNormIdeal.sig) → Buf (Elt Ideal) ℓ) : Prop :=
  ∀ c : Dev Cert.ReferenceInNormIdeal.nD,
    (Cert.Pre_finite_in_norm.fn (F := Ideal) (m ((c.tc : Thread Cert.ReferenceInNormIdeal.nD Cert.ReferenceInNormIdeal.τ).loc Cert.ReferenceInNormIdeal.main_arg0)) (m ((c.tc : Thread Cert.ReferenceInNormIdeal.nD Cert.ReferenceInNormIdeal.τ).loc Cert.ReferenceInNormIdeal.main_arg1)) (m ((c.tc : Thread Cert.ReferenceInNormIdeal.nD Cert.ReferenceInNormIdeal.τ).loc Cert.ReferenceInNormIdeal.main_arg2)) (m ((c.tc : Thread Cert.ReferenceInNormIdeal.nD Cert.ReferenceInNormIdeal.τ).loc Cert.ReferenceInNormIdeal.main_arg3)) (m ((c.tc : Thread Cert.ReferenceInNormIdeal.nD Cert.ReferenceInNormIdeal.τ).loc Cert.ReferenceInNormIdeal.main_arg4)) (m ((c.tc : Thread Cert.ReferenceInNormIdeal.nD Cert.ReferenceInNormIdeal.τ).loc Cert.ReferenceInNormIdeal.main_arg5)) (m ((c.tc : Thread Cert.ReferenceInNormIdeal.nD Cert.ReferenceInNormIdeal.τ).loc Cert.ReferenceInNormIdeal.main_arg6))).1 = (fun _ => 1#1)
    ∧ (Cert.Pre_finite_in_norm.fn (F := Ideal) (m ((c.tc : Thread Cert.ReferenceInNormIdeal.nD Cert.ReferenceInNormIdeal.τ).loc Cert.ReferenceInNormIdeal.main_arg0)) (m ((c.tc : Thread Cert.ReferenceInNormIdeal.nD Cert.ReferenceInNormIdeal.τ).loc Cert.ReferenceInNormIdeal.main_arg1)) (m ((c.tc : Thread Cert.ReferenceInNormIdeal.nD Cert.ReferenceInNormIdeal.τ).loc Cert.ReferenceInNormIdeal.main_arg2)) (m ((c.tc : Thread Cert.ReferenceInNormIdeal.nD Cert.ReferenceInNormIdeal.τ).loc Cert.ReferenceInNormIdeal.main_arg3)) (m ((c.tc : Thread Cert.ReferenceInNormIdeal.nD Cert.ReferenceInNormIdeal.τ).loc Cert.ReferenceInNormIdeal.main_arg4)) (m ((c.tc : Thread Cert.ReferenceInNormIdeal.nD Cert.ReferenceInNormIdeal.τ).loc Cert.ReferenceInNormIdeal.main_arg5)) (m ((c.tc : Thread Cert.ReferenceInNormIdeal.nD Cert.ReferenceInNormIdeal.τ).loc Cert.ReferenceInNormIdeal.main_arg6))).2.1 = (fun _ => 1#1)
    ∧ (Cert.Pre_finite_in_norm.fn (F := Ideal) (m ((c.tc : Thread Cert.ReferenceInNormIdeal.nD Cert.ReferenceInNormIdeal.τ).loc Cert.ReferenceInNormIdeal.main_arg0)) (m ((c.tc : Thread Cert.ReferenceInNormIdeal.nD Cert.ReferenceInNormIdeal.τ).loc Cert.ReferenceInNormIdeal.main_arg1)) (m ((c.tc : Thread Cert.ReferenceInNormIdeal.nD Cert.ReferenceInNormIdeal.τ).loc Cert.ReferenceInNormIdeal.main_arg2)) (m ((c.tc : Thread Cert.ReferenceInNormIdeal.nD Cert.ReferenceInNormIdeal.τ).loc Cert.ReferenceInNormIdeal.main_arg3)) (m ((c.tc : Thread Cert.ReferenceInNormIdeal.nD Cert.ReferenceInNormIdeal.τ).loc Cert.ReferenceInNormIdeal.main_arg4)) (m ((c.tc : Thread Cert.ReferenceInNormIdeal.nD Cert.ReferenceInNormIdeal.τ).loc Cert.ReferenceInNormIdeal.main_arg5)) (m ((c.tc : Thread Cert.ReferenceInNormIdeal.nD Cert.ReferenceInNormIdeal.τ).loc Cert.ReferenceInNormIdeal.main_arg6))).2.2.1 = (fun _ => 1#1)
    ∧ (Cert.Pre_finite_in_norm.fn (F := Ideal) (m ((c.tc : Thread Cert.ReferenceInNormIdeal.nD Cert.ReferenceInNormIdeal.τ).loc Cert.ReferenceInNormIdeal.main_arg0)) (m ((c.tc : Thread Cert.ReferenceInNormIdeal.nD Cert.ReferenceInNormIdeal.τ).loc Cert.ReferenceInNormIdeal.main_arg1)) (m ((c.tc : Thread Cert.ReferenceInNormIdeal.nD Cert.ReferenceInNormIdeal.τ).loc Cert.ReferenceInNormIdeal.main_arg2)) (m ((c.tc : Thread Cert.ReferenceInNormIdeal.nD Cert.ReferenceInNormIdeal.τ).loc Cert.ReferenceInNormIdeal.main_arg3)) (m ((c.tc : Thread Cert.ReferenceInNormIdeal.nD Cert.ReferenceInNormIdeal.τ).loc Cert.ReferenceInNormIdeal.main_arg4)) (m ((c.tc : Thread Cert.ReferenceInNormIdeal.nD Cert.ReferenceInNormIdeal.τ).loc Cert.ReferenceInNormIdeal.main_arg5)) (m ((c.tc : Thread Cert.ReferenceInNormIdeal.nD Cert.ReferenceInNormIdeal.τ).loc Cert.ReferenceInNormIdeal.main_arg6))).2.2.2.1 = (fun _ => 1#1)
    ∧ (Cert.Pre_finite_in_norm.fn (F := Ideal) (m ((c.tc : Thread Cert.ReferenceInNormIdeal.nD Cert.ReferenceInNormIdeal.τ).loc Cert.ReferenceInNormIdeal.main_arg0)) (m ((c.tc : Thread Cert.ReferenceInNormIdeal.nD Cert.ReferenceInNormIdeal.τ).loc Cert.ReferenceInNormIdeal.main_arg1)) (m ((c.tc : Thread Cert.ReferenceInNormIdeal.nD Cert.ReferenceInNormIdeal.τ).loc Cert.ReferenceInNormIdeal.main_arg2)) (m ((c.tc : Thread Cert.ReferenceInNormIdeal.nD Cert.ReferenceInNormIdeal.τ).loc Cert.ReferenceInNormIdeal.main_arg3)) (m ((c.tc : Thread Cert.ReferenceInNormIdeal.nD Cert.ReferenceInNormIdeal.τ).loc Cert.ReferenceInNormIdeal.main_arg4)) (m ((c.tc : Thread Cert.ReferenceInNormIdeal.nD Cert.ReferenceInNormIdeal.τ).loc Cert.ReferenceInNormIdeal.main_arg5)) (m ((c.tc : Thread Cert.ReferenceInNormIdeal.nD Cert.ReferenceInNormIdeal.τ).loc Cert.ReferenceInNormIdeal.main_arg6))).2.2.2.2.1 = (fun _ => 1#1)
    ∧ (Cert.Pre_finite_in_norm.fn (F := Ideal) (m ((c.tc : Thread Cert.ReferenceInNormIdeal.nD Cert.ReferenceInNormIdeal.τ).loc Cert.ReferenceInNormIdeal.main_arg0)) (m ((c.tc : Thread Cert.ReferenceInNormIdeal.nD Cert.ReferenceInNormIdeal.τ).loc Cert.ReferenceInNormIdeal.main_arg1)) (m ((c.tc : Thread Cert.ReferenceInNormIdeal.nD Cert.ReferenceInNormIdeal.τ).loc Cert.ReferenceInNormIdeal.main_arg2)) (m ((c.tc : Thread Cert.ReferenceInNormIdeal.nD Cert.ReferenceInNormIdeal.τ).loc Cert.ReferenceInNormIdeal.main_arg3)) (m ((c.tc : Thread Cert.ReferenceInNormIdeal.nD Cert.ReferenceInNormIdeal.τ).loc Cert.ReferenceInNormIdeal.main_arg4)) (m ((c.tc : Thread Cert.ReferenceInNormIdeal.nD Cert.ReferenceInNormIdeal.τ).loc Cert.ReferenceInNormIdeal.main_arg5)) (m ((c.tc : Thread Cert.ReferenceInNormIdeal.nD Cert.ReferenceInNormIdeal.τ).loc Cert.ReferenceInNormIdeal.main_arg6))).2.2.2.2.2.1 = (fun _ => 1#1)
    ∧ (Cert.Pre_finite_in_norm.fn (F := Ideal) (m ((c.tc : Thread Cert.ReferenceInNormIdeal.nD Cert.ReferenceInNormIdeal.τ).loc Cert.ReferenceInNormIdeal.main_arg0)) (m ((c.tc : Thread Cert.ReferenceInNormIdeal.nD Cert.ReferenceInNormIdeal.τ).loc Cert.ReferenceInNormIdeal.main_arg1)) (m ((c.tc : Thread Cert.ReferenceInNormIdeal.nD Cert.ReferenceInNormIdeal.τ).loc Cert.ReferenceInNormIdeal.main_arg2)) (m ((c.tc : Thread Cert.ReferenceInNormIdeal.nD Cert.ReferenceInNormIdeal.τ).loc Cert.ReferenceInNormIdeal.main_arg3)) (m ((c.tc : Thread Cert.ReferenceInNormIdeal.nD Cert.ReferenceInNormIdeal.τ).loc Cert.ReferenceInNormIdeal.main_arg4)) (m ((c.tc : Thread Cert.ReferenceInNormIdeal.nD Cert.ReferenceInNormIdeal.τ).loc Cert.ReferenceInNormIdeal.main_arg5)) (m ((c.tc : Thread Cert.ReferenceInNormIdeal.nD Cert.ReferenceInNormIdeal.τ).loc Cert.ReferenceInNormIdeal.main_arg6))).2.2.2.2.2.2 = (fun _ => 1#1)

def Pre_KernelLossNorm (m : (ℓ : Loc Cert.KernelLossNorm.nD Cert.KernelLossNorm.τ Cert.KernelLossNorm.sig) → Buf (Elt Bits) ℓ) : Prop :=
  True

def Pre_KernelLossNormIdeal (m : (ℓ : Loc Cert.KernelLossNormIdeal.nD Cert.KernelLossNormIdeal.τ Cert.KernelLossNormIdeal.sig) → Buf (Elt Ideal) ℓ) : Prop :=
  True

def Pre_KernelLossNormIdeal_finite_loss_norm [hPre_finite_loss_norm : Cert.Pre_finite_loss_norm.Facts] (m : (ℓ : Loc Cert.KernelLossNormIdeal.nD Cert.KernelLossNormIdeal.τ Cert.KernelLossNormIdeal.sig) → Buf (Elt Ideal) ℓ) : Prop :=
  ∀ c : Dev Cert.KernelLossNormIdeal.nD,
    (Cert.Pre_finite_loss_norm.fn (F := Ideal) (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3))).1 = (fun _ => 1#1)
    ∧ (Cert.Pre_finite_loss_norm.fn (F := Ideal) (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3))).2.1 = (fun _ => 1#1)
    ∧ (Cert.Pre_finite_loss_norm.fn (F := Ideal) (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3))).2.2.1 = (fun _ => 1#1)
    ∧ (Cert.Pre_finite_loss_norm.fn (F := Ideal) (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3))).2.2.2 = (fun _ => 1#1)

def Pre_ReferenceLossNormIdeal (m : (ℓ : Loc Cert.ReferenceLossNormIdeal.nD Cert.ReferenceLossNormIdeal.τ Cert.ReferenceLossNormIdeal.sig) → Buf (Elt Ideal) ℓ) : Prop :=
  True

def Pre_ReferenceLossNormIdeal_finite_loss_norm [hPre_finite_loss_norm : Cert.Pre_finite_loss_norm.Facts] (m : (ℓ : Loc Cert.ReferenceLossNormIdeal.nD Cert.ReferenceLossNormIdeal.τ Cert.ReferenceLossNormIdeal.sig) → Buf (Elt Ideal) ℓ) : Prop :=
  ∀ c : Dev Cert.ReferenceLossNormIdeal.nD,
    (Cert.Pre_finite_loss_norm.fn (F := Ideal) (m ((c.tc : Thread Cert.ReferenceLossNormIdeal.nD Cert.ReferenceLossNormIdeal.τ).loc Cert.ReferenceLossNormIdeal.main_arg0)) (m ((c.tc : Thread Cert.ReferenceLossNormIdeal.nD Cert.ReferenceLossNormIdeal.τ).loc Cert.ReferenceLossNormIdeal.main_arg1)) (m ((c.tc : Thread Cert.ReferenceLossNormIdeal.nD Cert.ReferenceLossNormIdeal.τ).loc Cert.ReferenceLossNormIdeal.main_arg2)) (m ((c.tc : Thread Cert.ReferenceLossNormIdeal.nD Cert.ReferenceLossNormIdeal.τ).loc Cert.ReferenceLossNormIdeal.main_arg3))).1 = (fun _ => 1#1)
    ∧ (Cert.Pre_finite_loss_norm.fn (F := Ideal) (m ((c.tc : Thread Cert.ReferenceLossNormIdeal.nD Cert.ReferenceLossNormIdeal.τ).loc Cert.ReferenceLossNormIdeal.main_arg0)) (m ((c.tc : Thread Cert.ReferenceLossNormIdeal.nD Cert.ReferenceLossNormIdeal.τ).loc Cert.ReferenceLossNormIdeal.main_arg1)) (m ((c.tc : Thread Cert.ReferenceLossNormIdeal.nD Cert.ReferenceLossNormIdeal.τ).loc Cert.ReferenceLossNormIdeal.main_arg2)) (m ((c.tc : Thread Cert.ReferenceLossNormIdeal.nD Cert.ReferenceLossNormIdeal.τ).loc Cert.ReferenceLossNormIdeal.main_arg3))).2.1 = (fun _ => 1#1)
    ∧ (Cert.Pre_finite_loss_norm.fn (F := Ideal) (m ((c.tc : Thread Cert.ReferenceLossNormIdeal.nD Cert.ReferenceLossNormIdeal.τ).loc Cert.ReferenceLossNormIdeal.main_arg0)) (m ((c.tc : Thread Cert.ReferenceLossNormIdeal.nD Cert.ReferenceLossNormIdeal.τ).loc Cert.ReferenceLossNormIdeal.main_arg1)) (m ((c.tc : Thread Cert.ReferenceLossNormIdeal.nD Cert.ReferenceLossNormIdeal.τ).loc Cert.ReferenceLossNormIdeal.main_arg2)) (m ((c.tc : Thread Cert.ReferenceLossNormIdeal.nD Cert.ReferenceLossNormIdeal.τ).loc Cert.ReferenceLossNormIdeal.main_arg3))).2.2.1 = (fun _ => 1#1)
    ∧ (Cert.Pre_finite_loss_norm.fn (F := Ideal) (m ((c.tc : Thread Cert.ReferenceLossNormIdeal.nD Cert.ReferenceLossNormIdeal.τ).loc Cert.ReferenceLossNormIdeal.main_arg0)) (m ((c.tc : Thread Cert.ReferenceLossNormIdeal.nD Cert.ReferenceLossNormIdeal.τ).loc Cert.ReferenceLossNormIdeal.main_arg1)) (m ((c.tc : Thread Cert.ReferenceLossNormIdeal.nD Cert.ReferenceLossNormIdeal.τ).loc Cert.ReferenceLossNormIdeal.main_arg2)) (m ((c.tc : Thread Cert.ReferenceLossNormIdeal.nD Cert.ReferenceLossNormIdeal.τ).loc Cert.ReferenceLossNormIdeal.main_arg3))).2.2.2 = (fun _ => 1#1)

def Pre_KernelOutNorm (m : (ℓ : Loc Cert.KernelOutNorm.nD Cert.KernelOutNorm.τ Cert.KernelOutNorm.sig) → Buf (Elt Bits) ℓ) : Prop :=
  True

def Pre_KernelOutNormIdeal (m : (ℓ : Loc Cert.KernelOutNormIdeal.nD Cert.KernelOutNormIdeal.τ Cert.KernelOutNormIdeal.sig) → Buf (Elt Ideal) ℓ) : Prop :=
  True

def Pre_ReferenceOutNormIdeal (m : (ℓ : Loc Cert.ReferenceOutNormIdeal.nD Cert.ReferenceOutNormIdeal.τ Cert.ReferenceOutNormIdeal.sig) → Buf (Elt Ideal) ℓ) : Prop :=
  True

def Pre_KernelInProduct (m : (ℓ : Loc Cert.KernelInProduct.nD Cert.KernelInProduct.τ Cert.KernelInProduct.sig) → Buf (Elt Bits) ℓ) : Prop :=
  True

def Pre_KernelInProductIdeal (m : (ℓ : Loc Cert.KernelInProductIdeal.nD Cert.KernelInProductIdeal.τ Cert.KernelInProductIdeal.sig) → Buf (Elt Ideal) ℓ) : Prop :=
  True

def Pre_ReferenceInProductIdeal (m : (ℓ : Loc Cert.ReferenceInProductIdeal.nD Cert.ReferenceInProductIdeal.τ Cert.ReferenceInProductIdeal.sig) → Buf (Elt Ideal) ℓ) : Prop :=
  True

def Pre_KernelQueryProduct (m : (ℓ : Loc Cert.KernelQueryProduct.nD Cert.KernelQueryProduct.τ Cert.KernelQueryProduct.sig) → Buf (Elt Bits) ℓ) : Prop :=
  True

def Pre_KernelQueryProductIdeal (m : (ℓ : Loc Cert.KernelQueryProductIdeal.nD Cert.KernelQueryProductIdeal.τ Cert.KernelQueryProductIdeal.sig) → Buf (Elt Ideal) ℓ) : Prop :=
  True

def Pre_ReferenceQueryProductIdeal (m : (ℓ : Loc Cert.ReferenceQueryProductIdeal.nD Cert.ReferenceQueryProductIdeal.τ Cert.ReferenceQueryProductIdeal.sig) → Buf (Elt Ideal) ℓ) : Prop :=
  True

def Pre_KernelKvProduct (m : (ℓ : Loc Cert.KernelKvProduct.nD Cert.KernelKvProduct.τ Cert.KernelKvProduct.sig) → Buf (Elt Bits) ℓ) : Prop :=
  True

def Pre_KernelKvProductIdeal (m : (ℓ : Loc Cert.KernelKvProductIdeal.nD Cert.KernelKvProductIdeal.τ Cert.KernelKvProductIdeal.sig) → Buf (Elt Ideal) ℓ) : Prop :=
  True

def Pre_ReferenceKvProductIdeal (m : (ℓ : Loc Cert.ReferenceKvProductIdeal.nD Cert.ReferenceKvProductIdeal.τ Cert.ReferenceKvProductIdeal.sig) → Buf (Elt Ideal) ℓ) : Prop :=
  True

def Pre_KernelMemProduct (m : (ℓ : Loc Cert.KernelMemProduct.nD Cert.KernelMemProduct.τ Cert.KernelMemProduct.sig) → Buf (Elt Bits) ℓ) : Prop :=
  True

def Pre_KernelMemProductIdeal (m : (ℓ : Loc Cert.KernelMemProductIdeal.nD Cert.KernelMemProductIdeal.τ Cert.KernelMemProductIdeal.sig) → Buf (Elt Ideal) ℓ) : Prop :=
  True

def Pre_ReferenceMemProductIdeal (m : (ℓ : Loc Cert.ReferenceMemProductIdeal.nD Cert.ReferenceMemProductIdeal.τ Cert.ReferenceMemProductIdeal.sig) → Buf (Elt Ideal) ℓ) : Prop :=
  True

def Pre_KernelGateProduct (m : (ℓ : Loc Cert.KernelGateProduct.nD Cert.KernelGateProduct.τ Cert.KernelGateProduct.sig) → Buf (Elt Bits) ℓ) : Prop :=
  True

def Pre_KernelGateProductIdeal (m : (ℓ : Loc Cert.KernelGateProductIdeal.nD Cert.KernelGateProductIdeal.τ Cert.KernelGateProductIdeal.sig) → Buf (Elt Ideal) ℓ) : Prop :=
  True

def Pre_ReferenceGateProductIdeal (m : (ℓ : Loc Cert.ReferenceGateProductIdeal.nD Cert.ReferenceGateProductIdeal.τ Cert.ReferenceGateProductIdeal.sig) → Buf (Elt Ideal) ℓ) : Prop :=
  True

def Pre_KernelMemDw (m : (ℓ : Loc Cert.KernelMemDw.nD Cert.KernelMemDw.τ Cert.KernelMemDw.sig) → Buf (Elt Bits) ℓ) : Prop :=
  True

def Pre_KernelMemDwIdeal (m : (ℓ : Loc Cert.KernelMemDwIdeal.nD Cert.KernelMemDwIdeal.τ Cert.KernelMemDwIdeal.sig) → Buf (Elt Ideal) ℓ) : Prop :=
  True

def Pre_ReferenceMemDwIdeal (m : (ℓ : Loc Cert.ReferenceMemDwIdeal.nD Cert.ReferenceMemDwIdeal.τ Cert.ReferenceMemDwIdeal.sig) → Buf (Elt Ideal) ℓ) : Prop :=
  True

def Pre_KernelPoolDw (m : (ℓ : Loc Cert.KernelPoolDw.nD Cert.KernelPoolDw.τ Cert.KernelPoolDw.sig) → Buf (Elt Bits) ℓ) : Prop :=
  True

def Pre_KernelPoolDwIdeal (m : (ℓ : Loc Cert.KernelPoolDwIdeal.nD Cert.KernelPoolDwIdeal.τ Cert.KernelPoolDwIdeal.sig) → Buf (Elt Ideal) ℓ) : Prop :=
  True

def Pre_ReferencePoolDwIdeal (m : (ℓ : Loc Cert.ReferencePoolDwIdeal.nD Cert.ReferencePoolDwIdeal.τ Cert.ReferencePoolDwIdeal.sig) → Buf (Elt Ideal) ℓ) : Prop :=
  True

def Pre_KernelPoolMix (m : (ℓ : Loc Cert.KernelPoolMix.nD Cert.KernelPoolMix.τ Cert.KernelPoolMix.sig) → Buf (Elt Bits) ℓ) : Prop :=
  True

def Pre_KernelPoolMixIdeal (m : (ℓ : Loc Cert.KernelPoolMixIdeal.nD Cert.KernelPoolMixIdeal.τ Cert.KernelPoolMixIdeal.sig) → Buf (Elt Ideal) ℓ) : Prop :=
  True

def Pre_ReferencePoolMixIdeal (m : (ℓ : Loc Cert.ReferencePoolMixIdeal.nD Cert.ReferencePoolMixIdeal.τ Cert.ReferencePoolMixIdeal.sig) → Buf (Elt Ideal) ℓ) : Prop :=
  True

def Pre_KernelUpGate (m : (ℓ : Loc Cert.KernelUpGate.nD Cert.KernelUpGate.τ Cert.KernelUpGate.sig) → Buf (Elt Bits) ℓ) : Prop :=
  True

def Pre_KernelUpGateIdeal (m : (ℓ : Loc Cert.KernelUpGateIdeal.nD Cert.KernelUpGateIdeal.τ Cert.KernelUpGateIdeal.sig) → Buf (Elt Ideal) ℓ) : Prop :=
  True

def Pre_KernelUpGateIdeal_finite_up_gate [hPre_finite_up_gate : Cert.Pre_finite_up_gate.Facts] (m : (ℓ : Loc Cert.KernelUpGateIdeal.nD Cert.KernelUpGateIdeal.τ Cert.KernelUpGateIdeal.sig) → Buf (Elt Ideal) ℓ) : Prop :=
  ∀ c : Dev Cert.KernelUpGateIdeal.nD,
    (Cert.Pre_finite_up_gate.fn (F := Ideal) (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)) (m ((c.tc : Thread Cert.KernelUpGateIdeal.nD Cert.KernelUpGateIdeal.τ).loc Cert.KernelUpGateIdeal.main_arg2))).1 = (fun _ => 1#1)
    ∧ (Cert.Pre_finite_up_gate.fn (F := Ideal) (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)) (m ((c.tc : Thread Cert.KernelUpGateIdeal.nD Cert.KernelUpGateIdeal.τ).loc Cert.KernelUpGateIdeal.main_arg2))).2.1 = (fun _ => 1#1)
    ∧ (Cert.Pre_finite_up_gate.fn (F := Ideal) (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)) (m ((c.tc : Thread Cert.KernelUpGateIdeal.nD Cert.KernelUpGateIdeal.τ).loc Cert.KernelUpGateIdeal.main_arg2))).2.2 = (fun _ => 1#1)

def Pre_ReferenceUpGateIdeal (m : (ℓ : Loc Cert.ReferenceUpGateIdeal.nD Cert.ReferenceUpGateIdeal.τ Cert.ReferenceUpGateIdeal.sig) → Buf (Elt Ideal) ℓ) : Prop :=
  True

def Pre_ReferenceUpGateIdeal_finite_up_gate [hPre_finite_up_gate : Cert.Pre_finite_up_gate.Facts] (m : (ℓ : Loc Cert.ReferenceUpGateIdeal.nD Cert.ReferenceUpGateIdeal.τ Cert.ReferenceUpGateIdeal.sig) → Buf (Elt Ideal) ℓ) : Prop :=
  ∀ c : Dev Cert.ReferenceUpGateIdeal.nD,
    (Cert.Pre_finite_up_gate.fn (F := Ideal) (m ((c.tc : Thread Cert.ReferenceUpGateIdeal.nD Cert.ReferenceUpGateIdeal.τ).loc Cert.ReferenceUpGateIdeal.main_arg0)) (m ((c.tc : Thread Cert.ReferenceUpGateIdeal.nD Cert.ReferenceUpGateIdeal.τ).loc Cert.ReferenceUpGateIdeal.main_arg1)) (m ((c.tc : Thread Cert.ReferenceUpGateIdeal.nD Cert.ReferenceUpGateIdeal.τ).loc Cert.ReferenceUpGateIdeal.main_arg2))).1 = (fun _ => 1#1)
    ∧ (Cert.Pre_finite_up_gate.fn (F := Ideal) (m ((c.tc : Thread Cert.ReferenceUpGateIdeal.nD Cert.ReferenceUpGateIdeal.τ).loc Cert.ReferenceUpGateIdeal.main_arg0)) (m ((c.tc : Thread Cert.ReferenceUpGateIdeal.nD Cert.ReferenceUpGateIdeal.τ).loc Cert.ReferenceUpGateIdeal.main_arg1)) (m ((c.tc : Thread Cert.ReferenceUpGateIdeal.nD Cert.ReferenceUpGateIdeal.τ).loc Cert.ReferenceUpGateIdeal.main_arg2))).2.1 = (fun _ => 1#1)
    ∧ (Cert.Pre_finite_up_gate.fn (F := Ideal) (m ((c.tc : Thread Cert.ReferenceUpGateIdeal.nD Cert.ReferenceUpGateIdeal.τ).loc Cert.ReferenceUpGateIdeal.main_arg0)) (m ((c.tc : Thread Cert.ReferenceUpGateIdeal.nD Cert.ReferenceUpGateIdeal.τ).loc Cert.ReferenceUpGateIdeal.main_arg1)) (m ((c.tc : Thread Cert.ReferenceUpGateIdeal.nD Cert.ReferenceUpGateIdeal.τ).loc Cert.ReferenceUpGateIdeal.main_arg2))).2.2 = (fun _ => 1#1)

def Pre_KernelDownNorm (m : (ℓ : Loc Cert.KernelDownNorm.nD Cert.KernelDownNorm.τ Cert.KernelDownNorm.sig) → Buf (Elt Bits) ℓ) : Prop :=
  True

def Pre_KernelDownNormIdeal (m : (ℓ : Loc Cert.KernelDownNormIdeal.nD Cert.KernelDownNormIdeal.τ Cert.KernelDownNormIdeal.sig) → Buf (Elt Ideal) ℓ) : Prop :=
  True

def Pre_ReferenceDownNormIdeal (m : (ℓ : Loc Cert.ReferenceDownNormIdeal.nD Cert.ReferenceDownNormIdeal.τ Cert.ReferenceDownNormIdeal.sig) → Buf (Elt Ideal) ℓ) : Prop :=
  True

def Pre_KernelSquareStep (m : (ℓ : Loc Cert.KernelSquareStep.nD Cert.KernelSquareStep.τ Cert.KernelSquareStep.sig) → Buf (Elt Bits) ℓ) : Prop :=
  True

def Pre_KernelSquareStepIdeal (m : (ℓ : Loc Cert.KernelSquareStepIdeal.nD Cert.KernelSquareStepIdeal.τ Cert.KernelSquareStepIdeal.sig) → Buf (Elt Ideal) ℓ) : Prop :=
  True

def Pre_ReferenceSquareStepIdeal (m : (ℓ : Loc Cert.ReferenceSquareStepIdeal.nD Cert.ReferenceSquareStepIdeal.τ Cert.ReferenceSquareStepIdeal.sig) → Buf (Elt Ideal) ℓ) : Prop :=
  True

def Pre_KernelKvStep (m : (ℓ : Loc Cert.KernelKvStep.nD Cert.KernelKvStep.τ Cert.KernelKvStep.sig) → Buf (Elt Bits) ℓ) : Prop :=
  True

def Pre_KernelKvStepIdeal (m : (ℓ : Loc Cert.KernelKvStepIdeal.nD Cert.KernelKvStepIdeal.τ Cert.KernelKvStepIdeal.sig) → Buf (Elt Ideal) ℓ) : Prop :=
  True

def Pre_ReferenceKvStepIdeal (m : (ℓ : Loc Cert.ReferenceKvStepIdeal.nD Cert.ReferenceKvStepIdeal.τ Cert.ReferenceKvStepIdeal.sig) → Buf (Elt Ideal) ℓ) : Prop :=
  True

def Pre_KernelMemStep (m : (ℓ : Loc Cert.KernelMemStep.nD Cert.KernelMemStep.τ Cert.KernelMemStep.sig) → Buf (Elt Bits) ℓ) : Prop :=
  True

def Pre_KernelMemStepIdeal (m : (ℓ : Loc Cert.KernelMemStepIdeal.nD Cert.KernelMemStepIdeal.τ Cert.KernelMemStepIdeal.sig) → Buf (Elt Ideal) ℓ) : Prop :=
  True

def Pre_ReferenceMemStepIdeal (m : (ℓ : Loc Cert.ReferenceMemStepIdeal.nD Cert.ReferenceMemStepIdeal.τ Cert.ReferenceMemStepIdeal.sig) → Buf (Elt Ideal) ℓ) : Prop :=
  True

def Pre_KernelUpStep (m : (ℓ : Loc Cert.KernelUpStep.nD Cert.KernelUpStep.τ Cert.KernelUpStep.sig) → Buf (Elt Bits) ℓ) : Prop :=
  True

def Pre_KernelUpStepIdeal (m : (ℓ : Loc Cert.KernelUpStepIdeal.nD Cert.KernelUpStepIdeal.τ Cert.KernelUpStepIdeal.sig) → Buf (Elt Ideal) ℓ) : Prop :=
  True

def Pre_ReferenceUpStepIdeal (m : (ℓ : Loc Cert.ReferenceUpStepIdeal.nD Cert.ReferenceUpStepIdeal.τ Cert.ReferenceUpStepIdeal.sig) → Buf (Elt Ideal) ℓ) : Prop :=
  True

def Pre_KernelDownStep (m : (ℓ : Loc Cert.KernelDownStep.nD Cert.KernelDownStep.τ Cert.KernelDownStep.sig) → Buf (Elt Bits) ℓ) : Prop :=
  True

def Pre_KernelDownStepIdeal (m : (ℓ : Loc Cert.KernelDownStepIdeal.nD Cert.KernelDownStepIdeal.τ Cert.KernelDownStepIdeal.sig) → Buf (Elt Ideal) ℓ) : Prop :=
  True

def Pre_ReferenceDownStepIdeal (m : (ℓ : Loc Cert.ReferenceDownStepIdeal.nD Cert.ReferenceDownStepIdeal.τ Cert.ReferenceDownStepIdeal.sig) → Buf (Elt Ideal) ℓ) : Prop :=
  True

def Pre_KernelSmallStep (m : (ℓ : Loc Cert.KernelSmallStep.nD Cert.KernelSmallStep.τ Cert.KernelSmallStep.sig) → Buf (Elt Bits) ℓ) : Prop :=
  True

def Pre_KernelSmallStepIdeal (m : (ℓ : Loc Cert.KernelSmallStepIdeal.nD Cert.KernelSmallStepIdeal.τ Cert.KernelSmallStepIdeal.sig) → Buf (Elt Ideal) ℓ) : Prop :=
  True

def Pre_ReferenceSmallStepIdeal (m : (ℓ : Loc Cert.ReferenceSmallStepIdeal.nD Cert.ReferenceSmallStepIdeal.τ Cert.ReferenceSmallStepIdeal.sig) → Buf (Elt Ideal) ℓ) : Prop :=
  True

def Pre_KernelSharedStep (m : (ℓ : Loc Cert.KernelSharedStep.nD Cert.KernelSharedStep.τ Cert.KernelSharedStep.sig) → Buf (Elt Bits) ℓ) : Prop :=
  True

def Pre_KernelSharedStepIdeal (m : (ℓ : Loc Cert.KernelSharedStepIdeal.nD Cert.KernelSharedStepIdeal.τ Cert.KernelSharedStepIdeal.sig) → Buf (Elt Ideal) ℓ) : Prop :=
  True

def Pre_ReferenceSharedStepIdeal (m : (ℓ : Loc Cert.ReferenceSharedStepIdeal.nD Cert.ReferenceSharedStepIdeal.τ Cert.ReferenceSharedStepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelSquareDw [hKernelSquareDw : Cert.KernelSquareDw.Facts] : Prop :=
  ∀ (m : (ℓ : Loc Cert.KernelSquareDw.nD Cert.KernelSquareDw.τ Cert.KernelSquareDw.sig) → Buf (Elt Bits) ℓ) (g : Dev Cert.KernelSquareDw.nD → PrngReg), Pre_KernelSquareDw m →
    θ_run (Cert.KernelSquareDw.defs (F := Bits)) (onTc (τ := Cert.KernelSquareDw.τ) (Cert.KernelSquareDw.main (F := Bits))) ⟨m, fun _ => 0, g⟩ (fun r => (∀ c : Dev Cert.KernelSquareDw.nD,
      r.2.mem ((c.tc : Thread Cert.KernelSquareDw.nD Cert.KernelSquareDw.τ).loc Cert.KernelSquareDw.main_arg0) = m ((c.tc : Thread Cert.KernelSquareDw.nD Cert.KernelSquareDw.τ).loc Cert.KernelSquareDw.main_arg0)
      ∧ r.2.mem ((c.tc : Thread Cert.KernelSquareDw.nD Cert.KernelSquareDw.τ).loc Cert.KernelSquareDw.main_arg1) = m ((c.tc : Thread Cert.KernelSquareDw.nD Cert.KernelSquareDw.τ).loc Cert.KernelSquareDw.main_arg1))
      ∧ r.2.sem = fun _ => 0)

def quiescent_KernelSquareDwIdeal [hKernelSquareDwIdeal : Cert.KernelSquareDwIdeal.Facts] : Prop :=
  ∀ (m : (ℓ : Loc Cert.KernelSquareDwIdeal.nD Cert.KernelSquareDwIdeal.τ Cert.KernelSquareDwIdeal.sig) → Buf (Elt Ideal) ℓ) (g : Dev Cert.KernelSquareDwIdeal.nD → PrngReg), Pre_KernelSquareDwIdeal m →
    θ_run (Cert.KernelSquareDwIdeal.defs (F := Ideal)) (onTc (τ := Cert.KernelSquareDwIdeal.τ) (Cert.KernelSquareDwIdeal.main (F := Ideal))) ⟨m, fun _ => 0, g⟩ (fun r => (∀ c : Dev Cert.KernelSquareDwIdeal.nD,
      r.2.mem ((c.tc : Thread Cert.KernelSquareDwIdeal.nD Cert.KernelSquareDwIdeal.τ).loc Cert.KernelSquareDwIdeal.main_arg0) = m ((c.tc : Thread Cert.KernelSquareDwIdeal.nD Cert.KernelSquareDwIdeal.τ).loc Cert.KernelSquareDwIdeal.main_arg0)
      ∧ r.2.mem ((c.tc : Thread Cert.KernelSquareDwIdeal.nD Cert.KernelSquareDwIdeal.τ).loc Cert.KernelSquareDwIdeal.main_arg1) = m ((c.tc : Thread Cert.KernelSquareDwIdeal.nD Cert.KernelSquareDwIdeal.τ).loc Cert.KernelSquareDwIdeal.main_arg1))
      ∧ r.2.sem = fun _ => 0)

def quiescent_ReferenceSquareDwIdeal [hReferenceSquareDwIdeal : Cert.ReferenceSquareDwIdeal.Facts] : Prop :=
  ∀ (m : (ℓ : Loc Cert.ReferenceSquareDwIdeal.nD Cert.ReferenceSquareDwIdeal.τ Cert.ReferenceSquareDwIdeal.sig) → Buf (Elt Ideal) ℓ) (g : Dev Cert.ReferenceSquareDwIdeal.nD → PrngReg), Pre_ReferenceSquareDwIdeal m →
    θ_run (Cert.ReferenceSquareDwIdeal.defs (F := Ideal)) (onTc (τ := Cert.ReferenceSquareDwIdeal.τ) (Cert.ReferenceSquareDwIdeal.main (F := Ideal))) ⟨m, fun _ => 0, g⟩ (fun r => (∀ c : Dev Cert.ReferenceSquareDwIdeal.nD,
      r.2.mem ((c.tc : Thread Cert.ReferenceSquareDwIdeal.nD Cert.ReferenceSquareDwIdeal.τ).loc Cert.ReferenceSquareDwIdeal.main_arg0) = m ((c.tc : Thread Cert.ReferenceSquareDwIdeal.nD Cert.ReferenceSquareDwIdeal.τ).loc Cert.ReferenceSquareDwIdeal.main_arg0)
      ∧ r.2.mem ((c.tc : Thread Cert.ReferenceSquareDwIdeal.nD Cert.ReferenceSquareDwIdeal.τ).loc Cert.ReferenceSquareDwIdeal.main_arg1) = m ((c.tc : Thread Cert.ReferenceSquareDwIdeal.nD Cert.ReferenceSquareDwIdeal.τ).loc Cert.ReferenceSquareDwIdeal.main_arg1))
      ∧ r.2.sem = fun _ => 0)

def quiescent_KernelKvDw [hKernelKvDw : Cert.KernelKvDw.Facts] : Prop :=
  ∀ (m : (ℓ : Loc Cert.KernelKvDw.nD Cert.KernelKvDw.τ Cert.KernelKvDw.sig) → Buf (Elt Bits) ℓ) (g : Dev Cert.KernelKvDw.nD → PrngReg), Pre_KernelKvDw m →
    θ_run (Cert.KernelKvDw.defs (F := Bits)) (onTc (τ := Cert.KernelKvDw.τ) (Cert.KernelKvDw.main (F := Bits))) ⟨m, fun _ => 0, g⟩ (fun r => (∀ c : Dev Cert.KernelKvDw.nD,
      r.2.mem ((c.tc : Thread Cert.KernelKvDw.nD Cert.KernelKvDw.τ).loc Cert.KernelKvDw.main_arg0) = m ((c.tc : Thread Cert.KernelKvDw.nD Cert.KernelKvDw.τ).loc Cert.KernelKvDw.main_arg0)
      ∧ r.2.mem ((c.tc : Thread Cert.KernelKvDw.nD Cert.KernelKvDw.τ).loc Cert.KernelKvDw.main_arg1) = m ((c.tc : Thread Cert.KernelKvDw.nD Cert.KernelKvDw.τ).loc Cert.KernelKvDw.main_arg1))
      ∧ r.2.sem = fun _ => 0)

def quiescent_KernelKvDwIdeal [hKernelKvDwIdeal : Cert.KernelKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg), Pre_KernelKvDwIdeal m →
    θ_run (Cert.KernelKvDwIdeal.defs (F := Ideal)) (onTc (τ := Cert.KernelKvDwIdeal.τ) (Cert.KernelKvDwIdeal.main (F := Ideal))) ⟨m, fun _ => 0, g⟩ (fun r => (∀ c : Dev Cert.KernelKvDwIdeal.nD,
      r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
      ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ r.2.sem = fun _ => 0)

def quiescent_ReferenceKvDwIdeal [hReferenceKvDwIdeal : Cert.ReferenceKvDwIdeal.Facts] : Prop :=
  ∀ (m : (ℓ : Loc Cert.ReferenceKvDwIdeal.nD Cert.ReferenceKvDwIdeal.τ Cert.ReferenceKvDwIdeal.sig) → Buf (Elt Ideal) ℓ) (g : Dev Cert.ReferenceKvDwIdeal.nD → PrngReg), Pre_ReferenceKvDwIdeal m →
    θ_run (Cert.ReferenceKvDwIdeal.defs (F := Ideal)) (onTc (τ := Cert.ReferenceKvDwIdeal.τ) (Cert.ReferenceKvDwIdeal.main (F := Ideal))) ⟨m, fun _ => 0, g⟩ (fun r => (∀ c : Dev Cert.ReferenceKvDwIdeal.nD,
      r.2.mem ((c.tc : Thread Cert.ReferenceKvDwIdeal.nD Cert.ReferenceKvDwIdeal.τ).loc Cert.ReferenceKvDwIdeal.main_arg0) = m ((c.tc : Thread Cert.ReferenceKvDwIdeal.nD Cert.ReferenceKvDwIdeal.τ).loc Cert.ReferenceKvDwIdeal.main_arg0)
      ∧ r.2.mem ((c.tc : Thread Cert.ReferenceKvDwIdeal.nD Cert.ReferenceKvDwIdeal.τ).loc Cert.ReferenceKvDwIdeal.main_arg1) = m ((c.tc : Thread Cert.ReferenceKvDwIdeal.nD Cert.ReferenceKvDwIdeal.τ).loc Cert.ReferenceKvDwIdeal.main_arg1))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1)
      ∧ r.2.mem ((c.tc : Thread Cert.KernelInDx.nD Cert.KernelInDx.τ).loc Cert.KernelInDx.main_arg2) = m ((c.tc : Thread Cert.KernelInDx.nD Cert.KernelInDx.τ).loc Cert.KernelInDx.main_arg2))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
      ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1)
      ∧ r.2.mem ((c.tc : Thread Cert.ReferenceInDxIdeal.nD Cert.ReferenceInDxIdeal.τ).loc Cert.ReferenceInDxIdeal.main_arg2) = m ((c.tc : Thread Cert.ReferenceInDxIdeal.nD Cert.ReferenceInDxIdeal.τ).loc Cert.ReferenceInDxIdeal.main_arg2))
      ∧ r.2.sem = fun _ => 0)

def quiescent_KernelUpNorm [hKernelUpNorm : Cert.KernelUpNorm.Facts] : Prop :=
  ∀ (m : (ℓ : Loc Cert.KernelUpNorm.nD Cert.KernelUpNorm.τ Cert.KernelUpNorm.sig) → Buf (Elt Bits) ℓ) (g : Dev Cert.KernelUpNorm.nD → PrngReg), Pre_KernelUpNorm m →
    θ_run (Cert.KernelUpNorm.defs (F := Bits)) (onTc (τ := Cert.KernelUpNorm.τ) (Cert.KernelUpNorm.main (F := Bits))) ⟨m, fun _ => 0, g⟩ (fun r => (∀ c : Dev Cert.KernelUpNorm.nD,
      r.2.mem ((c.tc : Thread Cert.KernelUpNorm.nD Cert.KernelUpNorm.τ).loc Cert.KernelUpNorm.main_arg0) = m ((c.tc : Thread Cert.KernelUpNorm.nD Cert.KernelUpNorm.τ).loc Cert.KernelUpNorm.main_arg0)
      ∧ r.2.mem ((c.tc : Thread Cert.KernelUpNorm.nD Cert.KernelUpNorm.τ).loc Cert.KernelUpNorm.main_arg1) = m ((c.tc : Thread Cert.KernelUpNorm.nD Cert.KernelUpNorm.τ).loc Cert.KernelUpNorm.main_arg1)
      ∧ r.2.mem ((c.tc : Thread Cert.KernelUpNorm.nD Cert.KernelUpNorm.τ).loc Cert.KernelUpNorm.main_arg2) = m ((c.tc : Thread Cert.KernelUpNorm.nD Cert.KernelUpNorm.τ).loc Cert.KernelUpNorm.main_arg2)
      ∧ r.2.mem ((c.tc : Thread Cert.KernelUpNorm.nD Cert.KernelUpNorm.τ).loc Cert.KernelUpNorm.main_arg3) = m ((c.tc : Thread Cert.KernelUpNorm.nD Cert.KernelUpNorm.τ).loc Cert.KernelUpNorm.main_arg3)
      ∧ r.2.mem ((c.tc : Thread Cert.KernelUpNorm.nD Cert.KernelUpNorm.τ).loc Cert.KernelUpNorm.main_arg4) = m ((c.tc : Thread Cert.KernelUpNorm.nD Cert.KernelUpNorm.τ).loc Cert.KernelUpNorm.main_arg4)
      ∧ r.2.mem ((c.tc : Thread Cert.KernelUpNorm.nD Cert.KernelUpNorm.τ).loc Cert.KernelUpNorm.main_arg5) = m ((c.tc : Thread Cert.KernelUpNorm.nD Cert.KernelUpNorm.τ).loc Cert.KernelUpNorm.main_arg5))
      ∧ r.2.sem = fun _ => 0)

def quiescent_KernelUpNormIdeal [hKernelUpNormIdeal : Cert.KernelUpNormIdeal.Facts] : Prop :=
  ∀ (m : (ℓ : Loc Cert.KernelUpNormIdeal.nD Cert.KernelUpNormIdeal.τ Cert.KernelUpNormIdeal.sig) → Buf (Elt Ideal) ℓ) (g : Dev Cert.KernelUpNormIdeal.nD → PrngReg), Pre_KernelUpNormIdeal m →
    θ_run (Cert.KernelUpNormIdeal.defs (F := Ideal)) (onTc (τ := Cert.KernelUpNormIdeal.τ) (Cert.KernelUpNormIdeal.main (F := Ideal))) ⟨m, fun _ => 0, g⟩ (fun r => (∀ c : Dev Cert.KernelUpNormIdeal.nD,
      r.2.mem ((c.tc : Thread Cert.KernelUpNormIdeal.nD Cert.KernelUpNormIdeal.τ).loc Cert.KernelUpNormIdeal.main_arg0) = m ((c.tc : Thread Cert.KernelUpNormIdeal.nD Cert.KernelUpNormIdeal.τ).loc Cert.KernelUpNormIdeal.main_arg0)
      ∧ r.2.mem ((c.tc : Thread Cert.KernelUpNormIdeal.nD Cert.KernelUpNormIdeal.τ).loc Cert.KernelUpNormIdeal.main_arg1) = m ((c.tc : Thread Cert.KernelUpNormIdeal.nD Cert.KernelUpNormIdeal.τ).loc Cert.KernelUpNormIdeal.main_arg1)
      ∧ r.2.mem ((c.tc : Thread Cert.KernelUpNormIdeal.nD Cert.KernelUpNormIdeal.τ).loc Cert.KernelUpNormIdeal.main_arg2) = m ((c.tc : Thread Cert.KernelUpNormIdeal.nD Cert.KernelUpNormIdeal.τ).loc Cert.KernelUpNormIdeal.main_arg2)
      ∧ r.2.mem ((c.tc : Thread Cert.KernelUpNormIdeal.nD Cert.KernelUpNormIdeal.τ).loc Cert.KernelUpNormIdeal.main_arg3) = m ((c.tc : Thread Cert.KernelUpNormIdeal.nD Cert.KernelUpNormIdeal.τ).loc Cert.KernelUpNormIdeal.main_arg3)
      ∧ r.2.mem ((c.tc : Thread Cert.KernelUpNormIdeal.nD Cert.KernelUpNormIdeal.τ).loc Cert.KernelUpNormIdeal.main_arg4) = m ((c.tc : Thread Cert.KernelUpNormIdeal.nD Cert.KernelUpNormIdeal.τ).loc Cert.KernelUpNormIdeal.main_arg4)
      ∧ r.2.mem ((c.tc : Thread Cert.KernelUpNormIdeal.nD Cert.KernelUpNormIdeal.τ).loc Cert.KernelUpNormIdeal.main_arg5) = m ((c.tc : Thread Cert.KernelUpNormIdeal.nD Cert.KernelUpNormIdeal.τ).loc Cert.KernelUpNormIdeal.main_arg5))
      ∧ r.2.sem = fun _ => 0)

def quiescent_KernelUpNormIdeal_pre_finite_up_norm [hKernelUpNormIdeal : Cert.KernelUpNormIdeal.Facts] [hPre_finite_up_norm : Cert.Pre_finite_up_norm.Facts] : Prop :=
  ∀ (m : (ℓ : Loc Cert.KernelUpNormIdeal.nD Cert.KernelUpNormIdeal.τ Cert.KernelUpNormIdeal.sig) → Buf (Elt Ideal) ℓ) (g : Dev Cert.KernelUpNormIdeal.nD → PrngReg), Pre_KernelUpNormIdeal_finite_up_norm m →
    θ_run (Cert.KernelUpNormIdeal.defs (F := Ideal)) (onTc (τ := Cert.KernelUpNormIdeal.τ) (Cert.KernelUpNormIdeal.main (F := Ideal))) ⟨m, fun _ => 0, g⟩ (fun r => (∀ c : Dev Cert.KernelUpNormIdeal.nD,
      r.2.mem ((c.tc : Thread Cert.KernelUpNormIdeal.nD Cert.KernelUpNormIdeal.τ).loc Cert.KernelUpNormIdeal.main_arg0) = m ((c.tc : Thread Cert.KernelUpNormIdeal.nD Cert.KernelUpNormIdeal.τ).loc Cert.KernelUpNormIdeal.main_arg0)
      ∧ r.2.mem ((c.tc : Thread Cert.KernelUpNormIdeal.nD Cert.KernelUpNormIdeal.τ).loc Cert.KernelUpNormIdeal.main_arg1) = m ((c.tc : Thread Cert.KernelUpNormIdeal.nD Cert.KernelUpNormIdeal.τ).loc Cert.KernelUpNormIdeal.main_arg1)
      ∧ r.2.mem ((c.tc : Thread Cert.KernelUpNormIdeal.nD Cert.KernelUpNormIdeal.τ).loc Cert.KernelUpNormIdeal.main_arg2) = m ((c.tc : Thread Cert.KernelUpNormIdeal.nD Cert.KernelUpNormIdeal.τ).loc Cert.KernelUpNormIdeal.main_arg2)
      ∧ r.2.mem ((c.tc : Thread Cert.KernelUpNormIdeal.nD Cert.KernelUpNormIdeal.τ).loc Cert.KernelUpNormIdeal.main_arg3) = m ((c.tc : Thread Cert.KernelUpNormIdeal.nD Cert.KernelUpNormIdeal.τ).loc Cert.KernelUpNormIdeal.main_arg3)
      ∧ r.2.mem ((c.tc : Thread Cert.KernelUpNormIdeal.nD Cert.KernelUpNormIdeal.τ).loc Cert.KernelUpNormIdeal.main_arg4) = m ((c.tc : Thread Cert.KernelUpNormIdeal.nD Cert.KernelUpNormIdeal.τ).loc Cert.KernelUpNormIdeal.main_arg4)
      ∧ r.2.mem ((c.tc : Thread Cert.KernelUpNormIdeal.nD Cert.KernelUpNormIdeal.τ).loc Cert.KernelUpNormIdeal.main_arg5) = m ((c.tc : Thread Cert.KernelUpNormIdeal.nD Cert.KernelUpNormIdeal.τ).loc Cert.KernelUpNormIdeal.main_arg5))
      ∧ r.2.sem = fun _ => 0)

def quiescent_ReferenceUpNormIdeal [hReferenceUpNormIdeal : Cert.ReferenceUpNormIdeal.Facts] : Prop :=
  ∀ (m : (ℓ : Loc Cert.ReferenceUpNormIdeal.nD Cert.ReferenceUpNormIdeal.τ Cert.ReferenceUpNormIdeal.sig) → Buf (Elt Ideal) ℓ) (g : Dev Cert.ReferenceUpNormIdeal.nD → PrngReg), Pre_ReferenceUpNormIdeal m →
    θ_run (Cert.ReferenceUpNormIdeal.defs (F := Ideal)) (onTc (τ := Cert.ReferenceUpNormIdeal.τ) (Cert.ReferenceUpNormIdeal.main (F := Ideal))) ⟨m, fun _ => 0, g⟩ (fun r => (∀ c : Dev Cert.ReferenceUpNormIdeal.nD,
      r.2.mem ((c.tc : Thread Cert.ReferenceUpNormIdeal.nD Cert.ReferenceUpNormIdeal.τ).loc Cert.ReferenceUpNormIdeal.main_arg0) = m ((c.tc : Thread Cert.ReferenceUpNormIdeal.nD Cert.ReferenceUpNormIdeal.τ).loc Cert.ReferenceUpNormIdeal.main_arg0)
      ∧ r.2.mem ((c.tc : Thread Cert.ReferenceUpNormIdeal.nD Cert.ReferenceUpNormIdeal.τ).loc Cert.ReferenceUpNormIdeal.main_arg1) = m ((c.tc : Thread Cert.ReferenceUpNormIdeal.nD Cert.ReferenceUpNormIdeal.τ).loc Cert.ReferenceUpNormIdeal.main_arg1)
      ∧ r.2.mem ((c.tc : Thread Cert.ReferenceUpNormIdeal.nD Cert.ReferenceUpNormIdeal.τ).loc Cert.ReferenceUpNormIdeal.main_arg2) = m ((c.tc : Thread Cert.ReferenceUpNormIdeal.nD Cert.ReferenceUpNormIdeal.τ).loc Cert.ReferenceUpNormIdeal.main_arg2)
      ∧ r.2.mem ((c.tc : Thread Cert.ReferenceUpNormIdeal.nD Cert.ReferenceUpNormIdeal.τ).loc Cert.ReferenceUpNormIdeal.main_arg3) = m ((c.tc : Thread Cert.ReferenceUpNormIdeal.nD Cert.ReferenceUpNormIdeal.τ).loc Cert.ReferenceUpNormIdeal.main_arg3)
      ∧ r.2.mem ((c.tc : Thread Cert.ReferenceUpNormIdeal.nD Cert.ReferenceUpNormIdeal.τ).loc Cert.ReferenceUpNormIdeal.main_arg4) = m ((c.tc : Thread Cert.ReferenceUpNormIdeal.nD Cert.ReferenceUpNormIdeal.τ).loc Cert.ReferenceUpNormIdeal.main_arg4)
      ∧ r.2.mem ((c.tc : Thread Cert.ReferenceUpNormIdeal.nD Cert.ReferenceUpNormIdeal.τ).loc Cert.ReferenceUpNormIdeal.main_arg5) = m ((c.tc : Thread Cert.ReferenceUpNormIdeal.nD Cert.ReferenceUpNormIdeal.τ).loc Cert.ReferenceUpNormIdeal.main_arg5))
      ∧ r.2.sem = fun _ => 0)

def quiescent_ReferenceUpNormIdeal_pre_finite_up_norm [hReferenceUpNormIdeal : Cert.ReferenceUpNormIdeal.Facts] [hPre_finite_up_norm : Cert.Pre_finite_up_norm.Facts] : Prop :=
  ∀ (m : (ℓ : Loc Cert.ReferenceUpNormIdeal.nD Cert.ReferenceUpNormIdeal.τ Cert.ReferenceUpNormIdeal.sig) → Buf (Elt Ideal) ℓ) (g : Dev Cert.ReferenceUpNormIdeal.nD → PrngReg), Pre_ReferenceUpNormIdeal_finite_up_norm m →
    θ_run (Cert.ReferenceUpNormIdeal.defs (F := Ideal)) (onTc (τ := Cert.ReferenceUpNormIdeal.τ) (Cert.ReferenceUpNormIdeal.main (F := Ideal))) ⟨m, fun _ => 0, g⟩ (fun r => (∀ c : Dev Cert.ReferenceUpNormIdeal.nD,
      r.2.mem ((c.tc : Thread Cert.ReferenceUpNormIdeal.nD Cert.ReferenceUpNormIdeal.τ).loc Cert.ReferenceUpNormIdeal.main_arg0) = m ((c.tc : Thread Cert.ReferenceUpNormIdeal.nD Cert.ReferenceUpNormIdeal.τ).loc Cert.ReferenceUpNormIdeal.main_arg0)
      ∧ r.2.mem ((c.tc : Thread Cert.ReferenceUpNormIdeal.nD Cert.ReferenceUpNormIdeal.τ).loc Cert.ReferenceUpNormIdeal.main_arg1) = m ((c.tc : Thread Cert.ReferenceUpNormIdeal.nD Cert.ReferenceUpNormIdeal.τ).loc Cert.ReferenceUpNormIdeal.main_arg1)
      ∧ r.2.mem ((c.tc : Thread Cert.ReferenceUpNormIdeal.nD Cert.ReferenceUpNormIdeal.τ).loc Cert.ReferenceUpNormIdeal.main_arg2) = m ((c.tc : Thread Cert.ReferenceUpNormIdeal.nD Cert.ReferenceUpNormIdeal.τ).loc Cert.ReferenceUpNormIdeal.main_arg2)
      ∧ r.2.mem ((c.tc : Thread Cert.ReferenceUpNormIdeal.nD Cert.ReferenceUpNormIdeal.τ).loc Cert.ReferenceUpNormIdeal.main_arg3) = m ((c.tc : Thread Cert.ReferenceUpNormIdeal.nD Cert.ReferenceUpNormIdeal.τ).loc Cert.ReferenceUpNormIdeal.main_arg3)
      ∧ r.2.mem ((c.tc : Thread Cert.ReferenceUpNormIdeal.nD Cert.ReferenceUpNormIdeal.τ).loc Cert.ReferenceUpNormIdeal.main_arg4) = m ((c.tc : Thread Cert.ReferenceUpNormIdeal.nD Cert.ReferenceUpNormIdeal.τ).loc Cert.ReferenceUpNormIdeal.main_arg4)
      ∧ r.2.mem ((c.tc : Thread Cert.ReferenceUpNormIdeal.nD Cert.ReferenceUpNormIdeal.τ).loc Cert.ReferenceUpNormIdeal.main_arg5) = m ((c.tc : Thread Cert.ReferenceUpNormIdeal.nD Cert.ReferenceUpNormIdeal.τ).loc Cert.ReferenceUpNormIdeal.main_arg5))
      ∧ r.2.sem = fun _ => 0)

def quiescent_KernelInNorm [hKernelInNorm : Cert.KernelInNorm.Facts] : Prop :=
  ∀ (m : (ℓ : Loc Cert.KernelInNorm.nD Cert.KernelInNorm.τ Cert.KernelInNorm.sig) → Buf (Elt Bits) ℓ) (g : Dev Cert.KernelInNorm.nD → PrngReg), Pre_KernelInNorm m →
    θ_run (Cert.KernelInNorm.defs (F := Bits)) (onTc (τ := Cert.KernelInNorm.τ) (Cert.KernelInNorm.main (F := Bits))) ⟨m, fun _ => 0, g⟩ (fun r => (∀ c : Dev Cert.KernelInNorm.nD,
      r.2.mem ((c.tc : Thread Cert.KernelInNorm.nD Cert.KernelInNorm.τ).loc Cert.KernelInNorm.main_arg0) = m ((c.tc : Thread Cert.KernelInNorm.nD Cert.KernelInNorm.τ).loc Cert.KernelInNorm.main_arg0)
      ∧ r.2.mem ((c.tc : Thread Cert.KernelInNorm.nD Cert.KernelInNorm.τ).loc Cert.KernelInNorm.main_arg1) = m ((c.tc : Thread Cert.KernelInNorm.nD Cert.KernelInNorm.τ).loc Cert.KernelInNorm.main_arg1)
      ∧ r.2.mem ((c.tc : Thread Cert.KernelInNorm.nD Cert.KernelInNorm.τ).loc Cert.KernelInNorm.main_arg2) = m ((c.tc : Thread Cert.KernelInNorm.nD Cert.KernelInNorm.τ).loc Cert.KernelInNorm.main_arg2)
      ∧ r.2.mem ((c.tc : Thread Cert.KernelInNorm.nD Cert.KernelInNorm.τ).loc Cert.KernelInNorm.main_arg3) = m ((c.tc : Thread Cert.KernelInNorm.nD Cert.KernelInNorm.τ).loc Cert.KernelInNorm.main_arg3)
      ∧ r.2.mem ((c.tc : Thread Cert.KernelInNorm.nD Cert.KernelInNorm.τ).loc Cert.KernelInNorm.main_arg4) = m ((c.tc : Thread Cert.KernelInNorm.nD Cert.KernelInNorm.τ).loc Cert.KernelInNorm.main_arg4)
      ∧ r.2.mem ((c.tc : Thread Cert.KernelInNorm.nD Cert.KernelInNorm.τ).loc Cert.KernelInNorm.main_arg5) = m ((c.tc : Thread Cert.KernelInNorm.nD Cert.KernelInNorm.τ).loc Cert.KernelInNorm.main_arg5)
      ∧ r.2.mem ((c.tc : Thread Cert.KernelInNorm.nD Cert.KernelInNorm.τ).loc Cert.KernelInNorm.main_arg6) = m ((c.tc : Thread Cert.KernelInNorm.nD Cert.KernelInNorm.τ).loc Cert.KernelInNorm.main_arg6))
      ∧ r.2.sem = fun _ => 0)

def quiescent_KernelInNormIdeal [hKernelInNormIdeal : Cert.KernelInNormIdeal.Facts] : Prop :=
  ∀ (m : (ℓ : Loc Cert.KernelInNormIdeal.nD Cert.KernelInNormIdeal.τ Cert.KernelInNormIdeal.sig) → Buf (Elt Ideal) ℓ) (g : Dev Cert.KernelInNormIdeal.nD → PrngReg), Pre_KernelInNormIdeal m →
    θ_run (Cert.KernelInNormIdeal.defs (F := Ideal)) (onTc (τ := Cert.KernelInNormIdeal.τ) (Cert.KernelInNormIdeal.main (F := Ideal))) ⟨m, fun _ => 0, g⟩ (fun r => (∀ c : Dev Cert.KernelInNormIdeal.nD,
      r.2.mem ((c.tc : Thread Cert.KernelInNormIdeal.nD Cert.KernelInNormIdeal.τ).loc Cert.KernelInNormIdeal.main_arg0) = m ((c.tc : Thread Cert.KernelInNormIdeal.nD Cert.KernelInNormIdeal.τ).loc Cert.KernelInNormIdeal.main_arg0)
      ∧ r.2.mem ((c.tc : Thread Cert.KernelInNormIdeal.nD Cert.KernelInNormIdeal.τ).loc Cert.KernelInNormIdeal.main_arg1) = m ((c.tc : Thread Cert.KernelInNormIdeal.nD Cert.KernelInNormIdeal.τ).loc Cert.KernelInNormIdeal.main_arg1)
      ∧ r.2.mem ((c.tc : Thread Cert.KernelInNormIdeal.nD Cert.KernelInNormIdeal.τ).loc Cert.KernelInNormIdeal.main_arg2) = m ((c.tc : Thread Cert.KernelInNormIdeal.nD Cert.KernelInNormIdeal.τ).loc Cert.KernelInNormIdeal.main_arg2)
      ∧ r.2.mem ((c.tc : Thread Cert.KernelInNormIdeal.nD Cert.KernelInNormIdeal.τ).loc Cert.KernelInNormIdeal.main_arg3) = m ((c.tc : Thread Cert.KernelInNormIdeal.nD Cert.KernelInNormIdeal.τ).loc Cert.KernelInNormIdeal.main_arg3)
      ∧ r.2.mem ((c.tc : Thread Cert.KernelInNormIdeal.nD Cert.KernelInNormIdeal.τ).loc Cert.KernelInNormIdeal.main_arg4) = m ((c.tc : Thread Cert.KernelInNormIdeal.nD Cert.KernelInNormIdeal.τ).loc Cert.KernelInNormIdeal.main_arg4)
      ∧ r.2.mem ((c.tc : Thread Cert.KernelInNormIdeal.nD Cert.KernelInNormIdeal.τ).loc Cert.KernelInNormIdeal.main_arg5) = m ((c.tc : Thread Cert.KernelInNormIdeal.nD Cert.KernelInNormIdeal.τ).loc Cert.KernelInNormIdeal.main_arg5)
      ∧ r.2.mem ((c.tc : Thread Cert.KernelInNormIdeal.nD Cert.KernelInNormIdeal.τ).loc Cert.KernelInNormIdeal.main_arg6) = m ((c.tc : Thread Cert.KernelInNormIdeal.nD Cert.KernelInNormIdeal.τ).loc Cert.KernelInNormIdeal.main_arg6))
      ∧ r.2.sem = fun _ => 0)

def quiescent_KernelInNormIdeal_pre_finite_in_norm [hKernelInNormIdeal : Cert.KernelInNormIdeal.Facts] [hPre_finite_in_norm : Cert.Pre_finite_in_norm.Facts] : Prop :=
  ∀ (m : (ℓ : Loc Cert.KernelInNormIdeal.nD Cert.KernelInNormIdeal.τ Cert.KernelInNormIdeal.sig) → Buf (Elt Ideal) ℓ) (g : Dev Cert.KernelInNormIdeal.nD → PrngReg), Pre_KernelInNormIdeal_finite_in_norm m →
    θ_run (Cert.KernelInNormIdeal.defs (F := Ideal)) (onTc (τ := Cert.KernelInNormIdeal.τ) (Cert.KernelInNormIdeal.main (F := Ideal))) ⟨m, fun _ => 0, g⟩ (fun r => (∀ c : Dev Cert.KernelInNormIdeal.nD,
      r.2.mem ((c.tc : Thread Cert.KernelInNormIdeal.nD Cert.KernelInNormIdeal.τ).loc Cert.KernelInNormIdeal.main_arg0) = m ((c.tc : Thread Cert.KernelInNormIdeal.nD Cert.KernelInNormIdeal.τ).loc Cert.KernelInNormIdeal.main_arg0)
      ∧ r.2.mem ((c.tc : Thread Cert.KernelInNormIdeal.nD Cert.KernelInNormIdeal.τ).loc Cert.KernelInNormIdeal.main_arg1) = m ((c.tc : Thread Cert.KernelInNormIdeal.nD Cert.KernelInNormIdeal.τ).loc Cert.KernelInNormIdeal.main_arg1)
      ∧ r.2.mem ((c.tc : Thread Cert.KernelInNormIdeal.nD Cert.KernelInNormIdeal.τ).loc Cert.KernelInNormIdeal.main_arg2) = m ((c.tc : Thread Cert.KernelInNormIdeal.nD Cert.KernelInNormIdeal.τ).loc Cert.KernelInNormIdeal.main_arg2)
      ∧ r.2.mem ((c.tc : Thread Cert.KernelInNormIdeal.nD Cert.KernelInNormIdeal.τ).loc Cert.KernelInNormIdeal.main_arg3) = m ((c.tc : Thread Cert.KernelInNormIdeal.nD Cert.KernelInNormIdeal.τ).loc Cert.KernelInNormIdeal.main_arg3)
      ∧ r.2.mem ((c.tc : Thread Cert.KernelInNormIdeal.nD Cert.KernelInNormIdeal.τ).loc Cert.KernelInNormIdeal.main_arg4) = m ((c.tc : Thread Cert.KernelInNormIdeal.nD Cert.KernelInNormIdeal.τ).loc Cert.KernelInNormIdeal.main_arg4)
      ∧ r.2.mem ((c.tc : Thread Cert.KernelInNormIdeal.nD Cert.KernelInNormIdeal.τ).loc Cert.KernelInNormIdeal.main_arg5) = m ((c.tc : Thread Cert.KernelInNormIdeal.nD Cert.KernelInNormIdeal.τ).loc Cert.KernelInNormIdeal.main_arg5)
      ∧ r.2.mem ((c.tc : Thread Cert.KernelInNormIdeal.nD Cert.KernelInNormIdeal.τ).loc Cert.KernelInNormIdeal.main_arg6) = m ((c.tc : Thread Cert.KernelInNormIdeal.nD Cert.KernelInNormIdeal.τ).loc Cert.KernelInNormIdeal.main_arg6))
      ∧ r.2.sem = fun _ => 0)

def quiescent_ReferenceInNormIdeal [hReferenceInNormIdeal : Cert.ReferenceInNormIdeal.Facts] : Prop :=
  ∀ (m : (ℓ : Loc Cert.ReferenceInNormIdeal.nD Cert.ReferenceInNormIdeal.τ Cert.ReferenceInNormIdeal.sig) → Buf (Elt Ideal) ℓ) (g : Dev Cert.ReferenceInNormIdeal.nD → PrngReg), Pre_ReferenceInNormIdeal m →
    θ_run (Cert.ReferenceInNormIdeal.defs (F := Ideal)) (onTc (τ := Cert.ReferenceInNormIdeal.τ) (Cert.ReferenceInNormIdeal.main (F := Ideal))) ⟨m, fun _ => 0, g⟩ (fun r => (∀ c : Dev Cert.ReferenceInNormIdeal.nD,
      r.2.mem ((c.tc : Thread Cert.ReferenceInNormIdeal.nD Cert.ReferenceInNormIdeal.τ).loc Cert.ReferenceInNormIdeal.main_arg0) = m ((c.tc : Thread Cert.ReferenceInNormIdeal.nD Cert.ReferenceInNormIdeal.τ).loc Cert.ReferenceInNormIdeal.main_arg0)
      ∧ r.2.mem ((c.tc : Thread Cert.ReferenceInNormIdeal.nD Cert.ReferenceInNormIdeal.τ).loc Cert.ReferenceInNormIdeal.main_arg1) = m ((c.tc : Thread Cert.ReferenceInNormIdeal.nD Cert.ReferenceInNormIdeal.τ).loc Cert.ReferenceInNormIdeal.main_arg1)
      ∧ r.2.mem ((c.tc : Thread Cert.ReferenceInNormIdeal.nD Cert.ReferenceInNormIdeal.τ).loc Cert.ReferenceInNormIdeal.main_arg2) = m ((c.tc : Thread Cert.ReferenceInNormIdeal.nD Cert.ReferenceInNormIdeal.τ).loc Cert.ReferenceInNormIdeal.main_arg2)
      ∧ r.2.mem ((c.tc : Thread Cert.ReferenceInNormIdeal.nD Cert.ReferenceInNormIdeal.τ).loc Cert.ReferenceInNormIdeal.main_arg3) = m ((c.tc : Thread Cert.ReferenceInNormIdeal.nD Cert.ReferenceInNormIdeal.τ).loc Cert.ReferenceInNormIdeal.main_arg3)
      ∧ r.2.mem ((c.tc : Thread Cert.ReferenceInNormIdeal.nD Cert.ReferenceInNormIdeal.τ).loc Cert.ReferenceInNormIdeal.main_arg4) = m ((c.tc : Thread Cert.ReferenceInNormIdeal.nD Cert.ReferenceInNormIdeal.τ).loc Cert.ReferenceInNormIdeal.main_arg4)
      ∧ r.2.mem ((c.tc : Thread Cert.ReferenceInNormIdeal.nD Cert.ReferenceInNormIdeal.τ).loc Cert.ReferenceInNormIdeal.main_arg5) = m ((c.tc : Thread Cert.ReferenceInNormIdeal.nD Cert.ReferenceInNormIdeal.τ).loc Cert.ReferenceInNormIdeal.main_arg5)
      ∧ r.2.mem ((c.tc : Thread Cert.ReferenceInNormIdeal.nD Cert.ReferenceInNormIdeal.τ).loc Cert.ReferenceInNormIdeal.main_arg6) = m ((c.tc : Thread Cert.ReferenceInNormIdeal.nD Cert.ReferenceInNormIdeal.τ).loc Cert.ReferenceInNormIdeal.main_arg6))
      ∧ r.2.sem = fun _ => 0)

def quiescent_ReferenceInNormIdeal_pre_finite_in_norm [hReferenceInNormIdeal : Cert.ReferenceInNormIdeal.Facts] [hPre_finite_in_norm : Cert.Pre_finite_in_norm.Facts] : Prop :=
  ∀ (m : (ℓ : Loc Cert.ReferenceInNormIdeal.nD Cert.ReferenceInNormIdeal.τ Cert.ReferenceInNormIdeal.sig) → Buf (Elt Ideal) ℓ) (g : Dev Cert.ReferenceInNormIdeal.nD → PrngReg), Pre_ReferenceInNormIdeal_finite_in_norm m →
    θ_run (Cert.ReferenceInNormIdeal.defs (F := Ideal)) (onTc (τ := Cert.ReferenceInNormIdeal.τ) (Cert.ReferenceInNormIdeal.main (F := Ideal))) ⟨m, fun _ => 0, g⟩ (fun r => (∀ c : Dev Cert.ReferenceInNormIdeal.nD,
      r.2.mem ((c.tc : Thread Cert.ReferenceInNormIdeal.nD Cert.ReferenceInNormIdeal.τ).loc Cert.ReferenceInNormIdeal.main_arg0) = m ((c.tc : Thread Cert.ReferenceInNormIdeal.nD Cert.ReferenceInNormIdeal.τ).loc Cert.ReferenceInNormIdeal.main_arg0)
      ∧ r.2.mem ((c.tc : Thread Cert.ReferenceInNormIdeal.nD Cert.ReferenceInNormIdeal.τ).loc Cert.ReferenceInNormIdeal.main_arg1) = m ((c.tc : Thread Cert.ReferenceInNormIdeal.nD Cert.ReferenceInNormIdeal.τ).loc Cert.ReferenceInNormIdeal.main_arg1)
      ∧ r.2.mem ((c.tc : Thread Cert.ReferenceInNormIdeal.nD Cert.ReferenceInNormIdeal.τ).loc Cert.ReferenceInNormIdeal.main_arg2) = m ((c.tc : Thread Cert.ReferenceInNormIdeal.nD Cert.ReferenceInNormIdeal.τ).loc Cert.ReferenceInNormIdeal.main_arg2)
      ∧ r.2.mem ((c.tc : Thread Cert.ReferenceInNormIdeal.nD Cert.ReferenceInNormIdeal.τ).loc Cert.ReferenceInNormIdeal.main_arg3) = m ((c.tc : Thread Cert.ReferenceInNormIdeal.nD Cert.ReferenceInNormIdeal.τ).loc Cert.ReferenceInNormIdeal.main_arg3)
      ∧ r.2.mem ((c.tc : Thread Cert.ReferenceInNormIdeal.nD Cert.ReferenceInNormIdeal.τ).loc Cert.ReferenceInNormIdeal.main_arg4) = m ((c.tc : Thread Cert.ReferenceInNormIdeal.nD Cert.ReferenceInNormIdeal.τ).loc Cert.ReferenceInNormIdeal.main_arg4)
      ∧ r.2.mem ((c.tc : Thread Cert.ReferenceInNormIdeal.nD Cert.ReferenceInNormIdeal.τ).loc Cert.ReferenceInNormIdeal.main_arg5) = m ((c.tc : Thread Cert.ReferenceInNormIdeal.nD Cert.ReferenceInNormIdeal.τ).loc Cert.ReferenceInNormIdeal.main_arg5)
      ∧ r.2.mem ((c.tc : Thread Cert.ReferenceInNormIdeal.nD Cert.ReferenceInNormIdeal.τ).loc Cert.ReferenceInNormIdeal.main_arg6) = m ((c.tc : Thread Cert.ReferenceInNormIdeal.nD Cert.ReferenceInNormIdeal.τ).loc Cert.ReferenceInNormIdeal.main_arg6))
      ∧ r.2.sem = fun _ => 0)

def quiescent_KernelLossNorm [hKernelLossNorm : Cert.KernelLossNorm.Facts] : Prop :=
  ∀ (m : (ℓ : Loc Cert.KernelLossNorm.nD Cert.KernelLossNorm.τ Cert.KernelLossNorm.sig) → Buf (Elt Bits) ℓ) (g : Dev Cert.KernelLossNorm.nD → PrngReg), Pre_KernelLossNorm m →
    θ_run (Cert.KernelLossNorm.defs (F := Bits)) (onTc (τ := Cert.KernelLossNorm.τ) (Cert.KernelLossNorm.main (F := Bits))) ⟨m, fun _ => 0, g⟩ (fun r => (∀ c : Dev Cert.KernelLossNorm.nD,
      r.2.mem ((c.tc : Thread Cert.KernelLossNorm.nD Cert.KernelLossNorm.τ).loc Cert.KernelLossNorm.main_arg0) = m ((c.tc : Thread Cert.KernelLossNorm.nD Cert.KernelLossNorm.τ).loc Cert.KernelLossNorm.main_arg0)
      ∧ r.2.mem ((c.tc : Thread Cert.KernelLossNorm.nD Cert.KernelLossNorm.τ).loc Cert.KernelLossNorm.main_arg1) = m ((c.tc : Thread Cert.KernelLossNorm.nD Cert.KernelLossNorm.τ).loc Cert.KernelLossNorm.main_arg1)
      ∧ r.2.mem ((c.tc : Thread Cert.KernelLossNorm.nD Cert.KernelLossNorm.τ).loc Cert.KernelLossNorm.main_arg2) = m ((c.tc : Thread Cert.KernelLossNorm.nD Cert.KernelLossNorm.τ).loc Cert.KernelLossNorm.main_arg2)
      ∧ r.2.mem ((c.tc : Thread Cert.KernelLossNorm.nD Cert.KernelLossNorm.τ).loc Cert.KernelLossNorm.main_arg3) = m ((c.tc : Thread Cert.KernelLossNorm.nD Cert.KernelLossNorm.τ).loc Cert.KernelLossNorm.main_arg3))
      ∧ r.2.sem = fun _ => 0)

def quiescent_KernelLossNormIdeal [hKernelLossNormIdeal : Cert.KernelLossNormIdeal.Facts] : Prop :=
  ∀ (m : (ℓ : Loc Cert.KernelLossNormIdeal.nD Cert.KernelLossNormIdeal.τ Cert.KernelLossNormIdeal.sig) → Buf (Elt Ideal) ℓ) (g : Dev Cert.KernelLossNormIdeal.nD → PrngReg), Pre_KernelLossNormIdeal m →
    θ_run (Cert.KernelLossNormIdeal.defs (F := Ideal)) (onTc (τ := Cert.KernelLossNormIdeal.τ) (Cert.KernelLossNormIdeal.main (F := Ideal))) ⟨m, fun _ => 0, g⟩ (fun r => (∀ c : Dev Cert.KernelLossNormIdeal.nD,
      r.2.mem ((c.tc : Thread Cert.KernelLossNormIdeal.nD Cert.KernelLossNormIdeal.τ).loc Cert.KernelLossNormIdeal.main_arg0) = m ((c.tc : Thread Cert.KernelLossNormIdeal.nD Cert.KernelLossNormIdeal.τ).loc Cert.KernelLossNormIdeal.main_arg0)
      ∧ r.2.mem ((c.tc : Thread Cert.KernelLossNormIdeal.nD Cert.KernelLossNormIdeal.τ).loc Cert.KernelLossNormIdeal.main_arg1) = m ((c.tc : Thread Cert.KernelLossNormIdeal.nD Cert.KernelLossNormIdeal.τ).loc Cert.KernelLossNormIdeal.main_arg1)
      ∧ r.2.mem ((c.tc : Thread Cert.KernelLossNormIdeal.nD Cert.KernelLossNormIdeal.τ).loc Cert.KernelLossNormIdeal.main_arg2) = m ((c.tc : Thread Cert.KernelLossNormIdeal.nD Cert.KernelLossNormIdeal.τ).loc Cert.KernelLossNormIdeal.main_arg2)
      ∧ r.2.mem ((c.tc : Thread Cert.KernelLossNormIdeal.nD Cert.KernelLossNormIdeal.τ).loc Cert.KernelLossNormIdeal.main_arg3) = m ((c.tc : Thread Cert.KernelLossNormIdeal.nD Cert.KernelLossNormIdeal.τ).loc Cert.KernelLossNormIdeal.main_arg3))
      ∧ r.2.sem = fun _ => 0)

def quiescent_KernelLossNormIdeal_pre_finite_loss_norm [hKernelLossNormIdeal : Cert.KernelLossNormIdeal.Facts] [hPre_finite_loss_norm : Cert.Pre_finite_loss_norm.Facts] : Prop :=
  ∀ (m : (ℓ : Loc Cert.KernelLossNormIdeal.nD Cert.KernelLossNormIdeal.τ Cert.KernelLossNormIdeal.sig) → Buf (Elt Ideal) ℓ) (g : Dev Cert.KernelLossNormIdeal.nD → PrngReg), Pre_KernelLossNormIdeal_finite_loss_norm m →
    θ_run (Cert.KernelLossNormIdeal.defs (F := Ideal)) (onTc (τ := Cert.KernelLossNormIdeal.τ) (Cert.KernelLossNormIdeal.main (F := Ideal))) ⟨m, fun _ => 0, g⟩ (fun r => (∀ c : Dev Cert.KernelLossNormIdeal.nD,
      r.2.mem ((c.tc : Thread Cert.KernelLossNormIdeal.nD Cert.KernelLossNormIdeal.τ).loc Cert.KernelLossNormIdeal.main_arg0) = m ((c.tc : Thread Cert.KernelLossNormIdeal.nD Cert.KernelLossNormIdeal.τ).loc Cert.KernelLossNormIdeal.main_arg0)
      ∧ r.2.mem ((c.tc : Thread Cert.KernelLossNormIdeal.nD Cert.KernelLossNormIdeal.τ).loc Cert.KernelLossNormIdeal.main_arg1) = m ((c.tc : Thread Cert.KernelLossNormIdeal.nD Cert.KernelLossNormIdeal.τ).loc Cert.KernelLossNormIdeal.main_arg1)
      ∧ r.2.mem ((c.tc : Thread Cert.KernelLossNormIdeal.nD Cert.KernelLossNormIdeal.τ).loc Cert.KernelLossNormIdeal.main_arg2) = m ((c.tc : Thread Cert.KernelLossNormIdeal.nD Cert.KernelLossNormIdeal.τ).loc Cert.KernelLossNormIdeal.main_arg2)
      ∧ r.2.mem ((c.tc : Thread Cert.KernelLossNormIdeal.nD Cert.KernelLossNormIdeal.τ).loc Cert.KernelLossNormIdeal.main_arg3) = m ((c.tc : Thread Cert.KernelLossNormIdeal.nD Cert.KernelLossNormIdeal.τ).loc Cert.KernelLossNormIdeal.main_arg3))
      ∧ r.2.sem = fun _ => 0)

def quiescent_ReferenceLossNormIdeal [hReferenceLossNormIdeal : Cert.ReferenceLossNormIdeal.Facts] : Prop :=
  ∀ (m : (ℓ : Loc Cert.ReferenceLossNormIdeal.nD Cert.ReferenceLossNormIdeal.τ Cert.ReferenceLossNormIdeal.sig) → Buf (Elt Ideal) ℓ) (g : Dev Cert.ReferenceLossNormIdeal.nD → PrngReg), Pre_ReferenceLossNormIdeal m →
    θ_run (Cert.ReferenceLossNormIdeal.defs (F := Ideal)) (onTc (τ := Cert.ReferenceLossNormIdeal.τ) (Cert.ReferenceLossNormIdeal.main (F := Ideal))) ⟨m, fun _ => 0, g⟩ (fun r => (∀ c : Dev Cert.ReferenceLossNormIdeal.nD,
      r.2.mem ((c.tc : Thread Cert.ReferenceLossNormIdeal.nD Cert.ReferenceLossNormIdeal.τ).loc Cert.ReferenceLossNormIdeal.main_arg0) = m ((c.tc : Thread Cert.ReferenceLossNormIdeal.nD Cert.ReferenceLossNormIdeal.τ).loc Cert.ReferenceLossNormIdeal.main_arg0)
      ∧ r.2.mem ((c.tc : Thread Cert.ReferenceLossNormIdeal.nD Cert.ReferenceLossNormIdeal.τ).loc Cert.ReferenceLossNormIdeal.main_arg1) = m ((c.tc : Thread Cert.ReferenceLossNormIdeal.nD Cert.ReferenceLossNormIdeal.τ).loc Cert.ReferenceLossNormIdeal.main_arg1)
      ∧ r.2.mem ((c.tc : Thread Cert.ReferenceLossNormIdeal.nD Cert.ReferenceLossNormIdeal.τ).loc Cert.ReferenceLossNormIdeal.main_arg2) = m ((c.tc : Thread Cert.ReferenceLossNormIdeal.nD Cert.ReferenceLossNormIdeal.τ).loc Cert.ReferenceLossNormIdeal.main_arg2)
      ∧ r.2.mem ((c.tc : Thread Cert.ReferenceLossNormIdeal.nD Cert.ReferenceLossNormIdeal.τ).loc Cert.ReferenceLossNormIdeal.main_arg3) = m ((c.tc : Thread Cert.ReferenceLossNormIdeal.nD Cert.ReferenceLossNormIdeal.τ).loc Cert.ReferenceLossNormIdeal.main_arg3))
      ∧ r.2.sem = fun _ => 0)

def quiescent_ReferenceLossNormIdeal_pre_finite_loss_norm [hReferenceLossNormIdeal : Cert.ReferenceLossNormIdeal.Facts] [hPre_finite_loss_norm : Cert.Pre_finite_loss_norm.Facts] : Prop :=
  ∀ (m : (ℓ : Loc Cert.ReferenceLossNormIdeal.nD Cert.ReferenceLossNormIdeal.τ Cert.ReferenceLossNormIdeal.sig) → Buf (Elt Ideal) ℓ) (g : Dev Cert.ReferenceLossNormIdeal.nD → PrngReg), Pre_ReferenceLossNormIdeal_finite_loss_norm m →
    θ_run (Cert.ReferenceLossNormIdeal.defs (F := Ideal)) (onTc (τ := Cert.ReferenceLossNormIdeal.τ) (Cert.ReferenceLossNormIdeal.main (F := Ideal))) ⟨m, fun _ => 0, g⟩ (fun r => (∀ c : Dev Cert.ReferenceLossNormIdeal.nD,
      r.2.mem ((c.tc : Thread Cert.ReferenceLossNormIdeal.nD Cert.ReferenceLossNormIdeal.τ).loc Cert.ReferenceLossNormIdeal.main_arg0) = m ((c.tc : Thread Cert.ReferenceLossNormIdeal.nD Cert.ReferenceLossNormIdeal.τ).loc Cert.ReferenceLossNormIdeal.main_arg0)
      ∧ r.2.mem ((c.tc : Thread Cert.ReferenceLossNormIdeal.nD Cert.ReferenceLossNormIdeal.τ).loc Cert.ReferenceLossNormIdeal.main_arg1) = m ((c.tc : Thread Cert.ReferenceLossNormIdeal.nD Cert.ReferenceLossNormIdeal.τ).loc Cert.ReferenceLossNormIdeal.main_arg1)
      ∧ r.2.mem ((c.tc : Thread Cert.ReferenceLossNormIdeal.nD Cert.ReferenceLossNormIdeal.τ).loc Cert.ReferenceLossNormIdeal.main_arg2) = m ((c.tc : Thread Cert.ReferenceLossNormIdeal.nD Cert.ReferenceLossNormIdeal.τ).loc Cert.ReferenceLossNormIdeal.main_arg2)
      ∧ r.2.mem ((c.tc : Thread Cert.ReferenceLossNormIdeal.nD Cert.ReferenceLossNormIdeal.τ).loc Cert.ReferenceLossNormIdeal.main_arg3) = m ((c.tc : Thread Cert.ReferenceLossNormIdeal.nD Cert.ReferenceLossNormIdeal.τ).loc Cert.ReferenceLossNormIdeal.main_arg3))
      ∧ r.2.sem = fun _ => 0)

def quiescent_KernelOutNorm [hKernelOutNorm : Cert.KernelOutNorm.Facts] : Prop :=
  ∀ (m : (ℓ : Loc Cert.KernelOutNorm.nD Cert.KernelOutNorm.τ Cert.KernelOutNorm.sig) → Buf (Elt Bits) ℓ) (g : Dev Cert.KernelOutNorm.nD → PrngReg), Pre_KernelOutNorm m →
    θ_run (Cert.KernelOutNorm.defs (F := Bits)) (onTc (τ := Cert.KernelOutNorm.τ) (Cert.KernelOutNorm.main (F := Bits))) ⟨m, fun _ => 0, g⟩ (fun r => (∀ c : Dev Cert.KernelOutNorm.nD,
      r.2.mem ((c.tc : Thread Cert.KernelOutNorm.nD Cert.KernelOutNorm.τ).loc Cert.KernelOutNorm.main_arg0) = m ((c.tc : Thread Cert.KernelOutNorm.nD Cert.KernelOutNorm.τ).loc Cert.KernelOutNorm.main_arg0)
      ∧ r.2.mem ((c.tc : Thread Cert.KernelOutNorm.nD Cert.KernelOutNorm.τ).loc Cert.KernelOutNorm.main_arg1) = m ((c.tc : Thread Cert.KernelOutNorm.nD Cert.KernelOutNorm.τ).loc Cert.KernelOutNorm.main_arg1)
      ∧ r.2.mem ((c.tc : Thread Cert.KernelOutNorm.nD Cert.KernelOutNorm.τ).loc Cert.KernelOutNorm.main_arg2) = m ((c.tc : Thread Cert.KernelOutNorm.nD Cert.KernelOutNorm.τ).loc Cert.KernelOutNorm.main_arg2)
      ∧ r.2.mem ((c.tc : Thread Cert.KernelOutNorm.nD Cert.KernelOutNorm.τ).loc Cert.KernelOutNorm.main_arg3) = m ((c.tc : Thread Cert.KernelOutNorm.nD Cert.KernelOutNorm.τ).loc Cert.KernelOutNorm.main_arg3)
      ∧ r.2.mem ((c.tc : Thread Cert.KernelOutNorm.nD Cert.KernelOutNorm.τ).loc Cert.KernelOutNorm.main_arg4) = m ((c.tc : Thread Cert.KernelOutNorm.nD Cert.KernelOutNorm.τ).loc Cert.KernelOutNorm.main_arg4))
      ∧ r.2.sem = fun _ => 0)

def quiescent_KernelOutNormIdeal [hKernelOutNormIdeal : Cert.KernelOutNormIdeal.Facts] : Prop :=
  ∀ (m : (ℓ : Loc Cert.KernelOutNormIdeal.nD Cert.KernelOutNormIdeal.τ Cert.KernelOutNormIdeal.sig) → Buf (Elt Ideal) ℓ) (g : Dev Cert.KernelOutNormIdeal.nD → PrngReg), Pre_KernelOutNormIdeal m →
    θ_run (Cert.KernelOutNormIdeal.defs (F := Ideal)) (onTc (τ := Cert.KernelOutNormIdeal.τ) (Cert.KernelOutNormIdeal.main (F := Ideal))) ⟨m, fun _ => 0, g⟩ (fun r => (∀ c : Dev Cert.KernelOutNormIdeal.nD,
      r.2.mem ((c.tc : Thread Cert.KernelOutNormIdeal.nD Cert.KernelOutNormIdeal.τ).loc Cert.KernelOutNormIdeal.main_arg0) = m ((c.tc : Thread Cert.KernelOutNormIdeal.nD Cert.KernelOutNormIdeal.τ).loc Cert.KernelOutNormIdeal.main_arg0)
      ∧ r.2.mem ((c.tc : Thread Cert.KernelOutNormIdeal.nD Cert.KernelOutNormIdeal.τ).loc Cert.KernelOutNormIdeal.main_arg1) = m ((c.tc : Thread Cert.KernelOutNormIdeal.nD Cert.KernelOutNormIdeal.τ).loc Cert.KernelOutNormIdeal.main_arg1)
      ∧ r.2.mem ((c.tc : Thread Cert.KernelOutNormIdeal.nD Cert.KernelOutNormIdeal.τ).loc Cert.KernelOutNormIdeal.main_arg2) = m ((c.tc : Thread Cert.KernelOutNormIdeal.nD Cert.KernelOutNormIdeal.τ).loc Cert.KernelOutNormIdeal.main_arg2)
      ∧ r.2.mem ((c.tc : Thread Cert.KernelOutNormIdeal.nD Cert.KernelOutNormIdeal.τ).loc Cert.KernelOutNormIdeal.main_arg3) = m ((c.tc : Thread Cert.KernelOutNormIdeal.nD Cert.KernelOutNormIdeal.τ).loc Cert.KernelOutNormIdeal.main_arg3)
      ∧ r.2.mem ((c.tc : Thread Cert.KernelOutNormIdeal.nD Cert.KernelOutNormIdeal.τ).loc Cert.KernelOutNormIdeal.main_arg4) = m ((c.tc : Thread Cert.KernelOutNormIdeal.nD Cert.KernelOutNormIdeal.τ).loc Cert.KernelOutNormIdeal.main_arg4))
      ∧ r.2.sem = fun _ => 0)

def quiescent_ReferenceOutNormIdeal [hReferenceOutNormIdeal : Cert.ReferenceOutNormIdeal.Facts] : Prop :=
  ∀ (m : (ℓ : Loc Cert.ReferenceOutNormIdeal.nD Cert.ReferenceOutNormIdeal.τ Cert.ReferenceOutNormIdeal.sig) → Buf (Elt Ideal) ℓ) (g : Dev Cert.ReferenceOutNormIdeal.nD → PrngReg), Pre_ReferenceOutNormIdeal m →
    θ_run (Cert.ReferenceOutNormIdeal.defs (F := Ideal)) (onTc (τ := Cert.ReferenceOutNormIdeal.τ) (Cert.ReferenceOutNormIdeal.main (F := Ideal))) ⟨m, fun _ => 0, g⟩ (fun r => (∀ c : Dev Cert.ReferenceOutNormIdeal.nD,
      r.2.mem ((c.tc : Thread Cert.ReferenceOutNormIdeal.nD Cert.ReferenceOutNormIdeal.τ).loc Cert.ReferenceOutNormIdeal.main_arg0) = m ((c.tc : Thread Cert.ReferenceOutNormIdeal.nD Cert.ReferenceOutNormIdeal.τ).loc Cert.ReferenceOutNormIdeal.main_arg0)
      ∧ r.2.mem ((c.tc : Thread Cert.ReferenceOutNormIdeal.nD Cert.ReferenceOutNormIdeal.τ).loc Cert.ReferenceOutNormIdeal.main_arg1) = m ((c.tc : Thread Cert.ReferenceOutNormIdeal.nD Cert.ReferenceOutNormIdeal.τ).loc Cert.ReferenceOutNormIdeal.main_arg1)
      ∧ r.2.mem ((c.tc : Thread Cert.ReferenceOutNormIdeal.nD Cert.ReferenceOutNormIdeal.τ).loc Cert.ReferenceOutNormIdeal.main_arg2) = m ((c.tc : Thread Cert.ReferenceOutNormIdeal.nD Cert.ReferenceOutNormIdeal.τ).loc Cert.ReferenceOutNormIdeal.main_arg2)
      ∧ r.2.mem ((c.tc : Thread Cert.ReferenceOutNormIdeal.nD Cert.ReferenceOutNormIdeal.τ).loc Cert.ReferenceOutNormIdeal.main_arg3) = m ((c.tc : Thread Cert.ReferenceOutNormIdeal.nD Cert.ReferenceOutNormIdeal.τ).loc Cert.ReferenceOutNormIdeal.main_arg3)
      ∧ r.2.mem ((c.tc : Thread Cert.ReferenceOutNormIdeal.nD Cert.ReferenceOutNormIdeal.τ).loc Cert.ReferenceOutNormIdeal.main_arg4) = m ((c.tc : Thread Cert.ReferenceOutNormIdeal.nD Cert.ReferenceOutNormIdeal.τ).loc Cert.ReferenceOutNormIdeal.main_arg4))
      ∧ r.2.sem = fun _ => 0)

def quiescent_KernelInProduct [hKernelInProduct : Cert.KernelInProduct.Facts] : Prop :=
  ∀ (m : (ℓ : Loc Cert.KernelInProduct.nD Cert.KernelInProduct.τ Cert.KernelInProduct.sig) → Buf (Elt Bits) ℓ) (g : Dev Cert.KernelInProduct.nD → PrngReg), Pre_KernelInProduct m →
    θ_run (Cert.KernelInProduct.defs (F := Bits)) (onTc (τ := Cert.KernelInProduct.τ) (Cert.KernelInProduct.main (F := Bits))) ⟨m, fun _ => 0, g⟩ (fun r => (∀ c : Dev Cert.KernelInProduct.nD,
      r.2.mem ((c.tc : Thread Cert.KernelInProduct.nD Cert.KernelInProduct.τ).loc Cert.KernelInProduct.main_arg0) = m ((c.tc : Thread Cert.KernelInProduct.nD Cert.KernelInProduct.τ).loc Cert.KernelInProduct.main_arg0)
      ∧ r.2.mem ((c.tc : Thread Cert.KernelInProduct.nD Cert.KernelInProduct.τ).loc Cert.KernelInProduct.main_arg1) = m ((c.tc : Thread Cert.KernelInProduct.nD Cert.KernelInProduct.τ).loc Cert.KernelInProduct.main_arg1))
      ∧ r.2.sem = fun _ => 0)

def quiescent_KernelInProductIdeal [hKernelInProductIdeal : Cert.KernelInProductIdeal.Facts] : Prop :=
  ∀ (m : (ℓ : Loc Cert.KernelInProductIdeal.nD Cert.KernelInProductIdeal.τ Cert.KernelInProductIdeal.sig) → Buf (Elt Ideal) ℓ) (g : Dev Cert.KernelInProductIdeal.nD → PrngReg), Pre_KernelInProductIdeal m →
    θ_run (Cert.KernelInProductIdeal.defs (F := Ideal)) (onTc (τ := Cert.KernelInProductIdeal.τ) (Cert.KernelInProductIdeal.main (F := Ideal))) ⟨m, fun _ => 0, g⟩ (fun r => (∀ c : Dev Cert.KernelInProductIdeal.nD,
      r.2.mem ((c.tc : Thread Cert.KernelInProductIdeal.nD Cert.KernelInProductIdeal.τ).loc Cert.KernelInProductIdeal.main_arg0) = m ((c.tc : Thread Cert.KernelInProductIdeal.nD Cert.KernelInProductIdeal.τ).loc Cert.KernelInProductIdeal.main_arg0)
      ∧ r.2.mem ((c.tc : Thread Cert.KernelInProductIdeal.nD Cert.KernelInProductIdeal.τ).loc Cert.KernelInProductIdeal.main_arg1) = m ((c.tc : Thread Cert.KernelInProductIdeal.nD Cert.KernelInProductIdeal.τ).loc Cert.KernelInProductIdeal.main_arg1))
      ∧ r.2.sem = fun _ => 0)

def quiescent_ReferenceInProductIdeal [hReferenceInProductIdeal : Cert.ReferenceInProductIdeal.Facts] : Prop :=
  ∀ (m : (ℓ : Loc Cert.ReferenceInProductIdeal.nD Cert.ReferenceInProductIdeal.τ Cert.ReferenceInProductIdeal.sig) → Buf (Elt Ideal) ℓ) (g : Dev Cert.ReferenceInProductIdeal.nD → PrngReg), Pre_ReferenceInProductIdeal m →
    θ_run (Cert.ReferenceInProductIdeal.defs (F := Ideal)) (onTc (τ := Cert.ReferenceInProductIdeal.τ) (Cert.ReferenceInProductIdeal.main (F := Ideal))) ⟨m, fun _ => 0, g⟩ (fun r => (∀ c : Dev Cert.ReferenceInProductIdeal.nD,
      r.2.mem ((c.tc : Thread Cert.ReferenceInProductIdeal.nD Cert.ReferenceInProductIdeal.τ).loc Cert.ReferenceInProductIdeal.main_arg0) = m ((c.tc : Thread Cert.ReferenceInProductIdeal.nD Cert.ReferenceInProductIdeal.τ).loc Cert.ReferenceInProductIdeal.main_arg0)
      ∧ r.2.mem ((c.tc : Thread Cert.ReferenceInProductIdeal.nD Cert.ReferenceInProductIdeal.τ).loc Cert.ReferenceInProductIdeal.main_arg1) = m ((c.tc : Thread Cert.ReferenceInProductIdeal.nD Cert.ReferenceInProductIdeal.τ).loc Cert.ReferenceInProductIdeal.main_arg1))
      ∧ r.2.sem = fun _ => 0)

def quiescent_KernelQueryProduct [hKernelQueryProduct : Cert.KernelQueryProduct.Facts] : Prop :=
  ∀ (m : (ℓ : Loc Cert.KernelQueryProduct.nD Cert.KernelQueryProduct.τ Cert.KernelQueryProduct.sig) → Buf (Elt Bits) ℓ) (g : Dev Cert.KernelQueryProduct.nD → PrngReg), Pre_KernelQueryProduct m →
    θ_run (Cert.KernelQueryProduct.defs (F := Bits)) (onTc (τ := Cert.KernelQueryProduct.τ) (Cert.KernelQueryProduct.main (F := Bits))) ⟨m, fun _ => 0, g⟩ (fun r => (∀ c : Dev Cert.KernelQueryProduct.nD,
      r.2.mem ((c.tc : Thread Cert.KernelQueryProduct.nD Cert.KernelQueryProduct.τ).loc Cert.KernelQueryProduct.main_arg0) = m ((c.tc : Thread Cert.KernelQueryProduct.nD Cert.KernelQueryProduct.τ).loc Cert.KernelQueryProduct.main_arg0)
      ∧ r.2.mem ((c.tc : Thread Cert.KernelQueryProduct.nD Cert.KernelQueryProduct.τ).loc Cert.KernelQueryProduct.main_arg1) = m ((c.tc : Thread Cert.KernelQueryProduct.nD Cert.KernelQueryProduct.τ).loc Cert.KernelQueryProduct.main_arg1))
      ∧ r.2.sem = fun _ => 0)

def quiescent_KernelQueryProductIdeal [hKernelQueryProductIdeal : Cert.KernelQueryProductIdeal.Facts] : Prop :=
  ∀ (m : (ℓ : Loc Cert.KernelQueryProductIdeal.nD Cert.KernelQueryProductIdeal.τ Cert.KernelQueryProductIdeal.sig) → Buf (Elt Ideal) ℓ) (g : Dev Cert.KernelQueryProductIdeal.nD → PrngReg), Pre_KernelQueryProductIdeal m →
    θ_run (Cert.KernelQueryProductIdeal.defs (F := Ideal)) (onTc (τ := Cert.KernelQueryProductIdeal.τ) (Cert.KernelQueryProductIdeal.main (F := Ideal))) ⟨m, fun _ => 0, g⟩ (fun r => (∀ c : Dev Cert.KernelQueryProductIdeal.nD,
      r.2.mem ((c.tc : Thread Cert.KernelQueryProductIdeal.nD Cert.KernelQueryProductIdeal.τ).loc Cert.KernelQueryProductIdeal.main_arg0) = m ((c.tc : Thread Cert.KernelQueryProductIdeal.nD Cert.KernelQueryProductIdeal.τ).loc Cert.KernelQueryProductIdeal.main_arg0)
      ∧ r.2.mem ((c.tc : Thread Cert.KernelQueryProductIdeal.nD Cert.KernelQueryProductIdeal.τ).loc Cert.KernelQueryProductIdeal.main_arg1) = m ((c.tc : Thread Cert.KernelQueryProductIdeal.nD Cert.KernelQueryProductIdeal.τ).loc Cert.KernelQueryProductIdeal.main_arg1))
      ∧ r.2.sem = fun _ => 0)

def quiescent_ReferenceQueryProductIdeal [hReferenceQueryProductIdeal : Cert.ReferenceQueryProductIdeal.Facts] : Prop :=
  ∀ (m : (ℓ : Loc Cert.ReferenceQueryProductIdeal.nD Cert.ReferenceQueryProductIdeal.τ Cert.ReferenceQueryProductIdeal.sig) → Buf (Elt Ideal) ℓ) (g : Dev Cert.ReferenceQueryProductIdeal.nD → PrngReg), Pre_ReferenceQueryProductIdeal m →
    θ_run (Cert.ReferenceQueryProductIdeal.defs (F := Ideal)) (onTc (τ := Cert.ReferenceQueryProductIdeal.τ) (Cert.ReferenceQueryProductIdeal.main (F := Ideal))) ⟨m, fun _ => 0, g⟩ (fun r => (∀ c : Dev Cert.ReferenceQueryProductIdeal.nD,
      r.2.mem ((c.tc : Thread Cert.ReferenceQueryProductIdeal.nD Cert.ReferenceQueryProductIdeal.τ).loc Cert.ReferenceQueryProductIdeal.main_arg0) = m ((c.tc : Thread Cert.ReferenceQueryProductIdeal.nD Cert.ReferenceQueryProductIdeal.τ).loc Cert.ReferenceQueryProductIdeal.main_arg0)
      ∧ r.2.mem ((c.tc : Thread Cert.ReferenceQueryProductIdeal.nD Cert.ReferenceQueryProductIdeal.τ).loc Cert.ReferenceQueryProductIdeal.main_arg1) = m ((c.tc : Thread Cert.ReferenceQueryProductIdeal.nD Cert.ReferenceQueryProductIdeal.τ).loc Cert.ReferenceQueryProductIdeal.main_arg1))
      ∧ r.2.sem = fun _ => 0)

def quiescent_KernelKvProduct [hKernelKvProduct : Cert.KernelKvProduct.Facts] : Prop :=
  ∀ (m : (ℓ : Loc Cert.KernelKvProduct.nD Cert.KernelKvProduct.τ Cert.KernelKvProduct.sig) → Buf (Elt Bits) ℓ) (g : Dev Cert.KernelKvProduct.nD → PrngReg), Pre_KernelKvProduct m →
    θ_run (Cert.KernelKvProduct.defs (F := Bits)) (onTc (τ := Cert.KernelKvProduct.τ) (Cert.KernelKvProduct.main (F := Bits))) ⟨m, fun _ => 0, g⟩ (fun r => (∀ c : Dev Cert.KernelKvProduct.nD,
      r.2.mem ((c.tc : Thread Cert.KernelKvProduct.nD Cert.KernelKvProduct.τ).loc Cert.KernelKvProduct.main_arg0) = m ((c.tc : Thread Cert.KernelKvProduct.nD Cert.KernelKvProduct.τ).loc Cert.KernelKvProduct.main_arg0)
      ∧ r.2.mem ((c.tc : Thread Cert.KernelKvProduct.nD Cert.KernelKvProduct.τ).loc Cert.KernelKvProduct.main_arg1) = m ((c.tc : Thread Cert.KernelKvProduct.nD Cert.KernelKvProduct.τ).loc Cert.KernelKvProduct.main_arg1))
      ∧ r.2.sem = fun _ => 0)

def quiescent_KernelKvProductIdeal [hKernelKvProductIdeal : Cert.KernelKvProductIdeal.Facts] : Prop :=
  ∀ (m : (ℓ : Loc Cert.KernelKvProductIdeal.nD Cert.KernelKvProductIdeal.τ Cert.KernelKvProductIdeal.sig) → Buf (Elt Ideal) ℓ) (g : Dev Cert.KernelKvProductIdeal.nD → PrngReg), Pre_KernelKvProductIdeal m →
    θ_run (Cert.KernelKvProductIdeal.defs (F := Ideal)) (onTc (τ := Cert.KernelKvProductIdeal.τ) (Cert.KernelKvProductIdeal.main (F := Ideal))) ⟨m, fun _ => 0, g⟩ (fun r => (∀ c : Dev Cert.KernelKvProductIdeal.nD,
      r.2.mem ((c.tc : Thread Cert.KernelKvProductIdeal.nD Cert.KernelKvProductIdeal.τ).loc Cert.KernelKvProductIdeal.main_arg0) = m ((c.tc : Thread Cert.KernelKvProductIdeal.nD Cert.KernelKvProductIdeal.τ).loc Cert.KernelKvProductIdeal.main_arg0)
      ∧ r.2.mem ((c.tc : Thread Cert.KernelKvProductIdeal.nD Cert.KernelKvProductIdeal.τ).loc Cert.KernelKvProductIdeal.main_arg1) = m ((c.tc : Thread Cert.KernelKvProductIdeal.nD Cert.KernelKvProductIdeal.τ).loc Cert.KernelKvProductIdeal.main_arg1))
      ∧ r.2.sem = fun _ => 0)

def quiescent_ReferenceKvProductIdeal [hReferenceKvProductIdeal : Cert.ReferenceKvProductIdeal.Facts] : Prop :=
  ∀ (m : (ℓ : Loc Cert.ReferenceKvProductIdeal.nD Cert.ReferenceKvProductIdeal.τ Cert.ReferenceKvProductIdeal.sig) → Buf (Elt Ideal) ℓ) (g : Dev Cert.ReferenceKvProductIdeal.nD → PrngReg), Pre_ReferenceKvProductIdeal m →
    θ_run (Cert.ReferenceKvProductIdeal.defs (F := Ideal)) (onTc (τ := Cert.ReferenceKvProductIdeal.τ) (Cert.ReferenceKvProductIdeal.main (F := Ideal))) ⟨m, fun _ => 0, g⟩ (fun r => (∀ c : Dev Cert.ReferenceKvProductIdeal.nD,
      r.2.mem ((c.tc : Thread Cert.ReferenceKvProductIdeal.nD Cert.ReferenceKvProductIdeal.τ).loc Cert.ReferenceKvProductIdeal.main_arg0) = m ((c.tc : Thread Cert.ReferenceKvProductIdeal.nD Cert.ReferenceKvProductIdeal.τ).loc Cert.ReferenceKvProductIdeal.main_arg0)
      ∧ r.2.mem ((c.tc : Thread Cert.ReferenceKvProductIdeal.nD Cert.ReferenceKvProductIdeal.τ).loc Cert.ReferenceKvProductIdeal.main_arg1) = m ((c.tc : Thread Cert.ReferenceKvProductIdeal.nD Cert.ReferenceKvProductIdeal.τ).loc Cert.ReferenceKvProductIdeal.main_arg1))
      ∧ r.2.sem = fun _ => 0)

def quiescent_KernelMemProduct [hKernelMemProduct : Cert.KernelMemProduct.Facts] : Prop :=
  ∀ (m : (ℓ : Loc Cert.KernelMemProduct.nD Cert.KernelMemProduct.τ Cert.KernelMemProduct.sig) → Buf (Elt Bits) ℓ) (g : Dev Cert.KernelMemProduct.nD → PrngReg), Pre_KernelMemProduct m →
    θ_run (Cert.KernelMemProduct.defs (F := Bits)) (onTc (τ := Cert.KernelMemProduct.τ) (Cert.KernelMemProduct.main (F := Bits))) ⟨m, fun _ => 0, g⟩ (fun r => (∀ c : Dev Cert.KernelMemProduct.nD,
      r.2.mem ((c.tc : Thread Cert.KernelMemProduct.nD Cert.KernelMemProduct.τ).loc Cert.KernelMemProduct.main_arg0) = m ((c.tc : Thread Cert.KernelMemProduct.nD Cert.KernelMemProduct.τ).loc Cert.KernelMemProduct.main_arg0)
      ∧ r.2.mem ((c.tc : Thread Cert.KernelMemProduct.nD Cert.KernelMemProduct.τ).loc Cert.KernelMemProduct.main_arg1) = m ((c.tc : Thread Cert.KernelMemProduct.nD Cert.KernelMemProduct.τ).loc Cert.KernelMemProduct.main_arg1))
      ∧ r.2.sem = fun _ => 0)

def quiescent_KernelMemProductIdeal [hKernelMemProductIdeal : Cert.KernelMemProductIdeal.Facts] : Prop :=
  ∀ (m : (ℓ : Loc Cert.KernelMemProductIdeal.nD Cert.KernelMemProductIdeal.τ Cert.KernelMemProductIdeal.sig) → Buf (Elt Ideal) ℓ) (g : Dev Cert.KernelMemProductIdeal.nD → PrngReg), Pre_KernelMemProductIdeal m →
    θ_run (Cert.KernelMemProductIdeal.defs (F := Ideal)) (onTc (τ := Cert.KernelMemProductIdeal.τ) (Cert.KernelMemProductIdeal.main (F := Ideal))) ⟨m, fun _ => 0, g⟩ (fun r => (∀ c : Dev Cert.KernelMemProductIdeal.nD,
      r.2.mem ((c.tc : Thread Cert.KernelMemProductIdeal.nD Cert.KernelMemProductIdeal.τ).loc Cert.KernelMemProductIdeal.main_arg0) = m ((c.tc : Thread Cert.KernelMemProductIdeal.nD Cert.KernelMemProductIdeal.τ).loc Cert.KernelMemProductIdeal.main_arg0)
      ∧ r.2.mem ((c.tc : Thread Cert.KernelMemProductIdeal.nD Cert.KernelMemProductIdeal.τ).loc Cert.KernelMemProductIdeal.main_arg1) = m ((c.tc : Thread Cert.KernelMemProductIdeal.nD Cert.KernelMemProductIdeal.τ).loc Cert.KernelMemProductIdeal.main_arg1))
      ∧ r.2.sem = fun _ => 0)

def quiescent_ReferenceMemProductIdeal [hReferenceMemProductIdeal : Cert.ReferenceMemProductIdeal.Facts] : Prop :=
  ∀ (m : (ℓ : Loc Cert.ReferenceMemProductIdeal.nD Cert.ReferenceMemProductIdeal.τ Cert.ReferenceMemProductIdeal.sig) → Buf (Elt Ideal) ℓ) (g : Dev Cert.ReferenceMemProductIdeal.nD → PrngReg), Pre_ReferenceMemProductIdeal m →
    θ_run (Cert.ReferenceMemProductIdeal.defs (F := Ideal)) (onTc (τ := Cert.ReferenceMemProductIdeal.τ) (Cert.ReferenceMemProductIdeal.main (F := Ideal))) ⟨m, fun _ => 0, g⟩ (fun r => (∀ c : Dev Cert.ReferenceMemProductIdeal.nD,
      r.2.mem ((c.tc : Thread Cert.ReferenceMemProductIdeal.nD Cert.ReferenceMemProductIdeal.τ).loc Cert.ReferenceMemProductIdeal.main_arg0) = m ((c.tc : Thread Cert.ReferenceMemProductIdeal.nD Cert.ReferenceMemProductIdeal.τ).loc Cert.ReferenceMemProductIdeal.main_arg0)
      ∧ r.2.mem ((c.tc : Thread Cert.ReferenceMemProductIdeal.nD Cert.ReferenceMemProductIdeal.τ).loc Cert.ReferenceMemProductIdeal.main_arg1) = m ((c.tc : Thread Cert.ReferenceMemProductIdeal.nD Cert.ReferenceMemProductIdeal.τ).loc Cert.ReferenceMemProductIdeal.main_arg1))
      ∧ r.2.sem = fun _ => 0)

def quiescent_KernelGateProduct [hKernelGateProduct : Cert.KernelGateProduct.Facts] : Prop :=
  ∀ (m : (ℓ : Loc Cert.KernelGateProduct.nD Cert.KernelGateProduct.τ Cert.KernelGateProduct.sig) → Buf (Elt Bits) ℓ) (g : Dev Cert.KernelGateProduct.nD → PrngReg), Pre_KernelGateProduct m →
    θ_run (Cert.KernelGateProduct.defs (F := Bits)) (onTc (τ := Cert.KernelGateProduct.τ) (Cert.KernelGateProduct.main (F := Bits))) ⟨m, fun _ => 0, g⟩ (fun r => (∀ c : Dev Cert.KernelGateProduct.nD,
      r.2.mem ((c.tc : Thread Cert.KernelGateProduct.nD Cert.KernelGateProduct.τ).loc Cert.KernelGateProduct.main_arg0) = m ((c.tc : Thread Cert.KernelGateProduct.nD Cert.KernelGateProduct.τ).loc Cert.KernelGateProduct.main_arg0)
      ∧ r.2.mem ((c.tc : Thread Cert.KernelGateProduct.nD Cert.KernelGateProduct.τ).loc Cert.KernelGateProduct.main_arg1) = m ((c.tc : Thread Cert.KernelGateProduct.nD Cert.KernelGateProduct.τ).loc Cert.KernelGateProduct.main_arg1))
      ∧ r.2.sem = fun _ => 0)

def quiescent_KernelGateProductIdeal [hKernelGateProductIdeal : Cert.KernelGateProductIdeal.Facts] : Prop :=
  ∀ (m : (ℓ : Loc Cert.KernelGateProductIdeal.nD Cert.KernelGateProductIdeal.τ Cert.KernelGateProductIdeal.sig) → Buf (Elt Ideal) ℓ) (g : Dev Cert.KernelGateProductIdeal.nD → PrngReg), Pre_KernelGateProductIdeal m →
    θ_run (Cert.KernelGateProductIdeal.defs (F := Ideal)) (onTc (τ := Cert.KernelGateProductIdeal.τ) (Cert.KernelGateProductIdeal.main (F := Ideal))) ⟨m, fun _ => 0, g⟩ (fun r => (∀ c : Dev Cert.KernelGateProductIdeal.nD,
      r.2.mem ((c.tc : Thread Cert.KernelGateProductIdeal.nD Cert.KernelGateProductIdeal.τ).loc Cert.KernelGateProductIdeal.main_arg0) = m ((c.tc : Thread Cert.KernelGateProductIdeal.nD Cert.KernelGateProductIdeal.τ).loc Cert.KernelGateProductIdeal.main_arg0)
      ∧ r.2.mem ((c.tc : Thread Cert.KernelGateProductIdeal.nD Cert.KernelGateProductIdeal.τ).loc Cert.KernelGateProductIdeal.main_arg1) = m ((c.tc : Thread Cert.KernelGateProductIdeal.nD Cert.KernelGateProductIdeal.τ).loc Cert.KernelGateProductIdeal.main_arg1))
      ∧ r.2.sem = fun _ => 0)

def quiescent_ReferenceGateProductIdeal [hReferenceGateProductIdeal : Cert.ReferenceGateProductIdeal.Facts] : Prop :=
  ∀ (m : (ℓ : Loc Cert.ReferenceGateProductIdeal.nD Cert.ReferenceGateProductIdeal.τ Cert.ReferenceGateProductIdeal.sig) → Buf (Elt Ideal) ℓ) (g : Dev Cert.ReferenceGateProductIdeal.nD → PrngReg), Pre_ReferenceGateProductIdeal m →
    θ_run (Cert.ReferenceGateProductIdeal.defs (F := Ideal)) (onTc (τ := Cert.ReferenceGateProductIdeal.τ) (Cert.ReferenceGateProductIdeal.main (F := Ideal))) ⟨m, fun _ => 0, g⟩ (fun r => (∀ c : Dev Cert.ReferenceGateProductIdeal.nD,
      r.2.mem ((c.tc : Thread Cert.ReferenceGateProductIdeal.nD Cert.ReferenceGateProductIdeal.τ).loc Cert.ReferenceGateProductIdeal.main_arg0) = m ((c.tc : Thread Cert.ReferenceGateProductIdeal.nD Cert.ReferenceGateProductIdeal.τ).loc Cert.ReferenceGateProductIdeal.main_arg0)
      ∧ r.2.mem ((c.tc : Thread Cert.ReferenceGateProductIdeal.nD Cert.ReferenceGateProductIdeal.τ).loc Cert.ReferenceGateProductIdeal.main_arg1) = m ((c.tc : Thread Cert.ReferenceGateProductIdeal.nD Cert.ReferenceGateProductIdeal.τ).loc Cert.ReferenceGateProductIdeal.main_arg1))
      ∧ r.2.sem = fun _ => 0)

def quiescent_KernelMemDw [hKernelMemDw : Cert.KernelMemDw.Facts] : Prop :=
  ∀ (m : (ℓ : Loc Cert.KernelMemDw.nD Cert.KernelMemDw.τ Cert.KernelMemDw.sig) → Buf (Elt Bits) ℓ) (g : Dev Cert.KernelMemDw.nD → PrngReg), Pre_KernelMemDw m →
    θ_run (Cert.KernelMemDw.defs (F := Bits)) (onTc (τ := Cert.KernelMemDw.τ) (Cert.KernelMemDw.main (F := Bits))) ⟨m, fun _ => 0, g⟩ (fun r => (∀ c : Dev Cert.KernelMemDw.nD,
      r.2.mem ((c.tc : Thread Cert.KernelMemDw.nD Cert.KernelMemDw.τ).loc Cert.KernelMemDw.main_arg0) = m ((c.tc : Thread Cert.KernelMemDw.nD Cert.KernelMemDw.τ).loc Cert.KernelMemDw.main_arg0)
      ∧ r.2.mem ((c.tc : Thread Cert.KernelMemDw.nD Cert.KernelMemDw.τ).loc Cert.KernelMemDw.main_arg1) = m ((c.tc : Thread Cert.KernelMemDw.nD Cert.KernelMemDw.τ).loc Cert.KernelMemDw.main_arg1))
      ∧ r.2.sem = fun _ => 0)

def quiescent_KernelMemDwIdeal [hKernelMemDwIdeal : Cert.KernelMemDwIdeal.Facts] : Prop :=
  ∀ (m : (ℓ : Loc Cert.KernelMemDwIdeal.nD Cert.KernelMemDwIdeal.τ Cert.KernelMemDwIdeal.sig) → Buf (Elt Ideal) ℓ) (g : Dev Cert.KernelMemDwIdeal.nD → PrngReg), Pre_KernelMemDwIdeal m →
    θ_run (Cert.KernelMemDwIdeal.defs (F := Ideal)) (onTc (τ := Cert.KernelMemDwIdeal.τ) (Cert.KernelMemDwIdeal.main (F := Ideal))) ⟨m, fun _ => 0, g⟩ (fun r => (∀ c : Dev Cert.KernelMemDwIdeal.nD,
      r.2.mem ((c.tc : Thread Cert.KernelMemDwIdeal.nD Cert.KernelMemDwIdeal.τ).loc Cert.KernelMemDwIdeal.main_arg0) = m ((c.tc : Thread Cert.KernelMemDwIdeal.nD Cert.KernelMemDwIdeal.τ).loc Cert.KernelMemDwIdeal.main_arg0)
      ∧ r.2.mem ((c.tc : Thread Cert.KernelMemDwIdeal.nD Cert.KernelMemDwIdeal.τ).loc Cert.KernelMemDwIdeal.main_arg1) = m ((c.tc : Thread Cert.KernelMemDwIdeal.nD Cert.KernelMemDwIdeal.τ).loc Cert.KernelMemDwIdeal.main_arg1))
      ∧ r.2.sem = fun _ => 0)

def quiescent_ReferenceMemDwIdeal [hReferenceMemDwIdeal : Cert.ReferenceMemDwIdeal.Facts] : Prop :=
  ∀ (m : (ℓ : Loc Cert.ReferenceMemDwIdeal.nD Cert.ReferenceMemDwIdeal.τ Cert.ReferenceMemDwIdeal.sig) → Buf (Elt Ideal) ℓ) (g : Dev Cert.ReferenceMemDwIdeal.nD → PrngReg), Pre_ReferenceMemDwIdeal m →
    θ_run (Cert.ReferenceMemDwIdeal.defs (F := Ideal)) (onTc (τ := Cert.ReferenceMemDwIdeal.τ) (Cert.ReferenceMemDwIdeal.main (F := Ideal))) ⟨m, fun _ => 0, g⟩ (fun r => (∀ c : Dev Cert.ReferenceMemDwIdeal.nD,
      r.2.mem ((c.tc : Thread Cert.ReferenceMemDwIdeal.nD Cert.ReferenceMemDwIdeal.τ).loc Cert.ReferenceMemDwIdeal.main_arg0) = m ((c.tc : Thread Cert.ReferenceMemDwIdeal.nD Cert.ReferenceMemDwIdeal.τ).loc Cert.ReferenceMemDwIdeal.main_arg0)
      ∧ r.2.mem ((c.tc : Thread Cert.ReferenceMemDwIdeal.nD Cert.ReferenceMemDwIdeal.τ).loc Cert.ReferenceMemDwIdeal.main_arg1) = m ((c.tc : Thread Cert.ReferenceMemDwIdeal.nD Cert.ReferenceMemDwIdeal.τ).loc Cert.ReferenceMemDwIdeal.main_arg1))
      ∧ r.2.sem = fun _ => 0)

def quiescent_KernelPoolDw [hKernelPoolDw : Cert.KernelPoolDw.Facts] : Prop :=
  ∀ (m : (ℓ : Loc Cert.KernelPoolDw.nD Cert.KernelPoolDw.τ Cert.KernelPoolDw.sig) → Buf (Elt Bits) ℓ) (g : Dev Cert.KernelPoolDw.nD → PrngReg), Pre_KernelPoolDw m →
    θ_run (Cert.KernelPoolDw.defs (F := Bits)) (onTc (τ := Cert.KernelPoolDw.τ) (Cert.KernelPoolDw.main (F := Bits))) ⟨m, fun _ => 0, g⟩ (fun r => (∀ c : Dev Cert.KernelPoolDw.nD,
      r.2.mem ((c.tc : Thread Cert.KernelPoolDw.nD Cert.KernelPoolDw.τ).loc Cert.KernelPoolDw.main_arg0) = m ((c.tc : Thread Cert.KernelPoolDw.nD Cert.KernelPoolDw.τ).loc Cert.KernelPoolDw.main_arg0)
      ∧ r.2.mem ((c.tc : Thread Cert.KernelPoolDw.nD Cert.KernelPoolDw.τ).loc Cert.KernelPoolDw.main_arg1) = m ((c.tc : Thread Cert.KernelPoolDw.nD Cert.KernelPoolDw.τ).loc Cert.KernelPoolDw.main_arg1))
      ∧ r.2.sem = fun _ => 0)

def quiescent_KernelPoolDwIdeal [hKernelPoolDwIdeal : Cert.KernelPoolDwIdeal.Facts] : Prop :=
  ∀ (m : (ℓ : Loc Cert.KernelPoolDwIdeal.nD Cert.KernelPoolDwIdeal.τ Cert.KernelPoolDwIdeal.sig) → Buf (Elt Ideal) ℓ) (g : Dev Cert.KernelPoolDwIdeal.nD → PrngReg), Pre_KernelPoolDwIdeal m →
    θ_run (Cert.KernelPoolDwIdeal.defs (F := Ideal)) (onTc (τ := Cert.KernelPoolDwIdeal.τ) (Cert.KernelPoolDwIdeal.main (F := Ideal))) ⟨m, fun _ => 0, g⟩ (fun r => (∀ c : Dev Cert.KernelPoolDwIdeal.nD,
      r.2.mem ((c.tc : Thread Cert.KernelPoolDwIdeal.nD Cert.KernelPoolDwIdeal.τ).loc Cert.KernelPoolDwIdeal.main_arg0) = m ((c.tc : Thread Cert.KernelPoolDwIdeal.nD Cert.KernelPoolDwIdeal.τ).loc Cert.KernelPoolDwIdeal.main_arg0)
      ∧ r.2.mem ((c.tc : Thread Cert.KernelPoolDwIdeal.nD Cert.KernelPoolDwIdeal.τ).loc Cert.KernelPoolDwIdeal.main_arg1) = m ((c.tc : Thread Cert.KernelPoolDwIdeal.nD Cert.KernelPoolDwIdeal.τ).loc Cert.KernelPoolDwIdeal.main_arg1))
      ∧ r.2.sem = fun _ => 0)

def quiescent_ReferencePoolDwIdeal [hReferencePoolDwIdeal : Cert.ReferencePoolDwIdeal.Facts] : Prop :=
  ∀ (m : (ℓ : Loc Cert.ReferencePoolDwIdeal.nD Cert.ReferencePoolDwIdeal.τ Cert.ReferencePoolDwIdeal.sig) → Buf (Elt Ideal) ℓ) (g : Dev Cert.ReferencePoolDwIdeal.nD → PrngReg), Pre_ReferencePoolDwIdeal m →
    θ_run (Cert.ReferencePoolDwIdeal.defs (F := Ideal)) (onTc (τ := Cert.ReferencePoolDwIdeal.τ) (Cert.ReferencePoolDwIdeal.main (F := Ideal))) ⟨m, fun _ => 0, g⟩ (fun r => (∀ c : Dev Cert.ReferencePoolDwIdeal.nD,
      r.2.mem ((c.tc : Thread Cert.ReferencePoolDwIdeal.nD Cert.ReferencePoolDwIdeal.τ).loc Cert.ReferencePoolDwIdeal.main_arg0) = m ((c.tc : Thread Cert.ReferencePoolDwIdeal.nD Cert.ReferencePoolDwIdeal.τ).loc Cert.ReferencePoolDwIdeal.main_arg0)
      ∧ r.2.mem ((c.tc : Thread Cert.ReferencePoolDwIdeal.nD Cert.ReferencePoolDwIdeal.τ).loc Cert.ReferencePoolDwIdeal.main_arg1) = m ((c.tc : Thread Cert.ReferencePoolDwIdeal.nD Cert.ReferencePoolDwIdeal.τ).loc Cert.ReferencePoolDwIdeal.main_arg1))
      ∧ r.2.sem = fun _ => 0)

def quiescent_KernelPoolMix [hKernelPoolMix : Cert.KernelPoolMix.Facts] : Prop :=
  ∀ (m : (ℓ : Loc Cert.KernelPoolMix.nD Cert.KernelPoolMix.τ Cert.KernelPoolMix.sig) → Buf (Elt Bits) ℓ) (g : Dev Cert.KernelPoolMix.nD → PrngReg), Pre_KernelPoolMix m →
    θ_run (Cert.KernelPoolMix.defs (F := Bits)) (onTc (τ := Cert.KernelPoolMix.τ) (Cert.KernelPoolMix.main (F := Bits))) ⟨m, fun _ => 0, g⟩ (fun r => (∀ c : Dev Cert.KernelPoolMix.nD,
      r.2.mem ((c.tc : Thread Cert.KernelPoolMix.nD Cert.KernelPoolMix.τ).loc Cert.KernelPoolMix.main_arg0) = m ((c.tc : Thread Cert.KernelPoolMix.nD Cert.KernelPoolMix.τ).loc Cert.KernelPoolMix.main_arg0)
      ∧ r.2.mem ((c.tc : Thread Cert.KernelPoolMix.nD Cert.KernelPoolMix.τ).loc Cert.KernelPoolMix.main_arg1) = m ((c.tc : Thread Cert.KernelPoolMix.nD Cert.KernelPoolMix.τ).loc Cert.KernelPoolMix.main_arg1)
      ∧ r.2.mem ((c.tc : Thread Cert.KernelPoolMix.nD Cert.KernelPoolMix.τ).loc Cert.KernelPoolMix.main_arg2) = m ((c.tc : Thread Cert.KernelPoolMix.nD Cert.KernelPoolMix.τ).loc Cert.KernelPoolMix.main_arg2)
      ∧ r.2.mem ((c.tc : Thread Cert.KernelPoolMix.nD Cert.KernelPoolMix.τ).loc Cert.KernelPoolMix.main_arg3) = m ((c.tc : Thread Cert.KernelPoolMix.nD Cert.KernelPoolMix.τ).loc Cert.KernelPoolMix.main_arg3))
      ∧ r.2.sem = fun _ => 0)

def quiescent_KernelPoolMixIdeal [hKernelPoolMixIdeal : Cert.KernelPoolMixIdeal.Facts] : Prop :=
  ∀ (m : (ℓ : Loc Cert.KernelPoolMixIdeal.nD Cert.KernelPoolMixIdeal.τ Cert.KernelPoolMixIdeal.sig) → Buf (Elt Ideal) ℓ) (g : Dev Cert.KernelPoolMixIdeal.nD → PrngReg), Pre_KernelPoolMixIdeal m →
    θ_run (Cert.KernelPoolMixIdeal.defs (F := Ideal)) (onTc (τ := Cert.KernelPoolMixIdeal.τ) (Cert.KernelPoolMixIdeal.main (F := Ideal))) ⟨m, fun _ => 0, g⟩ (fun r => (∀ c : Dev Cert.KernelPoolMixIdeal.nD,
      r.2.mem ((c.tc : Thread Cert.KernelPoolMixIdeal.nD Cert.KernelPoolMixIdeal.τ).loc Cert.KernelPoolMixIdeal.main_arg0) = m ((c.tc : Thread Cert.KernelPoolMixIdeal.nD Cert.KernelPoolMixIdeal.τ).loc Cert.KernelPoolMixIdeal.main_arg0)
      ∧ r.2.mem ((c.tc : Thread Cert.KernelPoolMixIdeal.nD Cert.KernelPoolMixIdeal.τ).loc Cert.KernelPoolMixIdeal.main_arg1) = m ((c.tc : Thread Cert.KernelPoolMixIdeal.nD Cert.KernelPoolMixIdeal.τ).loc Cert.KernelPoolMixIdeal.main_arg1)
      ∧ r.2.mem ((c.tc : Thread Cert.KernelPoolMixIdeal.nD Cert.KernelPoolMixIdeal.τ).loc Cert.KernelPoolMixIdeal.main_arg2) = m ((c.tc : Thread Cert.KernelPoolMixIdeal.nD Cert.KernelPoolMixIdeal.τ).loc Cert.KernelPoolMixIdeal.main_arg2)
      ∧ r.2.mem ((c.tc : Thread Cert.KernelPoolMixIdeal.nD Cert.KernelPoolMixIdeal.τ).loc Cert.KernelPoolMixIdeal.main_arg3) = m ((c.tc : Thread Cert.KernelPoolMixIdeal.nD Cert.KernelPoolMixIdeal.τ).loc Cert.KernelPoolMixIdeal.main_arg3))
      ∧ r.2.sem = fun _ => 0)

def quiescent_ReferencePoolMixIdeal [hReferencePoolMixIdeal : Cert.ReferencePoolMixIdeal.Facts] : Prop :=
  ∀ (m : (ℓ : Loc Cert.ReferencePoolMixIdeal.nD Cert.ReferencePoolMixIdeal.τ Cert.ReferencePoolMixIdeal.sig) → Buf (Elt Ideal) ℓ) (g : Dev Cert.ReferencePoolMixIdeal.nD → PrngReg), Pre_ReferencePoolMixIdeal m →
    θ_run (Cert.ReferencePoolMixIdeal.defs (F := Ideal)) (onTc (τ := Cert.ReferencePoolMixIdeal.τ) (Cert.ReferencePoolMixIdeal.main (F := Ideal))) ⟨m, fun _ => 0, g⟩ (fun r => (∀ c : Dev Cert.ReferencePoolMixIdeal.nD,
      r.2.mem ((c.tc : Thread Cert.ReferencePoolMixIdeal.nD Cert.ReferencePoolMixIdeal.τ).loc Cert.ReferencePoolMixIdeal.main_arg0) = m ((c.tc : Thread Cert.ReferencePoolMixIdeal.nD Cert.ReferencePoolMixIdeal.τ).loc Cert.ReferencePoolMixIdeal.main_arg0)
      ∧ r.2.mem ((c.tc : Thread Cert.ReferencePoolMixIdeal.nD Cert.ReferencePoolMixIdeal.τ).loc Cert.ReferencePoolMixIdeal.main_arg1) = m ((c.tc : Thread Cert.ReferencePoolMixIdeal.nD Cert.ReferencePoolMixIdeal.τ).loc Cert.ReferencePoolMixIdeal.main_arg1)
      ∧ r.2.mem ((c.tc : Thread Cert.ReferencePoolMixIdeal.nD Cert.ReferencePoolMixIdeal.τ).loc Cert.ReferencePoolMixIdeal.main_arg2) = m ((c.tc : Thread Cert.ReferencePoolMixIdeal.nD Cert.ReferencePoolMixIdeal.τ).loc Cert.ReferencePoolMixIdeal.main_arg2)
      ∧ r.2.mem ((c.tc : Thread Cert.ReferencePoolMixIdeal.nD Cert.ReferencePoolMixIdeal.τ).loc Cert.ReferencePoolMixIdeal.main_arg3) = m ((c.tc : Thread Cert.ReferencePoolMixIdeal.nD Cert.ReferencePoolMixIdeal.τ).loc Cert.ReferencePoolMixIdeal.main_arg3))
      ∧ r.2.sem = fun _ => 0)

def quiescent_KernelUpGate [hKernelUpGate : Cert.KernelUpGate.Facts] : Prop :=
  ∀ (m : (ℓ : Loc Cert.KernelUpGate.nD Cert.KernelUpGate.τ Cert.KernelUpGate.sig) → Buf (Elt Bits) ℓ) (g : Dev Cert.KernelUpGate.nD → PrngReg), Pre_KernelUpGate m →
    θ_run (Cert.KernelUpGate.defs (F := Bits)) (onTc (τ := Cert.KernelUpGate.τ) (Cert.KernelUpGate.main (F := Bits))) ⟨m, fun _ => 0, g⟩ (fun r => (∀ c : Dev Cert.KernelUpGate.nD,
      r.2.mem ((c.tc : Thread Cert.KernelUpGate.nD Cert.KernelUpGate.τ).loc Cert.KernelUpGate.main_arg0) = m ((c.tc : Thread Cert.KernelUpGate.nD Cert.KernelUpGate.τ).loc Cert.KernelUpGate.main_arg0)
      ∧ r.2.mem ((c.tc : Thread Cert.KernelUpGate.nD Cert.KernelUpGate.τ).loc Cert.KernelUpGate.main_arg1) = m ((c.tc : Thread Cert.KernelUpGate.nD Cert.KernelUpGate.τ).loc Cert.KernelUpGate.main_arg1)
      ∧ r.2.mem ((c.tc : Thread Cert.KernelUpGate.nD Cert.KernelUpGate.τ).loc Cert.KernelUpGate.main_arg2) = m ((c.tc : Thread Cert.KernelUpGate.nD Cert.KernelUpGate.τ).loc Cert.KernelUpGate.main_arg2))
      ∧ r.2.sem = fun _ => 0)

def quiescent_KernelUpGateIdeal [hKernelUpGateIdeal : Cert.KernelUpGateIdeal.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg), Pre_KernelUpGateIdeal m →
    θ_run (Cert.KernelUpGateIdeal.defs (F := Ideal)) (onTc (τ := Cert.KernelUpGateIdeal.τ) (Cert.KernelUpGateIdeal.main (F := Ideal))) ⟨m, fun _ => 0, g⟩ (fun r => (∀ c : Dev Cert.KernelUpGateIdeal.nD,
      r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
      ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1)
      ∧ r.2.mem ((c.tc : Thread Cert.KernelUpGateIdeal.nD Cert.KernelUpGateIdeal.τ).loc Cert.KernelUpGateIdeal.main_arg2) = m ((c.tc : Thread Cert.KernelUpGateIdeal.nD Cert.KernelUpGateIdeal.τ).loc Cert.KernelUpGateIdeal.main_arg2))
      ∧ r.2.sem = fun _ => 0)

def quiescent_KernelUpGateIdeal_pre_finite_up_gate [hKernelUpGateIdeal : Cert.KernelUpGateIdeal.Facts] [hPre_finite_up_gate : Cert.Pre_finite_up_gate.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg), Pre_KernelUpGateIdeal_finite_up_gate m →
    θ_run (Cert.KernelUpGateIdeal.defs (F := Ideal)) (onTc (τ := Cert.KernelUpGateIdeal.τ) (Cert.KernelUpGateIdeal.main (F := Ideal))) ⟨m, fun _ => 0, g⟩ (fun r => (∀ c : Dev Cert.KernelUpGateIdeal.nD,
      r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
      ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1)
      ∧ r.2.mem ((c.tc : Thread Cert.KernelUpGateIdeal.nD Cert.KernelUpGateIdeal.τ).loc Cert.KernelUpGateIdeal.main_arg2) = m ((c.tc : Thread Cert.KernelUpGateIdeal.nD Cert.KernelUpGateIdeal.τ).loc Cert.KernelUpGateIdeal.main_arg2))
      ∧ r.2.sem = fun _ => 0)

def quiescent_ReferenceUpGateIdeal [hReferenceUpGateIdeal : Cert.ReferenceUpGateIdeal.Facts] : Prop :=
  ∀ (m : (ℓ : Loc Cert.ReferenceUpGateIdeal.nD Cert.ReferenceUpGateIdeal.τ Cert.ReferenceUpGateIdeal.sig) → Buf (Elt Ideal) ℓ) (g : Dev Cert.ReferenceUpGateIdeal.nD → PrngReg), Pre_ReferenceUpGateIdeal m →
    θ_run (Cert.ReferenceUpGateIdeal.defs (F := Ideal)) (onTc (τ := Cert.ReferenceUpGateIdeal.τ) (Cert.ReferenceUpGateIdeal.main (F := Ideal))) ⟨m, fun _ => 0, g⟩ (fun r => (∀ c : Dev Cert.ReferenceUpGateIdeal.nD,
      r.2.mem ((c.tc : Thread Cert.ReferenceUpGateIdeal.nD Cert.ReferenceUpGateIdeal.τ).loc Cert.ReferenceUpGateIdeal.main_arg0) = m ((c.tc : Thread Cert.ReferenceUpGateIdeal.nD Cert.ReferenceUpGateIdeal.τ).loc Cert.ReferenceUpGateIdeal.main_arg0)
      ∧ r.2.mem ((c.tc : Thread Cert.ReferenceUpGateIdeal.nD Cert.ReferenceUpGateIdeal.τ).loc Cert.ReferenceUpGateIdeal.main_arg1) = m ((c.tc : Thread Cert.ReferenceUpGateIdeal.nD Cert.ReferenceUpGateIdeal.τ).loc Cert.ReferenceUpGateIdeal.main_arg1)
      ∧ r.2.mem ((c.tc : Thread Cert.ReferenceUpGateIdeal.nD Cert.ReferenceUpGateIdeal.τ).loc Cert.ReferenceUpGateIdeal.main_arg2) = m ((c.tc : Thread Cert.ReferenceUpGateIdeal.nD Cert.ReferenceUpGateIdeal.τ).loc Cert.ReferenceUpGateIdeal.main_arg2))
      ∧ r.2.sem = fun _ => 0)

def quiescent_ReferenceUpGateIdeal_pre_finite_up_gate [hReferenceUpGateIdeal : Cert.ReferenceUpGateIdeal.Facts] [hPre_finite_up_gate : Cert.Pre_finite_up_gate.Facts] : Prop :=
  ∀ (m : (ℓ : Loc Cert.ReferenceUpGateIdeal.nD Cert.ReferenceUpGateIdeal.τ Cert.ReferenceUpGateIdeal.sig) → Buf (Elt Ideal) ℓ) (g : Dev Cert.ReferenceUpGateIdeal.nD → PrngReg), Pre_ReferenceUpGateIdeal_finite_up_gate m →
    θ_run (Cert.ReferenceUpGateIdeal.defs (F := Ideal)) (onTc (τ := Cert.ReferenceUpGateIdeal.τ) (Cert.ReferenceUpGateIdeal.main (F := Ideal))) ⟨m, fun _ => 0, g⟩ (fun r => (∀ c : Dev Cert.ReferenceUpGateIdeal.nD,
      r.2.mem ((c.tc : Thread Cert.ReferenceUpGateIdeal.nD Cert.ReferenceUpGateIdeal.τ).loc Cert.ReferenceUpGateIdeal.main_arg0) = m ((c.tc : Thread Cert.ReferenceUpGateIdeal.nD Cert.ReferenceUpGateIdeal.τ).loc Cert.ReferenceUpGateIdeal.main_arg0)
      ∧ r.2.mem ((c.tc : Thread Cert.ReferenceUpGateIdeal.nD Cert.ReferenceUpGateIdeal.τ).loc Cert.ReferenceUpGateIdeal.main_arg1) = m ((c.tc : Thread Cert.ReferenceUpGateIdeal.nD Cert.ReferenceUpGateIdeal.τ).loc Cert.ReferenceUpGateIdeal.main_arg1)
      ∧ r.2.mem ((c.tc : Thread Cert.ReferenceUpGateIdeal.nD Cert.ReferenceUpGateIdeal.τ).loc Cert.ReferenceUpGateIdeal.main_arg2) = m ((c.tc : Thread Cert.ReferenceUpGateIdeal.nD Cert.ReferenceUpGateIdeal.τ).loc Cert.ReferenceUpGateIdeal.main_arg2))
      ∧ r.2.sem = fun _ => 0)

def quiescent_KernelDownNorm [hKernelDownNorm : Cert.KernelDownNorm.Facts] : Prop :=
  ∀ (m : (ℓ : Loc Cert.KernelDownNorm.nD Cert.KernelDownNorm.τ Cert.KernelDownNorm.sig) → Buf (Elt Bits) ℓ) (g : Dev Cert.KernelDownNorm.nD → PrngReg), Pre_KernelDownNorm m →
    θ_run (Cert.KernelDownNorm.defs (F := Bits)) (onTc (τ := Cert.KernelDownNorm.τ) (Cert.KernelDownNorm.main (F := Bits))) ⟨m, fun _ => 0, g⟩ (fun r => (∀ c : Dev Cert.KernelDownNorm.nD,
      r.2.mem ((c.tc : Thread Cert.KernelDownNorm.nD Cert.KernelDownNorm.τ).loc Cert.KernelDownNorm.main_arg0) = m ((c.tc : Thread Cert.KernelDownNorm.nD Cert.KernelDownNorm.τ).loc Cert.KernelDownNorm.main_arg0)
      ∧ r.2.mem ((c.tc : Thread Cert.KernelDownNorm.nD Cert.KernelDownNorm.τ).loc Cert.KernelDownNorm.main_arg1) = m ((c.tc : Thread Cert.KernelDownNorm.nD Cert.KernelDownNorm.τ).loc Cert.KernelDownNorm.main_arg1)
      ∧ r.2.mem ((c.tc : Thread Cert.KernelDownNorm.nD Cert.KernelDownNorm.τ).loc Cert.KernelDownNorm.main_arg2) = m ((c.tc : Thread Cert.KernelDownNorm.nD Cert.KernelDownNorm.τ).loc Cert.KernelDownNorm.main_arg2)
      ∧ r.2.mem ((c.tc : Thread Cert.KernelDownNorm.nD Cert.KernelDownNorm.τ).loc Cert.KernelDownNorm.main_arg3) = m ((c.tc : Thread Cert.KernelDownNorm.nD Cert.KernelDownNorm.τ).loc Cert.KernelDownNorm.main_arg3)
      ∧ r.2.mem ((c.tc : Thread Cert.KernelDownNorm.nD Cert.KernelDownNorm.τ).loc Cert.KernelDownNorm.main_arg4) = m ((c.tc : Thread Cert.KernelDownNorm.nD Cert.KernelDownNorm.τ).loc Cert.KernelDownNorm.main_arg4))
      ∧ r.2.sem = fun _ => 0)

def quiescent_KernelDownNormIdeal [hKernelDownNormIdeal : Cert.KernelDownNormIdeal.Facts] : Prop :=
  ∀ (m : (ℓ : Loc Cert.KernelDownNormIdeal.nD Cert.KernelDownNormIdeal.τ Cert.KernelDownNormIdeal.sig) → Buf (Elt Ideal) ℓ) (g : Dev Cert.KernelDownNormIdeal.nD → PrngReg), Pre_KernelDownNormIdeal m →
    θ_run (Cert.KernelDownNormIdeal.defs (F := Ideal)) (onTc (τ := Cert.KernelDownNormIdeal.τ) (Cert.KernelDownNormIdeal.main (F := Ideal))) ⟨m, fun _ => 0, g⟩ (fun r => (∀ c : Dev Cert.KernelDownNormIdeal.nD,
      r.2.mem ((c.tc : Thread Cert.KernelDownNormIdeal.nD Cert.KernelDownNormIdeal.τ).loc Cert.KernelDownNormIdeal.main_arg0) = m ((c.tc : Thread Cert.KernelDownNormIdeal.nD Cert.KernelDownNormIdeal.τ).loc Cert.KernelDownNormIdeal.main_arg0)
      ∧ r.2.mem ((c.tc : Thread Cert.KernelDownNormIdeal.nD Cert.KernelDownNormIdeal.τ).loc Cert.KernelDownNormIdeal.main_arg1) = m ((c.tc : Thread Cert.KernelDownNormIdeal.nD Cert.KernelDownNormIdeal.τ).loc Cert.KernelDownNormIdeal.main_arg1)
      ∧ r.2.mem ((c.tc : Thread Cert.KernelDownNormIdeal.nD Cert.KernelDownNormIdeal.τ).loc Cert.KernelDownNormIdeal.main_arg2) = m ((c.tc : Thread Cert.KernelDownNormIdeal.nD Cert.KernelDownNormIdeal.τ).loc Cert.KernelDownNormIdeal.main_arg2)
      ∧ r.2.mem ((c.tc : Thread Cert.KernelDownNormIdeal.nD Cert.KernelDownNormIdeal.τ).loc Cert.KernelDownNormIdeal.main_arg3) = m ((c.tc : Thread Cert.KernelDownNormIdeal.nD Cert.KernelDownNormIdeal.τ).loc Cert.KernelDownNormIdeal.main_arg3)
      ∧ r.2.mem ((c.tc : Thread Cert.KernelDownNormIdeal.nD Cert.KernelDownNormIdeal.τ).loc Cert.KernelDownNormIdeal.main_arg4) = m ((c.tc : Thread Cert.KernelDownNormIdeal.nD Cert.KernelDownNormIdeal.τ).loc Cert.KernelDownNormIdeal.main_arg4))
      ∧ r.2.sem = fun _ => 0)

def quiescent_ReferenceDownNormIdeal [hReferenceDownNormIdeal : Cert.ReferenceDownNormIdeal.Facts] : Prop :=
  ∀ (m : (ℓ : Loc Cert.ReferenceDownNormIdeal.nD Cert.ReferenceDownNormIdeal.τ Cert.ReferenceDownNormIdeal.sig) → Buf (Elt Ideal) ℓ) (g : Dev Cert.ReferenceDownNormIdeal.nD → PrngReg), Pre_ReferenceDownNormIdeal m →
    θ_run (Cert.ReferenceDownNormIdeal.defs (F := Ideal)) (onTc (τ := Cert.ReferenceDownNormIdeal.τ) (Cert.ReferenceDownNormIdeal.main (F := Ideal))) ⟨m, fun _ => 0, g⟩ (fun r => (∀ c : Dev Cert.ReferenceDownNormIdeal.nD,
      r.2.mem ((c.tc : Thread Cert.ReferenceDownNormIdeal.nD Cert.ReferenceDownNormIdeal.τ).loc Cert.ReferenceDownNormIdeal.main_arg0) = m ((c.tc : Thread Cert.ReferenceDownNormIdeal.nD Cert.ReferenceDownNormIdeal.τ).loc Cert.ReferenceDownNormIdeal.main_arg0)
      ∧ r.2.mem ((c.tc : Thread Cert.ReferenceDownNormIdeal.nD Cert.ReferenceDownNormIdeal.τ).loc Cert.ReferenceDownNormIdeal.main_arg1) = m ((c.tc : Thread Cert.ReferenceDownNormIdeal.nD Cert.ReferenceDownNormIdeal.τ).loc Cert.ReferenceDownNormIdeal.main_arg1)
      ∧ r.2.mem ((c.tc : Thread Cert.ReferenceDownNormIdeal.nD Cert.ReferenceDownNormIdeal.τ).loc Cert.ReferenceDownNormIdeal.main_arg2) = m ((c.tc : Thread Cert.ReferenceDownNormIdeal.nD Cert.ReferenceDownNormIdeal.τ).loc Cert.ReferenceDownNormIdeal.main_arg2)
      ∧ r.2.mem ((c.tc : Thread Cert.ReferenceDownNormIdeal.nD Cert.ReferenceDownNormIdeal.τ).loc Cert.ReferenceDownNormIdeal.main_arg3) = m ((c.tc : Thread Cert.ReferenceDownNormIdeal.nD Cert.ReferenceDownNormIdeal.τ).loc Cert.ReferenceDownNormIdeal.main_arg3)
      ∧ r.2.mem ((c.tc : Thread Cert.ReferenceDownNormIdeal.nD Cert.ReferenceDownNormIdeal.τ).loc Cert.ReferenceDownNormIdeal.main_arg4) = m ((c.tc : Thread Cert.ReferenceDownNormIdeal.nD Cert.ReferenceDownNormIdeal.τ).loc Cert.ReferenceDownNormIdeal.main_arg4))
      ∧ r.2.sem = fun _ => 0)

def quiescent_KernelSquareStep [hKernelSquareStep : Cert.KernelSquareStep.Facts] : Prop :=
  ∀ (m : (ℓ : Loc Cert.KernelSquareStep.nD Cert.KernelSquareStep.τ Cert.KernelSquareStep.sig) → Buf (Elt Bits) ℓ) (g : Dev Cert.KernelSquareStep.nD → PrngReg), Pre_KernelSquareStep m →
    θ_run (Cert.KernelSquareStep.defs (F := Bits)) (onTc (τ := Cert.KernelSquareStep.τ) (Cert.KernelSquareStep.main (F := Bits))) ⟨m, fun _ => 0, g⟩ (fun r => (∀ c : Dev Cert.KernelSquareStep.nD,
      r.2.mem ((c.tc : Thread Cert.KernelSquareStep.nD Cert.KernelSquareStep.τ).loc Cert.KernelSquareStep.main_arg0) = m ((c.tc : Thread Cert.KernelSquareStep.nD Cert.KernelSquareStep.τ).loc Cert.KernelSquareStep.main_arg0)
      ∧ r.2.mem ((c.tc : Thread Cert.KernelSquareStep.nD Cert.KernelSquareStep.τ).loc Cert.KernelSquareStep.main_arg1) = m ((c.tc : Thread Cert.KernelSquareStep.nD Cert.KernelSquareStep.τ).loc Cert.KernelSquareStep.main_arg1)
      ∧ r.2.mem ((c.tc : Thread Cert.KernelSquareStep.nD Cert.KernelSquareStep.τ).loc Cert.KernelSquareStep.main_arg2) = m ((c.tc : Thread Cert.KernelSquareStep.nD Cert.KernelSquareStep.τ).loc Cert.KernelSquareStep.main_arg2)
      ∧ r.2.mem ((c.tc : Thread Cert.KernelSquareStep.nD Cert.KernelSquareStep.τ).loc Cert.KernelSquareStep.main_arg3) = m ((c.tc : Thread Cert.KernelSquareStep.nD Cert.KernelSquareStep.τ).loc Cert.KernelSquareStep.main_arg3))
      ∧ r.2.sem = fun _ => 0)

def quiescent_KernelSquareStepIdeal [hKernelSquareStepIdeal : Cert.KernelSquareStepIdeal.Facts] : Prop :=
  ∀ (m : (ℓ : Loc Cert.KernelSquareStepIdeal.nD Cert.KernelSquareStepIdeal.τ Cert.KernelSquareStepIdeal.sig) → Buf (Elt Ideal) ℓ) (g : Dev Cert.KernelSquareStepIdeal.nD → PrngReg), Pre_KernelSquareStepIdeal m →
    θ_run (Cert.KernelSquareStepIdeal.defs (F := Ideal)) (onTc (τ := Cert.KernelSquareStepIdeal.τ) (Cert.KernelSquareStepIdeal.main (F := Ideal))) ⟨m, fun _ => 0, g⟩ (fun r => (∀ c : Dev Cert.KernelSquareStepIdeal.nD,
      r.2.mem ((c.tc : Thread Cert.KernelSquareStepIdeal.nD Cert.KernelSquareStepIdeal.τ).loc Cert.KernelSquareStepIdeal.main_arg0) = m ((c.tc : Thread Cert.KernelSquareStepIdeal.nD Cert.KernelSquareStepIdeal.τ).loc Cert.KernelSquareStepIdeal.main_arg0)
      ∧ r.2.mem ((c.tc : Thread Cert.KernelSquareStepIdeal.nD Cert.KernelSquareStepIdeal.τ).loc Cert.KernelSquareStepIdeal.main_arg1) = m ((c.tc : Thread Cert.KernelSquareStepIdeal.nD Cert.KernelSquareStepIdeal.τ).loc Cert.KernelSquareStepIdeal.main_arg1)
      ∧ r.2.mem ((c.tc : Thread Cert.KernelSquareStepIdeal.nD Cert.KernelSquareStepIdeal.τ).loc Cert.KernelSquareStepIdeal.main_arg2) = m ((c.tc : Thread Cert.KernelSquareStepIdeal.nD Cert.KernelSquareStepIdeal.τ).loc Cert.KernelSquareStepIdeal.main_arg2)
      ∧ r.2.mem ((c.tc : Thread Cert.KernelSquareStepIdeal.nD Cert.KernelSquareStepIdeal.τ).loc Cert.KernelSquareStepIdeal.main_arg3) = m ((c.tc : Thread Cert.KernelSquareStepIdeal.nD Cert.KernelSquareStepIdeal.τ).loc Cert.KernelSquareStepIdeal.main_arg3))
      ∧ r.2.sem = fun _ => 0)

def quiescent_ReferenceSquareStepIdeal [hReferenceSquareStepIdeal : Cert.ReferenceSquareStepIdeal.Facts] : Prop :=
  ∀ (m : (ℓ : Loc Cert.ReferenceSquareStepIdeal.nD Cert.ReferenceSquareStepIdeal.τ Cert.ReferenceSquareStepIdeal.sig) → Buf (Elt Ideal) ℓ) (g : Dev Cert.ReferenceSquareStepIdeal.nD → PrngReg), Pre_ReferenceSquareStepIdeal m →
    θ_run (Cert.ReferenceSquareStepIdeal.defs (F := Ideal)) (onTc (τ := Cert.ReferenceSquareStepIdeal.τ) (Cert.ReferenceSquareStepIdeal.main (F := Ideal))) ⟨m, fun _ => 0, g⟩ (fun r => (∀ c : Dev Cert.ReferenceSquareStepIdeal.nD,
      r.2.mem ((c.tc : Thread Cert.ReferenceSquareStepIdeal.nD Cert.ReferenceSquareStepIdeal.τ).loc Cert.ReferenceSquareStepIdeal.main_arg0) = m ((c.tc : Thread Cert.ReferenceSquareStepIdeal.nD Cert.ReferenceSquareStepIdeal.τ).loc Cert.ReferenceSquareStepIdeal.main_arg0)
      ∧ r.2.mem ((c.tc : Thread Cert.ReferenceSquareStepIdeal.nD Cert.ReferenceSquareStepIdeal.τ).loc Cert.ReferenceSquareStepIdeal.main_arg1) = m ((c.tc : Thread Cert.ReferenceSquareStepIdeal.nD Cert.ReferenceSquareStepIdeal.τ).loc Cert.ReferenceSquareStepIdeal.main_arg1)
      ∧ r.2.mem ((c.tc : Thread Cert.ReferenceSquareStepIdeal.nD Cert.ReferenceSquareStepIdeal.τ).loc Cert.ReferenceSquareStepIdeal.main_arg2) = m ((c.tc : Thread Cert.ReferenceSquareStepIdeal.nD Cert.ReferenceSquareStepIdeal.τ).loc Cert.ReferenceSquareStepIdeal.main_arg2)
      ∧ r.2.mem ((c.tc : Thread Cert.ReferenceSquareStepIdeal.nD Cert.ReferenceSquareStepIdeal.τ).loc Cert.ReferenceSquareStepIdeal.main_arg3) = m ((c.tc : Thread Cert.ReferenceSquareStepIdeal.nD Cert.ReferenceSquareStepIdeal.τ).loc Cert.ReferenceSquareStepIdeal.main_arg3))
      ∧ r.2.sem = fun _ => 0)

def quiescent_KernelKvStep [hKernelKvStep : Cert.KernelKvStep.Facts] : Prop :=
  ∀ (m : (ℓ : Loc Cert.KernelKvStep.nD Cert.KernelKvStep.τ Cert.KernelKvStep.sig) → Buf (Elt Bits) ℓ) (g : Dev Cert.KernelKvStep.nD → PrngReg), Pre_KernelKvStep m →
    θ_run (Cert.KernelKvStep.defs (F := Bits)) (onTc (τ := Cert.KernelKvStep.τ) (Cert.KernelKvStep.main (F := Bits))) ⟨m, fun _ => 0, g⟩ (fun r => (∀ c : Dev Cert.KernelKvStep.nD,
      r.2.mem ((c.tc : Thread Cert.KernelKvStep.nD Cert.KernelKvStep.τ).loc Cert.KernelKvStep.main_arg0) = m ((c.tc : Thread Cert.KernelKvStep.nD Cert.KernelKvStep.τ).loc Cert.KernelKvStep.main_arg0)
      ∧ r.2.mem ((c.tc : Thread Cert.KernelKvStep.nD Cert.KernelKvStep.τ).loc Cert.KernelKvStep.main_arg1) = m ((c.tc : Thread Cert.KernelKvStep.nD Cert.KernelKvStep.τ).loc Cert.KernelKvStep.main_arg1)
      ∧ r.2.mem ((c.tc : Thread Cert.KernelKvStep.nD Cert.KernelKvStep.τ).loc Cert.KernelKvStep.main_arg2) = m ((c.tc : Thread Cert.KernelKvStep.nD Cert.KernelKvStep.τ).loc Cert.KernelKvStep.main_arg2)
      ∧ r.2.mem ((c.tc : Thread Cert.KernelKvStep.nD Cert.KernelKvStep.τ).loc Cert.KernelKvStep.main_arg3) = m ((c.tc : Thread Cert.KernelKvStep.nD Cert.KernelKvStep.τ).loc Cert.KernelKvStep.main_arg3))
      ∧ r.2.sem = fun _ => 0)

def quiescent_KernelKvStepIdeal [hKernelKvStepIdeal : Cert.KernelKvStepIdeal.Facts] : Prop :=
  ∀ (m : (ℓ : Loc Cert.KernelKvStepIdeal.nD Cert.KernelKvStepIdeal.τ Cert.KernelKvStepIdeal.sig) → Buf (Elt Ideal) ℓ) (g : Dev Cert.KernelKvStepIdeal.nD → PrngReg), Pre_KernelKvStepIdeal m →
    θ_run (Cert.KernelKvStepIdeal.defs (F := Ideal)) (onTc (τ := Cert.KernelKvStepIdeal.τ) (Cert.KernelKvStepIdeal.main (F := Ideal))) ⟨m, fun _ => 0, g⟩ (fun r => (∀ c : Dev Cert.KernelKvStepIdeal.nD,
      r.2.mem ((c.tc : Thread Cert.KernelKvStepIdeal.nD Cert.KernelKvStepIdeal.τ).loc Cert.KernelKvStepIdeal.main_arg0) = m ((c.tc : Thread Cert.KernelKvStepIdeal.nD Cert.KernelKvStepIdeal.τ).loc Cert.KernelKvStepIdeal.main_arg0)
      ∧ r.2.mem ((c.tc : Thread Cert.KernelKvStepIdeal.nD Cert.KernelKvStepIdeal.τ).loc Cert.KernelKvStepIdeal.main_arg1) = m ((c.tc : Thread Cert.KernelKvStepIdeal.nD Cert.KernelKvStepIdeal.τ).loc Cert.KernelKvStepIdeal.main_arg1)
      ∧ r.2.mem ((c.tc : Thread Cert.KernelKvStepIdeal.nD Cert.KernelKvStepIdeal.τ).loc Cert.KernelKvStepIdeal.main_arg2) = m ((c.tc : Thread Cert.KernelKvStepIdeal.nD Cert.KernelKvStepIdeal.τ).loc Cert.KernelKvStepIdeal.main_arg2)
      ∧ r.2.mem ((c.tc : Thread Cert.KernelKvStepIdeal.nD Cert.KernelKvStepIdeal.τ).loc Cert.KernelKvStepIdeal.main_arg3) = m ((c.tc : Thread Cert.KernelKvStepIdeal.nD Cert.KernelKvStepIdeal.τ).loc Cert.KernelKvStepIdeal.main_arg3))
      ∧ r.2.sem = fun _ => 0)

def quiescent_ReferenceKvStepIdeal [hReferenceKvStepIdeal : Cert.ReferenceKvStepIdeal.Facts] : Prop :=
  ∀ (m : (ℓ : Loc Cert.ReferenceKvStepIdeal.nD Cert.ReferenceKvStepIdeal.τ Cert.ReferenceKvStepIdeal.sig) → Buf (Elt Ideal) ℓ) (g : Dev Cert.ReferenceKvStepIdeal.nD → PrngReg), Pre_ReferenceKvStepIdeal m →
    θ_run (Cert.ReferenceKvStepIdeal.defs (F := Ideal)) (onTc (τ := Cert.ReferenceKvStepIdeal.τ) (Cert.ReferenceKvStepIdeal.main (F := Ideal))) ⟨m, fun _ => 0, g⟩ (fun r => (∀ c : Dev Cert.ReferenceKvStepIdeal.nD,
      r.2.mem ((c.tc : Thread Cert.ReferenceKvStepIdeal.nD Cert.ReferenceKvStepIdeal.τ).loc Cert.ReferenceKvStepIdeal.main_arg0) = m ((c.tc : Thread Cert.ReferenceKvStepIdeal.nD Cert.ReferenceKvStepIdeal.τ).loc Cert.ReferenceKvStepIdeal.main_arg0)
      ∧ r.2.mem ((c.tc : Thread Cert.ReferenceKvStepIdeal.nD Cert.ReferenceKvStepIdeal.τ).loc Cert.ReferenceKvStepIdeal.main_arg1) = m ((c.tc : Thread Cert.ReferenceKvStepIdeal.nD Cert.ReferenceKvStepIdeal.τ).loc Cert.ReferenceKvStepIdeal.main_arg1)
      ∧ r.2.mem ((c.tc : Thread Cert.ReferenceKvStepIdeal.nD Cert.ReferenceKvStepIdeal.τ).loc Cert.ReferenceKvStepIdeal.main_arg2) = m ((c.tc : Thread Cert.ReferenceKvStepIdeal.nD Cert.ReferenceKvStepIdeal.τ).loc Cert.ReferenceKvStepIdeal.main_arg2)
      ∧ r.2.mem ((c.tc : Thread Cert.ReferenceKvStepIdeal.nD Cert.ReferenceKvStepIdeal.τ).loc Cert.ReferenceKvStepIdeal.main_arg3) = m ((c.tc : Thread Cert.ReferenceKvStepIdeal.nD Cert.ReferenceKvStepIdeal.τ).loc Cert.ReferenceKvStepIdeal.main_arg3))
      ∧ r.2.sem = fun _ => 0)

def quiescent_KernelMemStep [hKernelMemStep : Cert.KernelMemStep.Facts] : Prop :=
  ∀ (m : (ℓ : Loc Cert.KernelMemStep.nD Cert.KernelMemStep.τ Cert.KernelMemStep.sig) → Buf (Elt Bits) ℓ) (g : Dev Cert.KernelMemStep.nD → PrngReg), Pre_KernelMemStep m →
    θ_run (Cert.KernelMemStep.defs (F := Bits)) (onTc (τ := Cert.KernelMemStep.τ) (Cert.KernelMemStep.main (F := Bits))) ⟨m, fun _ => 0, g⟩ (fun r => (∀ c : Dev Cert.KernelMemStep.nD,
      r.2.mem ((c.tc : Thread Cert.KernelMemStep.nD Cert.KernelMemStep.τ).loc Cert.KernelMemStep.main_arg0) = m ((c.tc : Thread Cert.KernelMemStep.nD Cert.KernelMemStep.τ).loc Cert.KernelMemStep.main_arg0)
      ∧ r.2.mem ((c.tc : Thread Cert.KernelMemStep.nD Cert.KernelMemStep.τ).loc Cert.KernelMemStep.main_arg1) = m ((c.tc : Thread Cert.KernelMemStep.nD Cert.KernelMemStep.τ).loc Cert.KernelMemStep.main_arg1)
      ∧ r.2.mem ((c.tc : Thread Cert.KernelMemStep.nD Cert.KernelMemStep.τ).loc Cert.KernelMemStep.main_arg2) = m ((c.tc : Thread Cert.KernelMemStep.nD Cert.KernelMemStep.τ).loc Cert.KernelMemStep.main_arg2)
      ∧ r.2.mem ((c.tc : Thread Cert.KernelMemStep.nD Cert.KernelMemStep.τ).loc Cert.KernelMemStep.main_arg3) = m ((c.tc : Thread Cert.KernelMemStep.nD Cert.KernelMemStep.τ).loc Cert.KernelMemStep.main_arg3)
      ∧ r.2.mem ((c.tc : Thread Cert.KernelMemStep.nD Cert.KernelMemStep.τ).loc Cert.KernelMemStep.main_arg4) = m ((c.tc : Thread Cert.KernelMemStep.nD Cert.KernelMemStep.τ).loc Cert.KernelMemStep.main_arg4))
      ∧ r.2.sem = fun _ => 0)

def quiescent_KernelMemStepIdeal [hKernelMemStepIdeal : Cert.KernelMemStepIdeal.Facts] : Prop :=
  ∀ (m : (ℓ : Loc Cert.KernelMemStepIdeal.nD Cert.KernelMemStepIdeal.τ Cert.KernelMemStepIdeal.sig) → Buf (Elt Ideal) ℓ) (g : Dev Cert.KernelMemStepIdeal.nD → PrngReg), Pre_KernelMemStepIdeal m →
    θ_run (Cert.KernelMemStepIdeal.defs (F := Ideal)) (onTc (τ := Cert.KernelMemStepIdeal.τ) (Cert.KernelMemStepIdeal.main (F := Ideal))) ⟨m, fun _ => 0, g⟩ (fun r => (∀ c : Dev Cert.KernelMemStepIdeal.nD,
      r.2.mem ((c.tc : Thread Cert.KernelMemStepIdeal.nD Cert.KernelMemStepIdeal.τ).loc Cert.KernelMemStepIdeal.main_arg0) = m ((c.tc : Thread Cert.KernelMemStepIdeal.nD Cert.KernelMemStepIdeal.τ).loc Cert.KernelMemStepIdeal.main_arg0)
      ∧ r.2.mem ((c.tc : Thread Cert.KernelMemStepIdeal.nD Cert.KernelMemStepIdeal.τ).loc Cert.KernelMemStepIdeal.main_arg1) = m ((c.tc : Thread Cert.KernelMemStepIdeal.nD Cert.KernelMemStepIdeal.τ).loc Cert.KernelMemStepIdeal.main_arg1)
      ∧ r.2.mem ((c.tc : Thread Cert.KernelMemStepIdeal.nD Cert.KernelMemStepIdeal.τ).loc Cert.KernelMemStepIdeal.main_arg2) = m ((c.tc : Thread Cert.KernelMemStepIdeal.nD Cert.KernelMemStepIdeal.τ).loc Cert.KernelMemStepIdeal.main_arg2)
      ∧ r.2.mem ((c.tc : Thread Cert.KernelMemStepIdeal.nD Cert.KernelMemStepIdeal.τ).loc Cert.KernelMemStepIdeal.main_arg3) = m ((c.tc : Thread Cert.KernelMemStepIdeal.nD Cert.KernelMemStepIdeal.τ).loc Cert.KernelMemStepIdeal.main_arg3)
      ∧ r.2.mem ((c.tc : Thread Cert.KernelMemStepIdeal.nD Cert.KernelMemStepIdeal.τ).loc Cert.KernelMemStepIdeal.main_arg4) = m ((c.tc : Thread Cert.KernelMemStepIdeal.nD Cert.KernelMemStepIdeal.τ).loc Cert.KernelMemStepIdeal.main_arg4))
      ∧ r.2.sem = fun _ => 0)

def quiescent_ReferenceMemStepIdeal [hReferenceMemStepIdeal : Cert.ReferenceMemStepIdeal.Facts] : Prop :=
  ∀ (m : (ℓ : Loc Cert.ReferenceMemStepIdeal.nD Cert.ReferenceMemStepIdeal.τ Cert.ReferenceMemStepIdeal.sig) → Buf (Elt Ideal) ℓ) (g : Dev Cert.ReferenceMemStepIdeal.nD → PrngReg), Pre_ReferenceMemStepIdeal m →
    θ_run (Cert.ReferenceMemStepIdeal.defs (F := Ideal)) (onTc (τ := Cert.ReferenceMemStepIdeal.τ) (Cert.ReferenceMemStepIdeal.main (F := Ideal))) ⟨m, fun _ => 0, g⟩ (fun r => (∀ c : Dev Cert.ReferenceMemStepIdeal.nD,
      r.2.mem ((c.tc : Thread Cert.ReferenceMemStepIdeal.nD Cert.ReferenceMemStepIdeal.τ).loc Cert.ReferenceMemStepIdeal.main_arg0) = m ((c.tc : Thread Cert.ReferenceMemStepIdeal.nD Cert.ReferenceMemStepIdeal.τ).loc Cert.ReferenceMemStepIdeal.main_arg0)
      ∧ r.2.mem ((c.tc : Thread Cert.ReferenceMemStepIdeal.nD Cert.ReferenceMemStepIdeal.τ).loc Cert.ReferenceMemStepIdeal.main_arg1) = m ((c.tc : Thread Cert.ReferenceMemStepIdeal.nD Cert.ReferenceMemStepIdeal.τ).loc Cert.ReferenceMemStepIdeal.main_arg1)
      ∧ r.2.mem ((c.tc : Thread Cert.ReferenceMemStepIdeal.nD Cert.ReferenceMemStepIdeal.τ).loc Cert.ReferenceMemStepIdeal.main_arg2) = m ((c.tc : Thread Cert.ReferenceMemStepIdeal.nD Cert.ReferenceMemStepIdeal.τ).loc Cert.ReferenceMemStepIdeal.main_arg2)
      ∧ r.2.mem ((c.tc : Thread Cert.ReferenceMemStepIdeal.nD Cert.ReferenceMemStepIdeal.τ).loc Cert.ReferenceMemStepIdeal.main_arg3) = m ((c.tc : Thread Cert.ReferenceMemStepIdeal.nD Cert.ReferenceMemStepIdeal.τ).loc Cert.ReferenceMemStepIdeal.main_arg3)
      ∧ r.2.mem ((c.tc : Thread Cert.ReferenceMemStepIdeal.nD Cert.ReferenceMemStepIdeal.τ).loc Cert.ReferenceMemStepIdeal.main_arg4) = m ((c.tc : Thread Cert.ReferenceMemStepIdeal.nD Cert.ReferenceMemStepIdeal.τ).loc Cert.ReferenceMemStepIdeal.main_arg4))
      ∧ r.2.sem = fun _ => 0)

def quiescent_KernelUpStep [hKernelUpStep : Cert.KernelUpStep.Facts] : Prop :=
  ∀ (m : (ℓ : Loc Cert.KernelUpStep.nD Cert.KernelUpStep.τ Cert.KernelUpStep.sig) → Buf (Elt Bits) ℓ) (g : Dev Cert.KernelUpStep.nD → PrngReg), Pre_KernelUpStep m →
    θ_run (Cert.KernelUpStep.defs (F := Bits)) (onTc (τ := Cert.KernelUpStep.τ) (Cert.KernelUpStep.main (F := Bits))) ⟨m, fun _ => 0, g⟩ (fun r => (∀ c : Dev Cert.KernelUpStep.nD,
      r.2.mem ((c.tc : Thread Cert.KernelUpStep.nD Cert.KernelUpStep.τ).loc Cert.KernelUpStep.main_arg0) = m ((c.tc : Thread Cert.KernelUpStep.nD Cert.KernelUpStep.τ).loc Cert.KernelUpStep.main_arg0)
      ∧ r.2.mem ((c.tc : Thread Cert.KernelUpStep.nD Cert.KernelUpStep.τ).loc Cert.KernelUpStep.main_arg1) = m ((c.tc : Thread Cert.KernelUpStep.nD Cert.KernelUpStep.τ).loc Cert.KernelUpStep.main_arg1)
      ∧ r.2.mem ((c.tc : Thread Cert.KernelUpStep.nD Cert.KernelUpStep.τ).loc Cert.KernelUpStep.main_arg2) = m ((c.tc : Thread Cert.KernelUpStep.nD Cert.KernelUpStep.τ).loc Cert.KernelUpStep.main_arg2)
      ∧ r.2.mem ((c.tc : Thread Cert.KernelUpStep.nD Cert.KernelUpStep.τ).loc Cert.KernelUpStep.main_arg3) = m ((c.tc : Thread Cert.KernelUpStep.nD Cert.KernelUpStep.τ).loc Cert.KernelUpStep.main_arg3)
      ∧ r.2.mem ((c.tc : Thread Cert.KernelUpStep.nD Cert.KernelUpStep.τ).loc Cert.KernelUpStep.main_arg4) = m ((c.tc : Thread Cert.KernelUpStep.nD Cert.KernelUpStep.τ).loc Cert.KernelUpStep.main_arg4))
      ∧ r.2.sem = fun _ => 0)

def quiescent_KernelUpStepIdeal [hKernelUpStepIdeal : Cert.KernelUpStepIdeal.Facts] : Prop :=
  ∀ (m : (ℓ : Loc Cert.KernelUpStepIdeal.nD Cert.KernelUpStepIdeal.τ Cert.KernelUpStepIdeal.sig) → Buf (Elt Ideal) ℓ) (g : Dev Cert.KernelUpStepIdeal.nD → PrngReg), Pre_KernelUpStepIdeal m →
    θ_run (Cert.KernelUpStepIdeal.defs (F := Ideal)) (onTc (τ := Cert.KernelUpStepIdeal.τ) (Cert.KernelUpStepIdeal.main (F := Ideal))) ⟨m, fun _ => 0, g⟩ (fun r => (∀ c : Dev Cert.KernelUpStepIdeal.nD,
      r.2.mem ((c.tc : Thread Cert.KernelUpStepIdeal.nD Cert.KernelUpStepIdeal.τ).loc Cert.KernelUpStepIdeal.main_arg0) = m ((c.tc : Thread Cert.KernelUpStepIdeal.nD Cert.KernelUpStepIdeal.τ).loc Cert.KernelUpStepIdeal.main_arg0)
      ∧ r.2.mem ((c.tc : Thread Cert.KernelUpStepIdeal.nD Cert.KernelUpStepIdeal.τ).loc Cert.KernelUpStepIdeal.main_arg1) = m ((c.tc : Thread Cert.KernelUpStepIdeal.nD Cert.KernelUpStepIdeal.τ).loc Cert.KernelUpStepIdeal.main_arg1)
      ∧ r.2.mem ((c.tc : Thread Cert.KernelUpStepIdeal.nD Cert.KernelUpStepIdeal.τ).loc Cert.KernelUpStepIdeal.main_arg2) = m ((c.tc : Thread Cert.KernelUpStepIdeal.nD Cert.KernelUpStepIdeal.τ).loc Cert.KernelUpStepIdeal.main_arg2)
      ∧ r.2.mem ((c.tc : Thread Cert.KernelUpStepIdeal.nD Cert.KernelUpStepIdeal.τ).loc Cert.KernelUpStepIdeal.main_arg3) = m ((c.tc : Thread Cert.KernelUpStepIdeal.nD Cert.KernelUpStepIdeal.τ).loc Cert.KernelUpStepIdeal.main_arg3)
      ∧ r.2.mem ((c.tc : Thread Cert.KernelUpStepIdeal.nD Cert.KernelUpStepIdeal.τ).loc Cert.KernelUpStepIdeal.main_arg4) = m ((c.tc : Thread Cert.KernelUpStepIdeal.nD Cert.KernelUpStepIdeal.τ).loc Cert.KernelUpStepIdeal.main_arg4))
      ∧ r.2.sem = fun _ => 0)

def quiescent_ReferenceUpStepIdeal [hReferenceUpStepIdeal : Cert.ReferenceUpStepIdeal.Facts] : Prop :=
  ∀ (m : (ℓ : Loc Cert.ReferenceUpStepIdeal.nD Cert.ReferenceUpStepIdeal.τ Cert.ReferenceUpStepIdeal.sig) → Buf (Elt Ideal) ℓ) (g : Dev Cert.ReferenceUpStepIdeal.nD → PrngReg), Pre_ReferenceUpStepIdeal m →
    θ_run (Cert.ReferenceUpStepIdeal.defs (F := Ideal)) (onTc (τ := Cert.ReferenceUpStepIdeal.τ) (Cert.ReferenceUpStepIdeal.main (F := Ideal))) ⟨m, fun _ => 0, g⟩ (fun r => (∀ c : Dev Cert.ReferenceUpStepIdeal.nD,
      r.2.mem ((c.tc : Thread Cert.ReferenceUpStepIdeal.nD Cert.ReferenceUpStepIdeal.τ).loc Cert.ReferenceUpStepIdeal.main_arg0) = m ((c.tc : Thread Cert.ReferenceUpStepIdeal.nD Cert.ReferenceUpStepIdeal.τ).loc Cert.ReferenceUpStepIdeal.main_arg0)
      ∧ r.2.mem ((c.tc : Thread Cert.ReferenceUpStepIdeal.nD Cert.ReferenceUpStepIdeal.τ).loc Cert.ReferenceUpStepIdeal.main_arg1) = m ((c.tc : Thread Cert.ReferenceUpStepIdeal.nD Cert.ReferenceUpStepIdeal.τ).loc Cert.ReferenceUpStepIdeal.main_arg1)
      ∧ r.2.mem ((c.tc : Thread Cert.ReferenceUpStepIdeal.nD Cert.ReferenceUpStepIdeal.τ).loc Cert.ReferenceUpStepIdeal.main_arg2) = m ((c.tc : Thread Cert.ReferenceUpStepIdeal.nD Cert.ReferenceUpStepIdeal.τ).loc Cert.ReferenceUpStepIdeal.main_arg2)
      ∧ r.2.mem ((c.tc : Thread Cert.ReferenceUpStepIdeal.nD Cert.ReferenceUpStepIdeal.τ).loc Cert.ReferenceUpStepIdeal.main_arg3) = m ((c.tc : Thread Cert.ReferenceUpStepIdeal.nD Cert.ReferenceUpStepIdeal.τ).loc Cert.ReferenceUpStepIdeal.main_arg3)
      ∧ r.2.mem ((c.tc : Thread Cert.ReferenceUpStepIdeal.nD Cert.ReferenceUpStepIdeal.τ).loc Cert.ReferenceUpStepIdeal.main_arg4) = m ((c.tc : Thread Cert.ReferenceUpStepIdeal.nD Cert.ReferenceUpStepIdeal.τ).loc Cert.ReferenceUpStepIdeal.main_arg4))
      ∧ r.2.sem = fun _ => 0)

def quiescent_KernelDownStep [hKernelDownStep : Cert.KernelDownStep.Facts] : Prop :=
  ∀ (m : (ℓ : Loc Cert.KernelDownStep.nD Cert.KernelDownStep.τ Cert.KernelDownStep.sig) → Buf (Elt Bits) ℓ) (g : Dev Cert.KernelDownStep.nD → PrngReg), Pre_KernelDownStep m →
    θ_run (Cert.KernelDownStep.defs (F := Bits)) (onTc (τ := Cert.KernelDownStep.τ) (Cert.KernelDownStep.main (F := Bits))) ⟨m, fun _ => 0, g⟩ (fun r => (∀ c : Dev Cert.KernelDownStep.nD,
      r.2.mem ((c.tc : Thread Cert.KernelDownStep.nD Cert.KernelDownStep.τ).loc Cert.KernelDownStep.main_arg0) = m ((c.tc : Thread Cert.KernelDownStep.nD Cert.KernelDownStep.τ).loc Cert.KernelDownStep.main_arg0)
      ∧ r.2.mem ((c.tc : Thread Cert.KernelDownStep.nD Cert.KernelDownStep.τ).loc Cert.KernelDownStep.main_arg1) = m ((c.tc : Thread Cert.KernelDownStep.nD Cert.KernelDownStep.τ).loc Cert.KernelDownStep.main_arg1)
      ∧ r.2.mem ((c.tc : Thread Cert.KernelDownStep.nD Cert.KernelDownStep.τ).loc Cert.KernelDownStep.main_arg2) = m ((c.tc : Thread Cert.KernelDownStep.nD Cert.KernelDownStep.τ).loc Cert.KernelDownStep.main_arg2)
      ∧ r.2.mem ((c.tc : Thread Cert.KernelDownStep.nD Cert.KernelDownStep.τ).loc Cert.KernelDownStep.main_arg3) = m ((c.tc : Thread Cert.KernelDownStep.nD Cert.KernelDownStep.τ).loc Cert.KernelDownStep.main_arg3)
      ∧ r.2.mem ((c.tc : Thread Cert.KernelDownStep.nD Cert.KernelDownStep.τ).loc Cert.KernelDownStep.main_arg4) = m ((c.tc : Thread Cert.KernelDownStep.nD Cert.KernelDownStep.τ).loc Cert.KernelDownStep.main_arg4))
      ∧ r.2.sem = fun _ => 0)

def quiescent_KernelDownStepIdeal [hKernelDownStepIdeal : Cert.KernelDownStepIdeal.Facts] : Prop :=
  ∀ (m : (ℓ : Loc Cert.KernelDownStepIdeal.nD Cert.KernelDownStepIdeal.τ Cert.KernelDownStepIdeal.sig) → Buf (Elt Ideal) ℓ) (g : Dev Cert.KernelDownStepIdeal.nD → PrngReg), Pre_KernelDownStepIdeal m →
    θ_run (Cert.KernelDownStepIdeal.defs (F := Ideal)) (onTc (τ := Cert.KernelDownStepIdeal.τ) (Cert.KernelDownStepIdeal.main (F := Ideal))) ⟨m, fun _ => 0, g⟩ (fun r => (∀ c : Dev Cert.KernelDownStepIdeal.nD,
      r.2.mem ((c.tc : Thread Cert.KernelDownStepIdeal.nD Cert.KernelDownStepIdeal.τ).loc Cert.KernelDownStepIdeal.main_arg0) = m ((c.tc : Thread Cert.KernelDownStepIdeal.nD Cert.KernelDownStepIdeal.τ).loc Cert.KernelDownStepIdeal.main_arg0)
      ∧ r.2.mem ((c.tc : Thread Cert.KernelDownStepIdeal.nD Cert.KernelDownStepIdeal.τ).loc Cert.KernelDownStepIdeal.main_arg1) = m ((c.tc : Thread Cert.KernelDownStepIdeal.nD Cert.KernelDownStepIdeal.τ).loc Cert.KernelDownStepIdeal.main_arg1)
      ∧ r.2.mem ((c.tc : Thread Cert.KernelDownStepIdeal.nD Cert.KernelDownStepIdeal.τ).loc Cert.KernelDownStepIdeal.main_arg2) = m ((c.tc : Thread Cert.KernelDownStepIdeal.nD Cert.KernelDownStepIdeal.τ).loc Cert.KernelDownStepIdeal.main_arg2)
      ∧ r.2.mem ((c.tc : Thread Cert.KernelDownStepIdeal.nD Cert.KernelDownStepIdeal.τ).loc Cert.KernelDownStepIdeal.main_arg3) = m ((c.tc : Thread Cert.KernelDownStepIdeal.nD Cert.KernelDownStepIdeal.τ).loc Cert.KernelDownStepIdeal.main_arg3)
      ∧ r.2.mem ((c.tc : Thread Cert.KernelDownStepIdeal.nD Cert.KernelDownStepIdeal.τ).loc Cert.KernelDownStepIdeal.main_arg4) = m ((c.tc : Thread Cert.KernelDownStepIdeal.nD Cert.KernelDownStepIdeal.τ).loc Cert.KernelDownStepIdeal.main_arg4))
      ∧ r.2.sem = fun _ => 0)

def quiescent_ReferenceDownStepIdeal [hReferenceDownStepIdeal : Cert.ReferenceDownStepIdeal.Facts] : Prop :=
  ∀ (m : (ℓ : Loc Cert.ReferenceDownStepIdeal.nD Cert.ReferenceDownStepIdeal.τ Cert.ReferenceDownStepIdeal.sig) → Buf (Elt Ideal) ℓ) (g : Dev Cert.ReferenceDownStepIdeal.nD → PrngReg), Pre_ReferenceDownStepIdeal m →
    θ_run (Cert.ReferenceDownStepIdeal.defs (F := Ideal)) (onTc (τ := Cert.ReferenceDownStepIdeal.τ) (Cert.ReferenceDownStepIdeal.main (F := Ideal))) ⟨m, fun _ => 0, g⟩ (fun r => (∀ c : Dev Cert.ReferenceDownStepIdeal.nD,
      r.2.mem ((c.tc : Thread Cert.ReferenceDownStepIdeal.nD Cert.ReferenceDownStepIdeal.τ).loc Cert.ReferenceDownStepIdeal.main_arg0) = m ((c.tc : Thread Cert.ReferenceDownStepIdeal.nD Cert.ReferenceDownStepIdeal.τ).loc Cert.ReferenceDownStepIdeal.main_arg0)
      ∧ r.2.mem ((c.tc : Thread Cert.ReferenceDownStepIdeal.nD Cert.ReferenceDownStepIdeal.τ).loc Cert.ReferenceDownStepIdeal.main_arg1) = m ((c.tc : Thread Cert.ReferenceDownStepIdeal.nD Cert.ReferenceDownStepIdeal.τ).loc Cert.ReferenceDownStepIdeal.main_arg1)
      ∧ r.2.mem ((c.tc : Thread Cert.ReferenceDownStepIdeal.nD Cert.ReferenceDownStepIdeal.τ).loc Cert.ReferenceDownStepIdeal.main_arg2) = m ((c.tc : Thread Cert.ReferenceDownStepIdeal.nD Cert.ReferenceDownStepIdeal.τ).loc Cert.ReferenceDownStepIdeal.main_arg2)
      ∧ r.2.mem ((c.tc : Thread Cert.ReferenceDownStepIdeal.nD Cert.ReferenceDownStepIdeal.τ).loc Cert.ReferenceDownStepIdeal.main_arg3) = m ((c.tc : Thread Cert.ReferenceDownStepIdeal.nD Cert.ReferenceDownStepIdeal.τ).loc Cert.ReferenceDownStepIdeal.main_arg3)
      ∧ r.2.mem ((c.tc : Thread Cert.ReferenceDownStepIdeal.nD Cert.ReferenceDownStepIdeal.τ).loc Cert.ReferenceDownStepIdeal.main_arg4) = m ((c.tc : Thread Cert.ReferenceDownStepIdeal.nD Cert.ReferenceDownStepIdeal.τ).loc Cert.ReferenceDownStepIdeal.main_arg4))
      ∧ r.2.sem = fun _ => 0)

def quiescent_KernelSmallStep [hKernelSmallStep : Cert.KernelSmallStep.Facts] : Prop :=
  ∀ (m : (ℓ : Loc Cert.KernelSmallStep.nD Cert.KernelSmallStep.τ Cert.KernelSmallStep.sig) → Buf (Elt Bits) ℓ) (g : Dev Cert.KernelSmallStep.nD → PrngReg), Pre_KernelSmallStep m →
    θ_run (Cert.KernelSmallStep.defs (F := Bits)) (onTc (τ := Cert.KernelSmallStep.τ) (Cert.KernelSmallStep.main (F := Bits))) ⟨m, fun _ => 0, g⟩ (fun r => (∀ c : Dev Cert.KernelSmallStep.nD,
      r.2.mem ((c.tc : Thread Cert.KernelSmallStep.nD Cert.KernelSmallStep.τ).loc Cert.KernelSmallStep.main_arg0) = m ((c.tc : Thread Cert.KernelSmallStep.nD Cert.KernelSmallStep.τ).loc Cert.KernelSmallStep.main_arg0)
      ∧ r.2.mem ((c.tc : Thread Cert.KernelSmallStep.nD Cert.KernelSmallStep.τ).loc Cert.KernelSmallStep.main_arg1) = m ((c.tc : Thread Cert.KernelSmallStep.nD Cert.KernelSmallStep.τ).loc Cert.KernelSmallStep.main_arg1)
      ∧ r.2.mem ((c.tc : Thread Cert.KernelSmallStep.nD Cert.KernelSmallStep.τ).loc Cert.KernelSmallStep.main_arg2) = m ((c.tc : Thread Cert.KernelSmallStep.nD Cert.KernelSmallStep.τ).loc Cert.KernelSmallStep.main_arg2)
      ∧ r.2.mem ((c.tc : Thread Cert.KernelSmallStep.nD Cert.KernelSmallStep.τ).loc Cert.KernelSmallStep.main_arg3) = m ((c.tc : Thread Cert.KernelSmallStep.nD Cert.KernelSmallStep.τ).loc Cert.KernelSmallStep.main_arg3))
      ∧ r.2.sem = fun _ => 0)

def quiescent_KernelSmallStepIdeal [hKernelSmallStepIdeal : Cert.KernelSmallStepIdeal.Facts] : Prop :=
  ∀ (m : (ℓ : Loc Cert.KernelSmallStepIdeal.nD Cert.KernelSmallStepIdeal.τ Cert.KernelSmallStepIdeal.sig) → Buf (Elt Ideal) ℓ) (g : Dev Cert.KernelSmallStepIdeal.nD → PrngReg), Pre_KernelSmallStepIdeal m →
    θ_run (Cert.KernelSmallStepIdeal.defs (F := Ideal)) (onTc (τ := Cert.KernelSmallStepIdeal.τ) (Cert.KernelSmallStepIdeal.main (F := Ideal))) ⟨m, fun _ => 0, g⟩ (fun r => (∀ c : Dev Cert.KernelSmallStepIdeal.nD,
      r.2.mem ((c.tc : Thread Cert.KernelSmallStepIdeal.nD Cert.KernelSmallStepIdeal.τ).loc Cert.KernelSmallStepIdeal.main_arg0) = m ((c.tc : Thread Cert.KernelSmallStepIdeal.nD Cert.KernelSmallStepIdeal.τ).loc Cert.KernelSmallStepIdeal.main_arg0)
      ∧ r.2.mem ((c.tc : Thread Cert.KernelSmallStepIdeal.nD Cert.KernelSmallStepIdeal.τ).loc Cert.KernelSmallStepIdeal.main_arg1) = m ((c.tc : Thread Cert.KernelSmallStepIdeal.nD Cert.KernelSmallStepIdeal.τ).loc Cert.KernelSmallStepIdeal.main_arg1)
      ∧ r.2.mem ((c.tc : Thread Cert.KernelSmallStepIdeal.nD Cert.KernelSmallStepIdeal.τ).loc Cert.KernelSmallStepIdeal.main_arg2) = m ((c.tc : Thread Cert.KernelSmallStepIdeal.nD Cert.KernelSmallStepIdeal.τ).loc Cert.KernelSmallStepIdeal.main_arg2)
      ∧ r.2.mem ((c.tc : Thread Cert.KernelSmallStepIdeal.nD Cert.KernelSmallStepIdeal.τ).loc Cert.KernelSmallStepIdeal.main_arg3) = m ((c.tc : Thread Cert.KernelSmallStepIdeal.nD Cert.KernelSmallStepIdeal.τ).loc Cert.KernelSmallStepIdeal.main_arg3))
      ∧ r.2.sem = fun _ => 0)

def quiescent_ReferenceSmallStepIdeal [hReferenceSmallStepIdeal : Cert.ReferenceSmallStepIdeal.Facts] : Prop :=
  ∀ (m : (ℓ : Loc Cert.ReferenceSmallStepIdeal.nD Cert.ReferenceSmallStepIdeal.τ Cert.ReferenceSmallStepIdeal.sig) → Buf (Elt Ideal) ℓ) (g : Dev Cert.ReferenceSmallStepIdeal.nD → PrngReg), Pre_ReferenceSmallStepIdeal m →
    θ_run (Cert.ReferenceSmallStepIdeal.defs (F := Ideal)) (onTc (τ := Cert.ReferenceSmallStepIdeal.τ) (Cert.ReferenceSmallStepIdeal.main (F := Ideal))) ⟨m, fun _ => 0, g⟩ (fun r => (∀ c : Dev Cert.ReferenceSmallStepIdeal.nD,
      r.2.mem ((c.tc : Thread Cert.ReferenceSmallStepIdeal.nD Cert.ReferenceSmallStepIdeal.τ).loc Cert.ReferenceSmallStepIdeal.main_arg0) = m ((c.tc : Thread Cert.ReferenceSmallStepIdeal.nD Cert.ReferenceSmallStepIdeal.τ).loc Cert.ReferenceSmallStepIdeal.main_arg0)
      ∧ r.2.mem ((c.tc : Thread Cert.ReferenceSmallStepIdeal.nD Cert.ReferenceSmallStepIdeal.τ).loc Cert.ReferenceSmallStepIdeal.main_arg1) = m ((c.tc : Thread Cert.ReferenceSmallStepIdeal.nD Cert.ReferenceSmallStepIdeal.τ).loc Cert.ReferenceSmallStepIdeal.main_arg1)
      ∧ r.2.mem ((c.tc : Thread Cert.ReferenceSmallStepIdeal.nD Cert.ReferenceSmallStepIdeal.τ).loc Cert.ReferenceSmallStepIdeal.main_arg2) = m ((c.tc : Thread Cert.ReferenceSmallStepIdeal.nD Cert.ReferenceSmallStepIdeal.τ).loc Cert.ReferenceSmallStepIdeal.main_arg2)
      ∧ r.2.mem ((c.tc : Thread Cert.ReferenceSmallStepIdeal.nD Cert.ReferenceSmallStepIdeal.τ).loc Cert.ReferenceSmallStepIdeal.main_arg3) = m ((c.tc : Thread Cert.ReferenceSmallStepIdeal.nD Cert.ReferenceSmallStepIdeal.τ).loc Cert.ReferenceSmallStepIdeal.main_arg3))
      ∧ r.2.sem = fun _ => 0)

def quiescent_KernelSharedStep [hKernelSharedStep : Cert.KernelSharedStep.Facts] : Prop :=
  ∀ (m : (ℓ : Loc Cert.KernelSharedStep.nD Cert.KernelSharedStep.τ Cert.KernelSharedStep.sig) → Buf (Elt Bits) ℓ) (g : Dev Cert.KernelSharedStep.nD → PrngReg), Pre_KernelSharedStep m →
    θ_run (Cert.KernelSharedStep.defs (F := Bits)) (onTc (τ := Cert.KernelSharedStep.τ) (Cert.KernelSharedStep.main (F := Bits))) ⟨m, fun _ => 0, g⟩ (fun r => (∀ c : Dev Cert.KernelSharedStep.nD,
      r.2.mem ((c.tc : Thread Cert.KernelSharedStep.nD Cert.KernelSharedStep.τ).loc Cert.KernelSharedStep.main_arg0) = m ((c.tc : Thread Cert.KernelSharedStep.nD Cert.KernelSharedStep.τ).loc Cert.KernelSharedStep.main_arg0)
      ∧ r.2.mem ((c.tc : Thread Cert.KernelSharedStep.nD Cert.KernelSharedStep.τ).loc Cert.KernelSharedStep.main_arg1) = m ((c.tc : Thread Cert.KernelSharedStep.nD Cert.KernelSharedStep.τ).loc Cert.KernelSharedStep.main_arg1)
      ∧ r.2.mem ((c.tc : Thread Cert.KernelSharedStep.nD Cert.KernelSharedStep.τ).loc Cert.KernelSharedStep.main_arg2) = m ((c.tc : Thread Cert.KernelSharedStep.nD Cert.KernelSharedStep.τ).loc Cert.KernelSharedStep.main_arg2)
      ∧ r.2.mem ((c.tc : Thread Cert.KernelSharedStep.nD Cert.KernelSharedStep.τ).loc Cert.KernelSharedStep.main_arg3) = m ((c.tc : Thread Cert.KernelSharedStep.nD Cert.KernelSharedStep.τ).loc Cert.KernelSharedStep.main_arg3))
      ∧ r.2.sem = fun _ => 0)

def quiescent_KernelSharedStepIdeal [hKernelSharedStepIdeal : Cert.KernelSharedStepIdeal.Facts] : Prop :=
  ∀ (m : (ℓ : Loc Cert.KernelSharedStepIdeal.nD Cert.KernelSharedStepIdeal.τ Cert.KernelSharedStepIdeal.sig) → Buf (Elt Ideal) ℓ) (g : Dev Cert.KernelSharedStepIdeal.nD → PrngReg), Pre_KernelSharedStepIdeal m →
    θ_run (Cert.KernelSharedStepIdeal.defs (F := Ideal)) (onTc (τ := Cert.KernelSharedStepIdeal.τ) (Cert.KernelSharedStepIdeal.main (F := Ideal))) ⟨m, fun _ => 0, g⟩ (fun r => (∀ c : Dev Cert.KernelSharedStepIdeal.nD,
      r.2.mem ((c.tc : Thread Cert.KernelSharedStepIdeal.nD Cert.KernelSharedStepIdeal.τ).loc Cert.KernelSharedStepIdeal.main_arg0) = m ((c.tc : Thread Cert.KernelSharedStepIdeal.nD Cert.KernelSharedStepIdeal.τ).loc Cert.KernelSharedStepIdeal.main_arg0)
      ∧ r.2.mem ((c.tc : Thread Cert.KernelSharedStepIdeal.nD Cert.KernelSharedStepIdeal.τ).loc Cert.KernelSharedStepIdeal.main_arg1) = m ((c.tc : Thread Cert.KernelSharedStepIdeal.nD Cert.KernelSharedStepIdeal.τ).loc Cert.KernelSharedStepIdeal.main_arg1)
      ∧ r.2.mem ((c.tc : Thread Cert.KernelSharedStepIdeal.nD Cert.KernelSharedStepIdeal.τ).loc Cert.KernelSharedStepIdeal.main_arg2) = m ((c.tc : Thread Cert.KernelSharedStepIdeal.nD Cert.KernelSharedStepIdeal.τ).loc Cert.KernelSharedStepIdeal.main_arg2)
      ∧ r.2.mem ((c.tc : Thread Cert.KernelSharedStepIdeal.nD Cert.KernelSharedStepIdeal.τ).loc Cert.KernelSharedStepIdeal.main_arg3) = m ((c.tc : Thread Cert.KernelSharedStepIdeal.nD Cert.KernelSharedStepIdeal.τ).loc Cert.KernelSharedStepIdeal.main_arg3))
      ∧ r.2.sem = fun _ => 0)

def quiescent_ReferenceSharedStepIdeal [hReferenceSharedStepIdeal : Cert.ReferenceSharedStepIdeal.Facts] : Prop :=
  ∀ (m : (ℓ : Loc Cert.ReferenceSharedStepIdeal.nD Cert.ReferenceSharedStepIdeal.τ Cert.ReferenceSharedStepIdeal.sig) → Buf (Elt Ideal) ℓ) (g : Dev Cert.ReferenceSharedStepIdeal.nD → PrngReg), Pre_ReferenceSharedStepIdeal m →
    θ_run (Cert.ReferenceSharedStepIdeal.defs (F := Ideal)) (onTc (τ := Cert.ReferenceSharedStepIdeal.τ) (Cert.ReferenceSharedStepIdeal.main (F := Ideal))) ⟨m, fun _ => 0, g⟩ (fun r => (∀ c : Dev Cert.ReferenceSharedStepIdeal.nD,
      r.2.mem ((c.tc : Thread Cert.ReferenceSharedStepIdeal.nD Cert.ReferenceSharedStepIdeal.τ).loc Cert.ReferenceSharedStepIdeal.main_arg0) = m ((c.tc : Thread Cert.ReferenceSharedStepIdeal.nD Cert.ReferenceSharedStepIdeal.τ).loc Cert.ReferenceSharedStepIdeal.main_arg0)
      ∧ r.2.mem ((c.tc : Thread Cert.ReferenceSharedStepIdeal.nD Cert.ReferenceSharedStepIdeal.τ).loc Cert.ReferenceSharedStepIdeal.main_arg1) = m ((c.tc : Thread Cert.ReferenceSharedStepIdeal.nD Cert.ReferenceSharedStepIdeal.τ).loc Cert.ReferenceSharedStepIdeal.main_arg1)
      ∧ r.2.mem ((c.tc : Thread Cert.ReferenceSharedStepIdeal.nD Cert.ReferenceSharedStepIdeal.τ).loc Cert.ReferenceSharedStepIdeal.main_arg2) = m ((c.tc : Thread Cert.ReferenceSharedStepIdeal.nD Cert.ReferenceSharedStepIdeal.τ).loc Cert.ReferenceSharedStepIdeal.main_arg2)
      ∧ r.2.mem ((c.tc : Thread Cert.ReferenceSharedStepIdeal.nD Cert.ReferenceSharedStepIdeal.τ).loc Cert.ReferenceSharedStepIdeal.main_arg3) = m ((c.tc : Thread Cert.ReferenceSharedStepIdeal.nD Cert.ReferenceSharedStepIdeal.τ).loc Cert.ReferenceSharedStepIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v8) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v6) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelSquareDw_KernelSquareDwIdeal : Prop :=
  True

def algebraic_KernelSquareDwIdeal_ReferenceSquareDwIdeal [hKernelSquareDwIdeal : Cert.KernelSquareDwIdeal.Facts] [hReferenceSquareDwIdeal : Cert.ReferenceSquareDwIdeal.Facts] : Prop :=
  ∀ (m : (ℓ : Loc Cert.KernelSquareDwIdeal.nD Cert.KernelSquareDwIdeal.τ Cert.KernelSquareDwIdeal.sig) → Buf (Elt Ideal) ℓ) (g : Dev Cert.KernelSquareDwIdeal.nD → PrngReg)
    (m' : (ℓ : Loc Cert.ReferenceSquareDwIdeal.nD Cert.ReferenceSquareDwIdeal.τ Cert.ReferenceSquareDwIdeal.sig) → Buf (Elt Ideal) ℓ) (g' : Dev Cert.ReferenceSquareDwIdeal.nD → PrngReg), Pre_KernelSquareDwIdeal m →
    (∀ c : Dev Cert.KernelSquareDwIdeal.nD,
      m' ((c.tc : Thread Cert.ReferenceSquareDwIdeal.nD Cert.ReferenceSquareDwIdeal.τ).loc Cert.ReferenceSquareDwIdeal.main_arg0) = m ((c.tc : Thread Cert.KernelSquareDwIdeal.nD Cert.KernelSquareDwIdeal.τ).loc Cert.KernelSquareDwIdeal.main_arg0)
      ∧ m' ((c.tc : Thread Cert.ReferenceSquareDwIdeal.nD Cert.ReferenceSquareDwIdeal.τ).loc Cert.ReferenceSquareDwIdeal.main_arg1) = m ((c.tc : Thread Cert.KernelSquareDwIdeal.nD Cert.KernelSquareDwIdeal.τ).loc Cert.KernelSquareDwIdeal.main_arg1)) →
    ∃ (v0 : (c : Dev Cert.KernelSquareDwIdeal.nD) → Buf (Elt Ideal) ((c.tc : Thread Cert.KernelSquareDwIdeal.nD Cert.KernelSquareDwIdeal.τ).loc Cert.KernelSquareDwIdeal.main_v0)),
      θ_run (Cert.KernelSquareDwIdeal.defs (F := Ideal)) (onTc (τ := Cert.KernelSquareDwIdeal.τ) (Cert.KernelSquareDwIdeal.main (F := Ideal))) ⟨m, fun _ => 0, g⟩ (fun r => ∀ c : Dev Cert.KernelSquareDwIdeal.nD,
          r.2.mem ((c.tc : Thread Cert.KernelSquareDwIdeal.nD Cert.KernelSquareDwIdeal.τ).loc Cert.KernelSquareDwIdeal.main_v0) = v0 c
          ∧ r.2.mem ((c.tc : Thread Cert.KernelSquareDwIdeal.nD Cert.KernelSquareDwIdeal.τ).loc Cert.KernelSquareDwIdeal.main_arg0) = m ((c.tc : Thread Cert.KernelSquareDwIdeal.nD Cert.KernelSquareDwIdeal.τ).loc Cert.KernelSquareDwIdeal.main_arg0)
          ∧ r.2.mem ((c.tc : Thread Cert.KernelSquareDwIdeal.nD Cert.KernelSquareDwIdeal.τ).loc Cert.KernelSquareDwIdeal.main_arg1) = m ((c.tc : Thread Cert.KernelSquareDwIdeal.nD Cert.KernelSquareDwIdeal.τ).loc Cert.KernelSquareDwIdeal.main_arg1))
      ∧ θ_run (Cert.ReferenceSquareDwIdeal.defs (F := Ideal)) (onTc (τ := Cert.ReferenceSquareDwIdeal.τ) (Cert.ReferenceSquareDwIdeal.main (F := Ideal))) ⟨m', fun _ => 0, g'⟩ (fun r => ∀ c : Dev Cert.ReferenceSquareDwIdeal.nD,
          r.2.mem ((c.tc : Thread Cert.ReferenceSquareDwIdeal.nD Cert.ReferenceSquareDwIdeal.τ).loc Cert.ReferenceSquareDwIdeal.main_v6) = v0 c
          ∧ r.2.mem ((c.tc : Thread Cert.ReferenceSquareDwIdeal.nD Cert.ReferenceSquareDwIdeal.τ).loc Cert.ReferenceSquareDwIdeal.main_arg0) = m' ((c.tc : Thread Cert.ReferenceSquareDwIdeal.nD Cert.ReferenceSquareDwIdeal.τ).loc Cert.ReferenceSquareDwIdeal.main_arg0)
          ∧ r.2.mem ((c.tc : Thread Cert.ReferenceSquareDwIdeal.nD Cert.ReferenceSquareDwIdeal.τ).loc Cert.ReferenceSquareDwIdeal.main_arg1) = m' ((c.tc : Thread Cert.ReferenceSquareDwIdeal.nD Cert.ReferenceSquareDwIdeal.τ).loc Cert.ReferenceSquareDwIdeal.main_arg1))

def preserves_KernelKvDw_KernelKvDwIdeal : Prop :=
  True

def algebraic_KernelKvDwIdeal_ReferenceKvDwIdeal [hKernelKvDwIdeal : Cert.KernelKvDwIdeal.Facts] [hReferenceKvDwIdeal : Cert.ReferenceKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg)
    (m' : (ℓ : Loc Cert.ReferenceKvDwIdeal.nD Cert.ReferenceKvDwIdeal.τ Cert.ReferenceKvDwIdeal.sig) → Buf (Elt Ideal) ℓ) (g' : Dev Cert.ReferenceKvDwIdeal.nD → PrngReg), Pre_KernelKvDwIdeal m →
    (∀ c : Dev Cert.KernelKvDwIdeal.nD,
      m' ((c.tc : Thread Cert.ReferenceKvDwIdeal.nD Cert.ReferenceKvDwIdeal.τ).loc Cert.ReferenceKvDwIdeal.main_arg0) = m ((c.tc : Thread Cert.KernelKvDwIdeal.nD Cert.KernelKvDwIdeal.τ).loc Cert.KernelKvDwIdeal.main_arg0)
      ∧ m' ((c.tc : Thread Cert.ReferenceKvDwIdeal.nD Cert.ReferenceKvDwIdeal.τ).loc Cert.ReferenceKvDwIdeal.main_arg1) = m ((c.tc : Thread Cert.KernelKvDwIdeal.nD Cert.KernelKvDwIdeal.τ).loc Cert.KernelKvDwIdeal.main_arg1)) →
    ∃ (v0 : (c : Dev Cert.KernelKvDwIdeal.nD) → Buf (Elt Ideal) ((c.tc : Thread Cert.KernelKvDwIdeal.nD Cert.KernelKvDwIdeal.τ).loc Cert.KernelKvDwIdeal.main_v0)),
      θ_run (Cert.KernelKvDwIdeal.defs (F := Ideal)) (onTc (τ := Cert.KernelKvDwIdeal.τ) (Cert.KernelKvDwIdeal.main (F := Ideal))) ⟨m, fun _ => 0, g⟩ (fun r => ∀ c : Dev Cert.KernelKvDwIdeal.nD,
          r.2.mem ((c.tc : Thread Cert.KernelKvDwIdeal.nD Cert.KernelKvDwIdeal.τ).loc Cert.KernelKvDwIdeal.main_v0) = v0 c
          ∧ r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
          ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ θ_run (Cert.ReferenceKvDwIdeal.defs (F := Ideal)) (onTc (τ := Cert.ReferenceKvDwIdeal.τ) (Cert.ReferenceKvDwIdeal.main (F := Ideal))) ⟨m', fun _ => 0, g'⟩ (fun r => ∀ c : Dev Cert.ReferenceKvDwIdeal.nD,
          r.2.mem ((c.tc : Thread Cert.ReferenceKvDwIdeal.nD Cert.ReferenceKvDwIdeal.τ).loc Cert.ReferenceKvDwIdeal.main_v6) = v0 c
          ∧ r.2.mem ((c.tc : Thread Cert.ReferenceKvDwIdeal.nD Cert.ReferenceKvDwIdeal.τ).loc Cert.ReferenceKvDwIdeal.main_arg0) = m' ((c.tc : Thread Cert.ReferenceKvDwIdeal.nD Cert.ReferenceKvDwIdeal.τ).loc Cert.ReferenceKvDwIdeal.main_arg0)
          ∧ r.2.mem ((c.tc : Thread Cert.ReferenceKvDwIdeal.nD Cert.ReferenceKvDwIdeal.τ).loc Cert.ReferenceKvDwIdeal.main_arg1) = m' ((c.tc : Thread Cert.ReferenceKvDwIdeal.nD Cert.ReferenceKvDwIdeal.τ).loc Cert.ReferenceKvDwIdeal.main_arg1))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v0)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v0) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v5) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v0_0)) (v1 : (c : Dev Cert.KernelOutDxIdeal.nD) → Buf (Elt Ideal) ((c.tc : Thread Cert.KernelOutDxIdeal.nD Cert.KernelOutDxIdeal.τ).loc Cert.KernelOutDxIdeal.main_v0_1)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v0_0) = v0 c
          ∧ r.2.mem ((c.tc : Thread Cert.KernelOutDxIdeal.nD Cert.KernelOutDxIdeal.τ).loc Cert.KernelOutDxIdeal.main_v0_1) = v1 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v4) = v0 c
          ∧ r.2.mem ((c.tc : Thread Cert.ReferenceOutDxIdeal.nD Cert.ReferenceOutDxIdeal.τ).loc Cert.ReferenceOutDxIdeal.main_v5) = v1 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)
      ∧ m' ((c.tc : Thread Cert.ReferenceInDxIdeal.nD Cert.ReferenceInDxIdeal.τ).loc Cert.ReferenceInDxIdeal.main_arg2) = m ((c.tc : Thread Cert.KernelInDxIdeal.nD Cert.KernelInDxIdeal.τ).loc Cert.KernelInDxIdeal.main_arg2)) →
    ∃ (v0 : (c : Dev Cert.KernelInDxIdeal.nD) → Buf (Elt Ideal) ((c.tc : Thread Cert.KernelInDxIdeal.nD Cert.KernelInDxIdeal.τ).loc Cert.KernelInDxIdeal.main_v0)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
          ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v9) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1)
          ∧ r.2.mem ((c.tc : Thread Cert.ReferenceInDxIdeal.nD Cert.ReferenceInDxIdeal.τ).loc Cert.ReferenceInDxIdeal.main_arg2) = m' ((c.tc : Thread Cert.ReferenceInDxIdeal.nD Cert.ReferenceInDxIdeal.τ).loc Cert.ReferenceInDxIdeal.main_arg2))

def preserves_KernelUpNorm_KernelUpNormIdeal : Prop :=
  True

def algebraic_KernelUpNormIdeal_ReferenceUpNormIdeal_pre_finite_up_norm [hKernelUpNormIdeal : Cert.KernelUpNormIdeal.Facts] [hReferenceUpNormIdeal : Cert.ReferenceUpNormIdeal.Facts] [hPre_finite_up_norm : Cert.Pre_finite_up_norm.Facts] : Prop :=
  ∀ (m : (ℓ : Loc Cert.KernelUpNormIdeal.nD Cert.KernelUpNormIdeal.τ Cert.KernelUpNormIdeal.sig) → Buf (Elt Ideal) ℓ) (g : Dev Cert.KernelUpNormIdeal.nD → PrngReg)
    (m' : (ℓ : Loc Cert.ReferenceUpNormIdeal.nD Cert.ReferenceUpNormIdeal.τ Cert.ReferenceUpNormIdeal.sig) → Buf (Elt Ideal) ℓ) (g' : Dev Cert.ReferenceUpNormIdeal.nD → PrngReg), Pre_KernelUpNormIdeal_finite_up_norm m →
    (∀ c : Dev Cert.KernelUpNormIdeal.nD,
      m' ((c.tc : Thread Cert.ReferenceUpNormIdeal.nD Cert.ReferenceUpNormIdeal.τ).loc Cert.ReferenceUpNormIdeal.main_arg0) = m ((c.tc : Thread Cert.KernelUpNormIdeal.nD Cert.KernelUpNormIdeal.τ).loc Cert.KernelUpNormIdeal.main_arg0)
      ∧ m' ((c.tc : Thread Cert.ReferenceUpNormIdeal.nD Cert.ReferenceUpNormIdeal.τ).loc Cert.ReferenceUpNormIdeal.main_arg1) = m ((c.tc : Thread Cert.KernelUpNormIdeal.nD Cert.KernelUpNormIdeal.τ).loc Cert.KernelUpNormIdeal.main_arg1)
      ∧ m' ((c.tc : Thread Cert.ReferenceUpNormIdeal.nD Cert.ReferenceUpNormIdeal.τ).loc Cert.ReferenceUpNormIdeal.main_arg2) = m ((c.tc : Thread Cert.KernelUpNormIdeal.nD Cert.KernelUpNormIdeal.τ).loc Cert.KernelUpNormIdeal.main_arg2)
      ∧ m' ((c.tc : Thread Cert.ReferenceUpNormIdeal.nD Cert.ReferenceUpNormIdeal.τ).loc Cert.ReferenceUpNormIdeal.main_arg3) = m ((c.tc : Thread Cert.KernelUpNormIdeal.nD Cert.KernelUpNormIdeal.τ).loc Cert.KernelUpNormIdeal.main_arg3)
      ∧ m' ((c.tc : Thread Cert.ReferenceUpNormIdeal.nD Cert.ReferenceUpNormIdeal.τ).loc Cert.ReferenceUpNormIdeal.main_arg4) = m ((c.tc : Thread Cert.KernelUpNormIdeal.nD Cert.KernelUpNormIdeal.τ).loc Cert.KernelUpNormIdeal.main_arg4)
      ∧ m' ((c.tc : Thread Cert.ReferenceUpNormIdeal.nD Cert.ReferenceUpNormIdeal.τ).loc Cert.ReferenceUpNormIdeal.main_arg5) = m ((c.tc : Thread Cert.KernelUpNormIdeal.nD Cert.KernelUpNormIdeal.τ).loc Cert.KernelUpNormIdeal.main_arg5)) →
    ∃ (v0 : (c : Dev Cert.KernelUpNormIdeal.nD) → Buf (Elt Ideal) ((c.tc : Thread Cert.KernelUpNormIdeal.nD Cert.KernelUpNormIdeal.τ).loc Cert.KernelUpNormIdeal.main_v19_0)) (v1 : (c : Dev Cert.KernelUpNormIdeal.nD) → Buf (Elt Ideal) ((c.tc : Thread Cert.KernelUpNormIdeal.nD Cert.KernelUpNormIdeal.τ).loc Cert.KernelUpNormIdeal.main_v19_1)) (v2 : (c : Dev Cert.KernelUpNormIdeal.nD) → Buf (Elt Ideal) ((c.tc : Thread Cert.KernelUpNormIdeal.nD Cert.KernelUpNormIdeal.τ).loc Cert.KernelUpNormIdeal.main_v19_2)) (v3 : (c : Dev Cert.KernelUpNormIdeal.nD) → Buf (Elt Ideal) ((c.tc : Thread Cert.KernelUpNormIdeal.nD Cert.KernelUpNormIdeal.τ).loc Cert.KernelUpNormIdeal.main_v19_3)),
      θ_run (Cert.KernelUpNormIdeal.defs (F := Ideal)) (onTc (τ := Cert.KernelUpNormIdeal.τ) (Cert.KernelUpNormIdeal.main (F := Ideal))) ⟨m, fun _ => 0, g⟩ (fun r => ∀ c : Dev Cert.KernelUpNormIdeal.nD,
          r.2.mem ((c.tc : Thread Cert.KernelUpNormIdeal.nD Cert.KernelUpNormIdeal.τ).loc Cert.KernelUpNormIdeal.main_v19_0) = v0 c
          ∧ r.2.mem ((c.tc : Thread Cert.KernelUpNormIdeal.nD Cert.KernelUpNormIdeal.τ).loc Cert.KernelUpNormIdeal.main_v19_1) = v1 c
          ∧ r.2.mem ((c.tc : Thread Cert.KernelUpNormIdeal.nD Cert.KernelUpNormIdeal.τ).loc Cert.KernelUpNormIdeal.main_v19_2) = v2 c
          ∧ r.2.mem ((c.tc : Thread Cert.KernelUpNormIdeal.nD Cert.KernelUpNormIdeal.τ).loc Cert.KernelUpNormIdeal.main_v19_3) = v3 c
          ∧ r.2.mem ((c.tc : Thread Cert.KernelUpNormIdeal.nD Cert.KernelUpNormIdeal.τ).loc Cert.KernelUpNormIdeal.main_arg0) = m ((c.tc : Thread Cert.KernelUpNormIdeal.nD Cert.KernelUpNormIdeal.τ).loc Cert.KernelUpNormIdeal.main_arg0)
          ∧ r.2.mem ((c.tc : Thread Cert.KernelUpNormIdeal.nD Cert.KernelUpNormIdeal.τ).loc Cert.KernelUpNormIdeal.main_arg1) = m ((c.tc : Thread Cert.KernelUpNormIdeal.nD Cert.KernelUpNormIdeal.τ).loc Cert.KernelUpNormIdeal.main_arg1)
          ∧ r.2.mem ((c.tc : Thread Cert.KernelUpNormIdeal.nD Cert.KernelUpNormIdeal.τ).loc Cert.KernelUpNormIdeal.main_arg2) = m ((c.tc : Thread Cert.KernelUpNormIdeal.nD Cert.KernelUpNormIdeal.τ).loc Cert.KernelUpNormIdeal.main_arg2)
          ∧ r.2.mem ((c.tc : Thread Cert.KernelUpNormIdeal.nD Cert.KernelUpNormIdeal.τ).loc Cert.KernelUpNormIdeal.main_arg3) = m ((c.tc : Thread Cert.KernelUpNormIdeal.nD Cert.KernelUpNormIdeal.τ).loc Cert.KernelUpNormIdeal.main_arg3)
          ∧ r.2.mem ((c.tc : Thread Cert.KernelUpNormIdeal.nD Cert.KernelUpNormIdeal.τ).loc Cert.KernelUpNormIdeal.main_arg4) = m ((c.tc : Thread Cert.KernelUpNormIdeal.nD Cert.KernelUpNormIdeal.τ).loc Cert.KernelUpNormIdeal.main_arg4)
          ∧ r.2.mem ((c.tc : Thread Cert.KernelUpNormIdeal.nD Cert.KernelUpNormIdeal.τ).loc Cert.KernelUpNormIdeal.main_arg5) = m ((c.tc : Thread Cert.KernelUpNormIdeal.nD Cert.KernelUpNormIdeal.τ).loc Cert.KernelUpNormIdeal.main_arg5))
      ∧ θ_run (Cert.ReferenceUpNormIdeal.defs (F := Ideal)) (onTc (τ := Cert.ReferenceUpNormIdeal.τ) (Cert.ReferenceUpNormIdeal.main (F := Ideal))) ⟨m', fun _ => 0, g'⟩ (fun r => ∀ c : Dev Cert.ReferenceUpNormIdeal.nD,
          r.2.mem ((c.tc : Thread Cert.ReferenceUpNormIdeal.nD Cert.ReferenceUpNormIdeal.τ).loc Cert.ReferenceUpNormIdeal.main_v70) = v0 c
          ∧ r.2.mem ((c.tc : Thread Cert.ReferenceUpNormIdeal.nD Cert.ReferenceUpNormIdeal.τ).loc Cert.ReferenceUpNormIdeal.main_v71) = v1 c
          ∧ r.2.mem ((c.tc : Thread Cert.ReferenceUpNormIdeal.nD Cert.ReferenceUpNormIdeal.τ).loc Cert.ReferenceUpNormIdeal.main_v44) = v2 c
          ∧ r.2.mem ((c.tc : Thread Cert.ReferenceUpNormIdeal.nD Cert.ReferenceUpNormIdeal.τ).loc Cert.ReferenceUpNormIdeal.main_v41) = v3 c
          ∧ r.2.mem ((c.tc : Thread Cert.ReferenceUpNormIdeal.nD Cert.ReferenceUpNormIdeal.τ).loc Cert.ReferenceUpNormIdeal.main_arg0) = m' ((c.tc : Thread Cert.ReferenceUpNormIdeal.nD Cert.ReferenceUpNormIdeal.τ).loc Cert.ReferenceUpNormIdeal.main_arg0)
          ∧ r.2.mem ((c.tc : Thread Cert.ReferenceUpNormIdeal.nD Cert.ReferenceUpNormIdeal.τ).loc Cert.ReferenceUpNormIdeal.main_arg1) = m' ((c.tc : Thread Cert.ReferenceUpNormIdeal.nD Cert.ReferenceUpNormIdeal.τ).loc Cert.ReferenceUpNormIdeal.main_arg1)
          ∧ r.2.mem ((c.tc : Thread Cert.ReferenceUpNormIdeal.nD Cert.ReferenceUpNormIdeal.τ).loc Cert.ReferenceUpNormIdeal.main_arg2) = m' ((c.tc : Thread Cert.ReferenceUpNormIdeal.nD Cert.ReferenceUpNormIdeal.τ).loc Cert.ReferenceUpNormIdeal.main_arg2)
          ∧ r.2.mem ((c.tc : Thread Cert.ReferenceUpNormIdeal.nD Cert.ReferenceUpNormIdeal.τ).loc Cert.ReferenceUpNormIdeal.main_arg3) = m' ((c.tc : Thread Cert.ReferenceUpNormIdeal.nD Cert.ReferenceUpNormIdeal.τ).loc Cert.ReferenceUpNormIdeal.main_arg3)
          ∧ r.2.mem ((c.tc : Thread Cert.ReferenceUpNormIdeal.nD Cert.ReferenceUpNormIdeal.τ).loc Cert.ReferenceUpNormIdeal.main_arg4) = m' ((c.tc : Thread Cert.ReferenceUpNormIdeal.nD Cert.ReferenceUpNormIdeal.τ).loc Cert.ReferenceUpNormIdeal.main_arg4)
          ∧ r.2.mem ((c.tc : Thread Cert.ReferenceUpNormIdeal.nD Cert.ReferenceUpNormIdeal.τ).loc Cert.ReferenceUpNormIdeal.main_arg5) = m' ((c.tc : Thread Cert.ReferenceUpNormIdeal.nD Cert.ReferenceUpNormIdeal.τ).loc Cert.ReferenceUpNormIdeal.main_arg5))

def preserves_KernelInNorm_KernelInNormIdeal : Prop :=
  True

def algebraic_KernelInNormIdeal_ReferenceInNormIdeal_pre_finite_in_norm [hKernelInNormIdeal : Cert.KernelInNormIdeal.Facts] [hReferenceInNormIdeal : Cert.ReferenceInNormIdeal.Facts] [hPre_finite_in_norm : Cert.Pre_finite_in_norm.Facts] : Prop :=
  ∀ (m : (ℓ : Loc Cert.KernelInNormIdeal.nD Cert.KernelInNormIdeal.τ Cert.KernelInNormIdeal.sig) → Buf (Elt Ideal) ℓ) (g : Dev Cert.KernelInNormIdeal.nD → PrngReg)
    (m' : (ℓ : Loc Cert.ReferenceInNormIdeal.nD Cert.ReferenceInNormIdeal.τ Cert.ReferenceInNormIdeal.sig) → Buf (Elt Ideal) ℓ) (g' : Dev Cert.ReferenceInNormIdeal.nD → PrngReg), Pre_KernelInNormIdeal_finite_in_norm m →
    (∀ c : Dev Cert.KernelInNormIdeal.nD,
      m' ((c.tc : Thread Cert.ReferenceInNormIdeal.nD Cert.ReferenceInNormIdeal.τ).loc Cert.ReferenceInNormIdeal.main_arg0) = m ((c.tc : Thread Cert.KernelInNormIdeal.nD Cert.KernelInNormIdeal.τ).loc Cert.KernelInNormIdeal.main_arg0)
      ∧ m' ((c.tc : Thread Cert.ReferenceInNormIdeal.nD Cert.ReferenceInNormIdeal.τ).loc Cert.ReferenceInNormIdeal.main_arg1) = m ((c.tc : Thread Cert.KernelInNormIdeal.nD Cert.KernelInNormIdeal.τ).loc Cert.KernelInNormIdeal.main_arg1)
      ∧ m' ((c.tc : Thread Cert.ReferenceInNormIdeal.nD Cert.ReferenceInNormIdeal.τ).loc Cert.ReferenceInNormIdeal.main_arg2) = m ((c.tc : Thread Cert.KernelInNormIdeal.nD Cert.KernelInNormIdeal.τ).loc Cert.KernelInNormIdeal.main_arg2)
      ∧ m' ((c.tc : Thread Cert.ReferenceInNormIdeal.nD Cert.ReferenceInNormIdeal.τ).loc Cert.ReferenceInNormIdeal.main_arg3) = m ((c.tc : Thread Cert.KernelInNormIdeal.nD Cert.KernelInNormIdeal.τ).loc Cert.KernelInNormIdeal.main_arg3)
      ∧ m' ((c.tc : Thread Cert.ReferenceInNormIdeal.nD Cert.ReferenceInNormIdeal.τ).loc Cert.ReferenceInNormIdeal.main_arg4) = m ((c.tc : Thread Cert.KernelInNormIdeal.nD Cert.KernelInNormIdeal.τ).loc Cert.KernelInNormIdeal.main_arg4)
      ∧ m' ((c.tc : Thread Cert.ReferenceInNormIdeal.nD Cert.ReferenceInNormIdeal.τ).loc Cert.ReferenceInNormIdeal.main_arg5) = m ((c.tc : Thread Cert.KernelInNormIdeal.nD Cert.KernelInNormIdeal.τ).loc Cert.KernelInNormIdeal.main_arg5)
      ∧ m' ((c.tc : Thread Cert.ReferenceInNormIdeal.nD Cert.ReferenceInNormIdeal.τ).loc Cert.ReferenceInNormIdeal.main_arg6) = m ((c.tc : Thread Cert.KernelInNormIdeal.nD Cert.KernelInNormIdeal.τ).loc Cert.KernelInNormIdeal.main_arg6)) →
    ∃ (v0 : (c : Dev Cert.KernelInNormIdeal.nD) → Buf (Elt Ideal) ((c.tc : Thread Cert.KernelInNormIdeal.nD Cert.KernelInNormIdeal.τ).loc Cert.KernelInNormIdeal.main_v19_0)) (v1 : (c : Dev Cert.KernelInNormIdeal.nD) → Buf (Elt Ideal) ((c.tc : Thread Cert.KernelInNormIdeal.nD Cert.KernelInNormIdeal.τ).loc Cert.KernelInNormIdeal.main_v19_1)) (v2 : (c : Dev Cert.KernelInNormIdeal.nD) → Buf (Elt Ideal) ((c.tc : Thread Cert.KernelInNormIdeal.nD Cert.KernelInNormIdeal.τ).loc Cert.KernelInNormIdeal.main_v19_2)) (v3 : (c : Dev Cert.KernelInNormIdeal.nD) → Buf (Elt Ideal) ((c.tc : Thread Cert.KernelInNormIdeal.nD Cert.KernelInNormIdeal.τ).loc Cert.KernelInNormIdeal.main_v19_3)),
      θ_run (Cert.KernelInNormIdeal.defs (F := Ideal)) (onTc (τ := Cert.KernelInNormIdeal.τ) (Cert.KernelInNormIdeal.main (F := Ideal))) ⟨m, fun _ => 0, g⟩ (fun r => ∀ c : Dev Cert.KernelInNormIdeal.nD,
          r.2.mem ((c.tc : Thread Cert.KernelInNormIdeal.nD Cert.KernelInNormIdeal.τ).loc Cert.KernelInNormIdeal.main_v19_0) = v0 c
          ∧ r.2.mem ((c.tc : Thread Cert.KernelInNormIdeal.nD Cert.KernelInNormIdeal.τ).loc Cert.KernelInNormIdeal.main_v19_1) = v1 c
          ∧ r.2.mem ((c.tc : Thread Cert.KernelInNormIdeal.nD Cert.KernelInNormIdeal.τ).loc Cert.KernelInNormIdeal.main_v19_2) = v2 c
          ∧ r.2.mem ((c.tc : Thread Cert.KernelInNormIdeal.nD Cert.KernelInNormIdeal.τ).loc Cert.KernelInNormIdeal.main_v19_3) = v3 c
          ∧ r.2.mem ((c.tc : Thread Cert.KernelInNormIdeal.nD Cert.KernelInNormIdeal.τ).loc Cert.KernelInNormIdeal.main_arg0) = m ((c.tc : Thread Cert.KernelInNormIdeal.nD Cert.KernelInNormIdeal.τ).loc Cert.KernelInNormIdeal.main_arg0)
          ∧ r.2.mem ((c.tc : Thread Cert.KernelInNormIdeal.nD Cert.KernelInNormIdeal.τ).loc Cert.KernelInNormIdeal.main_arg1) = m ((c.tc : Thread Cert.KernelInNormIdeal.nD Cert.KernelInNormIdeal.τ).loc Cert.KernelInNormIdeal.main_arg1)
          ∧ r.2.mem ((c.tc : Thread Cert.KernelInNormIdeal.nD Cert.KernelInNormIdeal.τ).loc Cert.KernelInNormIdeal.main_arg2) = m ((c.tc : Thread Cert.KernelInNormIdeal.nD Cert.KernelInNormIdeal.τ).loc Cert.KernelInNormIdeal.main_arg2)
          ∧ r.2.mem ((c.tc : Thread Cert.KernelInNormIdeal.nD Cert.KernelInNormIdeal.τ).loc Cert.KernelInNormIdeal.main_arg3) = m ((c.tc : Thread Cert.KernelInNormIdeal.nD Cert.KernelInNormIdeal.τ).loc Cert.KernelInNormIdeal.main_arg3)
          ∧ r.2.mem ((c.tc : Thread Cert.KernelInNormIdeal.nD Cert.KernelInNormIdeal.τ).loc Cert.KernelInNormIdeal.main_arg4) = m ((c.tc : Thread Cert.KernelInNormIdeal.nD Cert.KernelInNormIdeal.τ).loc Cert.KernelInNormIdeal.main_arg4)
          ∧ r.2.mem ((c.tc : Thread Cert.KernelInNormIdeal.nD Cert.KernelInNormIdeal.τ).loc Cert.KernelInNormIdeal.main_arg5) = m ((c.tc : Thread Cert.KernelInNormIdeal.nD Cert.KernelInNormIdeal.τ).loc Cert.KernelInNormIdeal.main_arg5)
          ∧ r.2.mem ((c.tc : Thread Cert.KernelInNormIdeal.nD Cert.KernelInNormIdeal.τ).loc Cert.KernelInNormIdeal.main_arg6) = m ((c.tc : Thread Cert.KernelInNormIdeal.nD Cert.KernelInNormIdeal.τ).loc Cert.KernelInNormIdeal.main_arg6))
      ∧ θ_run (Cert.ReferenceInNormIdeal.defs (F := Ideal)) (onTc (τ := Cert.ReferenceInNormIdeal.τ) (Cert.ReferenceInNormIdeal.main (F := Ideal))) ⟨m', fun _ => 0, g'⟩ (fun r => ∀ c : Dev Cert.ReferenceInNormIdeal.nD,
          r.2.mem ((c.tc : Thread Cert.ReferenceInNormIdeal.nD Cert.ReferenceInNormIdeal.τ).loc Cert.ReferenceInNormIdeal.main_v72) = v0 c
          ∧ r.2.mem ((c.tc : Thread Cert.ReferenceInNormIdeal.nD Cert.ReferenceInNormIdeal.τ).loc Cert.ReferenceInNormIdeal.main_v73) = v1 c
          ∧ r.2.mem ((c.tc : Thread Cert.ReferenceInNormIdeal.nD Cert.ReferenceInNormIdeal.τ).loc Cert.ReferenceInNormIdeal.main_v46) = v2 c
          ∧ r.2.mem ((c.tc : Thread Cert.ReferenceInNormIdeal.nD Cert.ReferenceInNormIdeal.τ).loc Cert.ReferenceInNormIdeal.main_v43) = v3 c
          ∧ r.2.mem ((c.tc : Thread Cert.ReferenceInNormIdeal.nD Cert.ReferenceInNormIdeal.τ).loc Cert.ReferenceInNormIdeal.main_arg0) = m' ((c.tc : Thread Cert.ReferenceInNormIdeal.nD Cert.ReferenceInNormIdeal.τ).loc Cert.ReferenceInNormIdeal.main_arg0)
          ∧ r.2.mem ((c.tc : Thread Cert.ReferenceInNormIdeal.nD Cert.ReferenceInNormIdeal.τ).loc Cert.ReferenceInNormIdeal.main_arg1) = m' ((c.tc : Thread Cert.ReferenceInNormIdeal.nD Cert.ReferenceInNormIdeal.τ).loc Cert.ReferenceInNormIdeal.main_arg1)
          ∧ r.2.mem ((c.tc : Thread Cert.ReferenceInNormIdeal.nD Cert.ReferenceInNormIdeal.τ).loc Cert.ReferenceInNormIdeal.main_arg2) = m' ((c.tc : Thread Cert.ReferenceInNormIdeal.nD Cert.ReferenceInNormIdeal.τ).loc Cert.ReferenceInNormIdeal.main_arg2)
          ∧ r.2.mem ((c.tc : Thread Cert.ReferenceInNormIdeal.nD Cert.ReferenceInNormIdeal.τ).loc Cert.ReferenceInNormIdeal.main_arg3) = m' ((c.tc : Thread Cert.ReferenceInNormIdeal.nD Cert.ReferenceInNormIdeal.τ).loc Cert.ReferenceInNormIdeal.main_arg3)
          ∧ r.2.mem ((c.tc : Thread Cert.ReferenceInNormIdeal.nD Cert.ReferenceInNormIdeal.τ).loc Cert.ReferenceInNormIdeal.main_arg4) = m' ((c.tc : Thread Cert.ReferenceInNormIdeal.nD Cert.ReferenceInNormIdeal.τ).loc Cert.ReferenceInNormIdeal.main_arg4)
          ∧ r.2.mem ((c.tc : Thread Cert.ReferenceInNormIdeal.nD Cert.ReferenceInNormIdeal.τ).loc Cert.ReferenceInNormIdeal.main_arg5) = m' ((c.tc : Thread Cert.ReferenceInNormIdeal.nD Cert.ReferenceInNormIdeal.τ).loc Cert.ReferenceInNormIdeal.main_arg5)
          ∧ r.2.mem ((c.tc : Thread Cert.ReferenceInNormIdeal.nD Cert.ReferenceInNormIdeal.τ).loc Cert.ReferenceInNormIdeal.main_arg6) = m' ((c.tc : Thread Cert.ReferenceInNormIdeal.nD Cert.ReferenceInNormIdeal.τ).loc Cert.ReferenceInNormIdeal.main_arg6))

def preserves_KernelLossNorm_KernelLossNormIdeal : Prop :=
  True

def algebraic_KernelLossNormIdeal_ReferenceLossNormIdeal_pre_finite_loss_norm [hKernelLossNormIdeal : Cert.KernelLossNormIdeal.Facts] [hReferenceLossNormIdeal : Cert.ReferenceLossNormIdeal.Facts] [hPre_finite_loss_norm : Cert.Pre_finite_loss_norm.Facts] : Prop :=
  ∀ (m : (ℓ : Loc Cert.KernelLossNormIdeal.nD Cert.KernelLossNormIdeal.τ Cert.KernelLossNormIdeal.sig) → Buf (Elt Ideal) ℓ) (g : Dev Cert.KernelLossNormIdeal.nD → PrngReg)
    (m' : (ℓ : Loc Cert.ReferenceLossNormIdeal.nD Cert.ReferenceLossNormIdeal.τ Cert.ReferenceLossNormIdeal.sig) → Buf (Elt Ideal) ℓ) (g' : Dev Cert.ReferenceLossNormIdeal.nD → PrngReg), Pre_KernelLossNormIdeal_finite_loss_norm m →
    (∀ c : Dev Cert.KernelLossNormIdeal.nD,
      m' ((c.tc : Thread Cert.ReferenceLossNormIdeal.nD Cert.ReferenceLossNormIdeal.τ).loc Cert.ReferenceLossNormIdeal.main_arg0) = m ((c.tc : Thread Cert.KernelLossNormIdeal.nD Cert.KernelLossNormIdeal.τ).loc Cert.KernelLossNormIdeal.main_arg0)
      ∧ m' ((c.tc : Thread Cert.ReferenceLossNormIdeal.nD Cert.ReferenceLossNormIdeal.τ).loc Cert.ReferenceLossNormIdeal.main_arg1) = m ((c.tc : Thread Cert.KernelLossNormIdeal.nD Cert.KernelLossNormIdeal.τ).loc Cert.KernelLossNormIdeal.main_arg1)
      ∧ m' ((c.tc : Thread Cert.ReferenceLossNormIdeal.nD Cert.ReferenceLossNormIdeal.τ).loc Cert.ReferenceLossNormIdeal.main_arg2) = m ((c.tc : Thread Cert.KernelLossNormIdeal.nD Cert.KernelLossNormIdeal.τ).loc Cert.KernelLossNormIdeal.main_arg2)
      ∧ m' ((c.tc : Thread Cert.ReferenceLossNormIdeal.nD Cert.ReferenceLossNormIdeal.τ).loc Cert.ReferenceLossNormIdeal.main_arg3) = m ((c.tc : Thread Cert.KernelLossNormIdeal.nD Cert.KernelLossNormIdeal.τ).loc Cert.KernelLossNormIdeal.main_arg3)) →
    ∃ (v0 : (c : Dev Cert.KernelLossNormIdeal.nD) → Buf (Elt Ideal) ((c.tc : Thread Cert.KernelLossNormIdeal.nD Cert.KernelLossNormIdeal.τ).loc Cert.KernelLossNormIdeal.main_v19_0)) (v1 : (c : Dev Cert.KernelLossNormIdeal.nD) → Buf (Elt Ideal) ((c.tc : Thread Cert.KernelLossNormIdeal.nD Cert.KernelLossNormIdeal.τ).loc Cert.KernelLossNormIdeal.main_v19_1)) (v2 : (c : Dev Cert.KernelLossNormIdeal.nD) → Buf (Elt Ideal) ((c.tc : Thread Cert.KernelLossNormIdeal.nD Cert.KernelLossNormIdeal.τ).loc Cert.KernelLossNormIdeal.main_v19_2)) (v3 : (c : Dev Cert.KernelLossNormIdeal.nD) → Buf (Elt Ideal) ((c.tc : Thread Cert.KernelLossNormIdeal.nD Cert.KernelLossNormIdeal.τ).loc Cert.KernelLossNormIdeal.main_v19_3)) (v4 : (c : Dev Cert.KernelLossNormIdeal.nD) → Buf (Elt Ideal) ((c.tc : Thread Cert.KernelLossNormIdeal.nD Cert.KernelLossNormIdeal.τ).loc Cert.KernelLossNormIdeal.main_v19_4)),
      θ_run (Cert.KernelLossNormIdeal.defs (F := Ideal)) (onTc (τ := Cert.KernelLossNormIdeal.τ) (Cert.KernelLossNormIdeal.main (F := Ideal))) ⟨m, fun _ => 0, g⟩ (fun r => ∀ c : Dev Cert.KernelLossNormIdeal.nD,
          r.2.mem ((c.tc : Thread Cert.KernelLossNormIdeal.nD Cert.KernelLossNormIdeal.τ).loc Cert.KernelLossNormIdeal.main_v19_0) = v0 c
          ∧ r.2.mem ((c.tc : Thread Cert.KernelLossNormIdeal.nD Cert.KernelLossNormIdeal.τ).loc Cert.KernelLossNormIdeal.main_v19_1) = v1 c
          ∧ r.2.mem ((c.tc : Thread Cert.KernelLossNormIdeal.nD Cert.KernelLossNormIdeal.τ).loc Cert.KernelLossNormIdeal.main_v19_2) = v2 c
          ∧ r.2.mem ((c.tc : Thread Cert.KernelLossNormIdeal.nD Cert.KernelLossNormIdeal.τ).loc Cert.KernelLossNormIdeal.main_v19_3) = v3 c
          ∧ r.2.mem ((c.tc : Thread Cert.KernelLossNormIdeal.nD Cert.KernelLossNormIdeal.τ).loc Cert.KernelLossNormIdeal.main_v19_4) = v4 c
          ∧ r.2.mem ((c.tc : Thread Cert.KernelLossNormIdeal.nD Cert.KernelLossNormIdeal.τ).loc Cert.KernelLossNormIdeal.main_arg0) = m ((c.tc : Thread Cert.KernelLossNormIdeal.nD Cert.KernelLossNormIdeal.τ).loc Cert.KernelLossNormIdeal.main_arg0)
          ∧ r.2.mem ((c.tc : Thread Cert.KernelLossNormIdeal.nD Cert.KernelLossNormIdeal.τ).loc Cert.KernelLossNormIdeal.main_arg1) = m ((c.tc : Thread Cert.KernelLossNormIdeal.nD Cert.KernelLossNormIdeal.τ).loc Cert.KernelLossNormIdeal.main_arg1)
          ∧ r.2.mem ((c.tc : Thread Cert.KernelLossNormIdeal.nD Cert.KernelLossNormIdeal.τ).loc Cert.KernelLossNormIdeal.main_arg2) = m ((c.tc : Thread Cert.KernelLossNormIdeal.nD Cert.KernelLossNormIdeal.τ).loc Cert.KernelLossNormIdeal.main_arg2)
          ∧ r.2.mem ((c.tc : Thread Cert.KernelLossNormIdeal.nD Cert.KernelLossNormIdeal.τ).loc Cert.KernelLossNormIdeal.main_arg3) = m ((c.tc : Thread Cert.KernelLossNormIdeal.nD Cert.KernelLossNormIdeal.τ).loc Cert.KernelLossNormIdeal.main_arg3))
      ∧ θ_run (Cert.ReferenceLossNormIdeal.defs (F := Ideal)) (onTc (τ := Cert.ReferenceLossNormIdeal.τ) (Cert.ReferenceLossNormIdeal.main (F := Ideal))) ⟨m', fun _ => 0, g'⟩ (fun r => ∀ c : Dev Cert.ReferenceLossNormIdeal.nD,
          r.2.mem ((c.tc : Thread Cert.ReferenceLossNormIdeal.nD Cert.ReferenceLossNormIdeal.τ).loc Cert.ReferenceLossNormIdeal.main_v72) = v0 c
          ∧ r.2.mem ((c.tc : Thread Cert.ReferenceLossNormIdeal.nD Cert.ReferenceLossNormIdeal.τ).loc Cert.ReferenceLossNormIdeal.main_v73) = v1 c
          ∧ r.2.mem ((c.tc : Thread Cert.ReferenceLossNormIdeal.nD Cert.ReferenceLossNormIdeal.τ).loc Cert.ReferenceLossNormIdeal.main_v46) = v2 c
          ∧ r.2.mem ((c.tc : Thread Cert.ReferenceLossNormIdeal.nD Cert.ReferenceLossNormIdeal.τ).loc Cert.ReferenceLossNormIdeal.main_v43) = v3 c
          ∧ r.2.mem ((c.tc : Thread Cert.ReferenceLossNormIdeal.nD Cert.ReferenceLossNormIdeal.τ).loc Cert.ReferenceLossNormIdeal.main_v75) = v4 c
          ∧ r.2.mem ((c.tc : Thread Cert.ReferenceLossNormIdeal.nD Cert.ReferenceLossNormIdeal.τ).loc Cert.ReferenceLossNormIdeal.main_arg0) = m' ((c.tc : Thread Cert.ReferenceLossNormIdeal.nD Cert.ReferenceLossNormIdeal.τ).loc Cert.ReferenceLossNormIdeal.main_arg0)
          ∧ r.2.mem ((c.tc : Thread Cert.ReferenceLossNormIdeal.nD Cert.ReferenceLossNormIdeal.τ).loc Cert.ReferenceLossNormIdeal.main_arg1) = m' ((c.tc : Thread Cert.ReferenceLossNormIdeal.nD Cert.ReferenceLossNormIdeal.τ).loc Cert.ReferenceLossNormIdeal.main_arg1)
          ∧ r.2.mem ((c.tc : Thread Cert.ReferenceLossNormIdeal.nD Cert.ReferenceLossNormIdeal.τ).loc Cert.ReferenceLossNormIdeal.main_arg2) = m' ((c.tc : Thread Cert.ReferenceLossNormIdeal.nD Cert.ReferenceLossNormIdeal.τ).loc Cert.ReferenceLossNormIdeal.main_arg2)
          ∧ r.2.mem ((c.tc : Thread Cert.ReferenceLossNormIdeal.nD Cert.ReferenceLossNormIdeal.τ).loc Cert.ReferenceLossNormIdeal.main_arg3) = m' ((c.tc : Thread Cert.ReferenceLossNormIdeal.nD Cert.ReferenceLossNormIdeal.τ).loc Cert.ReferenceLossNormIdeal.main_arg3))

def preserves_KernelOutNorm_KernelOutNormIdeal : Prop :=
  True

def algebraic_KernelOutNormIdeal_ReferenceOutNormIdeal [hKernelOutNormIdeal : Cert.KernelOutNormIdeal.Facts] [hReferenceOutNormIdeal : Cert.ReferenceOutNormIdeal.Facts] : Prop :=
  ∀ (m : (ℓ : Loc Cert.KernelOutNormIdeal.nD Cert.KernelOutNormIdeal.τ Cert.KernelOutNormIdeal.sig) → Buf (Elt Ideal) ℓ) (g : Dev Cert.KernelOutNormIdeal.nD → PrngReg)
    (m' : (ℓ : Loc Cert.ReferenceOutNormIdeal.nD Cert.ReferenceOutNormIdeal.τ Cert.ReferenceOutNormIdeal.sig) → Buf (Elt Ideal) ℓ) (g' : Dev Cert.ReferenceOutNormIdeal.nD → PrngReg), Pre_KernelOutNormIdeal m →
    (∀ c : Dev Cert.KernelOutNormIdeal.nD,
      m' ((c.tc : Thread Cert.ReferenceOutNormIdeal.nD Cert.ReferenceOutNormIdeal.τ).loc Cert.ReferenceOutNormIdeal.main_arg0) = m ((c.tc : Thread Cert.KernelOutNormIdeal.nD Cert.KernelOutNormIdeal.τ).loc Cert.KernelOutNormIdeal.main_arg0)
      ∧ m' ((c.tc : Thread Cert.ReferenceOutNormIdeal.nD Cert.ReferenceOutNormIdeal.τ).loc Cert.ReferenceOutNormIdeal.main_arg1) = m ((c.tc : Thread Cert.KernelOutNormIdeal.nD Cert.KernelOutNormIdeal.τ).loc Cert.KernelOutNormIdeal.main_arg1)
      ∧ m' ((c.tc : Thread Cert.ReferenceOutNormIdeal.nD Cert.ReferenceOutNormIdeal.τ).loc Cert.ReferenceOutNormIdeal.main_arg2) = m ((c.tc : Thread Cert.KernelOutNormIdeal.nD Cert.KernelOutNormIdeal.τ).loc Cert.KernelOutNormIdeal.main_arg2)
      ∧ m' ((c.tc : Thread Cert.ReferenceOutNormIdeal.nD Cert.ReferenceOutNormIdeal.τ).loc Cert.ReferenceOutNormIdeal.main_arg3) = m ((c.tc : Thread Cert.KernelOutNormIdeal.nD Cert.KernelOutNormIdeal.τ).loc Cert.KernelOutNormIdeal.main_arg3)
      ∧ m' ((c.tc : Thread Cert.ReferenceOutNormIdeal.nD Cert.ReferenceOutNormIdeal.τ).loc Cert.ReferenceOutNormIdeal.main_arg4) = m ((c.tc : Thread Cert.KernelOutNormIdeal.nD Cert.KernelOutNormIdeal.τ).loc Cert.KernelOutNormIdeal.main_arg4)) →
    ∃ (v0 : (c : Dev Cert.KernelOutNormIdeal.nD) → Buf (Elt Ideal) ((c.tc : Thread Cert.KernelOutNormIdeal.nD Cert.KernelOutNormIdeal.τ).loc Cert.KernelOutNormIdeal.main_v0_0)) (v1 : (c : Dev Cert.KernelOutNormIdeal.nD) → Buf (Elt Ideal) ((c.tc : Thread Cert.KernelOutNormIdeal.nD Cert.KernelOutNormIdeal.τ).loc Cert.KernelOutNormIdeal.main_v0_1)) (v2 : (c : Dev Cert.KernelOutNormIdeal.nD) → Buf (Elt Ideal) ((c.tc : Thread Cert.KernelOutNormIdeal.nD Cert.KernelOutNormIdeal.τ).loc Cert.KernelOutNormIdeal.main_v0_2)) (v3 : (c : Dev Cert.KernelOutNormIdeal.nD) → Buf (Elt Ideal) ((c.tc : Thread Cert.KernelOutNormIdeal.nD Cert.KernelOutNormIdeal.τ).loc Cert.KernelOutNormIdeal.main_v0_3)),
      θ_run (Cert.KernelOutNormIdeal.defs (F := Ideal)) (onTc (τ := Cert.KernelOutNormIdeal.τ) (Cert.KernelOutNormIdeal.main (F := Ideal))) ⟨m, fun _ => 0, g⟩ (fun r => ∀ c : Dev Cert.KernelOutNormIdeal.nD,
          r.2.mem ((c.tc : Thread Cert.KernelOutNormIdeal.nD Cert.KernelOutNormIdeal.τ).loc Cert.KernelOutNormIdeal.main_v0_0) = v0 c
          ∧ r.2.mem ((c.tc : Thread Cert.KernelOutNormIdeal.nD Cert.KernelOutNormIdeal.τ).loc Cert.KernelOutNormIdeal.main_v0_1) = v1 c
          ∧ r.2.mem ((c.tc : Thread Cert.KernelOutNormIdeal.nD Cert.KernelOutNormIdeal.τ).loc Cert.KernelOutNormIdeal.main_v0_2) = v2 c
          ∧ r.2.mem ((c.tc : Thread Cert.KernelOutNormIdeal.nD Cert.KernelOutNormIdeal.τ).loc Cert.KernelOutNormIdeal.main_v0_3) = v3 c
          ∧ r.2.mem ((c.tc : Thread Cert.KernelOutNormIdeal.nD Cert.KernelOutNormIdeal.τ).loc Cert.KernelOutNormIdeal.main_arg0) = m ((c.tc : Thread Cert.KernelOutNormIdeal.nD Cert.KernelOutNormIdeal.τ).loc Cert.KernelOutNormIdeal.main_arg0)
          ∧ r.2.mem ((c.tc : Thread Cert.KernelOutNormIdeal.nD Cert.KernelOutNormIdeal.τ).loc Cert.KernelOutNormIdeal.main_arg1) = m ((c.tc : Thread Cert.KernelOutNormIdeal.nD Cert.KernelOutNormIdeal.τ).loc Cert.KernelOutNormIdeal.main_arg1)
          ∧ r.2.mem ((c.tc : Thread Cert.KernelOutNormIdeal.nD Cert.KernelOutNormIdeal.τ).loc Cert.KernelOutNormIdeal.main_arg2) = m ((c.tc : Thread Cert.KernelOutNormIdeal.nD Cert.KernelOutNormIdeal.τ).loc Cert.KernelOutNormIdeal.main_arg2)
          ∧ r.2.mem ((c.tc : Thread Cert.KernelOutNormIdeal.nD Cert.KernelOutNormIdeal.τ).loc Cert.KernelOutNormIdeal.main_arg3) = m ((c.tc : Thread Cert.KernelOutNormIdeal.nD Cert.KernelOutNormIdeal.τ).loc Cert.KernelOutNormIdeal.main_arg3)
          ∧ r.2.mem ((c.tc : Thread Cert.KernelOutNormIdeal.nD Cert.KernelOutNormIdeal.τ).loc Cert.KernelOutNormIdeal.main_arg4) = m ((c.tc : Thread Cert.KernelOutNormIdeal.nD Cert.KernelOutNormIdeal.τ).loc Cert.KernelOutNormIdeal.main_arg4))
      ∧ θ_run (Cert.ReferenceOutNormIdeal.defs (F := Ideal)) (onTc (τ := Cert.ReferenceOutNormIdeal.τ) (Cert.ReferenceOutNormIdeal.main (F := Ideal))) ⟨m', fun _ => 0, g'⟩ (fun r => ∀ c : Dev Cert.ReferenceOutNormIdeal.nD,
          r.2.mem ((c.tc : Thread Cert.ReferenceOutNormIdeal.nD Cert.ReferenceOutNormIdeal.τ).loc Cert.ReferenceOutNormIdeal.main_v27) = v0 c
          ∧ r.2.mem ((c.tc : Thread Cert.ReferenceOutNormIdeal.nD Cert.ReferenceOutNormIdeal.τ).loc Cert.ReferenceOutNormIdeal.main_v47) = v1 c
          ∧ r.2.mem ((c.tc : Thread Cert.ReferenceOutNormIdeal.nD Cert.ReferenceOutNormIdeal.τ).loc Cert.ReferenceOutNormIdeal.main_v45) = v2 c
          ∧ r.2.mem ((c.tc : Thread Cert.ReferenceOutNormIdeal.nD Cert.ReferenceOutNormIdeal.τ).loc Cert.ReferenceOutNormIdeal.main_v46) = v3 c
          ∧ r.2.mem ((c.tc : Thread Cert.ReferenceOutNormIdeal.nD Cert.ReferenceOutNormIdeal.τ).loc Cert.ReferenceOutNormIdeal.main_arg0) = m' ((c.tc : Thread Cert.ReferenceOutNormIdeal.nD Cert.ReferenceOutNormIdeal.τ).loc Cert.ReferenceOutNormIdeal.main_arg0)
          ∧ r.2.mem ((c.tc : Thread Cert.ReferenceOutNormIdeal.nD Cert.ReferenceOutNormIdeal.τ).loc Cert.ReferenceOutNormIdeal.main_arg1) = m' ((c.tc : Thread Cert.ReferenceOutNormIdeal.nD Cert.ReferenceOutNormIdeal.τ).loc Cert.ReferenceOutNormIdeal.main_arg1)
          ∧ r.2.mem ((c.tc : Thread Cert.ReferenceOutNormIdeal.nD Cert.ReferenceOutNormIdeal.τ).loc Cert.ReferenceOutNormIdeal.main_arg2) = m' ((c.tc : Thread Cert.ReferenceOutNormIdeal.nD Cert.ReferenceOutNormIdeal.τ).loc Cert.ReferenceOutNormIdeal.main_arg2)
          ∧ r.2.mem ((c.tc : Thread Cert.ReferenceOutNormIdeal.nD Cert.ReferenceOutNormIdeal.τ).loc Cert.ReferenceOutNormIdeal.main_arg3) = m' ((c.tc : Thread Cert.ReferenceOutNormIdeal.nD Cert.ReferenceOutNormIdeal.τ).loc Cert.ReferenceOutNormIdeal.main_arg3)
          ∧ r.2.mem ((c.tc : Thread Cert.ReferenceOutNormIdeal.nD Cert.ReferenceOutNormIdeal.τ).loc Cert.ReferenceOutNormIdeal.main_arg4) = m' ((c.tc : Thread Cert.ReferenceOutNormIdeal.nD Cert.ReferenceOutNormIdeal.τ).loc Cert.ReferenceOutNormIdeal.main_arg4))

def preserves_KernelInProduct_KernelInProductIdeal : Prop :=
  True

def algebraic_KernelInProductIdeal_ReferenceInProductIdeal [hKernelInProductIdeal : Cert.KernelInProductIdeal.Facts] [hReferenceInProductIdeal : Cert.ReferenceInProductIdeal.Facts] : Prop :=
  ∀ (m : (ℓ : Loc Cert.KernelInProductIdeal.nD Cert.KernelInProductIdeal.τ Cert.KernelInProductIdeal.sig) → Buf (Elt Ideal) ℓ) (g : Dev Cert.KernelInProductIdeal.nD → PrngReg)
    (m' : (ℓ : Loc Cert.ReferenceInProductIdeal.nD Cert.ReferenceInProductIdeal.τ Cert.ReferenceInProductIdeal.sig) → Buf (Elt Ideal) ℓ) (g' : Dev Cert.ReferenceInProductIdeal.nD → PrngReg), Pre_KernelInProductIdeal m →
    (∀ c : Dev Cert.KernelInProductIdeal.nD,
      m' ((c.tc : Thread Cert.ReferenceInProductIdeal.nD Cert.ReferenceInProductIdeal.τ).loc Cert.ReferenceInProductIdeal.main_arg0) = m ((c.tc : Thread Cert.KernelInProductIdeal.nD Cert.KernelInProductIdeal.τ).loc Cert.KernelInProductIdeal.main_arg0)
      ∧ m' ((c.tc : Thread Cert.ReferenceInProductIdeal.nD Cert.ReferenceInProductIdeal.τ).loc Cert.ReferenceInProductIdeal.main_arg1) = m ((c.tc : Thread Cert.KernelInProductIdeal.nD Cert.KernelInProductIdeal.τ).loc Cert.KernelInProductIdeal.main_arg1)) →
    ∃ (v0 : (c : Dev Cert.KernelInProductIdeal.nD) → Buf (Elt Ideal) ((c.tc : Thread Cert.KernelInProductIdeal.nD Cert.KernelInProductIdeal.τ).loc Cert.KernelInProductIdeal.main_v0)),
      θ_run (Cert.KernelInProductIdeal.defs (F := Ideal)) (onTc (τ := Cert.KernelInProductIdeal.τ) (Cert.KernelInProductIdeal.main (F := Ideal))) ⟨m, fun _ => 0, g⟩ (fun r => ∀ c : Dev Cert.KernelInProductIdeal.nD,
          r.2.mem ((c.tc : Thread Cert.KernelInProductIdeal.nD Cert.KernelInProductIdeal.τ).loc Cert.KernelInProductIdeal.main_v0) = v0 c
          ∧ r.2.mem ((c.tc : Thread Cert.KernelInProductIdeal.nD Cert.KernelInProductIdeal.τ).loc Cert.KernelInProductIdeal.main_arg0) = m ((c.tc : Thread Cert.KernelInProductIdeal.nD Cert.KernelInProductIdeal.τ).loc Cert.KernelInProductIdeal.main_arg0)
          ∧ r.2.mem ((c.tc : Thread Cert.KernelInProductIdeal.nD Cert.KernelInProductIdeal.τ).loc Cert.KernelInProductIdeal.main_arg1) = m ((c.tc : Thread Cert.KernelInProductIdeal.nD Cert.KernelInProductIdeal.τ).loc Cert.KernelInProductIdeal.main_arg1))
      ∧ θ_run (Cert.ReferenceInProductIdeal.defs (F := Ideal)) (onTc (τ := Cert.ReferenceInProductIdeal.τ) (Cert.ReferenceInProductIdeal.main (F := Ideal))) ⟨m', fun _ => 0, g'⟩ (fun r => ∀ c : Dev Cert.ReferenceInProductIdeal.nD,
          r.2.mem ((c.tc : Thread Cert.ReferenceInProductIdeal.nD Cert.ReferenceInProductIdeal.τ).loc Cert.ReferenceInProductIdeal.main_v2) = v0 c
          ∧ r.2.mem ((c.tc : Thread Cert.ReferenceInProductIdeal.nD Cert.ReferenceInProductIdeal.τ).loc Cert.ReferenceInProductIdeal.main_arg0) = m' ((c.tc : Thread Cert.ReferenceInProductIdeal.nD Cert.ReferenceInProductIdeal.τ).loc Cert.ReferenceInProductIdeal.main_arg0)
          ∧ r.2.mem ((c.tc : Thread Cert.ReferenceInProductIdeal.nD Cert.ReferenceInProductIdeal.τ).loc Cert.ReferenceInProductIdeal.main_arg1) = m' ((c.tc : Thread Cert.ReferenceInProductIdeal.nD Cert.ReferenceInProductIdeal.τ).loc Cert.ReferenceInProductIdeal.main_arg1))

def preserves_KernelQueryProduct_KernelQueryProductIdeal : Prop :=
  True

def algebraic_KernelQueryProductIdeal_ReferenceQueryProductIdeal [hKernelQueryProductIdeal : Cert.KernelQueryProductIdeal.Facts] [hReferenceQueryProductIdeal : Cert.ReferenceQueryProductIdeal.Facts] : Prop :=
  ∀ (m : (ℓ : Loc Cert.KernelQueryProductIdeal.nD Cert.KernelQueryProductIdeal.τ Cert.KernelQueryProductIdeal.sig) → Buf (Elt Ideal) ℓ) (g : Dev Cert.KernelQueryProductIdeal.nD → PrngReg)
    (m' : (ℓ : Loc Cert.ReferenceQueryProductIdeal.nD Cert.ReferenceQueryProductIdeal.τ Cert.ReferenceQueryProductIdeal.sig) → Buf (Elt Ideal) ℓ) (g' : Dev Cert.ReferenceQueryProductIdeal.nD → PrngReg), Pre_KernelQueryProductIdeal m →
    (∀ c : Dev Cert.KernelQueryProductIdeal.nD,
      m' ((c.tc : Thread Cert.ReferenceQueryProductIdeal.nD Cert.ReferenceQueryProductIdeal.τ).loc Cert.ReferenceQueryProductIdeal.main_arg0) = m ((c.tc : Thread Cert.KernelQueryProductIdeal.nD Cert.KernelQueryProductIdeal.τ).loc Cert.KernelQueryProductIdeal.main_arg0)
      ∧ m' ((c.tc : Thread Cert.ReferenceQueryProductIdeal.nD Cert.ReferenceQueryProductIdeal.τ).loc Cert.ReferenceQueryProductIdeal.main_arg1) = m ((c.tc : Thread Cert.KernelQueryProductIdeal.nD Cert.KernelQueryProductIdeal.τ).loc Cert.KernelQueryProductIdeal.main_arg1)) →
    ∃ (v0 : (c : Dev Cert.KernelQueryProductIdeal.nD) → Buf (Elt Ideal) ((c.tc : Thread Cert.KernelQueryProductIdeal.nD Cert.KernelQueryProductIdeal.τ).loc Cert.KernelQueryProductIdeal.main_v0)),
      θ_run (Cert.KernelQueryProductIdeal.defs (F := Ideal)) (onTc (τ := Cert.KernelQueryProductIdeal.τ) (Cert.KernelQueryProductIdeal.main (F := Ideal))) ⟨m, fun _ => 0, g⟩ (fun r => ∀ c : Dev Cert.KernelQueryProductIdeal.nD,
          r.2.mem ((c.tc : Thread Cert.KernelQueryProductIdeal.nD Cert.KernelQueryProductIdeal.τ).loc Cert.KernelQueryProductIdeal.main_v0) = v0 c
          ∧ r.2.mem ((c.tc : Thread Cert.KernelQueryProductIdeal.nD Cert.KernelQueryProductIdeal.τ).loc Cert.KernelQueryProductIdeal.main_arg0) = m ((c.tc : Thread Cert.KernelQueryProductIdeal.nD Cert.KernelQueryProductIdeal.τ).loc Cert.KernelQueryProductIdeal.main_arg0)
          ∧ r.2.mem ((c.tc : Thread Cert.KernelQueryProductIdeal.nD Cert.KernelQueryProductIdeal.τ).loc Cert.KernelQueryProductIdeal.main_arg1) = m ((c.tc : Thread Cert.KernelQueryProductIdeal.nD Cert.KernelQueryProductIdeal.τ).loc Cert.KernelQueryProductIdeal.main_arg1))
      ∧ θ_run (Cert.ReferenceQueryProductIdeal.defs (F := Ideal)) (onTc (τ := Cert.ReferenceQueryProductIdeal.τ) (Cert.ReferenceQueryProductIdeal.main (F := Ideal))) ⟨m', fun _ => 0, g'⟩ (fun r => ∀ c : Dev Cert.ReferenceQueryProductIdeal.nD,
          r.2.mem ((c.tc : Thread Cert.ReferenceQueryProductIdeal.nD Cert.ReferenceQueryProductIdeal.τ).loc Cert.ReferenceQueryProductIdeal.main_v3) = v0 c
          ∧ r.2.mem ((c.tc : Thread Cert.ReferenceQueryProductIdeal.nD Cert.ReferenceQueryProductIdeal.τ).loc Cert.ReferenceQueryProductIdeal.main_arg0) = m' ((c.tc : Thread Cert.ReferenceQueryProductIdeal.nD Cert.ReferenceQueryProductIdeal.τ).loc Cert.ReferenceQueryProductIdeal.main_arg0)
          ∧ r.2.mem ((c.tc : Thread Cert.ReferenceQueryProductIdeal.nD Cert.ReferenceQueryProductIdeal.τ).loc Cert.ReferenceQueryProductIdeal.main_arg1) = m' ((c.tc : Thread Cert.ReferenceQueryProductIdeal.nD Cert.ReferenceQueryProductIdeal.τ).loc Cert.ReferenceQueryProductIdeal.main_arg1))

def preserves_KernelKvProduct_KernelKvProductIdeal : Prop :=
  True

def algebraic_KernelKvProductIdeal_ReferenceKvProductIdeal [hKernelKvProductIdeal : Cert.KernelKvProductIdeal.Facts] [hReferenceKvProductIdeal : Cert.ReferenceKvProductIdeal.Facts] : Prop :=
  ∀ (m : (ℓ : Loc Cert.KernelKvProductIdeal.nD Cert.KernelKvProductIdeal.τ Cert.KernelKvProductIdeal.sig) → Buf (Elt Ideal) ℓ) (g : Dev Cert.KernelKvProductIdeal.nD → PrngReg)
    (m' : (ℓ : Loc Cert.ReferenceKvProductIdeal.nD Cert.ReferenceKvProductIdeal.τ Cert.ReferenceKvProductIdeal.sig) → Buf (Elt Ideal) ℓ) (g' : Dev Cert.ReferenceKvProductIdeal.nD → PrngReg), Pre_KernelKvProductIdeal m →
    (∀ c : Dev Cert.KernelKvProductIdeal.nD,
      m' ((c.tc : Thread Cert.ReferenceKvProductIdeal.nD Cert.ReferenceKvProductIdeal.τ).loc Cert.ReferenceKvProductIdeal.main_arg0) = m ((c.tc : Thread Cert.KernelKvProductIdeal.nD Cert.KernelKvProductIdeal.τ).loc Cert.KernelKvProductIdeal.main_arg0)
      ∧ m' ((c.tc : Thread Cert.ReferenceKvProductIdeal.nD Cert.ReferenceKvProductIdeal.τ).loc Cert.ReferenceKvProductIdeal.main_arg1) = m ((c.tc : Thread Cert.KernelKvProductIdeal.nD Cert.KernelKvProductIdeal.τ).loc Cert.KernelKvProductIdeal.main_arg1)) →
    ∃ (v0 : (c : Dev Cert.KernelKvProductIdeal.nD) → Buf (Elt Ideal) ((c.tc : Thread Cert.KernelKvProductIdeal.nD Cert.KernelKvProductIdeal.τ).loc Cert.KernelKvProductIdeal.main_v0)),
      θ_run (Cert.KernelKvProductIdeal.defs (F := Ideal)) (onTc (τ := Cert.KernelKvProductIdeal.τ) (Cert.KernelKvProductIdeal.main (F := Ideal))) ⟨m, fun _ => 0, g⟩ (fun r => ∀ c : Dev Cert.KernelKvProductIdeal.nD,
          r.2.mem ((c.tc : Thread Cert.KernelKvProductIdeal.nD Cert.KernelKvProductIdeal.τ).loc Cert.KernelKvProductIdeal.main_v0) = v0 c
          ∧ r.2.mem ((c.tc : Thread Cert.KernelKvProductIdeal.nD Cert.KernelKvProductIdeal.τ).loc Cert.KernelKvProductIdeal.main_arg0) = m ((c.tc : Thread Cert.KernelKvProductIdeal.nD Cert.KernelKvProductIdeal.τ).loc Cert.KernelKvProductIdeal.main_arg0)
          ∧ r.2.mem ((c.tc : Thread Cert.KernelKvProductIdeal.nD Cert.KernelKvProductIdeal.τ).loc Cert.KernelKvProductIdeal.main_arg1) = m ((c.tc : Thread Cert.KernelKvProductIdeal.nD Cert.KernelKvProductIdeal.τ).loc Cert.KernelKvProductIdeal.main_arg1))
      ∧ θ_run (Cert.ReferenceKvProductIdeal.defs (F := Ideal)) (onTc (τ := Cert.ReferenceKvProductIdeal.τ) (Cert.ReferenceKvProductIdeal.main (F := Ideal))) ⟨m', fun _ => 0, g'⟩ (fun r => ∀ c : Dev Cert.ReferenceKvProductIdeal.nD,
          r.2.mem ((c.tc : Thread Cert.ReferenceKvProductIdeal.nD Cert.ReferenceKvProductIdeal.τ).loc Cert.ReferenceKvProductIdeal.main_v3) = v0 c
          ∧ r.2.mem ((c.tc : Thread Cert.ReferenceKvProductIdeal.nD Cert.ReferenceKvProductIdeal.τ).loc Cert.ReferenceKvProductIdeal.main_arg0) = m' ((c.tc : Thread Cert.ReferenceKvProductIdeal.nD Cert.ReferenceKvProductIdeal.τ).loc Cert.ReferenceKvProductIdeal.main_arg0)
          ∧ r.2.mem ((c.tc : Thread Cert.ReferenceKvProductIdeal.nD Cert.ReferenceKvProductIdeal.τ).loc Cert.ReferenceKvProductIdeal.main_arg1) = m' ((c.tc : Thread Cert.ReferenceKvProductIdeal.nD Cert.ReferenceKvProductIdeal.τ).loc Cert.ReferenceKvProductIdeal.main_arg1))

def preserves_KernelMemProduct_KernelMemProductIdeal : Prop :=
  True

def algebraic_KernelMemProductIdeal_ReferenceMemProductIdeal [hKernelMemProductIdeal : Cert.KernelMemProductIdeal.Facts] [hReferenceMemProductIdeal : Cert.ReferenceMemProductIdeal.Facts] : Prop :=
  ∀ (m : (ℓ : Loc Cert.KernelMemProductIdeal.nD Cert.KernelMemProductIdeal.τ Cert.KernelMemProductIdeal.sig) → Buf (Elt Ideal) ℓ) (g : Dev Cert.KernelMemProductIdeal.nD → PrngReg)
    (m' : (ℓ : Loc Cert.ReferenceMemProductIdeal.nD Cert.ReferenceMemProductIdeal.τ Cert.ReferenceMemProductIdeal.sig) → Buf (Elt Ideal) ℓ) (g' : Dev Cert.ReferenceMemProductIdeal.nD → PrngReg), Pre_KernelMemProductIdeal m →
    (∀ c : Dev Cert.KernelMemProductIdeal.nD,
      m' ((c.tc : Thread Cert.ReferenceMemProductIdeal.nD Cert.ReferenceMemProductIdeal.τ).loc Cert.ReferenceMemProductIdeal.main_arg0) = m ((c.tc : Thread Cert.KernelMemProductIdeal.nD Cert.KernelMemProductIdeal.τ).loc Cert.KernelMemProductIdeal.main_arg0)
      ∧ m' ((c.tc : Thread Cert.ReferenceMemProductIdeal.nD Cert.ReferenceMemProductIdeal.τ).loc Cert.ReferenceMemProductIdeal.main_arg1) = m ((c.tc : Thread Cert.KernelMemProductIdeal.nD Cert.KernelMemProductIdeal.τ).loc Cert.KernelMemProductIdeal.main_arg1)) →
    ∃ (v0 : (c : Dev Cert.KernelMemProductIdeal.nD) → Buf (Elt Ideal) ((c.tc : Thread Cert.KernelMemProductIdeal.nD Cert.KernelMemProductIdeal.τ).loc Cert.KernelMemProductIdeal.main_v0)),
      θ_run (Cert.KernelMemProductIdeal.defs (F := Ideal)) (onTc (τ := Cert.KernelMemProductIdeal.τ) (Cert.KernelMemProductIdeal.main (F := Ideal))) ⟨m, fun _ => 0, g⟩ (fun r => ∀ c : Dev Cert.KernelMemProductIdeal.nD,
          r.2.mem ((c.tc : Thread Cert.KernelMemProductIdeal.nD Cert.KernelMemProductIdeal.τ).loc Cert.KernelMemProductIdeal.main_v0) = v0 c
          ∧ r.2.mem ((c.tc : Thread Cert.KernelMemProductIdeal.nD Cert.KernelMemProductIdeal.τ).loc Cert.KernelMemProductIdeal.main_arg0) = m ((c.tc : Thread Cert.KernelMemProductIdeal.nD Cert.KernelMemProductIdeal.τ).loc Cert.KernelMemProductIdeal.main_arg0)
          ∧ r.2.mem ((c.tc : Thread Cert.KernelMemProductIdeal.nD Cert.KernelMemProductIdeal.τ).loc Cert.KernelMemProductIdeal.main_arg1) = m ((c.tc : Thread Cert.KernelMemProductIdeal.nD Cert.KernelMemProductIdeal.τ).loc Cert.KernelMemProductIdeal.main_arg1))
      ∧ θ_run (Cert.ReferenceMemProductIdeal.defs (F := Ideal)) (onTc (τ := Cert.ReferenceMemProductIdeal.τ) (Cert.ReferenceMemProductIdeal.main (F := Ideal))) ⟨m', fun _ => 0, g'⟩ (fun r => ∀ c : Dev Cert.ReferenceMemProductIdeal.nD,
          r.2.mem ((c.tc : Thread Cert.ReferenceMemProductIdeal.nD Cert.ReferenceMemProductIdeal.τ).loc Cert.ReferenceMemProductIdeal.main_v3) = v0 c
          ∧ r.2.mem ((c.tc : Thread Cert.ReferenceMemProductIdeal.nD Cert.ReferenceMemProductIdeal.τ).loc Cert.ReferenceMemProductIdeal.main_arg0) = m' ((c.tc : Thread Cert.ReferenceMemProductIdeal.nD Cert.ReferenceMemProductIdeal.τ).loc Cert.ReferenceMemProductIdeal.main_arg0)
          ∧ r.2.mem ((c.tc : Thread Cert.ReferenceMemProductIdeal.nD Cert.ReferenceMemProductIdeal.τ).loc Cert.ReferenceMemProductIdeal.main_arg1) = m' ((c.tc : Thread Cert.ReferenceMemProductIdeal.nD Cert.ReferenceMemProductIdeal.τ).loc Cert.ReferenceMemProductIdeal.main_arg1))

def preserves_KernelGateProduct_KernelGateProductIdeal : Prop :=
  True

def algebraic_KernelGateProductIdeal_ReferenceGateProductIdeal [hKernelGateProductIdeal : Cert.KernelGateProductIdeal.Facts] [hReferenceGateProductIdeal : Cert.ReferenceGateProductIdeal.Facts] : Prop :=
  ∀ (m : (ℓ : Loc Cert.KernelGateProductIdeal.nD Cert.KernelGateProductIdeal.τ Cert.KernelGateProductIdeal.sig) → Buf (Elt Ideal) ℓ) (g : Dev Cert.KernelGateProductIdeal.nD → PrngReg)
    (m' : (ℓ : Loc Cert.ReferenceGateProductIdeal.nD Cert.ReferenceGateProductIdeal.τ Cert.ReferenceGateProductIdeal.sig) → Buf (Elt Ideal) ℓ) (g' : Dev Cert.ReferenceGateProductIdeal.nD → PrngReg), Pre_KernelGateProductIdeal m →
    (∀ c : Dev Cert.KernelGateProductIdeal.nD,
      m' ((c.tc : Thread Cert.ReferenceGateProductIdeal.nD Cert.ReferenceGateProductIdeal.τ).loc Cert.ReferenceGateProductIdeal.main_arg0) = m ((c.tc : Thread Cert.KernelGateProductIdeal.nD Cert.KernelGateProductIdeal.τ).loc Cert.KernelGateProductIdeal.main_arg0)
      ∧ m' ((c.tc : Thread Cert.ReferenceGateProductIdeal.nD Cert.ReferenceGateProductIdeal.τ).loc Cert.ReferenceGateProductIdeal.main_arg1) = m ((c.tc : Thread Cert.KernelGateProductIdeal.nD Cert.KernelGateProductIdeal.τ).loc Cert.KernelGateProductIdeal.main_arg1)) →
    ∃ (v0 : (c : Dev Cert.KernelGateProductIdeal.nD) → Buf (Elt Ideal) ((c.tc : Thread Cert.KernelGateProductIdeal.nD Cert.KernelGateProductIdeal.τ).loc Cert.KernelGateProductIdeal.main_v0)),
      θ_run (Cert.KernelGateProductIdeal.defs (F := Ideal)) (onTc (τ := Cert.KernelGateProductIdeal.τ) (Cert.KernelGateProductIdeal.main (F := Ideal))) ⟨m, fun _ => 0, g⟩ (fun r => ∀ c : Dev Cert.KernelGateProductIdeal.nD,
          r.2.mem ((c.tc : Thread Cert.KernelGateProductIdeal.nD Cert.KernelGateProductIdeal.τ).loc Cert.KernelGateProductIdeal.main_v0) = v0 c
          ∧ r.2.mem ((c.tc : Thread Cert.KernelGateProductIdeal.nD Cert.KernelGateProductIdeal.τ).loc Cert.KernelGateProductIdeal.main_arg0) = m ((c.tc : Thread Cert.KernelGateProductIdeal.nD Cert.KernelGateProductIdeal.τ).loc Cert.KernelGateProductIdeal.main_arg0)
          ∧ r.2.mem ((c.tc : Thread Cert.KernelGateProductIdeal.nD Cert.KernelGateProductIdeal.τ).loc Cert.KernelGateProductIdeal.main_arg1) = m ((c.tc : Thread Cert.KernelGateProductIdeal.nD Cert.KernelGateProductIdeal.τ).loc Cert.KernelGateProductIdeal.main_arg1))
      ∧ θ_run (Cert.ReferenceGateProductIdeal.defs (F := Ideal)) (onTc (τ := Cert.ReferenceGateProductIdeal.τ) (Cert.ReferenceGateProductIdeal.main (F := Ideal))) ⟨m', fun _ => 0, g'⟩ (fun r => ∀ c : Dev Cert.ReferenceGateProductIdeal.nD,
          r.2.mem ((c.tc : Thread Cert.ReferenceGateProductIdeal.nD Cert.ReferenceGateProductIdeal.τ).loc Cert.ReferenceGateProductIdeal.main_v2) = v0 c
          ∧ r.2.mem ((c.tc : Thread Cert.ReferenceGateProductIdeal.nD Cert.ReferenceGateProductIdeal.τ).loc Cert.ReferenceGateProductIdeal.main_arg0) = m' ((c.tc : Thread Cert.ReferenceGateProductIdeal.nD Cert.ReferenceGateProductIdeal.τ).loc Cert.ReferenceGateProductIdeal.main_arg0)
          ∧ r.2.mem ((c.tc : Thread Cert.ReferenceGateProductIdeal.nD Cert.ReferenceGateProductIdeal.τ).loc Cert.ReferenceGateProductIdeal.main_arg1) = m' ((c.tc : Thread Cert.ReferenceGateProductIdeal.nD Cert.ReferenceGateProductIdeal.τ).loc Cert.ReferenceGateProductIdeal.main_arg1))

def preserves_KernelMemDw_KernelMemDwIdeal : Prop :=
  True

def algebraic_KernelMemDwIdeal_ReferenceMemDwIdeal [hKernelMemDwIdeal : Cert.KernelMemDwIdeal.Facts] [hReferenceMemDwIdeal : Cert.ReferenceMemDwIdeal.Facts] : Prop :=
  ∀ (m : (ℓ : Loc Cert.KernelMemDwIdeal.nD Cert.KernelMemDwIdeal.τ Cert.KernelMemDwIdeal.sig) → Buf (Elt Ideal) ℓ) (g : Dev Cert.KernelMemDwIdeal.nD → PrngReg)
    (m' : (ℓ : Loc Cert.ReferenceMemDwIdeal.nD Cert.ReferenceMemDwIdeal.τ Cert.ReferenceMemDwIdeal.sig) → Buf (Elt Ideal) ℓ) (g' : Dev Cert.ReferenceMemDwIdeal.nD → PrngReg), Pre_KernelMemDwIdeal m →
    (∀ c : Dev Cert.KernelMemDwIdeal.nD,
      m' ((c.tc : Thread Cert.ReferenceMemDwIdeal.nD Cert.ReferenceMemDwIdeal.τ).loc Cert.ReferenceMemDwIdeal.main_arg0) = m ((c.tc : Thread Cert.KernelMemDwIdeal.nD Cert.KernelMemDwIdeal.τ).loc Cert.KernelMemDwIdeal.main_arg0)
      ∧ m' ((c.tc : Thread Cert.ReferenceMemDwIdeal.nD Cert.ReferenceMemDwIdeal.τ).loc Cert.ReferenceMemDwIdeal.main_arg1) = m ((c.tc : Thread Cert.KernelMemDwIdeal.nD Cert.KernelMemDwIdeal.τ).loc Cert.KernelMemDwIdeal.main_arg1)) →
    ∃ (v0 : (c : Dev Cert.KernelMemDwIdeal.nD) → Buf (Elt Ideal) ((c.tc : Thread Cert.KernelMemDwIdeal.nD Cert.KernelMemDwIdeal.τ).loc Cert.KernelMemDwIdeal.main_v0)),
      θ_run (Cert.KernelMemDwIdeal.defs (F := Ideal)) (onTc (τ := Cert.KernelMemDwIdeal.τ) (Cert.KernelMemDwIdeal.main (F := Ideal))) ⟨m, fun _ => 0, g⟩ (fun r => ∀ c : Dev Cert.KernelMemDwIdeal.nD,
          r.2.mem ((c.tc : Thread Cert.KernelMemDwIdeal.nD Cert.KernelMemDwIdeal.τ).loc Cert.KernelMemDwIdeal.main_v0) = v0 c
          ∧ r.2.mem ((c.tc : Thread Cert.KernelMemDwIdeal.nD Cert.KernelMemDwIdeal.τ).loc Cert.KernelMemDwIdeal.main_arg0) = m ((c.tc : Thread Cert.KernelMemDwIdeal.nD Cert.KernelMemDwIdeal.τ).loc Cert.KernelMemDwIdeal.main_arg0)
          ∧ r.2.mem ((c.tc : Thread Cert.KernelMemDwIdeal.nD Cert.KernelMemDwIdeal.τ).loc Cert.KernelMemDwIdeal.main_arg1) = m ((c.tc : Thread Cert.KernelMemDwIdeal.nD Cert.KernelMemDwIdeal.τ).loc Cert.KernelMemDwIdeal.main_arg1))
      ∧ θ_run (Cert.ReferenceMemDwIdeal.defs (F := Ideal)) (onTc (τ := Cert.ReferenceMemDwIdeal.τ) (Cert.ReferenceMemDwIdeal.main (F := Ideal))) ⟨m', fun _ => 0, g'⟩ (fun r => ∀ c : Dev Cert.ReferenceMemDwIdeal.nD,
          r.2.mem ((c.tc : Thread Cert.ReferenceMemDwIdeal.nD Cert.ReferenceMemDwIdeal.τ).loc Cert.ReferenceMemDwIdeal.main_v5) = v0 c
          ∧ r.2.mem ((c.tc : Thread Cert.ReferenceMemDwIdeal.nD Cert.ReferenceMemDwIdeal.τ).loc Cert.ReferenceMemDwIdeal.main_arg0) = m' ((c.tc : Thread Cert.ReferenceMemDwIdeal.nD Cert.ReferenceMemDwIdeal.τ).loc Cert.ReferenceMemDwIdeal.main_arg0)
          ∧ r.2.mem ((c.tc : Thread Cert.ReferenceMemDwIdeal.nD Cert.ReferenceMemDwIdeal.τ).loc Cert.ReferenceMemDwIdeal.main_arg1) = m' ((c.tc : Thread Cert.ReferenceMemDwIdeal.nD Cert.ReferenceMemDwIdeal.τ).loc Cert.ReferenceMemDwIdeal.main_arg1))

def preserves_KernelPoolDw_KernelPoolDwIdeal : Prop :=
  True

def algebraic_KernelPoolDwIdeal_ReferencePoolDwIdeal [hKernelPoolDwIdeal : Cert.KernelPoolDwIdeal.Facts] [hReferencePoolDwIdeal : Cert.ReferencePoolDwIdeal.Facts] : Prop :=
  ∀ (m : (ℓ : Loc Cert.KernelPoolDwIdeal.nD Cert.KernelPoolDwIdeal.τ Cert.KernelPoolDwIdeal.sig) → Buf (Elt Ideal) ℓ) (g : Dev Cert.KernelPoolDwIdeal.nD → PrngReg)
    (m' : (ℓ : Loc Cert.ReferencePoolDwIdeal.nD Cert.ReferencePoolDwIdeal.τ Cert.ReferencePoolDwIdeal.sig) → Buf (Elt Ideal) ℓ) (g' : Dev Cert.ReferencePoolDwIdeal.nD → PrngReg), Pre_KernelPoolDwIdeal m →
    (∀ c : Dev Cert.KernelPoolDwIdeal.nD,
      m' ((c.tc : Thread Cert.ReferencePoolDwIdeal.nD Cert.ReferencePoolDwIdeal.τ).loc Cert.ReferencePoolDwIdeal.main_arg0) = m ((c.tc : Thread Cert.KernelPoolDwIdeal.nD Cert.KernelPoolDwIdeal.τ).loc Cert.KernelPoolDwIdeal.main_arg0)
      ∧ m' ((c.tc : Thread Cert.ReferencePoolDwIdeal.nD Cert.ReferencePoolDwIdeal.τ).loc Cert.ReferencePoolDwIdeal.main_arg1) = m ((c.tc : Thread Cert.KernelPoolDwIdeal.nD Cert.KernelPoolDwIdeal.τ).loc Cert.KernelPoolDwIdeal.main_arg1)) →
    ∃ (v0 : (c : Dev Cert.KernelPoolDwIdeal.nD) → Buf (Elt Ideal) ((c.tc : Thread Cert.KernelPoolDwIdeal.nD Cert.KernelPoolDwIdeal.τ).loc Cert.KernelPoolDwIdeal.main_v0)),
      θ_run (Cert.KernelPoolDwIdeal.defs (F := Ideal)) (onTc (τ := Cert.KernelPoolDwIdeal.τ) (Cert.KernelPoolDwIdeal.main (F := Ideal))) ⟨m, fun _ => 0, g⟩ (fun r => ∀ c : Dev Cert.KernelPoolDwIdeal.nD,
          r.2.mem ((c.tc : Thread Cert.KernelPoolDwIdeal.nD Cert.KernelPoolDwIdeal.τ).loc Cert.KernelPoolDwIdeal.main_v0) = v0 c
          ∧ r.2.mem ((c.tc : Thread Cert.KernelPoolDwIdeal.nD Cert.KernelPoolDwIdeal.τ).loc Cert.KernelPoolDwIdeal.main_arg0) = m ((c.tc : Thread Cert.KernelPoolDwIdeal.nD Cert.KernelPoolDwIdeal.τ).loc Cert.KernelPoolDwIdeal.main_arg0)
          ∧ r.2.mem ((c.tc : Thread Cert.KernelPoolDwIdeal.nD Cert.KernelPoolDwIdeal.τ).loc Cert.KernelPoolDwIdeal.main_arg1) = m ((c.tc : Thread Cert.KernelPoolDwIdeal.nD Cert.KernelPoolDwIdeal.τ).loc Cert.KernelPoolDwIdeal.main_arg1))
      ∧ θ_run (Cert.ReferencePoolDwIdeal.defs (F := Ideal)) (onTc (τ := Cert.ReferencePoolDwIdeal.τ) (Cert.ReferencePoolDwIdeal.main (F := Ideal))) ⟨m', fun _ => 0, g'⟩ (fun r => ∀ c : Dev Cert.ReferencePoolDwIdeal.nD,
          r.2.mem ((c.tc : Thread Cert.ReferencePoolDwIdeal.nD Cert.ReferencePoolDwIdeal.τ).loc Cert.ReferencePoolDwIdeal.main_v5) = v0 c
          ∧ r.2.mem ((c.tc : Thread Cert.ReferencePoolDwIdeal.nD Cert.ReferencePoolDwIdeal.τ).loc Cert.ReferencePoolDwIdeal.main_arg0) = m' ((c.tc : Thread Cert.ReferencePoolDwIdeal.nD Cert.ReferencePoolDwIdeal.τ).loc Cert.ReferencePoolDwIdeal.main_arg0)
          ∧ r.2.mem ((c.tc : Thread Cert.ReferencePoolDwIdeal.nD Cert.ReferencePoolDwIdeal.τ).loc Cert.ReferencePoolDwIdeal.main_arg1) = m' ((c.tc : Thread Cert.ReferencePoolDwIdeal.nD Cert.ReferencePoolDwIdeal.τ).loc Cert.ReferencePoolDwIdeal.main_arg1))

def preserves_KernelPoolMix_KernelPoolMixIdeal : Prop :=
  True

def algebraic_KernelPoolMixIdeal_ReferencePoolMixIdeal [hKernelPoolMixIdeal : Cert.KernelPoolMixIdeal.Facts] [hReferencePoolMixIdeal : Cert.ReferencePoolMixIdeal.Facts] : Prop :=
  ∀ (m : (ℓ : Loc Cert.KernelPoolMixIdeal.nD Cert.KernelPoolMixIdeal.τ Cert.KernelPoolMixIdeal.sig) → Buf (Elt Ideal) ℓ) (g : Dev Cert.KernelPoolMixIdeal.nD → PrngReg)
    (m' : (ℓ : Loc Cert.ReferencePoolMixIdeal.nD Cert.ReferencePoolMixIdeal.τ Cert.ReferencePoolMixIdeal.sig) → Buf (Elt Ideal) ℓ) (g' : Dev Cert.ReferencePoolMixIdeal.nD → PrngReg), Pre_KernelPoolMixIdeal m →
    (∀ c : Dev Cert.KernelPoolMixIdeal.nD,
      m' ((c.tc : Thread Cert.ReferencePoolMixIdeal.nD Cert.ReferencePoolMixIdeal.τ).loc Cert.ReferencePoolMixIdeal.main_arg0) = m ((c.tc : Thread Cert.KernelPoolMixIdeal.nD Cert.KernelPoolMixIdeal.τ).loc Cert.KernelPoolMixIdeal.main_arg0)
      ∧ m' ((c.tc : Thread Cert.ReferencePoolMixIdeal.nD Cert.ReferencePoolMixIdeal.τ).loc Cert.ReferencePoolMixIdeal.main_arg1) = m ((c.tc : Thread Cert.KernelPoolMixIdeal.nD Cert.KernelPoolMixIdeal.τ).loc Cert.KernelPoolMixIdeal.main_arg1)
      ∧ m' ((c.tc : Thread Cert.ReferencePoolMixIdeal.nD Cert.ReferencePoolMixIdeal.τ).loc Cert.ReferencePoolMixIdeal.main_arg2) = m ((c.tc : Thread Cert.KernelPoolMixIdeal.nD Cert.KernelPoolMixIdeal.τ).loc Cert.KernelPoolMixIdeal.main_arg2)
      ∧ m' ((c.tc : Thread Cert.ReferencePoolMixIdeal.nD Cert.ReferencePoolMixIdeal.τ).loc Cert.ReferencePoolMixIdeal.main_arg3) = m ((c.tc : Thread Cert.KernelPoolMixIdeal.nD Cert.KernelPoolMixIdeal.τ).loc Cert.KernelPoolMixIdeal.main_arg3)) →
    ∃ (v0 : (c : Dev Cert.KernelPoolMixIdeal.nD) → Buf (Elt Ideal) ((c.tc : Thread Cert.KernelPoolMixIdeal.nD Cert.KernelPoolMixIdeal.τ).loc Cert.KernelPoolMixIdeal.main_v0_0)) (v1 : (c : Dev Cert.KernelPoolMixIdeal.nD) → Buf (Elt Ideal) ((c.tc : Thread Cert.KernelPoolMixIdeal.nD Cert.KernelPoolMixIdeal.τ).loc Cert.KernelPoolMixIdeal.main_v0_1)) (v2 : (c : Dev Cert.KernelPoolMixIdeal.nD) → Buf (Elt Ideal) ((c.tc : Thread Cert.KernelPoolMixIdeal.nD Cert.KernelPoolMixIdeal.τ).loc Cert.KernelPoolMixIdeal.main_v0_2)),
      θ_run (Cert.KernelPoolMixIdeal.defs (F := Ideal)) (onTc (τ := Cert.KernelPoolMixIdeal.τ) (Cert.KernelPoolMixIdeal.main (F := Ideal))) ⟨m, fun _ => 0, g⟩ (fun r => ∀ c : Dev Cert.KernelPoolMixIdeal.nD,
          r.2.mem ((c.tc : Thread Cert.KernelPoolMixIdeal.nD Cert.KernelPoolMixIdeal.τ).loc Cert.KernelPoolMixIdeal.main_v0_0) = v0 c
          ∧ r.2.mem ((c.tc : Thread Cert.KernelPoolMixIdeal.nD Cert.KernelPoolMixIdeal.τ).loc Cert.KernelPoolMixIdeal.main_v0_1) = v1 c
          ∧ r.2.mem ((c.tc : Thread Cert.KernelPoolMixIdeal.nD Cert.KernelPoolMixIdeal.τ).loc Cert.KernelPoolMixIdeal.main_v0_2) = v2 c
          ∧ r.2.mem ((c.tc : Thread Cert.KernelPoolMixIdeal.nD Cert.KernelPoolMixIdeal.τ).loc Cert.KernelPoolMixIdeal.main_arg0) = m ((c.tc : Thread Cert.KernelPoolMixIdeal.nD Cert.KernelPoolMixIdeal.τ).loc Cert.KernelPoolMixIdeal.main_arg0)
          ∧ r.2.mem ((c.tc : Thread Cert.KernelPoolMixIdeal.nD Cert.KernelPoolMixIdeal.τ).loc Cert.KernelPoolMixIdeal.main_arg1) = m ((c.tc : Thread Cert.KernelPoolMixIdeal.nD Cert.KernelPoolMixIdeal.τ).loc Cert.KernelPoolMixIdeal.main_arg1)
          ∧ r.2.mem ((c.tc : Thread Cert.KernelPoolMixIdeal.nD Cert.KernelPoolMixIdeal.τ).loc Cert.KernelPoolMixIdeal.main_arg2) = m ((c.tc : Thread Cert.KernelPoolMixIdeal.nD Cert.KernelPoolMixIdeal.τ).loc Cert.KernelPoolMixIdeal.main_arg2)
          ∧ r.2.mem ((c.tc : Thread Cert.KernelPoolMixIdeal.nD Cert.KernelPoolMixIdeal.τ).loc Cert.KernelPoolMixIdeal.main_arg3) = m ((c.tc : Thread Cert.KernelPoolMixIdeal.nD Cert.KernelPoolMixIdeal.τ).loc Cert.KernelPoolMixIdeal.main_arg3))
      ∧ θ_run (Cert.ReferencePoolMixIdeal.defs (F := Ideal)) (onTc (τ := Cert.ReferencePoolMixIdeal.τ) (Cert.ReferencePoolMixIdeal.main (F := Ideal))) ⟨m', fun _ => 0, g'⟩ (fun r => ∀ c : Dev Cert.ReferencePoolMixIdeal.nD,
          r.2.mem ((c.tc : Thread Cert.ReferencePoolMixIdeal.nD Cert.ReferencePoolMixIdeal.τ).loc Cert.ReferencePoolMixIdeal.main_v11) = v0 c
          ∧ r.2.mem ((c.tc : Thread Cert.ReferencePoolMixIdeal.nD Cert.ReferencePoolMixIdeal.τ).loc Cert.ReferencePoolMixIdeal.main_v12) = v1 c
          ∧ r.2.mem ((c.tc : Thread Cert.ReferencePoolMixIdeal.nD Cert.ReferencePoolMixIdeal.τ).loc Cert.ReferencePoolMixIdeal.main_v8) = v2 c
          ∧ r.2.mem ((c.tc : Thread Cert.ReferencePoolMixIdeal.nD Cert.ReferencePoolMixIdeal.τ).loc Cert.ReferencePoolMixIdeal.main_arg0) = m' ((c.tc : Thread Cert.ReferencePoolMixIdeal.nD Cert.ReferencePoolMixIdeal.τ).loc Cert.ReferencePoolMixIdeal.main_arg0)
          ∧ r.2.mem ((c.tc : Thread Cert.ReferencePoolMixIdeal.nD Cert.ReferencePoolMixIdeal.τ).loc Cert.ReferencePoolMixIdeal.main_arg1) = m' ((c.tc : Thread Cert.ReferencePoolMixIdeal.nD Cert.ReferencePoolMixIdeal.τ).loc Cert.ReferencePoolMixIdeal.main_arg1)
          ∧ r.2.mem ((c.tc : Thread Cert.ReferencePoolMixIdeal.nD Cert.ReferencePoolMixIdeal.τ).loc Cert.ReferencePoolMixIdeal.main_arg2) = m' ((c.tc : Thread Cert.ReferencePoolMixIdeal.nD Cert.ReferencePoolMixIdeal.τ).loc Cert.ReferencePoolMixIdeal.main_arg2)
          ∧ r.2.mem ((c.tc : Thread Cert.ReferencePoolMixIdeal.nD Cert.ReferencePoolMixIdeal.τ).loc Cert.ReferencePoolMixIdeal.main_arg3) = m' ((c.tc : Thread Cert.ReferencePoolMixIdeal.nD Cert.ReferencePoolMixIdeal.τ).loc Cert.ReferencePoolMixIdeal.main_arg3))

def preserves_KernelUpGate_KernelUpGateIdeal : Prop :=
  True

def algebraic_KernelUpGateIdeal_ReferenceUpGateIdeal_pre_finite_up_gate [hKernelUpGateIdeal : Cert.KernelUpGateIdeal.Facts] [hReferenceUpGateIdeal : Cert.ReferenceUpGateIdeal.Facts] [hPre_finite_up_gate : Cert.Pre_finite_up_gate.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg)
    (m' : (ℓ : Loc Cert.ReferenceUpGateIdeal.nD Cert.ReferenceUpGateIdeal.τ Cert.ReferenceUpGateIdeal.sig) → Buf (Elt Ideal) ℓ) (g' : Dev Cert.ReferenceUpGateIdeal.nD → PrngReg), Pre_KernelUpGateIdeal_finite_up_gate m →
    (∀ c : Dev Cert.KernelUpGateIdeal.nD,
      m' ((c.tc : Thread Cert.ReferenceUpGateIdeal.nD Cert.ReferenceUpGateIdeal.τ).loc Cert.ReferenceUpGateIdeal.main_arg0) = m ((c.tc : Thread Cert.KernelUpGateIdeal.nD Cert.KernelUpGateIdeal.τ).loc Cert.KernelUpGateIdeal.main_arg0)
      ∧ m' ((c.tc : Thread Cert.ReferenceUpGateIdeal.nD Cert.ReferenceUpGateIdeal.τ).loc Cert.ReferenceUpGateIdeal.main_arg1) = m ((c.tc : Thread Cert.KernelUpGateIdeal.nD Cert.KernelUpGateIdeal.τ).loc Cert.KernelUpGateIdeal.main_arg1)
      ∧ m' ((c.tc : Thread Cert.ReferenceUpGateIdeal.nD Cert.ReferenceUpGateIdeal.τ).loc Cert.ReferenceUpGateIdeal.main_arg2) = m ((c.tc : Thread Cert.KernelUpGateIdeal.nD Cert.KernelUpGateIdeal.τ).loc Cert.KernelUpGateIdeal.main_arg2)) →
    ∃ (v0 : (c : Dev Cert.KernelUpGateIdeal.nD) → Buf (Elt Ideal) ((c.tc : Thread Cert.KernelUpGateIdeal.nD Cert.KernelUpGateIdeal.τ).loc Cert.KernelUpGateIdeal.main_v0_0)) (v1 : (c : Dev Cert.KernelUpGateIdeal.nD) → Buf (Elt Ideal) ((c.tc : Thread Cert.KernelUpGateIdeal.nD Cert.KernelUpGateIdeal.τ).loc Cert.KernelUpGateIdeal.main_v0_1)) (v2 : (c : Dev Cert.KernelUpGateIdeal.nD) → Buf (Elt Ideal) ((c.tc : Thread Cert.KernelUpGateIdeal.nD Cert.KernelUpGateIdeal.τ).loc Cert.KernelUpGateIdeal.main_v0_2)) (v3 : (c : Dev Cert.KernelUpGateIdeal.nD) → Buf (Elt Ideal) ((c.tc : Thread Cert.KernelUpGateIdeal.nD Cert.KernelUpGateIdeal.τ).loc Cert.KernelUpGateIdeal.main_v0_3)) (v4 : (c : Dev Cert.KernelUpGateIdeal.nD) → Buf (Elt Ideal) ((c.tc : Thread Cert.KernelUpGateIdeal.nD Cert.KernelUpGateIdeal.τ).loc Cert.KernelUpGateIdeal.main_v0_4)),
      θ_run (Cert.KernelUpGateIdeal.defs (F := Ideal)) (onTc (τ := Cert.KernelUpGateIdeal.τ) (Cert.KernelUpGateIdeal.main (F := Ideal))) ⟨m, fun _ => 0, g⟩ (fun r => ∀ c : Dev Cert.KernelUpGateIdeal.nD,
          r.2.mem ((c.tc : Thread Cert.KernelUpGateIdeal.nD Cert.KernelUpGateIdeal.τ).loc Cert.KernelUpGateIdeal.main_v0_0) = v0 c
          ∧ r.2.mem ((c.tc : Thread Cert.KernelUpGateIdeal.nD Cert.KernelUpGateIdeal.τ).loc Cert.KernelUpGateIdeal.main_v0_1) = v1 c
          ∧ r.2.mem ((c.tc : Thread Cert.KernelUpGateIdeal.nD Cert.KernelUpGateIdeal.τ).loc Cert.KernelUpGateIdeal.main_v0_2) = v2 c
          ∧ r.2.mem ((c.tc : Thread Cert.KernelUpGateIdeal.nD Cert.KernelUpGateIdeal.τ).loc Cert.KernelUpGateIdeal.main_v0_3) = v3 c
          ∧ r.2.mem ((c.tc : Thread Cert.KernelUpGateIdeal.nD Cert.KernelUpGateIdeal.τ).loc Cert.KernelUpGateIdeal.main_v0_4) = v4 c
          ∧ r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
          ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1)
          ∧ r.2.mem ((c.tc : Thread Cert.KernelUpGateIdeal.nD Cert.KernelUpGateIdeal.τ).loc Cert.KernelUpGateIdeal.main_arg2) = m ((c.tc : Thread Cert.KernelUpGateIdeal.nD Cert.KernelUpGateIdeal.τ).loc Cert.KernelUpGateIdeal.main_arg2))
      ∧ θ_run (Cert.ReferenceUpGateIdeal.defs (F := Ideal)) (onTc (τ := Cert.ReferenceUpGateIdeal.τ) (Cert.ReferenceUpGateIdeal.main (F := Ideal))) ⟨m', fun _ => 0, g'⟩ (fun r => ∀ c : Dev Cert.ReferenceUpGateIdeal.nD,
          r.2.mem ((c.tc : Thread Cert.ReferenceUpGateIdeal.nD Cert.ReferenceUpGateIdeal.τ).loc Cert.ReferenceUpGateIdeal.main_v45) = v0 c
          ∧ r.2.mem ((c.tc : Thread Cert.ReferenceUpGateIdeal.nD Cert.ReferenceUpGateIdeal.τ).loc Cert.ReferenceUpGateIdeal.main_v47) = v1 c
          ∧ r.2.mem ((c.tc : Thread Cert.ReferenceUpGateIdeal.nD Cert.ReferenceUpGateIdeal.τ).loc Cert.ReferenceUpGateIdeal.main_v49) = v2 c
          ∧ r.2.mem ((c.tc : Thread Cert.ReferenceUpGateIdeal.nD Cert.ReferenceUpGateIdeal.τ).loc Cert.ReferenceUpGateIdeal.main_v51) = v3 c
          ∧ r.2.mem ((c.tc : Thread Cert.ReferenceUpGateIdeal.nD Cert.ReferenceUpGateIdeal.τ).loc Cert.ReferenceUpGateIdeal.main_v53) = v4 c
          ∧ r.2.mem ((c.tc : Thread Cert.ReferenceUpGateIdeal.nD Cert.ReferenceUpGateIdeal.τ).loc Cert.ReferenceUpGateIdeal.main_arg0) = m' ((c.tc : Thread Cert.ReferenceUpGateIdeal.nD Cert.ReferenceUpGateIdeal.τ).loc Cert.ReferenceUpGateIdeal.main_arg0)
          ∧ r.2.mem ((c.tc : Thread Cert.ReferenceUpGateIdeal.nD Cert.ReferenceUpGateIdeal.τ).loc Cert.ReferenceUpGateIdeal.main_arg1) = m' ((c.tc : Thread Cert.ReferenceUpGateIdeal.nD Cert.ReferenceUpGateIdeal.τ).loc Cert.ReferenceUpGateIdeal.main_arg1)
          ∧ r.2.mem ((c.tc : Thread Cert.ReferenceUpGateIdeal.nD Cert.ReferenceUpGateIdeal.τ).loc Cert.ReferenceUpGateIdeal.main_arg2) = m' ((c.tc : Thread Cert.ReferenceUpGateIdeal.nD Cert.ReferenceUpGateIdeal.τ).loc Cert.ReferenceUpGateIdeal.main_arg2))

def preserves_KernelDownNorm_KernelDownNormIdeal : Prop :=
  True

def algebraic_KernelDownNormIdeal_ReferenceDownNormIdeal [hKernelDownNormIdeal : Cert.KernelDownNormIdeal.Facts] [hReferenceDownNormIdeal : Cert.ReferenceDownNormIdeal.Facts] : Prop :=
  ∀ (m : (ℓ : Loc Cert.KernelDownNormIdeal.nD Cert.KernelDownNormIdeal.τ Cert.KernelDownNormIdeal.sig) → Buf (Elt Ideal) ℓ) (g : Dev Cert.KernelDownNormIdeal.nD → PrngReg)
    (m' : (ℓ : Loc Cert.ReferenceDownNormIdeal.nD Cert.ReferenceDownNormIdeal.τ Cert.ReferenceDownNormIdeal.sig) → Buf (Elt Ideal) ℓ) (g' : Dev Cert.ReferenceDownNormIdeal.nD → PrngReg), Pre_KernelDownNormIdeal m →
    (∀ c : Dev Cert.KernelDownNormIdeal.nD,
      m' ((c.tc : Thread Cert.ReferenceDownNormIdeal.nD Cert.ReferenceDownNormIdeal.τ).loc Cert.ReferenceDownNormIdeal.main_arg0) = m ((c.tc : Thread Cert.KernelDownNormIdeal.nD Cert.KernelDownNormIdeal.τ).loc Cert.KernelDownNormIdeal.main_arg0)
      ∧ m' ((c.tc : Thread Cert.ReferenceDownNormIdeal.nD Cert.ReferenceDownNormIdeal.τ).loc Cert.ReferenceDownNormIdeal.main_arg1) = m ((c.tc : Thread Cert.KernelDownNormIdeal.nD Cert.KernelDownNormIdeal.τ).loc Cert.KernelDownNormIdeal.main_arg1)
      ∧ m' ((c.tc : Thread Cert.ReferenceDownNormIdeal.nD Cert.ReferenceDownNormIdeal.τ).loc Cert.ReferenceDownNormIdeal.main_arg2) = m ((c.tc : Thread Cert.KernelDownNormIdeal.nD Cert.KernelDownNormIdeal.τ).loc Cert.KernelDownNormIdeal.main_arg2)
      ∧ m' ((c.tc : Thread Cert.ReferenceDownNormIdeal.nD Cert.ReferenceDownNormIdeal.τ).loc Cert.ReferenceDownNormIdeal.main_arg3) = m ((c.tc : Thread Cert.KernelDownNormIdeal.nD Cert.KernelDownNormIdeal.τ).loc Cert.KernelDownNormIdeal.main_arg3)
      ∧ m' ((c.tc : Thread Cert.ReferenceDownNormIdeal.nD Cert.ReferenceDownNormIdeal.τ).loc Cert.ReferenceDownNormIdeal.main_arg4) = m ((c.tc : Thread Cert.KernelDownNormIdeal.nD Cert.KernelDownNormIdeal.τ).loc Cert.KernelDownNormIdeal.main_arg4)) →
    ∃ (v0 : (c : Dev Cert.KernelDownNormIdeal.nD) → Buf (Elt Ideal) ((c.tc : Thread Cert.KernelDownNormIdeal.nD Cert.KernelDownNormIdeal.τ).loc Cert.KernelDownNormIdeal.main_v0_0)) (v1 : (c : Dev Cert.KernelDownNormIdeal.nD) → Buf (Elt Ideal) ((c.tc : Thread Cert.KernelDownNormIdeal.nD Cert.KernelDownNormIdeal.τ).loc Cert.KernelDownNormIdeal.main_v0_1)) (v2 : (c : Dev Cert.KernelDownNormIdeal.nD) → Buf (Elt Ideal) ((c.tc : Thread Cert.KernelDownNormIdeal.nD Cert.KernelDownNormIdeal.τ).loc Cert.KernelDownNormIdeal.main_v0_2)) (v3 : (c : Dev Cert.KernelDownNormIdeal.nD) → Buf (Elt Ideal) ((c.tc : Thread Cert.KernelDownNormIdeal.nD Cert.KernelDownNormIdeal.τ).loc Cert.KernelDownNormIdeal.main_v0_3)),
      θ_run (Cert.KernelDownNormIdeal.defs (F := Ideal)) (onTc (τ := Cert.KernelDownNormIdeal.τ) (Cert.KernelDownNormIdeal.main (F := Ideal))) ⟨m, fun _ => 0, g⟩ (fun r => ∀ c : Dev Cert.KernelDownNormIdeal.nD,
          r.2.mem ((c.tc : Thread Cert.KernelDownNormIdeal.nD Cert.KernelDownNormIdeal.τ).loc Cert.KernelDownNormIdeal.main_v0_0) = v0 c
          ∧ r.2.mem ((c.tc : Thread Cert.KernelDownNormIdeal.nD Cert.KernelDownNormIdeal.τ).loc Cert.KernelDownNormIdeal.main_v0_1) = v1 c
          ∧ r.2.mem ((c.tc : Thread Cert.KernelDownNormIdeal.nD Cert.KernelDownNormIdeal.τ).loc Cert.KernelDownNormIdeal.main_v0_2) = v2 c
          ∧ r.2.mem ((c.tc : Thread Cert.KernelDownNormIdeal.nD Cert.KernelDownNormIdeal.τ).loc Cert.KernelDownNormIdeal.main_v0_3) = v3 c
          ∧ r.2.mem ((c.tc : Thread Cert.KernelDownNormIdeal.nD Cert.KernelDownNormIdeal.τ).loc Cert.KernelDownNormIdeal.main_arg0) = m ((c.tc : Thread Cert.KernelDownNormIdeal.nD Cert.KernelDownNormIdeal.τ).loc Cert.KernelDownNormIdeal.main_arg0)
          ∧ r.2.mem ((c.tc : Thread Cert.KernelDownNormIdeal.nD Cert.KernelDownNormIdeal.τ).loc Cert.KernelDownNormIdeal.main_arg1) = m ((c.tc : Thread Cert.KernelDownNormIdeal.nD Cert.KernelDownNormIdeal.τ).loc Cert.KernelDownNormIdeal.main_arg1)
          ∧ r.2.mem ((c.tc : Thread Cert.KernelDownNormIdeal.nD Cert.KernelDownNormIdeal.τ).loc Cert.KernelDownNormIdeal.main_arg2) = m ((c.tc : Thread Cert.KernelDownNormIdeal.nD Cert.KernelDownNormIdeal.τ).loc Cert.KernelDownNormIdeal.main_arg2)
          ∧ r.2.mem ((c.tc : Thread Cert.KernelDownNormIdeal.nD Cert.KernelDownNormIdeal.τ).loc Cert.KernelDownNormIdeal.main_arg3) = m ((c.tc : Thread Cert.KernelDownNormIdeal.nD Cert.KernelDownNormIdeal.τ).loc Cert.KernelDownNormIdeal.main_arg3)
          ∧ r.2.mem ((c.tc : Thread Cert.KernelDownNormIdeal.nD Cert.KernelDownNormIdeal.τ).loc Cert.KernelDownNormIdeal.main_arg4) = m ((c.tc : Thread Cert.KernelDownNormIdeal.nD Cert.KernelDownNormIdeal.τ).loc Cert.KernelDownNormIdeal.main_arg4))
      ∧ θ_run (Cert.ReferenceDownNormIdeal.defs (F := Ideal)) (onTc (τ := Cert.ReferenceDownNormIdeal.τ) (Cert.ReferenceDownNormIdeal.main (F := Ideal))) ⟨m', fun _ => 0, g'⟩ (fun r => ∀ c : Dev Cert.ReferenceDownNormIdeal.nD,
          r.2.mem ((c.tc : Thread Cert.ReferenceDownNormIdeal.nD Cert.ReferenceDownNormIdeal.τ).loc Cert.ReferenceDownNormIdeal.main_v27) = v0 c
          ∧ r.2.mem ((c.tc : Thread Cert.ReferenceDownNormIdeal.nD Cert.ReferenceDownNormIdeal.τ).loc Cert.ReferenceDownNormIdeal.main_v47) = v1 c
          ∧ r.2.mem ((c.tc : Thread Cert.ReferenceDownNormIdeal.nD Cert.ReferenceDownNormIdeal.τ).loc Cert.ReferenceDownNormIdeal.main_v45) = v2 c
          ∧ r.2.mem ((c.tc : Thread Cert.ReferenceDownNormIdeal.nD Cert.ReferenceDownNormIdeal.τ).loc Cert.ReferenceDownNormIdeal.main_v46) = v3 c
          ∧ r.2.mem ((c.tc : Thread Cert.ReferenceDownNormIdeal.nD Cert.ReferenceDownNormIdeal.τ).loc Cert.ReferenceDownNormIdeal.main_arg0) = m' ((c.tc : Thread Cert.ReferenceDownNormIdeal.nD Cert.ReferenceDownNormIdeal.τ).loc Cert.ReferenceDownNormIdeal.main_arg0)
          ∧ r.2.mem ((c.tc : Thread Cert.ReferenceDownNormIdeal.nD Cert.ReferenceDownNormIdeal.τ).loc Cert.ReferenceDownNormIdeal.main_arg1) = m' ((c.tc : Thread Cert.ReferenceDownNormIdeal.nD Cert.ReferenceDownNormIdeal.τ).loc Cert.ReferenceDownNormIdeal.main_arg1)
          ∧ r.2.mem ((c.tc : Thread Cert.ReferenceDownNormIdeal.nD Cert.ReferenceDownNormIdeal.τ).loc Cert.ReferenceDownNormIdeal.main_arg2) = m' ((c.tc : Thread Cert.ReferenceDownNormIdeal.nD Cert.ReferenceDownNormIdeal.τ).loc Cert.ReferenceDownNormIdeal.main_arg2)
          ∧ r.2.mem ((c.tc : Thread Cert.ReferenceDownNormIdeal.nD Cert.ReferenceDownNormIdeal.τ).loc Cert.ReferenceDownNormIdeal.main_arg3) = m' ((c.tc : Thread Cert.ReferenceDownNormIdeal.nD Cert.ReferenceDownNormIdeal.τ).loc Cert.ReferenceDownNormIdeal.main_arg3)
          ∧ r.2.mem ((c.tc : Thread Cert.ReferenceDownNormIdeal.nD Cert.ReferenceDownNormIdeal.τ).loc Cert.ReferenceDownNormIdeal.main_arg4) = m' ((c.tc : Thread Cert.ReferenceDownNormIdeal.nD Cert.ReferenceDownNormIdeal.τ).loc Cert.ReferenceDownNormIdeal.main_arg4))

def preserves_KernelSquareStep_KernelSquareStepIdeal : Prop :=
  True

def algebraic_KernelSquareStepIdeal_ReferenceSquareStepIdeal [hKernelSquareStepIdeal : Cert.KernelSquareStepIdeal.Facts] [hReferenceSquareStepIdeal : Cert.ReferenceSquareStepIdeal.Facts] : Prop :=
  ∀ (m : (ℓ : Loc Cert.KernelSquareStepIdeal.nD Cert.KernelSquareStepIdeal.τ Cert.KernelSquareStepIdeal.sig) → Buf (Elt Ideal) ℓ) (g : Dev Cert.KernelSquareStepIdeal.nD → PrngReg)
    (m' : (ℓ : Loc Cert.ReferenceSquareStepIdeal.nD Cert.ReferenceSquareStepIdeal.τ Cert.ReferenceSquareStepIdeal.sig) → Buf (Elt Ideal) ℓ) (g' : Dev Cert.ReferenceSquareStepIdeal.nD → PrngReg), Pre_KernelSquareStepIdeal m →
    (∀ c : Dev Cert.KernelSquareStepIdeal.nD,
      m' ((c.tc : Thread Cert.ReferenceSquareStepIdeal.nD Cert.ReferenceSquareStepIdeal.τ).loc Cert.ReferenceSquareStepIdeal.main_arg0) = m ((c.tc : Thread Cert.KernelSquareStepIdeal.nD Cert.KernelSquareStepIdeal.τ).loc Cert.KernelSquareStepIdeal.main_arg0)
      ∧ m' ((c.tc : Thread Cert.ReferenceSquareStepIdeal.nD Cert.ReferenceSquareStepIdeal.τ).loc Cert.ReferenceSquareStepIdeal.main_arg1) = m ((c.tc : Thread Cert.KernelSquareStepIdeal.nD Cert.KernelSquareStepIdeal.τ).loc Cert.KernelSquareStepIdeal.main_arg1)
      ∧ m' ((c.tc : Thread Cert.ReferenceSquareStepIdeal.nD Cert.ReferenceSquareStepIdeal.τ).loc Cert.ReferenceSquareStepIdeal.main_arg2) = m ((c.tc : Thread Cert.KernelSquareStepIdeal.nD Cert.KernelSquareStepIdeal.τ).loc Cert.KernelSquareStepIdeal.main_arg2)
      ∧ m' ((c.tc : Thread Cert.ReferenceSquareStepIdeal.nD Cert.ReferenceSquareStepIdeal.τ).loc Cert.ReferenceSquareStepIdeal.main_arg3) = m ((c.tc : Thread Cert.KernelSquareStepIdeal.nD Cert.KernelSquareStepIdeal.τ).loc Cert.KernelSquareStepIdeal.main_arg3)) →
    ∃ (v0 : (c : Dev Cert.KernelSquareStepIdeal.nD) → Buf (Elt Ideal) ((c.tc : Thread Cert.KernelSquareStepIdeal.nD Cert.KernelSquareStepIdeal.τ).loc Cert.KernelSquareStepIdeal.main_v0_0)) (v1 : (c : Dev Cert.KernelSquareStepIdeal.nD) → Buf (Elt Ideal) ((c.tc : Thread Cert.KernelSquareStepIdeal.nD Cert.KernelSquareStepIdeal.τ).loc Cert.KernelSquareStepIdeal.main_v0_1)) (v2 : (c : Dev Cert.KernelSquareStepIdeal.nD) → Buf (Elt Ideal) ((c.tc : Thread Cert.KernelSquareStepIdeal.nD Cert.KernelSquareStepIdeal.τ).loc Cert.KernelSquareStepIdeal.main_v0_2)) (v3 : (c : Dev Cert.KernelSquareStepIdeal.nD) → Buf (Elt Ideal) ((c.tc : Thread Cert.KernelSquareStepIdeal.nD Cert.KernelSquareStepIdeal.τ).loc Cert.KernelSquareStepIdeal.main_v0_3)),
      θ_run (Cert.KernelSquareStepIdeal.defs (F := Ideal)) (onTc (τ := Cert.KernelSquareStepIdeal.τ) (Cert.KernelSquareStepIdeal.main (F := Ideal))) ⟨m, fun _ => 0, g⟩ (fun r => ∀ c : Dev Cert.KernelSquareStepIdeal.nD,
          r.2.mem ((c.tc : Thread Cert.KernelSquareStepIdeal.nD Cert.KernelSquareStepIdeal.τ).loc Cert.KernelSquareStepIdeal.main_v0_0) = v0 c
          ∧ r.2.mem ((c.tc : Thread Cert.KernelSquareStepIdeal.nD Cert.KernelSquareStepIdeal.τ).loc Cert.KernelSquareStepIdeal.main_v0_1) = v1 c
          ∧ r.2.mem ((c.tc : Thread Cert.KernelSquareStepIdeal.nD Cert.KernelSquareStepIdeal.τ).loc Cert.KernelSquareStepIdeal.main_v0_2) = v2 c
          ∧ r.2.mem ((c.tc : Thread Cert.KernelSquareStepIdeal.nD Cert.KernelSquareStepIdeal.τ).loc Cert.KernelSquareStepIdeal.main_v0_3) = v3 c
          ∧ r.2.mem ((c.tc : Thread Cert.KernelSquareStepIdeal.nD Cert.KernelSquareStepIdeal.τ).loc Cert.KernelSquareStepIdeal.main_arg0) = m ((c.tc : Thread Cert.KernelSquareStepIdeal.nD Cert.KernelSquareStepIdeal.τ).loc Cert.KernelSquareStepIdeal.main_arg0)
          ∧ r.2.mem ((c.tc : Thread Cert.KernelSquareStepIdeal.nD Cert.KernelSquareStepIdeal.τ).loc Cert.KernelSquareStepIdeal.main_arg1) = m ((c.tc : Thread Cert.KernelSquareStepIdeal.nD Cert.KernelSquareStepIdeal.τ).loc Cert.KernelSquareStepIdeal.main_arg1)
          ∧ r.2.mem ((c.tc : Thread Cert.KernelSquareStepIdeal.nD Cert.KernelSquareStepIdeal.τ).loc Cert.KernelSquareStepIdeal.main_arg2) = m ((c.tc : Thread Cert.KernelSquareStepIdeal.nD Cert.KernelSquareStepIdeal.τ).loc Cert.KernelSquareStepIdeal.main_arg2)
          ∧ r.2.mem ((c.tc : Thread Cert.KernelSquareStepIdeal.nD Cert.KernelSquareStepIdeal.τ).loc Cert.KernelSquareStepIdeal.main_arg3) = m ((c.tc : Thread Cert.KernelSquareStepIdeal.nD Cert.KernelSquareStepIdeal.τ).loc Cert.KernelSquareStepIdeal.main_arg3))
      ∧ θ_run (Cert.ReferenceSquareStepIdeal.defs (F := Ideal)) (onTc (τ := Cert.ReferenceSquareStepIdeal.τ) (Cert.ReferenceSquareStepIdeal.main (F := Ideal))) ⟨m', fun _ => 0, g'⟩ (fun r => ∀ c : Dev Cert.ReferenceSquareStepIdeal.nD,
          r.2.mem ((c.tc : Thread Cert.ReferenceSquareStepIdeal.nD Cert.ReferenceSquareStepIdeal.τ).loc Cert.ReferenceSquareStepIdeal.main_v2) = v0 c
          ∧ r.2.mem ((c.tc : Thread Cert.ReferenceSquareStepIdeal.nD Cert.ReferenceSquareStepIdeal.τ).loc Cert.ReferenceSquareStepIdeal.main_v26) = v1 c
          ∧ r.2.mem ((c.tc : Thread Cert.ReferenceSquareStepIdeal.nD Cert.ReferenceSquareStepIdeal.τ).loc Cert.ReferenceSquareStepIdeal.main_v7) = v2 c
          ∧ r.2.mem ((c.tc : Thread Cert.ReferenceSquareStepIdeal.nD Cert.ReferenceSquareStepIdeal.τ).loc Cert.ReferenceSquareStepIdeal.main_v13) = v3 c
          ∧ r.2.mem ((c.tc : Thread Cert.ReferenceSquareStepIdeal.nD Cert.ReferenceSquareStepIdeal.τ).loc Cert.ReferenceSquareStepIdeal.main_arg0) = m' ((c.tc : Thread Cert.ReferenceSquareStepIdeal.nD Cert.ReferenceSquareStepIdeal.τ).loc Cert.ReferenceSquareStepIdeal.main_arg0)
          ∧ r.2.mem ((c.tc : Thread Cert.ReferenceSquareStepIdeal.nD Cert.ReferenceSquareStepIdeal.τ).loc Cert.ReferenceSquareStepIdeal.main_arg1) = m' ((c.tc : Thread Cert.ReferenceSquareStepIdeal.nD Cert.ReferenceSquareStepIdeal.τ).loc Cert.ReferenceSquareStepIdeal.main_arg1)
          ∧ r.2.mem ((c.tc : Thread Cert.ReferenceSquareStepIdeal.nD Cert.ReferenceSquareStepIdeal.τ).loc Cert.ReferenceSquareStepIdeal.main_arg2) = m' ((c.tc : Thread Cert.ReferenceSquareStepIdeal.nD Cert.ReferenceSquareStepIdeal.τ).loc Cert.ReferenceSquareStepIdeal.main_arg2)
          ∧ r.2.mem ((c.tc : Thread Cert.ReferenceSquareStepIdeal.nD Cert.ReferenceSquareStepIdeal.τ).loc Cert.ReferenceSquareStepIdeal.main_arg3) = m' ((c.tc : Thread Cert.ReferenceSquareStepIdeal.nD Cert.ReferenceSquareStepIdeal.τ).loc Cert.ReferenceSquareStepIdeal.main_arg3))

def preserves_KernelKvStep_KernelKvStepIdeal : Prop :=
  True

def algebraic_KernelKvStepIdeal_ReferenceKvStepIdeal [hKernelKvStepIdeal : Cert.KernelKvStepIdeal.Facts] [hReferenceKvStepIdeal : Cert.ReferenceKvStepIdeal.Facts] : Prop :=
  ∀ (m : (ℓ : Loc Cert.KernelKvStepIdeal.nD Cert.KernelKvStepIdeal.τ Cert.KernelKvStepIdeal.sig) → Buf (Elt Ideal) ℓ) (g : Dev Cert.KernelKvStepIdeal.nD → PrngReg)
    (m' : (ℓ : Loc Cert.ReferenceKvStepIdeal.nD Cert.ReferenceKvStepIdeal.τ Cert.ReferenceKvStepIdeal.sig) → Buf (Elt Ideal) ℓ) (g' : Dev Cert.ReferenceKvStepIdeal.nD → PrngReg), Pre_KernelKvStepIdeal m →
    (∀ c : Dev Cert.KernelKvStepIdeal.nD,
      m' ((c.tc : Thread Cert.ReferenceKvStepIdeal.nD Cert.ReferenceKvStepIdeal.τ).loc Cert.ReferenceKvStepIdeal.main_arg0) = m ((c.tc : Thread Cert.KernelKvStepIdeal.nD Cert.KernelKvStepIdeal.τ).loc Cert.KernelKvStepIdeal.main_arg0)
      ∧ m' ((c.tc : Thread Cert.ReferenceKvStepIdeal.nD Cert.ReferenceKvStepIdeal.τ).loc Cert.ReferenceKvStepIdeal.main_arg1) = m ((c.tc : Thread Cert.KernelKvStepIdeal.nD Cert.KernelKvStepIdeal.τ).loc Cert.KernelKvStepIdeal.main_arg1)
      ∧ m' ((c.tc : Thread Cert.ReferenceKvStepIdeal.nD Cert.ReferenceKvStepIdeal.τ).loc Cert.ReferenceKvStepIdeal.main_arg2) = m ((c.tc : Thread Cert.KernelKvStepIdeal.nD Cert.KernelKvStepIdeal.τ).loc Cert.KernelKvStepIdeal.main_arg2)
      ∧ m' ((c.tc : Thread Cert.ReferenceKvStepIdeal.nD Cert.ReferenceKvStepIdeal.τ).loc Cert.ReferenceKvStepIdeal.main_arg3) = m ((c.tc : Thread Cert.KernelKvStepIdeal.nD Cert.KernelKvStepIdeal.τ).loc Cert.KernelKvStepIdeal.main_arg3)) →
    ∃ (v0 : (c : Dev Cert.KernelKvStepIdeal.nD) → Buf (Elt Ideal) ((c.tc : Thread Cert.KernelKvStepIdeal.nD Cert.KernelKvStepIdeal.τ).loc Cert.KernelKvStepIdeal.main_v0_0)) (v1 : (c : Dev Cert.KernelKvStepIdeal.nD) → Buf (Elt Ideal) ((c.tc : Thread Cert.KernelKvStepIdeal.nD Cert.KernelKvStepIdeal.τ).loc Cert.KernelKvStepIdeal.main_v0_1)) (v2 : (c : Dev Cert.KernelKvStepIdeal.nD) → Buf (Elt Ideal) ((c.tc : Thread Cert.KernelKvStepIdeal.nD Cert.KernelKvStepIdeal.τ).loc Cert.KernelKvStepIdeal.main_v0_2)) (v3 : (c : Dev Cert.KernelKvStepIdeal.nD) → Buf (Elt Ideal) ((c.tc : Thread Cert.KernelKvStepIdeal.nD Cert.KernelKvStepIdeal.τ).loc Cert.KernelKvStepIdeal.main_v0_3)),
      θ_run (Cert.KernelKvStepIdeal.defs (F := Ideal)) (onTc (τ := Cert.KernelKvStepIdeal.τ) (Cert.KernelKvStepIdeal.main (F := Ideal))) ⟨m, fun _ => 0, g⟩ (fun r => ∀ c : Dev Cert.KernelKvStepIdeal.nD,
          r.2.mem ((c.tc : Thread Cert.KernelKvStepIdeal.nD Cert.KernelKvStepIdeal.τ).loc Cert.KernelKvStepIdeal.main_v0_0) = v0 c
          ∧ r.2.mem ((c.tc : Thread Cert.KernelKvStepIdeal.nD Cert.KernelKvStepIdeal.τ).loc Cert.KernelKvStepIdeal.main_v0_1) = v1 c
          ∧ r.2.mem ((c.tc : Thread Cert.KernelKvStepIdeal.nD Cert.KernelKvStepIdeal.τ).loc Cert.KernelKvStepIdeal.main_v0_2) = v2 c
          ∧ r.2.mem ((c.tc : Thread Cert.KernelKvStepIdeal.nD Cert.KernelKvStepIdeal.τ).loc Cert.KernelKvStepIdeal.main_v0_3) = v3 c
          ∧ r.2.mem ((c.tc : Thread Cert.KernelKvStepIdeal.nD Cert.KernelKvStepIdeal.τ).loc Cert.KernelKvStepIdeal.main_arg0) = m ((c.tc : Thread Cert.KernelKvStepIdeal.nD Cert.KernelKvStepIdeal.τ).loc Cert.KernelKvStepIdeal.main_arg0)
          ∧ r.2.mem ((c.tc : Thread Cert.KernelKvStepIdeal.nD Cert.KernelKvStepIdeal.τ).loc Cert.KernelKvStepIdeal.main_arg1) = m ((c.tc : Thread Cert.KernelKvStepIdeal.nD Cert.KernelKvStepIdeal.τ).loc Cert.KernelKvStepIdeal.main_arg1)
          ∧ r.2.mem ((c.tc : Thread Cert.KernelKvStepIdeal.nD Cert.KernelKvStepIdeal.τ).loc Cert.KernelKvStepIdeal.main_arg2) = m ((c.tc : Thread Cert.KernelKvStepIdeal.nD Cert.KernelKvStepIdeal.τ).loc Cert.KernelKvStepIdeal.main_arg2)
          ∧ r.2.mem ((c.tc : Thread Cert.KernelKvStepIdeal.nD Cert.KernelKvStepIdeal.τ).loc Cert.KernelKvStepIdeal.main_arg3) = m ((c.tc : Thread Cert.KernelKvStepIdeal.nD Cert.KernelKvStepIdeal.τ).loc Cert.KernelKvStepIdeal.main_arg3))
      ∧ θ_run (Cert.ReferenceKvStepIdeal.defs (F := Ideal)) (onTc (τ := Cert.ReferenceKvStepIdeal.τ) (Cert.ReferenceKvStepIdeal.main (F := Ideal))) ⟨m', fun _ => 0, g'⟩ (fun r => ∀ c : Dev Cert.ReferenceKvStepIdeal.nD,
          r.2.mem ((c.tc : Thread Cert.ReferenceKvStepIdeal.nD Cert.ReferenceKvStepIdeal.τ).loc Cert.ReferenceKvStepIdeal.main_v2) = v0 c
          ∧ r.2.mem ((c.tc : Thread Cert.ReferenceKvStepIdeal.nD Cert.ReferenceKvStepIdeal.τ).loc Cert.ReferenceKvStepIdeal.main_v26) = v1 c
          ∧ r.2.mem ((c.tc : Thread Cert.ReferenceKvStepIdeal.nD Cert.ReferenceKvStepIdeal.τ).loc Cert.ReferenceKvStepIdeal.main_v7) = v2 c
          ∧ r.2.mem ((c.tc : Thread Cert.ReferenceKvStepIdeal.nD Cert.ReferenceKvStepIdeal.τ).loc Cert.ReferenceKvStepIdeal.main_v13) = v3 c
          ∧ r.2.mem ((c.tc : Thread Cert.ReferenceKvStepIdeal.nD Cert.ReferenceKvStepIdeal.τ).loc Cert.ReferenceKvStepIdeal.main_arg0) = m' ((c.tc : Thread Cert.ReferenceKvStepIdeal.nD Cert.ReferenceKvStepIdeal.τ).loc Cert.ReferenceKvStepIdeal.main_arg0)
          ∧ r.2.mem ((c.tc : Thread Cert.ReferenceKvStepIdeal.nD Cert.ReferenceKvStepIdeal.τ).loc Cert.ReferenceKvStepIdeal.main_arg1) = m' ((c.tc : Thread Cert.ReferenceKvStepIdeal.nD Cert.ReferenceKvStepIdeal.τ).loc Cert.ReferenceKvStepIdeal.main_arg1)
          ∧ r.2.mem ((c.tc : Thread Cert.ReferenceKvStepIdeal.nD Cert.ReferenceKvStepIdeal.τ).loc Cert.ReferenceKvStepIdeal.main_arg2) = m' ((c.tc : Thread Cert.ReferenceKvStepIdeal.nD Cert.ReferenceKvStepIdeal.τ).loc Cert.ReferenceKvStepIdeal.main_arg2)
          ∧ r.2.mem ((c.tc : Thread Cert.ReferenceKvStepIdeal.nD Cert.ReferenceKvStepIdeal.τ).loc Cert.ReferenceKvStepIdeal.main_arg3) = m' ((c.tc : Thread Cert.ReferenceKvStepIdeal.nD Cert.ReferenceKvStepIdeal.τ).loc Cert.ReferenceKvStepIdeal.main_arg3))

def preserves_KernelMemStep_KernelMemStepIdeal : Prop :=
  True

def algebraic_KernelMemStepIdeal_ReferenceMemStepIdeal [hKernelMemStepIdeal : Cert.KernelMemStepIdeal.Facts] [hReferenceMemStepIdeal : Cert.ReferenceMemStepIdeal.Facts] : Prop :=
  ∀ (m : (ℓ : Loc Cert.KernelMemStepIdeal.nD Cert.KernelMemStepIdeal.τ Cert.KernelMemStepIdeal.sig) → Buf (Elt Ideal) ℓ) (g : Dev Cert.KernelMemStepIdeal.nD → PrngReg)
    (m' : (ℓ : Loc Cert.ReferenceMemStepIdeal.nD Cert.ReferenceMemStepIdeal.τ Cert.ReferenceMemStepIdeal.sig) → Buf (Elt Ideal) ℓ) (g' : Dev Cert.ReferenceMemStepIdeal.nD → PrngReg), Pre_KernelMemStepIdeal m →
    (∀ c : Dev Cert.KernelMemStepIdeal.nD,
      m' ((c.tc : Thread Cert.ReferenceMemStepIdeal.nD Cert.ReferenceMemStepIdeal.τ).loc Cert.ReferenceMemStepIdeal.main_arg0) = m ((c.tc : Thread Cert.KernelMemStepIdeal.nD Cert.KernelMemStepIdeal.τ).loc Cert.KernelMemStepIdeal.main_arg0)
      ∧ m' ((c.tc : Thread Cert.ReferenceMemStepIdeal.nD Cert.ReferenceMemStepIdeal.τ).loc Cert.ReferenceMemStepIdeal.main_arg1) = m ((c.tc : Thread Cert.KernelMemStepIdeal.nD Cert.KernelMemStepIdeal.τ).loc Cert.KernelMemStepIdeal.main_arg1)
      ∧ m' ((c.tc : Thread Cert.ReferenceMemStepIdeal.nD Cert.ReferenceMemStepIdeal.τ).loc Cert.ReferenceMemStepIdeal.main_arg2) = m ((c.tc : Thread Cert.KernelMemStepIdeal.nD Cert.KernelMemStepIdeal.τ).loc Cert.KernelMemStepIdeal.main_arg2)
      ∧ m' ((c.tc : Thread Cert.ReferenceMemStepIdeal.nD Cert.ReferenceMemStepIdeal.τ).loc Cert.ReferenceMemStepIdeal.main_arg3) = m ((c.tc : Thread Cert.KernelMemStepIdeal.nD Cert.KernelMemStepIdeal.τ).loc Cert.KernelMemStepIdeal.main_arg3)
      ∧ m' ((c.tc : Thread Cert.ReferenceMemStepIdeal.nD Cert.ReferenceMemStepIdeal.τ).loc Cert.ReferenceMemStepIdeal.main_arg4) = m ((c.tc : Thread Cert.KernelMemStepIdeal.nD Cert.KernelMemStepIdeal.τ).loc Cert.KernelMemStepIdeal.main_arg4)) →
    ∃ (v0 : (c : Dev Cert.KernelMemStepIdeal.nD) → Buf (Elt Ideal) ((c.tc : Thread Cert.KernelMemStepIdeal.nD Cert.KernelMemStepIdeal.τ).loc Cert.KernelMemStepIdeal.main_v0_0)) (v1 : (c : Dev Cert.KernelMemStepIdeal.nD) → Buf (Elt Ideal) ((c.tc : Thread Cert.KernelMemStepIdeal.nD Cert.KernelMemStepIdeal.τ).loc Cert.KernelMemStepIdeal.main_v0_1)) (v2 : (c : Dev Cert.KernelMemStepIdeal.nD) → Buf (Elt Ideal) ((c.tc : Thread Cert.KernelMemStepIdeal.nD Cert.KernelMemStepIdeal.τ).loc Cert.KernelMemStepIdeal.main_v0_2)) (v3 : (c : Dev Cert.KernelMemStepIdeal.nD) → Buf (Elt Ideal) ((c.tc : Thread Cert.KernelMemStepIdeal.nD Cert.KernelMemStepIdeal.τ).loc Cert.KernelMemStepIdeal.main_v0_3)),
      θ_run (Cert.KernelMemStepIdeal.defs (F := Ideal)) (onTc (τ := Cert.KernelMemStepIdeal.τ) (Cert.KernelMemStepIdeal.main (F := Ideal))) ⟨m, fun _ => 0, g⟩ (fun r => ∀ c : Dev Cert.KernelMemStepIdeal.nD,
          r.2.mem ((c.tc : Thread Cert.KernelMemStepIdeal.nD Cert.KernelMemStepIdeal.τ).loc Cert.KernelMemStepIdeal.main_v0_0) = v0 c
          ∧ r.2.mem ((c.tc : Thread Cert.KernelMemStepIdeal.nD Cert.KernelMemStepIdeal.τ).loc Cert.KernelMemStepIdeal.main_v0_1) = v1 c
          ∧ r.2.mem ((c.tc : Thread Cert.KernelMemStepIdeal.nD Cert.KernelMemStepIdeal.τ).loc Cert.KernelMemStepIdeal.main_v0_2) = v2 c
          ∧ r.2.mem ((c.tc : Thread Cert.KernelMemStepIdeal.nD Cert.KernelMemStepIdeal.τ).loc Cert.KernelMemStepIdeal.main_v0_3) = v3 c
          ∧ r.2.mem ((c.tc : Thread Cert.KernelMemStepIdeal.nD Cert.KernelMemStepIdeal.τ).loc Cert.KernelMemStepIdeal.main_arg0) = m ((c.tc : Thread Cert.KernelMemStepIdeal.nD Cert.KernelMemStepIdeal.τ).loc Cert.KernelMemStepIdeal.main_arg0)
          ∧ r.2.mem ((c.tc : Thread Cert.KernelMemStepIdeal.nD Cert.KernelMemStepIdeal.τ).loc Cert.KernelMemStepIdeal.main_arg1) = m ((c.tc : Thread Cert.KernelMemStepIdeal.nD Cert.KernelMemStepIdeal.τ).loc Cert.KernelMemStepIdeal.main_arg1)
          ∧ r.2.mem ((c.tc : Thread Cert.KernelMemStepIdeal.nD Cert.KernelMemStepIdeal.τ).loc Cert.KernelMemStepIdeal.main_arg2) = m ((c.tc : Thread Cert.KernelMemStepIdeal.nD Cert.KernelMemStepIdeal.τ).loc Cert.KernelMemStepIdeal.main_arg2)
          ∧ r.2.mem ((c.tc : Thread Cert.KernelMemStepIdeal.nD Cert.KernelMemStepIdeal.τ).loc Cert.KernelMemStepIdeal.main_arg3) = m ((c.tc : Thread Cert.KernelMemStepIdeal.nD Cert.KernelMemStepIdeal.τ).loc Cert.KernelMemStepIdeal.main_arg3)
          ∧ r.2.mem ((c.tc : Thread Cert.KernelMemStepIdeal.nD Cert.KernelMemStepIdeal.τ).loc Cert.KernelMemStepIdeal.main_arg4) = m ((c.tc : Thread Cert.KernelMemStepIdeal.nD Cert.KernelMemStepIdeal.τ).loc Cert.KernelMemStepIdeal.main_arg4))
      ∧ θ_run (Cert.ReferenceMemStepIdeal.defs (F := Ideal)) (onTc (τ := Cert.ReferenceMemStepIdeal.τ) (Cert.ReferenceMemStepIdeal.main (F := Ideal))) ⟨m', fun _ => 0, g'⟩ (fun r => ∀ c : Dev Cert.ReferenceMemStepIdeal.nD,
          r.2.mem ((c.tc : Thread Cert.ReferenceMemStepIdeal.nD Cert.ReferenceMemStepIdeal.τ).loc Cert.ReferenceMemStepIdeal.main_v6) = v0 c
          ∧ r.2.mem ((c.tc : Thread Cert.ReferenceMemStepIdeal.nD Cert.ReferenceMemStepIdeal.τ).loc Cert.ReferenceMemStepIdeal.main_v30) = v1 c
          ∧ r.2.mem ((c.tc : Thread Cert.ReferenceMemStepIdeal.nD Cert.ReferenceMemStepIdeal.τ).loc Cert.ReferenceMemStepIdeal.main_v11) = v2 c
          ∧ r.2.mem ((c.tc : Thread Cert.ReferenceMemStepIdeal.nD Cert.ReferenceMemStepIdeal.τ).loc Cert.ReferenceMemStepIdeal.main_v17) = v3 c
          ∧ r.2.mem ((c.tc : Thread Cert.ReferenceMemStepIdeal.nD Cert.ReferenceMemStepIdeal.τ).loc Cert.ReferenceMemStepIdeal.main_arg0) = m' ((c.tc : Thread Cert.ReferenceMemStepIdeal.nD Cert.ReferenceMemStepIdeal.τ).loc Cert.ReferenceMemStepIdeal.main_arg0)
          ∧ r.2.mem ((c.tc : Thread Cert.ReferenceMemStepIdeal.nD Cert.ReferenceMemStepIdeal.τ).loc Cert.ReferenceMemStepIdeal.main_arg1) = m' ((c.tc : Thread Cert.ReferenceMemStepIdeal.nD Cert.ReferenceMemStepIdeal.τ).loc Cert.ReferenceMemStepIdeal.main_arg1)
          ∧ r.2.mem ((c.tc : Thread Cert.ReferenceMemStepIdeal.nD Cert.ReferenceMemStepIdeal.τ).loc Cert.ReferenceMemStepIdeal.main_arg2) = m' ((c.tc : Thread Cert.ReferenceMemStepIdeal.nD Cert.ReferenceMemStepIdeal.τ).loc Cert.ReferenceMemStepIdeal.main_arg2)
          ∧ r.2.mem ((c.tc : Thread Cert.ReferenceMemStepIdeal.nD Cert.ReferenceMemStepIdeal.τ).loc Cert.ReferenceMemStepIdeal.main_arg3) = m' ((c.tc : Thread Cert.ReferenceMemStepIdeal.nD Cert.ReferenceMemStepIdeal.τ).loc Cert.ReferenceMemStepIdeal.main_arg3)
          ∧ r.2.mem ((c.tc : Thread Cert.ReferenceMemStepIdeal.nD Cert.ReferenceMemStepIdeal.τ).loc Cert.ReferenceMemStepIdeal.main_arg4) = m' ((c.tc : Thread Cert.ReferenceMemStepIdeal.nD Cert.ReferenceMemStepIdeal.τ).loc Cert.ReferenceMemStepIdeal.main_arg4))

def preserves_KernelUpStep_KernelUpStepIdeal : Prop :=
  True

def algebraic_KernelUpStepIdeal_ReferenceUpStepIdeal [hKernelUpStepIdeal : Cert.KernelUpStepIdeal.Facts] [hReferenceUpStepIdeal : Cert.ReferenceUpStepIdeal.Facts] : Prop :=
  ∀ (m : (ℓ : Loc Cert.KernelUpStepIdeal.nD Cert.KernelUpStepIdeal.τ Cert.KernelUpStepIdeal.sig) → Buf (Elt Ideal) ℓ) (g : Dev Cert.KernelUpStepIdeal.nD → PrngReg)
    (m' : (ℓ : Loc Cert.ReferenceUpStepIdeal.nD Cert.ReferenceUpStepIdeal.τ Cert.ReferenceUpStepIdeal.sig) → Buf (Elt Ideal) ℓ) (g' : Dev Cert.ReferenceUpStepIdeal.nD → PrngReg), Pre_KernelUpStepIdeal m →
    (∀ c : Dev Cert.KernelUpStepIdeal.nD,
      m' ((c.tc : Thread Cert.ReferenceUpStepIdeal.nD Cert.ReferenceUpStepIdeal.τ).loc Cert.ReferenceUpStepIdeal.main_arg0) = m ((c.tc : Thread Cert.KernelUpStepIdeal.nD Cert.KernelUpStepIdeal.τ).loc Cert.KernelUpStepIdeal.main_arg0)
      ∧ m' ((c.tc : Thread Cert.ReferenceUpStepIdeal.nD Cert.ReferenceUpStepIdeal.τ).loc Cert.ReferenceUpStepIdeal.main_arg1) = m ((c.tc : Thread Cert.KernelUpStepIdeal.nD Cert.KernelUpStepIdeal.τ).loc Cert.KernelUpStepIdeal.main_arg1)
      ∧ m' ((c.tc : Thread Cert.ReferenceUpStepIdeal.nD Cert.ReferenceUpStepIdeal.τ).loc Cert.ReferenceUpStepIdeal.main_arg2) = m ((c.tc : Thread Cert.KernelUpStepIdeal.nD Cert.KernelUpStepIdeal.τ).loc Cert.KernelUpStepIdeal.main_arg2)
      ∧ m' ((c.tc : Thread Cert.ReferenceUpStepIdeal.nD Cert.ReferenceUpStepIdeal.τ).loc Cert.ReferenceUpStepIdeal.main_arg3) = m ((c.tc : Thread Cert.KernelUpStepIdeal.nD Cert.KernelUpStepIdeal.τ).loc Cert.KernelUpStepIdeal.main_arg3)
      ∧ m' ((c.tc : Thread Cert.ReferenceUpStepIdeal.nD Cert.ReferenceUpStepIdeal.τ).loc Cert.ReferenceUpStepIdeal.main_arg4) = m ((c.tc : Thread Cert.KernelUpStepIdeal.nD Cert.KernelUpStepIdeal.τ).loc Cert.KernelUpStepIdeal.main_arg4)) →
    ∃ (v0 : (c : Dev Cert.KernelUpStepIdeal.nD) → Buf (Elt Ideal) ((c.tc : Thread Cert.KernelUpStepIdeal.nD Cert.KernelUpStepIdeal.τ).loc Cert.KernelUpStepIdeal.main_v0_0)) (v1 : (c : Dev Cert.KernelUpStepIdeal.nD) → Buf (Elt Ideal) ((c.tc : Thread Cert.KernelUpStepIdeal.nD Cert.KernelUpStepIdeal.τ).loc Cert.KernelUpStepIdeal.main_v0_1)) (v2 : (c : Dev Cert.KernelUpStepIdeal.nD) → Buf (Elt Ideal) ((c.tc : Thread Cert.KernelUpStepIdeal.nD Cert.KernelUpStepIdeal.τ).loc Cert.KernelUpStepIdeal.main_v0_2)) (v3 : (c : Dev Cert.KernelUpStepIdeal.nD) → Buf (Elt Ideal) ((c.tc : Thread Cert.KernelUpStepIdeal.nD Cert.KernelUpStepIdeal.τ).loc Cert.KernelUpStepIdeal.main_v0_3)),
      θ_run (Cert.KernelUpStepIdeal.defs (F := Ideal)) (onTc (τ := Cert.KernelUpStepIdeal.τ) (Cert.KernelUpStepIdeal.main (F := Ideal))) ⟨m, fun _ => 0, g⟩ (fun r => ∀ c : Dev Cert.KernelUpStepIdeal.nD,
          r.2.mem ((c.tc : Thread Cert.KernelUpStepIdeal.nD Cert.KernelUpStepIdeal.τ).loc Cert.KernelUpStepIdeal.main_v0_0) = v0 c
          ∧ r.2.mem ((c.tc : Thread Cert.KernelUpStepIdeal.nD Cert.KernelUpStepIdeal.τ).loc Cert.KernelUpStepIdeal.main_v0_1) = v1 c
          ∧ r.2.mem ((c.tc : Thread Cert.KernelUpStepIdeal.nD Cert.KernelUpStepIdeal.τ).loc Cert.KernelUpStepIdeal.main_v0_2) = v2 c
          ∧ r.2.mem ((c.tc : Thread Cert.KernelUpStepIdeal.nD Cert.KernelUpStepIdeal.τ).loc Cert.KernelUpStepIdeal.main_v0_3) = v3 c
          ∧ r.2.mem ((c.tc : Thread Cert.KernelUpStepIdeal.nD Cert.KernelUpStepIdeal.τ).loc Cert.KernelUpStepIdeal.main_arg0) = m ((c.tc : Thread Cert.KernelUpStepIdeal.nD Cert.KernelUpStepIdeal.τ).loc Cert.KernelUpStepIdeal.main_arg0)
          ∧ r.2.mem ((c.tc : Thread Cert.KernelUpStepIdeal.nD Cert.KernelUpStepIdeal.τ).loc Cert.KernelUpStepIdeal.main_arg1) = m ((c.tc : Thread Cert.KernelUpStepIdeal.nD Cert.KernelUpStepIdeal.τ).loc Cert.KernelUpStepIdeal.main_arg1)
          ∧ r.2.mem ((c.tc : Thread Cert.KernelUpStepIdeal.nD Cert.KernelUpStepIdeal.τ).loc Cert.KernelUpStepIdeal.main_arg2) = m ((c.tc : Thread Cert.KernelUpStepIdeal.nD Cert.KernelUpStepIdeal.τ).loc Cert.KernelUpStepIdeal.main_arg2)
          ∧ r.2.mem ((c.tc : Thread Cert.KernelUpStepIdeal.nD Cert.KernelUpStepIdeal.τ).loc Cert.KernelUpStepIdeal.main_arg3) = m ((c.tc : Thread Cert.KernelUpStepIdeal.nD Cert.KernelUpStepIdeal.τ).loc Cert.KernelUpStepIdeal.main_arg3)
          ∧ r.2.mem ((c.tc : Thread Cert.KernelUpStepIdeal.nD Cert.KernelUpStepIdeal.τ).loc Cert.KernelUpStepIdeal.main_arg4) = m ((c.tc : Thread Cert.KernelUpStepIdeal.nD Cert.KernelUpStepIdeal.τ).loc Cert.KernelUpStepIdeal.main_arg4))
      ∧ θ_run (Cert.ReferenceUpStepIdeal.defs (F := Ideal)) (onTc (τ := Cert.ReferenceUpStepIdeal.τ) (Cert.ReferenceUpStepIdeal.main (F := Ideal))) ⟨m', fun _ => 0, g'⟩ (fun r => ∀ c : Dev Cert.ReferenceUpStepIdeal.nD,
          r.2.mem ((c.tc : Thread Cert.ReferenceUpStepIdeal.nD Cert.ReferenceUpStepIdeal.τ).loc Cert.ReferenceUpStepIdeal.main_v6) = v0 c
          ∧ r.2.mem ((c.tc : Thread Cert.ReferenceUpStepIdeal.nD Cert.ReferenceUpStepIdeal.τ).loc Cert.ReferenceUpStepIdeal.main_v30) = v1 c
          ∧ r.2.mem ((c.tc : Thread Cert.ReferenceUpStepIdeal.nD Cert.ReferenceUpStepIdeal.τ).loc Cert.ReferenceUpStepIdeal.main_v11) = v2 c
          ∧ r.2.mem ((c.tc : Thread Cert.ReferenceUpStepIdeal.nD Cert.ReferenceUpStepIdeal.τ).loc Cert.ReferenceUpStepIdeal.main_v17) = v3 c
          ∧ r.2.mem ((c.tc : Thread Cert.ReferenceUpStepIdeal.nD Cert.ReferenceUpStepIdeal.τ).loc Cert.ReferenceUpStepIdeal.main_arg0) = m' ((c.tc : Thread Cert.ReferenceUpStepIdeal.nD Cert.ReferenceUpStepIdeal.τ).loc Cert.ReferenceUpStepIdeal.main_arg0)
          ∧ r.2.mem ((c.tc : Thread Cert.ReferenceUpStepIdeal.nD Cert.ReferenceUpStepIdeal.τ).loc Cert.ReferenceUpStepIdeal.main_arg1) = m' ((c.tc : Thread Cert.ReferenceUpStepIdeal.nD Cert.ReferenceUpStepIdeal.τ).loc Cert.ReferenceUpStepIdeal.main_arg1)
          ∧ r.2.mem ((c.tc : Thread Cert.ReferenceUpStepIdeal.nD Cert.ReferenceUpStepIdeal.τ).loc Cert.ReferenceUpStepIdeal.main_arg2) = m' ((c.tc : Thread Cert.ReferenceUpStepIdeal.nD Cert.ReferenceUpStepIdeal.τ).loc Cert.ReferenceUpStepIdeal.main_arg2)
          ∧ r.2.mem ((c.tc : Thread Cert.ReferenceUpStepIdeal.nD Cert.ReferenceUpStepIdeal.τ).loc Cert.ReferenceUpStepIdeal.main_arg3) = m' ((c.tc : Thread Cert.ReferenceUpStepIdeal.nD Cert.ReferenceUpStepIdeal.τ).loc Cert.ReferenceUpStepIdeal.main_arg3)
          ∧ r.2.mem ((c.tc : Thread Cert.ReferenceUpStepIdeal.nD Cert.ReferenceUpStepIdeal.τ).loc Cert.ReferenceUpStepIdeal.main_arg4) = m' ((c.tc : Thread Cert.ReferenceUpStepIdeal.nD Cert.ReferenceUpStepIdeal.τ).loc Cert.ReferenceUpStepIdeal.main_arg4))

def preserves_KernelDownStep_KernelDownStepIdeal : Prop :=
  True

def algebraic_KernelDownStepIdeal_ReferenceDownStepIdeal [hKernelDownStepIdeal : Cert.KernelDownStepIdeal.Facts] [hReferenceDownStepIdeal : Cert.ReferenceDownStepIdeal.Facts] : Prop :=
  ∀ (m : (ℓ : Loc Cert.KernelDownStepIdeal.nD Cert.KernelDownStepIdeal.τ Cert.KernelDownStepIdeal.sig) → Buf (Elt Ideal) ℓ) (g : Dev Cert.KernelDownStepIdeal.nD → PrngReg)
    (m' : (ℓ : Loc Cert.ReferenceDownStepIdeal.nD Cert.ReferenceDownStepIdeal.τ Cert.ReferenceDownStepIdeal.sig) → Buf (Elt Ideal) ℓ) (g' : Dev Cert.ReferenceDownStepIdeal.nD → PrngReg), Pre_KernelDownStepIdeal m →
    (∀ c : Dev Cert.KernelDownStepIdeal.nD,
      m' ((c.tc : Thread Cert.ReferenceDownStepIdeal.nD Cert.ReferenceDownStepIdeal.τ).loc Cert.ReferenceDownStepIdeal.main_arg0) = m ((c.tc : Thread Cert.KernelDownStepIdeal.nD Cert.KernelDownStepIdeal.τ).loc Cert.KernelDownStepIdeal.main_arg0)
      ∧ m' ((c.tc : Thread Cert.ReferenceDownStepIdeal.nD Cert.ReferenceDownStepIdeal.τ).loc Cert.ReferenceDownStepIdeal.main_arg1) = m ((c.tc : Thread Cert.KernelDownStepIdeal.nD Cert.KernelDownStepIdeal.τ).loc Cert.KernelDownStepIdeal.main_arg1)
      ∧ m' ((c.tc : Thread Cert.ReferenceDownStepIdeal.nD Cert.ReferenceDownStepIdeal.τ).loc Cert.ReferenceDownStepIdeal.main_arg2) = m ((c.tc : Thread Cert.KernelDownStepIdeal.nD Cert.KernelDownStepIdeal.τ).loc Cert.KernelDownStepIdeal.main_arg2)
      ∧ m' ((c.tc : Thread Cert.ReferenceDownStepIdeal.nD Cert.ReferenceDownStepIdeal.τ).loc Cert.ReferenceDownStepIdeal.main_arg3) = m ((c.tc : Thread Cert.KernelDownStepIdeal.nD Cert.KernelDownStepIdeal.τ).loc Cert.KernelDownStepIdeal.main_arg3)
      ∧ m' ((c.tc : Thread Cert.ReferenceDownStepIdeal.nD Cert.ReferenceDownStepIdeal.τ).loc Cert.ReferenceDownStepIdeal.main_arg4) = m ((c.tc : Thread Cert.KernelDownStepIdeal.nD Cert.KernelDownStepIdeal.τ).loc Cert.KernelDownStepIdeal.main_arg4)) →
    ∃ (v0 : (c : Dev Cert.KernelDownStepIdeal.nD) → Buf (Elt Ideal) ((c.tc : Thread Cert.KernelDownStepIdeal.nD Cert.KernelDownStepIdeal.τ).loc Cert.KernelDownStepIdeal.main_v0_0)) (v1 : (c : Dev Cert.KernelDownStepIdeal.nD) → Buf (Elt Ideal) ((c.tc : Thread Cert.KernelDownStepIdeal.nD Cert.KernelDownStepIdeal.τ).loc Cert.KernelDownStepIdeal.main_v0_1)) (v2 : (c : Dev Cert.KernelDownStepIdeal.nD) → Buf (Elt Ideal) ((c.tc : Thread Cert.KernelDownStepIdeal.nD Cert.KernelDownStepIdeal.τ).loc Cert.KernelDownStepIdeal.main_v0_2)) (v3 : (c : Dev Cert.KernelDownStepIdeal.nD) → Buf (Elt Ideal) ((c.tc : Thread Cert.KernelDownStepIdeal.nD Cert.KernelDownStepIdeal.τ).loc Cert.KernelDownStepIdeal.main_v0_3)),
      θ_run (Cert.KernelDownStepIdeal.defs (F := Ideal)) (onTc (τ := Cert.KernelDownStepIdeal.τ) (Cert.KernelDownStepIdeal.main (F := Ideal))) ⟨m, fun _ => 0, g⟩ (fun r => ∀ c : Dev Cert.KernelDownStepIdeal.nD,
          r.2.mem ((c.tc : Thread Cert.KernelDownStepIdeal.nD Cert.KernelDownStepIdeal.τ).loc Cert.KernelDownStepIdeal.main_v0_0) = v0 c
          ∧ r.2.mem ((c.tc : Thread Cert.KernelDownStepIdeal.nD Cert.KernelDownStepIdeal.τ).loc Cert.KernelDownStepIdeal.main_v0_1) = v1 c
          ∧ r.2.mem ((c.tc : Thread Cert.KernelDownStepIdeal.nD Cert.KernelDownStepIdeal.τ).loc Cert.KernelDownStepIdeal.main_v0_2) = v2 c
          ∧ r.2.mem ((c.tc : Thread Cert.KernelDownStepIdeal.nD Cert.KernelDownStepIdeal.τ).loc Cert.KernelDownStepIdeal.main_v0_3) = v3 c
          ∧ r.2.mem ((c.tc : Thread Cert.KernelDownStepIdeal.nD Cert.KernelDownStepIdeal.τ).loc Cert.KernelDownStepIdeal.main_arg0) = m ((c.tc : Thread Cert.KernelDownStepIdeal.nD Cert.KernelDownStepIdeal.τ).loc Cert.KernelDownStepIdeal.main_arg0)
          ∧ r.2.mem ((c.tc : Thread Cert.KernelDownStepIdeal.nD Cert.KernelDownStepIdeal.τ).loc Cert.KernelDownStepIdeal.main_arg1) = m ((c.tc : Thread Cert.KernelDownStepIdeal.nD Cert.KernelDownStepIdeal.τ).loc Cert.KernelDownStepIdeal.main_arg1)
          ∧ r.2.mem ((c.tc : Thread Cert.KernelDownStepIdeal.nD Cert.KernelDownStepIdeal.τ).loc Cert.KernelDownStepIdeal.main_arg2) = m ((c.tc : Thread Cert.KernelDownStepIdeal.nD Cert.KernelDownStepIdeal.τ).loc Cert.KernelDownStepIdeal.main_arg2)
          ∧ r.2.mem ((c.tc : Thread Cert.KernelDownStepIdeal.nD Cert.KernelDownStepIdeal.τ).loc Cert.KernelDownStepIdeal.main_arg3) = m ((c.tc : Thread Cert.KernelDownStepIdeal.nD Cert.KernelDownStepIdeal.τ).loc Cert.KernelDownStepIdeal.main_arg3)
          ∧ r.2.mem ((c.tc : Thread Cert.KernelDownStepIdeal.nD Cert.KernelDownStepIdeal.τ).loc Cert.KernelDownStepIdeal.main_arg4) = m ((c.tc : Thread Cert.KernelDownStepIdeal.nD Cert.KernelDownStepIdeal.τ).loc Cert.KernelDownStepIdeal.main_arg4))
      ∧ θ_run (Cert.ReferenceDownStepIdeal.defs (F := Ideal)) (onTc (τ := Cert.ReferenceDownStepIdeal.τ) (Cert.ReferenceDownStepIdeal.main (F := Ideal))) ⟨m', fun _ => 0, g'⟩ (fun r => ∀ c : Dev Cert.ReferenceDownStepIdeal.nD,
          r.2.mem ((c.tc : Thread Cert.ReferenceDownStepIdeal.nD Cert.ReferenceDownStepIdeal.τ).loc Cert.ReferenceDownStepIdeal.main_v6) = v0 c
          ∧ r.2.mem ((c.tc : Thread Cert.ReferenceDownStepIdeal.nD Cert.ReferenceDownStepIdeal.τ).loc Cert.ReferenceDownStepIdeal.main_v30) = v1 c
          ∧ r.2.mem ((c.tc : Thread Cert.ReferenceDownStepIdeal.nD Cert.ReferenceDownStepIdeal.τ).loc Cert.ReferenceDownStepIdeal.main_v11) = v2 c
          ∧ r.2.mem ((c.tc : Thread Cert.ReferenceDownStepIdeal.nD Cert.ReferenceDownStepIdeal.τ).loc Cert.ReferenceDownStepIdeal.main_v17) = v3 c
          ∧ r.2.mem ((c.tc : Thread Cert.ReferenceDownStepIdeal.nD Cert.ReferenceDownStepIdeal.τ).loc Cert.ReferenceDownStepIdeal.main_arg0) = m' ((c.tc : Thread Cert.ReferenceDownStepIdeal.nD Cert.ReferenceDownStepIdeal.τ).loc Cert.ReferenceDownStepIdeal.main_arg0)
          ∧ r.2.mem ((c.tc : Thread Cert.ReferenceDownStepIdeal.nD Cert.ReferenceDownStepIdeal.τ).loc Cert.ReferenceDownStepIdeal.main_arg1) = m' ((c.tc : Thread Cert.ReferenceDownStepIdeal.nD Cert.ReferenceDownStepIdeal.τ).loc Cert.ReferenceDownStepIdeal.main_arg1)
          ∧ r.2.mem ((c.tc : Thread Cert.ReferenceDownStepIdeal.nD Cert.ReferenceDownStepIdeal.τ).loc Cert.ReferenceDownStepIdeal.main_arg2) = m' ((c.tc : Thread Cert.ReferenceDownStepIdeal.nD Cert.ReferenceDownStepIdeal.τ).loc Cert.ReferenceDownStepIdeal.main_arg2)
          ∧ r.2.mem ((c.tc : Thread Cert.ReferenceDownStepIdeal.nD Cert.ReferenceDownStepIdeal.τ).loc Cert.ReferenceDownStepIdeal.main_arg3) = m' ((c.tc : Thread Cert.ReferenceDownStepIdeal.nD Cert.ReferenceDownStepIdeal.τ).loc Cert.ReferenceDownStepIdeal.main_arg3)
          ∧ r.2.mem ((c.tc : Thread Cert.ReferenceDownStepIdeal.nD Cert.ReferenceDownStepIdeal.τ).loc Cert.ReferenceDownStepIdeal.main_arg4) = m' ((c.tc : Thread Cert.ReferenceDownStepIdeal.nD Cert.ReferenceDownStepIdeal.τ).loc Cert.ReferenceDownStepIdeal.main_arg4))

def preserves_KernelSmallStep_KernelSmallStepIdeal : Prop :=
  True

def algebraic_KernelSmallStepIdeal_ReferenceSmallStepIdeal [hKernelSmallStepIdeal : Cert.KernelSmallStepIdeal.Facts] [hReferenceSmallStepIdeal : Cert.ReferenceSmallStepIdeal.Facts] : Prop :=
  ∀ (m : (ℓ : Loc Cert.KernelSmallStepIdeal.nD Cert.KernelSmallStepIdeal.τ Cert.KernelSmallStepIdeal.sig) → Buf (Elt Ideal) ℓ) (g : Dev Cert.KernelSmallStepIdeal.nD → PrngReg)
    (m' : (ℓ : Loc Cert.ReferenceSmallStepIdeal.nD Cert.ReferenceSmallStepIdeal.τ Cert.ReferenceSmallStepIdeal.sig) → Buf (Elt Ideal) ℓ) (g' : Dev Cert.ReferenceSmallStepIdeal.nD → PrngReg), Pre_KernelSmallStepIdeal m →
    (∀ c : Dev Cert.KernelSmallStepIdeal.nD,
      m' ((c.tc : Thread Cert.ReferenceSmallStepIdeal.nD Cert.ReferenceSmallStepIdeal.τ).loc Cert.ReferenceSmallStepIdeal.main_arg0) = m ((c.tc : Thread Cert.KernelSmallStepIdeal.nD Cert.KernelSmallStepIdeal.τ).loc Cert.KernelSmallStepIdeal.main_arg0)
      ∧ m' ((c.tc : Thread Cert.ReferenceSmallStepIdeal.nD Cert.ReferenceSmallStepIdeal.τ).loc Cert.ReferenceSmallStepIdeal.main_arg1) = m ((c.tc : Thread Cert.KernelSmallStepIdeal.nD Cert.KernelSmallStepIdeal.τ).loc Cert.KernelSmallStepIdeal.main_arg1)
      ∧ m' ((c.tc : Thread Cert.ReferenceSmallStepIdeal.nD Cert.ReferenceSmallStepIdeal.τ).loc Cert.ReferenceSmallStepIdeal.main_arg2) = m ((c.tc : Thread Cert.KernelSmallStepIdeal.nD Cert.KernelSmallStepIdeal.τ).loc Cert.KernelSmallStepIdeal.main_arg2)
      ∧ m' ((c.tc : Thread Cert.ReferenceSmallStepIdeal.nD Cert.ReferenceSmallStepIdeal.τ).loc Cert.ReferenceSmallStepIdeal.main_arg3) = m ((c.tc : Thread Cert.KernelSmallStepIdeal.nD Cert.KernelSmallStepIdeal.τ).loc Cert.KernelSmallStepIdeal.main_arg3)) →
    ∃ (v0 : (c : Dev Cert.KernelSmallStepIdeal.nD) → Buf (Elt Ideal) ((c.tc : Thread Cert.KernelSmallStepIdeal.nD Cert.KernelSmallStepIdeal.τ).loc Cert.KernelSmallStepIdeal.main_v0_0)) (v1 : (c : Dev Cert.KernelSmallStepIdeal.nD) → Buf (Elt Ideal) ((c.tc : Thread Cert.KernelSmallStepIdeal.nD Cert.KernelSmallStepIdeal.τ).loc Cert.KernelSmallStepIdeal.main_v0_1)) (v2 : (c : Dev Cert.KernelSmallStepIdeal.nD) → Buf (Elt Ideal) ((c.tc : Thread Cert.KernelSmallStepIdeal.nD Cert.KernelSmallStepIdeal.τ).loc Cert.KernelSmallStepIdeal.main_v0_2)) (v3 : (c : Dev Cert.KernelSmallStepIdeal.nD) → Buf (Elt Ideal) ((c.tc : Thread Cert.KernelSmallStepIdeal.nD Cert.KernelSmallStepIdeal.τ).loc Cert.KernelSmallStepIdeal.main_v0_3)),
      θ_run (Cert.KernelSmallStepIdeal.defs (F := Ideal)) (onTc (τ := Cert.KernelSmallStepIdeal.τ) (Cert.KernelSmallStepIdeal.main (F := Ideal))) ⟨m, fun _ => 0, g⟩ (fun r => ∀ c : Dev Cert.KernelSmallStepIdeal.nD,
          r.2.mem ((c.tc : Thread Cert.KernelSmallStepIdeal.nD Cert.KernelSmallStepIdeal.τ).loc Cert.KernelSmallStepIdeal.main_v0_0) = v0 c
          ∧ r.2.mem ((c.tc : Thread Cert.KernelSmallStepIdeal.nD Cert.KernelSmallStepIdeal.τ).loc Cert.KernelSmallStepIdeal.main_v0_1) = v1 c
          ∧ r.2.mem ((c.tc : Thread Cert.KernelSmallStepIdeal.nD Cert.KernelSmallStepIdeal.τ).loc Cert.KernelSmallStepIdeal.main_v0_2) = v2 c
          ∧ r.2.mem ((c.tc : Thread Cert.KernelSmallStepIdeal.nD Cert.KernelSmallStepIdeal.τ).loc Cert.KernelSmallStepIdeal.main_v0_3) = v3 c
          ∧ r.2.mem ((c.tc : Thread Cert.KernelSmallStepIdeal.nD Cert.KernelSmallStepIdeal.τ).loc Cert.KernelSmallStepIdeal.main_arg0) = m ((c.tc : Thread Cert.KernelSmallStepIdeal.nD Cert.KernelSmallStepIdeal.τ).loc Cert.KernelSmallStepIdeal.main_arg0)
          ∧ r.2.mem ((c.tc : Thread Cert.KernelSmallStepIdeal.nD Cert.KernelSmallStepIdeal.τ).loc Cert.KernelSmallStepIdeal.main_arg1) = m ((c.tc : Thread Cert.KernelSmallStepIdeal.nD Cert.KernelSmallStepIdeal.τ).loc Cert.KernelSmallStepIdeal.main_arg1)
          ∧ r.2.mem ((c.tc : Thread Cert.KernelSmallStepIdeal.nD Cert.KernelSmallStepIdeal.τ).loc Cert.KernelSmallStepIdeal.main_arg2) = m ((c.tc : Thread Cert.KernelSmallStepIdeal.nD Cert.KernelSmallStepIdeal.τ).loc Cert.KernelSmallStepIdeal.main_arg2)
          ∧ r.2.mem ((c.tc : Thread Cert.KernelSmallStepIdeal.nD Cert.KernelSmallStepIdeal.τ).loc Cert.KernelSmallStepIdeal.main_arg3) = m ((c.tc : Thread Cert.KernelSmallStepIdeal.nD Cert.KernelSmallStepIdeal.τ).loc Cert.KernelSmallStepIdeal.main_arg3))
      ∧ θ_run (Cert.ReferenceSmallStepIdeal.defs (F := Ideal)) (onTc (τ := Cert.ReferenceSmallStepIdeal.τ) (Cert.ReferenceSmallStepIdeal.main (F := Ideal))) ⟨m', fun _ => 0, g'⟩ (fun r => ∀ c : Dev Cert.ReferenceSmallStepIdeal.nD,
          r.2.mem ((c.tc : Thread Cert.ReferenceSmallStepIdeal.nD Cert.ReferenceSmallStepIdeal.τ).loc Cert.ReferenceSmallStepIdeal.main_v1) = v0 c
          ∧ r.2.mem ((c.tc : Thread Cert.ReferenceSmallStepIdeal.nD Cert.ReferenceSmallStepIdeal.τ).loc Cert.ReferenceSmallStepIdeal.main_v25) = v1 c
          ∧ r.2.mem ((c.tc : Thread Cert.ReferenceSmallStepIdeal.nD Cert.ReferenceSmallStepIdeal.τ).loc Cert.ReferenceSmallStepIdeal.main_v6) = v2 c
          ∧ r.2.mem ((c.tc : Thread Cert.ReferenceSmallStepIdeal.nD Cert.ReferenceSmallStepIdeal.τ).loc Cert.ReferenceSmallStepIdeal.main_v12) = v3 c
          ∧ r.2.mem ((c.tc : Thread Cert.ReferenceSmallStepIdeal.nD Cert.ReferenceSmallStepIdeal.τ).loc Cert.ReferenceSmallStepIdeal.main_arg0) = m' ((c.tc : Thread Cert.ReferenceSmallStepIdeal.nD Cert.ReferenceSmallStepIdeal.τ).loc Cert.ReferenceSmallStepIdeal.main_arg0)
          ∧ r.2.mem ((c.tc : Thread Cert.ReferenceSmallStepIdeal.nD Cert.ReferenceSmallStepIdeal.τ).loc Cert.ReferenceSmallStepIdeal.main_arg1) = m' ((c.tc : Thread Cert.ReferenceSmallStepIdeal.nD Cert.ReferenceSmallStepIdeal.τ).loc Cert.ReferenceSmallStepIdeal.main_arg1)
          ∧ r.2.mem ((c.tc : Thread Cert.ReferenceSmallStepIdeal.nD Cert.ReferenceSmallStepIdeal.τ).loc Cert.ReferenceSmallStepIdeal.main_arg2) = m' ((c.tc : Thread Cert.ReferenceSmallStepIdeal.nD Cert.ReferenceSmallStepIdeal.τ).loc Cert.ReferenceSmallStepIdeal.main_arg2)
          ∧ r.2.mem ((c.tc : Thread Cert.ReferenceSmallStepIdeal.nD Cert.ReferenceSmallStepIdeal.τ).loc Cert.ReferenceSmallStepIdeal.main_arg3) = m' ((c.tc : Thread Cert.ReferenceSmallStepIdeal.nD Cert.ReferenceSmallStepIdeal.τ).loc Cert.ReferenceSmallStepIdeal.main_arg3))

def preserves_KernelSharedStep_KernelSharedStepIdeal : Prop :=
  True

def algebraic_KernelSharedStepIdeal_ReferenceSharedStepIdeal [hKernelSharedStepIdeal : Cert.KernelSharedStepIdeal.Facts] [hReferenceSharedStepIdeal : Cert.ReferenceSharedStepIdeal.Facts] : Prop :=
  ∀ (m : (ℓ : Loc Cert.KernelSharedStepIdeal.nD Cert.KernelSharedStepIdeal.τ Cert.KernelSharedStepIdeal.sig) → Buf (Elt Ideal) ℓ) (g : Dev Cert.KernelSharedStepIdeal.nD → PrngReg)
    (m' : (ℓ : Loc Cert.ReferenceSharedStepIdeal.nD Cert.ReferenceSharedStepIdeal.τ Cert.ReferenceSharedStepIdeal.sig) → Buf (Elt Ideal) ℓ) (g' : Dev Cert.ReferenceSharedStepIdeal.nD → PrngReg), Pre_KernelSharedStepIdeal m →
    (∀ c : Dev Cert.KernelSharedStepIdeal.nD,
      m' ((c.tc : Thread Cert.ReferenceSharedStepIdeal.nD Cert.ReferenceSharedStepIdeal.τ).loc Cert.ReferenceSharedStepIdeal.main_arg0) = m ((c.tc : Thread Cert.KernelSharedStepIdeal.nD Cert.KernelSharedStepIdeal.τ).loc Cert.KernelSharedStepIdeal.main_arg0)
      ∧ m' ((c.tc : Thread Cert.ReferenceSharedStepIdeal.nD Cert.ReferenceSharedStepIdeal.τ).loc Cert.ReferenceSharedStepIdeal.main_arg1) = m ((c.tc : Thread Cert.KernelSharedStepIdeal.nD Cert.KernelSharedStepIdeal.τ).loc Cert.KernelSharedStepIdeal.main_arg1)
      ∧ m' ((c.tc : Thread Cert.ReferenceSharedStepIdeal.nD Cert.ReferenceSharedStepIdeal.τ).loc Cert.ReferenceSharedStepIdeal.main_arg2) = m ((c.tc : Thread Cert.KernelSharedStepIdeal.nD Cert.KernelSharedStepIdeal.τ).loc Cert.KernelSharedStepIdeal.main_arg2)
      ∧ m' ((c.tc : Thread Cert.ReferenceSharedStepIdeal.nD Cert.ReferenceSharedStepIdeal.τ).loc Cert.ReferenceSharedStepIdeal.main_arg3) = m ((c.tc : Thread Cert.KernelSharedStepIdeal.nD Cert.KernelSharedStepIdeal.τ).loc Cert.KernelSharedStepIdeal.main_arg3)) →
    ∃ (v0 : (c : Dev Cert.KernelSharedStepIdeal.nD) → Buf (Elt Ideal) ((c.tc : Thread Cert.KernelSharedStepIdeal.nD Cert.KernelSharedStepIdeal.τ).loc Cert.KernelSharedStepIdeal.main_v0_0)) (v1 : (c : Dev Cert.KernelSharedStepIdeal.nD) → Buf (Elt Ideal) ((c.tc : Thread Cert.KernelSharedStepIdeal.nD Cert.KernelSharedStepIdeal.τ).loc Cert.KernelSharedStepIdeal.main_v0_1)) (v2 : (c : Dev Cert.KernelSharedStepIdeal.nD) → Buf (Elt Ideal) ((c.tc : Thread Cert.KernelSharedStepIdeal.nD Cert.KernelSharedStepIdeal.τ).loc Cert.KernelSharedStepIdeal.main_v0_2)) (v3 : (c : Dev Cert.KernelSharedStepIdeal.nD) → Buf (Elt Ideal) ((c.tc : Thread Cert.KernelSharedStepIdeal.nD Cert.KernelSharedStepIdeal.τ).loc Cert.KernelSharedStepIdeal.main_v0_3)),
      θ_run (Cert.KernelSharedStepIdeal.defs (F := Ideal)) (onTc (τ := Cert.KernelSharedStepIdeal.τ) (Cert.KernelSharedStepIdeal.main (F := Ideal))) ⟨m, fun _ => 0, g⟩ (fun r => ∀ c : Dev Cert.KernelSharedStepIdeal.nD,
          r.2.mem ((c.tc : Thread Cert.KernelSharedStepIdeal.nD Cert.KernelSharedStepIdeal.τ).loc Cert.KernelSharedStepIdeal.main_v0_0) = v0 c
          ∧ r.2.mem ((c.tc : Thread Cert.KernelSharedStepIdeal.nD Cert.KernelSharedStepIdeal.τ).loc Cert.KernelSharedStepIdeal.main_v0_1) = v1 c
          ∧ r.2.mem ((c.tc : Thread Cert.KernelSharedStepIdeal.nD Cert.KernelSharedStepIdeal.τ).loc Cert.KernelSharedStepIdeal.main_v0_2) = v2 c
          ∧ r.2.mem ((c.tc : Thread Cert.KernelSharedStepIdeal.nD Cert.KernelSharedStepIdeal.τ).loc Cert.KernelSharedStepIdeal.main_v0_3) = v3 c
          ∧ r.2.mem ((c.tc : Thread Cert.KernelSharedStepIdeal.nD Cert.KernelSharedStepIdeal.τ).loc Cert.KernelSharedStepIdeal.main_arg0) = m ((c.tc : Thread Cert.KernelSharedStepIdeal.nD Cert.KernelSharedStepIdeal.τ).loc Cert.KernelSharedStepIdeal.main_arg0)
          ∧ r.2.mem ((c.tc : Thread Cert.KernelSharedStepIdeal.nD Cert.KernelSharedStepIdeal.τ).loc Cert.KernelSharedStepIdeal.main_arg1) = m ((c.tc : Thread Cert.KernelSharedStepIdeal.nD Cert.KernelSharedStepIdeal.τ).loc Cert.KernelSharedStepIdeal.main_arg1)
          ∧ r.2.mem ((c.tc : Thread Cert.KernelSharedStepIdeal.nD Cert.KernelSharedStepIdeal.τ).loc Cert.KernelSharedStepIdeal.main_arg2) = m ((c.tc : Thread Cert.KernelSharedStepIdeal.nD Cert.KernelSharedStepIdeal.τ).loc Cert.KernelSharedStepIdeal.main_arg2)
          ∧ r.2.mem ((c.tc : Thread Cert.KernelSharedStepIdeal.nD Cert.KernelSharedStepIdeal.τ).loc Cert.KernelSharedStepIdeal.main_arg3) = m ((c.tc : Thread Cert.KernelSharedStepIdeal.nD Cert.KernelSharedStepIdeal.τ).loc Cert.KernelSharedStepIdeal.main_arg3))
      ∧ θ_run (Cert.ReferenceSharedStepIdeal.defs (F := Ideal)) (onTc (τ := Cert.ReferenceSharedStepIdeal.τ) (Cert.ReferenceSharedStepIdeal.main (F := Ideal))) ⟨m', fun _ => 0, g'⟩ (fun r => ∀ c : Dev Cert.ReferenceSharedStepIdeal.nD,
          r.2.mem ((c.tc : Thread Cert.ReferenceSharedStepIdeal.nD Cert.ReferenceSharedStepIdeal.τ).loc Cert.ReferenceSharedStepIdeal.main_v1) = v0 c
          ∧ r.2.mem ((c.tc : Thread Cert.ReferenceSharedStepIdeal.nD Cert.ReferenceSharedStepIdeal.τ).loc Cert.ReferenceSharedStepIdeal.main_v25) = v1 c
          ∧ r.2.mem ((c.tc : Thread Cert.ReferenceSharedStepIdeal.nD Cert.ReferenceSharedStepIdeal.τ).loc Cert.ReferenceSharedStepIdeal.main_v6) = v2 c
          ∧ r.2.mem ((c.tc : Thread Cert.ReferenceSharedStepIdeal.nD Cert.ReferenceSharedStepIdeal.τ).loc Cert.ReferenceSharedStepIdeal.main_v12) = v3 c
          ∧ r.2.mem ((c.tc : Thread Cert.ReferenceSharedStepIdeal.nD Cert.ReferenceSharedStepIdeal.τ).loc Cert.ReferenceSharedStepIdeal.main_arg0) = m' ((c.tc : Thread Cert.ReferenceSharedStepIdeal.nD Cert.ReferenceSharedStepIdeal.τ).loc Cert.ReferenceSharedStepIdeal.main_arg0)
          ∧ r.2.mem ((c.tc : Thread Cert.ReferenceSharedStepIdeal.nD Cert.ReferenceSharedStepIdeal.τ).loc Cert.ReferenceSharedStepIdeal.main_arg1) = m' ((c.tc : Thread Cert.ReferenceSharedStepIdeal.nD Cert.ReferenceSharedStepIdeal.τ).loc Cert.ReferenceSharedStepIdeal.main_arg1)
          ∧ r.2.mem ((c.tc : Thread Cert.ReferenceSharedStepIdeal.nD Cert.ReferenceSharedStepIdeal.τ).loc Cert.ReferenceSharedStepIdeal.main_arg2) = m' ((c.tc : Thread Cert.ReferenceSharedStepIdeal.nD Cert.ReferenceSharedStepIdeal.τ).loc Cert.ReferenceSharedStepIdeal.main_arg2)
          ∧ r.2.mem ((c.tc : Thread Cert.ReferenceSharedStepIdeal.nD Cert.ReferenceSharedStepIdeal.τ).loc Cert.ReferenceSharedStepIdeal.main_arg3) = m' ((c.tc : Thread Cert.ReferenceSharedStepIdeal.nD Cert.ReferenceSharedStepIdeal.τ).loc Cert.ReferenceSharedStepIdeal.main_arg3))

def Claim : Prop :=
  ∃ (hKernel : Cert.Kernel.Facts) (hKernelIdeal : Cert.KernelIdeal.Facts) (hReferenceIdeal : Cert.ReferenceIdeal.Facts) (hKernelUpDw : Cert.KernelUpDw.Facts) (hKernelUpDwIdeal : Cert.KernelUpDwIdeal.Facts) (hReferenceUpDwIdeal : Cert.ReferenceUpDwIdeal.Facts) (hKernelDownDw : Cert.KernelDownDw.Facts) (hKernelDownDwIdeal : Cert.KernelDownDwIdeal.Facts) (hReferenceDownDwIdeal : Cert.ReferenceDownDwIdeal.Facts) (hKernelSquareDw : Cert.KernelSquareDw.Facts) (hKernelSquareDwIdeal : Cert.KernelSquareDwIdeal.Facts) (hReferenceSquareDwIdeal : Cert.ReferenceSquareDwIdeal.Facts) (hKernelKvDw : Cert.KernelKvDw.Facts) (hKernelKvDwIdeal : Cert.KernelKvDwIdeal.Facts) (hReferenceKvDwIdeal : Cert.ReferenceKvDwIdeal.Facts) (hKernelDownDx : Cert.KernelDownDx.Facts) (hKernelDownDxIdeal : Cert.KernelDownDxIdeal.Facts) (hReferenceDownDxIdeal : Cert.ReferenceDownDxIdeal.Facts) (hKernelOutDx : Cert.KernelOutDx.Facts) (hKernelOutDxIdeal : Cert.KernelOutDxIdeal.Facts) (hReferenceOutDxIdeal : Cert.ReferenceOutDxIdeal.Facts) (hKernelInDx : Cert.KernelInDx.Facts) (hKernelInDxIdeal : Cert.KernelInDxIdeal.Facts) (hReferenceInDxIdeal : Cert.ReferenceInDxIdeal.Facts) (hKernelUpNorm : Cert.KernelUpNorm.Facts) (hKernelUpNormIdeal : Cert.KernelUpNormIdeal.Facts) (hReferenceUpNormIdeal : Cert.ReferenceUpNormIdeal.Facts) (hKernelInNorm : Cert.KernelInNorm.Facts) (hKernelInNormIdeal : Cert.KernelInNormIdeal.Facts) (hReferenceInNormIdeal : Cert.ReferenceInNormIdeal.Facts) (hKernelLossNorm : Cert.KernelLossNorm.Facts) (hKernelLossNormIdeal : Cert.KernelLossNormIdeal.Facts) (hReferenceLossNormIdeal : Cert.ReferenceLossNormIdeal.Facts) (hKernelOutNorm : Cert.KernelOutNorm.Facts) (hKernelOutNormIdeal : Cert.KernelOutNormIdeal.Facts) (hReferenceOutNormIdeal : Cert.ReferenceOutNormIdeal.Facts) (hKernelInProduct : Cert.KernelInProduct.Facts) (hKernelInProductIdeal : Cert.KernelInProductIdeal.Facts) (hReferenceInProductIdeal : Cert.ReferenceInProductIdeal.Facts) (hKernelQueryProduct : Cert.KernelQueryProduct.Facts) (hKernelQueryProductIdeal : Cert.KernelQueryProductIdeal.Facts) (hReferenceQueryProductIdeal : Cert.ReferenceQueryProductIdeal.Facts) (hKernelKvProduct : Cert.KernelKvProduct.Facts) (hKernelKvProductIdeal : Cert.KernelKvProductIdeal.Facts) (hReferenceKvProductIdeal : Cert.ReferenceKvProductIdeal.Facts) (hKernelMemProduct : Cert.KernelMemProduct.Facts) (hKernelMemProductIdeal : Cert.KernelMemProductIdeal.Facts) (hReferenceMemProductIdeal : Cert.ReferenceMemProductIdeal.Facts) (hKernelGateProduct : Cert.KernelGateProduct.Facts) (hKernelGateProductIdeal : Cert.KernelGateProductIdeal.Facts) (hReferenceGateProductIdeal : Cert.ReferenceGateProductIdeal.Facts) (hKernelMemDw : Cert.KernelMemDw.Facts) (hKernelMemDwIdeal : Cert.KernelMemDwIdeal.Facts) (hReferenceMemDwIdeal : Cert.ReferenceMemDwIdeal.Facts) (hKernelPoolDw : Cert.KernelPoolDw.Facts) (hKernelPoolDwIdeal : Cert.KernelPoolDwIdeal.Facts) (hReferencePoolDwIdeal : Cert.ReferencePoolDwIdeal.Facts) (hKernelPoolMix : Cert.KernelPoolMix.Facts) (hKernelPoolMixIdeal : Cert.KernelPoolMixIdeal.Facts) (hReferencePoolMixIdeal : Cert.ReferencePoolMixIdeal.Facts) (hKernelUpGate : Cert.KernelUpGate.Facts) (hKernelUpGateIdeal : Cert.KernelUpGateIdeal.Facts) (hReferenceUpGateIdeal : Cert.ReferenceUpGateIdeal.Facts) (hKernelDownNorm : Cert.KernelDownNorm.Facts) (hKernelDownNormIdeal : Cert.KernelDownNormIdeal.Facts) (hReferenceDownNormIdeal : Cert.ReferenceDownNormIdeal.Facts) (hKernelSquareStep : Cert.KernelSquareStep.Facts) (hKernelSquareStepIdeal : Cert.KernelSquareStepIdeal.Facts) (hReferenceSquareStepIdeal : Cert.ReferenceSquareStepIdeal.Facts) (hKernelKvStep : Cert.KernelKvStep.Facts) (hKernelKvStepIdeal : Cert.KernelKvStepIdeal.Facts) (hReferenceKvStepIdeal : Cert.ReferenceKvStepIdeal.Facts) (hKernelMemStep : Cert.KernelMemStep.Facts) (hKernelMemStepIdeal : Cert.KernelMemStepIdeal.Facts) (hReferenceMemStepIdeal : Cert.ReferenceMemStepIdeal.Facts) (hKernelUpStep : Cert.KernelUpStep.Facts) (hKernelUpStepIdeal : Cert.KernelUpStepIdeal.Facts) (hReferenceUpStepIdeal : Cert.ReferenceUpStepIdeal.Facts) (hKernelDownStep : Cert.KernelDownStep.Facts) (hKernelDownStepIdeal : Cert.KernelDownStepIdeal.Facts) (hReferenceDownStepIdeal : Cert.ReferenceDownStepIdeal.Facts) (hKernelSmallStep : Cert.KernelSmallStep.Facts) (hKernelSmallStepIdeal : Cert.KernelSmallStepIdeal.Facts) (hReferenceSmallStepIdeal : Cert.ReferenceSmallStepIdeal.Facts) (hKernelSharedStep : Cert.KernelSharedStep.Facts) (hKernelSharedStepIdeal : Cert.KernelSharedStepIdeal.Facts) (hReferenceSharedStepIdeal : Cert.ReferenceSharedStepIdeal.Facts) (hPre_finite : Cert.Pre_finite.Facts) (hPre_finite_up_norm : Cert.Pre_finite_up_norm.Facts) (hPre_finite_in_norm : Cert.Pre_finite_in_norm.Facts) (hPre_finite_loss_norm : Cert.Pre_finite_loss_norm.Facts) (hPre_finite_up_gate : Cert.Pre_finite_up_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelSquareDw (hKernelSquareDw := hKernelSquareDw)
    ∧ quiescent_KernelSquareDwIdeal (hKernelSquareDwIdeal := hKernelSquareDwIdeal)
    ∧ quiescent_ReferenceSquareDwIdeal (hReferenceSquareDwIdeal := hReferenceSquareDwIdeal)
    ∧ quiescent_KernelKvDw (hKernelKvDw := hKernelKvDw)
    ∧ quiescent_KernelKvDwIdeal (hKernelKvDwIdeal := hKernelKvDwIdeal)
    ∧ quiescent_ReferenceKvDwIdeal (hReferenceKvDwIdeal := hReferenceKvDwIdeal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelUpNorm (hKernelUpNorm := hKernelUpNorm)
    ∧ quiescent_KernelUpNormIdeal (hKernelUpNormIdeal := hKernelUpNormIdeal)
    ∧ quiescent_KernelUpNormIdeal_pre_finite_up_norm (hKernelUpNormIdeal := hKernelUpNormIdeal) (hPre_finite_up_norm := hPre_finite_up_norm)
    ∧ quiescent_ReferenceUpNormIdeal (hReferenceUpNormIdeal := hReferenceUpNormIdeal)
    ∧ quiescent_ReferenceUpNormIdeal_pre_finite_up_norm (hReferenceUpNormIdeal := hReferenceUpNormIdeal) (hPre_finite_up_norm := hPre_finite_up_norm)
    ∧ quiescent_KernelInNorm (hKernelInNorm := hKernelInNorm)
    ∧ quiescent_KernelInNormIdeal (hKernelInNormIdeal := hKernelInNormIdeal)
    ∧ quiescent_KernelInNormIdeal_pre_finite_in_norm (hKernelInNormIdeal := hKernelInNormIdeal) (hPre_finite_in_norm := hPre_finite_in_norm)
    ∧ quiescent_ReferenceInNormIdeal (hReferenceInNormIdeal := hReferenceInNormIdeal)
    ∧ quiescent_ReferenceInNormIdeal_pre_finite_in_norm (hReferenceInNormIdeal := hReferenceInNormIdeal) (hPre_finite_in_norm := hPre_finite_in_norm)
    ∧ quiescent_KernelLossNorm (hKernelLossNorm := hKernelLossNorm)
    ∧ quiescent_KernelLossNormIdeal (hKernelLossNormIdeal := hKernelLossNormIdeal)
    ∧ quiescent_KernelLossNormIdeal_pre_finite_loss_norm (hKernelLossNormIdeal := hKernelLossNormIdeal) (hPre_finite_loss_norm := hPre_finite_loss_norm)
    ∧ quiescent_ReferenceLossNormIdeal (hReferenceLossNormIdeal := hReferenceLossNormIdeal)
    ∧ quiescent_ReferenceLossNormIdeal_pre_finite_loss_norm (hReferenceLossNormIdeal := hReferenceLossNormIdeal) (hPre_finite_loss_norm := hPre_finite_loss_norm)
    ∧ quiescent_KernelOutNorm (hKernelOutNorm := hKernelOutNorm)
    ∧ quiescent_KernelOutNormIdeal (hKernelOutNormIdeal := hKernelOutNormIdeal)
    ∧ quiescent_ReferenceOutNormIdeal (hReferenceOutNormIdeal := hReferenceOutNormIdeal)
    ∧ quiescent_KernelInProduct (hKernelInProduct := hKernelInProduct)
    ∧ quiescent_KernelInProductIdeal (hKernelInProductIdeal := hKernelInProductIdeal)
    ∧ quiescent_ReferenceInProductIdeal (hReferenceInProductIdeal := hReferenceInProductIdeal)
    ∧ quiescent_KernelQueryProduct (hKernelQueryProduct := hKernelQueryProduct)
    ∧ quiescent_KernelQueryProductIdeal (hKernelQueryProductIdeal := hKernelQueryProductIdeal)
    ∧ quiescent_ReferenceQueryProductIdeal (hReferenceQueryProductIdeal := hReferenceQueryProductIdeal)
    ∧ quiescent_KernelKvProduct (hKernelKvProduct := hKernelKvProduct)
    ∧ quiescent_KernelKvProductIdeal (hKernelKvProductIdeal := hKernelKvProductIdeal)
    ∧ quiescent_ReferenceKvProductIdeal (hReferenceKvProductIdeal := hReferenceKvProductIdeal)
    ∧ quiescent_KernelMemProduct (hKernelMemProduct := hKernelMemProduct)
    ∧ quiescent_KernelMemProductIdeal (hKernelMemProductIdeal := hKernelMemProductIdeal)
    ∧ quiescent_ReferenceMemProductIdeal (hReferenceMemProductIdeal := hReferenceMemProductIdeal)
    ∧ quiescent_KernelGateProduct (hKernelGateProduct := hKernelGateProduct)
    ∧ quiescent_KernelGateProductIdeal (hKernelGateProductIdeal := hKernelGateProductIdeal)
    ∧ quiescent_ReferenceGateProductIdeal (hReferenceGateProductIdeal := hReferenceGateProductIdeal)
    ∧ quiescent_KernelMemDw (hKernelMemDw := hKernelMemDw)
    ∧ quiescent_KernelMemDwIdeal (hKernelMemDwIdeal := hKernelMemDwIdeal)
    ∧ quiescent_ReferenceMemDwIdeal (hReferenceMemDwIdeal := hReferenceMemDwIdeal)
    ∧ quiescent_KernelPoolDw (hKernelPoolDw := hKernelPoolDw)
    ∧ quiescent_KernelPoolDwIdeal (hKernelPoolDwIdeal := hKernelPoolDwIdeal)
    ∧ quiescent_ReferencePoolDwIdeal (hReferencePoolDwIdeal := hReferencePoolDwIdeal)
    ∧ quiescent_KernelPoolMix (hKernelPoolMix := hKernelPoolMix)
    ∧ quiescent_KernelPoolMixIdeal (hKernelPoolMixIdeal := hKernelPoolMixIdeal)
    ∧ quiescent_ReferencePoolMixIdeal (hReferencePoolMixIdeal := hReferencePoolMixIdeal)
    ∧ quiescent_KernelUpGate (hKernelUpGate := hKernelUpGate)
    ∧ quiescent_KernelUpGateIdeal (hKernelUpGateIdeal := hKernelUpGateIdeal)
    ∧ quiescent_KernelUpGateIdeal_pre_finite_up_gate (hKernelUpGateIdeal := hKernelUpGateIdeal) (hPre_finite_up_gate := hPre_finite_up_gate)
    ∧ quiescent_ReferenceUpGateIdeal (hReferenceUpGateIdeal := hReferenceUpGateIdeal)
    ∧ quiescent_ReferenceUpGateIdeal_pre_finite_up_gate (hReferenceUpGateIdeal := hReferenceUpGateIdeal) (hPre_finite_up_gate := hPre_finite_up_gate)
    ∧ quiescent_KernelDownNorm (hKernelDownNorm := hKernelDownNorm)
    ∧ quiescent_KernelDownNormIdeal (hKernelDownNormIdeal := hKernelDownNormIdeal)
    ∧ quiescent_ReferenceDownNormIdeal (hReferenceDownNormIdeal := hReferenceDownNormIdeal)
    ∧ quiescent_KernelSquareStep (hKernelSquareStep := hKernelSquareStep)
    ∧ quiescent_KernelSquareStepIdeal (hKernelSquareStepIdeal := hKernelSquareStepIdeal)
    ∧ quiescent_ReferenceSquareStepIdeal (hReferenceSquareStepIdeal := hReferenceSquareStepIdeal)
    ∧ quiescent_KernelKvStep (hKernelKvStep := hKernelKvStep)
    ∧ quiescent_KernelKvStepIdeal (hKernelKvStepIdeal := hKernelKvStepIdeal)
    ∧ quiescent_ReferenceKvStepIdeal (hReferenceKvStepIdeal := hReferenceKvStepIdeal)
    ∧ quiescent_KernelMemStep (hKernelMemStep := hKernelMemStep)
    ∧ quiescent_KernelMemStepIdeal (hKernelMemStepIdeal := hKernelMemStepIdeal)
    ∧ quiescent_ReferenceMemStepIdeal (hReferenceMemStepIdeal := hReferenceMemStepIdeal)
    ∧ quiescent_KernelUpStep (hKernelUpStep := hKernelUpStep)
    ∧ quiescent_KernelUpStepIdeal (hKernelUpStepIdeal := hKernelUpStepIdeal)
    ∧ quiescent_ReferenceUpStepIdeal (hReferenceUpStepIdeal := hReferenceUpStepIdeal)
    ∧ quiescent_KernelDownStep (hKernelDownStep := hKernelDownStep)
    ∧ quiescent_KernelDownStepIdeal (hKernelDownStepIdeal := hKernelDownStepIdeal)
    ∧ quiescent_ReferenceDownStepIdeal (hReferenceDownStepIdeal := hReferenceDownStepIdeal)
    ∧ quiescent_KernelSmallStep (hKernelSmallStep := hKernelSmallStep)
    ∧ quiescent_KernelSmallStepIdeal (hKernelSmallStepIdeal := hKernelSmallStepIdeal)
    ∧ quiescent_ReferenceSmallStepIdeal (hReferenceSmallStepIdeal := hReferenceSmallStepIdeal)
    ∧ quiescent_KernelSharedStep (hKernelSharedStep := hKernelSharedStep)
    ∧ quiescent_KernelSharedStepIdeal (hKernelSharedStepIdeal := hKernelSharedStepIdeal)
    ∧ quiescent_ReferenceSharedStepIdeal (hReferenceSharedStepIdeal := hReferenceSharedStepIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelSquareDw_KernelSquareDwIdeal
    ∧ algebraic_KernelSquareDwIdeal_ReferenceSquareDwIdeal (hKernelSquareDwIdeal := hKernelSquareDwIdeal) (hReferenceSquareDwIdeal := hReferenceSquareDwIdeal)
    ∧ preserves_KernelKvDw_KernelKvDwIdeal
    ∧ algebraic_KernelKvDwIdeal_ReferenceKvDwIdeal (hKernelKvDwIdeal := hKernelKvDwIdeal) (hReferenceKvDwIdeal := hReferenceKvDwIdeal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelUpNorm_KernelUpNormIdeal
    ∧ algebraic_KernelUpNormIdeal_ReferenceUpNormIdeal_pre_finite_up_norm (hKernelUpNormIdeal := hKernelUpNormIdeal) (hReferenceUpNormIdeal := hReferenceUpNormIdeal) (hPre_finite_up_norm := hPre_finite_up_norm)
    ∧ preserves_KernelInNorm_KernelInNormIdeal
    ∧ algebraic_KernelInNormIdeal_ReferenceInNormIdeal_pre_finite_in_norm (hKernelInNormIdeal := hKernelInNormIdeal) (hReferenceInNormIdeal := hReferenceInNormIdeal) (hPre_finite_in_norm := hPre_finite_in_norm)
    ∧ preserves_KernelLossNorm_KernelLossNormIdeal
    ∧ algebraic_KernelLossNormIdeal_ReferenceLossNormIdeal_pre_finite_loss_norm (hKernelLossNormIdeal := hKernelLossNormIdeal) (hReferenceLossNormIdeal := hReferenceLossNormIdeal) (hPre_finite_loss_norm := hPre_finite_loss_norm)
    ∧ preserves_KernelOutNorm_KernelOutNormIdeal
    ∧ algebraic_KernelOutNormIdeal_ReferenceOutNormIdeal (hKernelOutNormIdeal := hKernelOutNormIdeal) (hReferenceOutNormIdeal := hReferenceOutNormIdeal)
    ∧ preserves_KernelInProduct_KernelInProductIdeal
    ∧ algebraic_KernelInProductIdeal_ReferenceInProductIdeal (hKernelInProductIdeal := hKernelInProductIdeal) (hReferenceInProductIdeal := hReferenceInProductIdeal)
    ∧ preserves_KernelQueryProduct_KernelQueryProductIdeal
    ∧ algebraic_KernelQueryProductIdeal_ReferenceQueryProductIdeal (hKernelQueryProductIdeal := hKernelQueryProductIdeal) (hReferenceQueryProductIdeal := hReferenceQueryProductIdeal)
    ∧ preserves_KernelKvProduct_KernelKvProductIdeal
    ∧ algebraic_KernelKvProductIdeal_ReferenceKvProductIdeal (hKernelKvProductIdeal := hKernelKvProductIdeal) (hReferenceKvProductIdeal := hReferenceKvProductIdeal)
    ∧ preserves_KernelMemProduct_KernelMemProductIdeal
    ∧ algebraic_KernelMemProductIdeal_ReferenceMemProductIdeal (hKernelMemProductIdeal := hKernelMemProductIdeal) (hReferenceMemProductIdeal := hReferenceMemProductIdeal)
    ∧ preserves_KernelGateProduct_KernelGateProductIdeal
    ∧ algebraic_KernelGateProductIdeal_ReferenceGateProductIdeal (hKernelGateProductIdeal := hKernelGateProductIdeal) (hReferenceGateProductIdeal := hReferenceGateProductIdeal)
    ∧ preserves_KernelMemDw_KernelMemDwIdeal
    ∧ algebraic_KernelMemDwIdeal_ReferenceMemDwIdeal (hKernelMemDwIdeal := hKernelMemDwIdeal) (hReferenceMemDwIdeal := hReferenceMemDwIdeal)
    ∧ preserves_KernelPoolDw_KernelPoolDwIdeal
    ∧ algebraic_KernelPoolDwIdeal_ReferencePoolDwIdeal (hKernelPoolDwIdeal := hKernelPoolDwIdeal) (hReferencePoolDwIdeal := hReferencePoolDwIdeal)
    ∧ preserves_KernelPoolMix_KernelPoolMixIdeal
    ∧ algebraic_KernelPoolMixIdeal_ReferencePoolMixIdeal (hKernelPoolMixIdeal := hKernelPoolMixIdeal) (hReferencePoolMixIdeal := hReferencePoolMixIdeal)
    ∧ preserves_KernelUpGate_KernelUpGateIdeal
    ∧ algebraic_KernelUpGateIdeal_ReferenceUpGateIdeal_pre_finite_up_gate (hKernelUpGateIdeal := hKernelUpGateIdeal) (hReferenceUpGateIdeal := hReferenceUpGateIdeal) (hPre_finite_up_gate := hPre_finite_up_gate)
    ∧ preserves_KernelDownNorm_KernelDownNormIdeal
    ∧ algebraic_KernelDownNormIdeal_ReferenceDownNormIdeal (hKernelDownNormIdeal := hKernelDownNormIdeal) (hReferenceDownNormIdeal := hReferenceDownNormIdeal)
    ∧ preserves_KernelSquareStep_KernelSquareStepIdeal
    ∧ algebraic_KernelSquareStepIdeal_ReferenceSquareStepIdeal (hKernelSquareStepIdeal := hKernelSquareStepIdeal) (hReferenceSquareStepIdeal := hReferenceSquareStepIdeal)
    ∧ preserves_KernelKvStep_KernelKvStepIdeal
    ∧ algebraic_KernelKvStepIdeal_ReferenceKvStepIdeal (hKernelKvStepIdeal := hKernelKvStepIdeal) (hReferenceKvStepIdeal := hReferenceKvStepIdeal)
    ∧ preserves_KernelMemStep_KernelMemStepIdeal
    ∧ algebraic_KernelMemStepIdeal_ReferenceMemStepIdeal (hKernelMemStepIdeal := hKernelMemStepIdeal) (hReferenceMemStepIdeal := hReferenceMemStepIdeal)
    ∧ preserves_KernelUpStep_KernelUpStepIdeal
    ∧ algebraic_KernelUpStepIdeal_ReferenceUpStepIdeal (hKernelUpStepIdeal := hKernelUpStepIdeal) (hReferenceUpStepIdeal := hReferenceUpStepIdeal)
    ∧ preserves_KernelDownStep_KernelDownStepIdeal
    ∧ algebraic_KernelDownStepIdeal_ReferenceDownStepIdeal (hKernelDownStepIdeal := hKernelDownStepIdeal) (hReferenceDownStepIdeal := hReferenceDownStepIdeal)
    ∧ preserves_KernelSmallStep_KernelSmallStepIdeal
    ∧ algebraic_KernelSmallStepIdeal_ReferenceSmallStepIdeal (hKernelSmallStepIdeal := hKernelSmallStepIdeal) (hReferenceSmallStepIdeal := hReferenceSmallStepIdeal)
    ∧ preserves_KernelSharedStep_KernelSharedStepIdeal
    ∧ algebraic_KernelSharedStepIdeal_ReferenceSharedStepIdeal (hKernelSharedStepIdeal := hKernelSharedStepIdeal) (hReferenceSharedStepIdeal := hReferenceSharedStepIdeal)
-- ==== Pre_finite.lean ====
abbrev S8192x1024 : Shape := ⟨2, ![8192, 1024]⟩
abbrev S512x512 : Shape := ⟨2, ![512, 512]⟩
abbrev S8192x768 : Shape := ⟨2, ![8192, 768]⟩
abbrev S8192x256 : Shape := ⟨2, ![8192, 256]⟩
abbrev S512x256 : Shape := ⟨2, ![512, 256]⟩
abbrev S_ : Shape := ⟨0, ![]⟩

class Facts : Prop where
  slices_S8192x1024_S8192x256_0_768 : S8192x1024.Slices ![0, 768] S8192x256
  bitsLt_bf16_f32 : FTy.bits .bf16 < FTy.bits .f32
  slices_S512x512_S512x256_0_0 : S512x512.Slices ![0, 0] S512x256
  bcast_S_S8192x256 : S_.BroadcastsInDim S8192x256 (![] : Fin 0 → Fin S8192x256.rank)
  bcast_S_S512x256 : S_.BroadcastsInDim S512x256 (![] : Fin 0 → Fin S512x256.rank)

variable [Facts]

def fn {F : FTy → Type} [FloatOps F] (main_arg0 : FVec F S8192x1024 .bf16) (main_arg1 : FVec F S512x512 .bf16) (main_arg2 : FVec F S8192x1024 .f32) (main_arg3 : FVec F S8192x768 .bf16) : IVec S8192x256 1 × IVec S512x256 1 :=
  let main_v0 : FVec F S8192x256 .bf16 := (extractStridedSlice S8192x256 ![0, 768] · slices_S8192x1024_S8192x256_0_768) main_arg0
  let main_v1 : FVec F S8192x256 .f32 := (extf .f32 · bitsLt_bf16_f32) main_v0
  let main_v2 : FVec F S512x256 .bf16 := (extractStridedSlice S512x256 ![0, 0] · slices_S512x512_S512x256_0_0) main_arg1
  let main_v3 : FVec F S512x256 .f32 := (extf .f32 · bitsLt_bf16_f32) main_v2
  let main_v4 : FVec F S8192x256 .f32 := Host.absf main_v1
  let main_cst : FVec F S_ .f32 := constant S_ .f32 0x7F800000#32
  let main_v5 : FVec F S8192x256 .f32 := broadcastInDim S8192x256 ![] bcast_S_S8192x256 main_cst
  let main_v6 : IVec S8192x256 1 := cmpf .olt main_v4 main_v5
  let main_v7 : FVec F S512x256 .f32 := Host.absf main_v3
  let main_cst_0 : FVec F S_ .f32 := constant S_ .f32 0x7F800000#32
  let main_v8 : FVec F S512x256 .f32 := broadcastInDim S512x256 ![] bcast_S_S512x256 main_cst_0
  let main_v9 : IVec S512x256 1 := cmpf .olt main_v7 main_v8
  (main_v6, main_v9)
-- ==== Pre_finite_in_norm.lean ====
abbrev S8192x1024 : Shape := ⟨2, ![8192, 1024]⟩
abbrev S1x1024 : Shape := ⟨2, ![1, 1024]⟩
abbrev S1024x1024 : Shape := ⟨2, ![1024, 1024]⟩
abbrev S8192x1664 : Shape := ⟨2, ![8192, 1664]⟩
abbrev S1024x1664 : Shape := ⟨2, ![1024, 1664]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)
  bcast_S_S8192x1664 : S_.BroadcastsInDim S8192x1664 (![] : Fin 0 → Fin S8192x1664.rank)
  bcast_S_S1024x1664 : S_.BroadcastsInDim S1024x1664 (![] : Fin 0 → Fin S1024x1664.rank)

variable [Facts]

def fn_part1 {F : FTy → Type} [FloatOps F] (main_arg6 : FVec F S1024x1664 .bf16) (main_v2 : IVec S8192x1024 1) (main_v5 : IVec S1x1024 1) (main_v8 : IVec S8192x1024 1) (main_v12 : IVec S8192x1024 1) (main_v16 : IVec S1024x1024 1) (main_v18 : FVec F S8192x1664 .f32) : IVec S8192x1024 1 × IVec S1x1024 1 × IVec S8192x1024 1 × IVec S8192x1024 1 × IVec S1024x1024 1 × IVec S8192x1664 1 × IVec S1024x1664 1 :=
  let main_cst_4 : FVec F S_ .f32 := constant S_ .f32 0x7F800000#32
  let main_v19 : FVec F S8192x1664 .f32 := broadcastInDim S8192x1664 ![] bcast_S_S8192x1664 main_cst_4
  let main_v20 : IVec S8192x1664 1 := cmpf .olt main_v18 main_v19
  let main_v21 : FVec F S1024x1664 .f32 := (extf .f32 · bitsLt_bf16_f32) main_arg6
  let main_v22 : FVec F S1024x1664 .f32 := Host.absf main_v21
  let main_cst_5 : FVec F S_ .f32 := constant S_ .f32 0x7F800000#32
  let main_v23 : FVec F S1024x1664 .f32 := broadcastInDim S1024x1664 ![] bcast_S_S1024x1664 main_cst_5
  let main_v24 : IVec S1024x1664 1 := cmpf .olt main_v22 main_v23
  (main_v2, main_v5, main_v8, main_v12, main_v16, main_v20, main_v24)

def fn {F : FTy → Type} [FloatOps F] (main_arg0 : FVec F S8192x1024 .f32) (main_arg1 : FVec F S1x1024 .f32) (main_arg2 : FVec F S8192x1024 .f32) (main_arg3 : FVec F S8192x1024 .bf16) (main_arg4 : FVec F S1024x1024 .bf16) (main_arg5 : FVec F S8192x1664 .bf16) (main_arg6 : FVec F S1024x1664 .bf16) : IVec S8192x1024 1 × IVec S1x1024 1 × IVec S8192x1024 1 × IVec S8192x1024 1 × IVec S1024x1024 1 × IVec S8192x1664 1 × IVec S1024x1664 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := (extf .f32 · bitsLt_bf16_f32) main_arg3
  let main_v10 : FVec F S8192x1024 .f32 := Host.absf main_v9
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S1024x1024 .f32 := (extf .f32 · bitsLt_bf16_f32) main_arg4
  let main_v14 : FVec F S1024x1024 .f32 := Host.absf main_v13
  let main_cst_3 : FVec F S_ .f32 := constant S_ .f32 0x7F800000#32
  let main_v15 : FVec F S1024x1024 .f32 := broadcastInDim S1024x1024 ![] bcast_S_S1024x1024 main_cst_3
  let main_v16 : IVec S1024x1024 1 := cmpf .olt main_v14 main_v15
  let main_v17 : FVec F S8192x1664 .f32 := (extf .f32 · bitsLt_bf16_f32) main_arg5
  let main_v18 : FVec F S8192x1664 .f32 := Host.absf main_v17
  fn_part1 (F := F) main_arg6 main_v2 main_v5 main_v8 main_v12 main_v16 main_v18
-- ==== Pre_finite_loss_norm.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1x1024 .f32) (main_arg2 : FVec F S1x1024 .f32) (main_arg3 : FVec F S8192x1024 .f32) : IVec S8192x1024 1 × IVec S1x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_up_gate.lean ====
abbrev S8192x1024 : Shape := ⟨2, ![8192, 1024]⟩
abbrev S8x1024x768 : Shape := ⟨3, ![8, 1024, 768]⟩
abbrev S8x8x768 : Shape := ⟨3, ![8, 8, 768]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8x1024x768 : S_.BroadcastsInDim S8x1024x768 (![] : Fin 0 → Fin S8x1024x768.rank)
  bcast_S_S8x8x768 : S_.BroadcastsInDim S8x8x768 (![] : Fin 0 → Fin S8x8x768.rank)

variable [Facts]

def fn {F : FTy → Type} [FloatOps F] (main_arg0 : FVec F S8192x1024 .bf16) (main_arg1 : FVec F S8x1024x768 .bf16) (main_arg2 : FVec F S8x8x768 .f32) : IVec S8192x1024 1 × IVec S8x1024x768 1 × IVec S8x8x768 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8x1024x768 .f32 := (extf .f32 · bitsLt_bf16_f32) main_arg1
  let main_v5 : FVec F S8x1024x768 .f32 := Host.absf main_v4
  let main_cst_0 : FVec F S_ .f32 := constant S_ .f32 0x7F800000#32
  let main_v6 : FVec F S8x1024x768 .f32 := broadcastInDim S8x1024x768 ![] bcast_S_S8x1024x768 main_cst_0
  let main_v7 : IVec S8x1024x768 1 := cmpf .olt main_v5 main_v6
  let main_v8 : FVec F S8x8x768 .f32 := Host.absf main_arg2
  let main_cst_1 : FVec F S_ .f32 := constant S_ .f32 0x7F800000#32
  let main_v9 : FVec F S8x8x768 .f32 := broadcastInDim S8x8x768 ![] bcast_S_S8x8x768 main_cst_1
  let main_v10 : IVec S8x8x768 1 := cmpf .olt main_v8 main_v9
  (main_v3, main_v7, main_v10)
-- ==== Pre_finite_up_norm.lean ====
abbrev S8192x1024 : Shape := ⟨2, ![8192, 1024]⟩
abbrev S1x1024 : Shape := ⟨2, ![1, 1024]⟩
abbrev S8192x3072 : Shape := ⟨2, ![8192, 3072]⟩
abbrev S8x1024x768 : Shape := ⟨3, ![8, 1024, 768]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S8192x3072 : S_.BroadcastsInDim S8192x3072 (![] : Fin 0 → Fin S8192x3072.rank)
  bcast_S_S8x1024x768 : S_.BroadcastsInDim S8x1024x768 (![] : Fin 0 → Fin S8x1024x768.rank)

variable [Facts]

def fn_part1 {F : FTy → Type} [FloatOps F] (main_v2 : IVec S8192x1024 1) (main_v5 : IVec S1x1024 1) (main_v8 : IVec S8192x1024 1) (main_v12 : IVec S8192x3072 1) (main_v16 : IVec S8192x3072 1) (main_v18 : FVec F S8x1024x768 .f32) : IVec S8192x1024 1 × IVec S1x1024 1 × IVec S8192x1024 1 × IVec S8192x3072 1 × IVec S8192x3072 1 × IVec S8x1024x768 1 :=
  let main_cst_4 : FVec F S_ .f32 := constant S_ .f32 0x7F800000#32
  let main_v19 : FVec F S8x1024x768 .f32 := broadcastInDim S8x1024x768 ![] bcast_S_S8x1024x768 main_cst_4
  let main_v20 : IVec S8x1024x768 1 := cmpf .olt main_v18 main_v19
  (main_v2, main_v5, main_v8, main_v12, main_v16, main_v20)

def fn {F : FTy → Type} [FloatOps F] (main_arg0 : FVec F S8192x1024 .f32) (main_arg1 : FVec F S1x1024 .f32) (main_arg2 : FVec F S8192x1024 .f32) (main_arg3 : FVec F S8192x3072 .bf16) (main_arg4 : FVec F S8192x3072 .bf16) (main_arg5 : FVec F S8x1024x768 .bf16) : IVec S8192x1024 1 × IVec S1x1024 1 × IVec S8192x1024 1 × IVec S8192x3072 1 × IVec S8192x3072 1 × IVec S8x1024x768 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x3072 .f32 := (extf .f32 · bitsLt_bf16_f32) main_arg3
  let main_v10 : FVec F S8192x3072 .f32 := Host.absf main_v9
  let main_cst_2 : FVec F S_ .f32 := constant S_ .f32 0x7F800000#32
  let main_v11 : FVec F S8192x3072 .f32 := broadcastInDim S8192x3072 ![] bcast_S_S8192x3072 main_cst_2
  let main_v12 : IVec S8192x3072 1 := cmpf .olt main_v10 main_v11
  let main_v13 : FVec F S8192x3072 .f32 := (extf .f32 · bitsLt_bf16_f32) main_arg4
  let main_v14 : FVec F S8192x3072 .f32 := Host.absf main_v13
  let main_cst_3 : FVec F S_ .f32 := constant S_ .f32 0x7F800000#32
  let main_v15 : FVec F S8192x3072 .f32 := broadcastInDim S8192x3072 ![] bcast_S_S8192x3072 main_cst_3
  let main_v16 : IVec S8192x3072 1 := cmpf .olt main_v14 main_v15
  let main_v17 : FVec F S8x1024x768 .f32 := (extf .f32 · bitsLt_bf16_f32) main_arg5
  let main_v18 : FVec F S8x1024x768 .f32 := Host.absf main_v17
  fn_part1 (F := F) main_v2 main_v5 main_v8 main_v12 main_v16 main_v18
-- ==== Kernel.lean ====
abbrev S8192x1024 : Shape := ⟨2, ![8192, 1024]⟩
abbrev S512x512 : Shape := ⟨2, ![512, 512]⟩
abbrev S8192x768 : Shape := ⟨2, ![8192, 768]⟩
abbrev S512x256 : Shape := ⟨2, ![512, 256]⟩
abbrev S256x512 : Shape := ⟨2, ![256, 512]⟩
abbrev S512x768 : Shape := ⟨2, ![512, 768]⟩
abbrev S512x1024 : Shape := ⟨2, ![512, 1024]⟩
abbrev S256x128 : Shape := ⟨2, ![256, 128]⟩
abbrev S128x512 : Shape := ⟨2, ![128, 512]⟩
abbrev S512x128 : Shape := ⟨2, ![512, 128]⟩
abbrev S128x256 : Shape := ⟨2, ![128, 256]⟩
abbrev S512 : Shape := ⟨1, ![512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S512x512, .bf16⟩
  | .hbm, ⟨2, _⟩ => ⟨S8192x1024, .f32⟩
  | .hbm, ⟨3, _⟩ => ⟨S8192x768, .bf16⟩
  | .hbm, ⟨4, _⟩ => ⟨S8192x1024, .bf16⟩
  | .hbm, ⟨5, _⟩ => ⟨S512x512, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x256, .f32⟩
  | .local _ .vmem, ⟨5, _⟩ => ⟨S512x256, .f32⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | .local _ .vmem, ⟨10, _⟩ => ⟨S256x512, .f32⟩
  | .local _ .vmem, ⟨11, _⟩ => ⟨S256x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x1024 : Shape := ⟨2, ![8192, 1024]⟩
abbrev S512x512 : Shape := ⟨2, ![512, 512]⟩
abbrev S8192x768 : Shape := ⟨2, ![8192, 768]⟩
abbrev S2x4096x1024 : Shape := ⟨3, ![2, 4096, 1024]⟩
abbrev S2x256x512 : Shape := ⟨3, ![2, 256, 512]⟩
abbrev S2x4096x256 : Shape := ⟨3, ![2, 4096, 256]⟩
abbrev S2x4096x4x64 : Shape := ⟨4, ![2, 4096, 4, 64]⟩
abbrev S2x256x256 : Shape := ⟨3, ![2, 256, 256]⟩
abbrev S2x256x4x64 : Shape := ⟨4, ![2, 256, 4, 64]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4x64x256 : Shape := ⟨4, ![2, 4, 64, 256]⟩
abbrev S2x4x256x64 : Shape := ⟨4, ![2, 4, 256, 64]⟩
abbrev S2x4x4096x64 : Shape := ⟨4, ![2, 4, 4096, 64]⟩
abbrev S8192x256 : Shape := ⟨2, ![8192, 256]⟩
abbrev S512x256 : Shape := ⟨2, ![512, 256]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x512, .bf16⟩
  | .hbm, ⟨2, _⟩ => ⟨S8192x1024, .f32⟩
  | .hbm, ⟨3, _⟩ => ⟨S8192x768, .bf16⟩
  | .hbm, ⟨4, _⟩ => ⟨S8192x1024, .f32⟩
  | .hbm, ⟨5, _⟩ => ⟨S2x4096x1024, .f32⟩
  | .hbm, ⟨6, _⟩ => ⟨S512x512, .f32⟩
  | .hbm, ⟨7, _⟩ => ⟨S2x256x512, .f32⟩
  | .hbm, ⟨8, _⟩ => ⟨S2x4096x256, .f32⟩
  | .hbm, ⟨9, _⟩ => ⟨S2x4096x4x64, .f32⟩
  | .hbm, ⟨10, _⟩ => ⟨S2x256x256, .f32⟩
  | .hbm, ⟨11, _⟩ => ⟨S2x256x4x64, .f32⟩
  | .hbm, ⟨12, _⟩ => ⟨S2x256x256, .f32⟩
  | .hbm, ⟨13, _⟩ => ⟨S2x256x4x64, .f32⟩
  | .hbm, ⟨14, _⟩ => ⟨S2x4096x1024, .f32⟩
  | .hbm, ⟨15, _⟩ => ⟨S2x4096x256, .f32⟩
  | .hbm, ⟨16, _⟩ => ⟨S2x4x4096x256, .f32⟩
  | .hbm, ⟨17, _⟩ => ⟨S_, .f32⟩
  | .hbm, ⟨18, _⟩ => ⟨S2x4x4096x256, .f32⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .i1⟩
  | .hbm, ⟨25, _⟩ => ⟨S2x4x4096x256, .f32⟩
  | .hbm, ⟨26, _⟩ => ⟨S_, .f32⟩
  | .hbm, ⟨27, _⟩ => ⟨S2x4x4096, .f32⟩
  | .hbm, ⟨28, _⟩ => ⟨S_, .f32⟩
  | .hbm, ⟨29, _⟩ => ⟨S2x4x4096, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S2x4x4096, .i1⟩
  | .hbm, ⟨34, _⟩ => ⟨S_, .f32⟩
  | .hbm, ⟨35, _⟩ => ⟨S2x4x4096, .f32⟩
  | .hbm, ⟨36, _⟩ => ⟨S2x4x4096, .i1⟩
  | .hbm, ⟨37, _⟩ => ⟨S_, .f32⟩
  | .hbm, ⟨38, _⟩ => ⟨S2x4x4096, .f32⟩
  | .hbm, ⟨39, _⟩ => ⟨S_, .f32⟩
  | .hbm, ⟨40, _⟩ => ⟨S2x4x4096, .f32⟩
  | .hbm, ⟨41, _⟩ => ⟨S_, .f32⟩
  | .hbm, ⟨42, _⟩ => ⟨S2x4x4096, .f32⟩
  | .hbm, ⟨43, _⟩ => ⟨S2x4x4096, .f32⟩
  | .hbm, ⟨44, _⟩ => ⟨S2x4x4096, .f32⟩
  | .hbm, ⟨45, _⟩ => ⟨S2x4x4096x1, .f32⟩
  | .hbm, ⟨46, _⟩ => ⟨S2x4x4096x256, .f32⟩
  | .hbm, ⟨47, _⟩ => ⟨S2x4x4096x256, .f32⟩
  | .hbm, ⟨48, _⟩ => ⟨S2x4x4096x256, .f32⟩
  | .hbm, ⟨49, _⟩ => ⟨S_, .f32⟩
  | .hbm, ⟨50, _⟩ => ⟨S2x4x4096, .f32⟩
  | .hbm, ⟨51, _⟩ => ⟨S2x4x4096x1, .f32⟩
  | .hbm, ⟨52, _⟩ => ⟨S2x4x4096x256, .f32⟩
  | .hbm, ⟨53, _⟩ => ⟨S2x4x4096x256, .f32⟩
  | .hbm, ⟨54, _⟩ => ⟨S2x4x4096x1, .f32⟩
  | .hbm, ⟨55, _⟩ => ⟨S_, .f32⟩
  | .hbm, ⟨56, _⟩ => ⟨S2x4x4096x1, .f32⟩
  | .hbm, ⟨57, _⟩ => ⟨S2x4x4096x1, .f32⟩
  | .hbm, ⟨58, _⟩ => ⟨S2x4x64x4096, .f32⟩
  | .hbm, ⟨59, _⟩ => ⟨S2x4096x4x64, .f32⟩
  | .hbm, ⟨60, _⟩ => ⟨S2x4096x256, .f32⟩
  | .hbm, ⟨61, _⟩ => ⟨S2x4096x4x64, .f32⟩
  | .hbm, ⟨62, _⟩ => ⟨S2x4x64x4096, .f32⟩
  | .hbm, ⟨63, _⟩ => ⟨S2x4x4096x256, .f32⟩
  | .hbm, ⟨64, _⟩ => ⟨S2x4x64x256, .f32⟩
  | .hbm, ⟨65, _⟩ => ⟨S2x256x4x64, .f32⟩
  | .hbm, ⟨66, _⟩ => ⟨S2x4x4096x256, .f32⟩
  | .hbm, ⟨67, _⟩ => ⟨S2x4x4096x256, .f32⟩
  | .hbm, ⟨68, _⟩ => ⟨S2x4x4096x256, .f32⟩
  | .hbm, ⟨69, _⟩ => ⟨S_, .f32⟩
  | .hbm, ⟨70, _⟩ => ⟨S2x4x4096, .f32⟩
  | .hbm, ⟨71, _⟩ => ⟨S2x4x4096x1, .f32⟩
  | .hbm, ⟨72, _⟩ => ⟨S2x4x4096x1, .f32⟩
  | .hbm, ⟨73, _⟩ => ⟨S2x4x4096x256, .f32⟩
  | .hbm, ⟨74, _⟩ => ⟨S2x4x4096x256, .f32⟩
  | .hbm, ⟨75, _⟩ => ⟨S_, .f32⟩
  | .hbm, ⟨76, _⟩ => ⟨S2x4x4096, .f32⟩
  | .hbm, ⟨77, _⟩ => ⟨S2x4x4096x256, .f32⟩
  | .hbm, ⟨78, _⟩ => ⟨S2x4x4096x256, .f32⟩
  | .hbm, ⟨79, _⟩ => ⟨S2x4x4096x256, .f32⟩
  | .hbm, ⟨80, _⟩ => ⟨S_, .f32⟩
  | .hbm, ⟨81, _⟩ => ⟨S2x4x4096x256, .f32⟩
  | .hbm, ⟨82, _⟩ => ⟨S2x4x4096x256, .f32⟩
  | .hbm, ⟨83, _⟩ => ⟨S2x4x256x64, .f32⟩
  | .hbm, ⟨84, _⟩ => ⟨S2x256x4x64, .f32⟩
  | .hbm, ⟨85, _⟩ => ⟨S2x4x4096x64, .f32⟩
  | .hbm, ⟨86, _⟩ => ⟨S2x4096x4x64, .f32⟩
  | .hbm, ⟨87, _⟩ => ⟨S8192x256, .f32⟩
  | .hbm, ⟨88, _⟩ => ⟨S8192x256, .bf16⟩
  | .hbm, ⟨89, _⟩ => ⟨S8192x1024, .bf16⟩
  | .hbm, ⟨90, _⟩ => ⟨S512x256, .f32⟩
  | .hbm, ⟨91, _⟩ => ⟨S512x256, .f32⟩
  | .hbm, ⟨92, _⟩ => ⟨S512x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== KernelUpDw.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S4x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDownDw.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelSquareDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceSquareDwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelKvDw.lean ====
abbrev S8192x1024 : Shape := ⟨2, ![8192, 1024]⟩
abbrev S8192x1664 : Shape := ⟨2, ![8192, 1664]⟩
abbrev S1024x1664 : Shape := ⟨2, ![1024, 1664]⟩
abbrev S2048x1024 : Shape := ⟨2, ![2048, 1024]⟩
abbrev S2048x1664 : Shape := ⟨2, ![2048, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x1664, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceKvDwIdeal.lean ====
abbrev S8192x1024 : Shape := ⟨2, ![8192, 1024]⟩
abbrev S8192x1664 : Shape := ⟨2, ![8192, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S_, .f32⟩
  | .hbm, ⟨3, _⟩ => ⟨S1024x1664, .f32⟩
  | .hbm, ⟨4, _⟩ => ⟨S8192x1024, .f32⟩
  | .hbm, ⟨5, _⟩ => ⟨S8192x1664, .f32⟩
  | .hbm, ⟨6, _⟩ => ⟨S8192x1664, .f32⟩
  | .hbm, ⟨7, _⟩ => ⟨S1664x1024, .f32⟩
  | .hbm, ⟨8, _⟩ => ⟨S1024x1664, .f32⟩
  | .hbm, ⟨9, _⟩ => ⟨S1024x1664, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDownDx.lean ====
abbrev S8192x1024 : Shape := ⟨2, ![8192, 1024]⟩
abbrev S3072x1024 : Shape := ⟨2, ![3072, 1024]⟩
abbrev S8192x3072 : Shape := ⟨2, ![8192, 3072]⟩
abbrev S512x1024 : Shape := ⟨2, ![512, 1024]⟩
abbrev S512x3072 : Shape := ⟨2, ![512, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownDxIdeal.lean ====
abbrev S8192x1024 : Shape := ⟨2, ![8192, 1024]⟩
abbrev S3072x1024 : Shape := ⟨2, ![3072, 1024]⟩
abbrev S_ : Shape := ⟨0, ![]⟩
abbrev S8192x3072 : Shape := ⟨2, ![8192, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S_, .f32⟩
  | .hbm, ⟨3, _⟩ => ⟨S8192x3072, .f32⟩
  | .hbm, ⟨4, _⟩ => ⟨S3072x1024, .f32⟩
  | .hbm, ⟨5, _⟩ => ⟨S8192x1024, .f32⟩
  | .hbm, ⟨6, _⟩ => ⟨S8192x1024, .f32⟩
  | .hbm, ⟨7, _⟩ => ⟨S8192x3072, .f32⟩
  | .hbm, ⟨8, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutDx.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutDxIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInDx.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInDxIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelUpNorm.lean ====
abbrev S8192x1024 : Shape := ⟨2, ![8192, 1024]⟩
abbrev S1x1024 : Shape := ⟨2, ![1, 1024]⟩
abbrev S8192x3072 : Shape := ⟨2, ![8192, 3072]⟩
abbrev S8x1024x768 : Shape := ⟨3, ![8, 1024, 768]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S256x3072 : Shape := ⟨2, ![256, 3072]⟩
abbrev S4x1024x768 : Shape := ⟨3, ![4, 1024, 768]⟩
abbrev S256x1024 : Shape := ⟨2, ![256, 1024]⟩
abbrev S256x128 : Shape := ⟨2, ![256, 128]⟩
abbrev S256x768 : Shape := ⟨2, ![256, 768]⟩
abbrev S1x1024x768 : Shape := ⟨3, ![1, 1024, 768]⟩
abbrev S1024x768 : Shape := ⟨2, ![1024, 768]⟩
abbrev S256 : Shape := ⟨1, ![256]⟩
abbrev S256x1 : Shape := ⟨2, ![256, 1]⟩
abbrev S1024 : Shape := ⟨1, ![1024]⟩

abbrev nBuf : Space → Nat
  | .hbm => 34
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x3072, .bf16⟩
  | .hbm, ⟨4, _⟩ => ⟨S8192x3072, .bf16⟩
  | .hbm, ⟨5, _⟩ => ⟨S8x1024x768, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x128, .f32⟩
  | .hbm, ⟨30, _⟩ => ⟨S8192x1024, .f32⟩
  | .hbm, ⟨31, _⟩ => ⟨S8192x1024, .bf16⟩
  | .hbm, ⟨32, _⟩ => ⟨S1x1024, .f32⟩
  | .hbm, ⟨33, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S4x1024x768, .bf16⟩
  | .local _ .vmem, ⟨3, _⟩ => ⟨S256x3072, .bf16⟩
  | .local _ .vmem, ⟨4, _⟩ => ⟨S256x3072, .bf16⟩
  | .local _ .vmem, ⟨5, _⟩ => ⟨S4x1024x768, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceUpNormIdeal.lean ====
abbrev S8192x1024 : Shape := ⟨2, ![8192, 1024]⟩
abbrev S1x1024 : Shape := ⟨2, ![1, 1024]⟩
abbrev S8192x3072 : Shape := ⟨2, ![8192, 3072]⟩
abbrev S8x1024x768 : Shape := ⟨3, ![8, 1024, 768]⟩
abbrev S1024x8x768 : Shape := ⟨3, ![1024, 8, 768]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x3072, .bf16⟩
  | .hbm, ⟨4, _⟩ => ⟨S8192x3072, .bf16⟩
  | .hbm, ⟨5, _⟩ => ⟨S8x1024x768, .bf16⟩
  | .hbm, ⟨6, _⟩ => ⟨S8x1024x768, .f32⟩
  | .hbm, ⟨7, _⟩ => ⟨S1024x8x768, .f32⟩
  | .hbm, ⟨8, _⟩ => ⟨S1024x6144, .f32⟩
  | .hbm, ⟨9, _⟩ => ⟨S8192x6144, .bf16⟩
  | .hbm, ⟨10, _⟩ => ⟨S8192x6144, .f32⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x6144, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== KernelInNorm.lean ====
abbrev S8192x1024 : Shape := ⟨2, ![8192, 1024]⟩
abbrev S1x1024 : Shape := ⟨2, ![1, 1024]⟩
abbrev S1024x1024 : Shape := ⟨2, ![1024, 1024]⟩
abbrev S8192x1664 : Shape := ⟨2, ![8192, 1664]⟩
abbrev S1024x1664 : Shape := ⟨2, ![1024, 1664]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S512x1024 : Shape := ⟨2, ![512, 1024]⟩
abbrev S512x1664 : Shape := ⟨2, ![512, 1664]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 35
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1664, .bf16⟩
  | .hbm, ⟨6, _⟩ => ⟨S1024x1664, .bf16⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x128, .f32⟩
  | .hbm, ⟨31, _⟩ => ⟨S8192x1024, .f32⟩
  | .hbm, ⟨32, _⟩ => ⟨S8192x1024, .bf16⟩
  | .hbm, ⟨33, _⟩ => ⟨S1x1024, .f32⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1664, .bf16⟩
  | .local _ .vmem, ⟨4, _⟩ => ⟨S512x1664, .bf16⟩
  | .local _ .vmem, ⟨5, _⟩ => ⟨S1024x1664, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceInNormIdeal.lean ====
abbrev S8192x1024 : Shape := ⟨2, ![8192, 1024]⟩
abbrev S1x1024 : Shape := ⟨2, ![1, 1024]⟩
abbrev S1024x1024 : Shape := ⟨2, ![1024, 1024]⟩
abbrev S8192x1664 : Shape := ⟨2, ![8192, 1664]⟩
abbrev S1024x1664 : Shape := ⟨2, ![1024, 1664]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1664, .bf16⟩
  | .hbm, ⟨6, _⟩ => ⟨S1024x1664, .bf16⟩
  | .hbm, ⟨7, _⟩ => ⟨S_, .f32⟩
  | .hbm, ⟨8, _⟩ => ⟨S1x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S1024x1664, .f32⟩
  | .hbm, ⟨46, _⟩ => ⟨S8192x1664, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1664, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== KernelLossNorm.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 33
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x128, .f32⟩
  | .hbm, ⟨28, _⟩ => ⟨S8192x1024, .f32⟩
  | .hbm, ⟨29, _⟩ => ⟨S8192x1024, .bf16⟩
  | .hbm, ⟨30, _⟩ => ⟨S1x1024, .f32⟩
  | .hbm, ⟨31, _⟩ => ⟨S1x1024, .f32⟩
  | .hbm, ⟨32, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x128, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v60 : BitVec 1 := Scalar.cmpi .eq arg0 c15_i32
  let v61 : BitVec 32 := Scalar.extui v60
  let c0_i32_35 : BitVec 32 := 0#32
  let v62 : BitVec 1 := Scalar.cmpi .ne v61 c0_i32_35
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceLossNormIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .bf16⟩
  | .hbm, ⟨102, _⟩ => ⟨S1x1, .f32⟩
  | .hbm, ⟨103, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== KernelOutNorm.lean ====
abbrev S8192x1024 : Shape := ⟨2, ![8192, 1024]⟩
abbrev S1024x1024 : Shape := ⟨2, ![1024, 1024]⟩
abbrev S1x1024 : Shape := ⟨2, ![1, 1024]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x128, .f32⟩
  | .local _ .vmem, ⟨14, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOutNormIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x128 : Shape := ⟨2, ![8192, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x128, .f32⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== KernelInProduct.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInProductIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelQueryProduct.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQueryProductIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelKvProduct.lean ====
abbrev S8192x1024 : Shape := ⟨2, ![8192, 1024]⟩
abbrev S1024x1536 : Shape := ⟨2, ![1024, 1536]⟩
abbrev S8192x1536 : Shape := ⟨2, ![8192, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvProductIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMemProduct.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x512, .bf16⟩
  | .local _ .vmem, ⟨0, _⟩ => ⟨S512x1024, .bf16⟩
  | .local _ .vmem, ⟨1, _⟩ => ⟨S1024x512, .bf16⟩
  | .local _ .vmem, ⟨2, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferenceMemProductIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .f32⟩
  | .hbm, ⟨3, _⟩ => ⟨S1024x512, .f32⟩
  | .hbm, ⟨4, _⟩ => ⟨S512x512, .f32⟩
  | .hbm, ⟨5, _⟩ => ⟨S512x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGateProduct.lean ====
abbrev S8192x1024 : Shape := ⟨2, ![8192, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateProductIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMemDw.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .bf16⟩
  | .hbm, ⟨1, _⟩ => ⟨S512x512, .f32⟩
  | .hbm, ⟨2, _⟩ => ⟨S1024x512, .bf16⟩
  | .local _ .vmem, ⟨0, _⟩ => ⟨S512x1024, .bf16⟩
  | .local _ .vmem, ⟨1, _⟩ => ⟨S512x512, .f32⟩
  | .local _ .vmem, ⟨2, _⟩ => ⟨S1024x512, .bf16⟩
  | .local _ .vmem, ⟨3, _⟩ => ⟨S1024x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMemDwIdeal.lean ====
abbrev S512x1024 : Shape := ⟨2, ![512, 1024]⟩
abbrev S512x512 : Shape := ⟨2, ![512, 512]⟩
abbrev S_ : Shape := ⟨0, ![]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x512, .f32⟩
  | .hbm, ⟨2, _⟩ => ⟨S_, .f32⟩
  | .hbm, ⟨3, _⟩ => ⟨S1024x512, .f32⟩
  | .hbm, ⟨4, _⟩ => ⟨S512x1024, .f32⟩
  | .hbm, ⟨5, _⟩ => ⟨S512x512, .f32⟩
  | .hbm, ⟨6, _⟩ => ⟨S512x1024, .f32⟩
  | .hbm, ⟨7, _⟩ => ⟨S1024x512, .f32⟩
  | .hbm, ⟨8, _⟩ => ⟨S1024x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPoolDw.lean ====
abbrev S8192x768 : Shape := ⟨2, ![8192, 768]⟩
abbrev S768x768 : Shape := ⟨2, ![768, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S768x768, .f32⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S768x768, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .ne arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferencePoolDwIdeal.lean ====
abbrev S8192x768 : Shape := ⟨2, ![8192, 768]⟩
abbrev S_ : Shape := ⟨0, ![]⟩
abbrev S768x768 : Shape := ⟨2, ![768, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S_, .f32⟩
  | .hbm, ⟨3, _⟩ => ⟨S768x768, .f32⟩
  | .hbm, ⟨4, _⟩ => ⟨S8192x768, .f32⟩
  | .hbm, ⟨5, _⟩ => ⟨S8192x768, .f32⟩
  | .hbm, ⟨6, _⟩ => ⟨S8192x768, .f32⟩
  | .hbm, ⟨7, _⟩ => ⟨S768x768, .f32⟩
  | .hbm, ⟨8, _⟩ => ⟨S768x768, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPoolMix.lean ====
abbrev S8192x1024 : Shape := ⟨2, ![8192, 1024]⟩
abbrev S8192x768 : Shape := ⟨2, ![8192, 768]⟩
abbrev S768x768 : Shape := ⟨2, ![768, 768]⟩
abbrev S1x768 : Shape := ⟨2, ![1, 768]⟩
abbrev S256x768 : Shape := ⟨2, ![256, 768]⟩
abbrev S768 : Shape := ⟨1, ![768]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x768, .bf16⟩
  | .hbm, ⟨2, _⟩ => ⟨S768x768, .bf16⟩
  | .hbm, ⟨3, _⟩ => ⟨S1x768, .f32⟩
  | .hbm, ⟨4, _⟩ => ⟨S8192x768, .bf16⟩
  | .hbm, ⟨5, _⟩ => ⟨S8192x768, .f32⟩
  | .hbm, ⟨6, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .bf16⟩
  | .local _ .vmem, ⟨3, _⟩ => ⟨S256x768, .bf16⟩
  | .local _ .vmem, ⟨4, _⟩ => ⟨S768x768, .bf16⟩
  | .local _ .vmem, ⟨5, _⟩ => ⟨S1x768, .f32⟩
  | .local _ .vmem, ⟨6, _⟩ => ⟨S256x768, .bf16⟩
  | .local _ .vmem, ⟨7, _⟩ => ⟨S256x768, .bf16⟩
  | .local _ .vmem, ⟨8, _⟩ => ⟨S256x768, .f32⟩
  | .local _ .vmem, ⟨9, _⟩ => ⟨S256x768, .f32⟩
  | .local _ .vmem, ⟨10, _⟩ => ⟨S1x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePoolMixIdeal.lean ====
abbrev S8192x1024 : Shape := ⟨2, ![8192, 1024]⟩
abbrev S8192x768 : Shape := ⟨2, ![8192, 768]⟩
abbrev S768x768 : Shape := ⟨2, ![768, 768]⟩
abbrev S1x768 : Shape := ⟨2, ![1, 768]⟩
abbrev S_ : Shape := ⟨0, ![]⟩
abbrev S768 : Shape := ⟨1, ![768]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x768, .bf16⟩
  | .hbm, ⟨2, _⟩ => ⟨S768x768, .bf16⟩
  | .hbm, ⟨3, _⟩ => ⟨S1x768, .f32⟩
  | .hbm, ⟨4, _⟩ => ⟨S8192x768, .f32⟩
  | .hbm, ⟨5, _⟩ => ⟨S768x768, .f32⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S8192x768, .f32⟩
  | .hbm, ⟨10, _⟩ => ⟨S8192x768, .f32⟩
  | .hbm, ⟨11, _⟩ => ⟨S_, .f32⟩
  | .hbm, ⟨12, _⟩ => ⟨S768, .f32⟩
  | .hbm, ⟨13, _⟩ => ⟨S1x768, .f32⟩
  | .hbm, ⟨14, _⟩ => ⟨S8192x768, .f32⟩
  | .hbm, ⟨15, _⟩ => ⟨S8192x768, .f32⟩
  | .hbm, ⟨16, _⟩ => ⟨S8192x768, .bf16⟩
  | .hbm, ⟨17, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelUpGate.lean ====
abbrev S8192x1024 : Shape := ⟨2, ![8192, 1024]⟩
abbrev S8x1024x768 : Shape := ⟨3, ![8, 1024, 768]⟩
abbrev S8x8x768 : Shape := ⟨3, ![8, 8, 768]⟩
abbrev S8192x3072 : Shape := ⟨2, ![8192, 3072]⟩
abbrev S1024x1024 : Shape := ⟨2, ![1024, 1024]⟩
abbrev S16x1024 : Shape := ⟨2, ![16, 1024]⟩
abbrev S1x1024x768 : Shape := ⟨3, ![1, 1024, 768]⟩
abbrev S1x8x768 : Shape := ⟨3, ![1, 8, 768]⟩
abbrev S1024x768 : Shape := ⟨2, ![1024, 768]⟩
abbrev S16x768 : Shape := ⟨2, ![16, 768]⟩
abbrev S1040x768 : Shape := ⟨2, ![1040, 768]⟩
abbrev S1x1x768 : Shape := ⟨3, ![1, 1, 768]⟩
abbrev S1x768 : Shape := ⟨2, ![1, 768]⟩

abbrev nBuf : Space → Nat
  | .hbm => 8
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8x1024x768, .bf16⟩
  | .hbm, ⟨2, _⟩ => ⟨S8x8x768, .f32⟩
  | .hbm, ⟨3, _⟩ => ⟨S8192x3072, .bf16⟩
  | .hbm, ⟨4, _⟩ => ⟨S8192x3072, .bf16⟩
  | .hbm, ⟨5, _⟩ => ⟨S8192x3072, .bf16⟩
  | .hbm, ⟨6, _⟩ => ⟨S8192x3072, .bf16⟩
  | .hbm, ⟨7, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x8x768, .f32⟩
  | .local _ .vmem, ⟨9, _⟩ => ⟨S1x8x768, .f32⟩
  | .local _ .vmem, ⟨10, _⟩ => ⟨S1x8x768, .f32⟩
  | .local _ .vmem, ⟨11, _⟩ => ⟨S1x8x768, .f32⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1024x768, .bf16⟩
  | .local _ .vmem, ⟨20, _⟩ => ⟨S1024x768, .bf16⟩
  | .local _ .vmem, ⟨21, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceUpGateIdeal.lean ====
abbrev S8192x1024 : Shape := ⟨2, ![8192, 1024]⟩
abbrev S8x1024x768 : Shape := ⟨3, ![8, 1024, 768]⟩
abbrev S8x8x768 : Shape := ⟨3, ![8, 8, 768]⟩
abbrev S1024x8x768 : Shape := ⟨3, ![1024, 8, 768]⟩
abbrev S1024x6144 : Shape := ⟨2, ![1024, 6144]⟩
abbrev S8192x6144 : Shape := ⟨2, ![8192, 6144]⟩
abbrev S2x4096x6144 : Shape := ⟨3, ![2, 4096, 6144]⟩
abbrev S8x6144 : Shape := ⟨2, ![8, 6144]⟩
abbrev S3x6144 : Shape := ⟨2, ![3, 6144]⟩
abbrev S1x6144 : Shape := ⟨2, ![1, 6144]⟩
abbrev S6144 : Shape := ⟨1, ![6144]⟩
abbrev S_ : Shape := ⟨0, ![]⟩
abbrev S2x2x6144 : Shape := ⟨3, ![2, 2, 6144]⟩
abbrev S2x4094x6144 : Shape := ⟨3, ![2, 4094, 6144]⟩
abbrev S1x1x6144 : Shape := ⟨3, ![1, 1, 6144]⟩
abbrev S2x1x6144 : Shape := ⟨3, ![2, 1, 6144]⟩
abbrev S2x4095x6144 : Shape := ⟨3, ![2, 4095, 6144]⟩
abbrev S2x4096x3072 : Shape := ⟨3, ![2, 4096, 3072]⟩
abbrev S8192x3072 : Shape := ⟨2, ![8192, 3072]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x768, .bf16⟩
  | .hbm, ⟨2, _⟩ => ⟨S8x8x768, .f32⟩
  | .hbm, ⟨3, _⟩ => ⟨S8x1024x768, .f32⟩
  | .hbm, ⟨4, _⟩ => ⟨S1024x8x768, .f32⟩
  | .hbm, ⟨5, _⟩ => ⟨S1024x6144, .f32⟩
  | .hbm, ⟨6, _⟩ => ⟨S8192x1024, .f32⟩
  | .hbm, ⟨7, _⟩ => ⟨S8192x6144, .f32⟩
  | .hbm, ⟨8, _⟩ => ⟨S2x4096x6144, .f32⟩
  | .hbm, ⟨9, _⟩ => ⟨S8x8x768, .f32⟩
  | .hbm, ⟨10, _⟩ => ⟨S8x6144, .f32⟩
  | .hbm, ⟨11, _⟩ => ⟨S3x6144, .f32⟩
  | .hbm, ⟨12, _⟩ => ⟨S1x6144, .f32⟩
  | .hbm, ⟨13, _⟩ => ⟨S6144, .f32⟩
  | .hbm, ⟨14, _⟩ => ⟨S1x6144, .f32⟩
  | .hbm, ⟨15, _⟩ => ⟨S6144, .f32⟩
  | .hbm, ⟨16, _⟩ => ⟨S_, .f32⟩
  | .hbm, ⟨17, _⟩ => ⟨S2x2x6144, .f32⟩
  | .hbm, ⟨18, _⟩ => ⟨S2x4094x6144, .f32⟩
  | .hbm, ⟨19, _⟩ => ⟨S2x4096x6144, .f32⟩
  | .hbm, ⟨20, _⟩ => ⟨S1x1x6144, .f32⟩
  | .hbm, ⟨21, _⟩ => ⟨S2x4096x6144, .f32⟩
  | .hbm, ⟨22, _⟩ => ⟨S2x4096x6144, .f32⟩
  | .hbm, ⟨23, _⟩ => ⟨S1x6144, .f32⟩
  | .hbm, ⟨24, _⟩ => ⟨S6144, .f32⟩
  | .hbm, ⟨25, _⟩ => ⟨S_, .f32⟩
  | .hbm, ⟨26, _⟩ => ⟨S2x1x6144, .f32⟩
  | .hbm, ⟨27, _⟩ => ⟨S2x4095x6144, .f32⟩
  | .hbm, ⟨28, _⟩ => ⟨S2x4096x6144, .f32⟩
  | .hbm, ⟨29, _⟩ => ⟨S1x1x6144, .f32⟩
  | .hbm, ⟨30, _⟩ => ⟨S2x4096x6144, .f32⟩
  | .hbm, ⟨31, _⟩ => ⟨S2x4096x6144, .f32⟩
  | .hbm, ⟨32, _⟩ => ⟨S2x4096x6144, .f32⟩
  | .hbm, ⟨33, _⟩ => ⟨S1x6144, .f32⟩
  | .hbm, ⟨34, _⟩ => ⟨S6144, .f32⟩
  | .hbm, ⟨35, _⟩ => ⟨S1x1x6144, .f32⟩
  | .hbm, ⟨36, _⟩ => ⟨S2x4096x6144, .f32⟩
  | .hbm, ⟨37, _⟩ => ⟨S2x4096x6144, .f32⟩
  | .hbm, ⟨38, _⟩ => ⟨S2x4096x6144, .f32⟩
  | .hbm, ⟨39, _⟩ => ⟨S1x1x6144, .f32⟩
  | .hbm, ⟨40, _⟩ => ⟨S2x4096x6144, .f32⟩
  | .hbm, ⟨41, _⟩ => ⟨S2x4096x6144, .f32⟩
  | .hbm, ⟨42, _⟩ => ⟨S2x4096x3072, .f32⟩
  | .hbm, ⟨43, _⟩ => ⟨S2x4096x3072, .f32⟩
  | .hbm, ⟨44, _⟩ => ⟨S2x4096x3072, .f32⟩
  | .hbm, ⟨45, _⟩ => ⟨S2x4096x3072, .f32⟩
  | .hbm, ⟨46, _⟩ => ⟨S_, .f32⟩
  | .hbm, ⟨47, _⟩ => ⟨S2x4096x3072, .f32⟩
  | .hbm, ⟨48, _⟩ => ⟨S2x4096x3072, .f32⟩
  | .hbm, ⟨49, _⟩ => ⟨S_, .f32⟩
  | .hbm, ⟨50, _⟩ => ⟨S2x4096x3072, .f32⟩
  | .hbm, ⟨51, _⟩ => ⟨S2x4096x3072, .f32⟩
  | .hbm, ⟨52, _⟩ => ⟨S_, .f32⟩
  | .hbm, ⟨53, _⟩ => ⟨S2x4096x3072, .f32⟩
  | .hbm, ⟨54, _⟩ => ⟨S2x4096x3072, .f32⟩
  | .hbm, ⟨55, _⟩ => ⟨S2x4096x3072, .f32⟩
  | .hbm, ⟨56, _⟩ => ⟨S2x4096x3072, .f32⟩
  | .hbm, ⟨57, _⟩ => ⟨S2x4096x3072, .f32⟩
  | .hbm, ⟨58, _⟩ => ⟨S2x4096x3072, .f32⟩
  | .hbm, ⟨59, _⟩ => ⟨S2x4096x3072, .f32⟩
  | .hbm, ⟨60, _⟩ => ⟨S2x4096x3072, .f32⟩
  | .hbm, ⟨61, _⟩ => ⟨S2x4096x3072, .f32⟩
  | .hbm, ⟨62, _⟩ => ⟨S2x4096x3072, .f32⟩
  | .hbm, ⟨63, _⟩ => ⟨S2x4096x3072, .f32⟩
  | .hbm, ⟨64, _⟩ => ⟨S8192x3072, .f32⟩
  | .hbm, ⟨65, _⟩ => ⟨S8192x3072, .bf16⟩
  | .hbm, ⟨66, _⟩ => ⟨S8192x3072, .f32⟩
  | .hbm, ⟨67, _⟩ => ⟨S8192x3072, .bf16⟩
  | .hbm, ⟨68, _⟩ => ⟨S8192x3072, .f32⟩
  | .hbm, ⟨69, _⟩ => ⟨S8192x3072, .bf16⟩
  | .hbm, ⟨70, _⟩ => ⟨S8192x3072, .f32⟩
  | .hbm, ⟨71, _⟩ => ⟨S8192x3072, .bf16⟩
  | .hbm, ⟨72, _⟩ => ⟨S8192x3072, .f32⟩
  | .hbm, ⟨73, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v39_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v39_1 : Ref sig .tc := ⟨.hbm, 55, rfl⟩
abbrev main_v39_0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KernelDownNorm.lean ====
abbrev S8192x1024 : Shape := ⟨2, ![8192, 1024]⟩
abbrev S8192x3072 : Shape := ⟨2, ![8192, 3072]⟩
abbrev S3072x1024 : Shape := ⟨2, ![3072, 1024]⟩
abbrev S1x1024 : Shape := ⟨2, ![1, 1024]⟩
abbrev S8192x128 : Shape := ⟨2, ![8192, 128]⟩
abbrev S512x1024 : Shape := ⟨2, ![512, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S3072x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S3072x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x128, .f32⟩
  | .local _ .vmem, ⟨14, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceDownNormIdeal.lean ====
abbrev S8192x1024 : Shape := ⟨2, ![8192, 1024]⟩
abbrev S8192x3072 : Shape := ⟨2, ![8192, 3072]⟩
abbrev S3072x1024 : Shape := ⟨2, ![3072, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x128 : Shape := ⟨2, ![8192, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S3072x1024, .bf16⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x3072, .f32⟩
  | .hbm, ⟨9, _⟩ => ⟨S3072x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x128, .f32⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== KernelSquareStep.lean ====
abbrev S8x128x1024 : Shape := ⟨3, ![8, 128, 1024]⟩
abbrev S1x128x1024 : Shape := ⟨3, ![1, 128, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelSquareStepIdeal.lean ====
abbrev S8x128x1024 : Shape := ⟨3, ![8, 128, 1024]⟩
abbrev S1x128x1024 : Shape := ⟨3, ![1, 128, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceSquareStepIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelKvStep.lean ====
abbrev S8x128x1548 : Shape := ⟨3, ![8, 128, 1548]⟩
abbrev S1x128x1548 : Shape := ⟨3, ![1, 128, 1548]⟩
abbrev S8x64x1548 : Shape := ⟨3, ![8, 64, 1548]⟩
abbrev S1x64x1548 : Shape := ⟨3, ![1, 64, 1548]⟩
abbrev S64x1548 : Shape := ⟨2, ![64, 1548]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1548, .bf16⟩
  | .hbm, ⟨1, _⟩ => ⟨S1x128x1548, .f32⟩
  | .hbm, ⟨2, _⟩ => ⟨S1x128x1548, .f32⟩
  | .hbm, ⟨3, _⟩ => ⟨S1x128x1548, .f32⟩
  | .hbm, ⟨4, _⟩ => ⟨S1x128x1548, .f32⟩
  | .hbm, ⟨5, _⟩ => ⟨S1x128x1548, .f32⟩
  | .hbm, ⟨6, _⟩ => ⟨S1x128x1548, .f32⟩
  | .hbm, ⟨7, _⟩ => ⟨S1x128x1548, .f32⟩
  | .local _ .vmem, ⟨0, _⟩ => ⟨S8x64x1548, .bf16⟩
  | .local _ .vmem, ⟨1, _⟩ => ⟨S8x64x1548, .bf16⟩
  | .local _ .vmem, ⟨2, _⟩ => ⟨S1x64x1548, .f32⟩
  | .local _ .vmem, ⟨3, _⟩ => ⟨S1x64x1548, .f32⟩
  | .local _ .vmem, ⟨4, _⟩ => ⟨S1x64x1548, .f32⟩
  | .local _ .vmem, ⟨5, _⟩ => ⟨S1x64x1548, .f32⟩
  | .local _ .vmem, ⟨6, _⟩ => ⟨S1x64x1548, .f32⟩
  | .local _ .vmem, ⟨7, _⟩ => ⟨S1x64x1548, .f32⟩
  | .local _ .vmem, ⟨8, _⟩ => ⟨S1x64x1548, .f32⟩
  | .local _ .vmem, ⟨9, _⟩ => ⟨S1x64x1548, .f32⟩
  | .local _ .vmem, ⟨10, _⟩ => ⟨S1x64x1548, .f32⟩
  | .local _ .vmem, ⟨11, _⟩ => ⟨S1x64x1548, .f32⟩
  | .local _ .vmem, ⟨12, _⟩ => ⟨S1x64x1548, .f32⟩
  | .local _ .vmem, ⟨13, _⟩ => ⟨S1x64x1548, .f32⟩
  | .local _ .vmem, ⟨14, _⟩ => ⟨S1x64x1548, .f32⟩
  | .local _ .vmem, ⟨15, _⟩ => ⟨S1x64x1548, .f32⟩
  | _, _ => ⟨S8x128x1548, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1548 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x1548 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1548 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1548 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1548 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1548 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1548 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1548 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelKvStepIdeal.lean ====
abbrev S8x128x1548 : Shape := ⟨3, ![8, 128, 1548]⟩
abbrev S1x128x1548 : Shape := ⟨3, ![1, 128, 1548]⟩
abbrev S8x64x1548 : Shape := ⟨3, ![8, 64, 1548]⟩
abbrev S1x64x1548 : Shape := ⟨3, ![1, 64, 1548]⟩
abbrev S64x1548 : Shape := ⟨2, ![64, 1548]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1548, .bf16⟩
  | .hbm, ⟨1, _⟩ => ⟨S1x128x1548, .f32⟩
  | .hbm, ⟨2, _⟩ => ⟨S1x128x1548, .f32⟩
  | .hbm, ⟨3, _⟩ => ⟨S1x128x1548, .f32⟩
  | .hbm, ⟨4, _⟩ => ⟨S1x128x1548, .f32⟩
  | .hbm, ⟨5, _⟩ => ⟨S1x128x1548, .f32⟩
  | .hbm, ⟨6, _⟩ => ⟨S1x128x1548, .f32⟩
  | .hbm, ⟨7, _⟩ => ⟨S1x128x1548, .f32⟩
  | .local _ .vmem, ⟨0, _⟩ => ⟨S8x64x1548, .bf16⟩
  | .local _ .vmem, ⟨1, _⟩ => ⟨S8x64x1548, .bf16⟩
  | .local _ .vmem, ⟨2, _⟩ => ⟨S1x64x1548, .f32⟩
  | .local _ .vmem, ⟨3, _⟩ => ⟨S1x64x1548, .f32⟩
  | .local _ .vmem, ⟨4, _⟩ => ⟨S1x64x1548, .f32⟩
  | .local _ .vmem, ⟨5, _⟩ => ⟨S1x64x1548, .f32⟩
  | .local _ .vmem, ⟨6, _⟩ => ⟨S1x64x1548, .f32⟩
  | .local _ .vmem, ⟨7, _⟩ => ⟨S1x64x1548, .f32⟩
  | .local _ .vmem, ⟨8, _⟩ => ⟨S1x64x1548, .f32⟩
  | .local _ .vmem, ⟨9, _⟩ => ⟨S1x64x1548, .f32⟩
  | .local _ .vmem, ⟨10, _⟩ => ⟨S1x64x1548, .f32⟩
  | .local _ .vmem, ⟨11, _⟩ => ⟨S1x64x1548, .f32⟩
  | .local _ .vmem, ⟨12, _⟩ => ⟨S1x64x1548, .f32⟩
  | .local _ .vmem, ⟨13, _⟩ => ⟨S1x64x1548, .f32⟩
  | .local _ .vmem, ⟨14, _⟩ => ⟨S1x64x1548, .f32⟩
  | .local _ .vmem, ⟨15, _⟩ => ⟨S1x64x1548, .f32⟩
  | _, _ => ⟨S8x128x1548, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1548 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x1548 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1548 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1548 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1548 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1548 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1548 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1548 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceKvStepIdeal.lean ====
abbrev S8x128x1548 : Shape := ⟨3, ![8, 128, 1548]⟩
abbrev S1x128x1548 : Shape := ⟨3, ![1, 128, 1548]⟩
abbrev S_ : Shape := ⟨0, ![]⟩
abbrev S128x1548 : Shape := ⟨2, ![128, 1548]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1548, .bf16⟩
  | .hbm, ⟨1, _⟩ => ⟨S1x128x1548, .f32⟩
  | .hbm, ⟨2, _⟩ => ⟨S1x128x1548, .f32⟩
  | .hbm, ⟨3, _⟩ => ⟨S1x128x1548, .f32⟩
  | .hbm, ⟨4, _⟩ => ⟨S8x128x1548, .f32⟩
  | .hbm, ⟨5, _⟩ => ⟨S_, .f32⟩
  | .hbm, ⟨6, _⟩ => ⟨S128x1548, .f32⟩
  | .hbm, ⟨7, _⟩ => ⟨S1x128x1548, .f32⟩
  | .hbm, ⟨8, _⟩ => ⟨S_, .f32⟩
  | .hbm, ⟨9, _⟩ => ⟨S1x128x1548, .f32⟩
  | .hbm, ⟨10, _⟩ => ⟨S1x128x1548, .f32⟩
  | .hbm, ⟨11, _⟩ => ⟨S_, .f32⟩
  | .hbm, ⟨12, _⟩ => ⟨S1x128x1548, .f32⟩
  | .hbm, ⟨13, _⟩ => ⟨S1x128x1548, .f32⟩
  | .hbm, ⟨14, _⟩ => ⟨S1x128x1548, .f32⟩
  | .hbm, ⟨15, _⟩ => ⟨S_, .f32⟩
  | .hbm, ⟨16, _⟩ => ⟨S1x128x1548, .f32⟩
  | .hbm, ⟨17, _⟩ => ⟨S1x128x1548, .f32⟩
  | .hbm, ⟨18, _⟩ => ⟨S1x128x1548, .f32⟩
  | .hbm, ⟨19, _⟩ => ⟨S_, .f32⟩
  | .hbm, ⟨20, _⟩ => ⟨S1x128x1548, .f32⟩
  | .hbm, ⟨21, _⟩ => ⟨S1x128x1548, .f32⟩
  | .hbm, ⟨22, _⟩ => ⟨S1x128x1548, .f32⟩
  | .hbm, ⟨23, _⟩ => ⟨S_, .f32⟩
  | .hbm, ⟨24, _⟩ => ⟨S1x128x1548, .f32⟩
  | .hbm, ⟨25, _⟩ => ⟨S1x128x1548, .f32⟩
  | .hbm, ⟨26, _⟩ => ⟨S_, .f32⟩
  | .hbm, ⟨27, _⟩ => ⟨S1x128x1548, .f32⟩
  | .hbm, ⟨28, _⟩ => ⟨S1x128x1548, .f32⟩
  | .hbm, ⟨29, _⟩ => ⟨S1x128x1548, .f32⟩
  | .hbm, ⟨30, _⟩ => ⟨S_, .f32⟩
  | .hbm, ⟨31, _⟩ => ⟨S1x128x1548, .f32⟩
  | .hbm, ⟨32, _⟩ => ⟨S1x128x1548, .f32⟩
  | .hbm, ⟨33, _⟩ => ⟨S1x128x1548, .f32⟩
  | .hbm, ⟨34, _⟩ => ⟨S_, .f32⟩
  | .hbm, ⟨35, _⟩ => ⟨S1x128x1548, .f32⟩
  | .hbm, ⟨36, _⟩ => ⟨S1x128x1548, .f32⟩
  | .hbm, ⟨37, _⟩ => ⟨S1x128x1548, .f32⟩
  | .hbm, ⟨38, _⟩ => ⟨S_, .f32⟩
  | .hbm, ⟨39, _⟩ => ⟨S1x128x1548, .f32⟩
  | .hbm, ⟨40, _⟩ => ⟨S1x128x1548, .f32⟩
  | _, _ => ⟨S8x128x1548, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelMemStep.lean ====
abbrev S8x128x512 : Shape := ⟨3, ![8, 128, 512]⟩
abbrev S2x128x512 : Shape := ⟨3, ![2, 128, 512]⟩
abbrev S8x64x512 : Shape := ⟨3, ![8, 64, 512]⟩
abbrev S1x64x512 : Shape := ⟨3, ![1, 64, 512]⟩
abbrev S64x512 : Shape := ⟨2, ![64, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .bf16⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .local _ .vmem, ⟨0, _⟩ => ⟨S8x64x512, .bf16⟩
  | .local _ .vmem, ⟨1, _⟩ => ⟨S8x64x512, .bf16⟩
  | .local _ .vmem, ⟨2, _⟩ => ⟨S8x64x512, .bf16⟩
  | .local _ .vmem, ⟨3, _⟩ => ⟨S8x64x512, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelMemStepIdeal.lean ====
abbrev S8x128x512 : Shape := ⟨3, ![8, 128, 512]⟩
abbrev S2x128x512 : Shape := ⟨3, ![2, 128, 512]⟩
abbrev S8x64x512 : Shape := ⟨3, ![8, 64, 512]⟩
abbrev S1x64x512 : Shape := ⟨3, ![1, 64, 512]⟩
abbrev S64x512 : Shape := ⟨2, ![64, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .bf16⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .local _ .vmem, ⟨0, _⟩ => ⟨S8x64x512, .bf16⟩
  | .local _ .vmem, ⟨1, _⟩ => ⟨S8x64x512, .bf16⟩
  | .local _ .vmem, ⟨2, _⟩ => ⟨S8x64x512, .bf16⟩
  | .local _ .vmem, ⟨3, _⟩ => ⟨S8x64x512, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMemStepIdeal.lean ====
abbrev S8x128x512 : Shape := ⟨3, ![8, 128, 512]⟩
abbrev S2x128x512 : Shape := ⟨3, ![2, 128, 512]⟩
abbrev S_ : Shape := ⟨0, ![]⟩
abbrev S128x512 : Shape := ⟨2, ![128, 512]⟩
abbrev S1x128x512 : Shape := ⟨3, ![1, 128, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .bf16⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S8x128x512, .f32⟩
  | .hbm, ⟨6, _⟩ => ⟨S_, .f32⟩
  | .hbm, ⟨7, _⟩ => ⟨S128x512, .f32⟩
  | .hbm, ⟨8, _⟩ => ⟨S8x128x512, .f32⟩
  | .hbm, ⟨9, _⟩ => ⟨S_, .f32⟩
  | .hbm, ⟨10, _⟩ => ⟨S128x512, .f32⟩
  | .hbm, ⟨11, _⟩ => ⟨S1x128x512, .f32⟩
  | .hbm, ⟨12, _⟩ => ⟨S1x128x512, .f32⟩
  | .hbm, ⟨13, _⟩ => ⟨S2x128x512, .f32⟩
  | .hbm, ⟨14, _⟩ => ⟨S_, .f32⟩
  | .hbm, ⟨15, _⟩ => ⟨S2x128x512, .f32⟩
  | .hbm, ⟨16, _⟩ => ⟨S2x128x512, .f32⟩
  | .hbm, ⟨17, _⟩ => ⟨S_, .f32⟩
  | .hbm, ⟨18, _⟩ => ⟨S2x128x512, .f32⟩
  | .hbm, ⟨19, _⟩ => ⟨S2x128x512, .f32⟩
  | .hbm, ⟨20, _⟩ => ⟨S2x128x512, .f32⟩
  | .hbm, ⟨21, _⟩ => ⟨S_, .f32⟩
  | .hbm, ⟨22, _⟩ => ⟨S2x128x512, .f32⟩
  | .hbm, ⟨23, _⟩ => ⟨S2x128x512, .f32⟩
  | .hbm, ⟨24, _⟩ => ⟨S2x128x512, .f32⟩
  | .hbm, ⟨25, _⟩ => ⟨S_, .f32⟩
  | .hbm, ⟨26, _⟩ => ⟨S2x128x512, .f32⟩
  | .hbm, ⟨27, _⟩ => ⟨S2x128x512, .f32⟩
  | .hbm, ⟨28, _⟩ => ⟨S2x128x512, .f32⟩
  | .hbm, ⟨29, _⟩ => ⟨S_, .f32⟩
  | .hbm, ⟨30, _⟩ => ⟨S2x128x512, .f32⟩
  | .hbm, ⟨31, _⟩ => ⟨S2x128x512, .f32⟩
  | .hbm, ⟨32, _⟩ => ⟨S_, .f32⟩
  | .hbm, ⟨33, _⟩ => ⟨S2x128x512, .f32⟩
  | .hbm, ⟨34, _⟩ => ⟨S2x128x512, .f32⟩
  | .hbm, ⟨35, _⟩ => ⟨S2x128x512, .f32⟩
  | .hbm, ⟨36, _⟩ => ⟨S_, .f32⟩
  | .hbm, ⟨37, _⟩ => ⟨S2x128x512, .f32⟩
  | .hbm, ⟨38, _⟩ => ⟨S2x128x512, .f32⟩
  | .hbm, ⟨39, _⟩ => ⟨S2x128x512, .f32⟩
  | .hbm, ⟨40, _⟩ => ⟨S_, .f32⟩
  | .hbm, ⟨41, _⟩ => ⟨S2x128x512, .f32⟩
  | .hbm, ⟨42, _⟩ => ⟨S2x128x512, .f32⟩
  | .hbm, ⟨43, _⟩ => ⟨S2x128x512, .f32⟩
  | .hbm, ⟨44, _⟩ => ⟨S_, .f32⟩
  | .hbm, ⟨45, _⟩ => ⟨S2x128x512, .f32⟩
  | .hbm, ⟨46, _⟩ => ⟨S2x128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelUpStep.lean ====
abbrev S8x1024x688 : Shape := ⟨3, ![8, 1024, 688]⟩
abbrev S2x1024x688 : Shape := ⟨3, ![2, 1024, 688]⟩
abbrev S8x128x688 : Shape := ⟨3, ![8, 128, 688]⟩
abbrev S1x128x688 : Shape := ⟨3, ![1, 128, 688]⟩
abbrev S128x688 : Shape := ⟨2, ![128, 688]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x688, .bf16⟩
  | .hbm, ⟨1, _⟩ => ⟨S8x1024x688, .bf16⟩
  | .hbm, ⟨2, _⟩ => ⟨S2x1024x688, .f32⟩
  | .hbm, ⟨3, _⟩ => ⟨S2x1024x688, .f32⟩
  | .hbm, ⟨4, _⟩ => ⟨S2x1024x688, .f32⟩
  | .hbm, ⟨5, _⟩ => ⟨S2x1024x688, .f32⟩
  | .hbm, ⟨6, _⟩ => ⟨S2x1024x688, .f32⟩
  | .hbm, ⟨7, _⟩ => ⟨S2x1024x688, .f32⟩
  | .hbm, ⟨8, _⟩ => ⟨S2x1024x688, .f32⟩
  | .local _ .vmem, ⟨0, _⟩ => ⟨S8x128x688, .bf16⟩
  | .local _ .vmem, ⟨1, _⟩ => ⟨S8x128x688, .bf16⟩
  | .local _ .vmem, ⟨2, _⟩ => ⟨S8x128x688, .bf16⟩
  | .local _ .vmem, ⟨3, _⟩ => ⟨S8x128x688, .bf16⟩
  | .local _ .vmem, ⟨4, _⟩ => ⟨S1x128x688, .f32⟩
  | .local _ .vmem, ⟨5, _⟩ => ⟨S1x128x688, .f32⟩
  | .local _ .vmem, ⟨6, _⟩ => ⟨S1x128x688, .f32⟩
  | .local _ .vmem, ⟨7, _⟩ => ⟨S1x128x688, .f32⟩
  | .local _ .vmem, ⟨8, _⟩ => ⟨S1x128x688, .f32⟩
  | .local _ .vmem, ⟨9, _⟩ => ⟨S1x128x688, .f32⟩
  | .local _ .vmem, ⟨10, _⟩ => ⟨S1x128x688, .f32⟩
  | .local _ .vmem, ⟨11, _⟩ => ⟨S1x128x688, .f32⟩
  | .local _ .vmem, ⟨12, _⟩ => ⟨S1x128x688, .f32⟩
  | .local _ .vmem, ⟨13, _⟩ => ⟨S1x128x688, .f32⟩
  | .local _ .vmem, ⟨14, _⟩ => ⟨S1x128x688, .f32⟩
  | .local _ .vmem, ⟨15, _⟩ => ⟨S1x128x688, .f32⟩
  | .local _ .vmem, ⟨16, _⟩ => ⟨S1x128x688, .f32⟩
  | .local _ .vmem, ⟨17, _⟩ => ⟨S1x128x688, .f32⟩
  | _, _ => ⟨S8x1024x688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelUpStepIdeal.lean ====
abbrev S8x1024x688 : Shape := ⟨3, ![8, 1024, 688]⟩
abbrev S2x1024x688 : Shape := ⟨3, ![2, 1024, 688]⟩
abbrev S8x128x688 : Shape := ⟨3, ![8, 128, 688]⟩
abbrev S1x128x688 : Shape := ⟨3, ![1, 128, 688]⟩
abbrev S128x688 : Shape := ⟨2, ![128, 688]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x688, .bf16⟩
  | .hbm, ⟨1, _⟩ => ⟨S8x1024x688, .bf16⟩
  | .hbm, ⟨2, _⟩ => ⟨S2x1024x688, .f32⟩
  | .hbm, ⟨3, _⟩ => ⟨S2x1024x688, .f32⟩
  | .hbm, ⟨4, _⟩ => ⟨S2x1024x688, .f32⟩
  | .hbm, ⟨5, _⟩ => ⟨S2x1024x688, .f32⟩
  | .hbm, ⟨6, _⟩ => ⟨S2x1024x688, .f32⟩
  | .hbm, ⟨7, _⟩ => ⟨S2x1024x688, .f32⟩
  | .hbm, ⟨8, _⟩ => ⟨S2x1024x688, .f32⟩
  | .local _ .vmem, ⟨0, _⟩ => ⟨S8x128x688, .bf16⟩
  | .local _ .vmem, ⟨1, _⟩ => ⟨S8x128x688, .bf16⟩
  | .local _ .vmem, ⟨2, _⟩ => ⟨S8x128x688, .bf16⟩
  | .local _ .vmem, ⟨3, _⟩ => ⟨S8x128x688, .bf16⟩
  | .local _ .vmem, ⟨4, _⟩ => ⟨S1x128x688, .f32⟩
  | .local _ .vmem, ⟨5, _⟩ => ⟨S1x128x688, .f32⟩
  | .local _ .vmem, ⟨6, _⟩ => ⟨S1x128x688, .f32⟩
  | .local _ .vmem, ⟨7, _⟩ => ⟨S1x128x688, .f32⟩
  | .local _ .vmem, ⟨8, _⟩ => ⟨S1x128x688, .f32⟩
  | .local _ .vmem, ⟨9, _⟩ => ⟨S1x128x688, .f32⟩
  | .local _ .vmem, ⟨10, _⟩ => ⟨S1x128x688, .f32⟩
  | .local _ .vmem, ⟨11, _⟩ => ⟨S1x128x688, .f32⟩
  | .local _ .vmem, ⟨12, _⟩ => ⟨S1x128x688, .f32⟩
  | .local _ .vmem, ⟨13, _⟩ => ⟨S1x128x688, .f32⟩
  | .local _ .vmem, ⟨14, _⟩ => ⟨S1x128x688, .f32⟩
  | .local _ .vmem, ⟨15, _⟩ => ⟨S1x128x688, .f32⟩
  | .local _ .vmem, ⟨16, _⟩ => ⟨S1x128x688, .f32⟩
  | .local _ .vmem, ⟨17, _⟩ => ⟨S1x128x688, .f32⟩
  | _, _ => ⟨S8x1024x688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceUpStepIdeal.lean ====
abbrev S8x1024x688 : Shape := ⟨3, ![8, 1024, 688]⟩
abbrev S2x1024x688 : Shape := ⟨3, ![2, 1024, 688]⟩
abbrev S_ : Shape := ⟨0, ![]⟩
abbrev S1024x688 : Shape := ⟨2, ![1024, 688]⟩
abbrev S1x1024x688 : Shape := ⟨3, ![1, 1024, 688]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x688, .bf16⟩
  | .hbm, ⟨1, _⟩ => ⟨S8x1024x688, .bf16⟩
  | .hbm, ⟨2, _⟩ => ⟨S2x1024x688, .f32⟩
  | .hbm, ⟨3, _⟩ => ⟨S2x1024x688, .f32⟩
  | .hbm, ⟨4, _⟩ => ⟨S2x1024x688, .f32⟩
  | .hbm, ⟨5, _⟩ => ⟨S8x1024x688, .f32⟩
  | .hbm, ⟨6, _⟩ => ⟨S_, .f32⟩
  | .hbm, ⟨7, _⟩ => ⟨S1024x688, .f32⟩
  | .hbm, ⟨8, _⟩ => ⟨S8x1024x688, .f32⟩
  | .hbm, ⟨9, _⟩ => ⟨S_, .f32⟩
  | .hbm, ⟨10, _⟩ => ⟨S1024x688, .f32⟩
  | .hbm, ⟨11, _⟩ => ⟨S1x1024x688, .f32⟩
  | .hbm, ⟨12, _⟩ => ⟨S1x1024x688, .f32⟩
  | .hbm, ⟨13, _⟩ => ⟨S2x1024x688, .f32⟩
  | .hbm, ⟨14, _⟩ => ⟨S_, .f32⟩
  | .hbm, ⟨15, _⟩ => ⟨S2x1024x688, .f32⟩
  | .hbm, ⟨16, _⟩ => ⟨S2x1024x688, .f32⟩
  | .hbm, ⟨17, _⟩ => ⟨S_, .f32⟩
  | .hbm, ⟨18, _⟩ => ⟨S2x1024x688, .f32⟩
  | .hbm, ⟨19, _⟩ => ⟨S2x1024x688, .f32⟩
  | .hbm, ⟨20, _⟩ => ⟨S2x1024x688, .f32⟩
  | .hbm, ⟨21, _⟩ => ⟨S_, .f32⟩
  | .hbm, ⟨22, _⟩ => ⟨S2x1024x688, .f32⟩
  | .hbm, ⟨23, _⟩ => ⟨S2x1024x688, .f32⟩
  | .hbm, ⟨24, _⟩ => ⟨S2x1024x688, .f32⟩
  | .hbm, ⟨25, _⟩ => ⟨S_, .f32⟩
  | .hbm, ⟨26, _⟩ => ⟨S2x1024x688, .f32⟩
  | .hbm, ⟨27, _⟩ => ⟨S2x1024x688, .f32⟩
  | .hbm, ⟨28, _⟩ => ⟨S2x1024x688, .f32⟩
  | .hbm, ⟨29, _⟩ => ⟨S_, .f32⟩
  | .hbm, ⟨30, _⟩ => ⟨S2x1024x688, .f32⟩
  | .hbm, ⟨31, _⟩ => ⟨S2x1024x688, .f32⟩
  | .hbm, ⟨32, _⟩ => ⟨S_, .f32⟩
  | .hbm, ⟨33, _⟩ => ⟨S2x1024x688, .f32⟩
  | .hbm, ⟨34, _⟩ => ⟨S2x1024x688, .f32⟩
  | .hbm, ⟨35, _⟩ => ⟨S2x1024x688, .f32⟩
  | .hbm, ⟨36, _⟩ => ⟨S_, .f32⟩
  | .hbm, ⟨37, _⟩ => ⟨S2x1024x688, .f32⟩
  | .hbm, ⟨38, _⟩ => ⟨S2x1024x688, .f32⟩
  | .hbm, ⟨39, _⟩ => ⟨S2x1024x688, .f32⟩
  | .hbm, ⟨40, _⟩ => ⟨S_, .f32⟩
  | .hbm, ⟨41, _⟩ => ⟨S2x1024x688, .f32⟩
  | .hbm, ⟨42, _⟩ => ⟨S2x1024x688, .f32⟩
  | .hbm, ⟨43, _⟩ => ⟨S2x1024x688, .f32⟩
  | .hbm, ⟨44, _⟩ => ⟨S_, .f32⟩
  | .hbm, ⟨45, _⟩ => ⟨S2x1024x688, .f32⟩
  | .hbm, ⟨46, _⟩ => ⟨S2x1024x688, .f32⟩
  | _, _ => ⟨S8x1024x688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelDownStep.lean ====
abbrev S8x344x1024 : Shape := ⟨3, ![8, 344, 1024]⟩
abbrev S2x344x1024 : Shape := ⟨3, ![2, 344, 1024]⟩
abbrev S1x344x1024 : Shape := ⟨3, ![1, 344, 1024]⟩
abbrev S344x1024 : Shape := ⟨2, ![344, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x344x1024, .bf16⟩
  | .hbm, ⟨1, _⟩ => ⟨S8x344x1024, .bf16⟩
  | .hbm, ⟨2, _⟩ => ⟨S2x344x1024, .f32⟩
  | .hbm, ⟨3, _⟩ => ⟨S2x344x1024, .f32⟩
  | .hbm, ⟨4, _⟩ => ⟨S2x344x1024, .f32⟩
  | .hbm, ⟨5, _⟩ => ⟨S2x344x1024, .f32⟩
  | .hbm, ⟨6, _⟩ => ⟨S2x344x1024, .f32⟩
  | .hbm, ⟨7, _⟩ => ⟨S2x344x1024, .f32⟩
  | .hbm, ⟨8, _⟩ => ⟨S2x344x1024, .f32⟩
  | .local _ .vmem, ⟨0, _⟩ => ⟨S8x344x1024, .bf16⟩
  | .local _ .vmem, ⟨1, _⟩ => ⟨S8x344x1024, .bf16⟩
  | .local _ .vmem, ⟨2, _⟩ => ⟨S1x344x1024, .f32⟩
  | .local _ .vmem, ⟨3, _⟩ => ⟨S1x344x1024, .f32⟩
  | .local _ .vmem, ⟨4, _⟩ => ⟨S1x344x1024, .f32⟩
  | .local _ .vmem, ⟨5, _⟩ => ⟨S1x344x1024, .f32⟩
  | .local _ .vmem, ⟨6, _⟩ => ⟨S1x344x1024, .f32⟩
  | .local _ .vmem, ⟨7, _⟩ => ⟨S1x344x1024, .f32⟩
  | .local _ .vmem, ⟨8, _⟩ => ⟨S1x344x1024, .f32⟩
  | .local _ .vmem, ⟨9, _⟩ => ⟨S1x344x1024, .f32⟩
  | .local _ .vmem, ⟨10, _⟩ => ⟨S1x344x1024, .f32⟩
  | .local _ .vmem, ⟨11, _⟩ => ⟨S1x344x1024, .f32⟩
  | .local _ .vmem, ⟨12, _⟩ => ⟨S1x344x1024, .f32⟩
  | .local _ .vmem, ⟨13, _⟩ => ⟨S1x344x1024, .f32⟩
  | .local _ .vmem, ⟨14, _⟩ => ⟨S1x344x1024, .f32⟩
  | .local _ .vmem, ⟨15, _⟩ => ⟨S1x344x1024, .f32⟩
  | _, _ => ⟨S8x344x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x344x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x344x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x344x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelDownStepIdeal.lean ====
abbrev S8x344x1024 : Shape := ⟨3, ![8, 344, 1024]⟩
abbrev S2x344x1024 : Shape := ⟨3, ![2, 344, 1024]⟩
abbrev S1x344x1024 : Shape := ⟨3, ![1, 344, 1024]⟩
abbrev S344x1024 : Shape := ⟨2, ![344, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x344x1024, .bf16⟩
  | .hbm, ⟨1, _⟩ => ⟨S8x344x1024, .bf16⟩
  | .hbm, ⟨2, _⟩ => ⟨S2x344x1024, .f32⟩
  | .hbm, ⟨3, _⟩ => ⟨S2x344x1024, .f32⟩
  | .hbm, ⟨4, _⟩ => ⟨S2x344x1024, .f32⟩
  | .hbm, ⟨5, _⟩ => ⟨S2x344x1024, .f32⟩
  | .hbm, ⟨6, _⟩ => ⟨S2x344x1024, .f32⟩
  | .hbm, ⟨7, _⟩ => ⟨S2x344x1024, .f32⟩
  | .hbm, ⟨8, _⟩ => ⟨S2x344x1024, .f32⟩
  | .local _ .vmem, ⟨0, _⟩ => ⟨S8x344x1024, .bf16⟩
  | .local _ .vmem, ⟨1, _⟩ => ⟨S8x344x1024, .bf16⟩
  | .local _ .vmem, ⟨2, _⟩ => ⟨S1x344x1024, .f32⟩
  | .local _ .vmem, ⟨3, _⟩ => ⟨S1x344x1024, .f32⟩
  | .local _ .vmem, ⟨4, _⟩ => ⟨S1x344x1024, .f32⟩
  | .local _ .vmem, ⟨5, _⟩ => ⟨S1x344x1024, .f32⟩
  | .local _ .vmem, ⟨6, _⟩ => ⟨S1x344x1024, .f32⟩
  | .local _ .vmem, ⟨7, _⟩ => ⟨S1x344x1024, .f32⟩
  | .local _ .vmem, ⟨8, _⟩ => ⟨S1x344x1024, .f32⟩
  | .local _ .vmem, ⟨9, _⟩ => ⟨S1x344x1024, .f32⟩
  | .local _ .vmem, ⟨10, _⟩ => ⟨S1x344x1024, .f32⟩
  | .local _ .vmem, ⟨11, _⟩ => ⟨S1x344x1024, .f32⟩
  | .local _ .vmem, ⟨12, _⟩ => ⟨S1x344x1024, .f32⟩
  | .local _ .vmem, ⟨13, _⟩ => ⟨S1x344x1024, .f32⟩
  | .local _ .vmem, ⟨14, _⟩ => ⟨S1x344x1024, .f32⟩
  | .local _ .vmem, ⟨15, _⟩ => ⟨S1x344x1024, .f32⟩
  | _, _ => ⟨S8x344x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x344x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x344x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x344x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceDownStepIdeal.lean ====
abbrev S8x344x1024 : Shape := ⟨3, ![8, 344, 1024]⟩
abbrev S2x344x1024 : Shape := ⟨3, ![2, 344, 1024]⟩
abbrev S_ : Shape := ⟨0, ![]⟩
abbrev S344x1024 : Shape := ⟨2, ![344, 1024]⟩
abbrev S1x344x1024 : Shape := ⟨3, ![1, 344, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x344x1024, .bf16⟩
  | .hbm, ⟨1, _⟩ => ⟨S8x344x1024, .bf16⟩
  | .hbm, ⟨2, _⟩ => ⟨S2x344x1024, .f32⟩
  | .hbm, ⟨3, _⟩ => ⟨S2x344x1024, .f32⟩
  | .hbm, ⟨4, _⟩ => ⟨S2x344x1024, .f32⟩
  | .hbm, ⟨5, _⟩ => ⟨S8x344x1024, .f32⟩
  | .hbm, ⟨6, _⟩ => ⟨S_, .f32⟩
  | .hbm, ⟨7, _⟩ => ⟨S344x1024, .f32⟩
  | .hbm, ⟨8, _⟩ => ⟨S8x344x1024, .f32⟩
  | .hbm, ⟨9, _⟩ => ⟨S_, .f32⟩
  | .hbm, ⟨10, _⟩ => ⟨S344x1024, .f32⟩
  | .hbm, ⟨11, _⟩ => ⟨S1x344x1024, .f32⟩
  | .hbm, ⟨12, _⟩ => ⟨S1x344x1024, .f32⟩
  | .hbm, ⟨13, _⟩ => ⟨S2x344x1024, .f32⟩
  | .hbm, ⟨14, _⟩ => ⟨S_, .f32⟩
  | .hbm, ⟨15, _⟩ => ⟨S2x344x1024, .f32⟩
  | .hbm, ⟨16, _⟩ => ⟨S2x344x1024, .f32⟩
  | .hbm, ⟨17, _⟩ => ⟨S_, .f32⟩
  | .hbm, ⟨18, _⟩ => ⟨S2x344x1024, .f32⟩
  | .hbm, ⟨19, _⟩ => ⟨S2x344x1024, .f32⟩
  | .hbm, ⟨20, _⟩ => ⟨S2x344x1024, .f32⟩
  | .hbm, ⟨21, _⟩ => ⟨S_, .f32⟩
  | .hbm, ⟨22, _⟩ => ⟨S2x344x1024, .f32⟩
  | .hbm, ⟨23, _⟩ => ⟨S2x344x1024, .f32⟩
  | .hbm, ⟨24, _⟩ => ⟨S2x344x1024, .f32⟩
  | .hbm, ⟨25, _⟩ => ⟨S_, .f32⟩
  | .hbm, ⟨26, _⟩ => ⟨S2x344x1024, .f32⟩
  | .hbm, ⟨27, _⟩ => ⟨S2x344x1024, .f32⟩
  | .hbm, ⟨28, _⟩ => ⟨S2x344x1024, .f32⟩
  | .hbm, ⟨29, _⟩ => ⟨S_, .f32⟩
  | .hbm, ⟨30, _⟩ => ⟨S2x344x1024, .f32⟩
  | .hbm, ⟨31, _⟩ => ⟨S2x344x1024, .f32⟩
  | .hbm, ⟨32, _⟩ => ⟨S_, .f32⟩
  | .hbm, ⟨33, _⟩ => ⟨S2x344x1024, .f32⟩
  | .hbm, ⟨34, _⟩ => ⟨S2x344x1024, .f32⟩
  | .hbm, ⟨35, _⟩ => ⟨S2x344x1024, .f32⟩
  | .hbm, ⟨36, _⟩ => ⟨S_, .f32⟩
  | .hbm, ⟨37, _⟩ => ⟨S2x344x1024, .f32⟩
  | .hbm, ⟨38, _⟩ => ⟨S2x344x1024, .f32⟩
  | .hbm, ⟨39, _⟩ => ⟨S2x344x1024, .f32⟩
  | .hbm, ⟨40, _⟩ => ⟨S_, .f32⟩
  | .hbm, ⟨41, _⟩ => ⟨S2x344x1024, .f32⟩
  | .hbm, ⟨42, _⟩ => ⟨S2x344x1024, .f32⟩
  | .hbm, ⟨43, _⟩ => ⟨S2x344x1024, .f32⟩
  | .hbm, ⟨44, _⟩ => ⟨S_, .f32⟩
  | .hbm, ⟨45, _⟩ => ⟨S2x344x1024, .f32⟩
  | .hbm, ⟨46, _⟩ => ⟨S2x344x1024, .f32⟩
  | _, _ => ⟨S8x344x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelSmallStep.lean ====
abbrev S8x16x768 : Shape := ⟨3, ![8, 16, 768]⟩
abbrev S1x16x768 : Shape := ⟨3, ![1, 16, 768]⟩
abbrev S16x768 : Shape := ⟨2, ![16, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x16x768, .f32⟩
  | .hbm, ⟨1, _⟩ => ⟨S1x16x768, .f32⟩
  | .hbm, ⟨2, _⟩ => ⟨S1x16x768, .f32⟩
  | .hbm, ⟨3, _⟩ => ⟨S1x16x768, .f32⟩
  | .hbm, ⟨4, _⟩ => ⟨S1x16x768, .f32⟩
  | .hbm, ⟨5, _⟩ => ⟨S1x16x768, .f32⟩
  | .hbm, ⟨6, _⟩ => ⟨S1x16x768, .f32⟩
  | .hbm, ⟨7, _⟩ => ⟨S1x16x768, .f32⟩
  | .local _ .vmem, ⟨0, _⟩ => ⟨S8x16x768, .f32⟩
  | .local _ .vmem, ⟨1, _⟩ => ⟨S1x16x768, .f32⟩
  | .local _ .vmem, ⟨2, _⟩ => ⟨S1x16x768, .f32⟩
  | .local _ .vmem, ⟨3, _⟩ => ⟨S1x16x768, .f32⟩
  | .local _ .vmem, ⟨4, _⟩ => ⟨S1x16x768, .f32⟩
  | .local _ .vmem, ⟨5, _⟩ => ⟨S1x16x768, .f32⟩
  | .local _ .vmem, ⟨6, _⟩ => ⟨S1x16x768, .f32⟩
  | .local _ .vmem, ⟨7, _⟩ => ⟨S1x16x768, .f32⟩
  | _, _ => ⟨S8x16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelSmallStepIdeal.lean ====
abbrev S8x16x768 : Shape := ⟨3, ![8, 16, 768]⟩
abbrev S1x16x768 : Shape := ⟨3, ![1, 16, 768]⟩
abbrev S16x768 : Shape := ⟨2, ![16, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x16x768, .f32⟩
  | .hbm, ⟨1, _⟩ => ⟨S1x16x768, .f32⟩
  | .hbm, ⟨2, _⟩ => ⟨S1x16x768, .f32⟩
  | .hbm, ⟨3, _⟩ => ⟨S1x16x768, .f32⟩
  | .hbm, ⟨4, _⟩ => ⟨S1x16x768, .f32⟩
  | .hbm, ⟨5, _⟩ => ⟨S1x16x768, .f32⟩
  | .hbm, ⟨6, _⟩ => ⟨S1x16x768, .f32⟩
  | .hbm, ⟨7, _⟩ => ⟨S1x16x768, .f32⟩
  | .local _ .vmem, ⟨0, _⟩ => ⟨S8x16x768, .f32⟩
  | .local _ .vmem, ⟨1, _⟩ => ⟨S1x16x768, .f32⟩
  | .local _ .vmem, ⟨2, _⟩ => ⟨S1x16x768, .f32⟩
  | .local _ .vmem, ⟨3, _⟩ => ⟨S1x16x768, .f32⟩
  | .local _ .vmem, ⟨4, _⟩ => ⟨S1x16x768, .f32⟩
  | .local _ .vmem, ⟨5, _⟩ => ⟨S1x16x768, .f32⟩
  | .local _ .vmem, ⟨6, _⟩ => ⟨S1x16x768, .f32⟩
  | .local _ .vmem, ⟨7, _⟩ => ⟨S1x16x768, .f32⟩
  | _, _ => ⟨S8x16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceSmallStepIdeal.lean ====
abbrev S8x16x768 : Shape := ⟨3, ![8, 16, 768]⟩
abbrev S1x16x768 : Shape := ⟨3, ![1, 16, 768]⟩
abbrev S_ : Shape := ⟨0, ![]⟩
abbrev S16x768 : Shape := ⟨2, ![16, 768]⟩

abbrev nBuf : Space → Nat
  | .hbm => 40
  | .vmem => 0
  | .smem => 0
  | _ => 0

abbrev bufTy : (tb : Table) → Fin (tcTables nBuf tb) → BufTy
  | .hbm, ⟨0, _⟩ => ⟨S8x16x768, .f32⟩
  | .hbm, ⟨1, _⟩ => ⟨S1x16x768, .f32⟩
  | .hbm, ⟨2, _⟩ => ⟨S1x16x768, .f32⟩
  | .hbm, ⟨3, _⟩ => ⟨S1x16x768, .f32⟩
  | .hbm, ⟨4, _⟩ => ⟨S_, .f32⟩
  | .hbm, ⟨5, _⟩ => ⟨S16x768, .f32⟩
  | .hbm, ⟨6, _⟩ => ⟨S1x16x768, .f32⟩
  | .hbm, ⟨7, _⟩ => ⟨S_, .f32⟩
  | .hbm, ⟨8, _⟩ => ⟨S1x16x768, .f32⟩
  | .hbm, ⟨9, _⟩ => ⟨S1x16x768, .f32⟩
  | .hbm, ⟨10, _⟩ => ⟨S_, .f32⟩
  | .hbm, ⟨11, _⟩ => ⟨S1x16x768, .f32⟩
  | .hbm, ⟨12, _⟩ => ⟨S1x16x768, .f32⟩
  | .hbm, ⟨13, _⟩ => ⟨S1x16x768, .f32⟩
  | .hbm, ⟨14, _⟩ => ⟨S_, .f32⟩
  | .hbm, ⟨15, _⟩ => ⟨S1x16x768, .f32⟩
  | .hbm, ⟨16, _⟩ => ⟨S1x16x768, .f32⟩
  | .hbm, ⟨17, _⟩ => ⟨S1x16x768, .f32⟩
  | .hbm, ⟨18, _⟩ => ⟨S_, .f32⟩
  | .hbm, ⟨19, _⟩ => ⟨S1x16x768, .f32⟩
  | .hbm, ⟨20, _⟩ => ⟨S1x16x768, .f32⟩
  | .hbm, ⟨21, _⟩ => ⟨S1x16x768, .f32⟩
  | .hbm, ⟨22, _⟩ => ⟨S_, .f32⟩
  | .hbm, ⟨23, _⟩ => ⟨S1x16x768, .f32⟩
  | .hbm, ⟨24, _⟩ => ⟨S1x16x768, .f32⟩
  | .hbm, ⟨25, _⟩ => ⟨S_, .f32⟩
  | .hbm, ⟨26, _⟩ => ⟨S1x16x768, .f32⟩
  | .hbm, ⟨27, _⟩ => ⟨S1x16x768, .f32⟩
  | .hbm, ⟨28, _⟩ => ⟨S1x16x768, .f32⟩
  | .hbm, ⟨29, _⟩ => ⟨S_, .f32⟩
  | .hbm, ⟨30, _⟩ => ⟨S1x16x768, .f32⟩
  | .hbm, ⟨31, _⟩ => ⟨S1x16x768, .f32⟩
  | .hbm, ⟨32, _⟩ => ⟨S1x16x768, .f32⟩
  | .hbm, ⟨33, _⟩ => ⟨S_, .f32⟩
  | .hbm, ⟨34, _⟩ => ⟨S1x16x768, .f32⟩
  | .hbm, ⟨35, _⟩ => ⟨S1x16x768, .f32⟩
  | .hbm, ⟨36, _⟩ => ⟨S1x16x768, .f32⟩
  | .hbm, ⟨37, _⟩ => ⟨S_, .f32⟩
  | .hbm, ⟨38, _⟩ => ⟨S1x16x768, .f32⟩
  | .hbm, ⟨39, _⟩ => ⟨S1x16x768, .f32⟩
  | _, _ => ⟨S8x16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelSharedStep.lean ====
abbrev S8x168x1024 : Shape := ⟨3, ![8, 168, 1024]⟩
abbrev S1x168x1024 : Shape := ⟨3, ![1, 168, 1024]⟩
abbrev S168x1024 : Shape := ⟨2, ![168, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x168x1024, .f32⟩
  | .hbm, ⟨1, _⟩ => ⟨S1x168x1024, .f32⟩
  | .hbm, ⟨2, _⟩ => ⟨S1x168x1024, .f32⟩
  | .hbm, ⟨3, _⟩ => ⟨S1x168x1024, .f32⟩
  | .hbm, ⟨4, _⟩ => ⟨S1x168x1024, .f32⟩
  | .hbm, ⟨5, _⟩ => ⟨S1x168x1024, .f32⟩
  | .hbm, ⟨6, _⟩ => ⟨S1x168x1024, .f32⟩
  | .hbm, ⟨7, _⟩ => ⟨S1x168x1024, .f32⟩
  | .local _ .vmem, ⟨0, _⟩ => ⟨S8x168x1024, .f32⟩
  | .local _ .vmem, ⟨1, _⟩ => ⟨S1x168x1024, .f32⟩
  | .local _ .vmem, ⟨2, _⟩ => ⟨S1x168x1024, .f32⟩
  | .local _ .vmem, ⟨3, _⟩ => ⟨S1x168x1024, .f32⟩
  | .local _ .vmem, ⟨4, _⟩ => ⟨S1x168x1024, .f32⟩
  | .local _ .vmem, ⟨5, _⟩ => ⟨S1x168x1024, .f32⟩
  | .local _ .vmem, ⟨6, _⟩ => ⟨S1x168x1024, .f32⟩
  | .local _ .vmem, ⟨7, _⟩ => ⟨S1x168x1024, .f32⟩
  | _, _ => ⟨S8x168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x168x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x168x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x168x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x168x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x168x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x168x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x168x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x168x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceSharedStepIdeal.lean ====
abbrev S8x168x1024 : Shape := ⟨3, ![8, 168, 1024]⟩
abbrev S1x168x1024 : Shape := ⟨3, ![1, 168, 1024]⟩
abbrev S_ : Shape := ⟨0, ![]⟩
abbrev S168x1024 : Shape := ⟨2, ![168, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x168x1024, .f32⟩
  | .hbm, ⟨1, _⟩ => ⟨S1x168x1024, .f32⟩
  | .hbm, ⟨2, _⟩ => ⟨S1x168x1024, .f32⟩
  | .hbm, ⟨3, _⟩ => ⟨S1x168x1024, .f32⟩
  | .hbm, ⟨4, _⟩ => ⟨S_, .f32⟩
  | .hbm, ⟨5, _⟩ => ⟨S168x1024, .f32⟩
  | .hbm, ⟨6, _⟩ => ⟨S1x168x1024, .f32⟩
  | .hbm, ⟨7, _⟩ => ⟨S_, .f32⟩
  | .hbm, ⟨8, _⟩ => ⟨S1x168x1024, .f32⟩
  | .hbm, ⟨9, _⟩ => ⟨S1x168x1024, .f32⟩
  | .hbm, ⟨10, _⟩ => ⟨S_, .f32⟩
  | .hbm, ⟨11, _⟩ => ⟨S1x168x1024, .f32⟩
  | .hbm, ⟨12, _⟩ => ⟨S1x168x1024, .f32⟩
  | .hbm, ⟨13, _⟩ => ⟨S1x168x1024, .f32⟩
  | .hbm, ⟨14, _⟩ => ⟨S_, .f32⟩
  | .hbm, ⟨15, _⟩ => ⟨S1x168x1024, .f32⟩
  | .hbm, ⟨16, _⟩ => ⟨S1x168x1024, .f32⟩
  | .hbm, ⟨17, _⟩ => ⟨S1x168x1024, .f32⟩
  | .hbm, ⟨18, _⟩ => ⟨S_, .f32⟩
  | .hbm, ⟨19, _⟩ => ⟨S1x168x1024, .f32⟩
  | .hbm, ⟨20, _⟩ => ⟨S1x168x1024, .f32⟩
  | .hbm, ⟨21, _⟩ => ⟨S1x168x1024, .f32⟩
  | .hbm, ⟨22, _⟩ => ⟨S_, .f32⟩
  | .hbm, ⟨23, _⟩ => ⟨S1x168x1024, .f32⟩
  | .hbm, ⟨24, _⟩ => ⟨S1x168x1024, .f32⟩
  | .hbm, ⟨25, _⟩ => ⟨S_, .f32⟩
  | .hbm, ⟨26, _⟩ => ⟨S1x168x1024, .f32⟩
  | .hbm, ⟨27, _⟩ => ⟨S1x168x1024, .f32⟩
  | .hbm, ⟨28, _⟩ => ⟨S1x168x1024, .f32⟩
  | .hbm, ⟨29, _⟩ => ⟨S_, .f32⟩
  | .hbm, ⟨30, _⟩ => ⟨S1x168x1024, .f32⟩
  | .hbm, ⟨31, _⟩ => ⟨S1x168x1024, .f32⟩
  | .hbm, ⟨32, _⟩ => ⟨S1x168x1024, .f32⟩
  | .hbm, ⟨33, _⟩ => ⟨S_, .f32⟩
  | .hbm, ⟨34, _⟩ => ⟨S1x168x1024, .f32⟩
  | .hbm, ⟨35, _⟩ => ⟨S1x168x1024, .f32⟩
  | .hbm, ⟨36, _⟩ => ⟨S1x168x1024, .f32⟩
  | .hbm, ⟨37, _⟩ => ⟨S_, .f32⟩
  | .hbm, ⟨38, _⟩ => ⟨S1x168x1024, .f32⟩
  | .hbm, ⟨39, _⟩ => ⟨S1x168x1024, .f32⟩
  | _, _ => ⟨S8x168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Grad.lean ====
/-
  The gradient of a softmax over extended reals: for real scores, the derivative written with the
  quotient `1 / l²` equals the probability times the centred cotangent.
-/
module
public import Idealize.ShloMosaic.PureOps
public import Idealize.ShloMosaic.Lib.StableHlo
public import Idealize.ShloMosaic.Lib.Pointwise

@[expose] public section
noncomputable section
namespace Cert.Grad
open Idealize.ShloMosaic

/-- One eighth, the scale of the scores: the head width is 64. -/
def eighth : EReal := ((1 / 8 : ℝ) : EReal)

/-- The narrow format's literal for one eighth. -/
theorem eighth_bf16 : Ideal.ofBits FTy.bf16 15872#16 = eighth := by
  unfold eighth
  simp [Ideal.ofBits, Ideal.ieee, -EReal.coe_mul]; norm_num

/-- The wide format's literal for one eighth. -/
theorem eighth_f32 : Ideal.ofBits FTy.f32 1040187392#32 = eighth := by
  unfold eighth
  simp [Ideal.ofBits, Ideal.ieee, -EReal.coe_mul]; norm_num

/-- The literal of minus infinity. -/
theorem bottom_f32 : Ideal.ofBits FTy.f32 4286578688#32 = ⊥ := by
  simp [Ideal.ofBits, Ideal.ieee]

/-- The literal of plus infinity. -/
theorem top_f32 : Ideal.ofBits FTy.f32 2139095040#32 = ⊤ := by
  simp [Ideal.ofBits, Ideal.ieee]

/-- A nonnegative real factor comes out of a finite sum, whatever the summands. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- An eighth of a sum is the sum of the eighths. -/
theorem sum_mul_eighth {ι : Type} (s : Finset ι) (f : ι → EReal) :
    (∑ i ∈ s, f i) * eighth = ∑ i ∈ s, f i * eighth := sum_mul_real s f _ (by norm_num)

/-- A finite sum of reals is the real sum. -/
theorem sum_real {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable {n : ℕ}

/-- The greatest score. -/
def peak (f : Fin n → EReal) : EReal := Finset.fold max ⊥ f Finset.univ

/-- The weight of one score: the exponential of its distance to the greatest. -/
def weight (f : Fin n → EReal) (a : Fin n) : EReal := Ideal.exp (f a - peak f)

/-- The sum of the weights. -/
def total (f : Fin n → EReal) : EReal := ∑ a, weight f a

/-- The probability of one score. -/
def prob (f : Fin n → EReal) (a : Fin n) : EReal := Ideal.div (weight f a) (total f)

/-- The derivative by one score: the probability times the cotangent less its mean. -/
def slope (f g : Fin n → EReal) (a : Fin n) : EReal := prob f a * (g a - ∑ k, prob f k * g k)

/-- The greatest of finitely many reals, at least one, is a real. -/
theorem peak_real (hn : 0 < n) (s : Fin n → ℝ) : ∃ M : ℝ, peak (fun a => (s a : EReal)) = (M : EReal) := by
  haveI : Nonempty (Fin n) := ⟨⟨0, hn⟩⟩
  obtain ⟨i, -, hi⟩ := Finset.exists_max_image (Finset.univ : Finset (Fin n)) s Finset.univ_nonempty
  refine ⟨s i, le_antisymm ?_ ?_⟩
  · rw [peak, Finset.fold_max_le]
    exact ⟨bot_le, fun a _ => EReal.coe_le_coe_iff.mpr (hi a (Finset.mem_univ a))⟩
  · rw [peak, Finset.le_fold_max]
    exact Or.inr ⟨i, Finset.mem_univ i, le_rfl⟩

/-- The derivative of the softmax as a quotient rule writes it, at real scores and any cotangent. -/
theorem quotient_rule (hn : 0 < n) (f g : Fin n → EReal) (hf : ∀ a, ∃ s : ℝ, f a = (s : EReal)) (a : Fin n) :
    (Ideal.div (g a) (total f) + -(∑ k, g k * Ideal.div 1 (total f * total f) * weight f k)) * weight f a
      = slope f g a := by
  choose s hs using hf
  obtain rfl : f = fun a => (s a : EReal) := funext hs
  obtain ⟨M, hM⟩ := peak_real hn s
  have hw : ∀ k, weight (fun a => (s a : EReal)) k = ((Real.exp (s k - M) : ℝ) : EReal) := by
    intro k
    rw [weight, hM, ← EReal.coe_sub, Ideal.exp_coe]
  set L : ℝ := ∑ k, Real.exp (s k - M) with hL
  have hLpos : 0 < L := Finset.sum_pos (fun k _ => Real.exp_pos _) ⟨⟨0, hn⟩, Finset.mem_univ _⟩
  have ht : total (fun a => (s a : EReal)) = (L : EReal) := by
    rw [total, hL, ← sum_real]
    exact Finset.sum_congr rfl fun k _ => hw k
  have hp : ∀ k, prob (fun a => (s a : EReal)) k = ((Real.exp (s k - M) * (1 / L) : ℝ) : EReal) := by
    intro k
    rw [prob, ht, hw, Ideal.div_coe hLpos.ne', EReal.coe_mul]
  have hpk : ∀ k, 0 ≤ Real.exp (s k - M) * (1 / L) := fun k => by positivity
  rw [slope, ht, hw, hp, ← EReal.coe_mul, Ideal.div_coe hLpos.ne', Ideal.div_coe (mul_pos hLpos hLpos).ne',
    EReal.right_distrib_of_nonneg_of_ne_top (EReal.coe_nonneg.mpr (Real.exp_pos _).le) (EReal.coe_ne_top _),
    mul_comm ((Real.exp (s a - M) * (1 / L) : ℝ) : EReal) (g a - _), sub_eq_add_neg (g a),
    EReal.right_distrib_of_nonneg_of_ne_top (EReal.coe_nonneg.mpr (hpk a)) (EReal.coe_ne_top _)]
  congr 1
  · rw [mul_assoc, ← EReal.coe_mul, mul_comm (1 / L)]
  · rw [EReal.neg_mul, EReal.neg_mul, sum_mul_real _ _ _ (Real.exp_pos _).le, sum_mul_real _ _ _ (hpk a)]
    refine congrArg Neg.neg (Finset.sum_congr rfl fun k _ => ?_)
    rw [hw, hp, one_mul, mul_assoc, mul_assoc, mul_comm _ (g k), mul_assoc, ← EReal.coe_mul, ← EReal.coe_mul,
      ← EReal.coe_mul]
    congr 2
    field_simp

end Cert.Grad
end
-- ==== Proof.Tile.lean ====
module
public import proofs.«01_k».proof.Proof.Gen.KernelIdeal.Value
public import proofs.«01_k».proof.Proof.Grad
public import Idealize.ShloMosaic.Lib.Pipeline.ValueKit
public import Idealize.ShloMosaic.Lib.Pointwise

@[expose] public section
set_option maxRecDepth 16384
noncomputable section
namespace Cert.KernelIdeal.Hand
open Cert.KernelIdeal Cert.KernelIdeal.Gen Idealize.ShloMosaic Idealize.ShloMosaic.TcCoe Idealize.SL.Sem
open Cert.Grad

/-- Lane `d` of half `o` of a pair of heads. -/
def lane (o : Fin 2) (d : Fin 64) : Fin 128 := ⟨64 * o.val + d.val, by omega⟩

/-- The half a lane lies in. -/
def half (j : Fin 128) : Fin 2 := ⟨j.val / 64, by omega⟩

/-- The scores of one query of a tile against the tile's keys, in one half. -/
def tscore (q : FVec Ideal S512x128 .bf16) (k : FVec Ideal S256x128 .bf16) (o : Fin 2) (r : Fin 512) (a : Fin 256) : EReal :=
  (∑ d : Fin 64, k (ix2 a (lane o d)) * q (ix2 r (lane o d))) * eighth

/-- The cotangents of one query's probabilities, in one half. -/
def tcot (g : FVec Ideal S512x128 .f32) (v : FVec Ideal S256x128 .bf16) (o : Fin 2) (r : Fin 512) (a : Fin 256) : EReal :=
  ∑ d : Fin 64, v (ix2 a (lane o d)) * g (ix2 r (lane o d))

/-- The comparison of a lane with 64, as a bit. -/
theorem low_word (x : Fin 128) : IntOp.cmpi CmpIPredicate.slt (BitVec.ofNat 32 x.val) 64#32 = if x.val < 64 then 1#1 else 0#1 := by
  revert x; decide +kernel

/-- Choosing by the lane's half: the first value below lane 64, the second from it on. -/
theorem pick_lane (x : Fin 128) (a b : EReal) :
    (Scalar.select (IntOp.cmpi CmpIPredicate.slt (BitVec.ofNat 32 x.val) 64#32) a b : EReal) = if x.val < 64 then a else b := by
  rw [low_word]
  by_cases h : x.val < 64 <;> simp [h, Scalar.select]

/-- A sum over the 128 lanes as the sums over the two halves. -/
theorem sum_halves (f : Fin 128 → EReal) : ∑ x : Fin 128, f x = (∑ d : Fin 64, f (lane 0 d)) + ∑ d : Fin 64, f (lane 1 d) := by
  rw [Fin.sum_univ_two_halves 64 64 rfl f]
  refine congrArg (· + _) (Finset.sum_congr rfl fun d _ => congrArg f (Fin.ext (by simp [lane])))

/-- A sum over 128 lanes whose summand vanishes on the upper half is the sum over the lower half. -/
theorem sum_low (f : Fin 128 → EReal) :
    ∑ x : Fin 128, (if x.val < 64 then f x else 0) = ∑ d : Fin 64, f (lane 0 d) := by
  rw [sum_halves]
  have h : ∀ d : Fin 64, ¬ (lane 1 d).val < 64 := fun d => by simp [lane]
  have h' : ∀ d : Fin 64, (lane 0 d).val < 64 := fun d => by simp [lane]
  simp only [h, h', if_true, if_false, Finset.sum_const_zero, add_zero]

/-- A sum over 128 lanes whose summand vanishes on the lower half is the sum over the upper half. -/
theorem sum_high (f : Fin 128 → EReal) :
    ∑ x : Fin 128, (if x.val < 64 then 0 else f x) = ∑ d : Fin 64, f (lane 1 d) := by
  rw [sum_halves]
  have h : ∀ d : Fin 64, ¬ (lane 1 d).val < 64 := fun d => by simp [lane]
  have h' : ∀ d : Fin 64, (lane 0 d).val < 64 := fun d => by simp [lane]
  simp only [h, h', if_true, if_false, Finset.sum_const_zero, zero_add]

section
variable (q : Vec Ideal S512x128 .bf16) (g : Vec Ideal S512x128 .f32) (k v : Vec Ideal S256x128 .bf16)

/-- The scores of a tile in one half: keys by queries. -/
def scores (o : Fin 2) : FVec Ideal S256x512 .f32 := fun i => tscore q k o (i 1) (i 0)

/-- The cotangents of a tile's probabilities in one half: keys by queries. -/
def cots (o : Fin 2) : FVec Ideal S256x512 .f32 := fun i => tcot g v o (i 1) (i 0)

/-- The scores' array, entry by entry. -/
theorem scores_at (o : Fin 2) (a : Fin 256) (r : Fin 512) : scores q k o (ix2 a r) = tscore q k o r a := rfl
/-- The cotangents' array, entry by entry. -/
theorem cots_at (o : Fin 2) (a : Fin 256) (r : Fin 512) : cots g v o (ix2 a r) = tcot g v o r a := rfl

/-- The scale inside each product comes out of the sum of products. -/
theorem scale_out (f : Fin 64 → EReal) (h : Fin 64 → EReal) :
    ∑ d, f d * Ideal.ofBits FTy.bf16 15872#16 * h d = (∑ d, f d * h d) * eighth := by
  rw [sum_mul_eighth, eighth_bf16]
  exact Finset.sum_congr rfl fun d _ => mul_right_comm _ _ _

/-- The first pair's scores of its first head. -/
theorem pay15_eq : k0_pay15 (F := Ideal) q k = scores q k 0 := by
  funext i
  idx_vars i
  unfold_payloads; pointwise
  simp only [pick_lane]
  rw [sum_low (fun x => k (ix2 _ x) * Ideal.ofBits FTy.bf16 15872#16 * q (ix2 _ x)), scale_out]
  rfl
/-- The second pair's scores of its first head. -/
theorem pay25_eq : k0_pay25 (F := Ideal) q k = scores q k 0 := by
  funext i
  idx_vars i
  unfold_payloads; pointwise
  simp only [pick_lane]
  rw [sum_low (fun x => k (ix2 _ x) * Ideal.ofBits FTy.bf16 15872#16 * q (ix2 _ x)), scale_out]
  rfl
/-- The first pair's scores of its second head. -/
theorem pay17_eq : k0_pay17 (F := Ideal) q (k0_pay11 k) (constant S256x512 FTy.f32 0#32) = scores q k 1 := by
  funext i
  idx_vars i
  unfold_payloads; pointwise
  simp only [pick_lane]
  rw [sum_high (fun x => k (ix2 _ x) * Ideal.ofBits FTy.bf16 15872#16 * q (ix2 _ x)), scale_out]
  rfl
/-- The second pair's scores of its second head. -/
theorem pay27_eq : k0_pay27 (F := Ideal) q k = scores q k 1 := by
  funext i
  idx_vars i
  unfold_payloads; pointwise
  simp only [pick_lane]
  rw [sum_high (fun x => k (ix2 _ x) * Ideal.ofBits FTy.bf16 15872#16 * q (ix2 _ x)), scale_out]
  rfl
/-- The first pair's cotangents of its first head. -/
theorem pay16_eq : k0_pay16 (F := Ideal) g v = cots g v 0 := by
  funext i
  idx_vars i
  unfold_payloads; pointwise
  simp only [pick_lane]
  rw [sum_low (fun x => v (ix2 _ x) * g (ix2 _ x))]
  rfl
/-- The second pair's cotangents of its first head. -/
theorem pay26_eq : k0_pay26 (F := Ideal) g v = cots g v 0 := by
  funext i
  idx_vars i
  unfold_payloads; pointwise
  simp only [pick_lane]
  rw [sum_low (fun x => v (ix2 _ x) * g (ix2 _ x))]
  rfl
/-- The first pair's cotangents of its second head. -/
theorem pay18_eq : k0_pay18 (F := Ideal) (k0_pay7 g) (k0_pay14 v) = cots g v 1 := by
  funext i
  idx_vars i
  unfold_payloads; pointwise
  simp only [pick_lane]
  rw [sum_high (fun x => v (ix2 _ x) * g (ix2 _ x))]
  rfl
/-- The second pair's cotangents of its second head. -/
theorem pay28_eq : k0_pay28 (F := Ideal) g v = cots g v 1 := by
  funext i
  idx_vars i
  unfold_payloads; pointwise
  simp only [pick_lane]
  rw [sum_high (fun x => v (ix2 _ x) * g (ix2 _ x))]
  rfl

/-- The gradient of the queries a tile contributes, at one query and lane. -/
def dqueries (r : Fin 512) (j : Fin 128) : EReal :=
  ∑ a : Fin 256, slope (tscore q k (half j) r) (tcot g v (half j) r) a * eighth * k (ix2 a j)

/-- The gradient of the keys a tile contributes, at one key and lane. -/
def dkeys (a : Fin 256) (j : Fin 128) : EReal :=
  ∑ r : Fin 512, slope (tscore q k (half j) r) (tcot g v (half j) r) a * eighth * q (ix2 r j)

/-- The gradient of the values a tile contributes, at one value and lane. -/
def dvalues (a : Fin 256) (j : Fin 128) : EReal :=
  ∑ r : Fin 512, prob (tscore q k (half j) r) a * g (ix2 r j)

/-- Lanes below 64 are the first head's. -/
theorem half_low {j : Fin 128} (h : j.val < 64) : half j = 0 := Fin.ext (by simp [half]; omega)
/-- The other lanes are the second head's. -/
theorem half_high {j : Fin 128} (h : ¬ j.val < 64) : half j = 1 := Fin.ext (by simp [half]; omega)

/-- The queries' gradient, chosen by the lane's half. -/
theorem dqueries_halves (r : Fin 512) (j : Fin 128) :
    dqueries q g k v r j = if j.val < 64 then ∑ a, k (ix2 a j) * eighth * slope (tscore q k 0 r) (tcot g v 0 r) a
      else ∑ a, k (ix2 a j) * eighth * slope (tscore q k 1 r) (tcot g v 1 r) a := by
  unfold dqueries
  split_ifs with h
  · rw [half_low h]
    exact Finset.sum_congr rfl fun a _ => by rw [mul_assoc, mul_comm, mul_comm eighth]
  · rw [half_high h]
    exact Finset.sum_congr rfl fun a _ => by rw [mul_assoc, mul_comm, mul_comm eighth]

/-- The keys' gradient, chosen by the lane's half. -/
theorem dkeys_halves (a : Fin 256) (j : Fin 128) :
    dkeys q g k v a j = (if j.val < 64 then ∑ r, slope (tscore q k 0 r) (tcot g v 0 r) a * q (ix2 r j)
      else ∑ r, slope (tscore q k 1 r) (tcot g v 1 r) a * q (ix2 r j)) * eighth := by
  unfold dkeys
  split_ifs with h
  · rw [half_low h, sum_mul_eighth]
    exact Finset.sum_congr rfl fun r _ => mul_right_comm _ _ _
  · rw [half_high h, sum_mul_eighth]
    exact Finset.sum_congr rfl fun r _ => mul_right_comm _ _ _

/-- The values' gradient, chosen by the lane's half. -/
theorem dvalues_halves (a : Fin 256) (j : Fin 128) :
    dvalues q g k a j = if j.val < 64 then ∑ r, prob (tscore q k 0 r) a * g (ix2 r j)
      else ∑ r, prob (tscore q k 1 r) a * g (ix2 r j) := by
  unfold dvalues
  split_ifs with h
  · rw [half_low h]
  · rw [half_high h]

/-- The first pair's gradient of the queries, as stored. -/
theorem queries_first (r : Fin 512) (j : Fin 128) :
    k0_pay37 (F := Ideal) k0_pay6 (cots g v 0) (scores q k 1) (cots g v 1) (k0_pay29 (k0_pay8 k))
      (k0_pay30 (scores q k 0)) (k0_pay31 (scores q k 0) (cots g v 0)) (ix2 r j) = dqueries q g k v r j := by
  unfold_payloads; pointwise
  simp only [pick_lane, scores_at, cots_at, eighth_bf16, bottom_f32]
  rw [dqueries_halves]
  rfl
/-- The first pair's gradient of the keys, added to what was there. -/
theorem keys_first (old) (a : Fin 256) (j : Fin 128) :
    k0_pay38 (F := Ideal) k0_pay5 q (cots g v 0) (scores q k 1) (cots g v 1)
      (k0_pay30 (scores q k 0)) (k0_pay31 (scores q k 0) (cots g v 0)) old (ix2 a j) = old (ix2 a j) + dkeys q g k v a j := by
  unfold_payloads; pointwise
  simp only [pick_lane, scores_at, cots_at, eighth_f32, bottom_f32]
  rw [dkeys_halves]
  rfl
/-- The first pair's gradient of the values, added to what was there. -/
theorem values_first (old) (a : Fin 256) (j : Fin 128) :
    k0_pay39 (F := Ideal) k0_pay5 (k0_pay33 (k0_pay7 g) (k0_pay30 (scores q k 0))) (k0_pay36 (k0_pay7 g) (scores q k 1)) old (ix2 a j) = old (ix2 a j) + dvalues q g k a j := by
  unfold_payloads; pointwise
  simp only [pick_lane, scores_at, cots_at, bottom_f32]
  rw [dvalues_halves]
  rfl
/-- The second pair's gradient of the queries, as stored. -/
theorem queries_second (r : Fin 512) (j : Fin 128) :
    k0_pay1 (F := Ideal) k0_pay6 (k0_pay40 (k0_pay20 k)) (k0_pay45 (k0_pay20 k) (scores q k 0) (cots g v 0))
      (k0_pay47 (scores q k 1) (cots g v 1)) (ix2 r j) = dqueries q g k v r j := by
  unfold_payloads; pointwise
  simp only [pick_lane, scores_at, cots_at, eighth_bf16, bottom_f32]
  rw [dqueries_halves]
  rfl
/-- The second pair's gradient of the keys, added to what was there. -/
theorem keys_second (old) (a : Fin 256) (j : Fin 128) :
    k0_pay2 (F := Ideal) k0_pay5 q (k0_pay44 q (scores q k 0) (cots g v 0)) (k0_pay47 (scores q k 1) (cots g v 1))
      (constant S256x128 FTy.f32 0#32) old (ix2 a j) = old (ix2 a j) + dkeys q g k v a j := by
  unfold_payloads; pointwise
  simp only [pick_lane, scores_at, cots_at, eighth_f32, bottom_f32]
  rw [dkeys_halves]
  rfl
/-- The second pair's gradient of the values, added to what was there. -/
theorem values_second (old) (a : Fin 256) (j : Fin 128) :
    k0_pay3 (F := Ideal) k0_pay5 (k0_pay43 (k0_pay19 g) (scores q k 0)) (k0_pay48 (k0_pay19 g) (scores q k 1)) old (ix2 a j) = old (ix2 a j) + dvalues q g k a j := by
  unfold_payloads; pointwise
  simp only [pick_lane, scores_at, cots_at, bottom_f32]
  rw [dvalues_halves]
  rfl
end

end Cert.KernelIdeal.Hand
end
-- ==== Proof.Attn.lean ====
/-
  The gradients of the memory attention as sums over the argument arrays: `x0` the projections
  (queries in columns 768 to 1023), `x1` the keys (columns 0 to 255) and values (columns 256 to 511),
  `x2` the cotangent of the attention's output (columns 768 to 1023), `x3` the gradient of the other
  columns of the projections. Two sequences of 4096 rows, 256 memory rows each, four heads of width 64.
-/
module
public import proofs.«01_k».proof.Proof.Grad
public import Idealize.ShloMosaic.Lib.Pipeline.ValueKit

@[expose] public section
noncomputable section
namespace Cert.Grad
open Idealize.ShloMosaic

/-- Two indices of a matrix with the same coordinates are one. -/
theorem idx2_ext {a b : ℕ} {i j : (⟨2, ![a, b]⟩ : Shape).Idx} (h0 : (i 0).val = (j 0).val) (h1 : (i 1).val = (j 1).val) : i = j := by
  funext x
  match x with
  | ⟨0, _⟩ => exact Fin.ext h0
  | ⟨1, _⟩ => exact Fin.ext h1

/-- The rows of queries, and of their cotangents, over the extended reals. -/
abbrev Rows : Type := (⟨2, ![8192, 1024]⟩ : Shape).Idx → EReal
/-- The memory's keys and values, over the extended reals. -/
abbrev Mem : Type := (⟨2, ![512, 512]⟩ : Shape).Idx → EReal
/-- The columns that pass through beside the queries, over the extended reals. -/
abbrev Tok : Type := (⟨2, ![8192, 768]⟩ : Shape).Idx → EReal

/-- The memory row `a` of the sequence that row `R` belongs to. -/
def memRow (R : Fin 8192) (a : Fin 256) : Fin 512 := ⟨256 * (R.val / 4096) + a.val, by omega⟩

/-- Row `s` of sequence `b`. -/
def seqRow (b : Fin 2) (s : Fin 4096) : Fin 8192 := ⟨4096 * b.val + s.val, by omega⟩

/-- Column `d` of head `h` among the 256 columns of all heads. -/
def col (h : Fin 4) (d : Fin 64) : Fin 256 := ⟨64 * h.val + d.val, by omega⟩

/-- The head of a column. -/
def head (j : Fin 256) : Fin 4 := ⟨j.val / 64, by omega⟩

/-- Column `j` of the heads, where the projections hold it. -/
def qcol (j : Fin 256) : Fin 1024 := ⟨768 + j.val, by omega⟩

/-- Column `j` of the heads, where the memory holds its keys. -/
def kcol (j : Fin 256) : Fin 512 := ⟨j.val, by omega⟩

/-- Column `j` of the heads, where the memory holds its values. -/
def vcol (j : Fin 256) : Fin 512 := ⟨256 + j.val, by omega⟩

section
variable (x0 x2 : Rows) (x1 : Mem) (x3 : Tok)

/-- The score of row `R` in head `h` against each memory row. -/
def score (R : Fin 8192) (h : Fin 4) (a : Fin 256) : EReal :=
  (∑ d : Fin 64, x1 (ix2 (memRow R a) (kcol (col h d))) * x0 (ix2 R (qcol (col h d)))) * eighth

/-- The cotangent of the probabilities of row `R` in head `h`. -/
def cot (R : Fin 8192) (h : Fin 4) (a : Fin 256) : EReal :=
  ∑ d : Fin 64, x1 (ix2 (memRow R a) (vcol (col h d))) * x2 (ix2 R (qcol (col h d)))

/-- The derivative of the loss by the unscaled score, over the eighth. -/
def dscore (R : Fin 8192) (h : Fin 4) (a : Fin 256) : EReal := slope (score x0 x1 R h) (cot x2 x1 R h) a * eighth

/-- The gradient of a query. -/
def dquery (R : Fin 8192) (j : Fin 256) : EReal :=
  ∑ a : Fin 256, dscore x0 x2 x1 R (head j) a * x1 (ix2 (memRow R a) (kcol j))

/-- What row `R` adds to the gradient of a key. -/
def dkeyTerm (a j : Fin 256) (R : Fin 8192) : EReal := dscore x0 x2 x1 R (head j) a * x0 (ix2 R (qcol j))

/-- What row `R` adds to the gradient of a value. -/
def dvalueTerm (a j : Fin 256) (R : Fin 8192) : EReal := prob (score x0 x1 R (head j)) a * x2 (ix2 R (qcol j))

/-- The gradient of the projections. -/
def gradRows : Rows := fun i =>
  if h : (i 1).val < 768 then x3 (ix2 (i 0 : Fin 8192) (⟨(i 1).val, h⟩ : Fin 768))
  else dquery x0 x2 x1 (i 0 : Fin 8192) ⟨(i 1).val - 768, by have : (i 1).val < 1024 := (i 1).isLt; omega⟩

/-- The gradient of the keys and values. -/
def gradMem : Mem := fun i =>
  let b : Fin 2 := ⟨(i 0).val / 256, by have : (i 0).val < 512 := (i 0).isLt; omega⟩
  let a : Fin 256 := ⟨(i 0).val % 256, Nat.mod_lt _ (by norm_num)⟩
  if h : (i 1).val < 256 then ∑ s : Fin 4096, dkeyTerm x0 x2 x1 a ⟨(i 1).val, h⟩ (seqRow b s)
  else ∑ s : Fin 4096, dvalueTerm x0 x2 x1 a ⟨(i 1).val - 256, by have : (i 1).val < 512 := (i 1).isLt; omega⟩ (seqRow b s)

end
/-- The first columns of the rows' gradient are those that pass through. -/
theorem gradRows_tok (x0 x2 : Rows) (x1 : Mem) (x3 : Tok) (R : Fin 8192) (j : Fin 1024) (l : Fin 768) (h : j.val = l.val) :
    gradRows x0 x2 x1 x3 (ix2 R j) = x3 (ix2 R l) := by
  obtain rfl : j = ⟨l.val, by clear h; omega⟩ := Fin.ext h
  exact dif_pos l.isLt

/-- The last columns of the rows' gradient are the queries'. -/
theorem gradRows_mem (x0 x2 : Rows) (x1 : Mem) (x3 : Tok) (R : Fin 8192) (j : Fin 1024) (l : Fin 256) (h : j.val = 768 + l.val) :
    gradRows x0 x2 x1 x3 (ix2 R j) = dquery x0 x2 x1 R l := by
  obtain rfl : j = ⟨768 + l.val, by clear h; omega⟩ := Fin.ext h
  refine (dif_neg (by show ¬ 768 + l.val < 768; omega)).trans ?_
  exact congrArg (dquery x0 x2 x1 R) (Fin.ext (by show 768 + l.val - 768 = l.val; omega))

/-- The first columns of the memory's gradient are the keys'. -/
theorem gradMem_keys (x0 x2 : Rows) (x1 : Mem) (b : Fin 2) (a : Fin 256) (i : Fin 512) (hi : i.val = 256 * b.val + a.val)
    (j : Fin 512) (l : Fin 256) (h : j.val = l.val) :
    gradMem x0 x2 x1 (ix2 i j) = ∑ s : Fin 4096, dkeyTerm x0 x2 x1 a l (seqRow b s) := by
  obtain rfl : j = ⟨l.val, by clear h; omega⟩ := Fin.ext h
  refine (dif_pos l.isLt).trans ?_
  have hb : (⟨i.val / 256, by omega⟩ : Fin 2) = b := Fin.ext (by show i.val / 256 = b.val; omega)
  have ha : (⟨i.val % 256, Nat.mod_lt _ (by norm_num)⟩ : Fin 256) = a := Fin.ext (by show i.val % 256 = a.val; omega)
  exact Finset.sum_congr rfl fun s _ => congrArg₂ (fun a b => dkeyTerm x0 x2 x1 a l (seqRow b s)) ha hb

/-- The last columns of the memory's gradient are the values'. -/
theorem gradMem_values (x0 x2 : Rows) (x1 : Mem) (b : Fin 2) (a : Fin 256) (i : Fin 512) (hi : i.val = 256 * b.val + a.val)
    (j : Fin 512) (l : Fin 256) (h : j.val = 256 + l.val) :
    gradMem x0 x2 x1 (ix2 i j) = ∑ s : Fin 4096, dvalueTerm x0 x2 x1 a l (seqRow b s) := by
  obtain rfl : j = ⟨256 + l.val, by clear h; omega⟩ := Fin.ext h
  refine (dif_neg (by show ¬ 256 + l.val < 256; omega)).trans ?_
  have hb : (⟨i.val / 256, by omega⟩ : Fin 2) = b := Fin.ext (by show i.val / 256 = b.val; omega)
  have ha : (⟨i.val % 256, Nat.mod_lt _ (by norm_num)⟩ : Fin 256) = a := Fin.ext (by show i.val % 256 = a.val; omega)
  have hl : (⟨256 + l.val - 256, by omega⟩ : Fin 256) = l := Fin.ext (by show 256 + l.val - 256 = l.val; omega)
  refine Finset.sum_congr rfl fun s _ => ?_
  exact (congrArg₂ (fun a b => dvalueTerm x0 x2 x1 a _ (seqRow b s)) ha hb).trans (congrArg (fun l => dvalueTerm x0 x2 x1 a l (seqRow b s)) hl)

/-- Every row is a row of one of the two sequences. -/
theorem eq_seqRow (R : Fin 8192) : ∃ b s, R = seqRow b s :=
  ⟨⟨R.val / 4096, by omega⟩, ⟨R.val % 4096, by omega⟩, Fin.ext (by simp only [seqRow]; omega)⟩

/-- Every column is a column of one head. -/
theorem eq_col (j : Fin 256) : ∃ h d, j = col h d :=
  ⟨⟨j.val / 64, by omega⟩, ⟨j.val % 64, by omega⟩, Fin.ext (by simp only [col]; omega)⟩

/-- A column lies in the head it was made from. -/
theorem head_col (h : Fin 4) (d : Fin 64) : head (col h d) = h := Fin.ext (by simp only [head, col]; omega)

end Cert.Grad
end
-- ==== Proof.Block.lean ====
module
public import proofs.«01_k».proof.Proof.Tile
public import proofs.«01_k».proof.Proof.Attn
public import Idealize.ShloMosaic.Lib.Pipeline.ReadBack

@[expose] public section
set_option maxRecDepth 16384
noncomputable section
namespace Cert.KernelIdeal.Hand
open Cert.KernelIdeal Cert.KernelIdeal.Gen Idealize.ShloMosaic Idealize.ShloMosaic.TcCoe Idealize.SL.Sem
open Idealize.ShloMosaic.Pipeline (Dat)
open Cert.Grad

/-- Lane `j` of pair `p` among the 256 columns of all heads. -/
def pcol (p : Fin 2) (j : Fin 128) : Fin 256 := ⟨128 * p.val + j.val, by omega⟩

/-- The head of half `o` of pair `p`. -/
def phead (p o : Fin 2) : Fin 4 := ⟨2 * p.val + o.val, by omega⟩

/-- A lane of a pair of heads is a column of one of them. -/
theorem pcol_lane (p o : Fin 2) (d : Fin 64) : pcol p (lane o d) = col (phead p o) d := Fin.ext (by simp [pcol, lane, col, phead]; omega)
/-- The head of a pair's column is the one its half picks. -/
theorem head_pcol (p : Fin 2) (j : Fin 128) : head (pcol p j) = phead p (half j) := Fin.ext (by simp [pcol, head, half, phead]; omega)

section
variable {x0 x2 : Rows} {x1 : Mem} {q : Vec Ideal S512x128 .bf16} {g : Vec Ideal S512x128 .f32} {k v : Vec Ideal S256x128 .bf16}
variable {R : Fin 512 → Fin 8192} {p : Fin 2}
variable (hq : ∀ r j, q (ix2 r j) = x0 (ix2 (R r) (qcol (pcol p j)))) (hg : ∀ r j, g (ix2 r j) = x2 (ix2 (R r) (qcol (pcol p j))))
  (hk : ∀ r a j, k (ix2 a j) = x1 (ix2 (memRow (R r) a) (kcol (pcol p j))))
  (hv : ∀ r a j, v (ix2 a j) = x1 (ix2 (memRow (R r) a) (vcol (pcol p j))))
include hq hk

/-- A block's score is the score of its row. -/
theorem tscore_eq (o : Fin 2) (r : Fin 512) : tscore q k o r = score x0 x1 (R r) (phead p o) := by
  funext a
  unfold tscore score
  simp only [hq, hk r, pcol_lane]

/-- A block's gradient of the values is the sum over its rows. -/
theorem dvalues_eq (hg : ∀ r j, g (ix2 r j) = x2 (ix2 (R r) (qcol (pcol p j)))) (a : Fin 256) (j : Fin 128) :
    dvalues q g k a j = ∑ r, dvalueTerm x0 x2 x1 a (pcol p j) (R r) := by
  unfold dvalues dvalueTerm
  simp only [tscore_eq hq hk, hg, head_pcol]

include hg hv

omit hq hk in
/-- A block's cotangent of the probabilities is that of its row. -/
theorem tcot_eq (o : Fin 2) (r : Fin 512) : tcot g v o r = cot x2 x1 (R r) (phead p o) := by
  funext a
  unfold tcot cot
  simp only [hg, hv r, pcol_lane]

/-- A block's gradient of the queries is that of its rows. -/
theorem dqueries_eq (r : Fin 512) (j : Fin 128) : dqueries q g k v r j = dquery x0 x2 x1 (R r) (pcol p j) := by
  unfold dqueries dquery dscore
  simp only [tscore_eq hq hk, tcot_eq hg hv, hk r, head_pcol]

/-- A block's gradient of the keys is the sum over its rows. -/
theorem dkeys_eq (a : Fin 256) (j : Fin 128) : dkeys q g k v a j = ∑ r, dkeyTerm x0 x2 x1 a (pcol p j) (R r) := by
  unfold dkeys dkeyTerm dscore
  simp only [tscore_eq hq hk, tcot_eq hg hv, hq, head_pcol]
end

variable (m : (ℓ : Loc nD τ sig) → Buf (Elt Ideal) ℓ)

/-- Row `r` of block `t`. -/
def brow (t : Fin cfg0.N) (r : Fin 512) : Fin 8192 := ⟨512 * t.val + r.val, by have : t.val < 16 := t.isLt; omega⟩

/-- The blocks a point stages: row block `t` of the projections, of the cotangent and of the other columns'
    gradient, and the memory of sequence `t / 8`. -/
theorem idx : ∀ t : Fin cfg0.N, win0_0.index t = ![t.val, 3] ∧ win0_1.index t = ![t.val / 8, 0] ∧ win0_2.index t = ![t.val, 3]
    ∧ win0_3.index t = ![t.val, 0] ∧ win0_4.index t = ![t.val, 0] ∧ win0_5.index t = ![t.val / 8, 0] := by decide +kernel

/-- The first pair's queries, as the body reads them. -/
theorem q_load0 (c : Dev nD) (t : Fin cfg0.N) (r : Fin 512) (j : Fin 128) :
    (View.ld (iblk m c 0 t) (Rect.unit ![0, 0] ![512, 128] inb_S512x256_S512x128_0_0) : Vec Ideal S512x128 .bf16) (ix2 r j)
      = V m c main_arg0 (ix2 (brow t r) (qcol (pcol 0 j))) := by
  unfold brow qcol pcol
  pointwise
  blk_ext [iblk, V, idx t]
/-- The first pair's cotangents, as the body reads them. -/
theorem g_load0 (c : Dev nD) (t : Fin cfg0.N) (r : Fin 512) (j : Fin 128) :
    (View.ld (iblk m c 2 t) (Rect.unit ![0, 0] ![512, 128] inb_S512x256_S512x128_0_0) : Vec Ideal S512x128 .f32) (ix2 r j)
      = V m c main_arg2 (ix2 (brow t r) (qcol (pcol 0 j))) := by
  unfold brow qcol pcol
  pointwise
  blk_ext [iblk, V, idx t]
/-- The first pair's keys, as the body reads them. -/
theorem k_load0 (c : Dev nD) (t : Fin cfg0.N) (r : Fin 512) (a : Fin 256) (j : Fin 128) :
    (View.ld (iblk m c 1 t) (Rect.unit ![0, 0] ![256, 128] inb_S256x512_S256x128_0_0) : Vec Ideal S256x128 .bf16) (ix2 a j)
      = V m c main_arg1 (ix2 (memRow (brow t r) a) (kcol (pcol 0 j))) := by
  unfold memRow brow kcol pcol
  pointwise
  blk_ext [iblk, V, idx t]
/-- The first pair's values, as the body reads them. -/
theorem v_load0 (c : Dev nD) (t : Fin cfg0.N) (r : Fin 512) (a : Fin 256) (j : Fin 128) :
    (View.ld (iblk m c 1 t) (Rect.unit ![0, 256] ![256, 128] inb_S256x512_S256x128_0_256) : Vec Ideal S256x128 .bf16) (ix2 a j)
      = V m c main_arg1 (ix2 (memRow (brow t r) a) (vcol (pcol 0 j))) := by
  unfold memRow brow vcol pcol
  pointwise
  blk_ext [iblk, V, idx t]
/-- The second pair's queries, as the body reads them. -/
theorem q_load1 (c : Dev nD) (t : Fin cfg0.N) (r : Fin 512) (j : Fin 128) :
    (View.ld (iblk m c 0 t) (Rect.unit ![0, 128] ![512, 128] inb_S512x256_S512x128_0_128) : Vec Ideal S512x128 .bf16) (ix2 r j)
      = V m c main_arg0 (ix2 (brow t r) (qcol (pcol 1 j))) := by
  unfold brow qcol pcol
  pointwise
  blk_ext [iblk, V, idx t]
/-- The second pair's cotangents, as the body reads them. -/
theorem g_load1 (c : Dev nD) (t : Fin cfg0.N) (r : Fin 512) (j : Fin 128) :
    (View.ld (iblk m c 2 t) (Rect.unit ![0, 128] ![512, 128] inb_S512x256_S512x128_0_128) : Vec Ideal S512x128 .f32) (ix2 r j)
      = V m c main_arg2 (ix2 (brow t r) (qcol (pcol 1 j))) := by
  unfold brow qcol pcol
  pointwise
  blk_ext [iblk, V, idx t]
/-- The second pair's keys, as the body reads them. -/
theorem k_load1 (c : Dev nD) (t : Fin cfg0.N) (r : Fin 512) (a : Fin 256) (j : Fin 128) :
    (View.ld (iblk m c 1 t) (Rect.unit ![0, 128] ![256, 128] inb_S256x512_S256x128_0_128) : Vec Ideal S256x128 .bf16) (ix2 a j)
      = V m c main_arg1 (ix2 (memRow (brow t r) a) (kcol (pcol 1 j))) := by
  unfold memRow brow kcol pcol
  pointwise
  blk_ext [iblk, V, idx t]
/-- The second pair's values, as the body reads them. -/
theorem v_load1 (c : Dev nD) (t : Fin cfg0.N) (r : Fin 512) (a : Fin 256) (j : Fin 128) :
    (View.ld (iblk m c 1 t) (Rect.unit ![0, 384] ![256, 128] inb_S256x512_S256x128_0_384) : Vec Ideal S256x128 .bf16) (ix2 a j)
      = V m c main_arg1 (ix2 (memRow (brow t r) a) (vcol (pcol 1 j))) := by
  unfold memRow brow vcol pcol
  pointwise
  blk_ext [iblk, V, idx t]

/-- An index that the first stores cover is not read from the later ones of the list. -/
theorem canon_covered {S : Shape} {e : EltTy} (L' : List (View.Piece (Elt Ideal) S e)) (y : S.Idx) :
    ∀ L : List (View.Piece (Elt Ideal) S e), (∃ p ∈ L, y ∈ p.1.set) → View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_covered L' y L ?_
      obtain ⟨q, hq, hyq⟩ := hy
      rcases List.mem_cons.mp hq with rfl | hq'
      · exact absurd hyq hm
      · exact ⟨q, hq', hyq⟩

/-- What block `t` adds to the gradient of its sequence's keys and values. -/
def blockTerm (c : Dev nD) (t : Fin cfg0.N) (y : S256x512.Idx) : EReal :=
  if h : (y 1).val < 256 then
    ∑ r, dkeyTerm (V m c main_arg0) (V m c main_arg2) (V m c main_arg1) (y 0) ⟨(y 1).val, h⟩ (brow t r)
  else ∑ r, dvalueTerm (V m c main_arg0) (V m c main_arg2) (V m c main_arg1) (y 0)
    ⟨(y 1).val - 256, by have : (y 1).val < 512 := (y 1).isLt; omega⟩ (brow t r)

/-- The three stores of the rows' gradient leave no entry out. -/
theorem covered_rows (P1 P2 : S512x128.Idx → EReal) (P3 : S512x768.Idx → EReal) (y : S512x1024.Idx) :
    ∃ p ∈ ([⟨Rect.unit ![0, 896] ![512, 128] inb_S512x1024_S512x128_0_896, P1⟩, ⟨Rect.unit ![0, 768] ![512, 128] inb_S512x1024_S512x128_0_768, P2⟩,
      ⟨Rect.unit ![0, 0] ![512, 768] inb_S512x1024_S512x768_0_0, P3⟩] : List (View.Piece (Elt Ideal) S512x1024 .bf16)), y ∈ p.1.set :=
  View.cover_of_tiledBy _ ![512, 128] (by sl_kernel_rfl) y

/-- The four stores of the memory's gradient leave no entry out. -/
theorem covered_mem (P1 P2 P3 P4 : S256x128.Idx → EReal) (y : S256x512.Idx) :
    ∃ p ∈ ([⟨Rect.unit ![0, 384] ![256, 128] inb_S256x512_S256x128_0_384, P1⟩, ⟨Rect.unit ![0, 128] ![256, 128] inb_S256x512_S256x128_0_128, P2⟩,
      ⟨Rect.unit ![0, 256] ![256, 128] inb_S256x512_S256x128_0_256, P3⟩, ⟨Rect.unit ![0, 0] ![256, 128] inb_S256x512_S256x128_0_0, P4⟩] :
      List (View.Piece (Elt Ideal) S256x512 .f32)), y ∈ p.1.set :=
  View.cover_of_tiledBy _ ![256, 128] (by sl_kernel_rfl) y

/-- What a block adds to the keys' gradient. -/
theorem blockTerm_keys (c : Dev nD) (t : Fin cfg0.N) (y : S256x512.Idx) (a j : Fin 256) (h0 : (y 0).val = a.val) (h1 : (y 1).val = j.val) :
    blockTerm m c t y = ∑ r, dkeyTerm (V m c main_arg0) (V m c main_arg2) (V m c main_arg1) a j (brow t r) := by
  obtain rfl : y 0 = a := Fin.ext h0
  rw [blockTerm, dif_pos (by omega)]
  exact Finset.sum_congr rfl fun r _ => congrArg (fun j => dkeyTerm _ _ _ _ j _) (Fin.ext h1)

/-- What a block adds to the values' gradient. -/
theorem blockTerm_values (c : Dev nD) (t : Fin cfg0.N) (y : S256x512.Idx) (a j : Fin 256) (h0 : (y 0).val = a.val) (h1 : (y 1).val = 256 + j.val) :
    blockTerm m c t y = ∑ r, dvalueTerm (V m c main_arg0) (V m c main_arg2) (V m c main_arg1) a j (brow t r) := by
  obtain rfl : y 0 = a := Fin.ext h0
  rw [blockTerm, dif_neg (by omega)]
  exact Finset.sum_congr rfl fun r _ => congrArg (fun j => dvalueTerm _ _ _ _ j _) (Fin.ext (by simp [h1]))

/-- A point's rows of the gradient, entry by entry. -/
theorem rows_at (c : Dev nD) (t : Fin cfg0.N) (r : Fin 512) (j : Fin 1024) :
    (outsAt0 m c t.val t.isLt).1 (ix2 r j) = gradRows (V m c main_arg0) (V m c main_arg2) (V m c main_arg1) (V m c main_arg3) (ix2 (brow t r) j) := by
  by_cases hA : t.val % 8 = 0
  on_goal 1 => rw [outsAt0_A m c t hA]
  on_goal 2 => rw [outsAt0_B m c t hA]
  all_goals
    frame_out
    simp only [pay15_eq, pay16_eq, pay17_eq, pay18_eq, pay25_eq, pay26_eq, pay27_eq, pay28_eq]
    canon_tiles x h using (covered_rows _ _ _ _)
    · idx_vars x
      have h0 : r.val = x0.val := h0
      have h1 : j.val = 896 + x1.val := h1
      obtain rfl := Fin.ext h0
      refine (queries_second _ _ _ _ _ _).trans ?_
      refine (dqueries_eq (q_load1 m c t) (g_load1 m c t) (k_load1 m c t) (v_load1 m c t) _ _).trans ?_
      exact (gradRows_mem _ _ _ _ _ j (pcol 1 x1) (by simp only [pcol]; omega)).symm
    · idx_vars x
      have h0 : r.val = x0.val := h0
      have h1 : j.val = 768 + x1.val := h1
      obtain rfl := Fin.ext h0
      refine (queries_first _ _ _ _ _ _).trans ?_
      refine (dqueries_eq (q_load0 m c t) (g_load0 m c t) (k_load0 m c t) (v_load0 m c t) _ _).trans ?_
      exact (gradRows_mem _ _ _ _ _ j (pcol 0 x1) (by simp only [pcol]; omega)).symm
    · idx_vars x
      have h0 : r.val = x0.val := h0
      have h1 : j.val = x1.val := h1
      obtain rfl := Fin.ext h0
      refine Eq.trans ?_ (gradRows_tok _ _ _ _ _ j x1 h1).symm
      unfold brow
      blk_ext [iblk, V, idx t]

/-- At a memory's first block its gradient starts from that block's term. -/
theorem mem_first (c : Dev nD) (t : Fin cfg0.N) (hA : t.val % 8 = 0) (y : S256x512.Idx) :
    (outsAt0 m c t.val t.isLt).2 y = 0 + blockTerm m c t y := by
  rw [outsAt0_A m c t hA]
  frame_open; simp (disch := decide) only [↓ View.readCov_skip, ↓ View.readCov_cons_toLoadRect, ↓ View.readCov_fill]; frame_out
  simp only [pay15_eq, pay16_eq, pay17_eq, pay18_eq, pay25_eq, pay26_eq, pay27_eq, pay28_eq]
  refine (canon_covered [_] y [_, _, _, _] (covered_mem _ _ _ _ y)).trans ?_
  canon_tiles x h
  · idx_vars x
    refine (values_second _ _ _ _ _ _).trans ?_
    refine congrArg₂ (· + ·) ?_ ((dvalues_eq (q_load1 m c t) (k_load1 m c t) (g_load1 m c t) _ _).trans (blockTerm_values m c t y x0 (pcol 1 x1) h0 (by simp only [pcol]; omega)).symm)
    · unfold_payloads; pointwise
  · idx_vars x
    refine (keys_second _ _ _ _ _ _ _).trans ?_
    refine congrArg₂ (· + ·) ?_ ((dkeys_eq (q_load1 m c t) (g_load1 m c t) (k_load1 m c t) (v_load1 m c t) _ _).trans (blockTerm_keys m c t y x0 (pcol 1 x1) h0 (by simp only [pcol]; omega)).symm)
    · unfold_payloads; pointwise
  · idx_vars x
    refine (values_first _ _ _ _ _ _).trans ?_
    refine congrArg₂ (· + ·) ?_ ((dvalues_eq (q_load0 m c t) (k_load0 m c t) (g_load0 m c t) _ _).trans (blockTerm_values m c t y x0 (pcol 0 x1) h0 (by simp only [pcol]; omega)).symm)
    · unfold_payloads; pointwise
  · idx_vars x
    refine (keys_first _ _ _ _ _ _ _).trans ?_
    refine congrArg₂ (· + ·) ?_ ((dkeys_eq (q_load0 m c t) (g_load0 m c t) (k_load0 m c t) (v_load0 m c t) _ _).trans (blockTerm_keys m c t y x0 (pcol 0 x1) h0 (by simp only [pcol]; omega)).symm)
    · unfold_payloads; pointwise

/-- At a later block the term is added. -/
theorem mem_next (c : Dev nD) (t : Fin cfg0.N) (hA : ¬ t.val % 8 = 0) (y : S256x512.Idx) :
    (outsAt0 m c t.val t.isLt).2 y = (outsAt0 m c (t.val - 1) (Nat.lt_of_le_of_lt (Nat.sub_le _ _) t.isLt)).2 y + blockTerm m c t y := by
  rw [outsAt0_B m c t hA]
  frame_out
  simp only [pay15_eq, pay16_eq, pay17_eq, pay18_eq, pay25_eq, pay26_eq, pay27_eq, pay28_eq]
  canon_tiles x h
  · idx_vars x
    refine (values_second _ _ _ _ _ _).trans ?_
    refine congrArg₂ (· + ·) ?_ ((dvalues_eq (q_load1 m c t) (k_load1 m c t) (g_load1 m c t) _ _).trans (blockTerm_values m c t y x0 (pcol 1 x1) h0 (by simp only [pcol]; omega)).symm)
    · refine View.ld_unit_apply_of _ _ _ _ _ y fun i => ?_
      match i with
      | ⟨0, _⟩ => simpa using h0
      | ⟨1, _⟩ => simpa using h1
  · idx_vars x
    refine (keys_second _ _ _ _ _ _ _).trans ?_
    refine congrArg₂ (· + ·) ?_ ((dkeys_eq (q_load1 m c t) (g_load1 m c t) (k_load1 m c t) (v_load1 m c t) _ _).trans (blockTerm_keys m c t y x0 (pcol 1 x1) h0 (by simp only [pcol]; omega)).symm)
    · refine View.ld_unit_apply_of _ _ _ _ _ y fun i => ?_
      match i with
      | ⟨0, _⟩ => simpa using h0
      | ⟨1, _⟩ => simpa using h1
  · idx_vars x
    refine (values_first _ _ _ _ _ _).trans ?_
    refine congrArg₂ (· + ·) ?_ ((dvalues_eq (q_load0 m c t) (k_load0 m c t) (g_load0 m c t) _ _).trans (blockTerm_values m c t y x0 (pcol 0 x1) h0 (by simp only [pcol]; omega)).symm)
    · refine View.ld_unit_apply_of _ _ _ _ _ y fun i => ?_
      match i with
      | ⟨0, _⟩ => simpa using h0
      | ⟨1, _⟩ => simpa using h1
  · idx_vars x
    refine (keys_first _ _ _ _ _ _ _).trans ?_
    refine congrArg₂ (· + ·) ?_ ((dkeys_eq (q_load0 m c t) (g_load0 m c t) (k_load0 m c t) (v_load0 m c t) _ _).trans (blockTerm_keys m c t y x0 (pcol 0 x1) h0 (by simp only [pcol]; omega)).symm)
    · refine View.ld_unit_apply_of _ _ _ _ _ y fun i => ?_
      match i with
      | ⟨0, _⟩ => simpa using h0
      | ⟨1, _⟩ => simpa using h1

/-- The rows' gradient after the run. -/
theorem rows_array (c : Dev nD) : (dats m 0 c).arrAt 4 cfg0.N
    = gradRows (V m c main_arg0) (V m c main_arg2) (V m c main_arg1) (V m c main_arg3) := by
  refine (dats m 0 c).arrAt_eq_of_covers 4 _ (by decide +kernel) fun t hf y => ?_
  blk_simp
  rw [after0_4]
  idx_vars y
  refine (rows_at m c t y0 y1).trans ?_
  unfold brow
  blk_ext [iblk, V, idx t]

/-- What a run of eight blocks leaves of the keys' and values' gradient. -/
theorem mem_at (c : Dev nD) (t : Fin cfg0.N) (ht : t.val % 8 = 7) (a : Fin 256) (j : Fin 512) :
    (outsAt0 m c t.val t.isLt).2 (ix2 a j) = gradMem (V m c main_arg0) (V m c main_arg2) (V m c main_arg1)
      (ix2 (⟨256 * (t.val / 8) + a.val, by have : t.val < 16 := t.isLt; omega⟩ : Fin 512) j) := by
  rw [Pipeline.eq_sum_fin_of_reset_step_apply_of_flush (fun n h => (outsAt0 m c n h).2) 8 (fun _ => 0) (blockTerm m c)
    (fun t h => mem_first m c t h) (fun t h => mem_next m c t h) t ht]
  have hb : t.val / 8 < 2 := by have : t.val < 16 := t.isLt; omega
  rw [zero_add]
  by_cases hj : j.val < 256
  · rw [gradMem_keys _ _ _ ⟨t.val / 8, hb⟩ a _ rfl j ⟨j.val, hj⟩ rfl]
    refine (Finset.sum_congr rfl fun s _ => blockTerm_keys m c _ _ a ⟨j.val, hj⟩ rfl rfl).trans ?_
    refine Fin.sum_mul_add_congr fun s r hl => congrArg (dkeyTerm _ _ _ _ _) (Fin.ext ?_)
    simp only [brow, seqRow]; omega
  · rw [gradMem_values _ _ _ ⟨t.val / 8, hb⟩ a _ rfl j ⟨j.val - 256, by omega⟩ (by show j.val = 256 + (j.val - 256); omega)]
    refine (Finset.sum_congr rfl fun s _ => blockTerm_values m c _ (ix2 a j) a ⟨j.val - 256, by omega⟩ rfl (by show j.val = 256 + (j.val - 256); omega)).trans ?_
    refine Fin.sum_mul_add_congr fun s r hl => congrArg (dvalueTerm _ _ _ _ _) (Fin.ext ?_)
    simp only [brow, seqRow]; omega

/-- The memory's gradient after the run. -/
theorem mem_array (c : Dev nD) : (dats m 0 c).arrAt 5 cfg0.N
    = gradMem (V m c main_arg0) (V m c main_arg2) (V m c main_arg1) := by
  refine (dats m 0 c).arrAt_eq_of_covers 5 _ (by decide +kernel) fun t hf y => ?_
  blk_simp
  rw [after0_5]
  idx_vars y
  refine (mem_at m c t ((flush0_5 t).mp hf) y0 y1).trans ?_
  blk_ext [iblk, V, idx t]

end Cert.KernelIdeal.Hand
end
-- ==== Proof.Ref.lean ====
/-
  The reference's values: the generated stages, read at the coordinates of one head.
-/
module
public import proofs.«01_k».proof.Proof.Attn
public import proofs.«01_k».proof.Proof.Gen.ReferenceIdeal.Read
public import Idealize.ShloMosaic.Lib.Pipeline.ValueKit
public import Idealize.ShloMosaic.Lib.Pointwise

@[expose] public section
noncomputable section
namespace Cert.ReferenceIdeal.Hand
open Idealize.ShloMosaic Cert.ReferenceIdeal Cert.ReferenceIdeal.Read Cert.Grad

variable (x0 x2 : Rows) (x1 : Mem) (x3 : Tok)

/-- A query of the reference is a column of the projections. -/
theorem query_at (b : Fin 2) (s : Fin 4096) (h : Fin 4) (d : Fin 64) :
    val_main_v5 (F := Ideal) x0 (ix4 b s h d) = x0 (ix2 (seqRow b s) (qcol (col h d))) := by
  rw [val_main_v5_apply, val_main_v4_apply, val_main_v1_apply, val_main_v0_apply]
  refine congrArg x0 (idx2_ext ?_ ?_)
  · simp [seqRow, qcol, col]; omega
  · simp [seqRow, qcol, col]; omega

/-- A key of the reference is a column of the memory's rows. -/
theorem key_at (b : Fin 2) (s : Fin 4096) (a : Fin 256) (h : Fin 4) (d : Fin 64) :
    val_main_v7 (F := Ideal) x1 (ix4 b a h d) = x1 (ix2 (memRow (seqRow b s) a) (kcol (col h d))) := by
  rw [val_main_v7_apply, val_main_v6_apply, val_main_v3_apply, val_main_v2_apply]
  refine congrArg x1 (idx2_ext ?_ ?_)
  · simp [seqRow, memRow, kcol, col];  omega
  · simp [seqRow, kcol, col]; omega

/-- A value of the reference is a column of the memory's rows. -/
theorem value_at (b : Fin 2) (s : Fin 4096) (a : Fin 256) (h : Fin 4) (d : Fin 64) :
    val_main_v9 (F := Ideal) x1 (ix4 b a h d) = x1 (ix2 (memRow (seqRow b s) a) (vcol (col h d))) := by
  rw [val_main_v9_apply, val_main_v8_apply, val_main_v3_apply, val_main_v2_apply]
  refine congrArg x1 (idx2_ext ?_ ?_)
  · simp [seqRow, memRow, vcol, col];  omega
  · simp [seqRow, vcol, col]; omega

/-- The cotangent of the attention's output. -/
theorem out_at (b : Fin 2) (s : Fin 4096) (h : Fin 4) (d : Fin 64) :
    val_main_v46 (F := Ideal) x2 (ix4 b s h d) = x2 (ix2 (seqRow b s) (qcol (col h d))) := by
  rw [val_main_v46_apply, val_main_v11_apply, val_main_v10_apply]
  refine congrArg x2 (idx2_ext ?_ ?_)
  · simp [seqRow, qcol, col]; omega
  · simp [seqRow, qcol, col]; omega

/-- The reference's scores, entry by entry. -/
theorem score_at (b : Fin 2) (s : Fin 4096) (h : Fin 4) (a : Fin 256) :
    val_main_v14 (F := Ideal) x0 x1 (ix4 b h s a) = score x0 x1 (seqRow b s) h a := by
  have hq := query_at x0
  have hk := key_at x1
  unfold val_main_v14 val_main_v12 val_main_v13 val_main_cst
  generalize val_main_v5 (F := Ideal) x0 = q at *
  generalize val_main_v7 (F := Ideal) x1 = k at *
  pointwise
  rw [eighth_f32]
  refine congrArg (· * eighth) (Finset.sum_congr rfl fun d _ => ?_)
  rw [hq, hk b s, mul_comm]

/-- The reference's greatest score of a query row. -/
theorem peak_at (b : Fin 2) (s : Fin 4096) (h : Fin 4) :
    val_main_v15 (F := Ideal) x0 x1 (ix3 b h s) = peak (score x0 x1 (seqRow b s) h) := by
  have hs := score_at x0 x1
  unfold val_main_v15 val_main_cst_0
  generalize val_main_v14 (F := Ideal) x0 x1 = A at *
  pointwise
  simp only [hs, bottom_f32]
  rfl

/-- The greatest score, guarded from below by the bottom. -/
theorem guard_at (b : Fin 2) (s : Fin 4096) (h : Fin 4) (a : Fin 256) :
    val_main_v33 (F := Ideal) x0 x1 (ix4 b h s a) = peak (score x0 x1 (seqRow b s) h) := by
  have hp := peak_at x0 x1 b s h
  rw [val_main_v33_apply, val_main_v32_apply, val_main_v22_apply, val_main_v21_apply, val_main_cst_2_apply]
  have hi : idx_main_v32 (idx_main_v33 (ix4 b h s a)) = ix3 b h s := by
    funext x; match x with | ⟨0, _⟩ => rfl | ⟨1, _⟩ => rfl | ⟨2, _⟩ => rfl
  rw [hi, hp]
  exact (congrArg (fun z : EReal => max z (peak (score x0 x1 (seqRow b s) h))) bottom_f32).trans (max_eq_right bot_le)

/-- The reference's weights before they are divided by their sum. -/
theorem weight_at (b : Fin 2) (s : Fin 4096) (h : Fin 4) (a : Fin 256) :
    val_main_v35 (F := Ideal) x0 x1 (ix4 b h s a) = weight (score x0 x1 (seqRow b s) h) a := by
  rw [val_main_v35_apply, val_main_v34_apply, score_at, guard_at]
  rfl

/-- The reference's sum of a query row's weights. -/
theorem total_at (b : Fin 2) (s : Fin 4096) (h : Fin 4)  :
    val_main_v36 (F := Ideal) x0 x1 (ix3 b h s ) = total (score x0 x1 (seqRow b s) h) := by
  have hw := weight_at x0 x1
  unfold val_main_v36 val_main_cst_8
  generalize val_main_v35 (F := Ideal) x0 x1 = A at *
  pointwise
  simp only [hw]
  rfl

/-- The reference's attention probabilities. -/
theorem prob_at (b : Fin 2) (s : Fin 4096) (h : Fin 4) (a : Fin 256) :
    val_main_v39 (F := Ideal) x0 x1 (ix4 b h s a) = prob (score x0 x1 (seqRow b s) h) a := by
  have hw := weight_at x0 x1
  have ht := total_at x0 x1
  unfold val_main_v39 val_main_v38 val_main_v37
  generalize val_main_v35 (F := Ideal) x0 x1 = A at *
  generalize val_main_v36 (F := Ideal) x0 x1 = B at *
  pointwise
  rw [hw, ht]
  rfl

/-- The cotangent of the reference's probabilities. -/
theorem cot_at (b : Fin 2) (s : Fin 4096) (h : Fin 4) (a : Fin 256) :
    val_main_v48 (F := Ideal) x1 x2 (ix4 b h s a) = cot x2 x1 (seqRow b s) h a := by
  have ho := out_at x2
  have hv := value_at x1
  unfold val_main_v48 val_main_v47
  generalize val_main_v46 (F := Ideal) x2 = o at *
  generalize val_main_v9 (F := Ideal) x1 = v at *
  pointwise
  refine Finset.sum_congr rfl fun d _ => ?_
  rw [ho, hv b s, mul_comm]

/-- The quotient rule's form of the derivative by a score is the probability times the centred cotangent. -/
theorem dscore_at (b : Fin 2) (s : Fin 4096) (h : Fin 4) (a : Fin 256) (hr : ∀ a, ∃ r : ℝ, score x0 x1 (seqRow b s) h a = (r : EReal)) :
    val_main_v64 (F := Ideal) x0 x1 x2 (ix4 b h s a) = dscore x0 x2 x1 (seqRow b s) h a := by
  have hw := weight_at x0 x1
  have ht := total_at x0 x1
  have hc := cot_at x2 x1
  unfold val_main_v64 val_main_v63 val_main_cst_12 val_main_v62 val_main_v61 val_main_v60 val_main_v59 val_main_v58 val_main_v57 val_main_v56
    val_main_v55 val_main_v54 val_main_v53 val_main_v52 val_main_v51 val_main_v42 val_main_v41 val_main_v40 val_main_v37 val_main_cst_9
    val_main_cst_10 val_main_cst_11
  generalize val_main_v35 (F := Ideal) x0 x1 = A at *
  generalize val_main_v36 (F := Ideal) x0 x1 = B at *
  generalize val_main_v48 (F := Ideal) x1 x2 = C at *
  pointwise
  simp only [hw, ht, hc, Finset.sum_const, Finset.card_univ, Fintype.card_fin, one_smul, eighth_f32]
  exact congrArg (· * eighth) (quotient_rule (by norm_num) _ _ hr a)

/-- The queries' gradient before the heads are set side by side. -/
theorem dquery_at (b : Fin 2) (s : Fin 4096) (h : Fin 4) (d : Fin 64) (hr : ∀ a, ∃ r : ℝ, score x0 x1 (seqRow b s) h a = (r : EReal)) :
    val_main_v67 (F := Ideal) x0 x1 x2 (ix4 b h s d) = dquery x0 x2 x1 (seqRow b s) (col h d) := by
  have hd := fun a => dscore_at x0 x2 x1 b s h a hr
  have hk := key_at x1 b s
  unfold val_main_v67
  generalize val_main_v64 (F := Ideal) x0 x1 x2 = D at *
  generalize val_main_v7 (F := Ideal) x1 = k at *
  pointwise
  simp only [hd, hk]
  rw [dquery, head_col]

/-- The keys' gradient before the heads are set side by side. -/
theorem dkey_at (b : Fin 2) (a : Fin 256) (h : Fin 4) (d : Fin 64) (hr : ∀ s a, ∃ r : ℝ, score x0 x1 (seqRow b s) h a = (r : EReal)) :
    val_main_v65 (F := Ideal) x0 x1 x2 (ix4 b h a d) = ∑ s : Fin 4096, dkeyTerm x0 x2 x1 a (col h d) (seqRow b s) := by
  have hd := fun s => dscore_at x0 x2 x1 b s h a (hr s)
  have hq := query_at x0
  unfold val_main_v65
  generalize val_main_v64 (F := Ideal) x0 x1 x2 = D at *
  generalize val_main_v5 (F := Ideal) x0 = q at *
  pointwise
  refine Finset.sum_congr rfl fun s _ => ?_
  rw [hd, hq, dkeyTerm, head_col]

/-- The values' gradient before the heads are set side by side. -/
theorem dvalue_at (b : Fin 2) (a : Fin 256) (h : Fin 4) (d : Fin 64) :
    val_main_v50 (F := Ideal) x0 x1 x2 (ix4 b a h d) = ∑ s : Fin 4096, dvalueTerm x0 x2 x1 a (col h d) (seqRow b s) := by
  have hp := prob_at x0 x1
  have ho := out_at x2
  unfold val_main_v50 val_main_v49 val_main_v47
  generalize val_main_v39 (F := Ideal) x0 x1 = p at *
  generalize val_main_v46 (F := Ideal) x2 = o at *
  pointwise
  refine Finset.sum_congr rfl fun s _ => ?_
  rw [hp, ho, dvalueTerm, head_col, mul_comm]

/-- Two indices into an array of four axes are equal when their coordinates are. -/
theorem idx4_ext {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext x
  match x with
  | ⟨0, _⟩ => exact Fin.ext h0
  | ⟨1, _⟩ => exact Fin.ext h1
  | ⟨2, _⟩ => exact Fin.ext h2
  | ⟨3, _⟩ => exact Fin.ext h3

variable (hr : ∀ R h a, ∃ r : ℝ, score x0 x1 R h a = (r : EReal))
include hr

/-- The reference's gradient of the queries. -/
theorem dquery_rows (R : Fin 8192) (l : Fin 256) : val_main_v70 (F := Ideal) x0 x1 x2 (ix2 R l) = dquery x0 x2 x1 R l := by
  obtain ⟨b, s, rfl⟩ := eq_seqRow R
  obtain ⟨h, d, rfl⟩ := eq_col l
  rw [val_main_v70_apply, val_main_v69_apply, val_main_v68_apply]
  refine Eq.trans ?_ (dquery_at x0 x2 x1 b s h d (hr _ _))
  refine congrArg (val_main_v67 (F := Ideal) x0 x1 x2) (idx4_ext ?_ ?_ ?_ ?_) <;> simp [seqRow, col] <;> omega

/-- The reference's first result. -/
theorem grad_rows : val_main_v71 (F := Ideal) x0 x1 x2 x3 = gradRows x0 x2 x1 x3 := by
  funext y
  idx_vars y
  by_cases h : y1.val < 768
  · exact (concatenate_pair_apply_left 1 x3 _ _ (ix2 y0 y1) rfl (ix2 y0 ⟨y1.val, h⟩) (fun b => match b with | ⟨0, _⟩ => rfl | ⟨1, _⟩ => rfl)).trans
      (gradRows_tok _ _ _ _ y0 y1 ⟨y1.val, h⟩ rfl).symm
  · refine (concatenate_pair_apply_right (s₂ := S8192x256) 1 x3 (val_main_v70 (F := Ideal) x0 x1 x2) _ (ix2 y0 y1) rfl rfl (ix2 (n1 := 256) y0 ⟨y1.val - 768, by omega⟩)
      (fun b => match b with | ⟨0, _⟩ => fun _ => rfl | ⟨1, _⟩ => fun hb => absurd rfl hb) (by show y1.val - 768 + 768 = y1.val; omega)).trans ?_
    exact (dquery_rows x0 x2 x1 hr y0 _).trans (gradRows_mem _ _ _ _ y0 y1 _ (by show y1.val = 768 + (y1.val - 768); omega)).symm

/-- The reference's gradient of the keys. -/
theorem dkey_rows (b : Fin 2) (a : Fin 256) (i : Fin 512) (hi : i.val = 256 * b.val + a.val) (l : Fin 256) :
    val_main_v72 (F := Ideal) x0 x1 x2 (ix2 i l) = ∑ s : Fin 4096, dkeyTerm x0 x2 x1 a l (seqRow b s) := by
  obtain ⟨h, d, rfl⟩ := eq_col l
  rw [val_main_v72_apply, val_main_v66_apply]
  refine Eq.trans ?_ (dkey_at x0 x2 x1 b a h d fun s => hr _ _)
  refine congrArg (val_main_v65 (F := Ideal) x0 x1 x2) (idx4_ext ?_ ?_ ?_ ?_) <;> simp [col] <;> omega

omit hr in
/-- The reference's gradient of the values. -/
theorem dvalue_rows (b : Fin 2) (a : Fin 256) (i : Fin 512) (hi : i.val = 256 * b.val + a.val) (l : Fin 256) :
    val_main_v73 (F := Ideal) x0 x1 x2 (ix2 i l) = ∑ s : Fin 4096, dvalueTerm x0 x2 x1 a l (seqRow b s) := by
  obtain ⟨h, d, rfl⟩ := eq_col l
  rw [val_main_v73_apply]
  refine Eq.trans ?_ (dvalue_at x0 x2 x1 b a h d)
  refine congrArg (val_main_v50 (F := Ideal) x0 x1 x2) (idx4_ext ?_ ?_ ?_ ?_) <;> simp [col] <;> omega

/-- The reference's second result. -/
theorem grad_mem : val_main_v74 (F := Ideal) x0 x1 x2 = gradMem x0 x2 x1 := by
  funext y
  idx_vars y
  have hi : y0.val = 256 * (⟨y0.val / 256, by omega⟩ : Fin 2).val + (⟨y0.val % 256, by omega⟩ : Fin 256).val := by
    show y0.val = 256 * (y0.val / 256) + y0.val % 256; omega
  by_cases h : y1.val < 256
  · refine (concatenate_pair_apply_left (s₁ := S512x256) (s₂ := S512x256) 1 (val_main_v72 (F := Ideal) x0 x1 x2) (val_main_v73 (F := Ideal) x0 x1 x2) _ (ix2 y0 y1) rfl (ix2 (n1 := 256) y0 ⟨y1.val, h⟩) (fun b => match b with | ⟨0, _⟩ => rfl | ⟨1, _⟩ => rfl)).trans ?_
    exact (dkey_rows x0 x2 x1 hr _ _ y0 hi _).trans (gradMem_keys _ _ _ _ _ y0 hi y1 _ rfl).symm
  · refine (concatenate_pair_apply_right (s₁ := S512x256) (s₂ := S512x256) 1 (val_main_v72 (F := Ideal) x0 x1 x2) (val_main_v73 (F := Ideal) x0 x1 x2) _ (ix2 y0 y1) rfl rfl (ix2 (n1 := 256) y0 ⟨y1.val - 256, by omega⟩)
      (fun b => match b with | ⟨0, _⟩ => fun _ => rfl | ⟨1, _⟩ => fun hb => absurd rfl hb) (by show y1.val - 256 + 256 = y1.val; omega)).trans ?_
    exact (dvalue_rows x0 x2 x1 _ _ y0 hi _).trans (gradMem_values _ _ _ _ _ y0 hi y1 _ (by show y1.val = 256 + (y1.val - 256); omega)).symm

end Cert.ReferenceIdeal.Hand
end
-- ==== Proof.Finite.lean ====
/-
  The precondition read: queries and keys are reals, so every score is one.
-/
module
public import proofs.«01_k».proof.Proof.Attn
public import proofs.«01_k».proof.Pre_finite
public import Idealize.ShloMosaic.Lib.Pipeline.ValueKit
public import Idealize.ShloMosaic.Lib.Pointwise

@[expose] public section
noncomputable section
namespace Cert.Pre_finite.Hand
open Idealize.ShloMosaic Cert.Grad

/-- The constants the precondition reads are what it states. -/
theorem facts : Cert.Pre_finite.Facts where
  slices_S8192x1024_S8192x256_0_768 := by decide
  bitsLt_bf16_f32 := by decide
  slices_S512x512_S512x256_0_0 := by decide
  bcast_S_S8192x256 := by decide
  bcast_S_S512x256 := by decide

/-- An extended real whose absolute value is below the top is a real. -/
theorem real_of_abs {x : EReal} (h : max x (-x) < ⊤) : ∃ r : ℝ, x = (r : EReal) := by
  induction x with
  | bot => simp at h
  | top => simp at h
  | coe r => exact ⟨r, rfl⟩

/-- What the precondition compares at one entry. -/
theorem real_of_cmp {φ : FTy} {x : EReal} (h : BitVec.ofBool (decide ((FloatOps.absf (F := Ideal) (φ := φ) x : EReal) < Ideal.ofBits FTy.f32 2139095040#32)) = 1#1) :
    ∃ r : ℝ, x = (r : EReal) := by
  rw [top_f32] at h
  refine real_of_abs (x := x) ?_
  by_contra hc
  rw [show decide ((FloatOps.absf (F := Ideal) (φ := φ) x : EReal) < ⊤) = false from decide_eq_false hc] at h
  exact absurd h (by decide)

variable [Cert.Pre_finite.Facts]

variable (x0 x2 : Rows) (x1 : Mem) (x3 : Tok)

/-- The queries are reals. -/
theorem queries_real (h : (Cert.Pre_finite.fn (F := Ideal) x0 x1 x2 x3).1 = fun _ => 1#1)
    (R : Fin 8192) (j : Fin 256) : ∃ r : ℝ, x0 (ix2 R (qcol j)) = (r : EReal) := by
  have h := congrFun h (ix2 R j)
  unfold Cert.Pre_finite.fn at h
  pointwise at h
  exact real_of_cmp (φ := .f32) h

/-- The keys are reals. -/
theorem keys_real (h : (Cert.Pre_finite.fn (F := Ideal) x0 x1 x2 x3).2 = fun _ => 1#1)
    (a : Fin 512) (j : Fin 256) : ∃ r : ℝ, x1 (ix2 a (kcol j)) = (r : EReal) := by
  have h := congrFun h (ix2 a j)
  unfold Cert.Pre_finite.fn at h
  pointwise at h
  exact real_of_cmp (φ := .f32) h

/-- So every score is a real. -/
theorem scores_real (hq : (Cert.Pre_finite.fn (F := Ideal) x0 x1 x2 x3).1 = fun _ => 1#1)
    (hk : (Cert.Pre_finite.fn (F := Ideal) x0 x1 x2 x3).2 = fun _ => 1#1) (R : Fin 8192) (h : Fin 4) (a : Fin 256) :
    ∃ r : ℝ, score x0 x1 R h a = (r : EReal) := by
  choose q hq using queries_real x0 x2 x1 x3 hq
  choose k hk using keys_real x0 x2 x1 x3 hk
  refine ⟨(∑ d : Fin 64, k (memRow R a) (col h d) * q R (col h d)) * (1 / 8), ?_⟩
  rw [score, eighth, EReal.coe_mul, ← sum_real]
  refine congrArg (· * _) (Finset.sum_congr rfl fun d _ => ?_)
  rw [hq, hk, EReal.coe_mul]

end Cert.Pre_finite.Hand
end
-- ==== Proof.MemAttn.lean ====
/-
  The memory attention's gradient: what the kernel leaves and what the reference leaves, set side by side.
-/
module
public import proofs.«01_k».proof.Defs
public import proofs.«01_k».proof.Proof.Block
public import proofs.«01_k».proof.Proof.Ref
public import proofs.«01_k».proof.Proof.Finite
public import proofs.«01_k».proof.Proof.Gen.Kernel.Frame
public import proofs.«01_k».proof.Proof.Gen.KernelIdeal.Value
public import proofs.«01_k».proof.Proof.Gen.ReferenceIdeal
public import proofs.«01_k».proof.Proof.Gen.ReferenceIdeal.Run

@[expose] public section
noncomputable section
namespace Cert.Proof.MemAttn
open Idealize.ShloMosaic Idealize.SL.Sem Cert.Grad

/-- The reference ends with every counter at zero: it has none. -/
theorem frame_ref : Cert.quiescent_ReferenceIdeal := by
  intro m ρ _
  exact (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- Kernel and reference leave the same two arrays. -/
theorem equal [Cert.Pre_finite.Facts] : Cert.algebraic_KernelIdeal_ReferenceIdeal_pre_finite := by
  intro m ρ m' ρ' hpre hag
  refine ⟨fun c => gradRows (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => gradMem (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks m ρ)
    obtain ⟨h0, h1, hk⟩ := h c
    exact ⟨h0.trans (Cert.KernelIdeal.Hand.rows_array m c), h1.trans (Cert.KernelIdeal.Hand.mem_array m c), hk⟩
  · refine (θ_run Cert.ReferenceIdeal.defs _ _).mono (fun r h c => ?_) (Cert.ReferenceIdeal.Value.run m' ρ')
    obtain ⟨h0, h1, hk⟩ := h c
    obtain ⟨a0, a1, a2, a3⟩ := hag c
    have hr := Cert.Pre_finite.Hand.scores_real _ _ _ _ (hpre c).1 (hpre c).2
    refine ⟨(h0.trans (Cert.ReferenceIdeal.Read.val_main_v71_eq m' c)).trans ?_, (h1.trans (Cert.ReferenceIdeal.Read.val_main_v74_eq m' c)).trans ?_, hk⟩
    · rw [a0, a1, a2, a3]
      exact Cert.ReferenceIdeal.Hand.grad_rows _ _ _ _ hr
    · rw [a0, a1, a2]
      exact Cert.ReferenceIdeal.Hand.grad_mem _ _ _ hr

end Cert.Proof.MemAttn
end
-- ==== Proof.Products.lean ====
/-
  Matrix products over extended reals, and their sums taken by blocks of rows.
-/
module
public import Idealize.ShloMosaic.Lib.Pipeline.ValueKit
public import Idealize.ShloMosaic.Lib.Pointwise

@[expose] public section
noncomputable section
namespace Cert.Products
open Idealize.ShloMosaic

/-- The entry of a transposed matrix times another: a sum over their common rows. -/
def overRows {T K N : ℕ} (a : Fin T → Fin K → EReal) (b : Fin T → Fin N → EReal) (i : Fin K) (j : Fin N) : EReal :=
  ∑ r, a r i * b r j

/-- The entry of a matrix times a transposed one: a sum over their common columns. -/
def overColumns {T K N : ℕ} (a : Fin T → Fin K → EReal) (b : Fin N → Fin K → EReal) (i : Fin T) (j : Fin N) : EReal :=
  ∑ k, a i k * b j k

/-- The entry of a product: a row times a column. -/
def rowColumn {T K N : ℕ} (a : Fin T → Fin K → EReal) (b : Fin K → Fin N → EReal) (i : Fin T) (j : Fin N) : EReal :=
  ∑ k, a i k * b k j

/-- Row `r` of the `s`-th block of 2048 rows. -/
def blockRow (s : ℕ) (hs : s < 4) (r : Fin 2048) : Fin 8192 := ⟨2048 * s + r.val, by omega⟩

/-- Four blocks of 2048 rows are the 8192 rows. -/
theorem sum_blocks {K N : ℕ} (a : Fin 8192 → Fin K → EReal) (d : Fin 8192 → Fin N → EReal) (i : Fin K) (j : Fin N)
    (b : Fin 4 → ℕ) (hb : ∀ s, b s = s.val) (hs : ∀ s, b s < 4) :
    ∑ s : Fin 4, overRows (fun r => a (blockRow (b s) (hs s) r)) (fun r => d (blockRow (b s) (hs s) r)) i j = overRows a d i j :=
  Fin.sum_mul_add_congr fun s r hl => congrArg (fun r => a r i * d r j) (Fin.ext (by simp only [blockRow, hb]; omega))

end Cert.Products
end
-- ==== Proof.UpDw.lean ====
/-
  The gradient of the feed-forward's first weights: the kernel's four row blocks, summed into each
  column block of the weight, are the product over all rows, and so is the derivative taken by the reference.
-/
module
public import proofs.«01_k».proof.Defs
public import proofs.«01_k».proof.Proof.Products
public import proofs.«01_k».proof.Proof.Gen.KernelUpDwIdeal.Value
public import proofs.«01_k».proof.Proof.Gen.ReferenceUpDwIdeal.Run
public import proofs.«01_k».proof.Proof.Gen.ReferenceUpDwIdeal.Read
public import Idealize.ShloMosaic.Lib.Pipeline.ReadBack

@[expose] public section
set_option maxRecDepth 16384
noncomputable section
namespace Cert.UpDw
open Idealize.ShloMosaic Idealize.ShloMosaic.TcCoe Idealize.SL.Sem Cert.Products

/-- The activations, over the extended reals. -/
abbrev Acts := (⟨2, ![8192, 1024]⟩ : Shape).Idx → EReal
/-- The cotangents of the wide projection, over the extended reals. -/
abbrev Wide := (⟨2, ![8192, 3072]⟩ : Shape).Idx → EReal

/-- Column `j` of column block `b`. -/
def blockColumn (b : Fin 4) (j : Fin 768) : Fin 3072 := ⟨768 * b.val + j.val, by omega⟩

/-- The gradient, column block by column block. -/
def grad (x : Acts) (d : Wide) : (⟨3, ![4, 1024, 768]⟩ : Shape).Idx → EReal := fun i =>
  overRows (fun r k => x (ix2 r k)) (fun r j => d (ix2 r j)) (i 1) (blockColumn (i 0) (i 2))

section
open Cert.KernelUpDwIdeal Cert.KernelUpDwIdeal.Gen

variable (m : (ℓ : Loc nD τ sig) → Buf (Elt Ideal) ℓ)

/-- The blocks a point stages: one row block and the columns of one output block. -/
theorem staged : ∀ t : Fin cfg0.N, win0_0.index t = ![t.val % 4, 0] ∧ win0_1.index t = ![t.val % 4, t.val / 4]
    ∧ win0_2.index t = ![t.val / 4, 0, 0] := by decide +kernel

/-- The column block of a point. -/
def block (t : Fin cfg0.N) : Fin 4 := ⟨t.val / 4, by have : t.val < 16 := t.isLt; omega⟩

/-- What one row block adds to an entry of the weight's gradient. -/
def part (c : Dev nD) (t : Fin cfg0.N) (y : S1x1024x768.Idx) : EReal :=
  overRows (fun r k => (V m c main_arg0 : Acts) (ix2 (blockRow (t.val % 4) (by omega) r) k))
    (fun r j => (V m c main_arg1 : Wide) (ix2 (blockRow (t.val % 4) (by omega) r) j)) (y 1) (blockColumn (block t) (y 2))

/-- The product of one row block, entry by entry. -/
theorem block_product (c : Dev nD) (t : Fin cfg0.N) (y : S1x1024x768.Idx) :
    k0_pay1 (F := Ideal) (iblk m c 0 t) (iblk m c 1 t) y = part m c t y := by
  idx_vars y
  unfold_payloads
  pointwise
  unfold part overRows
  refine Finset.sum_congr rfl fun r _ => congrArg₂ (fun a b : EReal => a * b) ?_ ?_
  · unfold blockRow; blk_ext [iblk, V, staged t]
  · unfold blockRow blockColumn block; blk_ext [iblk, V, staged t]

/-- The scratch after a run's first point. -/
theorem scratch_first (c : Dev nD) (t : Fin cfg0.N) (h : t.val % 4 = 0) (y : S1x1024x768.Idx) :
    (outsAt0 m c t.val t.isLt).2 y = 0 + part m c t y := by
  rw [outsAt0_A m c t h (by omega) (by omega), zero_add, ← block_product]
  frame_out
  idx_vars y
  unfold k0_pay2
  pointwise

/-- The scratch after any other point: the block's part added. -/
theorem scratch_next (c : Dev nD) (t : Fin cfg0.N) (h : ¬ t.val % 4 = 0) (y : S1x1024x768.Idx) :
    (outsAt0 m c t.val t.isLt).2 y = (outsAt0 m c (t.val - 1) (Nat.lt_of_le_of_lt (Nat.sub_le _ _) t.isLt)).2 y + part m c t y := by
  rw [← block_product]
  by_cases h' : t.val % 4 = 3
  on_goal 1 => rw [outsAt0_C m c t h (by omega) h']
  on_goal 2 => rw [outsAt0_B m c t h (by omega) h']
  all_goals
    frame_out
    rw [read_unread_whole]
    idx_vars y
    unfold k0_pay3
    pointwise

/-- What the last point of a run leaves in the scratch. -/
theorem scratch_last (c : Dev nD) (t : Fin cfg0.N) (ht : t.val % 4 = 3) (y : S1x1024x768.Idx) :
    (outsAt0 m c t.val t.isLt).2 y = grad (V m c main_arg0) (V m c main_arg1) (ix3 (block t) (y 1) (y 2)) := by
  rw [Pipeline.eq_sum_fin_of_reset_step_apply_of_flush (fun n h => (outsAt0 m c n h).2) 4 (fun _ => 0) (part m c)
    (fun t h => scratch_first m c t h) (fun t h => scratch_next m c t h) t ht, zero_add]
  refine Eq.trans (Finset.sum_congr rfl fun s _ => ?_) (sum_blocks (fun r k => (V m c main_arg0 : Acts) (ix2 r k)) (fun r j => (V m c main_arg1 : Wide) (ix2 r j)) (y 1) (blockColumn (block t) (y 2))
    (fun s => (4 * (t.val / 4) + s.val) % 4) (fun s => by omega) (fun s => by omega))
  have e : block ⟨4 * (t.val / 4) + s.val, Pipeline.run_point_lt_of_flush t ht s⟩ = block t := Fin.ext (by simp only [block]; omega)
  unfold part
  rw [e]

/-- The output block written back at a run's last point. -/
theorem written (c : Dev nD) (t : Fin cfg0.N) (ht : t.val % 4 = 3) (y : S1x1024x768.Idx) :
    (outsAt0 m c t.val t.isLt).1 y = (outsAt0 m c t.val t.isLt).2 y := by
  rw [outsAt0_C m c t (by omega) (by omega) ht]
  frame_out
  rfl

/-- The kernel's array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  idx_vars y
  have ht := (flush0_2 t).mp hf
  refine ((written m c t ht _).trans (scratch_last m c t ht _)).trans ?_
  unfold block
  blk_ext [iblk, V, staged t]
end

section
open Cert.ReferenceUpDwIdeal Cert.ReferenceUpDwIdeal.Read

/-- The reference's array. -/
theorem reference_array (x : Acts) (d : Wide) : val_main_v8 (F := Ideal) x d = grad x d := by
  funext i
  idx_vars i
  rw [val_main_v8_apply, val_main_v7_apply, val_main_v6_apply, val_main_v5_apply]
  unfold val_main_v4
  pointwise
  unfold grad overRows
  refine Finset.sum_congr rfl fun r _ => (mul_comm _ _).trans (congrArg₂ (fun a b : EReal => a * b) ?_ ?_)
  · exact congrArg x (by funext a; match a with | ⟨0, _⟩ => rfl | ⟨1, _⟩ => exact Fin.ext (by simp; omega))
  · exact congrArg d (by funext a; match a with | ⟨0, _⟩ => rfl | ⟨1, _⟩ => exact Fin.ext (by simp [blockColumn]; omega))

/-- The reference ends with every counter at zero: it has none. -/
theorem frame_reference : Cert.quiescent_ReferenceUpDwIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelUpDwIdeal_ReferenceUpDwIdeal := by
  intro m ρ m' ρ' _ hag
  refine ⟨fun c => grad (m ((c.tc : Thread Cert.KernelUpDwIdeal.nD Cert.KernelUpDwIdeal.τ).loc Cert.KernelUpDwIdeal.main_arg0)) (m ((c.tc : Thread Cert.KernelUpDwIdeal.nD Cert.KernelUpDwIdeal.τ).loc Cert.KernelUpDwIdeal.main_arg1)), ?_, ?_⟩
  · refine (θ_run Cert.KernelUpDwIdeal.defs _ _).mono (fun r h c => ?_) (Cert.KernelUpDwIdeal.Value.run_blocks m ρ)
    exact ⟨(h c).1.trans (kernel_array m c), (h c).2⟩
  · refine (θ_run Cert.ReferenceUpDwIdeal.defs _ _).mono (fun r h c => ?_) (Cert.ReferenceUpDwIdeal.Value.run m' ρ')
    obtain ⟨a0, a1⟩ := hag c
    refine ⟨((h c).1.trans (Cert.ReferenceUpDwIdeal.Read.val_main_v8_eq _ _)).trans ?_, (h c).2⟩
    rw [a0, a1]
    exact reference_array _ _

end Cert.UpDw
end
-- ==== Proof.DownDw.lean ====
/-
  The gradient of the feed-forward's second weight: for each block of 1024 of its rows the kernel sums the products
  of four row blocks; the reference's derivative is the product over all rows.
-/
module
public import proofs.«01_k».proof.Defs
public import proofs.«01_k».proof.Proof.Products
public import proofs.«01_k».proof.Proof.Gen.KernelDownDwIdeal.Value
public import proofs.«01_k».proof.Proof.Gen.ReferenceDownDwIdeal.Run
public import proofs.«01_k».proof.Proof.Gen.ReferenceDownDwIdeal.Read
public import Idealize.ShloMosaic.Lib.Pipeline.ReadBack

@[expose] public section
set_option maxRecDepth 16384
noncomputable section
namespace Cert.DownDw
open Idealize.ShloMosaic Idealize.ShloMosaic.TcCoe Idealize.SL.Sem Cert.Products

/-- The gradient of the block's output, over the extended reals. -/
abbrev Acts := (⟨2, ![8192, 1024]⟩ : Shape).Idx → EReal
/-- The hidden activations, over the extended reals. -/
abbrev Wide := (⟨2, ![8192, 3072]⟩ : Shape).Idx → EReal

/-- Column `k` of column block `b` of the hidden activations. -/
def blockColumn (b : Fin 3) (k : Fin 1024) : Fin 3072 := ⟨1024 * b.val + k.val, by omega⟩

/-- The weight's gradient. -/
def grad (x : Wide) (d : Acts) : (⟨2, ![3072, 1024]⟩ : Shape).Idx → EReal := fun i =>
  overRows (fun r k => x (ix2 r k)) (fun r j => d (ix2 r j)) (i 0) (i 1)

section
open Cert.KernelDownDwIdeal Cert.KernelDownDwIdeal.Gen

variable (m : (ℓ : Loc nD τ sig) → Buf (Elt Ideal) ℓ)

/-- The blocks a point stages: one row block and the columns of one output block. -/
theorem staged : ∀ t : Fin cfg0.N, win0_0.index t = ![t.val % 4, t.val / 4] ∧ win0_1.index t = ![t.val % 4, 0]
    ∧ win0_2.index t = ![t.val / 4, 0] := by decide +kernel

/-- The column block of a point. -/
def block (t : Fin cfg0.N) : Fin 3 := ⟨t.val / 4, by have : t.val < 12 := t.isLt; omega⟩

/-- What one row block adds to an entry of the weight's gradient. -/
def part (c : Dev nD) (t : Fin cfg0.N) (y : S1024x1024.Idx) : EReal :=
  overRows (fun r k => (V m c main_arg0 : Wide) (ix2 (blockRow (t.val % 4) (by omega) r) k))
    (fun r j => (V m c main_arg1 : Acts) (ix2 (blockRow (t.val % 4) (by omega) r) j)) (blockColumn (block t) (y 0)) (y 1)

/-- The product of one row block, entry by entry. -/
theorem block_product (c : Dev nD) (t : Fin cfg0.N) (y : S1024x1024.Idx) :
    k0_pay1 (F := Ideal) (iblk m c 0 t) (iblk m c 1 t) y = part m c t y := by
  idx_vars y
  unfold_payloads
  pointwise
  unfold part overRows
  refine Finset.sum_congr rfl fun r _ => congrArg₂ (fun a b : EReal => a * b) ?_ ?_
  · unfold blockRow blockColumn block; blk_ext [iblk, V, staged t]
  · unfold blockRow; blk_ext [iblk, V, staged t]

/-- The scratch after a run's first point. -/
theorem scratch_first (c : Dev nD) (t : Fin cfg0.N) (h : t.val % 4 = 0) (y : S1024x1024.Idx) :
    (outsAt0 m c t.val t.isLt).2 y = 0 + part m c t y := by
  rw [outsAt0_A m c t h (by omega) (by omega), zero_add, ← block_product]
  frame_out
  idx_vars y
  unfold k0_pay2
  pointwise

/-- The scratch after any other point: the block's part added. -/
theorem scratch_next (c : Dev nD) (t : Fin cfg0.N) (h : ¬ t.val % 4 = 0) (y : S1024x1024.Idx) :
    (outsAt0 m c t.val t.isLt).2 y = (outsAt0 m c (t.val - 1) (Nat.lt_of_le_of_lt (Nat.sub_le _ _) t.isLt)).2 y + part m c t y := by
  rw [← block_product]
  by_cases h' : t.val % 4 = 3
  on_goal 1 => rw [outsAt0_C m c t h (by omega) h']
  on_goal 2 => rw [outsAt0_B m c t h (by omega) h']
  all_goals
    frame_out
    rw [read_unread_whole]
    idx_vars y
    unfold k0_pay3
    pointwise

/-- What the last point of a run leaves in the scratch. -/
theorem scratch_last (c : Dev nD) (t : Fin cfg0.N) (ht : t.val % 4 = 3) (y : S1024x1024.Idx) :
    (outsAt0 m c t.val t.isLt).2 y = grad (V m c main_arg0) (V m c main_arg1) (ix2 (blockColumn (block t) (y 0)) (y 1)) := by
  rw [Pipeline.eq_sum_fin_of_reset_step_apply_of_flush (fun n h => (outsAt0 m c n h).2) 4 (fun _ => 0) (part m c)
    (fun t h => scratch_first m c t h) (fun t h => scratch_next m c t h) t ht, zero_add]
  refine Eq.trans (Finset.sum_congr rfl fun s _ => ?_) (sum_blocks (fun r k => (V m c main_arg0 : Wide) (ix2 r k)) (fun r j => (V m c main_arg1 : Acts) (ix2 r j)) (blockColumn (block t) (y 0)) (y 1)
    (fun s => (4 * (t.val / 4) + s.val) % 4) (fun s => by omega) (fun s => by omega))
  have e : block ⟨4 * (t.val / 4) + s.val, Pipeline.run_point_lt_of_flush t ht s⟩ = block t := Fin.ext (by simp only [block]; omega)
  unfold part
  rw [e]

/-- The output block written back at a run's last point. -/
theorem written (c : Dev nD) (t : Fin cfg0.N) (ht : t.val % 4 = 3) (y : S1024x1024.Idx) :
    (outsAt0 m c t.val t.isLt).1 y = (outsAt0 m c t.val t.isLt).2 y := by
  rw [outsAt0_C m c t (by omega) (by omega) ht]
  frame_out
  rfl

/-- The kernel's array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  idx_vars y
  have ht := (flush0_2 t).mp hf
  refine ((written m c t ht _).trans (scratch_last m c t ht _)).trans ?_
  unfold blockColumn block
  blk_ext [iblk, V, staged t]
end

section
open Cert.ReferenceDownDwIdeal Cert.ReferenceDownDwIdeal.Read

/-- The reference's array. -/
theorem reference_array (x : Wide) (d : Acts) : val_main_v6 (F := Ideal) x d = grad x d := by
  funext i
  idx_vars i
  rw [val_main_v6_apply, val_main_v5_apply]
  unfold val_main_v4
  pointwise
  unfold grad overRows
  refine Finset.sum_congr rfl fun r _ => (mul_comm _ _).trans (congrArg₂ (fun a b : EReal => a * b) ?_ ?_)
  · exact congrArg x (by funext a; match a with | ⟨0, _⟩ => rfl | ⟨1, _⟩ => rfl)
  · exact congrArg d (by funext a; match a with | ⟨0, _⟩ => rfl | ⟨1, _⟩ => rfl)

/-- The reference ends with every counter at zero: it has none. -/
theorem frame_reference : Cert.quiescent_ReferenceDownDwIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelDownDwIdeal_ReferenceDownDwIdeal := by
  intro m ρ m' ρ' _ hag
  refine ⟨fun c => grad (m ((c.tc : Thread Cert.KernelDownDwIdeal.nD Cert.KernelDownDwIdeal.τ).loc Cert.KernelDownDwIdeal.main_arg0)) (m ((c.tc : Thread Cert.KernelDownDwIdeal.nD Cert.KernelDownDwIdeal.τ).loc Cert.KernelDownDwIdeal.main_arg1)), ?_, ?_⟩
  · refine (θ_run Cert.KernelDownDwIdeal.defs _ _).mono (fun r h c => ?_) (Cert.KernelDownDwIdeal.Value.run_blocks m ρ)
    exact ⟨(h c).1.trans (kernel_array m c), (h c).2⟩
  · refine (θ_run Cert.ReferenceDownDwIdeal.defs _ _).mono (fun r h c => ?_) (Cert.ReferenceDownDwIdeal.Value.run m' ρ')
    obtain ⟨a0, a1⟩ := hag c
    refine ⟨((h c).1.trans (Cert.ReferenceDownDwIdeal.Read.val_main_v6_eq _ _)).trans ?_, (h c).2⟩
    rw [a0, a1]
    exact reference_array _ _

end Cert.DownDw
end
-- ==== Proof.SquareDw.lean ====
/-
  The gradient of a square weight: the kernel sums the products of four row blocks; the reference's derivative is
  the product over all rows.
-/
module
public import proofs.«01_k».proof.Defs
public import proofs.«01_k».proof.Proof.Products
public import proofs.«01_k».proof.Proof.Gen.KernelSquareDwIdeal.Value
public import proofs.«01_k».proof.Proof.Gen.ReferenceSquareDwIdeal.Run
public import proofs.«01_k».proof.Proof.Gen.ReferenceSquareDwIdeal.Read
public import Idealize.ShloMosaic.Lib.Pipeline.ReadBack

@[expose] public section
set_option maxRecDepth 16384
noncomputable section
namespace Cert.SquareDw
open Idealize.ShloMosaic Idealize.ShloMosaic.TcCoe Idealize.SL.Sem Cert.Products

/-- The weight's input or the gradient of its product, over the extended reals. -/
abbrev Acts := (⟨2, ![8192, 1024]⟩ : Shape).Idx → EReal

/-- The weight's gradient. -/
def grad (x : Acts) (d : Acts) : (⟨2, ![1024, 1024]⟩ : Shape).Idx → EReal := fun i =>
  overRows (fun r k => x (ix2 r k)) (fun r j => d (ix2 r j)) (i 0) (i 1)

section
open Cert.KernelSquareDwIdeal Cert.KernelSquareDwIdeal.Gen

variable (m : (ℓ : Loc nD τ sig) → Buf (Elt Ideal) ℓ)

/-- The blocks a point stages: one row block and the columns of one output block. -/
theorem staged : ∀ t : Fin cfg0.N, win0_0.index t = ![t.val % 4, 0] ∧ win0_1.index t = ![t.val % 4, 0]
    ∧ win0_2.index t = ![0, 0] := by decide +kernel

/-- What one row block adds to an entry of the weight's gradient. -/
def part (c : Dev nD) (t : Fin cfg0.N) (y : S1024x1024.Idx) : EReal :=
  overRows (fun r k => (V m c main_arg0 : Acts) (ix2 (blockRow (t.val % 4) (by omega) r) k))
    (fun r j => (V m c main_arg1 : Acts) (ix2 (blockRow (t.val % 4) (by omega) r) j)) (y 0) (y 1)

/-- The product of one row block, entry by entry. -/
theorem block_product (c : Dev nD) (t : Fin cfg0.N) (y : S1024x1024.Idx) :
    k0_pay1 (F := Ideal) (iblk m c 0 t) (iblk m c 1 t) y = part m c t y := by
  idx_vars y
  unfold_payloads
  pointwise
  unfold part overRows
  refine Finset.sum_congr rfl fun r _ => congrArg₂ (fun a b : EReal => a * b) ?_ ?_
  · unfold blockRow; blk_ext [iblk, V, staged t]
  · unfold blockRow; blk_ext [iblk, V, staged t]

/-- The scratch after a run's first point. -/
theorem scratch_first (c : Dev nD) (t : Fin cfg0.N) (h : t.val % 4 = 0) (y : S1024x1024.Idx) :
    (outsAt0 m c t.val t.isLt).2 y = 0 + part m c t y := by
  have hN : t.val < 4 := t.isLt
  rw [outsAt0_A m c t h (by omega) (by omega), zero_add, ← block_product]
  frame_out
  idx_vars y
  unfold k0_pay2
  pointwise

/-- The scratch after any other point: the block's part added. -/
theorem scratch_next (c : Dev nD) (t : Fin cfg0.N) (h : ¬ t.val % 4 = 0) (y : S1024x1024.Idx) :
    (outsAt0 m c t.val t.isLt).2 y = (outsAt0 m c (t.val - 1) (Nat.lt_of_le_of_lt (Nat.sub_le _ _) t.isLt)).2 y + part m c t y := by
  have hN : t.val < 4 := t.isLt
  rw [← block_product]
  by_cases h' : t.val % 4 = 3
  on_goal 1 => rw [outsAt0_C m c t h (by omega) h']
  on_goal 2 => rw [outsAt0_B m c t h (by omega) h']
  all_goals
    frame_out
    rw [read_unread_whole]
    idx_vars y
    unfold k0_pay3
    pointwise

/-- What the last point of a run leaves in the scratch. -/
theorem scratch_last (c : Dev nD) (t : Fin cfg0.N) (ht : t.val % 4 = 3) (y : S1024x1024.Idx) :
    (outsAt0 m c t.val t.isLt).2 y = grad (V m c main_arg0) (V m c main_arg1) (ix2 (y 0) (y 1)) := by
  rw [Pipeline.eq_sum_fin_of_reset_step_apply_of_flush (fun n h => (outsAt0 m c n h).2) 4 (fun _ => 0) (part m c)
    (fun t h => scratch_first m c t h) (fun t h => scratch_next m c t h) t ht, zero_add]
  refine Eq.trans (Finset.sum_congr rfl fun s _ => ?_) (sum_blocks (fun r k => (V m c main_arg0 : Acts) (ix2 r k)) (fun r j => (V m c main_arg1 : Acts) (ix2 r j)) (y 0) (y 1)
    (fun s => (4 * (t.val / 4) + s.val) % 4) (fun s => by omega) (fun s => by omega))
  rfl

/-- The output block written back at a run's last point. -/
theorem written (c : Dev nD) (t : Fin cfg0.N) (ht : t.val % 4 = 3) (y : S1024x1024.Idx) :
    (outsAt0 m c t.val t.isLt).1 y = (outsAt0 m c t.val t.isLt).2 y := by
  have hN : t.val < 4 := t.isLt
  rw [outsAt0_C m c t (by omega) (by omega) ht]
  frame_out
  rfl

/-- The kernel's array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  idx_vars y
  have ht := (flush0_2 t).mp hf
  refine ((written m c t ht _).trans (scratch_last m c t ht _)).trans ?_
  blk_ext [iblk, V, staged t]
end

section
open Cert.ReferenceSquareDwIdeal Cert.ReferenceSquareDwIdeal.Read

/-- The reference's array. -/
theorem reference_array (x : Acts) (d : Acts) : val_main_v6 (F := Ideal) x d = grad x d := by
  funext i
  idx_vars i
  rw [val_main_v6_apply, val_main_v5_apply]
  unfold val_main_v4
  pointwise
  unfold grad overRows
  refine Finset.sum_congr rfl fun r _ => (mul_comm _ _).trans (congrArg₂ (fun a b : EReal => a * b) ?_ ?_)
  · exact congrArg x (by funext a; match a with | ⟨0, _⟩ => rfl | ⟨1, _⟩ => rfl)
  · exact congrArg d (by funext a; match a with | ⟨0, _⟩ => rfl | ⟨1, _⟩ => rfl)

/-- The reference ends with every counter at zero: it has none. -/
theorem frame_reference : Cert.quiescent_ReferenceSquareDwIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelSquareDwIdeal_ReferenceSquareDwIdeal := by
  intro m ρ m' ρ' _ hag
  refine ⟨fun c => grad (m ((c.tc : Thread Cert.KernelSquareDwIdeal.nD Cert.KernelSquareDwIdeal.τ).loc Cert.KernelSquareDwIdeal.main_arg0)) (m ((c.tc : Thread Cert.KernelSquareDwIdeal.nD Cert.KernelSquareDwIdeal.τ).loc Cert.KernelSquareDwIdeal.main_arg1)), ?_, ?_⟩
  · refine (θ_run Cert.KernelSquareDwIdeal.defs _ _).mono (fun r h c => ?_) (Cert.KernelSquareDwIdeal.Value.run_blocks m ρ)
    exact ⟨(h c).1.trans (kernel_array m c), (h c).2⟩
  · refine (θ_run Cert.ReferenceSquareDwIdeal.defs _ _).mono (fun r h c => ?_) (Cert.ReferenceSquareDwIdeal.Value.run m' ρ')
    obtain ⟨a0, a1⟩ := hag c
    refine ⟨((h c).1.trans (Cert.ReferenceSquareDwIdeal.Read.val_main_v6_eq _ _)).trans ?_, (h c).2⟩
    rw [a0, a1]
    exact reference_array _ _

end Cert.SquareDw
end
-- ==== Proof.KvDw.lean ====
/-
  The gradient of the key and value weight: the kernel sums the products of four row blocks; the reference's
  derivative is the product over all rows.
-/
module
public import proofs.«01_k».proof.Defs
public import proofs.«01_k».proof.Proof.Products
public import proofs.«01_k».proof.Proof.Gen.KernelKvDwIdeal.Value
public import proofs.«01_k».proof.Proof.Gen.ReferenceKvDwIdeal.Run
public import proofs.«01_k».proof.Proof.Gen.ReferenceKvDwIdeal.Read
public import Idealize.ShloMosaic.Lib.Pipeline.ReadBack

@[expose] public section
set_option maxRecDepth 16384
noncomputable section
namespace Cert.KvDw
open Idealize.ShloMosaic Idealize.ShloMosaic.TcCoe Idealize.SL.Sem Cert.Products

/-- The weight's input, over the extended reals. -/
abbrev Acts := (⟨2, ![8192, 1024]⟩ : Shape).Idx → EReal
/-- The gradient of its product, over the extended reals. -/
abbrev Pairs := (⟨2, ![8192, 1664]⟩ : Shape).Idx → EReal

/-- The weight's gradient. -/
def grad (x : Acts) (d : Pairs) : (⟨2, ![1024, 1664]⟩ : Shape).Idx → EReal := fun i =>
  overRows (fun r k => x (ix2 r k)) (fun r j => d (ix2 r j)) (i 0) (i 1)

section
open Cert.KernelKvDwIdeal Cert.KernelKvDwIdeal.Gen

variable (m : (ℓ : Loc nD τ sig) → Buf (Elt Ideal) ℓ)

/-- The blocks a point stages: one row block and the columns of one output block. -/
theorem staged : ∀ t : Fin cfg0.N, win0_0.index t = ![t.val % 4, 0] ∧ win0_1.index t = ![t.val % 4, 0]
    ∧ win0_2.index t = ![0, 0] := by decide +kernel

/-- What one row block adds to an entry of the weight's gradient. -/
def part (c : Dev nD) (t : Fin cfg0.N) (y : S1024x1664.Idx) : EReal :=
  overRows (fun r k => (V m c main_arg0 : Acts) (ix2 (blockRow (t.val % 4) (by omega) r) k))
    (fun r j => (V m c main_arg1 : Pairs) (ix2 (blockRow (t.val % 4) (by omega) r) j)) (y 0) (y 1)

/-- The product of one row block, entry by entry. -/
theorem block_product (c : Dev nD) (t : Fin cfg0.N) (y : S1024x1664.Idx) :
    k0_pay1 (F := Ideal) (iblk m c 0 t) (iblk m c 1 t) y = part m c t y := by
  idx_vars y
  unfold_payloads
  pointwise
  unfold part overRows
  refine Finset.sum_congr rfl fun r _ => congrArg₂ (fun a b : EReal => a * b) ?_ ?_
  · unfold blockRow; blk_ext [iblk, V, staged t]
  · unfold blockRow; blk_ext [iblk, V, staged t]

/-- The scratch after a run's first point. -/
theorem scratch_first (c : Dev nD) (t : Fin cfg0.N) (h : t.val % 4 = 0) (y : S1024x1664.Idx) :
    (outsAt0 m c t.val t.isLt).2 y = 0 + part m c t y := by
  have hN : t.val < 4 := t.isLt
  rw [outsAt0_A m c t h (by omega) (by omega), zero_add, ← block_product]
  frame_out
  idx_vars y
  unfold k0_pay2
  pointwise

/-- The scratch after any other point: the block's part added. -/
theorem scratch_next (c : Dev nD) (t : Fin cfg0.N) (h : ¬ t.val % 4 = 0) (y : S1024x1664.Idx) :
    (outsAt0 m c t.val t.isLt).2 y = (outsAt0 m c (t.val - 1) (Nat.lt_of_le_of_lt (Nat.sub_le _ _) t.isLt)).2 y + part m c t y := by
  have hN : t.val < 4 := t.isLt
  rw [← block_product]
  by_cases h' : t.val % 4 = 3
  on_goal 1 => rw [outsAt0_C m c t h (by omega) h']
  on_goal 2 => rw [outsAt0_B m c t h (by omega) h']
  all_goals
    frame_out
    rw [read_unread_whole]
    idx_vars y
    unfold k0_pay3
    pointwise

/-- What the last point of a run leaves in the scratch. -/
theorem scratch_last (c : Dev nD) (t : Fin cfg0.N) (ht : t.val % 4 = 3) (y : S1024x1664.Idx) :
    (outsAt0 m c t.val t.isLt).2 y = grad (V m c main_arg0) (V m c main_arg1) (ix2 (y 0) (y 1)) := by
  rw [Pipeline.eq_sum_fin_of_reset_step_apply_of_flush (fun n h => (outsAt0 m c n h).2) 4 (fun _ => 0) (part m c)
    (fun t h => scratch_first m c t h) (fun t h => scratch_next m c t h) t ht, zero_add]
  refine Eq.trans (Finset.sum_congr rfl fun s _ => ?_) (sum_blocks (fun r k => (V m c main_arg0 : Acts) (ix2 r k)) (fun r j => (V m c main_arg1 : Pairs) (ix2 r j)) (y 0) (y 1)
    (fun s => (4 * (t.val / 4) + s.val) % 4) (fun s => by omega) (fun s => by omega))
  rfl

/-- The output block written back at a run's last point. -/
theorem written (c : Dev nD) (t : Fin cfg0.N) (ht : t.val % 4 = 3) (y : S1024x1664.Idx) :
    (outsAt0 m c t.val t.isLt).1 y = (outsAt0 m c t.val t.isLt).2 y := by
  have hN : t.val < 4 := t.isLt
  rw [outsAt0_C m c t (by omega) (by omega) ht]
  frame_out
  rfl

/-- The kernel's array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  idx_vars y
  have ht := (flush0_2 t).mp hf
  refine ((written m c t ht _).trans (scratch_last m c t ht _)).trans ?_
  blk_ext [iblk, V, staged t]
end

section
open Cert.ReferenceKvDwIdeal Cert.ReferenceKvDwIdeal.Read

/-- The reference's array. -/
theorem reference_array (x : Acts) (d : Pairs) : val_main_v6 (F := Ideal) x d = grad x d := by
  funext i
  idx_vars i
  rw [val_main_v6_apply, val_main_v5_apply]
  unfold val_main_v4
  pointwise
  unfold grad overRows
  refine Finset.sum_congr rfl fun r _ => (mul_comm _ _).trans (congrArg₂ (fun a b : EReal => a * b) ?_ ?_)
  · exact congrArg x (by funext a; match a with | ⟨0, _⟩ => rfl | ⟨1, _⟩ => rfl)
  · exact congrArg d (by funext a; match a with | ⟨0, _⟩ => rfl | ⟨1, _⟩ => rfl)

/-- The reference ends with every counter at zero: it has none. -/
theorem frame_reference : Cert.quiescent_ReferenceKvDwIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelKvDwIdeal_ReferenceKvDwIdeal := by
  intro m ρ m' ρ' _ hag
  refine ⟨fun c => grad (m ((c.tc : Thread Cert.KernelKvDwIdeal.nD Cert.KernelKvDwIdeal.τ).loc Cert.KernelKvDwIdeal.main_arg0)) (m ((c.tc : Thread Cert.KernelKvDwIdeal.nD Cert.KernelKvDwIdeal.τ).loc Cert.KernelKvDwIdeal.main_arg1)), ?_, ?_⟩
  · refine (θ_run Cert.KernelKvDwIdeal.defs _ _).mono (fun r h c => ?_) (Cert.KernelKvDwIdeal.Value.run_blocks m ρ)
    exact ⟨(h c).1.trans (kernel_array m c), (h c).2⟩
  · refine (θ_run Cert.ReferenceKvDwIdeal.defs _ _).mono (fun r h c => ?_) (Cert.ReferenceKvDwIdeal.Value.run m' ρ')
    obtain ⟨a0, a1⟩ := hag c
    refine ⟨((h c).1.trans (Cert.ReferenceKvDwIdeal.Read.val_main_v6_eq _ _)).trans ?_, (h c).2⟩
    rw [a0, a1]
    exact reference_array _ _

end Cert.KvDw
end
-- ==== Proof.DownDx.lean ====
/-
  The gradient of the hidden activations: each block of 512 rows times the transposed weight, by three pieces of
  1024 columns.
-/
module
public import proofs.«01_k».proof.Defs
public import proofs.«01_k».proof.Proof.Products
public import proofs.«01_k».proof.Proof.Gen.KernelDownDxIdeal.Value
public import proofs.«01_k».proof.Proof.Gen.ReferenceDownDxIdeal.Run
public import proofs.«01_k».proof.Proof.Gen.ReferenceDownDxIdeal.Read

@[expose] public section
set_option maxRecDepth 16384
noncomputable section
namespace Cert.DownDx
open Idealize.ShloMosaic Idealize.ShloMosaic.TcCoe Idealize.SL.Sem Cert.Products

/-- The gradient of the product, over the extended reals. -/
abbrev Acts := (⟨2, ![8192, 1024]⟩ : Shape).Idx → EReal
/-- The weight, over the extended reals. -/
abbrev Weight := (⟨2, ![3072, 1024]⟩ : Shape).Idx → EReal

/-- The gradient of the hidden activations. -/
def grad (d : Acts) (w : Weight) : (⟨2, ![8192, 3072]⟩ : Shape).Idx → EReal := fun i =>
  overColumns (fun r k => d (ix2 r k)) (fun j k => w (ix2 j k)) (i 0) (i 1)

section
open Cert.KernelDownDxIdeal Cert.KernelDownDxIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] := by decide +kernel

/-- Row `r` of a point's block. -/
def row (t : Fin cfg0.N) (r : Fin 512) : Fin 8192 := ⟨512 * t.val + r.val, by have : t.val < 16 := t.isLt; omega⟩

/-- Row `b + j` of the weight. -/
def col (b : ℕ) (hb : b ≤ 2048) (j : Fin 1024) : Fin 3072 := ⟨b + j.val, by omega⟩

/-- Every point stages the whole weight. -/
theorem weight_at (c : Dev nD) (t : Fin cfg0.N) (j : Fin 3072) (k : Fin 1024) :
    (iblk m c 1 t : Weight) (ix2 j k) = (V m c main_arg1 : Weight) (ix2 j k) := by
  blk_ext [iblk, V, staged t]

/-- A point's product with 1024 rows of the weight, entry by entry. -/
theorem block_product (c : Dev nD) (t : Fin cfg0.N) (b : ℕ) (hb : b ≤ 2048) (w : Vec Ideal S1024x1024 .bf16)
    (hw : ∀ j k, w (ix2 j k) = (V m c main_arg1 : Weight) (ix2 (col b hb j) k)) (r : Fin 512) (j : Fin 1024) :
    k0_pay1 (F := Ideal) (iblk m c 0 t) w (ix2 r j)
      = grad (V m c main_arg0) (V m c main_arg1) (ix2 (row t r) (col b hb j)) := by
  unfold_payloads
  pointwise
  unfold grad overColumns
  refine Finset.sum_congr rfl fun k _ => congrArg₂ (fun a b : EReal => a * b) ?_ ?_
  · unfold row; blk_ext [iblk, V, staged t]
  · exact hw j k

/-- The kernel's array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  idx_vars y
  unfold out0_2
  frame_out
  have whole : ∀ (z : S512x3072.Idx) (j : Fin 3072), z = ix2 y0 j → ((View.whole main_v0).slice (win0_2.rect t)).emb z = ix2 (row t y0) j := by
    intro z j hz
    subst hz
    unfold row
    blk_ext [iblk, V, staged t]
  canon_tiles x h
  all_goals idx_vars x; obtain rfl : y0 = x0 := Fin.ext h0
  · refine (block_product m c t 2048 (by omega) _ (fun j k => (View.ld_unit_apply_of _ _ _ _ _ (ix2 (col 2048 (by omega) j) k) (fun i => ?_)).trans (weight_at m c t _ _)) _ _).trans ?_
    · match i with
      | ⟨0, _⟩ => simp [col]
      | ⟨1, _⟩ => simp
    · rw [whole _ (col 2048 (by omega) x1) (by rw [show y1 = col 2048 (by omega) x1 from Fin.ext h1])]
  · refine (block_product m c t 1024 (by omega) _ (fun j k => (View.ld_unit_apply_of _ _ _ _ _ (ix2 (col 1024 (by omega) j) k) (fun i => ?_)).trans (weight_at m c t _ _)) _ _).trans ?_
    · match i with
      | ⟨0, _⟩ => simp [col]
      | ⟨1, _⟩ => simp
    · rw [whole _ (col 1024 (by omega) x1) (by rw [show y1 = col 1024 (by omega) x1 from Fin.ext h1])]
  · refine (block_product m c t 0 (by omega) _ (fun j k => (View.ld_unit_apply_of _ _ _ _ _ (ix2 (col 0 (by omega) j) k) (fun i => ?_)).trans (weight_at m c t _ _)) _ _).trans ?_
    · match i with
      | ⟨0, _⟩ => simp [col]
      | ⟨1, _⟩ => simp
    · rw [whole _ (col 0 (by omega) x1) (by rw [show y1 = col 0 (by omega) x1 from Fin.ext (h1.trans (Nat.zero_add _).symm)])]
end

section
open Cert.ReferenceDownDxIdeal Cert.ReferenceDownDxIdeal.Read

/-- The reference's array. -/
theorem reference_array (d : Acts) (w : Weight) : val_main_v5 (F := Ideal) d w = grad d w := by
  funext i
  idx_vars i
  rw [val_main_v5_apply]
  unfold val_main_v4
  pointwise
  unfold grad overColumns
  refine Finset.sum_congr rfl fun k _ => congrArg₂ (fun a b : EReal => a * b) ?_ ?_
  · exact congrArg d (by funext a; match a with | ⟨0, _⟩ => rfl | ⟨1, _⟩ => rfl)
  · exact congrArg w (by funext a; match a with | ⟨0, _⟩ => rfl | ⟨1, _⟩ => rfl)

/-- The reference ends with every counter at zero: it has none. -/
theorem frame_reference : Cert.quiescent_ReferenceDownDxIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelDownDxIdeal_ReferenceDownDxIdeal := by
  intro m ρ m' ρ' _ hag
  refine ⟨fun c => grad (m ((c.tc : Thread Cert.KernelDownDxIdeal.nD Cert.KernelDownDxIdeal.τ).loc Cert.KernelDownDxIdeal.main_arg0)) (m ((c.tc : Thread Cert.KernelDownDxIdeal.nD Cert.KernelDownDxIdeal.τ).loc Cert.KernelDownDxIdeal.main_arg1)), ?_, ?_⟩
  · refine (θ_run Cert.KernelDownDxIdeal.defs _ _).mono (fun r h c => ?_) (Cert.KernelDownDxIdeal.Value.run_blocks m ρ)
    exact ⟨(h c).1.trans (kernel_array m c), (h c).2⟩
  · refine (θ_run Cert.ReferenceDownDxIdeal.defs _ _).mono (fun r h c => ?_) (Cert.ReferenceDownDxIdeal.Value.run m' ρ')
    obtain ⟨a0, a1⟩ := hag c
    refine ⟨((h c).1.trans (Cert.ReferenceDownDxIdeal.Read.val_main_v5_eq _ _)).trans ?_, (h c).2⟩
    rw [a0, a1]
    exact reference_array _ _

end Cert.DownDx
end
-- ==== Proof.OutDx.lean ====
/-
  The gradient of a square product's input: each block of 512 rows times the transposed weight, in both formats.
-/
module
public import proofs.«01_k».proof.Defs
public import proofs.«01_k».proof.Proof.Products
public import proofs.«01_k».proof.Proof.Gen.KernelOutDxIdeal.Value
public import proofs.«01_k».proof.Proof.Gen.ReferenceOutDxIdeal.Run
public import proofs.«01_k».proof.Proof.Gen.ReferenceOutDxIdeal.Read

@[expose] public section
set_option maxRecDepth 16384
noncomputable section
namespace Cert.OutDx
open Idealize.ShloMosaic Idealize.ShloMosaic.TcCoe Idealize.SL.Sem Cert.Products

/-- The gradient of the product, over the extended reals. -/
abbrev Acts := (⟨2, ![8192, 1024]⟩ : Shape).Idx → EReal
/-- The weight, over the extended reals. -/
abbrev Weight := (⟨2, ![1024, 1024]⟩ : Shape).Idx → EReal

/-- The gradient of the product's input. -/
def grad (d : Acts) (w : Weight) : Acts := fun i =>
  overColumns (fun r k => d (ix2 r k)) (fun j k => w (ix2 j k)) (i 0) (i 1)

section
open Cert.KernelOutDxIdeal Cert.KernelOutDxIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] ∧ win0_3.index t = ![t.val, 0] := by decide +kernel

/-- Row `r` of a point's block. -/
def row (t : Fin cfg0.N) (r : Fin 512) : Fin 8192 := ⟨512 * t.val + r.val, by have : t.val < 16 := t.isLt; omega⟩

/-- A point's product, entry by entry. -/
theorem block_product (c : Dev nD) (t : Fin cfg0.N) (r : Fin 512) (j : Fin 1024) :
    k0_pay1 (F := Ideal) (iblk m c 0 t) (iblk m c 1 t) (ix2 r j) = grad (V m c main_arg0) (V m c main_arg1) (ix2 (row t r) j) := by
  unfold_payloads
  pointwise
  unfold grad overColumns
  refine Finset.sum_congr rfl fun k _ => congrArg₂ (fun a b : EReal => a * b) ?_ ?_
  · unfold row; blk_ext [iblk, V, staged t]
  · blk_ext [iblk, V, staged t]

/-- The first array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  idx_vars y
  unfold out0_2
  frame_out
  refine (block_product m c t y0 y1).trans ?_
  unfold row
  blk_ext [iblk, V, staged t]

/-- The second array after the run: the same values. -/
theorem kernel_array_rounded (c : Dev nD) : (dats m 0 c).arrAt 3 cfg0.N = grad (V m c main_arg0) (V m c main_arg1) := by
  refine (dats m 0 c).arrAt_eq_of_covers 3 _ (by decide +kernel) fun t hf y => ?_
  blk_simp
  rw [after0_3]
  idx_vars y
  unfold out0_3
  frame_out
  refine Eq.trans ?_ ((block_product m c t y0 y1).trans ?_)
  · unfold k0_pay2; pointwise
  · unfold row
    blk_ext [iblk, V, staged t]
end

section
open Cert.ReferenceOutDxIdeal Cert.ReferenceOutDxIdeal.Read

/-- The reference's first array. -/
theorem reference_array (d : Acts) (w : Weight) : val_main_v4 (F := Ideal) d w = grad d w := by
  funext i
  idx_vars i
  unfold val_main_v4
  pointwise
  unfold grad overColumns
  refine Finset.sum_congr rfl fun k _ => congrArg₂ (fun a b : EReal => a * b) ?_ ?_
  · exact congrArg d (by funext a; match a with | ⟨0, _⟩ => rfl | ⟨1, _⟩ => rfl)
  · exact congrArg w (by funext a; match a with | ⟨0, _⟩ => rfl | ⟨1, _⟩ => rfl)

/-- The reference's second array. -/
theorem reference_array_rounded (d : Acts) (w : Weight) : val_main_v5 (F := Ideal) d w = grad d w := by
  funext i
  rw [val_main_v5_apply]
  exact congrFun (reference_array d w) i

/-- The reference ends with every counter at zero: it has none. -/
theorem frame_reference : Cert.quiescent_ReferenceOutDxIdeal := by
  intro m ρ _
  exact (θ_run defs _ _).mono (fun r h => ⟨fun c => (h c).2.2, sem_eq_zero_of_no_sems (by decide) r.2⟩) (Value.run (F := Ideal) m ρ)
end

/-- Kernel and reference leave the same arrays. -/
theorem equal : Cert.algebraic_KernelOutDxIdeal_ReferenceOutDxIdeal := by
  intro m ρ m' ρ' _ hag
  refine ⟨fun c => grad (m ((c.tc : Thread Cert.KernelOutDxIdeal.nD Cert.KernelOutDxIdeal.τ).loc Cert.KernelOutDxIdeal.main_arg0)) (m ((c.tc : Thread Cert.KernelOutDxIdeal.nD Cert.KernelOutDxIdeal.τ).loc Cert.KernelOutDxIdeal.main_arg1)),
    fun c => grad (m ((c.tc : Thread Cert.KernelOutDxIdeal.nD Cert.KernelOutDxIdeal.τ).loc Cert.KernelOutDxIdeal.main_arg0)) (m ((c.tc : Thread Cert.KernelOutDxIdeal.nD Cert.KernelOutDxIdeal.τ).loc Cert.KernelOutDxIdeal.main_arg1)), ?_, ?_⟩
  · refine (θ_run Cert.KernelOutDxIdeal.defs _ _).mono (fun r h c => ?_) (Cert.KernelOutDxIdeal.Value.run_blocks m ρ)
    exact ⟨(h c).1.trans (kernel_array m c), (h c).2.1.trans (kernel_array_rounded m c), (h c).2.2⟩
  · refine (θ_run Cert.ReferenceOutDxIdeal.defs _ _).mono (fun r h c => ?_) (Cert.ReferenceOutDxIdeal.Value.run m' ρ')
    obtain ⟨a0, a1⟩ := hag c
    refine ⟨((h c).1.trans (Cert.ReferenceOutDxIdeal.Read.val_main_v4_eq _ _)).trans ?_,
      ((h c).2.1.trans (Cert.ReferenceOutDxIdeal.Read.val_main_v5_eq _ _)).trans ?_, (h c).2.2⟩
    · rw [a0, a1]
      exact reference_array _ _
    · rw [a0, a1]
      exact reference_array_rounded _ _

end Cert.OutDx
end
-- ==== Proof.InDx.lean ====
/-
  The gradient of the layer's input: each block of 512 rows times the transposed weight, plus the gradient that
  passes the layer by, scaled.
-/
module
public import proofs.«01_k».proof.Defs
public import proofs.«01_k».proof.Proof.Products
public import proofs.«01_k».proof.Proof.Gen.KernelInDxIdeal.Value
public import proofs.«01_k».proof.Proof.Gen.ReferenceInDxIdeal.Run
public import proofs.«01_k».proof.Proof.Gen.ReferenceInDxIdeal.Read

@[expose] public section
set_option maxRecDepth 16384
noncomputable section
namespace Cert.InDx
open Idealize.ShloMosaic Idealize.ShloMosaic.TcCoe Idealize.SL.Sem Cert.Products

/-- The gradient of the product, over the extended reals. -/
abbrev Acts := (⟨2, ![8192, 1024]⟩ : Shape).Idx → EReal
/-- The weight, over the extended reals. -/
abbrev Weight := (⟨2, ![1024, 1024]⟩ : Shape).Idx → EReal

/-- The gradient of the layer's input. -/
def grad (d : Acts) (w : Weight) (p : Acts) : Acts := fun i =>
  overColumns (fun r k => d (ix2 r k)) (fun j k => w (ix2 j k)) (i 0) (i 1) + Ideal.ofBits FTy.f32 0x3FB504F3#32 * p i

section
open Cert.KernelInDxIdeal Cert.KernelInDxIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] ∧ win0_3.index t = ![t.val, 0] := by decide +kernel

/-- Row `r` of a point's block. -/
def row (t : Fin cfg0.N) (r : Fin 512) : Fin 8192 := ⟨512 * t.val + r.val, by have : t.val < 16 := t.isLt; omega⟩

/-- A point's product, entry by entry. -/
theorem block_product (c : Dev nD) (t : Fin cfg0.N) (r : Fin 512) (j : Fin 1024) :
    k0_pay1 (F := Ideal) (iblk m c 0 t) (iblk m c 1 t) (iblk m c 2 t) (ix2 r j) = grad (V m c main_arg0) (V m c main_arg1) (V m c main_arg2) (ix2 (row t r) j) := by
  unfold_payloads
  pointwise
  unfold grad overColumns
  refine congrArg₂ (fun a b : EReal => a + b) (Finset.sum_congr rfl fun k _ => congrArg₂ (fun a b : EReal => a * b) ?_ ?_)
    (congrArg (fun a : EReal => Ideal.ofBits FTy.f32 0x3FB504F3#32 * a) ?_)
  · unfold row; blk_ext [iblk, V, staged t]
  · blk_ext [iblk, V, staged t]
  · unfold row; blk_ext [iblk, V, staged t]

/-- The kernel's array after the run. -/
theorem kernel_array (c : Dev nD) : (dats m 0 c).arrAt 3 cfg0.N = grad (V m c main_arg0) (V m c main_arg1) (V m c main_arg2) := by
  refine (dats m 0 c).arrAt_eq_of_covers 3 _ (by decide +kernel) fun t hf y => ?_
  blk_simp
  rw [after0_3]
  idx_vars y
  unfold out0_3
  frame_out
  refine (block_product m c t y0 y1).trans ?_
  unfold row
  blk_ext [iblk, V, staged t]

end

section
open Cert.ReferenceInDxIdeal Cert.ReferenceInDxIdeal.Read

/-- The reference's array. -/
theorem reference_array (d : Acts) (w : Weight) (p : Acts) : val_main_v9 (F := Ideal) d w p = grad d w p := by
  funext i
  idx_vars i
  rw [val_main_v9_apply, val_main_v7_apply, val_main_v6_apply]
  refine (add_comm _ _).trans (congrArg₂ (fun a b : EReal => a + b) ?_ rfl)
  unfold val_main_v8
  pointwise
  unfold overColumns
  refine Finset.sum_congr rfl fun k _ => congrArg₂ (fun a b : EReal => a * b) ?_ ?_
  · exact congrArg d (by funext a; match a with | ⟨0, _⟩ => rfl | ⟨1, _⟩ => rfl)
  · exact congrArg w (by funext a; match a with | ⟨0, _⟩ => rfl | ⟨1, _⟩ => rfl)

/-- The reference ends with every counter at zero: it has none. -/
theorem frame_reference : Cert.quiescent_ReferenceInDxIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelInDxIdeal_ReferenceInDxIdeal := by
  intro m ρ m' ρ' _ hag
  refine ⟨fun c => grad (m ((c.tc : Thread Cert.KernelInDxIdeal.nD Cert.KernelInDxIdeal.τ).loc Cert.KernelInDxIdeal.main_arg0)) (m ((c.tc : Thread Cert.KernelInDxIdeal.nD Cert.KernelInDxIdeal.τ).loc Cert.KernelInDxIdeal.main_arg1)) (m ((c.tc : Thread Cert.KernelInDxIdeal.nD Cert.KernelInDxIdeal.τ).loc Cert.KernelInDxIdeal.main_arg2)), ?_, ?_⟩
  · refine (θ_run Cert.KernelInDxIdeal.defs _ _).mono (fun r h c => ?_) (Cert.KernelInDxIdeal.Value.run_blocks m ρ)
    exact ⟨(h c).1.trans (kernel_array m c), (h c).2⟩
  · refine (θ_run Cert.ReferenceInDxIdeal.defs _ _).mono (fun r h c => ?_) (Cert.ReferenceInDxIdeal.Value.run m' ρ')
    obtain ⟨a0, a1, a2⟩ := hag c
    refine ⟨((h c).1.trans (Cert.ReferenceInDxIdeal.Read.val_main_v9_eq _ _ _)).trans ?_, (h c).2⟩
    rw [a0, a1, a2]
    exact reference_array _ _ _

end Cert.InDx
end
-- ==== Proof.Norm.lean ====
/-
  A row brought to mean zero and variance one, over the extended reals.
-/
module
public import proofs.«01_k».proof.Proof.Products

@[expose] public section
noncomputable section
namespace Cert.Norm
open Idealize.ShloMosaic

/-- The weight of the residual: the float nearest the square root of two. -/
def keep : EReal := Ideal.ofBits FTy.f32 1068827891#32
/-- The number of columns of a row. -/
def columns : EReal := Ideal.ofBits FTy.f32 1149239296#32
/-- What is added to a variance. -/
def tiny : EReal := Ideal.ofBits FTy.f32 925353388#32

/-- A row's mean. -/
def mean (f : Fin 1024 → EReal) : EReal := Ideal.div (∑ j, f j) columns
/-- A row less its mean. -/
def centred (f : Fin 1024 → EReal) (j : Fin 1024) : EReal := f j - mean f
/-- One over a row's standard deviation. -/
def scale (f : Fin 1024 → EReal) : EReal :=
  Ideal.rsqrt (mean (fun j => centred f j * centred f j) + tiny)
/-- The row at mean zero and variance one. -/
def normed (f : Fin 1024 → EReal) (j : Fin 1024) : EReal := centred f j * scale f

/-- The row that is normed: the weighted residual plus a row of a product. -/
def weighted {K : ℕ} (x : Fin 8192 → Fin 1024 → EReal) (a : Fin 8192 → Fin K → EReal) (w : Fin K → Fin 1024 → EReal)
    (r : Fin 8192) (j : Fin 1024) : EReal := keep * x r j + ∑ k, a r k * w k j

end Cert.Norm
end
-- ==== Proof.NormGrad.lean ====
/-
  The gradient of a row's norm: for a row of reals, the derivative taken through mean, variance and root equals
  the scale times the gradient less its mean and less its share along the normed row.
-/
module
public import proofs.«01_k».proof.Proof.Norm
public import proofs.«01_k».proof.Proof.Grad

@[expose] public section
noncomputable section
namespace Cert.Norm
open Idealize.ShloMosaic Cert.Grad

/-- Minus one half. -/
def minusHalf : EReal := Ideal.ofBits FTy.f32 3204448256#32
/-- Two. -/
def two : EReal := Ideal.ofBits FTy.f32 1073741824#32

/-- A row's variance, with what keeps it off zero. -/
def spread (f : Fin 1024 → EReal) : EReal := mean (fun j => centred f j * centred f j) + tiny

/-- The gradient of a row, from the normed row and the scale. -/
def slope (f d : Fin 1024 → EReal) (j : Fin 1024) : EReal :=
  scale f * (d j - mean d - normed f j * mean (fun j => d j * normed f j))

/-- The variance's share in the gradient of a row. -/
def alongVariance (f d : Fin 1024 → EReal) (j : Fin 1024) : EReal :=
  Ideal.div ((∑ j, centred f j * d j) * (minusHalf * Ideal.div (scale f) (spread f))) columns * (two * centred f j)

/-- The gradient of a row as the chain rule writes it: through the row, its variance and its mean. -/
def chain (f d : Fin 1024 → EReal) (j : Fin 1024) : EReal :=
  d j * scale f + alongVariance f d j
    + Ideal.div ((∑ j, -(d j * scale f)) + ∑ j, -(alongVariance f d j)) columns

/-- The product of reals is a real. -/
theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- The sum of reals is a real. -/
theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

/-- A finite sum of reals is a real. -/
theorem real_sum {n : ℕ} {f : Fin n → EReal} (h : ∀ i, ∃ r : ℝ, f i = (r : EReal)) : ∃ r : ℝ, ∑ i, f i = (r : EReal) := by
  choose g hg using h
  exact ⟨∑ i, g i, by simp only [hg, sum_real]⟩

/-- The weight of the residual is a real. -/
theorem keep_real : ∃ r : ℝ, keep = (r : EReal) := by
  refine ⟨(11863283 : ℝ) * (2 : ℝ) ^ (-23 : ℤ), ?_⟩
  unfold keep
  simp [Ideal.ofBits, Ideal.ieee, -EReal.coe_mul]

/-- The number of columns is 1024. -/
theorem columns_real : columns = ((1024 : ℝ) : EReal) := by
  unfold columns
  simp [Ideal.ofBits, Ideal.ieee, -EReal.coe_mul]; norm_num

/-- Minus one half, as a real. -/
theorem minusHalf_real : minusHalf = ((-(1 / 2) : ℝ) : EReal) := by
  unfold minusHalf
  simp [Ideal.ofBits, Ideal.ieee, -EReal.coe_mul, -EReal.coe_neg]; norm_num

/-- Two, as a real. -/
theorem two_real : two = ((2 : ℝ) : EReal) := by
  unfold two
  simp [Ideal.ofBits, Ideal.ieee, -EReal.coe_mul]; norm_num

/-- What is added to a variance is a positive real. -/
theorem tiny_real : ∃ e : ℝ, 0 < e ∧ tiny = (e : EReal) := by
  refine ⟨(10995116 : ℝ) * (2 : ℝ) ^ (-40 : ℤ), by positivity, ?_⟩
  unfold tiny
  simp [Ideal.ofBits, Ideal.ieee, -EReal.coe_mul]

/-- The mean of a row of reals. -/
theorem mean_real (g : Fin 1024 → ℝ) : mean (fun j => (g j : EReal)) = (((∑ j, g j) * (1 / 1024) : ℝ) : EReal) := by
  rw [mean, columns_real, sum_real, Ideal.div_coe (by norm_num), ← EReal.coe_mul]

/-- A row of reals less its mean. -/
theorem centred_real (g : Fin 1024 → ℝ) (j : Fin 1024) :
    centred (fun j => (g j : EReal)) j = ((g j - (∑ j, g j) * (1 / 1024) : ℝ) : EReal) := by
  rw [centred, mean_real, ← EReal.coe_sub]

/-- For rows of reals the chain rule's gradient is the short one. -/
theorem chain_eq_slope (f d : Fin 1024 → EReal) (hf : ∀ j, ∃ r : ℝ, f j = (r : EReal)) (hd : ∀ j, ∃ r : ℝ, d j = (r : EReal))
    (j : Fin 1024) : chain f d j = slope f d j := by
  choose g hg using hf
  choose e he using hd
  obtain rfl : f = fun j => (g j : EReal) := funext hg
  obtain rfl : d = fun j => (e j : EReal) := funext he
  obtain ⟨z, hz, hz'⟩ := tiny_real
  set c : Fin 1024 → ℝ := fun j => g j - (∑ j, g j) * (1 / 1024) with hc
  have hcen : ∀ j, centred (fun j => (g j : EReal)) j = (c j : EReal) := centred_real g
  have hsum : ∑ j, c j = 0 := by
    simp only [hc, Finset.sum_sub_distrib, Finset.sum_const, Finset.card_univ, Fintype.card_fin, nsmul_eq_mul]
    push_cast
    ring
  set v : ℝ := (∑ j, c j * c j) * (1 / 1024) + z with hv
  have hvpos : 0 < v := by
    have : 0 ≤ ∑ j, c j * c j := Finset.sum_nonneg fun j _ => mul_self_nonneg _
    rw [hv]; positivity
  have hspread : spread (fun j => (g j : EReal)) = (v : EReal) := by
    rw [spread]
    simp only [hcen, ← EReal.coe_mul]
    rw [mean_real, hz', ← EReal.coe_add]
  set s : ℝ := (Real.sqrt v)⁻¹ with hs
  have hscale : scale (fun j => (g j : EReal)) = (s : EReal) := by
    have : scale (fun j => (g j : EReal)) = Ideal.rsqrt (spread (fun j => (g j : EReal))) := rfl
    rw [this, hspread, Ideal.rsqrt_coe, if_neg (not_lt.mpr hvpos.le), if_neg hvpos.ne']
  have hss : s * s = 1 / v := by
    rw [hs, ← mul_inv, Real.mul_self_sqrt hvpos.le, one_div]
  have halong : ∀ j, alongVariance (fun j => (g j : EReal)) (fun j => (e j : EReal)) j
      = ((((∑ j, c j * e j) * (-(1 / 2) * (s * (1 / v)))) * (1 / 1024) * (2 * c j) : ℝ) : EReal) := by
    intro j
    rw [alongVariance, hspread, hscale, minusHalf_real, two_real, columns_real, Ideal.div_coe hvpos.ne',
      Ideal.div_coe (by norm_num)]
    simp only [hcen, ← EReal.coe_mul, sum_real]
  rw [chain, slope]
  simp only [normed, halong, hcen, hscale, columns_real, ← EReal.coe_mul, ← EReal.coe_neg, mean_real, sum_real,
    ← EReal.coe_add, ← EReal.coe_sub]
  rw [Ideal.div_coe (by norm_num), ← EReal.coe_mul, ← EReal.coe_add]
  refine congrArg _ ?_
  have h1 : ∑ j, -(((∑ j, c j * e j) * (-(1 / 2) * (s * (1 / v)))) * (1 / 1024) * (2 * c j)) = 0 := by
    rw [Finset.sum_neg_distrib, ← Finset.mul_sum, ← Finset.mul_sum, hsum]
    ring
  have h2 : ∑ j, -(e j * s) = -((∑ j, e j) * s) := by rw [Finset.sum_neg_distrib, ← Finset.sum_mul]
  have h3 : ∑ j, e j * (c j * s) = (∑ j, c j * e j) * s := by
    rw [Finset.sum_mul]
    exact Finset.sum_congr rfl fun j _ => by ring
  rw [h1, h2, h3, ← hss]
  ring

end Cert.Norm
end
-- ==== Proof.UpNorm.lean ====
/-
  The gradient through the product of the feed-forward layer and the norm before it: the kernel adds eight products
  of 768 columns to the weighted gradient of the residual and takes the short form of a norm's gradient; the
  reference's derivative is one product over all columns and the chain rule.
-/
module
public import proofs.«01_k».proof.Defs
public import proofs.«01_k».proof.Proof.NormGrad
public import proofs.«01_k».proof.Proof.Finite
public import proofs.«01_k».proof.Proof.Gen.KernelUpNormIdeal.Value
public import proofs.«01_k».proof.Proof.Gen.ReferenceUpNormIdeal.Run
public import proofs.«01_k».proof.Proof.Gen.ReferenceUpNormIdeal.Read
public import Idealize.ShloMosaic.Lib.Pipeline.ReadBack

@[expose] public section
set_option maxRecDepth 16384
noncomputable section
namespace Cert.UpNorm
open Idealize.ShloMosaic Idealize.ShloMosaic.TcCoe Idealize.SL.Sem Cert.Norm

/-- Rows of the residual stream, over the extended reals. -/
abbrev Acts := (⟨2, ![8192, 1024]⟩ : Shape).Idx → EReal
/-- One half of the gradient of the layer's product. -/
abbrev Wide := (⟨2, ![8192, 3072]⟩ : Shape).Idx → EReal
/-- The layer's weight, in eight blocks of 768 columns. -/
abbrev Weight := (⟨3, ![8, 1024, 768]⟩ : Shape).Idx → EReal
/-- The norm's gain, or its gradient. -/
abbrev Gain := (⟨2, ![1, 1024]⟩ : Shape).Idx → EReal

/-- A scale per row, written 128 times. -/
abbrev Scales := (⟨2, ![8192, 128]⟩ : Shape).Idx → EReal

/-- The two halves of the product's gradient, one after the other. -/
def halves (u g : Wide) (r : Fin 8192) (n : Fin 6144) : EReal :=
  if h : n.val < 3072 then u (ix2 r ⟨n.val, h⟩) else g (ix2 r ⟨n.val - 3072, by omega⟩)

/-- Column `k` of the `s`-th block of 768. -/
def column (s : Fin 8) (k : Fin 768) : Fin 6144 := ⟨768 * s.val + k.val, by omega⟩

/-- The gradient of the norm's result: the weighted gradient of the residual and the product's gradient through
    the weight. -/
def upstream (dy : Acts) (u g : Wide) (w : Weight) (r : Fin 8192) (j : Fin 1024) : EReal :=
  keep * dy (ix2 r j) + ∑ s : Fin 8, ∑ k : Fin 768, halves u g r (column s k) * w (ix3 s j k)

/-- The row that was normed. -/
def line (x : Acts) (r : Fin 8192) (j : Fin 1024) : EReal := x (ix2 r j)
/-- The gradient of the normed row. -/
def inward (a : Gain) (dy : Acts) (u g : Wide) (w : Weight) (r : Fin 8192) (j : Fin 1024) : EReal :=
  upstream dy u g w r j * a (ix2 0 j)
/-- The gradient of the rows. -/
def dx (x : Acts) (a : Gain) (dy : Acts) (u g : Wide) (w : Weight) : Acts := fun i =>
  slope (line x (i 0)) (inward a dy u g w (i 0)) (i 1)
/-- The gradient of the norm's gain. -/
def dgain (x : Acts) (dy : Acts) (u g : Wide) (w : Weight) : Gain := fun i =>
  ∑ r, upstream dy u g w r (i 1) * normed (line x r) (i 1)
/-- The gradient of the norm's shift. -/
def dshift (dy : Acts) (u g : Wide) (w : Weight) : Gain := fun i => ∑ r, upstream dy u g w r (i 1)

section
open Cert.KernelUpNormIdeal Cert.KernelUpNormIdeal.Gen

variable (m : (ℓ : Loc nD τ sig) → Buf (Elt Ideal) ℓ)

/-- The blocks a point stages: 256 rows, the two halves of the weight and the gain. -/
theorem staged : ∀ t : Fin cfg0.N, win0_0.index t = ![t.val, 0] ∧ win0_1.index t = ![0, 0, 0]
    ∧ win0_2.index t = ![t.val, 0] ∧ win0_3.index t = ![1, 0, 0] ∧ win0_4.index t = ![t.val, 0] ∧ win0_5.index t = ![t.val, 0]
    ∧ win0_6.index t = ![t.val, 0] ∧ win0_7.index t = ![0, 0] ∧ win0_8.index t = ![t.val, 0] ∧ win0_9.index t = ![t.val, 0]
    ∧ win0_10.index t = ![0, 0] ∧ win0_11.index t = ![0, 0] := by decide +kernel

/-- Row `r` of a point's block. -/
def row (t : Fin cfg0.N) (r : Fin 256) : Fin 8192 := ⟨256 * t.val + r.val, by have : t.val < 32 := t.isLt; omega⟩

/-- The normed rows, as the host saves them. -/
theorem saved_hat (c : Dev nD) (r : Fin 8192) (j : Fin 1024) :
    (V m c main_v17 : Acts) (ix2 r j) = normed (line (m ((c.tc : Thread nD τ).loc main_arg0)) r) j := by
  change StableHlo.after hostOps0 (fun b => m (c, b)) (Proc.devRef .tc main_v17) (ix2 r j) = _
  after_results
  change _ = normed (line (m (c, Proc.tc.devRef main_arg0)) r) j
  generalize m (c, Proc.tc.devRef main_arg0) = x
  pointwise
  rfl

/-- The rows' scales, as the host saves them. -/
theorem saved_scale (c : Dev nD) (r : Fin 8192) (j : Fin 128) :
    (V m c main_v18 : Scales) (ix2 r j) = scale (line (m ((c.tc : Thread nD τ).loc main_arg0)) r) := by
  change StableHlo.after hostOps0 (fun b => m (c, b)) (Proc.devRef .tc main_v18) (ix2 r j) = _
  after_results
  change _ = scale (line (m (c, Proc.tc.devRef main_arg0)) r)
  generalize m (c, Proc.tc.devRef main_arg0) = x
  pointwise
  rfl

/-- An entry of the first half of the product's gradient, in a point's block. -/
theorem first_entry (c : Dev nD) (t : Fin cfg0.N) (r : Fin 256) (p : Fin 3072) (n : Fin 6144) (h : n.val = p.val) :
    (fun (u : Vec Ideal S256x3072 .bf16) => (u (ix2 r p) : EReal)) (iblk m c 0 t)
      = halves (V m c main_arg3) (V m c main_arg4) (row t r) n := by
  unfold halves row
  rw [dif_pos (by omega)]
  blk_ext [iblk, V, staged t]

/-- An entry of the second half. -/
theorem second_entry (c : Dev nD) (t : Fin cfg0.N) (r : Fin 256) (p : Fin 3072) (n : Fin 6144) (h : n.val = 3072 + p.val) :
    (fun (u : Vec Ideal S256x3072 .bf16) => (u (ix2 r p) : EReal)) (iblk m c 2 t)
      = halves (V m c main_arg3) (V m c main_arg4) (row t r) n := by
  unfold halves row
  rw [dif_neg (by omega)]
  blk_ext [iblk, V, staged t]

/-- An entry of the weight's first half. -/
theorem first_weight (c : Dev nD) (t : Fin cfg0.N) (p : Fin 4) (s : Fin 8) (h : s.val = p.val) (j : Fin 1024) (k : Fin 768) :
    (fun (w : Vec Ideal S4x1024x768 .bf16) => (w (ix3 p j k) : EReal)) (iblk m c 1 t) = (V m c main_arg5 : Weight) (ix3 s j k) := by
  blk_ext [iblk, V, staged t]

/-- An entry of the weight's second half. -/
theorem second_weight (c : Dev nD) (t : Fin cfg0.N) (p : Fin 4) (s : Fin 8) (h : s.val = 4 + p.val) (j : Fin 1024) (k : Fin 768) :
    (fun (w : Vec Ideal S4x1024x768 .bf16) => (w (ix3 p j k) : EReal)) (iblk m c 3 t) = (V m c main_arg5 : Weight) (ix3 s j k) := by
  blk_ext [iblk, V, staged t]

/-- What block `s` of the weight adds to an entry of the norm's gradient. -/
def share (c : Dev nD) (r : Fin 8192) (j : Fin 1024) (s : Fin 8) : EReal :=
  ∑ k : Fin 768, halves (V m c main_arg3) (V m c main_arg4) r (column s k) * (V m c main_arg5 : Weight) (ix3 s j k)

/-- The first four products of a point. -/
abbrev firstFour (c : Dev nD) (t : Fin cfg0.N) : FVec Ideal S256x1024 .f32 :=
  k0_pay7 (F := Ideal) (iblk m c 4 t) (View.ld (iblk m c 0 t) (Rect.unit ![0, 0] ![256, 768] inb_S256x3072_S256x768_0_0))
    (View.ld (iblk m c 1 t) (Rect.unit ![0, 0, 0] ![1, 1024, 768] inb_S4x1024x768_S1x1024x768_0_0_0))
    (View.ld (iblk m c 0 t) (Rect.unit ![0, 768] ![256, 768] inb_S256x3072_S256x768_0_768))
    (View.ld (iblk m c 1 t) (Rect.unit ![1, 0, 0] ![1, 1024, 768] inb_S4x1024x768_S1x1024x768_1_0_0))
    (View.ld (iblk m c 0 t) (Rect.unit ![0, 1536] ![256, 768] inb_S256x3072_S256x768_0_1536))
    (View.ld (iblk m c 1 t) (Rect.unit ![2, 0, 0] ![1, 1024, 768] inb_S4x1024x768_S1x1024x768_2_0_0))
    (View.ld (iblk m c 0 t) (Rect.unit ![0, 2304] ![256, 768] inb_S256x3072_S256x768_0_2304))
    (View.ld (iblk m c 1 t) (Rect.unit ![3, 0, 0] ![1, 1024, 768] inb_S4x1024x768_S1x1024x768_3_0_0))

/-- A point's gradient of the norm's result. -/
abbrev eight (c : Dev nD) (t : Fin cfg0.N) : FVec Ideal S256x1024 .f32 :=
  k0_pay9 (firstFour m c t) (View.ld (iblk m c 2 t) (Rect.unit ![0, 0] ![256, 768] inb_S256x3072_S256x768_0_0))
    (k0_pay8 (View.ld (iblk m c 3 t) (Rect.unit ![0, 0, 0] ![1, 1024, 768] inb_S4x1024x768_S1x1024x768_0_0_0)))
    (constant S256x1024 FTy.f32 0#32)
    (View.ld (iblk m c 2 t) (Rect.unit ![0, 768] ![256, 768] inb_S256x3072_S256x768_0_768))
    (View.ld (iblk m c 3 t) (Rect.unit ![1, 0, 0] ![1, 1024, 768] inb_S4x1024x768_S1x1024x768_1_0_0))
    (View.ld (iblk m c 2 t) (Rect.unit ![0, 1536] ![256, 768] inb_S256x3072_S256x768_0_1536))
    (View.ld (iblk m c 3 t) (Rect.unit ![2, 0, 0] ![1, 1024, 768] inb_S4x1024x768_S1x1024x768_2_0_0))
    (View.ld (iblk m c 2 t) (Rect.unit ![0, 2304] ![256, 768] inb_S256x3072_S256x768_0_2304))
    (View.ld (iblk m c 3 t) (Rect.unit ![3, 0, 0] ![1, 1024, 768] inb_S4x1024x768_S1x1024x768_3_0_0))

/-- The first four products of a point, entry by entry. -/
theorem block_first (c : Dev nD) (t : Fin cfg0.N) (r : Fin 256) (j : Fin 1024) :
    firstFour m c t (ix2 r j) = keep * (V m c main_arg2 : Acts) (ix2 (row t r) j)
      + share m c (row t r) j 0 + share m c (row t r) j 1 + share m c (row t r) j 2 + share m c (row t r) j 3 := by
  unfold firstFour k0_pay7
  pointwise
  unfold share
  refine congrArg₂ (fun a b : EReal => a + b) (congrArg₂ (fun a b : EReal => a + b) (congrArg₂ (fun a b : EReal => a + b)
    (congrArg₂ (fun a b : EReal => a + b) (congrArg (fun a : EReal => keep * a) ?_) ?_) ?_) ?_) ?_
  · unfold row; blk_ext [iblk, V, staged t]
  all_goals
    refine Finset.sum_congr rfl fun k _ => ?_
    exact congrArg₂ (fun a b : EReal => a * b) (first_entry m c t r _ _ (by simp [column])) (first_weight m c t _ _ (by simp) j k)

/-- A point's gradient of the norm's result, entry by entry. -/
theorem block_upstream (c : Dev nD) (t : Fin cfg0.N) (r : Fin 256) (j : Fin 1024) :
    eight m c t (ix2 r j)
      = upstream (V m c main_arg2) (V m c main_arg3) (V m c main_arg4) (V m c main_arg5) (row t r) j := by
  have h := block_first m c t r j
  have e : upstream (V m c main_arg2) (V m c main_arg3) (V m c main_arg4) (V m c main_arg5) (row t r) j
      = keep * (V m c main_arg2 : Acts) (ix2 (row t r) j)
      + share m c (row t r) j 0 + share m c (row t r) j 1 + share m c (row t r) j 2 + share m c (row t r) j 3
      + share m c (row t r) j 4 + share m c (row t r) j 5 + share m c (row t r) j 6 + share m c (row t r) j 7 := by
    unfold upstream
    rw [Fin.sum_univ_eight]
    simp only [← add_assoc]
    rfl
  rw [e, ← h]
  unfold eight k0_pay9 k0_pay8
  generalize firstFour m c t = A
  pointwise
  unfold share
  refine congrArg₂ (fun a b : EReal => a + b) (congrArg₂ (fun a b : EReal => a + b) (congrArg₂ (fun a b : EReal => a + b)
    (congrArg (fun a : EReal => A (ix2 r j) + a) ?_) ?_) ?_) ?_
  all_goals
    refine Finset.sum_congr rfl fun k _ => ?_
    exact congrArg₂ (fun a b : EReal => a * b) (second_entry m c t r _ _ (by simp [column]; try omega)) (second_weight m c t _ _ (by simp) j k)

/-- The normed rows a point stages. -/
theorem block_hat (c : Dev nD) (t : Fin cfg0.N) (r : Fin 256) (j : Fin 1024) :
    (fun (x : Vec Ideal S256x1024 .f32) => (x (ix2 r j) : EReal)) (iblk m c 5 t) = normed (line (V m c main_arg0) (row t r)) j := by
  refine Eq.trans ?_ ((saved_hat m c (row t r) j).trans ?_)
  · unfold row; blk_ext [iblk, V, staged t]
  · rw [V_main_arg0]

/-- The scales a point stages. -/
theorem block_scale (c : Dev nD) (t : Fin cfg0.N) (r : Fin 256) (j : Fin 128) :
    (fun (x : Vec Ideal S256x128 .f32) => (x (ix2 r j) : EReal)) (iblk m c 6 t) = scale (line (V m c main_arg0) (row t r)) := by
  refine Eq.trans ?_ ((saved_scale m c (row t r) j).trans ?_)
  · unfold row; blk_ext [iblk, V, staged t]
  · rw [V_main_arg0]

/-- The gain a point stages. -/
theorem block_gain (c : Dev nD) (t : Fin cfg0.N) (j : Fin 1024) :
    (fun (x : Vec Ideal S1x1024 .f32) => (x (ix2 0 j) : EReal)) (iblk m c 7 t) = (V m c main_arg1 : Gain) (ix2 0 j) := by
  blk_ext [iblk, V, staged t]

/-- The short form of the norm's gradient, on a block of rows, from the gradient of the norm's result. -/
theorem block_slope (v22 : FVec Ideal S256x1024 .f32) (v23 : Vec Ideal S256x768 .bf16) (v25 : FVec Ideal S1024x768 .bf16)
    (z : FVec Ideal S256x1024 .f32) (v28 : Vec Ideal S256x768 .bf16) (v29 : Vec Ideal S1x1024x768 .bf16) (v33 : Vec Ideal S256x768 .bf16)
    (v34 : Vec Ideal S1x1024x768 .bf16) (v38 : Vec Ideal S256x768 .bf16) (v39 : Vec Ideal S1x1024x768 .bf16)
    (x : Vec Ideal S256x1024 .f32) (a : Vec Ideal S1x1024 .f32) (q : Vec Ideal S256x1 .f32)
    (f d : Fin 1024 → EReal) (b : Fin 1024 → EReal) (r : Fin 256) (j : Fin 1024)
    (hd : ∀ j, k0_pay9 v22 v23 v25 z v28 v29 v33 v34 v38 v39 (ix2 r j) = d j)
    (hx : ∀ j, x (ix2 r j) = normed f j) (ha : ∀ j, a (ix2 0 j) = b j) (hq : q (ix2 r 0) = scale f) :
    k0_pay1 (k0_pay10 x) (k0_pay11 v22 v23 v25 z v28 v29 v33 v34 v38 v39 a)
      (k0_pay12 v22 v23 v25 z v28 v29 v33 v34 v38 v39 a)
      (k0_pay13 v22 v23 v25 z v28 v29 v33 v34 v38 v39 x a) q (ix2 r j)
      = slope f (fun j => d j * b j) j := by
  unfold k0_pay1 k0_pay12 k0_pay13 k0_pay11 k0_pay10
  generalize k0_pay9 v22 v23 v25 z v28 v29 v33 v34 v38 v39 = A at hd ⊢
  pointwise
  simp only [hd, hx, ha, hq]
  rfl

/-- A point's gradient of the rows. -/
theorem block_dx (c : Dev nD) (t : Fin cfg0.N) (r : Fin 256) (j : Fin 1024) :
    (outsAt0 m c t.val t.isLt).1 (ix2 r j)
      = dx (V m c main_arg0) (V m c main_arg1) (V m c main_arg2) (V m c main_arg3) (V m c main_arg4) (V m c main_arg5) (ix2 (row t r) j) := by
  by_cases ht : t.val % 32 = 0
  on_goal 1 => rw [outsAt0_A m c t ht]
  on_goal 2 => rw [outsAt0_B m c t ht]
  all_goals
    frame_out
    refine block_slope _ _ _ _ _ _ _ _ _ _ _ _ _ _ _ _ r j (block_upstream m c t r) (block_hat m c t r) (block_gain m c t) ?_
    refine Eq.trans ?_ (block_scale m c t r 0)
    pointwise

/-- The same gradient in the second array. -/
theorem block_dx_rounded (c : Dev nD) (t : Fin cfg0.N) (r : Fin 256) (j : Fin 1024) :
    (outsAt0 m c t.val t.isLt).2.1 (ix2 r j)
      = dx (V m c main_arg0) (V m c main_arg1) (V m c main_arg2) (V m c main_arg3) (V m c main_arg4) (V m c main_arg5) (ix2 (row t r) j) := by
  by_cases ht : t.val % 32 = 0
  on_goal 1 => rw [outsAt0_A m c t ht]
  on_goal 2 => rw [outsAt0_B m c t ht]
  all_goals
    frame_out
    refine block_slope _ _ _ _ _ _ _ _ _ _ _ _ _ _ _ _ r j (block_upstream m c t r) (block_hat m c t r) (block_gain m c t) ?_
    refine Eq.trans ?_ (block_scale m c t r 0)
    pointwise

/-- What a point adds to an entry of the gain's gradient. -/
def gainPart (c : Dev nD) (t : Fin cfg0.N) (y : S1x1024.Idx) : EReal :=
  ∑ r : Fin 256, upstream (V m c main_arg2) (V m c main_arg3) (V m c main_arg4) (V m c main_arg5) (row t r) (y 1)
    * normed (line (V m c main_arg0) (row t r)) (y 1)
/-- What a point adds to an entry of the shift's gradient. -/
def shiftPart (c : Dev nD) (t : Fin cfg0.N) (y : S1x1024.Idx) : EReal :=
  ∑ r : Fin 256, upstream (V m c main_arg2) (V m c main_arg3) (V m c main_arg4) (V m c main_arg5) (row t r) (y 1)

/-- The sums of a block's rows, added to what is there. -/
theorem block_dgain (A : FVec Ideal S256x1024 .f32) (x : Vec Ideal S256x1024 .f32) (o : Vec Ideal S1x1024 .f32)
    (d n : Fin 256 → EReal) (j : Fin 1024) (hd : ∀ r, A (ix2 r j) = d r) (hx : ∀ r, x (ix2 r j) = n r) :
    k0_pay5 A (k0_pay10 x) o (ix2 0 j) = o (ix2 0 j) + ∑ r, d r * n r := by
  unfold k0_pay5 k0_pay10
  pointwise
  simp only [hd, hx]

/-- The sums of a block's rows, added to what is there. -/
theorem block_dshift (A : FVec Ideal S256x1024 .f32) (o : Vec Ideal S1x1024 .f32)
    (d : Fin 256 → EReal) (j : Fin 1024) (hd : ∀ r, A (ix2 r j) = d r) :
    k0_pay6 A o (ix2 0 j) = o (ix2 0 j) + ∑ r, d r := by
  unfold k0_pay6
  pointwise
  simp only [hd]

/-- The gain's gradient after the first point. -/
theorem gain_first (c : Dev nD) (t : Fin cfg0.N) (h : t.val % 32 = 0) (y : S1x1024.Idx) :
    (outsAt0 m c t.val t.isLt).2.2.1 y = 0 + gainPart m c t y := by
  rw [outsAt0_A m c t h]
  frame_out
  idx_vars y
  obtain rfl : y0 = 0 := Fin.eq_zero y0
  refine (block_dgain _ _ _ _ _ y1 (fun r => block_upstream m c t r y1) (fun r => block_hat m c t r y1)).trans ?_
  unfold k0_pay3
  pointwise
  rfl

/-- The gain's gradient after any other point. -/
theorem gain_next (c : Dev nD) (t : Fin cfg0.N) (h : ¬ t.val % 32 = 0) (y : S1x1024.Idx) :
    (outsAt0 m c t.val t.isLt).2.2.1 y
      = (outsAt0 m c (t.val - 1) (Nat.lt_of_le_of_lt (Nat.sub_le _ _) t.isLt)).2.2.1 y + gainPart m c t y := by
  rw [outsAt0_B m c t h]
  frame_out
  idx_vars y
  obtain rfl : y0 = 0 := Fin.eq_zero y0
  refine (block_dgain _ _ _ _ _ y1 (fun r => block_upstream m c t r y1) (fun r => block_hat m c t r y1)).trans ?_
  rfl

/-- The shift's gradient after the first point. -/
theorem shift_first (c : Dev nD) (t : Fin cfg0.N) (h : t.val % 32 = 0) (y : S1x1024.Idx) :
    (outsAt0 m c t.val t.isLt).2.2.2 y = 0 + shiftPart m c t y := by
  rw [outsAt0_A m c t h]
  frame_out
  idx_vars y
  obtain rfl : y0 = 0 := Fin.eq_zero y0
  refine (block_dshift _ _ _ y1 (fun r => block_upstream m c t r y1)).trans ?_
  unfold k0_pay4
  pointwise
  rfl

/-- The shift's gradient after any other point. -/
theorem shift_next (c : Dev nD) (t : Fin cfg0.N) (h : ¬ t.val % 32 = 0) (y : S1x1024.Idx) :
    (outsAt0 m c t.val t.isLt).2.2.2 y
      = (outsAt0 m c (t.val - 1) (Nat.lt_of_le_of_lt (Nat.sub_le _ _) t.isLt)).2.2.2 y + shiftPart m c t y := by
  rw [outsAt0_B m c t h]
  frame_out
  idx_vars y
  obtain rfl : y0 = 0 := Fin.eq_zero y0
  refine (block_dshift _ _ _ y1 (fun r => block_upstream m c t r y1)).trans ?_
  rfl

/-- Thirty-two blocks of 256 rows are the 8192 rows. -/
theorem sum_rows (f : Fin 8192 → EReal) (b : Fin 32 → ℕ) (hb : ∀ s, b s = s.val) (hs : ∀ s, b s < 32) :
    ∑ s : Fin 32, ∑ r : Fin 256, f (row ⟨b s, hs s⟩ r) = ∑ r, f r :=
  Fin.sum_mul_add_congr fun s r hl => congrArg f (Fin.ext (by simp only [row, hb]; omega))

/-- The gain's gradient after the last point. -/
theorem gain_last (c : Dev nD) (t : Fin cfg0.N) (ht : t.val % 32 = 31) (y : S1x1024.Idx) :
    (outsAt0 m c t.val t.isLt).2.2.1 y
      = dgain (V m c main_arg0) (V m c main_arg2) (V m c main_arg3) (V m c main_arg4) (V m c main_arg5) (ix2 (y 0) (y 1)) := by
  rw [Pipeline.eq_sum_fin_of_reset_step_apply_of_flush (fun n h => (outsAt0 m c n h).2.2.1) 32 (fun _ => 0) (gainPart m c)
    (fun t h => gain_first m c t h) (fun t h => gain_next m c t h) t ht, zero_add]
  have hN : t.val < 32 := t.isLt
  refine Eq.trans (Finset.sum_congr rfl fun s _ => ?_) (sum_rows (fun r => upstream (V m c main_arg2) (V m c main_arg3) (V m c main_arg4) (V m c main_arg5) r (y 1)
    * normed (line (V m c main_arg0) r) (y 1)) (fun s => (32 * (t.val / 32) + s.val)) (fun s => by omega) (fun s => by omega))
  rfl

/-- The shift's gradient after the last point. -/
theorem shift_last (c : Dev nD) (t : Fin cfg0.N) (ht : t.val % 32 = 31) (y : S1x1024.Idx) :
    (outsAt0 m c t.val t.isLt).2.2.2 y
      = dshift (V m c main_arg2) (V m c main_arg3) (V m c main_arg4) (V m c main_arg5) (ix2 (y 0) (y 1)) := by
  rw [Pipeline.eq_sum_fin_of_reset_step_apply_of_flush (fun n h => (outsAt0 m c n h).2.2.2) 32 (fun _ => 0) (shiftPart m c)
    (fun t h => shift_first m c t h) (fun t h => shift_next m c t h) t ht, zero_add]
  have hN : t.val < 32 := t.isLt
  refine Eq.trans (Finset.sum_congr rfl fun s _ => ?_) (sum_rows (fun r => upstream (V m c main_arg2) (V m c main_arg3) (V m c main_arg4) (V m c main_arg5) r (y 1)) (fun s => (32 * (t.val / 32) + s.val)) (fun s => by omega) (fun s => by omega))
  rfl

/-- The rows' gradient after the run. -/
theorem kernel_dx (c : Dev nD) : (dats m 0 c).arrAt 8 cfg0.N
    = dx (V m c main_arg0) (V m c main_arg1) (V m c main_arg2) (V m c main_arg3) (V m c main_arg4) (V m c main_arg5) := by
  refine (dats m 0 c).arrAt_eq_of_covers 8 _ (by decide +kernel) fun t hf y => ?_
  blk_simp
  rw [after0_8]
  idx_vars y
  refine (block_dx m c t y0 y1).trans ?_
  unfold row
  blk_ext [iblk, V, staged t]

/-- The second array after the run. -/
theorem kernel_dx_rounded (c : Dev nD) : (dats m 0 c).arrAt 9 cfg0.N
    = dx (V m c main_arg0) (V m c main_arg1) (V m c main_arg2) (V m c main_arg3) (V m c main_arg4) (V m c main_arg5) := by
  refine (dats m 0 c).arrAt_eq_of_covers 9 _ (by decide +kernel) fun t hf y => ?_
  blk_simp
  rw [after0_9]
  idx_vars y
  refine (block_dx_rounded m c t y0 y1).trans ?_
  unfold row
  blk_ext [iblk, V, staged t]

/-- The gain's gradient after the run. -/
theorem kernel_dgain (c : Dev nD) : (dats m 0 c).arrAt 10 cfg0.N
    = dgain (V m c main_arg0) (V m c main_arg2) (V m c main_arg3) (V m c main_arg4) (V m c main_arg5) := by
  refine (dats m 0 c).arrAt_eq_of_covers 10 _ (by decide +kernel) fun t hf y => ?_
  blk_simp
  rw [after0_10]
  idx_vars y
  refine (gain_last m c t ((flush0_10 t).mp hf) _).trans ?_
  blk_ext [iblk, V, staged t]

/-- The shift's gradient after the run. -/
theorem kernel_dshift (c : Dev nD) : (dats m 0 c).arrAt 11 cfg0.N
    = dshift (V m c main_arg2) (V m c main_arg3) (V m c main_arg4) (V m c main_arg5) := by
  refine (dats m 0 c).arrAt_eq_of_covers 11 _ (by decide +kernel) fun t hf y => ?_
  blk_simp
  rw [after0_11]
  idx_vars y
  refine (shift_last m c t ((flush0_11 t).mp hf) _).trans ?_
  blk_ext [iblk, V, staged t]
end

section
open Cert.ReferenceUpNormIdeal Cert.ReferenceUpNormIdeal.Read

variable (x : Acts) (a : Gain) (dy : Acts) (u g : Wide) (w : Weight)

/-- The reference's means. -/
theorem reference_mean (r : Fin 8192) (i : Fin 1) : val_main_v9 (F := Ideal) x (ix2 r i) = mean (line x r) := by
  unfold val_main_v9 val_main_v8 val_main_v7 val_main_v6 val_main_cst_1 val_main_cst_0
  pointwise
  rfl

/-- The reference's rows less their means. -/
theorem reference_centred (r : Fin 8192) (j : Fin 1024) : val_main_v11 (F := Ideal) x (ix2 r j) = centred (line x r) j := by
  have h := reference_mean x r 0
  unfold val_main_v11 val_main_v10
  generalize val_main_v9 (F := Ideal) x = y at h ⊢
  pointwise
  rw [h]
  rfl

/-- The same, where the reference takes the mean off again. -/
theorem reference_centred_again (r : Fin 8192) (j : Fin 1024) : val_main_v20 (F := Ideal) x (ix2 r j) = centred (line x r) j :=
  reference_centred x r j

/-- The reference's variances. -/
theorem reference_spread (r : Fin 8192) (i : Fin 1) : val_main_v22 (F := Ideal) x (ix2 r i) = spread (line x r) := by
  have h := reference_centred x r
  unfold val_main_v22 val_main_v21 val_main_v18 val_main_v17 val_main_v16 val_main_v15 val_main_v12 val_main_cst_3 val_main_cst_4 val_main_cst_5
  generalize val_main_v11 (F := Ideal) x = y at h ⊢
  pointwise
  simp only [h]
  rfl

/-- The reference's scales. -/
theorem reference_scale (r : Fin 8192) (i : Fin 1) : val_main_v23 (F := Ideal) x (ix2 r i) = scale (line x r) := by
  have h := reference_spread x r i
  unfold val_main_v23
  generalize val_main_v22 (F := Ideal) x = y at h ⊢
  pointwise
  rw [h]
  rfl

/-- What the reference's derivative of the root multiplies. -/
theorem reference_root (r : Fin 8192) (i : Fin 1) :
    val_main_v26 (F := Ideal) x (ix2 r i) = minusHalf * Ideal.div (scale (line x r)) (spread (line x r)) := by
  have h := reference_spread x r i
  have h' := reference_scale x r i
  unfold val_main_v26 val_main_v25 val_main_v24 val_main_cst_6
  generalize val_main_v23 (F := Ideal) x = z at h' ⊢
  generalize val_main_v22 (F := Ideal) x = y at h ⊢
  pointwise
  rw [h, h']
  rfl

/-- The reference's normed rows. -/
theorem reference_hat (r : Fin 8192) (j : Fin 1024) : val_main_v28 (F := Ideal) x (ix2 r j) = normed (line x r) j := by
  have h := reference_centred_again x r j
  have h' := reference_scale x r 0
  unfold val_main_v28 val_main_v27
  generalize val_main_v23 (F := Ideal) x = z at h' ⊢
  generalize val_main_v20 (F := Ideal) x = y at h ⊢
  pointwise
  rw [h, h']
  rfl

/-- The reference's gradient of the norm's result. -/
theorem reference_upstream (r : Fin 8192) (j : Fin 1024) : val_main_v39 (F := Ideal) dy u g w (ix2 r j) = upstream dy u g w r j := by
  have hl : ∀ n : Fin 6144, val_main_v4 (F := Ideal) u g (ix2 r n) = halves u g r n := by
    intro n
    unfold val_main_v4 val_main_v3
    pointwise
    rfl
  have hw : ∀ (s : Fin 8) (k : Fin 768), val_main_v2 (F := Ideal) w (ix2 j (column s k)) = w (ix3 s j k) := by
    intro s k
    rw [val_main_v2_apply, val_main_v1_apply, val_main_v0_apply]
    refine congrArg w ?_
    funext a
    match a with
    | ⟨0, _⟩ => exact Fin.ext (by simp [idx_main_v1, idx_main_v2, column]; omega)
    | ⟨1, _⟩ => exact Fin.ext (by simp [idx_main_v1, idx_main_v2, column]; omega)
    | ⟨2, _⟩ => exact Fin.ext (by simp [idx_main_v1, idx_main_v2, column]; omega)
  unfold val_main_v39 val_main_v38 val_main_v37 val_main_v36 val_main_cst_8
  generalize val_main_v4 (F := Ideal) u g = y at hl ⊢
  generalize val_main_v2 (F := Ideal) w = z at hw ⊢
  pointwise
  unfold upstream
  refine congrArg₂ (fun a b : EReal => a + b) ?_ (Eq.symm ?_)
  · rfl
  refine Fin.sum_mul_add_congr fun s k hl' => ?_
  rw [← hl, ← hw]
  have e : column s k = ⟨s.val * 768 + k.val, hl'⟩ := Fin.ext (by simp only [column]; omega)
  rw [e]

/-- The reference's gradient of the normed rows. -/
theorem reference_inward (r : Fin 8192) (j : Fin 1024) : val_main_v46 (F := Ideal) a dy u g w (ix2 r j) = inward a dy u g w r j := by
  have h := reference_upstream dy u g w r j
  unfold val_main_v46 val_main_v45
  generalize val_main_v39 (F := Ideal) dy u g w = y at h ⊢
  pointwise
  rw [h]
  rfl

/-- The reference's gradient of the shift. -/
theorem reference_dshift : val_main_v41 (F := Ideal) dy u g w = dshift dy u g w := by
  funext i
  idx_vars i
  have h := fun r => reference_upstream dy u g w r i1
  unfold val_main_v41 val_main_v40 val_main_cst_9
  generalize val_main_v39 (F := Ideal) dy u g w = y at h ⊢
  pointwise
  simp only [h]
  rfl

/-- The reference's gradient of the gain. -/
theorem reference_dgain : val_main_v44 (F := Ideal) x dy u g w = dgain x dy u g w := by
  funext i
  idx_vars i
  have h := fun r => reference_upstream dy u g w r i1
  have h' := fun r => reference_hat x r i1
  unfold val_main_v44 val_main_v43 val_main_v42 val_main_cst_10
  generalize val_main_v39 (F := Ideal) dy u g w = y at h ⊢
  generalize val_main_v28 (F := Ideal) x = z at h' ⊢
  pointwise
  simp only [h, h']
  exact Finset.sum_congr rfl fun r _ => mul_comm _ _

/-- What reaches a row past the scale. -/
theorem reference_straight (r : Fin 8192) (j : Fin 1024) :
    val_main_v51 (F := Ideal) x a dy u g w (ix2 r j) = inward a dy u g w r j * scale (line x r) := by
  have h := reference_inward a dy u g w r j
  have h' := reference_scale x r 0
  unfold val_main_v51 val_main_v50
  generalize val_main_v46 (F := Ideal) a dy u g w = y at h ⊢
  generalize val_main_v23 (F := Ideal) x = z at h' ⊢
  pointwise
  rw [h, h']

/-- What reaches a row through its variance. -/
theorem reference_along (r : Fin 8192) (j : Fin 1024) :
    val_main_v60 (F := Ideal) x a dy u g w (ix2 r j) = alongVariance (line x r) (inward a dy u g w r) j := by
  have h := reference_inward a dy u g w r
  have hc := reference_centred x r
  have hc' := reference_centred_again x r
  have hr := reference_root x r
  unfold val_main_v60 val_main_v59 val_main_v58 val_main_v57 val_main_v56 val_main_v52 val_main_v49 val_main_v48 val_main_v47 val_main_v14 val_main_v13
    val_main_cst_2 val_main_cst_11 val_main_cst_13 val_main_cst_14
  generalize val_main_v46 (F := Ideal) a dy u g w = y at h ⊢
  generalize val_main_v26 (F := Ideal) x = z at hr ⊢
  generalize val_main_v20 (F := Ideal) x = p at hc' ⊢
  generalize val_main_v11 (F := Ideal) x = q at hc ⊢
  pointwise
  simp only [h, hc, hc', hr, Fin.sum_univ_one]
  rfl

/-- The reference's gradient of the rows, by the chain rule. -/
theorem reference_chain (r : Fin 8192) (j : Fin 1024) :
    val_main_v70 (F := Ideal) x a dy u g w (ix2 r j) = chain (line x r) (inward a dy u g w r) j := by
  have h := reference_straight x a dy u g w r
  have h' := reference_along x a dy u g w r
  unfold val_main_v70 val_main_v69 val_main_v68 val_main_v67 val_main_v66 val_main_v65 val_main_v64 val_main_v63 val_main_v62 val_main_v61
    val_main_v55 val_main_v54 val_main_v53 val_main_cst_12 val_main_cst_15 val_main_cst_16 val_main_cst_17
  generalize val_main_v51 (F := Ideal) x a dy u g w = y at h ⊢
  generalize val_main_v60 (F := Ideal) x a dy u g w = z at h' ⊢
  pointwise
  simp only [h, h', Fin.sum_univ_one]
  rfl

/-- The reference's gradient of the rows, for reals. -/
theorem reference_dx (hx : ∀ r j, ∃ z : ℝ, line x r j = (z : EReal)) (hd : ∀ r j, ∃ z : ℝ, inward a dy u g w r j = (z : EReal)) :
    val_main_v70 (F := Ideal) x a dy u g w = dx x a dy u g w := by
  funext i
  idx_vars i
  exact (reference_chain x a dy u g w i0 i1).trans (chain_eq_slope _ _ (hx i0) (hd i0) i1)

/-- The same gradient in the second array. -/
theorem reference_dx_rounded (hx : ∀ r j, ∃ z : ℝ, line x r j = (z : EReal)) (hd : ∀ r j, ∃ z : ℝ, inward a dy u g w r j = (z : EReal)) :
    val_main_v71 (F := Ideal) x a dy u g w = dx x a dy u g w := by
  funext i
  rw [val_main_v71_apply]
  exact congrFun (reference_dx x a dy u g w hx hd) i

/-- The reference ends with every counter at zero: it has none. -/
theorem frame_reference : Cert.quiescent_ReferenceUpNormIdeal := by
  intro m ρ _
  exact (θ_run defs _ _).mono (fun r h => ⟨fun c => (h c).2.2.2.2, sem_eq_zero_of_no_sems (by decide) r.2⟩) (Value.run (F := Ideal) m ρ)
end

section
variable [Cert.Pre_finite_up_norm.Facts] (x : Acts) (a : Gain) (dy : Acts) (u g : Wide) (w : Weight)

/-- Under the precondition the rows are reals. -/
theorem line_real (h : (Cert.Pre_finite_up_norm.fn (F := Ideal) x a dy u g w).1 = fun _ => 1#1) (r : Fin 8192) (j : Fin 1024) :
    ∃ z : ℝ, line x r j = (z : EReal) := by
  have h := congrFun h (ix2 r j)
  unfold Cert.Pre_finite_up_norm.fn Cert.Pre_finite_up_norm.fn_part1 at h
  pointwise at h
  exact Cert.Pre_finite.Hand.real_of_cmp (φ := .f32) h

/-- Under the precondition the gradient of the normed rows is real. -/
theorem inward_real (h1 : (Cert.Pre_finite_up_norm.fn (F := Ideal) x a dy u g w).2.1 = fun _ => 1#1)
    (h2 : (Cert.Pre_finite_up_norm.fn (F := Ideal) x a dy u g w).2.2.1 = fun _ => 1#1)
    (h3 : (Cert.Pre_finite_up_norm.fn (F := Ideal) x a dy u g w).2.2.2.1 = fun _ => 1#1)
    (h4 : (Cert.Pre_finite_up_norm.fn (F := Ideal) x a dy u g w).2.2.2.2.1 = fun _ => 1#1)
    (h5 : (Cert.Pre_finite_up_norm.fn (F := Ideal) x a dy u g w).2.2.2.2.2 = fun _ => 1#1)
    (r : Fin 8192) (j : Fin 1024) : ∃ z : ℝ, inward a dy u g w r j = (z : EReal) := by
  unfold Cert.Pre_finite_up_norm.fn Cert.Pre_finite_up_norm.fn_part1 at h1 h2 h3 h4 h5
  refine real_mul (real_add (real_mul keep_real ?_) (real_sum fun s => real_sum fun k => real_mul ?_ ?_)) ?_
  · have h := congrFun h2 (ix2 r j)
    pointwise at h
    exact Cert.Pre_finite.Hand.real_of_cmp (φ := .f32) h
  · unfold halves
    split
    · next hk =>
      have h := congrFun h3 (ix2 r ⟨(column s k).val, hk⟩)
      pointwise at h
      exact Cert.Pre_finite.Hand.real_of_cmp (φ := .f32) h
    · next hk =>
      have h := congrFun h4 (ix2 r ⟨(column s k).val - 3072, by omega⟩)
      pointwise at h
      exact Cert.Pre_finite.Hand.real_of_cmp (φ := .f32) h
  · have h := congrFun h5 (ix3 s j k)
    pointwise at h
    exact Cert.Pre_finite.Hand.real_of_cmp (φ := .f32) h
  · have h := congrFun h1 (ix2 0 j)
    pointwise at h
    exact Cert.Pre_finite.Hand.real_of_cmp (φ := .f32) h

set_option maxHeartbeats 1000000 in
/-- Kernel and reference leave the same arrays. -/
theorem equal : Cert.algebraic_KernelUpNormIdeal_ReferenceUpNormIdeal_pre_finite_up_norm := by
  intro m ρ m' ρ' hpre hag
  refine ⟨fun c => dx (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5)),
    fun c => dx (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg1)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5)),
    fun c => dgain (m ((c.tc : Thread Cert.KernelUpNormIdeal.nD Cert.KernelUpNormIdeal.τ).loc Cert.KernelUpNormIdeal.main_arg0)) (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5)),
    fun c => dshift (m ((c.tc : Thread Cert.KernelUpNormIdeal.nD Cert.KernelUpNormIdeal.τ).loc Cert.KernelUpNormIdeal.main_arg2)) (m ((c.tc : Thread Cert.KernelUpNormIdeal.nD Cert.KernelUpNormIdeal.τ).loc Cert.KernelUpNormIdeal.main_arg3)) (m ((c.tc : Thread Cert.KernelUpNormIdeal.nD Cert.KernelUpNormIdeal.τ).loc Cert.KernelUpNormIdeal.main_arg4)) (m ((c.tc : Thread Cert.KernelUpNormIdeal.nD Cert.KernelUpNormIdeal.τ).loc Cert.KernelUpNormIdeal.main_arg5)),
    (θ_run Cert.KernelUpNormIdeal.defs _ _).mono (fun r h c => ?_) (Cert.KernelUpNormIdeal.Value.run_blocks m ρ), ?_⟩
  · exact ⟨(h c).1.trans (kernel_dx m c), (h c).2.1.trans (kernel_dx_rounded m c), (h c).2.2.1.trans (kernel_dgain m c),
      (h c).2.2.2.1.trans (kernel_dshift m c), (h c).2.2.2.2⟩
  · refine (θ_run Cert.ReferenceUpNormIdeal.defs _ _).mono (fun r h c => ?_) (Cert.ReferenceUpNormIdeal.Value.run m' ρ')
    obtain ⟨a0, a1, a2, a3, a4, a5⟩ := hag c
    obtain ⟨p0, p1, p2, p3, p4, p5⟩ := hpre c
    have hx := line_real _ _ _ _ _ _ p0
    have hd := inward_real _ _ _ _ _ _ p1 p2 p3 p4 p5
    refine ⟨((h c).1.trans (Cert.ReferenceUpNormIdeal.Read.val_main_v70_eq m' c)).trans ?_,
      ((h c).2.1.trans (Cert.ReferenceUpNormIdeal.Read.val_main_v71_eq m' c)).trans ?_,
      ((h c).2.2.1.trans (Cert.ReferenceUpNormIdeal.Read.val_main_v44_eq _ _ _ _ _)).trans ?_,
      ((h c).2.2.2.1.trans (Cert.ReferenceUpNormIdeal.Read.val_main_v41_eq _ _ _ _)).trans ?_, (h c).2.2.2.2⟩
    · rw [a0, a1, a2, a3, a4, a5]
      exact reference_dx _ _ _ _ _ _ hx hd
    · rw [a0, a1, a2, a3, a4, a5]
      exact reference_dx_rounded _ _ _ _ _ _ hx hd
    · rw [a0, a2, a3, a4, a5]
      exact reference_dgain _ _ _ _ _
    · rw [a2, a3, a4, a5]
      exact reference_dshift _ _ _ _

end

end Cert.UpNorm
end
-- ==== Proof.InNorm.lean ====
/-
  The gradient through the two projections of the attention and the norm before them: the kernel adds two products to
  the weighted gradient of the residual and takes the short form of a norm's gradient; the reference's derivative
  takes the chain rule.
-/
module
public import proofs.«01_k».proof.Defs
public import proofs.«01_k».proof.Proof.NormGrad
public import proofs.«01_k».proof.Proof.Finite
public import proofs.«01_k».proof.Proof.Gen.KernelInNormIdeal.Value
public import proofs.«01_k».proof.Proof.Gen.ReferenceInNormIdeal.Run
public import proofs.«01_k».proof.Proof.Gen.ReferenceInNormIdeal.Read
public import Idealize.ShloMosaic.Lib.Pipeline.ReadBack

@[expose] public section
set_option maxRecDepth 16384
noncomputable section
namespace Cert.InNorm
open Idealize.ShloMosaic Idealize.ShloMosaic.TcCoe Idealize.SL.Sem Cert.Norm

/-- Rows of the residual stream, over the extended reals. -/
abbrev Acts := (⟨2, ![8192, 1024]⟩ : Shape).Idx → EReal
/-- The weight of the queries' projection. -/
abbrev Square := (⟨2, ![1024, 1024]⟩ : Shape).Idx → EReal
/-- The gradient of the keys' and values' projection. -/
abbrev Narrow := (⟨2, ![8192, 1664]⟩ : Shape).Idx → EReal
/-- The weight of the keys' and values' projection. -/
abbrev NarrowWeight := (⟨2, ![1024, 1664]⟩ : Shape).Idx → EReal
/-- The norm's gain, or its gradient. -/
abbrev Gain := (⟨2, ![1, 1024]⟩ : Shape).Idx → EReal

/-- A scale per row, written 128 times. -/
abbrev Scales := (⟨2, ![8192, 128]⟩ : Shape).Idx → EReal

/-- The gradient of the norm's result: the weighted gradient of the residual and the two projections' gradients
    through their weights. -/
def upstream (dy p : Acts) (q : Square) (f : Narrow) (w : NarrowWeight) (r : Fin 8192) (j : Fin 1024) : EReal :=
  keep * dy (ix2 r j) + ∑ k : Fin 1024, p (ix2 r k) * q (ix2 j k) + ∑ k : Fin 1664, f (ix2 r k) * w (ix2 j k)

/-- The row that was normed. -/
def line (x : Acts) (r : Fin 8192) (j : Fin 1024) : EReal := x (ix2 r j)
/-- The gradient of the normed row. -/
def inward (a : Gain) (dy p : Acts) (q : Square) (f : Narrow) (w : NarrowWeight) (r : Fin 8192) (j : Fin 1024) : EReal :=
  upstream dy p q f w r j * a (ix2 0 j)
/-- The gradient of the rows. -/
def dx (x : Acts) (a : Gain) (dy p : Acts) (q : Square) (f : Narrow) (w : NarrowWeight) : Acts := fun i =>
  slope (line x (i 0)) (inward a dy p q f w (i 0)) (i 1)
/-- The gradient of the norm's gain. -/
def dgain (x : Acts) (dy p : Acts) (q : Square) (f : Narrow) (w : NarrowWeight) : Gain := fun i =>
  ∑ r, upstream dy p q f w r (i 1) * normed (line x r) (i 1)
/-- The gradient of the norm's shift. -/
def dshift (dy p : Acts) (q : Square) (f : Narrow) (w : NarrowWeight) : Gain := fun i => ∑ r, upstream dy p q f w r (i 1)

section
open Cert.KernelInNormIdeal Cert.KernelInNormIdeal.Gen

variable (m : (ℓ : Loc nD τ sig) → Buf (Elt Ideal) ℓ)

/-- The blocks a point stages: 512 rows, the two weights and the gain. -/
theorem staged : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0]
    ∧ win0_8.index t = ![t.val, 0] ∧ win0_9.index t = ![t.val, 0] ∧ win0_10.index t = ![0, 0] ∧ win0_11.index t = ![0, 0] := by decide +kernel

/-- Row `r` of a point's block. -/
def row (t : Fin cfg0.N) (r : Fin 512) : Fin 8192 := ⟨512 * t.val + r.val, by have : t.val < 16 := t.isLt; omega⟩

/-- The normed rows, as the host saves them. -/
theorem saved_hat (c : Dev nD) (r : Fin 8192) (j : Fin 1024) :
    (V m c main_v17 : Acts) (ix2 r j) = normed (line (m ((c.tc : Thread nD τ).loc main_arg0)) r) j := by
  change StableHlo.after hostOps0 (fun b => m (c, b)) (Proc.devRef .tc main_v17) (ix2 r j) = _
  after_results
  change _ = normed (line (m (c, Proc.tc.devRef main_arg0)) r) j
  generalize m (c, Proc.tc.devRef main_arg0) = x
  pointwise
  rfl

/-- The rows' scales, as the host saves them. -/
theorem saved_scale (c : Dev nD) (r : Fin 8192) (j : Fin 128) :
    (V m c main_v18 : Scales) (ix2 r j) = scale (line (m ((c.tc : Thread nD τ).loc main_arg0)) r) := by
  change StableHlo.after hostOps0 (fun b => m (c, b)) (Proc.devRef .tc main_v18) (ix2 r j) = _
  after_results
  change _ = scale (line (m (c, Proc.tc.devRef main_arg0)) r)
  generalize m (c, Proc.tc.devRef main_arg0) = x
  pointwise
  rfl

/-- A point's gradient of the norm's result, entry by entry. -/
theorem block_upstream (c : Dev nD) (t : Fin cfg0.N) (r : Fin 512) (j : Fin 1024) :
    k0_pay6 (F := Ideal) (iblk m c 4 t) (iblk m c 0 t) (iblk m c 1 t) (iblk m c 2 t) (iblk m c 3 t) (ix2 r j)
      = upstream (V m c main_arg2) (V m c main_arg3) (V m c main_arg4) (V m c main_arg5) (V m c main_arg6) (row t r) j := by
  unfold k0_pay6
  pointwise
  unfold upstream
  refine congrArg₂ (fun a b : EReal => a + b) (congrArg₂ (fun a b : EReal => a + b) (congrArg (fun a : EReal => keep * a) ?_)
    (Finset.sum_congr rfl fun k _ => ?_)) (Finset.sum_congr rfl fun k _ => ?_)
  · unfold row; blk_ext [iblk, V, staged t]
  · refine congrArg₂ (fun a b : EReal => a * b) ?_ ?_
    · unfold row; blk_ext [iblk, V, staged t]
    · blk_ext [iblk, V, staged t]
  · refine congrArg₂ (fun a b : EReal => a * b) ?_ ?_
    · unfold row; blk_ext [iblk, V, staged t]
    · blk_ext [iblk, V, staged t]

/-- The normed rows a point stages. -/
theorem block_hat (c : Dev nD) (t : Fin cfg0.N) (r : Fin 512) (j : Fin 1024) :
    (fun (x : Vec Ideal S512x1024 .f32) => (x (ix2 r j) : EReal)) (iblk m c 5 t) = normed (line (V m c main_arg0) (row t r)) j := by
  refine Eq.trans ?_ ((saved_hat m c (row t r) j).trans ?_)
  · unfold row; blk_ext [iblk, V, staged t]
  · rw [V_main_arg0]

/-- The scales a point stages. -/
theorem block_scale (c : Dev nD) (t : Fin cfg0.N) (r : Fin 512) (j : Fin 128) :
    (fun (x : Vec Ideal S512x128 .f32) => (x (ix2 r j) : EReal)) (iblk m c 6 t) = scale (line (V m c main_arg0) (row t r)) := by
  refine Eq.trans ?_ ((saved_scale m c (row t r) j).trans ?_)
  · unfold row; blk_ext [iblk, V, staged t]
  · rw [V_main_arg0]

/-- The gain a point stages. -/
theorem block_gain (c : Dev nD) (t : Fin cfg0.N) (j : Fin 1024) :
    (fun (x : Vec Ideal S1x1024 .f32) => (x (ix2 0 j) : EReal)) (iblk m c 7 t) = (V m c main_arg1 : Gain) (ix2 0 j) := by
  blk_ext [iblk, V, staged t]

/-- The short form of the norm's gradient, on a block of rows, from the gradient of the norm's result. -/
theorem block_slope (e : Vec Ideal S512x1024 .f32) (p : Vec Ideal S512x1024 .bf16) (u : Vec Ideal S1024x1024 .bf16)
    (g : Vec Ideal S512x1664 .bf16) (v : Vec Ideal S1024x1664 .bf16)
    (x : Vec Ideal S512x1024 .f32) (a : Vec Ideal S1x1024 .f32) (q : Vec Ideal S512x1 .f32)
    (f d : Fin 1024 → EReal) (b : Fin 1024 → EReal) (r : Fin 512) (j : Fin 1024)
    (hd : ∀ j, k0_pay6 e p u g v (ix2 r j) = d j)
    (hx : ∀ j, x (ix2 r j) = normed f j) (ha : ∀ j, a (ix2 0 j) = b j) (hq : q (ix2 r 0) = scale f) :
    k0_pay8 e p u g v x a q (ix2 r j) = slope f (fun j => d j * b j) j := by
  unfold k0_pay8 k0_pay7
  generalize k0_pay6 e p u g v = A at hd ⊢
  pointwise
  simp only [hd, hx, ha, hq]
  rfl

/-- A point's gradient of the rows. -/
theorem block_dx (c : Dev nD) (t : Fin cfg0.N) (r : Fin 512) (j : Fin 1024) :
    (outsAt0 m c t.val t.isLt).1 (ix2 r j)
      = dx (V m c main_arg0) (V m c main_arg1) (V m c main_arg2) (V m c main_arg3) (V m c main_arg4) (V m c main_arg5) (V m c main_arg6) (ix2 (row t r) j) := by
  by_cases ht : t.val % 16 = 0
  on_goal 1 => rw [outsAt0_A m c t ht]
  on_goal 2 => rw [outsAt0_B m c t ht]
  all_goals
    frame_out
    refine block_slope _ _ _ _ _ _ _ _ _ _ _ r j (block_upstream m c t r) (block_hat m c t r) (block_gain m c t) ?_
    refine Eq.trans ?_ (block_scale m c t r 0)
    pointwise

/-- The same gradient in the second array. -/
theorem block_dx_rounded (c : Dev nD) (t : Fin cfg0.N) (r : Fin 512) (j : Fin 1024) :
    (outsAt0 m c t.val t.isLt).2.1 (ix2 r j)
      = dx (V m c main_arg0) (V m c main_arg1) (V m c main_arg2) (V m c main_arg3) (V m c main_arg4) (V m c main_arg5) (V m c main_arg6) (ix2 (row t r) j) := by
  by_cases ht : t.val % 16 = 0
  on_goal 1 => rw [outsAt0_A m c t ht]
  on_goal 2 => rw [outsAt0_B m c t ht]
  all_goals
    frame_out
    refine block_slope _ _ _ _ _ _ _ _ _ _ _ r j (block_upstream m c t r) (block_hat m c t r) (block_gain m c t) ?_
    refine Eq.trans ?_ (block_scale m c t r 0)
    pointwise

/-- What a point adds to an entry of the gain's gradient. -/
def gainPart (c : Dev nD) (t : Fin cfg0.N) (y : S1x1024.Idx) : EReal :=
  ∑ r : Fin 512, upstream (V m c main_arg2) (V m c main_arg3) (V m c main_arg4) (V m c main_arg5) (V m c main_arg6) (row t r) (y 1)
    * normed (line (V m c main_arg0) (row t r)) (y 1)
/-- What a point adds to an entry of the shift's gradient. -/
def shiftPart (c : Dev nD) (t : Fin cfg0.N) (y : S1x1024.Idx) : EReal :=
  ∑ r : Fin 512, upstream (V m c main_arg2) (V m c main_arg3) (V m c main_arg4) (V m c main_arg5) (V m c main_arg6) (row t r) (y 1)

/-- The sums of a block's rows, added to what is there. -/
theorem block_dgain (A : FVec Ideal S512x1024 .f32) (x : Vec Ideal S512x1024 .f32) (o : Vec Ideal S1x1024 .f32)
    (d n : Fin 512 → EReal) (j : Fin 1024) (hd : ∀ r, A (ix2 r j) = d r) (hx : ∀ r, x (ix2 r j) = n r) :
    k0_pay4 A (k0_pay7 x) o (ix2 0 j) = o (ix2 0 j) + ∑ r, d r * n r := by
  unfold k0_pay4 k0_pay7
  pointwise
  simp only [hd, hx]

/-- The sums of a block's rows, added to what is there. -/
theorem block_dshift (A : FVec Ideal S512x1024 .f32) (o : Vec Ideal S1x1024 .f32)
    (d : Fin 512 → EReal) (j : Fin 1024) (hd : ∀ r, A (ix2 r j) = d r) :
    k0_pay5 A o (ix2 0 j) = o (ix2 0 j) + ∑ r, d r := by
  unfold k0_pay5
  pointwise
  simp only [hd]

/-- The gain's gradient after the first point. -/
theorem gain_first (c : Dev nD) (t : Fin cfg0.N) (h : t.val % 16 = 0) (y : S1x1024.Idx) :
    (outsAt0 m c t.val t.isLt).2.2.1 y = 0 + gainPart m c t y := by
  rw [outsAt0_A m c t h]
  frame_out
  idx_vars y
  obtain rfl : y0 = 0 := Fin.eq_zero y0
  refine (block_dgain _ _ _ _ _ y1 (fun r => block_upstream m c t r y1) (fun r => block_hat m c t r y1)).trans ?_
  unfold k0_pay2
  pointwise
  rfl

/-- The gain's gradient after any other point. -/
theorem gain_next (c : Dev nD) (t : Fin cfg0.N) (h : ¬ t.val % 16 = 0) (y : S1x1024.Idx) :
    (outsAt0 m c t.val t.isLt).2.2.1 y
      = (outsAt0 m c (t.val - 1) (Nat.lt_of_le_of_lt (Nat.sub_le _ _) t.isLt)).2.2.1 y + gainPart m c t y := by
  rw [outsAt0_B m c t h]
  frame_out
  idx_vars y
  obtain rfl : y0 = 0 := Fin.eq_zero y0
  refine (block_dgain _ _ _ _ _ y1 (fun r => block_upstream m c t r y1) (fun r => block_hat m c t r y1)).trans ?_
  rfl

/-- The shift's gradient after the first point. -/
theorem shift_first (c : Dev nD) (t : Fin cfg0.N) (h : t.val % 16 = 0) (y : S1x1024.Idx) :
    (outsAt0 m c t.val t.isLt).2.2.2 y = 0 + shiftPart m c t y := by
  rw [outsAt0_A m c t h]
  frame_out
  idx_vars y
  obtain rfl : y0 = 0 := Fin.eq_zero y0
  refine (block_dshift _ _ _ y1 (fun r => block_upstream m c t r y1)).trans ?_
  unfold k0_pay3
  pointwise
  rfl

/-- The shift's gradient after any other point. -/
theorem shift_next (c : Dev nD) (t : Fin cfg0.N) (h : ¬ t.val % 16 = 0) (y : S1x1024.Idx) :
    (outsAt0 m c t.val t.isLt).2.2.2 y
      = (outsAt0 m c (t.val - 1) (Nat.lt_of_le_of_lt (Nat.sub_le _ _) t.isLt)).2.2.2 y + shiftPart m c t y := by
  rw [outsAt0_B m c t h]
  frame_out
  idx_vars y
  obtain rfl : y0 = 0 := Fin.eq_zero y0
  refine (block_dshift _ _ _ y1 (fun r => block_upstream m c t r y1)).trans ?_
  rfl

/-- Sixteen blocks of 512 rows are the 8192 rows. -/
theorem sum_rows (f : Fin 8192 → EReal) (b : Fin 16 → ℕ) (hb : ∀ s, b s = s.val) (hs : ∀ s, b s < 16) :
    ∑ s : Fin 16, ∑ r : Fin 512, f (row ⟨b s, hs s⟩ r) = ∑ r, f r :=
  Fin.sum_mul_add_congr fun s r hl => congrArg f (Fin.ext (by simp only [row, hb]; omega))

/-- The gain's gradient after the last point. -/
theorem gain_last (c : Dev nD) (t : Fin cfg0.N) (ht : t.val % 16 = 15) (y : S1x1024.Idx) :
    (outsAt0 m c t.val t.isLt).2.2.1 y
      = dgain (V m c main_arg0) (V m c main_arg2) (V m c main_arg3) (V m c main_arg4) (V m c main_arg5) (V m c main_arg6) (ix2 (y 0) (y 1)) := by
  rw [Pipeline.eq_sum_fin_of_reset_step_apply_of_flush (fun n h => (outsAt0 m c n h).2.2.1) 16 (fun _ => 0) (gainPart m c)
    (fun t h => gain_first m c t h) (fun t h => gain_next m c t h) t ht, zero_add]
  have hN : t.val < 16 := t.isLt
  refine Eq.trans (Finset.sum_congr rfl fun s _ => ?_) (sum_rows (fun r => upstream (V m c main_arg2) (V m c main_arg3) (V m c main_arg4) (V m c main_arg5) (V m c main_arg6) r (y 1)
    * normed (line (V m c main_arg0) r) (y 1)) (fun s => (16 * (t.val / 16) + s.val)) (fun s => by omega) (fun s => by omega))
  rfl

/-- The shift's gradient after the last point. -/
theorem shift_last (c : Dev nD) (t : Fin cfg0.N) (ht : t.val % 16 = 15) (y : S1x1024.Idx) :
    (outsAt0 m c t.val t.isLt).2.2.2 y
      = dshift (V m c main_arg2) (V m c main_arg3) (V m c main_arg4) (V m c main_arg5) (V m c main_arg6) (ix2 (y 0) (y 1)) := by
  rw [Pipeline.eq_sum_fin_of_reset_step_apply_of_flush (fun n h => (outsAt0 m c n h).2.2.2) 16 (fun _ => 0) (shiftPart m c)
    (fun t h => shift_first m c t h) (fun t h => shift_next m c t h) t ht, zero_add]
  have hN : t.val < 16 := t.isLt
  refine Eq.trans (Finset.sum_congr rfl fun s _ => ?_) (sum_rows (fun r => upstream (V m c main_arg2) (V m c main_arg3) (V m c main_arg4) (V m c main_arg5) (V m c main_arg6) r (y 1)) (fun s => (16 * (t.val / 16) + s.val)) (fun s => by omega) (fun s => by omega))
  rfl

/-- The rows' gradient after the run. -/
theorem kernel_dx (c : Dev nD) : (dats m 0 c).arrAt 8 cfg0.N
    = dx (V m c main_arg0) (V m c main_arg1) (V m c main_arg2) (V m c main_arg3) (V m c main_arg4) (V m c main_arg5) (V m c main_arg6) := by
  refine (dats m 0 c).arrAt_eq_of_covers 8 _ (by decide +kernel) fun t hf y => ?_
  blk_simp
  rw [after0_8]
  idx_vars y
  refine (block_dx m c t y0 y1).trans ?_
  unfold row
  blk_ext [iblk, V, staged t]

/-- The second array after the run. -/
theorem kernel_dx_rounded (c : Dev nD) : (dats m 0 c).arrAt 9 cfg0.N
    = dx (V m c main_arg0) (V m c main_arg1) (V m c main_arg2) (V m c main_arg3) (V m c main_arg4) (V m c main_arg5) (V m c main_arg6) := by
  refine (dats m 0 c).arrAt_eq_of_covers 9 _ (by decide +kernel) fun t hf y => ?_
  blk_simp
  rw [after0_9]
  idx_vars y
  refine (block_dx_rounded m c t y0 y1).trans ?_
  unfold row
  blk_ext [iblk, V, staged t]

/-- The gain's gradient after the run. -/
theorem kernel_dgain (c : Dev nD) : (dats m 0 c).arrAt 10 cfg0.N
    = dgain (V m c main_arg0) (V m c main_arg2) (V m c main_arg3) (V m c main_arg4) (V m c main_arg5) (V m c main_arg6) := by
  refine (dats m 0 c).arrAt_eq_of_covers 10 _ (by decide +kernel) fun t hf y => ?_
  blk_simp
  rw [after0_10]
  idx_vars y
  refine (gain_last m c t ((flush0_10 t).mp hf) _).trans ?_
  blk_ext [iblk, V, staged t]

/-- The shift's gradient after the run. -/
theorem kernel_dshift (c : Dev nD) : (dats m 0 c).arrAt 11 cfg0.N
    = dshift (V m c main_arg2) (V m c main_arg3) (V m c main_arg4) (V m c main_arg5) (V m c main_arg6) := by
  refine (dats m 0 c).arrAt_eq_of_covers 11 _ (by decide +kernel) fun t hf y => ?_
  blk_simp
  rw [after0_11]
  idx_vars y
  refine (shift_last m c t ((flush0_11 t).mp hf) _).trans ?_
  blk_ext [iblk, V, staged t]
end

section
open Cert.ReferenceInNormIdeal Cert.ReferenceInNormIdeal.Read

variable (x : Acts) (a : Gain) (dy p : Acts) (q : Square) (f : Narrow) (w : NarrowWeight)

/-- The reference's means. -/
theorem reference_mean (r : Fin 8192) (i : Fin 1) : val_main_v4 (F := Ideal) x (ix2 r i) = mean (line x r) := by
  unfold val_main_v4 val_main_v3 val_main_v2 val_main_v1 val_main_cst_1 val_main_cst_0
  pointwise
  rfl

/-- The reference's rows less their means. -/
theorem reference_centred (r : Fin 8192) (j : Fin 1024) : val_main_v6 (F := Ideal) x (ix2 r j) = centred (line x r) j := by
  have h := reference_mean x r 0
  unfold val_main_v6 val_main_v5
  generalize val_main_v4 (F := Ideal) x = y at h ⊢
  pointwise
  rw [h]
  rfl

/-- The same, where the reference takes the mean off again. -/
theorem reference_centred_again (r : Fin 8192) (j : Fin 1024) : val_main_v15 (F := Ideal) x (ix2 r j) = centred (line x r) j :=
  reference_centred x r j

/-- The reference's variances. -/
theorem reference_spread (r : Fin 8192) (i : Fin 1) : val_main_v17 (F := Ideal) x (ix2 r i) = spread (line x r) := by
  have h := reference_centred x r
  unfold val_main_v17 val_main_v16 val_main_v13 val_main_v12 val_main_v11 val_main_v10 val_main_v7 val_main_cst_3 val_main_cst_4 val_main_cst_5
  generalize val_main_v6 (F := Ideal) x = y at h ⊢
  pointwise
  simp only [h]
  rfl

/-- The reference's scales. -/
theorem reference_scale (r : Fin 8192) (i : Fin 1) : val_main_v18 (F := Ideal) x (ix2 r i) = scale (line x r) := by
  have h := reference_spread x r i
  unfold val_main_v18
  generalize val_main_v17 (F := Ideal) x = y at h ⊢
  pointwise
  rw [h]
  rfl

/-- What the reference's derivative of the root multiplies. -/
theorem reference_root (r : Fin 8192) (i : Fin 1) :
    val_main_v21 (F := Ideal) x (ix2 r i) = minusHalf * Ideal.div (scale (line x r)) (spread (line x r)) := by
  have h := reference_spread x r i
  have h' := reference_scale x r i
  unfold val_main_v21 val_main_v20 val_main_v19 val_main_cst_6
  generalize val_main_v18 (F := Ideal) x = z at h' ⊢
  generalize val_main_v17 (F := Ideal) x = y at h ⊢
  pointwise
  rw [h, h']
  rfl

/-- The reference's normed rows. -/
theorem reference_hat (r : Fin 8192) (j : Fin 1024) : val_main_v23 (F := Ideal) x (ix2 r j) = normed (line x r) j := by
  have h := reference_centred_again x r j
  have h' := reference_scale x r 0
  unfold val_main_v23 val_main_v22
  generalize val_main_v18 (F := Ideal) x = z at h' ⊢
  generalize val_main_v15 (F := Ideal) x = y at h ⊢
  pointwise
  rw [h, h']
  rfl

/-- The reference's gradient of the norm's result. -/
theorem reference_upstream (r : Fin 8192) (j : Fin 1024) : val_main_v41 (F := Ideal) dy p q f w (ix2 r j) = upstream dy p q f w r j := by
  unfold val_main_v41 val_main_v40 val_main_v39 val_main_v38 val_main_v37 val_main_v36 val_main_v35 val_main_v34 val_main_v30 val_main_v28 val_main_cst_8
  pointwise
  exact add_right_comm _ _ _

/-- The reference's gradient of the normed rows. -/
theorem reference_inward (r : Fin 8192) (j : Fin 1024) : val_main_v48 (F := Ideal) a dy p q f w (ix2 r j) = inward a dy p q f w r j := by
  have h := reference_upstream dy p q f w r j
  unfold val_main_v48 val_main_v47
  generalize val_main_v41 (F := Ideal) dy p q f w = y at h ⊢
  pointwise
  rw [h]
  rfl

/-- The reference's gradient of the shift. -/
theorem reference_dshift : val_main_v43 (F := Ideal) dy p q f w = dshift dy p q f w := by
  funext i
  idx_vars i
  have h := fun r => reference_upstream dy p q f w r i1
  unfold val_main_v43 val_main_v42 val_main_cst_9
  generalize val_main_v41 (F := Ideal) dy p q f w = y at h ⊢
  pointwise
  simp only [h]
  rfl

/-- The reference's gradient of the gain. -/
theorem reference_dgain : val_main_v46 (F := Ideal) x dy p q f w = dgain x dy p q f w := by
  funext i
  idx_vars i
  have h := fun r => reference_upstream dy p q f w r i1
  have h' := fun r => reference_hat x r i1
  unfold val_main_v46 val_main_v45 val_main_v44 val_main_cst_10
  generalize val_main_v41 (F := Ideal) dy p q f w = y at h ⊢
  generalize val_main_v23 (F := Ideal) x = z at h' ⊢
  pointwise
  simp only [h, h']
  exact Finset.sum_congr rfl fun r _ => mul_comm _ _

/-- What reaches a row past the scale. -/
theorem reference_straight (r : Fin 8192) (j : Fin 1024) :
    val_main_v53 (F := Ideal) x a dy p q f w (ix2 r j) = inward a dy p q f w r j * scale (line x r) := by
  have h := reference_inward a dy p q f w r j
  have h' := reference_scale x r 0
  unfold val_main_v53 val_main_v52
  generalize val_main_v48 (F := Ideal) a dy p q f w = y at h ⊢
  generalize val_main_v18 (F := Ideal) x = z at h' ⊢
  pointwise
  rw [h, h']

/-- What reaches a row through its variance. -/
theorem reference_along (r : Fin 8192) (j : Fin 1024) :
    val_main_v62 (F := Ideal) x a dy p q f w (ix2 r j) = alongVariance (line x r) (inward a dy p q f w r) j := by
  have h := reference_inward a dy p q f w r
  have hc := reference_centred x r
  have hc' := reference_centred_again x r
  have hr := reference_root x r
  unfold val_main_v62 val_main_v61 val_main_v60 val_main_v59 val_main_v58 val_main_v54 val_main_v51 val_main_v50 val_main_v49 val_main_v9 val_main_v8
    val_main_cst_2 val_main_cst_11 val_main_cst_13 val_main_cst_14
  generalize val_main_v48 (F := Ideal) a dy p q f w = y at h ⊢
  generalize val_main_v21 (F := Ideal) x = z at hr ⊢
  generalize val_main_v15 (F := Ideal) x = p at hc' ⊢
  generalize val_main_v6 (F := Ideal) x = q at hc ⊢
  pointwise
  simp only [h, hc, hc', hr, Fin.sum_univ_one]
  rfl

/-- The reference's gradient of the rows, by the chain rule. -/
theorem reference_chain (r : Fin 8192) (j : Fin 1024) :
    val_main_v72 (F := Ideal) x a dy p q f w (ix2 r j) = chain (line x r) (inward a dy p q f w r) j := by
  have h := reference_straight x a dy p q f w r
  have h' := reference_along x a dy p q f w r
  unfold val_main_v72 val_main_v71 val_main_v70 val_main_v69 val_main_v68 val_main_v67 val_main_v66 val_main_v65 val_main_v64 val_main_v63
    val_main_v57 val_main_v56 val_main_v55 val_main_cst_12 val_main_cst_15 val_main_cst_16 val_main_cst_17
  generalize val_main_v53 (F := Ideal) x a dy p q f w = y at h ⊢
  generalize val_main_v62 (F := Ideal) x a dy p q f w = z at h' ⊢
  pointwise
  simp only [h, h', Fin.sum_univ_one]
  rfl

/-- The reference's gradient of the rows, for reals. -/
theorem reference_dx (hx : ∀ r j, ∃ z : ℝ, line x r j = (z : EReal)) (hd : ∀ r j, ∃ z : ℝ, inward a dy p q f w r j = (z : EReal)) :
    val_main_v72 (F := Ideal) x a dy p q f w = dx x a dy p q f w := by
  funext i
  idx_vars i
  exact (reference_chain x a dy p q f w i0 i1).trans (chain_eq_slope _ _ (hx i0) (hd i0) i1)

/-- The same gradient in the second array. -/
theorem reference_dx_rounded (hx : ∀ r j, ∃ z : ℝ, line x r j = (z : EReal)) (hd : ∀ r j, ∃ z : ℝ, inward a dy p q f w r j = (z : EReal)) :
    val_main_v73 (F := Ideal) x a dy p q f w = dx x a dy p q f w := by
  funext i
  rw [val_main_v73_apply]
  exact congrFun (reference_dx x a dy p q f w hx hd) i

/-- The reference ends with every counter at zero: it has none. -/
theorem frame_reference : Cert.quiescent_ReferenceInNormIdeal := by
  intro m ρ _
  exact (θ_run defs _ _).mono (fun r h => ⟨fun c => (h c).2.2.2.2, sem_eq_zero_of_no_sems (by decide) r.2⟩) (Value.run (F := Ideal) m ρ)
end

section
variable [Cert.Pre_finite_in_norm.Facts] (x : Acts) (a : Gain) (dy p : Acts) (q : Square) (f : Narrow) (w : NarrowWeight)

/-- Under the precondition the rows are reals. -/
theorem line_real (h : (Cert.Pre_finite_in_norm.fn (F := Ideal) x a dy p q f w).1 = fun _ => 1#1) (r : Fin 8192) (j : Fin 1024) :
    ∃ z : ℝ, line x r j = (z : EReal) := by
  have h := congrFun h (ix2 r j)
  unfold Cert.Pre_finite_in_norm.fn Cert.Pre_finite_in_norm.fn_part1 at h
  pointwise at h
  exact Cert.Pre_finite.Hand.real_of_cmp (φ := .f32) h

/-- Under the precondition the gradient of the normed rows is real. -/
theorem inward_real (h1 : (Cert.Pre_finite_in_norm.fn (F := Ideal) x a dy p q f w).2.1 = fun _ => 1#1)
    (h2 : (Cert.Pre_finite_in_norm.fn (F := Ideal) x a dy p q f w).2.2.1 = fun _ => 1#1)
    (h3 : (Cert.Pre_finite_in_norm.fn (F := Ideal) x a dy p q f w).2.2.2.1 = fun _ => 1#1)
    (h4 : (Cert.Pre_finite_in_norm.fn (F := Ideal) x a dy p q f w).2.2.2.2.1 = fun _ => 1#1)
    (h5 : (Cert.Pre_finite_in_norm.fn (F := Ideal) x a dy p q f w).2.2.2.2.2.1 = fun _ => 1#1)
    (h6 : (Cert.Pre_finite_in_norm.fn (F := Ideal) x a dy p q f w).2.2.2.2.2.2 = fun _ => 1#1)
    (r : Fin 8192) (j : Fin 1024) : ∃ z : ℝ, inward a dy p q f w r j = (z : EReal) := by
  unfold Cert.Pre_finite_in_norm.fn Cert.Pre_finite_in_norm.fn_part1 at h1 h2 h3 h4 h5 h6
  refine real_mul (real_add (real_add (real_mul keep_real ?_) (real_sum fun k => real_mul ?_ ?_)) (real_sum fun k => real_mul ?_ ?_)) ?_
  · have h := congrFun h2 (ix2 r j)
    pointwise at h
    exact Cert.Pre_finite.Hand.real_of_cmp (φ := .f32) h
  · have h := congrFun h3 (ix2 r k)
    pointwise at h
    exact Cert.Pre_finite.Hand.real_of_cmp (φ := .f32) h
  · have h := congrFun h4 (ix2 j k)
    pointwise at h
    exact Cert.Pre_finite.Hand.real_of_cmp (φ := .f32) h
  · have h := congrFun h5 (ix2 r k)
    pointwise at h
    exact Cert.Pre_finite.Hand.real_of_cmp (φ := .f32) h
  · have h := congrFun h6 (ix2 j k)
    pointwise at h
    exact Cert.Pre_finite.Hand.real_of_cmp (φ := .f32) h
  · have h := congrFun h1 (ix2 0 j)
    pointwise at h
    exact Cert.Pre_finite.Hand.real_of_cmp (φ := .f32) h

set_option maxHeartbeats 1000000 in
/-- Kernel and reference leave the same arrays. -/
theorem equal : Cert.algebraic_KernelInNormIdeal_ReferenceInNormIdeal_pre_finite_in_norm := by
  intro m ρ m' ρ' hpre hag
  refine ⟨fun c => dx (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6)),
    fun c => dx (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg1)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6)),
    fun c => dgain (m ((c.tc : Thread Cert.KernelInNormIdeal.nD Cert.KernelInNormIdeal.τ).loc Cert.KernelInNormIdeal.main_arg0)) (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6)),
    fun c => dshift (m ((c.tc : Thread Cert.KernelInNormIdeal.nD Cert.KernelInNormIdeal.τ).loc Cert.KernelInNormIdeal.main_arg2)) (m ((c.tc : Thread Cert.KernelInNormIdeal.nD Cert.KernelInNormIdeal.τ).loc Cert.KernelInNormIdeal.main_arg3)) (m ((c.tc : Thread Cert.KernelInNormIdeal.nD Cert.KernelInNormIdeal.τ).loc Cert.KernelInNormIdeal.main_arg4)) (m ((c.tc : Thread Cert.KernelInNormIdeal.nD Cert.KernelInNormIdeal.τ).loc Cert.KernelInNormIdeal.main_arg5)) (m ((c.tc : Thread Cert.KernelInNormIdeal.nD Cert.KernelInNormIdeal.τ).loc Cert.KernelInNormIdeal.main_arg6)),
    (θ_run Cert.KernelInNormIdeal.defs _ _).mono (fun r h c => ?_) (Cert.KernelInNormIdeal.Value.run_blocks m ρ), ?_⟩
  · exact ⟨(h c).1.trans (kernel_dx m c), (h c).2.1.trans (kernel_dx_rounded m c), (h c).2.2.1.trans (kernel_dgain m c),
      (h c).2.2.2.1.trans (kernel_dshift m c), (h c).2.2.2.2⟩
  · refine (θ_run Cert.ReferenceInNormIdeal.defs _ _).mono (fun r h c => ?_) (Cert.ReferenceInNormIdeal.Value.run m' ρ')
    obtain ⟨a0, a1, a2, a3, a4, a5, a6⟩ := hag c
    obtain ⟨p0, p1, p2, p3, p4, p5, p6⟩ := hpre c
    have hx := line_real _ _ _ _ _ _ _ p0
    have hd := inward_real _ _ _ _ _ _ _ p1 p2 p3 p4 p5 p6
    refine ⟨((h c).1.trans (Cert.ReferenceInNormIdeal.Read.val_main_v72_eq m' c)).trans ?_,
      ((h c).2.1.trans (Cert.ReferenceInNormIdeal.Read.val_main_v73_eq m' c)).trans ?_,
      ((h c).2.2.1.trans (Cert.ReferenceInNormIdeal.Read.val_main_v46_eq _ _ _ _ _ _)).trans ?_,
      ((h c).2.2.2.1.trans (Cert.ReferenceInNormIdeal.Read.val_main_v43_eq _ _ _ _ _)).trans ?_, (h c).2.2.2.2⟩
    · rw [a0, a1, a2, a3, a4, a5, a6]
      exact reference_dx _ _ _ _ _ _ _ hx hd
    · rw [a0, a1, a2, a3, a4, a5, a6]
      exact reference_dx_rounded _ _ _ _ _ _ _ hx hd
    · rw [a0, a2, a3, a4, a5, a6]
      exact reference_dgain _ _ _ _ _ _
    · rw [a2, a3, a4, a5, a6]
      exact reference_dshift _ _ _ _ _

end

end Cert.InNorm
end
-- ==== Proof.LossNorm.lean ====
/-
  The loss and the gradient of the last norm: the kernel takes the error's gradient straight, in the short form of a
  norm's gradient, and adds the squares column by column; the reference's derivative takes the chain rule from the loss.
-/
module
public import proofs.«01_k».proof.Defs
public import proofs.«01_k».proof.Proof.NormGrad
public import proofs.«01_k».proof.Proof.Finite
public import proofs.«01_k».proof.Proof.Gen.KernelLossNormIdeal.Value
public import proofs.«01_k».proof.Proof.Gen.ReferenceLossNormIdeal.Run
public import proofs.«01_k».proof.Proof.Gen.ReferenceLossNormIdeal.Read
public import Idealize.ShloMosaic.Lib.Pipeline.ReadBack

@[expose] public section
set_option maxRecDepth 16384
noncomputable section
namespace Cert.LossNorm
open Idealize.ShloMosaic Idealize.ShloMosaic.TcCoe Idealize.SL.Sem Cert.Norm

/-- Rows of the residual stream, over the extended reals. -/
abbrev Acts := (⟨2, ![8192, 1024]⟩ : Shape).Idx → EReal
/-- The norm's gain, or its gradient. -/
abbrev Gain := (⟨2, ![1, 1024]⟩ : Shape).Idx → EReal

/-- A scale per row, written 128 times. -/
abbrev Scales := (⟨2, ![8192, 128]⟩ : Shape).Idx → EReal
/-- The loss, written 128 times. -/
abbrev Loss := (⟨2, ![1, 128]⟩ : Shape).Idx → EReal

/-- One over the number of columns. -/
def part : EReal := Ideal.ofBits FTy.f32 981467136#32
/-- Half of it. -/
def halfPart : EReal := Ideal.ofBits FTy.f32 973078528#32
/-- One half. -/
def half : EReal := Ideal.ofBits FTy.f32 1056964608#32

/-- The row that was normed. -/
def line (x : Acts) (r : Fin 8192) (j : Fin 1024) : EReal := x (ix2 r j)
/-- The norm's result less the target. -/
def error (x : Acts) (a b : Gain) (y : Acts) (r : Fin 8192) (j : Fin 1024) : EReal :=
  normed (line x r) j * a (ix2 0 j) + b (ix2 0 j) - y (ix2 r j)
/-- The gradient of the norm's result. -/
def upstream (x : Acts) (a b : Gain) (y : Acts) (r : Fin 8192) (j : Fin 1024) : EReal := error x a b y r j * part
/-- The gradient of the normed row. -/
def inward (x : Acts) (a b : Gain) (y : Acts) (r : Fin 8192) (j : Fin 1024) : EReal := upstream x a b y r j * a (ix2 0 j)
/-- The gradient of the rows. -/
def dx (x : Acts) (a b : Gain) (y : Acts) : Acts := fun i => slope (line x (i 0)) (inward x a b y (i 0)) (i 1)
/-- The gradient of the norm's gain. -/
def dgain (x : Acts) (a b : Gain) (y : Acts) : Gain := fun i => ∑ r, upstream x a b y r (i 1) * normed (line x r) (i 1)
/-- The gradient of the norm's shift. -/
def dshift (x : Acts) (a b : Gain) (y : Acts) : Gain := fun i => ∑ r, upstream x a b y r (i 1)
/-- The sum of a column's squared errors. -/
def squares (x : Acts) (a b : Gain) (y : Acts) (j : Fin 1024) : EReal := ∑ r, error x a b y r j * error x a b y r j
/-- Half the sum of the rows' mean squared errors. -/
def loss (x : Acts) (a b : Gain) (y : Acts) : Loss := fun _ => (∑ j, squares x a b y j) * halfPart

section
open Cert.KernelLossNormIdeal Cert.KernelLossNormIdeal.Gen

variable (m : (ℓ : Loc nD τ sig) → Buf (Elt Ideal) ℓ)

/-- The blocks a point stages: 512 rows, the gain and the shift. -/
theorem staged : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0]
    ∧ win0_8.index t = ![0, 0] ∧ win0_9.index t = ![0, 0] := by decide +kernel

/-- Row `r` of a point's block. -/
def row (t : Fin cfg0.N) (r : Fin 512) : Fin 8192 := ⟨512 * t.val + r.val, by have : t.val < 16 := t.isLt; omega⟩

/-- The normed rows, as the host saves them. -/
theorem saved_hat (c : Dev nD) (r : Fin 8192) (j : Fin 1024) :
    (V m c main_v17 : Acts) (ix2 r j) = normed (line (m ((c.tc : Thread nD τ).loc main_arg0)) r) j := by
  change StableHlo.after hostOps0 (fun b => m (c, b)) (Proc.devRef .tc main_v17) (ix2 r j) = _
  after_results
  change _ = normed (line (m (c, Proc.tc.devRef main_arg0)) r) j
  generalize m (c, Proc.tc.devRef main_arg0) = x
  pointwise
  rfl

/-- The rows' scales, as the host saves them. -/
theorem saved_scale (c : Dev nD) (r : Fin 8192) (j : Fin 128) :
    (V m c main_v18 : Scales) (ix2 r j) = scale (line (m ((c.tc : Thread nD τ).loc main_arg0)) r) := by
  change StableHlo.after hostOps0 (fun b => m (c, b)) (Proc.devRef .tc main_v18) (ix2 r j) = _
  after_results
  change _ = scale (line (m (c, Proc.tc.devRef main_arg0)) r)
  generalize m (c, Proc.tc.devRef main_arg0) = x
  pointwise
  rfl

/-- The normed rows a point stages. -/
theorem block_hat (c : Dev nD) (t : Fin cfg0.N) (r : Fin 512) (j : Fin 1024) :
    (fun (x : Vec Ideal S512x1024 .f32) => (x (ix2 r j) : EReal)) (iblk m c 0 t) = normed (line (V m c main_arg0) (row t r)) j := by
  refine Eq.trans ?_ ((saved_hat m c (row t r) j).trans ?_)
  · unfold row; blk_ext [iblk, V, staged t]
  · rw [V_main_arg0]

/-- The scales a point stages. -/
theorem block_scale (c : Dev nD) (t : Fin cfg0.N) (r : Fin 512) (j : Fin 128) :
    (fun (x : Vec Ideal S512x128 .f32) => (x (ix2 r j) : EReal)) (iblk m c 1 t) = scale (line (V m c main_arg0) (row t r)) := by
  refine Eq.trans ?_ ((saved_scale m c (row t r) j).trans ?_)
  · unfold row; blk_ext [iblk, V, staged t]
  · rw [V_main_arg0]

/-- The gain a point stages. -/
theorem block_gain (c : Dev nD) (t : Fin cfg0.N) (j : Fin 1024) :
    (fun (x : Vec Ideal S1x1024 .f32) => (x (ix2 0 j) : EReal)) (iblk m c 2 t) = (V m c main_arg1 : Gain) (ix2 0 j) := by
  blk_ext [iblk, V, staged t]

/-- The shift a point stages. -/
theorem block_shift (c : Dev nD) (t : Fin cfg0.N) (j : Fin 1024) :
    (fun (x : Vec Ideal S1x1024 .f32) => (x (ix2 0 j) : EReal)) (iblk m c 3 t) = (V m c main_arg2 : Gain) (ix2 0 j) := by
  blk_ext [iblk, V, staged t]

/-- The target's rows a point stages. -/
theorem block_target (c : Dev nD) (t : Fin cfg0.N) (r : Fin 512) (j : Fin 1024) :
    (fun (x : Vec Ideal S512x1024 .f32) => (x (ix2 r j) : EReal)) (iblk m c 4 t) = (V m c main_arg3 : Acts) (ix2 (row t r) j) := by
  unfold row
  blk_ext [iblk, V, staged t]

/-- A block's errors, from the normed rows, the gain, the shift and the target. -/
theorem block_difference (x : Vec Ideal S512x1024 .f32) (a b : Vec Ideal S1x1024 .f32) (y : Vec Ideal S512x1024 .f32)
    (n g s u : EReal) (r : Fin 512) (j : Fin 1024) (hx : x (ix2 r j) = n) (ha : a (ix2 0 j) = g) (hb : b (ix2 0 j) = s) (hy : y (ix2 r j) = u) :
    k0_pay9 x a b y (ix2 r j) = n * g + s - u := by
  unfold k0_pay9 k0_pay8
  pointwise
  rw [hx, ha, hb, hy]

/-- A point's errors, entry by entry. -/
theorem block_error (c : Dev nD) (t : Fin cfg0.N) (r : Fin 512) (j : Fin 1024) :
    k0_pay9 (F := Ideal) (iblk m c 0 t) (iblk m c 2 t) (iblk m c 3 t) (iblk m c 4 t) (ix2 r j) = error (V m c main_arg0) (V m c main_arg1) (V m c main_arg2) (V m c main_arg3) (row t r) j :=
  block_difference _ _ _ _ _ _ _ _ r j (block_hat m c t r j) (block_gain m c t j) (block_shift m c t j) (block_target m c t r j)

/-- A point's gradient of the norm's result, entry by entry. -/
theorem block_upstream (c : Dev nD) (t : Fin cfg0.N) (r : Fin 512) (j : Fin 1024) :
    k0_pay10 (F := Ideal) (iblk m c 0 t) (iblk m c 2 t) (iblk m c 3 t) (iblk m c 4 t) (ix2 r j) = upstream (V m c main_arg0) (V m c main_arg1) (V m c main_arg2) (V m c main_arg3) (row t r) j := by
  have h := block_error m c t r j
  unfold k0_pay10
  generalize k0_pay9 (F := Ideal) (iblk m c 0 t) (iblk m c 2 t) (iblk m c 3 t) (iblk m c 4 t) = z at h ⊢
  pointwise
  rw [h]
  rfl

/-- The short form of the norm's gradient, on a block of rows, from the gradient of the norm's result. -/
theorem block_slope (x : Vec Ideal S512x1024 .f32) (a b : Vec Ideal S1x1024 .f32) (y : Vec Ideal S512x1024 .f32)
    (a' : Vec Ideal S1x1024 .f32) (q : Vec Ideal S512x1 .f32) (f d : Fin 1024 → EReal) (g : Fin 1024 → EReal) (r : Fin 512) (j : Fin 1024)
    (hd : ∀ j, k0_pay10 x a b y (ix2 r j) = d j)
    (hx : ∀ j, x (ix2 r j) = normed f j) (ha : ∀ j, a' (ix2 0 j) = g j) (hq : q (ix2 r 0) = scale f) :
    k0_pay11 x a b y a' q (ix2 r j) = slope f (fun j => d j * g j) j := by
  unfold k0_pay11 k0_pay8
  generalize k0_pay10 x a b y = A at hd ⊢
  pointwise
  simp only [hd, hx, ha, hq]
  rfl

/-- The same in the second array. -/
theorem block_slope_rounded (x : Vec Ideal S512x1024 .f32) (a b : Vec Ideal S1x1024 .f32) (y : Vec Ideal S512x1024 .f32)
    (a' : Vec Ideal S1x1024 .f32) (q : Vec Ideal S512x1 .f32) (z : EReal) (r : Fin 512) (j : Fin 1024)
    (h : k0_pay11 x a b y a' q (ix2 r j) = z) : k0_pay12 x a b y a' q (ix2 r j) = z := by
  unfold k0_pay12
  generalize k0_pay11 x a b y a' q = A at h ⊢
  pointwise
  exact h

/-- A point's gradient of the rows. -/
theorem block_dx (c : Dev nD) (t : Fin cfg0.N) (r : Fin 512) (j : Fin 1024) :
    (outsAt0 m c t.val t.isLt).1 (ix2 r j) = dx (V m c main_arg0) (V m c main_arg1) (V m c main_arg2) (V m c main_arg3) (ix2 (row t r) j) := by
  by_cases h0 : t.val % 16 = 0
  · rw [outsAt0_A m c t h0 (by omega)]
    frame_out
    refine block_slope _ _ _ _ _ _ _ _ _ r j (block_upstream m c t r) (block_hat m c t r) (block_gain m c t) ?_
    refine Eq.trans ?_ (block_scale m c t r 0)
    pointwise
  · by_cases h1 : t.val % 16 = 15
    on_goal 1 => rw [outsAt0_C m c t h0 h1]
    on_goal 2 => rw [outsAt0_B m c t h0 h1]
    all_goals
      frame_out
      refine block_slope _ _ _ _ _ _ _ _ _ r j (block_upstream m c t r) (block_hat m c t r) (block_gain m c t) ?_
      refine Eq.trans ?_ (block_scale m c t r 0)
      pointwise

/-- The same gradient in the second array. -/
theorem block_dx_rounded (c : Dev nD) (t : Fin cfg0.N) (r : Fin 512) (j : Fin 1024) :
    (outsAt0 m c t.val t.isLt).2.1 (ix2 r j) = dx (V m c main_arg0) (V m c main_arg1) (V m c main_arg2) (V m c main_arg3) (ix2 (row t r) j) := by
  by_cases h0 : t.val % 16 = 0
  · rw [outsAt0_A m c t h0 (by omega)]
    frame_out
    refine block_slope_rounded _ _ _ _ _ _ _ r j (block_slope _ _ _ _ _ _ _ _ _ r j (block_upstream m c t r) (block_hat m c t r) (block_gain m c t) ?_)
    refine Eq.trans ?_ (block_scale m c t r 0)
    pointwise
  · by_cases h1 : t.val % 16 = 15
    on_goal 1 => rw [outsAt0_C m c t h0 h1]
    on_goal 2 => rw [outsAt0_B m c t h0 h1]
    all_goals
      frame_out
      refine block_slope_rounded _ _ _ _ _ _ _ r j (block_slope _ _ _ _ _ _ _ _ _ r j (block_upstream m c t r) (block_hat m c t r) (block_gain m c t) ?_)
      refine Eq.trans ?_ (block_scale m c t r 0)
      pointwise

/-- What a point adds to an entry of the gain's gradient. -/
def gainPart (c : Dev nD) (t : Fin cfg0.N) (y : S1x1024.Idx) : EReal :=
  ∑ r : Fin 512, upstream (V m c main_arg0) (V m c main_arg1) (V m c main_arg2) (V m c main_arg3) (row t r) (y 1)
    * normed (line (V m c main_arg0) (row t r)) (y 1)
/-- What a point adds to an entry of the shift's gradient. -/
def shiftPart (c : Dev nD) (t : Fin cfg0.N) (y : S1x1024.Idx) : EReal := ∑ r : Fin 512, upstream (V m c main_arg0) (V m c main_arg1) (V m c main_arg2) (V m c main_arg3) (row t r) (y 1)
/-- What a point adds to a column's sum of squares. -/
def squarePart (c : Dev nD) (t : Fin cfg0.N) (y : S1x1024.Idx) : EReal :=
  ∑ r : Fin 512, error (V m c main_arg0) (V m c main_arg1) (V m c main_arg2) (V m c main_arg3) (row t r) (y 1) * error (V m c main_arg0) (V m c main_arg1) (V m c main_arg2) (V m c main_arg3) (row t r) (y 1)

/-- The sums of a block's rows, added to what is there. -/
theorem block_dgain (A : FVec Ideal S512x1024 .f32) (x : Vec Ideal S512x1024 .f32) (o : Vec Ideal S1x1024 .f32)
    (d n : Fin 512 → EReal) (j : Fin 1024) (hd : ∀ r, A (ix2 r j) = d r) (hx : ∀ r, x (ix2 r j) = n r) :
    k0_pay4 (k0_pay8 x) A o (ix2 0 j) = o (ix2 0 j) + ∑ r, d r * n r := by
  unfold k0_pay4 k0_pay8
  pointwise
  simp only [hd, hx]

/-- The sums of a block's rows, added to what is there. -/
theorem block_dshift (A : FVec Ideal S512x1024 .f32) (o : Vec Ideal S1x1024 .f32)
    (d : Fin 512 → EReal) (j : Fin 1024) (hd : ∀ r, A (ix2 r j) = d r) :
    k0_pay5 A o (ix2 0 j) = o (ix2 0 j) + ∑ r, d r := by
  unfold k0_pay5
  pointwise
  simp only [hd]

/-- The sums of a block's squares, added to what is there. -/
theorem block_squares (A : FVec Ideal S512x1024 .f32) (o : Vec Ideal S1x1024 .f32)
    (d : Fin 512 → EReal) (j : Fin 1024) (hd : ∀ r, A (ix2 r j) = d r) :
    k0_pay6 A o (ix2 0 j) = o (ix2 0 j) + ∑ r, d r * d r := by
  unfold k0_pay6
  pointwise
  simp only [hd]

/-- The columns' sums added up and halved. -/
theorem block_total (o : Vec Ideal S1x1024 .f32) (l : Fin 128) : k0_pay7 o (ix2 0 l) = (∑ j, o (ix2 0 j)) * halfPart := by
  unfold k0_pay7
  pointwise
  rfl

/-- The gain's gradient after the first point. -/
theorem gain_first (c : Dev nD) (t : Fin cfg0.N) (h : t.val % 16 = 0) (y : S1x1024.Idx) :
    (outsAt0 m c t.val t.isLt).2.2.1 y = 0 + gainPart m c t y := by
  rw [outsAt0_A m c t h (by omega)]
  frame_out
  idx_vars y
  obtain rfl : y0 = 0 := Fin.eq_zero y0
  refine (block_dgain _ _ _ _ _ y1 (fun r => block_upstream m c t r y1) (fun r => block_hat m c t r y1)).trans ?_
  unfold k0_pay1
  pointwise
  rfl

/-- The gain's gradient after any other point. -/
theorem gain_next (c : Dev nD) (t : Fin cfg0.N) (h : ¬ t.val % 16 = 0) (y : S1x1024.Idx) :
    (outsAt0 m c t.val t.isLt).2.2.1 y
      = (outsAt0 m c (t.val - 1) (Nat.lt_of_le_of_lt (Nat.sub_le _ _) t.isLt)).2.2.1 y + gainPart m c t y := by
  by_cases h1 : t.val % 16 = 15
  on_goal 1 => rw [outsAt0_C m c t h h1]
  on_goal 2 => rw [outsAt0_B m c t h h1]
  all_goals
    frame_out
    idx_vars y
    obtain rfl : y0 = 0 := Fin.eq_zero y0
    refine (block_dgain _ _ _ _ _ y1 (fun r => block_upstream m c t r y1) (fun r => block_hat m c t r y1)).trans ?_
    rfl

/-- The shift's gradient after the first point. -/
theorem shift_first (c : Dev nD) (t : Fin cfg0.N) (h : t.val % 16 = 0) (y : S1x1024.Idx) :
    (outsAt0 m c t.val t.isLt).2.2.2.1 y = 0 + shiftPart m c t y := by
  rw [outsAt0_A m c t h (by omega)]
  frame_out
  idx_vars y
  obtain rfl : y0 = 0 := Fin.eq_zero y0
  refine (block_dshift _ _ _ y1 (fun r => block_upstream m c t r y1)).trans ?_
  unfold k0_pay2
  pointwise
  rfl

/-- The shift's gradient after any other point. -/
theorem shift_next (c : Dev nD) (t : Fin cfg0.N) (h : ¬ t.val % 16 = 0) (y : S1x1024.Idx) :
    (outsAt0 m c t.val t.isLt).2.2.2.1 y
      = (outsAt0 m c (t.val - 1) (Nat.lt_of_le_of_lt (Nat.sub_le _ _) t.isLt)).2.2.2.1 y + shiftPart m c t y := by
  by_cases h1 : t.val % 16 = 15
  on_goal 1 => rw [outsAt0_C m c t h h1]
  on_goal 2 => rw [outsAt0_B m c t h h1]
  all_goals
    frame_out
    idx_vars y
    obtain rfl : y0 = 0 := Fin.eq_zero y0
    refine (block_dshift _ _ _ y1 (fun r => block_upstream m c t r y1)).trans ?_
    rfl

/-- The columns' sums of squares after the first point. -/
theorem square_first (c : Dev nD) (t : Fin cfg0.N) (h : t.val % 16 = 0) (y : S1x1024.Idx) :
    (outsAt0 m c t.val t.isLt).2.2.2.2.2 y = 0 + squarePart m c t y := by
  rw [outsAt0_A m c t h (by omega)]
  frame_out
  idx_vars y
  obtain rfl : y0 = 0 := Fin.eq_zero y0
  refine (block_squares _ _ _ y1 (fun r => block_error m c t r y1)).trans ?_
  unfold k0_pay3
  pointwise
  rfl

/-- The columns' sums of squares after any other point. -/
theorem square_next (c : Dev nD) (t : Fin cfg0.N) (h : ¬ t.val % 16 = 0) (y : S1x1024.Idx) :
    (outsAt0 m c t.val t.isLt).2.2.2.2.2 y
      = (outsAt0 m c (t.val - 1) (Nat.lt_of_le_of_lt (Nat.sub_le _ _) t.isLt)).2.2.2.2.2 y + squarePart m c t y := by
  by_cases h1 : t.val % 16 = 15
  on_goal 1 => rw [outsAt0_C m c t h h1]
  on_goal 2 => rw [outsAt0_B m c t h h1]
  all_goals
    frame_out
    rw [read_unread_whole]
    idx_vars y
    obtain rfl : y0 = 0 := Fin.eq_zero y0
    refine (block_squares _ _ _ y1 (fun r => block_error m c t r y1)).trans ?_
    rfl

/-- Sixteen blocks of 512 rows are the 8192 rows. -/
theorem sum_rows (f : Fin 8192 → EReal) (b : Fin 16 → ℕ) (hb : ∀ s, b s = s.val) (hs : ∀ s, b s < 16) :
    ∑ s : Fin 16, ∑ r : Fin 512, f (row ⟨b s, hs s⟩ r) = ∑ r, f r :=
  Fin.sum_mul_add_congr fun s r hl => congrArg f (Fin.ext (by simp only [row, hb]; omega))

/-- The gain's gradient after the last point. -/
theorem gain_last (c : Dev nD) (t : Fin cfg0.N) (ht : t.val % 16 = 15) (y : S1x1024.Idx) :
    (outsAt0 m c t.val t.isLt).2.2.1 y
      = dgain (V m c main_arg0) (V m c main_arg1) (V m c main_arg2) (V m c main_arg3) (ix2 (y 0) (y 1)) := by
  rw [Pipeline.eq_sum_fin_of_reset_step_apply_of_flush (fun n h => (outsAt0 m c n h).2.2.1) 16 (fun _ => 0) (gainPart m c)
    (fun t h => gain_first m c t h) (fun t h => gain_next m c t h) t ht, zero_add]
  have hN : t.val < 16 := t.isLt
  refine Eq.trans (Finset.sum_congr rfl fun s _ => ?_) (sum_rows (fun r => upstream (V m c main_arg0) (V m c main_arg1) (V m c main_arg2) (V m c main_arg3) r (y 1)
    * normed (line (V m c main_arg0) r) (y 1)) (fun s => (16 * (t.val / 16) + s.val)) (fun s => by omega) (fun s => by omega))
  rfl

/-- The shift's gradient after the last point. -/
theorem shift_last (c : Dev nD) (t : Fin cfg0.N) (ht : t.val % 16 = 15) (y : S1x1024.Idx) :
    (outsAt0 m c t.val t.isLt).2.2.2.1 y
      = dshift (V m c main_arg0) (V m c main_arg1) (V m c main_arg2) (V m c main_arg3) (ix2 (y 0) (y 1)) := by
  rw [Pipeline.eq_sum_fin_of_reset_step_apply_of_flush (fun n h => (outsAt0 m c n h).2.2.2.1) 16 (fun _ => 0) (shiftPart m c)
    (fun t h => shift_first m c t h) (fun t h => shift_next m c t h) t ht, zero_add]
  have hN : t.val < 16 := t.isLt
  refine Eq.trans (Finset.sum_congr rfl fun s _ => ?_) (sum_rows (fun r => upstream (V m c main_arg0) (V m c main_arg1) (V m c main_arg2) (V m c main_arg3) r (y 1)) (fun s => (16 * (t.val / 16) + s.val)) (fun s => by omega) (fun s => by omega))
  rfl

/-- The columns' sums of squares after the last point. -/
theorem square_last (c : Dev nD) (t : Fin cfg0.N) (ht : t.val % 16 = 15) (y : S1x1024.Idx) :
    (outsAt0 m c t.val t.isLt).2.2.2.2.2 y = squares (V m c main_arg0) (V m c main_arg1) (V m c main_arg2) (V m c main_arg3) (y 1) := by
  rw [Pipeline.eq_sum_fin_of_reset_step_apply_of_flush (fun n h => (outsAt0 m c n h).2.2.2.2.2) 16 (fun _ => 0) (squarePart m c)
    (fun t h => square_first m c t h) (fun t h => square_next m c t h) t ht, zero_add]
  have hN : t.val < 16 := t.isLt
  refine Eq.trans (Finset.sum_congr rfl fun s _ => ?_) (sum_rows (fun r => error (V m c main_arg0) (V m c main_arg1) (V m c main_arg2) (V m c main_arg3) r (y 1) * error (V m c main_arg0) (V m c main_arg1) (V m c main_arg2) (V m c main_arg3) r (y 1))
    (fun s => (16 * (t.val / 16) + s.val)) (fun s => by omega) (fun s => by omega))
  rfl

/-- The last point's loss, from the columns' sums of squares. -/
theorem loss_of_squares (c : Dev nD) (t : Fin cfg0.N) (ht : t.val % 16 = 15) (l : Fin 128) :
    (outsAt0 m c t.val t.isLt).2.2.2.2.1 (ix2 0 l) = (∑ j, (outsAt0 m c t.val t.isLt).2.2.2.2.2 (ix2 0 j)) * halfPart := by
  rw [outsAt0_C m c t (by omega) ht]
  frame_out
  refine (block_total _ l).trans ?_
  rfl

/-- The last point's loss. -/
theorem loss_last (c : Dev nD) (t : Fin cfg0.N) (ht : t.val % 16 = 15) (y : S1x128.Idx) :
    (outsAt0 m c t.val t.isLt).2.2.2.2.1 y = loss (V m c main_arg0) (V m c main_arg1) (V m c main_arg2) (V m c main_arg3) y := by
  idx_vars y
  obtain rfl : y0 = 0 := Fin.eq_zero y0
  rw [loss_of_squares m c t ht y1]
  exact congrArg (fun z : EReal => z * halfPart) (Finset.sum_congr rfl fun j _ => square_last m c t ht (ix2 0 j))

/-- The rows' gradient after the run. -/
theorem kernel_dx (c : Dev nD) : (dats m 0 c).arrAt 5 cfg0.N = dx (V m c main_arg0) (V m c main_arg1) (V m c main_arg2) (V m c main_arg3) := by
  refine (dats m 0 c).arrAt_eq_of_covers 5 _ (by decide +kernel) fun t hf y => ?_
  blk_simp
  rw [after0_5]
  idx_vars y
  refine (block_dx m c t y0 y1).trans ?_
  unfold row
  blk_ext [iblk, V, staged t]

/-- The second array after the run. -/
theorem kernel_dx_rounded (c : Dev nD) : (dats m 0 c).arrAt 6 cfg0.N = dx (V m c main_arg0) (V m c main_arg1) (V m c main_arg2) (V m c main_arg3) := by
  refine (dats m 0 c).arrAt_eq_of_covers 6 _ (by decide +kernel) fun t hf y => ?_
  blk_simp
  rw [after0_6]
  idx_vars y
  refine (block_dx_rounded m c t y0 y1).trans ?_
  unfold row
  blk_ext [iblk, V, staged t]

/-- The gain's gradient after the run. -/
theorem kernel_dgain (c : Dev nD) : (dats m 0 c).arrAt 7 cfg0.N = dgain (V m c main_arg0) (V m c main_arg1) (V m c main_arg2) (V m c main_arg3) := by
  refine (dats m 0 c).arrAt_eq_of_covers 7 _ (by decide +kernel) fun t hf y => ?_
  blk_simp
  rw [after0_7]
  idx_vars y
  refine (gain_last m c t ((flush0_7 t).mp hf) _).trans ?_
  blk_ext [iblk, V, staged t]

/-- The shift's gradient after the run. -/
theorem kernel_dshift (c : Dev nD) : (dats m 0 c).arrAt 8 cfg0.N = dshift (V m c main_arg0) (V m c main_arg1) (V m c main_arg2) (V m c main_arg3) := by
  refine (dats m 0 c).arrAt_eq_of_covers 8 _ (by decide +kernel) fun t hf y => ?_
  blk_simp
  rw [after0_8]
  idx_vars y
  refine (shift_last m c t ((flush0_8 t).mp hf) _).trans ?_
  blk_ext [iblk, V, staged t]

/-- The loss after the run. -/
theorem kernel_loss (c : Dev nD) : (dats m 0 c).arrAt 9 cfg0.N = loss (V m c main_arg0) (V m c main_arg1) (V m c main_arg2) (V m c main_arg3) := by
  refine (dats m 0 c).arrAt_eq_of_covers 9 _ (by decide +kernel) fun t hf y => ?_
  blk_simp
  rw [after0_9]
  exact loss_last m c t ((flush0_9 t).mp hf) _
end

section
/-- One over the number of columns, as a real. -/
theorem part_real : part = ((1 / 1024 : ℝ) : EReal) := by
  unfold part
  simp [Ideal.ofBits, Ideal.ieee, -EReal.coe_mul]; norm_num

/-- Half of it, as a real. -/
theorem halfPart_real : halfPart = ((1 / 2048 : ℝ) : EReal) := by
  unfold halfPart
  simp [Ideal.ofBits, Ideal.ieee, -EReal.coe_mul]; norm_num

/-- One half, as a real. -/
theorem half_real : half = ((1 / 2 : ℝ) : EReal) := by
  unfold half
  simp [Ideal.ofBits, Ideal.ieee, -EReal.coe_mul]; norm_num

/-- Twice the error, times a half of the mean's weight, is the error times that weight. -/
theorem factor (e : EReal) : Ideal.div half columns * (two * e) = e * part := by
  rw [← mul_assoc, mul_comm e, half_real, columns_real, two_real, part_real, Ideal.div_coe (by norm_num), ← EReal.coe_mul, ← EReal.coe_mul]
  norm_num

/-- A row of reals at mean zero and variance one is a row of reals. -/
theorem normed_real (f : Fin 1024 → EReal) (hf : ∀ j, ∃ r : ℝ, f j = (r : EReal)) (j : Fin 1024) : ∃ r : ℝ, normed f j = (r : EReal) := by
  choose g hg using hf
  obtain rfl : f = fun j => (g j : EReal) := funext hg
  obtain ⟨z, hz, hz'⟩ := tiny_real
  set c : Fin 1024 → ℝ := fun j => g j - (∑ j, g j) * (1 / 1024) with hc
  have hcen : ∀ j, centred (fun j => (g j : EReal)) j = (c j : EReal) := centred_real g
  set v : ℝ := (∑ j, c j * c j) * (1 / 1024) + z with hv
  have hvpos : 0 < v := by
    have : 0 ≤ ∑ j, c j * c j := Finset.sum_nonneg fun j _ => mul_self_nonneg _
    rw [hv]; positivity
  have hscale : scale (fun j => (g j : EReal)) = (((Real.sqrt v)⁻¹ : ℝ) : EReal) := by
    unfold scale
    simp only [hcen, ← EReal.coe_mul]
    rw [mean_real, hz', ← EReal.coe_add, Ideal.rsqrt_coe, if_neg (not_lt.mpr hvpos.le), if_neg hvpos.ne']
  exact real_mul ⟨_, hcen j⟩ ⟨_, hscale⟩

/-- Half the sum of the rows' means is the sum of the columns' sums over twice the columns, for reals. -/
theorem half_sum (e : Fin 8192 → Fin 1024 → EReal) (he : ∀ r j, ∃ z : ℝ, e r j = (z : EReal)) :
    half * ∑ r, Ideal.div (∑ j, e r j * e r j) columns = (∑ j, ∑ r, e r j * e r j) * halfPart := by
  choose z hz using he
  rw [Finset.sum_comm]
  simp only [hz, ← EReal.coe_mul, Cert.Grad.sum_real, half_real, halfPart_real, columns_real, Ideal.div_coe (show (1024 : ℝ) ≠ 0 by norm_num)]
  refine congrArg (fun q : ℝ => (q : EReal)) ?_
  rw [← Finset.sum_mul]
  ring
end

section
open Cert.ReferenceLossNormIdeal Cert.ReferenceLossNormIdeal.Read

variable (x : Acts) (a b : Gain) (y : Acts)

/-- The reference's means. -/
theorem reference_mean (r : Fin 8192) (i : Fin 1) : val_main_v3 (F := Ideal) x (ix2 r i) = mean (line x r) := by
  unfold val_main_v3 val_main_v2 val_main_v1 val_main_v0 val_main_cst val_main_cst_0
  pointwise
  rfl

/-- The reference's rows less their means. -/
theorem reference_centred (r : Fin 8192) (j : Fin 1024) : val_main_v5 (F := Ideal) x (ix2 r j) = centred (line x r) j := by
  have h := reference_mean x r 0
  unfold val_main_v5 val_main_v4
  generalize val_main_v3 (F := Ideal) x = z at h ⊢
  pointwise
  rw [h]
  rfl

/-- The same, where the reference takes the mean off again. -/
theorem reference_centred_again (r : Fin 8192) (j : Fin 1024) : val_main_v14 (F := Ideal) x (ix2 r j) = centred (line x r) j :=
  reference_centred x r j

/-- The reference's variances. -/
theorem reference_spread (r : Fin 8192) (i : Fin 1) : val_main_v16 (F := Ideal) x (ix2 r i) = spread (line x r) := by
  have h := reference_centred x r
  unfold val_main_v16 val_main_v15 val_main_v12 val_main_v11 val_main_v10 val_main_v9 val_main_v6 val_main_cst_2 val_main_cst_3 val_main_cst_4
  generalize val_main_v5 (F := Ideal) x = z at h ⊢
  pointwise
  simp only [h]
  rfl

/-- The reference's scales. -/
theorem reference_scale (r : Fin 8192) (i : Fin 1) : val_main_v17 (F := Ideal) x (ix2 r i) = scale (line x r) := by
  have h := reference_spread x r i
  unfold val_main_v17
  generalize val_main_v16 (F := Ideal) x = z at h ⊢
  pointwise
  rw [h]
  rfl

/-- What the reference's derivative of the root multiplies. -/
theorem reference_root (r : Fin 8192) (i : Fin 1) :
    val_main_v20 (F := Ideal) x (ix2 r i) = minusHalf * Ideal.div (scale (line x r)) (spread (line x r)) := by
  have h := reference_spread x r i
  have h' := reference_scale x r i
  unfold val_main_v20 val_main_v19 val_main_v18 val_main_cst_5
  generalize val_main_v17 (F := Ideal) x = z at h' ⊢
  generalize val_main_v16 (F := Ideal) x = w at h ⊢
  pointwise
  rw [h, h']
  rfl

/-- The reference's normed rows. -/
theorem reference_hat (r : Fin 8192) (j : Fin 1024) : val_main_v22 (F := Ideal) x (ix2 r j) = normed (line x r) j := by
  have h := reference_centred_again x r j
  have h' := reference_scale x r 0
  unfold val_main_v22 val_main_v21
  generalize val_main_v17 (F := Ideal) x = z at h' ⊢
  generalize val_main_v14 (F := Ideal) x = w at h ⊢
  pointwise
  rw [h, h']
  rfl

/-- The reference's errors. -/
theorem reference_error (r : Fin 8192) (j : Fin 1024) : val_main_v27 (F := Ideal) x a b y (ix2 r j) = error x a b y r j := by
  have h := reference_hat x r j
  unfold val_main_v27 val_main_v26 val_main_v25 val_main_v24 val_main_v23
  generalize val_main_v22 (F := Ideal) x = z at h ⊢
  pointwise
  rw [h]
  rfl

/-- The reference's gradient of the norm's result. -/
theorem reference_upstream (r : Fin 8192) (j : Fin 1024) : val_main_v41 (F := Ideal) x a b y (ix2 r j) = upstream x a b y r j := by
  have h := reference_error x a b y r j
  unfold val_main_v41 val_main_v40 val_main_v39 val_main_v38 val_main_v37 val_main_v36 val_main_v30 val_main_v29
    val_main_cst_6 val_main_cst_11 val_main_cst_12 val_main_cst_13
  generalize val_main_v27 (F := Ideal) x a b y = z at h ⊢
  pointwise
  rw [h]
  exact factor _

/-- The reference's gradient of the normed rows. -/
theorem reference_inward (r : Fin 8192) (j : Fin 1024) : val_main_v48 (F := Ideal) x a b y (ix2 r j) = inward x a b y r j := by
  have h := reference_upstream x a b y r j
  unfold val_main_v48 val_main_v47
  generalize val_main_v41 (F := Ideal) x a b y = z at h ⊢
  pointwise
  rw [h]
  rfl

/-- The reference's gradient of the shift. -/
theorem reference_dshift : val_main_v43 (F := Ideal) x a b y = dshift x a b y := by
  funext i
  idx_vars i
  have h := fun r => reference_upstream x a b y r i1
  unfold val_main_v43 val_main_v42 val_main_cst_14
  generalize val_main_v41 (F := Ideal) x a b y = z at h ⊢
  pointwise
  simp only [h]
  rfl

/-- The reference's gradient of the gain. -/
theorem reference_dgain : val_main_v46 (F := Ideal) x a b y = dgain x a b y := by
  funext i
  idx_vars i
  have h := fun r => reference_upstream x a b y r i1
  have h' := fun r => reference_hat x r i1
  unfold val_main_v46 val_main_v45 val_main_v44 val_main_cst_15
  generalize val_main_v41 (F := Ideal) x a b y = z at h ⊢
  generalize val_main_v22 (F := Ideal) x = w at h' ⊢
  pointwise
  simp only [h, h']
  exact Finset.sum_congr rfl fun r _ => mul_comm _ _

/-- What reaches a row past the scale. -/
theorem reference_straight (r : Fin 8192) (j : Fin 1024) :
    val_main_v53 (F := Ideal) x a b y (ix2 r j) = inward x a b y r j * scale (line x r) := by
  have h := reference_inward x a b y r j
  have h' := reference_scale x r 0
  unfold val_main_v53 val_main_v52
  generalize val_main_v48 (F := Ideal) x a b y = z at h ⊢
  generalize val_main_v17 (F := Ideal) x = w at h' ⊢
  pointwise
  rw [h, h']

/-- What reaches a row through its variance. -/
theorem reference_along (r : Fin 8192) (j : Fin 1024) :
    val_main_v62 (F := Ideal) x a b y (ix2 r j) = alongVariance (line x r) (inward x a b y r) j := by
  have h := reference_inward x a b y r
  have hc := reference_centred x r
  have hc' := reference_centred_again x r
  have hr := reference_root x r
  unfold val_main_v62 val_main_v61 val_main_v60 val_main_v59 val_main_v58 val_main_v54 val_main_v51 val_main_v50 val_main_v49 val_main_v8 val_main_v7
    val_main_cst_1 val_main_cst_16 val_main_cst_18 val_main_cst_19
  generalize val_main_v48 (F := Ideal) x a b y = z at h ⊢
  generalize val_main_v20 (F := Ideal) x = w at hr ⊢
  generalize val_main_v14 (F := Ideal) x = p at hc' ⊢
  generalize val_main_v5 (F := Ideal) x = q at hc ⊢
  pointwise
  simp only [h, hc, hc', hr, Fin.sum_univ_one]
  rfl

/-- The reference's gradient of the rows, by the chain rule. -/
theorem reference_chain (r : Fin 8192) (j : Fin 1024) :
    val_main_v72 (F := Ideal) x a b y (ix2 r j) = chain (line x r) (inward x a b y r) j := by
  have h := reference_straight x a b y r
  have h' := reference_along x a b y r
  unfold val_main_v72 val_main_v71 val_main_v70 val_main_v69 val_main_v68 val_main_v67 val_main_v66 val_main_v65 val_main_v64 val_main_v63
    val_main_v57 val_main_v56 val_main_v55 val_main_cst_17 val_main_cst_20 val_main_cst_21 val_main_cst_22
  generalize val_main_v53 (F := Ideal) x a b y = z at h ⊢
  generalize val_main_v62 (F := Ideal) x a b y = w at h' ⊢
  pointwise
  simp only [h, h', Fin.sum_univ_one]
  rfl

/-- The reference's gradient of the rows, for reals. -/
theorem reference_dx (hx : ∀ r j, ∃ z : ℝ, line x r j = (z : EReal)) (hd : ∀ r j, ∃ z : ℝ, inward x a b y r j = (z : EReal)) :
    val_main_v72 (F := Ideal) x a b y = dx x a b y := by
  funext i
  idx_vars i
  exact (reference_chain x a b y i0 i1).trans (chain_eq_slope _ _ (hx i0) (hd i0) i1)

/-- The same gradient in the second array. -/
theorem reference_dx_rounded (hx : ∀ r j, ∃ z : ℝ, line x r j = (z : EReal)) (hd : ∀ r j, ∃ z : ℝ, inward x a b y r j = (z : EReal)) :
    val_main_v73 (F := Ideal) x a b y = dx x a b y := by
  funext i
  rw [val_main_v73_apply]
  exact congrFun (reference_dx x a b y hx hd) i

/-- The reference's sum of the rows' mean squared errors, halved. -/
theorem reference_half (i : S_.Idx) : val_main_v35 (F := Ideal) x a b y i = half * ∑ r, Ideal.div (∑ j, error x a b y r j * error x a b y r j) columns := by
  have h := reference_error x a b y
  unfold val_main_v35 val_main_v34 val_main_v33 val_main_v32 val_main_v31 val_main_v28 val_main_cst_7 val_main_cst_8 val_main_cst_9 val_main_cst_10
  generalize val_main_v27 (F := Ideal) x a b y = z at h ⊢
  pointwise
  simp only [h]
  rfl

/-- The reference's loss, for real errors. -/
theorem reference_loss (he : ∀ r j, ∃ z : ℝ, error x a b y r j = (z : EReal)) : val_main_v75 (F := Ideal) x a b y = loss x a b y := by
  funext i
  rw [val_main_v75_apply]
  unfold val_main_v74
  exact (reference_half x a b y _).trans (half_sum _ he)

/-- The reference ends with every counter at zero: it has none. -/
theorem frame_reference : Cert.quiescent_ReferenceLossNormIdeal := by
  intro m ρ _
  exact (θ_run defs _ _).mono (fun r h => ⟨fun c => (h c).2.2.2.2.2, sem_eq_zero_of_no_sems (by decide) r.2⟩) (Value.run (F := Ideal) m ρ)
end

section
variable [Cert.Pre_finite_loss_norm.Facts] (x : Acts) (a b : Gain) (y : Acts)

/-- Under the precondition the rows are reals. -/
theorem line_real (h : (Cert.Pre_finite_loss_norm.fn (F := Ideal) x a b y).1 = fun _ => 1#1) (r : Fin 8192) (j : Fin 1024) :
    ∃ z : ℝ, line x r j = (z : EReal) := by
  have h := congrFun h (ix2 r j)
  unfold Cert.Pre_finite_loss_norm.fn at h
  pointwise at h
  exact Cert.Pre_finite.Hand.real_of_cmp (φ := .f32) h

/-- Under the precondition the gain is real. -/
theorem gain_real (h : (Cert.Pre_finite_loss_norm.fn (F := Ideal) x a b y).2.1 = fun _ => 1#1) (j : Fin 1024) :
    ∃ z : ℝ, a (ix2 0 j) = (z : EReal) := by
  have h := congrFun h (ix2 0 j)
  unfold Cert.Pre_finite_loss_norm.fn at h
  pointwise at h
  exact Cert.Pre_finite.Hand.real_of_cmp (φ := .f32) h

/-- Under the precondition the shift is real. -/
theorem shift_real (h : (Cert.Pre_finite_loss_norm.fn (F := Ideal) x a b y).2.2.1 = fun _ => 1#1) (j : Fin 1024) :
    ∃ z : ℝ, b (ix2 0 j) = (z : EReal) := by
  have h := congrFun h (ix2 0 j)
  unfold Cert.Pre_finite_loss_norm.fn at h
  pointwise at h
  exact Cert.Pre_finite.Hand.real_of_cmp (φ := .f32) h

/-- Under the precondition the target is real. -/
theorem target_real (h : (Cert.Pre_finite_loss_norm.fn (F := Ideal) x a b y).2.2.2 = fun _ => 1#1) (r : Fin 8192) (j : Fin 1024) :
    ∃ z : ℝ, -y (ix2 r j) = (z : EReal) := by
  have h := congrFun h (ix2 r j)
  unfold Cert.Pre_finite_loss_norm.fn at h
  pointwise at h
  obtain ⟨z, hz⟩ := Cert.Pre_finite.Hand.real_of_cmp (φ := .f32) h
  exact ⟨-z, by rw [EReal.coe_neg]; exact congrArg (fun u : EReal => -u) hz⟩

/-- Under the precondition the errors are real. -/
theorem error_real (h0 : (Cert.Pre_finite_loss_norm.fn (F := Ideal) x a b y).1 = fun _ => 1#1)
    (h1 : (Cert.Pre_finite_loss_norm.fn (F := Ideal) x a b y).2.1 = fun _ => 1#1)
    (h2 : (Cert.Pre_finite_loss_norm.fn (F := Ideal) x a b y).2.2.1 = fun _ => 1#1)
    (h3 : (Cert.Pre_finite_loss_norm.fn (F := Ideal) x a b y).2.2.2 = fun _ => 1#1)
    (r : Fin 8192) (j : Fin 1024) : ∃ z : ℝ, error x a b y r j = (z : EReal) := by
  unfold error
  rw [sub_eq_add_neg]
  exact real_add (real_add (real_mul (normed_real _ (line_real x a b y h0 r) j) (gain_real x a b y h1 j)) (shift_real x a b y h2 j)) (target_real x a b y h3 r j)

set_option maxHeartbeats 1000000 in
/-- Kernel and reference leave the same arrays. -/
theorem equal : Cert.algebraic_KernelLossNormIdeal_ReferenceLossNormIdeal_pre_finite_loss_norm := by
  intro m ρ m' ρ' hpre hag
  refine ⟨fun c => dx (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3)),
    fun c => dx (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3)),
    fun c => dgain (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3)),
    fun c => dshift (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3)),
    fun c => loss (m ((c.tc : Thread Cert.KernelLossNormIdeal.nD Cert.KernelLossNormIdeal.τ).loc Cert.KernelLossNormIdeal.main_arg0)) (m ((c.tc : Thread Cert.KernelLossNormIdeal.nD Cert.KernelLossNormIdeal.τ).loc Cert.KernelLossNormIdeal.main_arg1)) (m ((c.tc : Thread Cert.KernelLossNormIdeal.nD Cert.KernelLossNormIdeal.τ).loc Cert.KernelLossNormIdeal.main_arg2)) (m ((c.tc : Thread Cert.KernelLossNormIdeal.nD Cert.KernelLossNormIdeal.τ).loc Cert.KernelLossNormIdeal.main_arg3)),
    (θ_run Cert.KernelLossNormIdeal.defs _ _).mono (fun r h c => ?_) (Cert.KernelLossNormIdeal.Value.run_blocks m ρ), ?_⟩
  · exact ⟨(h c).1.trans (kernel_dx m c), (h c).2.1.trans (kernel_dx_rounded m c), (h c).2.2.1.trans (kernel_dgain m c),
      (h c).2.2.2.1.trans (kernel_dshift m c), (h c).2.2.2.2.1.trans (kernel_loss m c), (h c).2.2.2.2.2⟩
  · refine (θ_run Cert.ReferenceLossNormIdeal.defs _ _).mono (fun r h c => ?_) (Cert.ReferenceLossNormIdeal.Value.run m' ρ')
    obtain ⟨a0, a1, a2, a3⟩ := hag c
    obtain ⟨p0, p1, p2, p3⟩ := hpre c
    have hx := line_real _ _ _ _ p0
    have he := error_real _ _ _ _ p0 p1 p2 p3
    have hd := fun r j => real_mul (real_mul (he r j) ⟨_, part_real⟩) (gain_real _ _ _ _ p1 j)
    refine ⟨((h c).1.trans (Cert.ReferenceLossNormIdeal.Read.val_main_v72_eq m' c)).trans ?_,
      ((h c).2.1.trans (Cert.ReferenceLossNormIdeal.Read.val_main_v73_eq m' c)).trans ?_,
      ((h c).2.2.1.trans (Cert.ReferenceLossNormIdeal.Read.val_main_v46_eq _ _ _ _)).trans ?_,
      ((h c).2.2.2.1.trans (Cert.ReferenceLossNormIdeal.Read.val_main_v43_eq _ _ _ _)).trans ?_,
      ((h c).2.2.2.2.1.trans (Cert.ReferenceLossNormIdeal.Read.val_main_v75_eq m' c)).trans ?_, (h c).2.2.2.2.2⟩
    · rw [a0, a1, a2, a3]
      exact reference_dx _ _ _ _ hx hd
    · rw [a0, a1, a2, a3]
      exact reference_dx_rounded _ _ _ _ hx hd
    · rw [a0, a1, a2, a3]
      exact reference_dgain _ _ _ _
    · rw [a0, a1, a2, a3]
      exact reference_dshift _ _ _ _
    · rw [a0, a1, a2, a3]
      exact reference_loss _ _ _ _ he
end

end Cert.LossNorm
end
-- ==== Proof.OutNorm.lean ====
/-
  The norm after a square product: the weighted residual plus a product, brought row by row to mean zero and variance one.
-/
module
public import proofs.«01_k».proof.Defs
public import proofs.«01_k».proof.Proof.Norm
public import proofs.«01_k».proof.Proof.Gen.KernelOutNormIdeal.Value
public import proofs.«01_k».proof.Proof.Gen.ReferenceOutNormIdeal.Run
public import proofs.«01_k».proof.Proof.Gen.ReferenceOutNormIdeal.Read

@[expose] public section
set_option maxRecDepth 16384
noncomputable section
namespace Cert.OutNorm
open Idealize.ShloMosaic Idealize.ShloMosaic.TcCoe Idealize.SL.Sem Cert.Norm

/-- Rows of the residual stream, over the extended reals. -/
abbrev Acts := (⟨2, ![8192, 1024]⟩ : Shape).Idx → EReal
/-- The product's left factor, over the extended reals. -/
abbrev Left := (⟨2, ![8192, 1024]⟩ : Shape).Idx → EReal
/-- The product's weight, over the extended reals. -/
abbrev Weight := (⟨2, ![1024, 1024]⟩ : Shape).Idx → EReal
/-- The norm's gain or shift, over the extended reals. -/
abbrev Gain := (⟨2, ![1, 1024]⟩ : Shape).Idx → EReal
/-- A scale per row, written 128 times. -/
abbrev Scales := (⟨2, ![8192, 128]⟩ : Shape).Idx → EReal

/-- The row that is normed. -/
def line (x : Acts) (a : Left) (w : Weight) : Fin 8192 → Fin 1024 → EReal :=
  weighted (fun r j => x (ix2 r j)) (fun r k => a (ix2 r k)) (fun k j => w (ix2 k j))
/-- The normed rows. -/
def hat (x : Acts) (a : Left) (w : Weight) : Acts := fun i => normed (line x a w (i 0)) (i 1)
/-- The normed rows, times the gain, plus the shift. -/
def out (x : Acts) (a : Left) (w : Weight) (g b : Gain) : Acts := fun i => hat x a w i * g (ix2 0 (i 1)) + b (ix2 0 (i 1))
/-- The rows' scales. -/
def scales (x : Acts) (a : Left) (w : Weight) : Scales := fun i => scale (line x a w (i 0))

section
open Cert.KernelOutNormIdeal Cert.KernelOutNormIdeal.Gen

variable (m : (ℓ : Loc nD τ sig) → Buf (Elt Ideal) ℓ)

/-- The blocks a point stages: 512 rows, the whole weight, the gain and the shift. -/
theorem staged : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![t.val, 0]
    ∧ win0_6.index t = ![t.val, 0] ∧ win0_7.index t = ![t.val, 0] ∧ win0_8.index t = ![t.val, 0] := by decide +kernel

/-- Row `r` of a point's block. -/
def row (t : Fin cfg0.N) (r : Fin 512) : Fin 8192 := ⟨512 * t.val + r.val, by have : t.val < 16 := t.isLt; omega⟩

/-- A point's rows less their means. -/
theorem block_centred (c : Dev nD) (t : Fin cfg0.N) (r : Fin 512) (j : Fin 1024) :
    k0_pay2 (F := Ideal) (iblk m c 0 t) (iblk m c 1 t) (iblk m c 2 t) (ix2 r j)
      = centred (line (V m c main_arg0) (V m c main_arg1) (V m c main_arg2) (row t r)) j := by
  have h : ∀ j : Fin 1024, (fun (x : Vec Ideal S512x1024 .f32) (a : Vec Ideal S512x1024 .bf16) (w : Vec Ideal S1024x1024 .bf16) =>
      (keep * x (ix2 r j) + ∑ k, a (ix2 r k) * w (ix2 k j) : EReal)) (iblk m c 0 t) (iblk m c 1 t) (iblk m c 2 t)
      = line (V m c main_arg0) (V m c main_arg1) (V m c main_arg2) (row t r) j := by
    intro j
    beta_reduce
    unfold line weighted
    refine congrArg₂ (fun a b : EReal => a + b) (congrArg (fun a : EReal => keep * a) ?_) ?_
    · unfold row; blk_ext [iblk, V, staged t]
    · refine Finset.sum_congr rfl fun k _ => congrArg₂ (fun a b : EReal => a * b) ?_ ?_
      · unfold row; blk_ext [iblk, V, staged t]
      · blk_ext [iblk, V, staged t]
  unfold k0_pay2
  pointwise
  change keep * _ + _ - Ideal.div (∑ x, (keep * _ + _)) columns = _
  unfold centred mean
  refine congrArg₂ (fun a b : EReal => a - b) (h j) (congrArg (fun a : EReal => Ideal.div a columns) ?_)
  exact Finset.sum_congr rfl fun k _ => h k

/-- A point's scales. -/
theorem block_scale (c : Dev nD) (t : Fin cfg0.N) (r : Fin 512) (j : Fin 1) :
    k0_pay3 (F := Ideal) (iblk m c 0 t) (iblk m c 1 t) (iblk m c 2 t) (ix2 r j)
      = scale (line (V m c main_arg0) (V m c main_arg1) (V m c main_arg2) (row t r)) := by
  have h := block_centred m c t r
  unfold k0_pay3
  generalize k0_pay2 (F := Ideal) (iblk m c 0 t) (iblk m c 1 t) (iblk m c 2 t) = A at h ⊢
  pointwise
  unfold scale mean columns tiny
  simp only [h]

/-- A point's normed rows. -/
theorem block_hat (c : Dev nD) (t : Fin cfg0.N) (r : Fin 512) (j : Fin 1024) :
    k0_pay4 (F := Ideal) (iblk m c 0 t) (iblk m c 1 t) (iblk m c 2 t) (ix2 r j)
      = hat (V m c main_arg0) (V m c main_arg1) (V m c main_arg2) (ix2 (row t r) j) := by
  have h := block_centred m c t r j
  have h' := block_scale m c t r 0
  unfold k0_pay4
  generalize k0_pay2 (F := Ideal) (iblk m c 0 t) (iblk m c 1 t) (iblk m c 2 t) = A at h ⊢
  generalize k0_pay3 (F := Ideal) (iblk m c 0 t) (iblk m c 1 t) (iblk m c 2 t) = B at h' ⊢
  pointwise
  rw [h, h']
  rfl

/-- A point's results. -/
theorem block_out (c : Dev nD) (t : Fin cfg0.N) (r : Fin 512) (j : Fin 1024) :
    k0_pay5 (F := Ideal) (iblk m c 0 t) (iblk m c 1 t) (iblk m c 2 t) (iblk m c 3 t) (iblk m c 4 t) (ix2 r j)
      = out (V m c main_arg0) (V m c main_arg1) (V m c main_arg2) (V m c main_arg3) (V m c main_arg4) (ix2 (row t r) j) := by
  have h := block_hat m c t r j
  unfold k0_pay5
  generalize k0_pay4 (F := Ideal) (iblk m c 0 t) (iblk m c 1 t) (iblk m c 2 t) = A at h ⊢
  pointwise
  rw [h]
  unfold out
  refine congrArg₂ (fun a b : EReal => (hat (V m c main_arg0) (V m c main_arg1) (V m c main_arg2) (ix2 (row t r) j) : EReal) * a + b) ?_ ?_
  · blk_ext [iblk, V, staged t]
  · blk_ext [iblk, V, staged t]

/-- The results after the run. -/
theorem kernel_out (c : Dev nD) : (dats m 0 c).arrAt 5 cfg0.N
    = out (V m c main_arg0) (V m c main_arg1) (V m c main_arg2) (V m c main_arg3) (V m c main_arg4) := by
  refine (dats m 0 c).arrAt_eq_of_covers 5 _ (by decide +kernel) fun t hf y => ?_
  blk_simp
  rw [after0_5]
  idx_vars y
  unfold out0_5
  frame_out
  refine (block_out m c t y0 y1).trans ?_
  unfold row
  blk_ext [iblk, V, staged t]

/-- The same results in the second array. -/
theorem kernel_out_rounded (c : Dev nD) : (dats m 0 c).arrAt 6 cfg0.N
    = out (V m c main_arg0) (V m c main_arg1) (V m c main_arg2) (V m c main_arg3) (V m c main_arg4) := by
  refine (dats m 0 c).arrAt_eq_of_covers 6 _ (by decide +kernel) fun t hf y => ?_
  blk_simp
  rw [after0_6]
  idx_vars y
  unfold out0_6
  frame_out
  refine Eq.trans ?_ ((block_out m c t y0 y1).trans ?_)
  · rfl
  · unfold row
    blk_ext [iblk, V, staged t]

/-- The normed rows after the run. -/
theorem kernel_hat (c : Dev nD) : (dats m 0 c).arrAt 7 cfg0.N
    = hat (V m c main_arg0) (V m c main_arg1) (V m c main_arg2) := by
  refine (dats m 0 c).arrAt_eq_of_covers 7 _ (by decide +kernel) fun t hf y => ?_
  blk_simp
  rw [after0_7]
  idx_vars y
  unfold out0_7
  frame_out
  refine (block_hat m c t y0 y1).trans ?_
  unfold row
  blk_ext [iblk, V, staged t]

/-- The scales after the run. -/
theorem kernel_scales (c : Dev nD) : (dats m 0 c).arrAt 8 cfg0.N
    = scales (V m c main_arg0) (V m c main_arg1) (V m c main_arg2) := by
  refine (dats m 0 c).arrAt_eq_of_covers 8 _ (by decide +kernel) fun t hf y => ?_
  blk_simp
  rw [after0_8]
  idx_vars y
  unfold out0_8
  frame_out
  refine Eq.trans ?_ ((block_scale m c t y0 0).trans ?_)
  · unfold k0_pay1
    generalize k0_pay3 (F := Ideal) (iblk m c 0 t) (iblk m c 1 t) (iblk m c 2 t) = B
    pointwise
  · have e : row t y0 = (win0_8.blk t).view.emb (ix2 y0 y1) 0 := by
      refine Fin.ext ?_
      unfold row
      blk_simp [staged t]
      simp
      omega
    exact congrArg (fun r : Fin 8192 => scale (line (V m c main_arg0) (V m c main_arg1) (V m c main_arg2) r)) e
end

section
open Cert.ReferenceOutNormIdeal Cert.ReferenceOutNormIdeal.Read

variable (x : Acts) (a : Left) (w : Weight) (g b : Gain)

/-- The reference's row before its norm. -/
theorem reference_line (r : Fin 8192) (j : Fin 1024) : val_main_v5 (F := Ideal) x a w (ix2 r j) = line x a w r j := by
  unfold val_main_v5 val_main_v4 val_main_v3 val_main_v2 val_main_v1 val_main_v0 val_main_cst
  pointwise
  rfl

/-- The reference's mean of a row. -/
theorem reference_mean (r : Fin 8192) (k : Fin 1) : val_main_v9 (F := Ideal) x a w (ix2 r k) = mean (line x a w r) := by
  have h := reference_line x a w r
  unfold val_main_v9 val_main_v8 val_main_v7 val_main_v6 val_main_cst_1 val_main_cst_0
  generalize val_main_v5 (F := Ideal) x a w = y at h ⊢
  pointwise
  unfold mean columns
  simp only [h]

/-- The reference's row less its mean. -/
theorem reference_centred (r : Fin 8192) (j : Fin 1024) : val_main_v11 (F := Ideal) x a w (ix2 r j) = centred (line x a w r) j := by
  have h := reference_line x a w r j
  have h' := reference_mean x a w r 0
  unfold val_main_v11 val_main_v10
  generalize val_main_v5 (F := Ideal) x a w = y at h ⊢
  generalize val_main_v9 (F := Ideal) x a w = z at h' ⊢
  pointwise
  rw [h, h']
  rfl

/-- The reference's scale of a row. -/
theorem reference_scale (r : Fin 8192) (k : Fin 1) : val_main_v21 (F := Ideal) x a w (ix2 r k) = scale (line x a w r) := by
  have h := reference_centred x a w r
  unfold val_main_v21 val_main_v20 val_main_v19 val_main_v16 val_main_v15 val_main_v14 val_main_v13 val_main_v12
    val_main_cst_2 val_main_cst_3 val_main_cst_4
  generalize val_main_v11 (F := Ideal) x a w = y at h ⊢
  pointwise
  unfold scale mean columns tiny
  simp only [h]

/-- The reference's normed rows. -/
theorem reference_hat : val_main_v23 (F := Ideal) x a w = hat x a w := by
  funext i
  idx_vars i
  have h := reference_centred x a w i0 i1
  have h' := reference_scale x a w i0 0
  change val_main_v11 (F := Ideal) x a w (ix2 i0 i1) * val_main_v22 (F := Ideal) x a w (ix2 i0 i1) = _
  rw [h]
  unfold val_main_v22
  generalize val_main_v21 (F := Ideal) x a w = z at h' ⊢
  pointwise
  rw [h']
  rfl

/-- The reference's normed rows, as the forward keeps them. -/
theorem reference_kept : val_main_v45 (F := Ideal) x a w = hat x a w := reference_hat x a w

/-- The reference's scales. -/
theorem reference_scales : val_main_v46 (F := Ideal) x a w = scales x a w := by
  funext i
  idx_vars i
  have h' := reference_scale x a w i0 0
  change broadcastInDim _ _ _ (val_main_v21 (F := Ideal) x a w) _ = _
  generalize val_main_v21 (F := Ideal) x a w = z at h' ⊢
  pointwise
  rw [h']
  rfl

/-- The reference's results. -/
theorem reference_out : val_main_v27 (F := Ideal) x a w g b = out x a w g b := by
  funext i
  idx_vars i
  have h := congrFun (reference_hat x a w) (ix2 i0 i1)
  unfold val_main_v27 val_main_v26 val_main_v25 val_main_v24
  generalize val_main_v23 (F := Ideal) x a w = z at h ⊢
  pointwise
  rw [h]
  rfl

/-- The reference's results in the second array. -/
theorem reference_out_rounded : val_main_v47 (F := Ideal) x a w g b = out x a w g b := by
  funext i
  rw [val_main_v47_apply]
  exact congrFun (reference_out x a w g b) i

/-- The reference ends with every counter at zero: it has none. -/
theorem frame_reference : Cert.quiescent_ReferenceOutNormIdeal := by
  intro m ρ _
  exact (θ_run defs _ _).mono (fun r h => ⟨fun c => (h c).2.2.2.2, sem_eq_zero_of_no_sems (by decide) r.2⟩) (Value.run (F := Ideal) m ρ)
end

/-- Kernel and reference leave the same arrays. -/
theorem equal : Cert.algebraic_KernelOutNormIdeal_ReferenceOutNormIdeal := by
  intro m ρ m' ρ' _ hag
  refine ⟨fun c => out (m ((c.tc : Thread Cert.KernelOutNormIdeal.nD Cert.KernelOutNormIdeal.τ).loc Cert.KernelOutNormIdeal.main_arg0)) (m ((c.tc : Thread Cert.KernelOutNormIdeal.nD Cert.KernelOutNormIdeal.τ).loc Cert.KernelOutNormIdeal.main_arg1)) (m ((c.tc : Thread Cert.KernelOutNormIdeal.nD Cert.KernelOutNormIdeal.τ).loc Cert.KernelOutNormIdeal.main_arg2)) (m ((c.tc : Thread Cert.KernelOutNormIdeal.nD Cert.KernelOutNormIdeal.τ).loc Cert.KernelOutNormIdeal.main_arg3)) (m ((c.tc : Thread Cert.KernelOutNormIdeal.nD Cert.KernelOutNormIdeal.τ).loc Cert.KernelOutNormIdeal.main_arg4)),
    fun c => out (m ((c.tc : Thread Cert.KernelOutNormIdeal.nD Cert.KernelOutNormIdeal.τ).loc Cert.KernelOutNormIdeal.main_arg0)) (m ((c.tc : Thread Cert.KernelOutNormIdeal.nD Cert.KernelOutNormIdeal.τ).loc Cert.KernelOutNormIdeal.main_arg1)) (m ((c.tc : Thread Cert.KernelOutNormIdeal.nD Cert.KernelOutNormIdeal.τ).loc Cert.KernelOutNormIdeal.main_arg2)) (m ((c.tc : Thread Cert.KernelOutNormIdeal.nD Cert.KernelOutNormIdeal.τ).loc Cert.KernelOutNormIdeal.main_arg3)) (m ((c.tc : Thread Cert.KernelOutNormIdeal.nD Cert.KernelOutNormIdeal.τ).loc Cert.KernelOutNormIdeal.main_arg4)),
    fun c => hat (m ((c.tc : Thread Cert.KernelOutNormIdeal.nD Cert.KernelOutNormIdeal.τ).loc Cert.KernelOutNormIdeal.main_arg0)) (m ((c.tc : Thread Cert.KernelOutNormIdeal.nD Cert.KernelOutNormIdeal.τ).loc Cert.KernelOutNormIdeal.main_arg1)) (m ((c.tc : Thread Cert.KernelOutNormIdeal.nD Cert.KernelOutNormIdeal.τ).loc Cert.KernelOutNormIdeal.main_arg2)),
    fun c => scales (m ((c.tc : Thread Cert.KernelOutNormIdeal.nD Cert.KernelOutNormIdeal.τ).loc Cert.KernelOutNormIdeal.main_arg0)) (m ((c.tc : Thread Cert.KernelOutNormIdeal.nD Cert.KernelOutNormIdeal.τ).loc Cert.KernelOutNormIdeal.main_arg1)) (m ((c.tc : Thread Cert.KernelOutNormIdeal.nD Cert.KernelOutNormIdeal.τ).loc Cert.KernelOutNormIdeal.main_arg2)),
    (θ_run Cert.KernelOutNormIdeal.defs _ _).mono (fun r h c => ?_) (Cert.KernelOutNormIdeal.Value.run_blocks m ρ), ?_⟩
  · exact ⟨(h c).1.trans (kernel_out m c), (h c).2.1.trans (kernel_out_rounded m c), (h c).2.2.1.trans (kernel_hat m c),
      (h c).2.2.2.1.trans (kernel_scales m c), (h c).2.2.2.2⟩
  · refine (θ_run Cert.ReferenceOutNormIdeal.defs _ _).mono (fun r h c => ?_) (Cert.ReferenceOutNormIdeal.Value.run m' ρ')
    obtain ⟨a0, a1, a2, a3, a4⟩ := hag c
    refine ⟨((h c).1.trans (Cert.ReferenceOutNormIdeal.Read.val_main_v27_eq _ _ _ _ _)).trans ?_,
      ((h c).2.1.trans (Cert.ReferenceOutNormIdeal.Read.val_main_v47_eq _ _ _ _ _)).trans ?_,
      ((h c).2.2.1.trans (Cert.ReferenceOutNormIdeal.Read.val_main_v45_eq _ _ _)).trans ?_,
      ((h c).2.2.2.1.trans (Cert.ReferenceOutNormIdeal.Read.val_main_v46_eq _ _ _)).trans ?_, (h c).2.2.2.2⟩
    · rw [a0, a1, a2, a3, a4]
      exact reference_out _ _ _ _ _
    · rw [a0, a1, a2, a3, a4]
      exact reference_out_rounded _ _ _ _ _
    · rw [a0, a1, a2]
      exact reference_kept _ _ _
    · rw [a0, a1, a2]
      exact reference_scales _ _ _

end Cert.OutNorm
end
-- ==== Proof.InProduct.lean ====
/-
  The product that opens a layer: each block of 512 rows times the weight.
-/
module
public import proofs.«01_k».proof.Defs
public import proofs.«01_k».proof.Proof.Products
public import proofs.«01_k».proof.Proof.Gen.KernelInProductIdeal.Value
public import proofs.«01_k».proof.Proof.Gen.ReferenceInProductIdeal.Run
public import proofs.«01_k».proof.Proof.Gen.ReferenceInProductIdeal.Read

@[expose] public section
set_option maxRecDepth 16384
noncomputable section
namespace Cert.InProduct
open Idealize.ShloMosaic Idealize.ShloMosaic.TcCoe Idealize.SL.Sem Cert.Products

/-- The activations, over the extended reals. -/
abbrev Acts := (⟨2, ![8192, 1024]⟩ : Shape).Idx → EReal
/-- The weight, over the extended reals. -/
abbrev Weight := (⟨2, ![1024, 1024]⟩ : Shape).Idx → EReal
/-- The product, over the extended reals. -/
abbrev Out := (⟨2, ![8192, 1024]⟩ : Shape).Idx → EReal

/-- The product. -/
def product (x : Acts) (w : Weight) : Out := fun i =>
  rowColumn (fun r k => x (ix2 r k)) (fun k j => w (ix2 k j)) (i 0) (i 1)

section
open Cert.KernelInProductIdeal Cert.KernelInProductIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] := by decide +kernel

/-- Row `r` of a point's block. -/
def row (t : Fin cfg0.N) (r : Fin 512) : Fin 8192 := ⟨512 * t.val + r.val, by have : t.val < 16 := t.isLt; omega⟩

/-- A point's product, entry by entry. -/
theorem block_product (c : Dev nD) (t : Fin cfg0.N) (r : Fin 512) (j : Fin 1024) :
    k0_pay1 (F := Ideal) (iblk m c 0 t) (iblk m c 1 t) (ix2 r j) = product (V m c main_arg0) (V m c main_arg1) (ix2 (row t r) j) := by
  unfold_payloads
  pointwise
  unfold product rowColumn
  refine Finset.sum_congr rfl fun k _ => congrArg₂ (fun a b : EReal => a * b) ?_ ?_
  · unfold row; blk_ext [iblk, V, staged t]
  · blk_ext [iblk, V, staged t]

/-- The array after the run. -/
theorem kernel_array (c : Dev nD) : (dats m 0 c).arrAt 2 cfg0.N = product (V m c main_arg0) (V m c main_arg1) := by
  refine (dats m 0 c).arrAt_eq_of_covers 2 _ (by decide +kernel) fun t hf y => ?_
  blk_simp
  rw [after0_2]
  idx_vars y
  unfold out0_2
  frame_out
  refine (block_product m c t y0 y1).trans ?_
  unfold row
  blk_ext [iblk, V, staged t]
end

section
open Cert.ReferenceInProductIdeal Cert.ReferenceInProductIdeal.Read

/-- The reference's array. -/
theorem reference_array (x : Acts) (w : Weight) : val_main_v2 (F := Ideal) x w = product x w := by
  funext i
  idx_vars i
  unfold val_main_v2 val_main_v1 val_main_v0
  pointwise
  rfl

/-- The reference ends with every counter at zero: it has none. -/
theorem frame_reference : Cert.quiescent_ReferenceInProductIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelInProductIdeal_ReferenceInProductIdeal := by
  intro m ρ m' ρ' _ hag
  refine ⟨fun c => product (m ((c.tc : Thread Cert.KernelInProductIdeal.nD Cert.KernelInProductIdeal.τ).loc Cert.KernelInProductIdeal.main_arg0)) (m ((c.tc : Thread Cert.KernelInProductIdeal.nD Cert.KernelInProductIdeal.τ).loc Cert.KernelInProductIdeal.main_arg1)),
    (θ_run Cert.KernelInProductIdeal.defs _ _).mono (fun r h c => ?_) (Cert.KernelInProductIdeal.Value.run_blocks m ρ), ?_⟩
  · exact ⟨(h c).1.trans (kernel_array m c), (h c).2⟩
  · refine (θ_run Cert.ReferenceInProductIdeal.defs _ _).mono (fun r h c => ?_) (Cert.ReferenceInProductIdeal.Value.run m' ρ')
    obtain ⟨a0, a1⟩ := hag c
    refine ⟨((h c).1.trans (Cert.ReferenceInProductIdeal.Read.val_main_v2_eq _ _)).trans ?_, (h c).2⟩
    rw [a0, a1]
    exact reference_array _ _

end Cert.InProduct
end
-- ==== Proof.QueryProduct.lean ====
/-
  The product that makes the queries: each block of 512 rows times the weight.
-/
module
public import proofs.«01_k».proof.Defs
public import proofs.«01_k».proof.Proof.Products
public import proofs.«01_k».proof.Proof.Gen.KernelQueryProductIdeal.Value
public import proofs.«01_k».proof.Proof.Gen.ReferenceQueryProductIdeal.Run
public import proofs.«01_k».proof.Proof.Gen.ReferenceQueryProductIdeal.Read

@[expose] public section
set_option maxRecDepth 16384
noncomputable section
namespace Cert.QueryProduct
open Idealize.ShloMosaic Idealize.ShloMosaic.TcCoe Idealize.SL.Sem Cert.Products

/-- The activations, over the extended reals. -/
abbrev Acts := (⟨2, ![8192, 1024]⟩ : Shape).Idx → EReal
/-- The weight, over the extended reals. -/
abbrev Weight := (⟨2, ![1024, 1024]⟩ : Shape).Idx → EReal
/-- The product, over the extended reals. -/
abbrev Out := (⟨2, ![8192, 1024]⟩ : Shape).Idx → EReal

/-- The product. -/
def product (x : Acts) (w : Weight) : Out := fun i =>
  rowColumn (fun r k => x (ix2 r k)) (fun k j => w (ix2 k j)) (i 0) (i 1)

section
open Cert.KernelQueryProductIdeal Cert.KernelQueryProductIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] := by decide +kernel

/-- Row `r` of a point's block. -/
def row (t : Fin cfg0.N) (r : Fin 512) : Fin 8192 := ⟨512 * t.val + r.val, by have : t.val < 16 := t.isLt; omega⟩

/-- A point's product, entry by entry. -/
theorem block_product (c : Dev nD) (t : Fin cfg0.N) (r : Fin 512) (j : Fin 1024) :
    k0_pay1 (F := Ideal) (iblk m c 0 t) (iblk m c 1 t) (ix2 r j) = product (V m c main_arg0) (V m c main_arg1) (ix2 (row t r) j) := by
  unfold_payloads
  pointwise
  unfold product rowColumn
  refine Finset.sum_congr rfl fun k _ => congrArg₂ (fun a b : EReal => a * b) ?_ ?_
  · unfold row; blk_ext [iblk, V, staged t]
  · blk_ext [iblk, V, staged t]

/-- The array after the run. -/
theorem kernel_array (c : Dev nD) : (dats m 0 c).arrAt 2 cfg0.N = product (V m c main_arg0) (V m c main_arg1) := by
  refine (dats m 0 c).arrAt_eq_of_covers 2 _ (by decide +kernel) fun t hf y => ?_
  blk_simp
  rw [after0_2]
  idx_vars y
  unfold out0_2
  frame_out
  refine (block_product m c t y0 y1).trans ?_
  unfold row
  blk_ext [iblk, V, staged t]
end

section
open Cert.ReferenceQueryProductIdeal Cert.ReferenceQueryProductIdeal.Read

/-- The reference's array. -/
theorem reference_array (x : Acts) (w : Weight) : val_main_v2 (F := Ideal) x w = product x w := by
  funext i
  idx_vars i
  unfold val_main_v2 val_main_v1 val_main_v0
  pointwise
  rfl

/-- The reference's array, once rounded. -/
theorem reference_array_rounded (x : Acts) (w : Weight) : val_main_v3 (F := Ideal) x w = product x w := by
  funext i
  rw [val_main_v3_apply]
  exact congrFun (reference_array x w) i

/-- The reference ends with every counter at zero: it has none. -/
theorem frame_reference : Cert.quiescent_ReferenceQueryProductIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelQueryProductIdeal_ReferenceQueryProductIdeal := by
  intro m ρ m' ρ' _ hag
  refine ⟨fun c => product (m ((c.tc : Thread Cert.KernelQueryProductIdeal.nD Cert.KernelQueryProductIdeal.τ).loc Cert.KernelQueryProductIdeal.main_arg0)) (m ((c.tc : Thread Cert.KernelQueryProductIdeal.nD Cert.KernelQueryProductIdeal.τ).loc Cert.KernelQueryProductIdeal.main_arg1)),
    (θ_run Cert.KernelQueryProductIdeal.defs _ _).mono (fun r h c => ?_) (Cert.KernelQueryProductIdeal.Value.run_blocks m ρ), ?_⟩
  · exact ⟨(h c).1.trans (kernel_array m c), (h c).2⟩
  · refine (θ_run Cert.ReferenceQueryProductIdeal.defs _ _).mono (fun r h c => ?_) (Cert.ReferenceQueryProductIdeal.Value.run m' ρ')
    obtain ⟨a0, a1⟩ := hag c
    refine ⟨((h c).1.trans (Cert.ReferenceQueryProductIdeal.Read.val_main_v3_eq _ _)).trans ?_, (h c).2⟩
    rw [a0, a1]
    exact reference_array_rounded _ _

end Cert.QueryProduct
end
-- ==== Proof.KvProduct.lean ====
/-
  The product that makes the memory's keys and values: each block of 512 rows times the weight.
-/
module
public import proofs.«01_k».proof.Defs
public import proofs.«01_k».proof.Proof.Products
public import proofs.«01_k».proof.Proof.Gen.KernelKvProductIdeal.Value
public import proofs.«01_k».proof.Proof.Gen.ReferenceKvProductIdeal.Run
public import proofs.«01_k».proof.Proof.Gen.ReferenceKvProductIdeal.Read

@[expose] public section
set_option maxRecDepth 16384
noncomputable section
namespace Cert.KvProduct
open Idealize.ShloMosaic Idealize.ShloMosaic.TcCoe Idealize.SL.Sem Cert.Products

/-- The activations, over the extended reals. -/
abbrev Acts := (⟨2, ![8192, 1024]⟩ : Shape).Idx → EReal
/-- The weight, over the extended reals. -/
abbrev Weight := (⟨2, ![1024, 1536]⟩ : Shape).Idx → EReal
/-- The product, over the extended reals. -/
abbrev Out := (⟨2, ![8192, 1536]⟩ : Shape).Idx → EReal

/-- The product. -/
def product (x : Acts) (w : Weight) : Out := fun i =>
  rowColumn (fun r k => x (ix2 r k)) (fun k j => w (ix2 k j)) (i 0) (i 1)

section
open Cert.KernelKvProductIdeal Cert.KernelKvProductIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] := by decide +kernel

/-- Row `r` of a point's block. -/
def row (t : Fin cfg0.N) (r : Fin 512) : Fin 8192 := ⟨512 * t.val + r.val, by have : t.val < 16 := t.isLt; omega⟩

/-- A point's product, entry by entry. -/
theorem block_product (c : Dev nD) (t : Fin cfg0.N) (r : Fin 512) (j : Fin 1536) :
    k0_pay1 (F := Ideal) (iblk m c 0 t) (iblk m c 1 t) (ix2 r j) = product (V m c main_arg0) (V m c main_arg1) (ix2 (row t r) j) := by
  unfold_payloads
  pointwise
  unfold product rowColumn
  refine Finset.sum_congr rfl fun k _ => congrArg₂ (fun a b : EReal => a * b) ?_ ?_
  · unfold row; blk_ext [iblk, V, staged t]
  · blk_ext [iblk, V, staged t]

/-- The array after the run. -/
theorem kernel_array (c : Dev nD) : (dats m 0 c).arrAt 2 cfg0.N = product (V m c main_arg0) (V m c main_arg1) := by
  refine (dats m 0 c).arrAt_eq_of_covers 2 _ (by decide +kernel) fun t hf y => ?_
  blk_simp
  rw [after0_2]
  idx_vars y
  unfold out0_2
  frame_out
  refine (block_product m c t y0 y1).trans ?_
  unfold row
  blk_ext [iblk, V, staged t]
end

section
open Cert.ReferenceKvProductIdeal Cert.ReferenceKvProductIdeal.Read

/-- The reference's array. -/
theorem reference_array (x : Acts) (w : Weight) : val_main_v2 (F := Ideal) x w = product x w := by
  funext i
  idx_vars i
  unfold val_main_v2 val_main_v1 val_main_v0
  pointwise
  rfl

/-- The reference's array, once rounded. -/
theorem reference_array_rounded (x : Acts) (w : Weight) : val_main_v3 (F := Ideal) x w = product x w := by
  funext i
  rw [val_main_v3_apply]
  exact congrFun (reference_array x w) i

/-- The reference ends with every counter at zero: it has none. -/
theorem frame_reference : Cert.quiescent_ReferenceKvProductIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelKvProductIdeal_ReferenceKvProductIdeal := by
  intro m ρ m' ρ' _ hag
  refine ⟨fun c => product (m ((c.tc : Thread Cert.KernelKvProductIdeal.nD Cert.KernelKvProductIdeal.τ).loc Cert.KernelKvProductIdeal.main_arg0)) (m ((c.tc : Thread Cert.KernelKvProductIdeal.nD Cert.KernelKvProductIdeal.τ).loc Cert.KernelKvProductIdeal.main_arg1)),
    (θ_run Cert.KernelKvProductIdeal.defs _ _).mono (fun r h c => ?_) (Cert.KernelKvProductIdeal.Value.run_blocks m ρ), ?_⟩
  · exact ⟨(h c).1.trans (kernel_array m c), (h c).2⟩
  · refine (θ_run Cert.ReferenceKvProductIdeal.defs _ _).mono (fun r h c => ?_) (Cert.ReferenceKvProductIdeal.Value.run m' ρ')
    obtain ⟨a0, a1⟩ := hag c
    refine ⟨((h c).1.trans (Cert.ReferenceKvProductIdeal.Read.val_main_v3_eq _ _)).trans ?_, (h c).2⟩
    rw [a0, a1]
    exact reference_array_rounded _ _

end Cert.KvProduct
end
-- ==== Proof.MemProduct.lean ====
/-
  The product that makes a memory's keys and values: one block of 512 rows times the weight.
-/
module
public import proofs.«01_k».proof.Defs
public import proofs.«01_k».proof.Proof.Products
public import proofs.«01_k».proof.Proof.Gen.KernelMemProductIdeal.Value
public import proofs.«01_k».proof.Proof.Gen.ReferenceMemProductIdeal.Run
public import proofs.«01_k».proof.Proof.Gen.ReferenceMemProductIdeal.Read

@[expose] public section
set_option maxRecDepth 16384
noncomputable section
namespace Cert.MemProduct
open Idealize.ShloMosaic Idealize.ShloMosaic.TcCoe Idealize.SL.Sem Cert.Products

/-- The memory, over the extended reals. -/
abbrev Acts := (⟨2, ![512, 1024]⟩ : Shape).Idx → EReal
/-- The weight, over the extended reals. -/
abbrev Weight := (⟨2, ![1024, 512]⟩ : Shape).Idx → EReal
/-- The product, over the extended reals. -/
abbrev Out := (⟨2, ![512, 512]⟩ : Shape).Idx → EReal

/-- The product. -/
def product (x : Acts) (w : Weight) : Out := fun i =>
  rowColumn (fun r k => x (ix2 r k)) (fun k j => w (ix2 k j)) (i 0) (i 1)

section
open Cert.KernelMemProductIdeal Cert.KernelMemProductIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] := by decide +kernel

/-- Row `r` of a point's block. -/
def row (t : Fin cfg0.N) (r : Fin 512) : Fin 512 := ⟨512 * t.val + r.val, by have : t.val < 1 := t.isLt; omega⟩

/-- A point's product, entry by entry. -/
theorem block_product (c : Dev nD) (t : Fin cfg0.N) (r : Fin 512) (j : Fin 512) :
    k0_pay1 (F := Ideal) (iblk m c 0 t) (iblk m c 1 t) (ix2 r j) = product (V m c main_arg0) (V m c main_arg1) (ix2 (row t r) j) := by
  unfold_payloads
  pointwise
  unfold product rowColumn
  refine Finset.sum_congr rfl fun k _ => congrArg₂ (fun a b : EReal => a * b) ?_ ?_
  · unfold row; blk_ext [iblk, V, staged t]
  · blk_ext [iblk, V, staged t]

/-- The array after the run. -/
theorem kernel_array (c : Dev nD) : (dats m 0 c).arrAt 2 cfg0.N = product (V m c main_arg0) (V m c main_arg1) := by
  refine (dats m 0 c).arrAt_eq_of_covers 2 _ (by decide +kernel) fun t hf y => ?_
  blk_simp
  rw [after0_2]
  idx_vars y
  unfold out0_2
  frame_out
  refine (block_product m c t y0 y1).trans ?_
  unfold row
  blk_ext [iblk, V, staged t]
end

section
open Cert.ReferenceMemProductIdeal Cert.ReferenceMemProductIdeal.Read

/-- The reference's array. -/
theorem reference_array (x : Acts) (w : Weight) : val_main_v2 (F := Ideal) x w = product x w := by
  funext i
  idx_vars i
  unfold val_main_v2 val_main_v1 val_main_v0
  pointwise
  rfl

/-- The reference's array, once rounded. -/
theorem reference_array_rounded (x : Acts) (w : Weight) : val_main_v3 (F := Ideal) x w = product x w := by
  funext i
  rw [val_main_v3_apply]
  exact congrFun (reference_array x w) i

/-- The reference ends with every counter at zero: it has none. -/
theorem frame_reference : Cert.quiescent_ReferenceMemProductIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelMemProductIdeal_ReferenceMemProductIdeal := by
  intro m ρ m' ρ' _ hag
  refine ⟨fun c => product (m ((c.tc : Thread Cert.KernelMemProductIdeal.nD Cert.KernelMemProductIdeal.τ).loc Cert.KernelMemProductIdeal.main_arg0)) (m ((c.tc : Thread Cert.KernelMemProductIdeal.nD Cert.KernelMemProductIdeal.τ).loc Cert.KernelMemProductIdeal.main_arg1)),
    (θ_run Cert.KernelMemProductIdeal.defs _ _).mono (fun r h c => ?_) (Cert.KernelMemProductIdeal.Value.run_blocks m ρ), ?_⟩
  · exact ⟨(h c).1.trans (kernel_array m c), (h c).2⟩
  · refine (θ_run Cert.ReferenceMemProductIdeal.defs _ _).mono (fun r h c => ?_) (Cert.ReferenceMemProductIdeal.Value.run m' ρ')
    obtain ⟨a0, a1⟩ := hag c
    refine ⟨((h c).1.trans (Cert.ReferenceMemProductIdeal.Read.val_main_v3_eq _ _)).trans ?_, (h c).2⟩
    rw [a0, a1]
    exact reference_array_rounded _ _

end Cert.MemProduct
end
-- ==== Proof.GateProduct.lean ====
/-
  The product that makes the gates of the attention: each block of 512 rows times the weight.
-/
module
public import proofs.«01_k».proof.Defs
public import proofs.«01_k».proof.Proof.Products
public import proofs.«01_k».proof.Proof.Gen.KernelGateProductIdeal.Value
public import proofs.«01_k».proof.Proof.Gen.ReferenceGateProductIdeal.Run
public import proofs.«01_k».proof.Proof.Gen.ReferenceGateProductIdeal.Read

@[expose] public section
set_option maxRecDepth 16384
noncomputable section
namespace Cert.GateProduct
open Idealize.ShloMosaic Idealize.ShloMosaic.TcCoe Idealize.SL.Sem Cert.Products

/-- The activations, over the extended reals. -/
abbrev Acts := (⟨2, ![8192, 1024]⟩ : Shape).Idx → EReal
/-- The weight, over the extended reals. -/
abbrev Weight := (⟨2, ![1024, 128]⟩ : Shape).Idx → EReal
/-- The product, over the extended reals. -/
abbrev Out := (⟨2, ![8192, 128]⟩ : Shape).Idx → EReal

/-- The product. -/
def product (x : Acts) (w : Weight) : Out := fun i =>
  rowColumn (fun r k => x (ix2 r k)) (fun k j => w (ix2 k j)) (i 0) (i 1)

section
open Cert.KernelGateProductIdeal Cert.KernelGateProductIdeal.Gen

variable (m : (ℓ : Loc nD τ sig) → Buf (Elt Ideal) ℓ)

/-- The blocks a point stages: 512 rows, and the whole weight. -/
theorem staged : ∀ t : Fin cfg0.N, win0_0.index t = ![t.val, 0] ∧ win0_1.index t = ![0, 0]
    ∧ win0_2.index t = ![t.val, 0] := by decide +kernel

/-- Row `r` of a point's block. -/
def row (t : Fin cfg0.N) (r : Fin 512) : Fin 8192 := ⟨512 * t.val + r.val, by have : t.val < 16 := t.isLt; omega⟩

/-- A point's product, entry by entry. -/
theorem block_product (c : Dev nD) (t : Fin cfg0.N) (r : Fin 512) (j : Fin 128) :
    k0_pay1 (F := Ideal) (iblk m c 0 t) (iblk m c 1 t) (ix2 r j) = product (V m c main_arg0) (V m c main_arg1) (ix2 (row t r) j) := by
  unfold_payloads
  pointwise
  unfold product rowColumn
  refine Finset.sum_congr rfl fun k _ => congrArg₂ (fun a b : EReal => a * b) ?_ ?_
  · unfold row; blk_ext [iblk, V, staged t]
  · blk_ext [iblk, V, staged t]

/-- The array after the run. -/
theorem kernel_array (c : Dev nD) : (dats m 0 c).arrAt 2 cfg0.N = product (V m c main_arg0) (V m c main_arg1) := by
  refine (dats m 0 c).arrAt_eq_of_covers 2 _ (by decide +kernel) fun t hf y => ?_
  blk_simp
  rw [after0_2]
  idx_vars y
  unfold out0_2
  frame_out
  refine (block_product m c t y0 y1).trans ?_
  unfold row
  blk_ext [iblk, V, staged t]
end

section
open Cert.ReferenceGateProductIdeal Cert.ReferenceGateProductIdeal.Read

/-- The reference's array. -/
theorem reference_array (x : Acts) (w : Weight) : val_main_v2 (F := Ideal) x w = product x w := by
  funext i
  idx_vars i
  unfold val_main_v2 val_main_v1 val_main_v0
  pointwise
  rfl

/-- The reference ends with every counter at zero: it has none. -/
theorem frame_reference : Cert.quiescent_ReferenceGateProductIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelGateProductIdeal_ReferenceGateProductIdeal := by
  intro m ρ m' ρ' _ hag
  refine ⟨fun c => product (m ((c.tc : Thread Cert.KernelGateProductIdeal.nD Cert.KernelGateProductIdeal.τ).loc Cert.KernelGateProductIdeal.main_arg0)) (m ((c.tc : Thread Cert.KernelGateProductIdeal.nD Cert.KernelGateProductIdeal.τ).loc Cert.KernelGateProductIdeal.main_arg1)),
    (θ_run Cert.KernelGateProductIdeal.defs _ _).mono (fun r h c => ?_) (Cert.KernelGateProductIdeal.Value.run_blocks m ρ), ?_⟩
  · exact ⟨(h c).1.trans (kernel_array m c), (h c).2⟩
  · refine (θ_run Cert.ReferenceGateProductIdeal.defs _ _).mono (fun r h c => ?_) (Cert.ReferenceGateProductIdeal.Value.run m' ρ')
    obtain ⟨a0, a1⟩ := hag c
    refine ⟨((h c).1.trans (Cert.ReferenceGateProductIdeal.Read.val_main_v2_eq _ _)).trans ?_, (h c).2⟩
    rw [a0, a1]
    exact reference_array _ _

end Cert.GateProduct
end
-- ==== Proof.MemDw.lean ====
/-
  The gradient of a memory's weight: the kernel multiplies its one block of rows; the reference's derivative is the
  product over all rows.
-/
module
public import proofs.«01_k».proof.Defs
public import proofs.«01_k».proof.Proof.Products
public import proofs.«01_k».proof.Proof.Gen.KernelMemDwIdeal.Value
public import proofs.«01_k».proof.Proof.Gen.ReferenceMemDwIdeal.Run
public import proofs.«01_k».proof.Proof.Gen.ReferenceMemDwIdeal.Read
public import Idealize.ShloMosaic.Lib.Pipeline.ReadBack

@[expose] public section
set_option maxRecDepth 16384
noncomputable section
namespace Cert.MemDw
open Idealize.ShloMosaic Idealize.ShloMosaic.TcCoe Idealize.SL.Sem Cert.Products

/-- The memory, over the extended reals. -/
abbrev Acts := (⟨2, ![512, 1024]⟩ : Shape).Idx → EReal
/-- The gradient of its product. -/
abbrev Wide := (⟨2, ![512, 512]⟩ : Shape).Idx → EReal

/-- The weight's gradient. -/
def grad (x : Acts) (d : Wide) : (⟨2, ![1024, 512]⟩ : Shape).Idx → EReal := fun i =>
  overRows (fun r k => x (ix2 r k)) (fun r j => d (ix2 r j)) (i 0) (i 1)

section
open Cert.KernelMemDwIdeal Cert.KernelMemDwIdeal.Gen

variable (m : (ℓ : Loc nD τ sig) → Buf (Elt Ideal) ℓ)

/-- The one point stages both arrays whole. -/
theorem staged : ∀ t : Fin cfg0.N, win0_0.index t = ![0, 0] ∧ win0_1.index t = ![0, 0]
    ∧ win0_2.index t = ![0, 0] := by decide +kernel

/-- The product, entry by entry. -/
theorem block_product (c : Dev nD) (t : Fin cfg0.N) (y : S1024x512.Idx) :
    k0_pay1 (F := Ideal) (iblk m c 0 t) (iblk m c 1 t) y = grad (V m c main_arg0) (V m c main_arg1) (ix2 (y 0) (y 1)) := by
  idx_vars y
  unfold_payloads
  pointwise
  unfold grad overRows
  refine Finset.sum_congr rfl fun r _ => congrArg₂ (fun a b : EReal => a * b) ?_ ?_
  · blk_ext [iblk, V, staged t]
  · blk_ext [iblk, V, staged t]

/-- The kernel's array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  unfold outsAt0
  frame_out
  idx_vars y
  unfold k0_pay4 k0_pay2
  pointwise
  refine (block_product m c t _).trans ?_
  blk_ext [iblk, V, staged t]
end

section
open Cert.ReferenceMemDwIdeal Cert.ReferenceMemDwIdeal.Read

/-- The reference's array. -/
theorem reference_array (x : Acts) (d : Wide) : val_main_v5 (F := Ideal) x d = grad x d := by
  funext i
  idx_vars i
  rw [val_main_v5_apply, val_main_v4_apply]
  unfold val_main_v3
  pointwise
  unfold grad overRows
  refine Finset.sum_congr rfl fun r _ => (mul_comm _ _).trans (congrArg₂ (fun a b : EReal => a * b) ?_ ?_)
  · exact congrArg x (by funext a; match a with | ⟨0, _⟩ => rfl | ⟨1, _⟩ => rfl)
  · exact congrArg d (by funext a; match a with | ⟨0, _⟩ => rfl | ⟨1, _⟩ => rfl)

/-- The reference ends with every counter at zero: it has none. -/
theorem frame_reference : Cert.quiescent_ReferenceMemDwIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelMemDwIdeal_ReferenceMemDwIdeal := by
  intro m ρ m' ρ' _ hag
  refine ⟨fun c => grad (m ((c.tc : Thread Cert.KernelMemDwIdeal.nD Cert.KernelMemDwIdeal.τ).loc Cert.KernelMemDwIdeal.main_arg0)) (m ((c.tc : Thread Cert.KernelMemDwIdeal.nD Cert.KernelMemDwIdeal.τ).loc Cert.KernelMemDwIdeal.main_arg1)), ?_, ?_⟩
  · refine (θ_run Cert.KernelMemDwIdeal.defs _ _).mono (fun r h c => ?_) (Cert.KernelMemDwIdeal.Value.run_blocks m ρ)
    exact ⟨(h c).1.trans (kernel_array m c), (h c).2⟩
  · refine (θ_run Cert.ReferenceMemDwIdeal.defs _ _).mono (fun r h c => ?_) (Cert.ReferenceMemDwIdeal.Value.run m' ρ')
    obtain ⟨a0, a1⟩ := hag c
    refine ⟨((h c).1.trans (Cert.ReferenceMemDwIdeal.Read.val_main_v5_eq _ _)).trans ?_, (h c).2⟩
    rw [a0, a1]
    exact reference_array _ _

end Cert.MemDw
end
-- ==== Proof.PoolDw.lean ====
/-
  The gradient of the pooled mixing weight: the kernel sums the products of four row blocks; the reference's derivative is
  the product over all rows.
-/
module
public import proofs.«01_k».proof.Defs
public import proofs.«01_k».proof.Proof.Products
public import proofs.«01_k».proof.Proof.Gen.KernelPoolDwIdeal.Value
public import proofs.«01_k».proof.Proof.Gen.ReferencePoolDwIdeal.Run
public import proofs.«01_k».proof.Proof.Gen.ReferencePoolDwIdeal.Read
public import Idealize.ShloMosaic.Lib.Pipeline.ReadBack

@[expose] public section
set_option maxRecDepth 16384
noncomputable section
namespace Cert.PoolDw
open Idealize.ShloMosaic Idealize.ShloMosaic.TcCoe Idealize.SL.Sem Cert.Products

/-- The weight's input or the gradient of its product, over the extended reals. -/
abbrev Acts := (⟨2, ![8192, 768]⟩ : Shape).Idx → EReal

/-- The weight's gradient. -/
def grad (x : Acts) (d : Acts) : (⟨2, ![768, 768]⟩ : Shape).Idx → EReal := fun i =>
  overRows (fun r k => x (ix2 r k)) (fun r j => d (ix2 r j)) (i 0) (i 1)

section
open Cert.KernelPoolDwIdeal Cert.KernelPoolDwIdeal.Gen

variable (m : (ℓ : Loc nD τ sig) → Buf (Elt Ideal) ℓ)

/-- The blocks a point stages: one row block and the columns of one output block. -/
theorem staged : ∀ t : Fin cfg0.N, win0_0.index t = ![t.val % 4, 0] ∧ win0_1.index t = ![t.val % 4, 0]
    ∧ win0_2.index t = ![0, 0] := by decide +kernel

/-- What one row block adds to an entry of the weight's gradient. -/
def part (c : Dev nD) (t : Fin cfg0.N) (y : S768x768.Idx) : EReal :=
  overRows (fun r k => (V m c main_arg0 : Acts) (ix2 (blockRow (t.val % 4) (by omega) r) k))
    (fun r j => (V m c main_arg1 : Acts) (ix2 (blockRow (t.val % 4) (by omega) r) j)) (y 0) (y 1)

/-- The product of one row block, entry by entry. -/
theorem block_product (c : Dev nD) (t : Fin cfg0.N) (y : S768x768.Idx) :
    k0_pay1 (F := Ideal) (iblk m c 0 t) (iblk m c 1 t) y = part m c t y := by
  idx_vars y
  unfold_payloads
  pointwise
  unfold part overRows
  refine Finset.sum_congr rfl fun r _ => congrArg₂ (fun a b : EReal => a * b) ?_ ?_
  · unfold blockRow; blk_ext [iblk, V, staged t]
  · unfold blockRow; blk_ext [iblk, V, staged t]

/-- The output block after a run's first point. -/
theorem sum_first (c : Dev nD) (t : Fin cfg0.N) (h : t.val % 4 = 0) (y : S768x768.Idx) :
    outsAt0 m c t.val t.isLt y = 0 + part m c t y := by
  have hN : t.val < 4 := t.isLt
  rw [outsAt0_A m c t h (by omega), zero_add, ← block_product]
  frame_out

/-- The output block after any other point: the block's part added. -/
theorem sum_next (c : Dev nD) (t : Fin cfg0.N) (h : ¬ t.val % 4 = 0) (y : S768x768.Idx) :
    outsAt0 m c t.val t.isLt y = outsAt0 m c (t.val - 1) (Nat.lt_of_le_of_lt (Nat.sub_le _ _) t.isLt) y + part m c t y := by
  have hN : t.val < 4 := t.isLt
  rw [← block_product]
  rw [outsAt0_B m c t h (by omega)]
  frame_out
  idx_vars y
  unfold k0_pay2
  pointwise

/-- What the last point of a run leaves in the output block. -/
theorem sum_last (c : Dev nD) (t : Fin cfg0.N) (ht : t.val % 4 = 3) (y : S768x768.Idx) :
    outsAt0 m c t.val t.isLt y = grad (V m c main_arg0) (V m c main_arg1) (ix2 (y 0) (y 1)) := by
  rw [Pipeline.eq_sum_fin_of_reset_step_apply_of_flush (fun n h => outsAt0 m c n h) 4 (fun _ => 0) (part m c)
    (fun t h => sum_first m c t h) (fun t h => sum_next m c t h) t ht, zero_add]
  refine Eq.trans (Finset.sum_congr rfl fun s _ => ?_) (sum_blocks (fun r k => (V m c main_arg0 : Acts) (ix2 r k)) (fun r j => (V m c main_arg1 : Acts) (ix2 r j)) (y 0) (y 1)
    (fun s => (4 * (t.val / 4) + s.val) % 4) (fun s => by omega) (fun s => by omega))
  rfl

/-- The kernel's array after the run. -/
theorem kernel_array (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  idx_vars y
  have ht := (flush0_2 t).mp hf
  refine (sum_last m c t ht _).trans ?_
  blk_ext [iblk, V, staged t]
end

section
open Cert.ReferencePoolDwIdeal Cert.ReferencePoolDwIdeal.Read

/-- The reference's array. -/
theorem reference_array (x : Acts) (d : Acts) : val_main_v5 (F := Ideal) x d = grad x d := by
  funext i
  idx_vars i
  rw [val_main_v5_apply]
  unfold val_main_v4
  pointwise
  unfold grad overRows
  refine Finset.sum_congr rfl fun r _ => (mul_comm _ _).trans (congrArg₂ (fun a b : EReal => a * b) ?_ ?_)
  · exact congrArg x (by funext a; match a with | ⟨0, _⟩ => rfl | ⟨1, _⟩ => rfl)
  · exact congrArg d (by funext a; match a with | ⟨0, _⟩ => rfl | ⟨1, _⟩ => rfl)

/-- The reference ends with every counter at zero: it has none. -/
theorem frame_reference : Cert.quiescent_ReferencePoolDwIdeal := by
  intro m ρ _
  exact (θ_run defs _ _).mono (fun r h => ⟨fun c => (h c).2, sem_eq_zero_of_no_sems (by decide) r.2⟩) (Value.run (F := Ideal) m ρ)
end

/-- Kernel and reference leave the same array. -/
theorem equal : Cert.algebraic_KernelPoolDwIdeal_ReferencePoolDwIdeal := by
  intro m ρ m' ρ' _ hag
  refine ⟨fun c => grad (m ((c.tc : Thread Cert.KernelPoolDwIdeal.nD Cert.KernelPoolDwIdeal.τ).loc Cert.KernelPoolDwIdeal.main_arg0)) (m ((c.tc : Thread Cert.KernelPoolDwIdeal.nD Cert.KernelPoolDwIdeal.τ).loc Cert.KernelPoolDwIdeal.main_arg1)), ?_, ?_⟩
  · refine (θ_run Cert.KernelPoolDwIdeal.defs _ _).mono (fun r h c => ?_) (Cert.KernelPoolDwIdeal.Value.run_blocks m ρ)
    exact ⟨(h c).1.trans (kernel_array m c), (h c).2⟩
  · refine (θ_run Cert.ReferencePoolDwIdeal.defs _ _).mono (fun r h c => ?_) (Cert.ReferencePoolDwIdeal.Value.run m' ρ')
    obtain ⟨a0, a1⟩ := hag c
    refine ⟨((h c).1.trans (Cert.ReferencePoolDwIdeal.Read.val_main_v5_eq _ _)).trans ?_, (h c).2⟩
    rw [a0, a1]
    exact reference_array _ _

end Cert.PoolDw
end
-- ==== Proof.PoolMix.lean ====
/-
  The gradients of the mixed pooling, `(pooled · weight) * scale`: blocks of 256 rows, the scale's gradient summed over
  the 32 blocks.
-/
module
public import proofs.«01_k».proof.Defs
public import proofs.«01_k».proof.Proof.Products
public import proofs.«01_k».proof.Proof.Gen.KernelPoolMixIdeal.Value
public import proofs.«01_k».proof.Proof.Gen.ReferencePoolMixIdeal.Run
public import proofs.«01_k».proof.Proof.Gen.ReferencePoolMixIdeal.Read
public import Idealize.ShloMosaic.Lib.Pipeline.ReadBack

@[expose] public section
set_option maxRecDepth 16384
noncomputable section
namespace Cert.PoolMix
open Idealize.ShloMosaic Idealize.ShloMosaic.TcCoe Idealize.SL.Sem Cert.Products

/-- The gradient of the joined heads, over the extended reals. -/
abbrev Joined := (⟨2, ![8192, 1024]⟩ : Shape).Idx → EReal
/-- The pooled activations. -/
abbrev Acts := (⟨2, ![8192, 768]⟩ : Shape).Idx → EReal
/-- The weight. -/
abbrev Weight := (⟨2, ![768, 768]⟩ : Shape).Idx → EReal
/-- The scale. -/
abbrev Scale := (⟨2, ![1, 768]⟩ : Shape).Idx → EReal

/-- The pooled heads are the first 768 columns. -/
def col (j : Fin 768) : Fin 1024 := ⟨j.val, by omega⟩

/-- The gradient of the mixed rows. -/
def dmixed (d : Joined) (s : Scale) : Acts := fun i => d (ix2 (i 0) (col (i 1))) * s (ix2 0 (i 1))

/-- The gradient of the pooled rows. -/
def dpooled (d : Joined) (w : Weight) (s : Scale) : Acts := fun i =>
  overColumns (fun r k => dmixed d s (ix2 r k)) (fun j k => w (ix2 j k)) (i 0) (i 1)

/-- What row `r` adds to the scale's gradient. -/
def rowPart (d : Joined) (p : Acts) (w : Weight) (j : Fin 768) (r : Fin 8192) : EReal :=
  d (ix2 r (col j)) * rowColumn (fun r k => p (ix2 r k)) (fun k j => w (ix2 k j)) r j

/-- The scale's gradient. -/
def dscale (d : Joined) (p : Acts) (w : Weight) : Scale := fun i => ∑ r, rowPart d p w (i 1) r

section
open Cert.KernelPoolMixIdeal Cert.KernelPoolMixIdeal.Gen

variable (m : (ℓ : Loc nD τ sig) → Buf (Elt Ideal) ℓ)

/-- The blocks a point stages: 256 rows, and the whole weight and scale. -/
theorem staged : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] ∧ win0_6.index t = ![0, 0] := by decide +kernel

/-- Row `r` of a point's block. -/
def row (t : Fin cfg0.N) (r : Fin 256) : Fin 8192 := ⟨256 * t.val + r.val, by have : t.val < 32 := t.isLt; omega⟩

/-- The gradient's block, entry by entry. -/
theorem block_joined (c : Dev nD) (t : Fin cfg0.N) (r : Fin 256) (j : Fin 768) :
    (fun (x : Vec Ideal S256x768 .f32) => (x (ix2 r j) : EReal)) (X0_0 m c t) = (V m c main_arg0 : Joined) (ix2 (row t r) (col j)) := by
  dsimp only
  unfold X0_0 Pipeline.Window.fill
  rw [dif_pos (moved0_0 t _)]
  unfold row col
  blk_ext [iblk, V, staged t]

/-- The pooled block. -/
theorem block_pooled (c : Dev nD) (t : Fin cfg0.N) (r : Fin 256) (j : Fin 768) :
    (fun (x : Vec Ideal S256x768 .bf16) => (x (ix2 r j) : EReal)) (iblk m c 1 t) = (V m c main_arg1 : Acts) (ix2 (row t r) j) := by
  unfold row
  blk_ext [iblk, V, staged t]

/-- The weight's block is the weight. -/
theorem block_weight (c : Dev nD) (t : Fin cfg0.N) (k j : Fin 768) :
    (fun (x : Vec Ideal S768x768 .bf16) => (x (ix2 k j) : EReal)) (iblk m c 2 t) = (V m c main_arg2 : Weight) (ix2 k j) := by
  blk_ext [iblk, V, staged t]

/-- The scale's block is the scale. -/
theorem block_scale (c : Dev nD) (t : Fin cfg0.N) (j : Fin 768) :
    (fun (x : Vec Ideal S1x768 .f32) => (x (ix2 0 j) : EReal)) (iblk m c 3 t) = (V m c main_arg3 : Scale) (ix2 0 j) := by
  blk_ext [iblk, V, staged t]

/-- The product with the scale, entry by entry. -/
theorem scaled (x : Vec Ideal S256x768 .f32) (s : Vec Ideal S1x768 .f32) (f : Fin 768 → EReal) (g : Fin 768 → EReal) (r : Fin 256)
    (hx : ∀ j, x (ix2 r j) = f j) (hs : ∀ j, s (ix2 0 j) = g j) (j : Fin 768) : k0_pay3 x s (ix2 r j) = f j * g j := by
  unfold k0_pay3
  pointwise
  rw [hx, hs]

/-- The product with the transposed weight, entry by entry. -/
theorem turned (x : Vec Ideal S256x768 .f32) (s : Vec Ideal S1x768 .f32) (w : Vec Ideal S768x768 .bf16) (f g : Fin 768 → EReal)
    (u : Fin 768 → Fin 768 → EReal) (r : Fin 256)
    (hx : ∀ j, x (ix2 r j) = f j) (hs : ∀ j, s (ix2 0 j) = g j) (hw : ∀ j k, w (ix2 j k) = u j k) (j : Fin 768) :
    k0_pay4 x s w (ix2 r j) = ∑ k, f k * g k * u j k := by
  have h := scaled x s f g r hx hs
  unfold k0_pay4
  generalize k0_pay3 x s = z at h ⊢
  pointwise
  simp only [h, hw]

/-- The sums of a block's rows, added to what is there. -/
theorem summed (x : Vec Ideal S256x768 .f32) (p : Vec Ideal S256x768 .bf16) (w : Vec Ideal S768x768 .bf16) (o : Vec Ideal S1x768 .f32)
    (f : Fin 256 → EReal) (q : Fin 256 → Fin 768 → EReal) (u : Fin 768 → Fin 768 → EReal) (j : Fin 768)
    (hx : ∀ r, x (ix2 r j) = f r) (hp : ∀ r k, p (ix2 r k) = q r k) (hw : ∀ j k, w (ix2 j k) = u j k) :
    k0_pay2 x p w o (ix2 0 j) = o (ix2 0 j) + ∑ r, f r * ∑ k, q r k * u k j := by
  unfold k0_pay2
  pointwise
  simp only [hx, hp, hw]

/-- A point's gradient of the mixed rows. -/
theorem block_dmixed (c : Dev nD) (t : Fin cfg0.N) (r : Fin 256) (j : Fin 768) :
    (outsAt0 m c t.val t.isLt).1 (ix2 r j) = dmixed (V m c main_arg0) (V m c main_arg3) (ix2 (row t r) j) := by
  by_cases ht : t.val % 32 = 0
  on_goal 1 => rw [outsAt0_A m c t ht]
  on_goal 2 => rw [outsAt0_B m c t ht]
  all_goals
    frame_out
    exact scaled _ _ _ _ r (block_joined m c t r) (block_scale m c t) j

/-- A point's gradient of the pooled rows. -/
theorem block_dpooled (c : Dev nD) (t : Fin cfg0.N) (r : Fin 256) (j : Fin 768) :
    (outsAt0 m c t.val t.isLt).2.1 (ix2 r j) = dpooled (V m c main_arg0) (V m c main_arg2) (V m c main_arg3) (ix2 (row t r) j) := by
  by_cases ht : t.val % 32 = 0
  on_goal 1 => rw [outsAt0_A m c t ht]
  on_goal 2 => rw [outsAt0_B m c t ht]
  all_goals
    frame_out
    exact turned _ _ _ _ _ _ r (block_joined m c t r) (block_scale m c t) (block_weight m c t) j

/-- What a point adds to an entry of the scale's gradient. -/
def scalePart (c : Dev nD) (t : Fin cfg0.N) (y : S1x768.Idx) : EReal :=
  ∑ r : Fin 256, rowPart (V m c main_arg0) (V m c main_arg1) (V m c main_arg2) (y 1) (row t r)

/-- The scale's gradient after the first point. -/
theorem scale_first (c : Dev nD) (t : Fin cfg0.N) (h : t.val % 32 = 0) (y : S1x768.Idx) :
    (outsAt0 m c t.val t.isLt).2.2 y = 0 + scalePart m c t y := by
  rw [outsAt0_A m c t h]
  frame_out
  idx_vars y
  obtain rfl : y0 = 0 := Fin.eq_zero y0
  refine (summed _ _ _ _ _ _ _ y1 (fun r => block_joined m c t r y1) (block_pooled m c t) (block_weight m c t)).trans ?_
  unfold k0_pay1
  pointwise
  rfl

/-- The scale's gradient after any other point. -/
theorem scale_next (c : Dev nD) (t : Fin cfg0.N) (h : ¬ t.val % 32 = 0) (y : S1x768.Idx) :
    (outsAt0 m c t.val t.isLt).2.2 y
      = (outsAt0 m c (t.val - 1) (Nat.lt_of_le_of_lt (Nat.sub_le _ _) t.isLt)).2.2 y + scalePart m c t y := by
  rw [outsAt0_B m c t h]
  frame_out
  idx_vars y
  obtain rfl : y0 = 0 := Fin.eq_zero y0
  refine (summed _ _ _ _ _ _ _ y1 (fun r => block_joined m c t r y1) (block_pooled m c t) (block_weight m c t)).trans ?_
  rfl

/-- Thirty-two blocks of 256 rows are the 8192 rows. -/
theorem sum_rows (f : Fin 8192 → EReal) (b : Fin 32 → ℕ) (hb : ∀ s, b s = s.val) (hs : ∀ s, b s < 32) :
    ∑ s : Fin 32, ∑ r : Fin 256, f (row ⟨b s, hs s⟩ r) = ∑ r, f r :=
  Fin.sum_mul_add_congr fun s r hl => congrArg f (Fin.ext (by simp only [row, hb]; omega))

/-- The scale's gradient after the last point. -/
theorem scale_last (c : Dev nD) (t : Fin cfg0.N) (ht : t.val % 32 = 31) (y : S1x768.Idx) :
    (outsAt0 m c t.val t.isLt).2.2 y = dscale (V m c main_arg0) (V m c main_arg1) (V m c main_arg2) (ix2 (y 0) (y 1)) := by
  rw [Pipeline.eq_sum_fin_of_reset_step_apply_of_flush (fun n h => (outsAt0 m c n h).2.2) 32 (fun _ => 0) (scalePart m c)
    (fun t h => scale_first m c t h) (fun t h => scale_next m c t h) t ht, zero_add]
  have hN : t.val < 32 := t.isLt
  refine Eq.trans (Finset.sum_congr rfl fun s _ => ?_) (sum_rows (rowPart (V m c main_arg0) (V m c main_arg1) (V m c main_arg2) (y 1))
    (fun s => (32 * (t.val / 32) + s.val)) (fun s => by omega) (fun s => by omega))
  rfl

/-- The mixed rows' gradient after the run. -/
theorem kernel_dmixed (c : Dev nD) : (dats m 0 c).arrAt 4 cfg0.N = dmixed (V m c main_arg0) (V m c main_arg3) := by
  refine (dats m 0 c).arrAt_eq_of_covers 4 _ (by decide +kernel) fun t hf y => ?_
  blk_simp
  rw [after0_4]
  idx_vars y
  refine (block_dmixed m c t y0 y1).trans ?_
  unfold row
  blk_ext [iblk, V, staged t]

/-- The pooled rows' gradient after the run. -/
theorem kernel_dpooled (c : Dev nD) : (dats m 0 c).arrAt 5 cfg0.N = dpooled (V m c main_arg0) (V m c main_arg2) (V m c main_arg3) := by
  refine (dats m 0 c).arrAt_eq_of_covers 5 _ (by decide +kernel) fun t hf y => ?_
  blk_simp
  rw [after0_5]
  idx_vars y
  refine (block_dpooled m c t y0 y1).trans ?_
  unfold row
  blk_ext [iblk, V, staged t]

/-- The scale's gradient after the run. -/
theorem kernel_dscale (c : Dev nD) : (dats m 0 c).arrAt 6 cfg0.N = dscale (V m c main_arg0) (V m c main_arg1) (V m c main_arg2) := by
  refine (dats m 0 c).arrAt_eq_of_covers 6 _ (by decide +kernel) fun t hf y => ?_
  blk_simp
  rw [after0_6]
  idx_vars y
  refine (scale_last m c t ((flush0_6 t).mp hf) _).trans ?_
  blk_ext [iblk, V, staged t]
end

section
open Cert.ReferencePoolMixIdeal Cert.ReferencePoolMixIdeal.Read

variable (d : Joined) (p : Acts) (w : Weight) (s : Scale)

/-- The reference's gradient of the mixed rows, before it is rounded. -/
theorem reference_dmixed_wide : val_main_v10 (F := Ideal) d s = dmixed d s := by
  funext i
  idx_vars i
  unfold val_main_v10 val_main_v9 val_main_v5
  pointwise
  unfold dmixed col
  refine congrArg₂ (fun a b : EReal => a * b) (congrArg d ?_) (congrArg s ?_)
  · funext a; match a with | ⟨0, _⟩ => rfl | ⟨1, _⟩ => rfl
  · funext a; match a with | ⟨0, _⟩ => rfl | ⟨1, _⟩ => rfl

/-- The reference's gradient of the mixed rows. -/
theorem reference_dmixed : val_main_v11 (F := Ideal) d s = dmixed d s := by
  funext i
  rw [val_main_v11_apply]
  exact congrFun (reference_dmixed_wide d s) i

/-- The reference's gradient of the pooled rows. -/
theorem reference_dpooled : val_main_v12 (F := Ideal) d w s = dpooled d w s := by
  have h := reference_dmixed_wide d s
  funext i
  idx_vars i
  unfold val_main_v12 val_main_v1
  rw [h]
  pointwise
  rfl

/-- The reference's mixed rows. -/
theorem reference_mixed (r : Fin 8192) (j : Fin 768) :
    val_main_v2 (F := Ideal) p w (ix2 r j) = rowColumn (fun r k => p (ix2 r k)) (fun k j => w (ix2 k j)) r j := by
  unfold val_main_v2 val_main_v1 val_main_v0
  pointwise
  rfl

/-- The reference's gradient of the scale. -/
theorem reference_dscale : val_main_v8 (F := Ideal) d p w = dscale d p w := by
  funext i
  idx_vars i
  have h := fun r => reference_mixed p w r i1
  unfold val_main_v8 val_main_v7 val_main_v6 val_main_v5 val_main_cst
  generalize val_main_v2 (F := Ideal) p w = y at h ⊢
  pointwise
  simp only [h]
  unfold dscale rowPart col
  exact Finset.sum_congr rfl fun r _ => mul_comm _ _

/-- The reference ends with every counter at zero: it has none. -/
theorem frame_reference : Cert.quiescent_ReferencePoolMixIdeal := by
  intro m ρ _
  exact (θ_run defs _ _).mono (fun r h => ⟨fun c => (h c).2.2.2, sem_eq_zero_of_no_sems (by decide) r.2⟩) (Value.run (F := Ideal) m ρ)
end

/-- Kernel and reference leave the same arrays. -/
theorem equal : Cert.algebraic_KernelPoolMixIdeal_ReferencePoolMixIdeal := by
  intro m ρ m' ρ' _ hag
  refine ⟨fun c => dmixed (m ((c.tc : Thread Cert.KernelPoolMixIdeal.nD Cert.KernelPoolMixIdeal.τ).loc Cert.KernelPoolMixIdeal.main_arg0)) (m ((c.tc : Thread Cert.KernelPoolMixIdeal.nD Cert.KernelPoolMixIdeal.τ).loc Cert.KernelPoolMixIdeal.main_arg3)),
    fun c => dpooled (m ((c.tc : Thread Cert.KernelPoolMixIdeal.nD Cert.KernelPoolMixIdeal.τ).loc Cert.KernelPoolMixIdeal.main_arg0)) (m ((c.tc : Thread Cert.KernelPoolMixIdeal.nD Cert.KernelPoolMixIdeal.τ).loc Cert.KernelPoolMixIdeal.main_arg2)) (m ((c.tc : Thread Cert.KernelPoolMixIdeal.nD Cert.KernelPoolMixIdeal.τ).loc Cert.KernelPoolMixIdeal.main_arg3)),
    fun c => dscale (m ((c.tc : Thread Cert.KernelPoolMixIdeal.nD Cert.KernelPoolMixIdeal.τ).loc Cert.KernelPoolMixIdeal.main_arg0)) (m ((c.tc : Thread Cert.KernelPoolMixIdeal.nD Cert.KernelPoolMixIdeal.τ).loc Cert.KernelPoolMixIdeal.main_arg1)) (m ((c.tc : Thread Cert.KernelPoolMixIdeal.nD Cert.KernelPoolMixIdeal.τ).loc Cert.KernelPoolMixIdeal.main_arg2)),
    (θ_run Cert.KernelPoolMixIdeal.defs _ _).mono (fun r h c => ?_) (Cert.KernelPoolMixIdeal.Value.run_blocks m ρ), ?_⟩
  · exact ⟨(h c).1.trans (kernel_dmixed m c), (h c).2.1.trans (kernel_dpooled m c), (h c).2.2.1.trans (kernel_dscale m c), (h c).2.2.2⟩
  · refine (θ_run Cert.ReferencePoolMixIdeal.defs _ _).mono (fun r h c => ?_) (Cert.ReferencePoolMixIdeal.Value.run m' ρ')
    obtain ⟨a0, a1, a2, a3⟩ := hag c
    refine ⟨((h c).1.trans (Cert.ReferencePoolMixIdeal.Read.val_main_v11_eq _ _)).trans ?_,
      ((h c).2.1.trans (Cert.ReferencePoolMixIdeal.Read.val_main_v12_eq _ _ _)).trans ?_,
      ((h c).2.2.1.trans (Cert.ReferencePoolMixIdeal.Read.val_main_v8_eq _ _ _)).trans ?_, (h c).2.2.2⟩
    · rw [a0, a3]
      exact reference_dmixed _ _
    · rw [a0, a2, a3]
      exact reference_dpooled _ _ _
    · rw [a0, a1, a2]
      exact reference_dscale _ _ _

end Cert.PoolMix
end
-- ==== Proof.Gate.lean ====
/-
  The gated half of the feed-forward layer over extended reals: a causal filter of three taps along a sequence of
  4096 rows, and the gate's function with its slope.
-/
module
public import proofs.«01_k».proof.Proof.NormGrad

@[expose] public section
noncomputable section
namespace Cert.Gate
open Idealize.ShloMosaic Cert.Norm

/-- A column `n` rows earlier, with zeros before the sequence's first row. -/
def before (n : ℕ) (h : Fin 8192 → EReal) (r : Fin 8192) : EReal :=
  if r.val % 4096 < n then 0 else h ⟨r.val - n, by omega⟩

/-- The filter of a column: three taps and a shift. -/
def filtered (c : Fin 8 → EReal) (h : Fin 8192 → EReal) (r : Fin 8192) : EReal :=
  c 2 * h r + c 1 * before 1 h r + c 0 * before 2 h r + c 3

/-- The logistic function. -/
def logistic (g : EReal) : EReal := Ideal.div 1 (1 + Ideal.exp (0 - g))

/-- The gate's function. -/
def silu (g : EReal) : EReal := g * logistic g

/-- The slope of the gate's function. -/
def siluSlope (g : EReal) : EReal := logistic g * (1 + g * (1 - logistic g))

/-- The logistic function of a real is real. -/
theorem logistic_real {g : EReal} (hg : ∃ r : ℝ, g = (r : EReal)) : ∃ s : ℝ, logistic g = (s : EReal) := by
  obtain ⟨r, rfl⟩ := hg
  have h : (1 : EReal) + Ideal.exp (0 - (r : EReal)) = ((1 + Real.exp (-r) : ℝ) : EReal) := by
    rw [sub_eq_add_neg, zero_add, ← EReal.coe_neg, Ideal.exp_coe, EReal.coe_add]
    rfl
  unfold logistic
  rw [h, Ideal.div_coe (by positivity)]
  exact real_mul ⟨1, rfl⟩ ⟨_, rfl⟩

/-- For reals the product rule gives the slope in its short form. -/
theorem product_rule {u g : EReal} (hu : ∃ r : ℝ, u = (r : EReal)) (hg : ∃ r : ℝ, g = (r : EReal)) :
    u * logistic g + g * u * (logistic g * (1 - logistic g)) = u * siluSlope g := by
  obtain ⟨s, hs⟩ := logistic_real hg
  unfold siluSlope
  rw [hs]
  obtain ⟨a, rfl⟩ := hu
  obtain ⟨b, rfl⟩ := hg
  have h1 : (1 : EReal) = ((1 : ℝ) : EReal) := rfl
  rw [h1]
  norm_cast
  ring

end Cert.Gate
end
-- ==== Proof.UpGate.lean ====
/-
  The feed-forward layer's product, filter and gate: the kernel filters blocks of 1024 rows behind the sixteen rows
  before them, the reference whole sequences; the kernel's slope of the gate is the short form of the reference's
  product rule.
-/
module
public import proofs.«01_k».proof.Defs
public import proofs.«01_k».proof.Proof.Gate
public import proofs.«01_k».proof.Proof.Finite
public import proofs.«01_k».proof.Proof.Gen.KernelUpGateIdeal.Value
public import proofs.«01_k».proof.Proof.Gen.ReferenceUpGateIdeal.Run
public import proofs.«01_k».proof.Proof.Gen.ReferenceUpGateIdeal.Read
public import Idealize.ShloMosaic.Lib.Pipeline.ReadBack

@[expose] public section
set_option maxRecDepth 16384
noncomputable section
namespace Cert.UpGate
open Idealize.ShloMosaic Idealize.ShloMosaic.TcCoe Idealize.SL.Sem Cert.Gate

/-- Rows of the residual stream, over the extended reals. -/
abbrev Acts := (⟨2, ![8192, 1024]⟩ : Shape).Idx → EReal
/-- One half of the layer's width. -/
abbrev Wide := (⟨2, ![8192, 3072]⟩ : Shape).Idx → EReal
/-- The layer's weight, in eight blocks of 768 columns. -/
abbrev Weight := (⟨3, ![8, 1024, 768]⟩ : Shape).Idx → EReal
/-- The filter's taps, in eight blocks of 768 columns. -/
abbrev Taps := (⟨3, ![8, 8, 768]⟩ : Shape).Idx → EReal

/-- Column `p` of the `q`-th block of the layer's product. -/
def product (x : Acts) (w : Weight) (q : Fin 8) (p : Fin 768) (r : Fin 8192) : EReal := ∑ k : Fin 1024, x (ix2 r k) * w (ix3 q k p)

/-- The filtered product. -/
def branch (x : Acts) (w : Weight) (cw : Taps) (q : Fin 8) (p : Fin 768) (r : Fin 8192) : EReal :=
  filtered (fun i => cw (ix3 q i p)) (product x w q p) r

/-- The block of a column of the first half. -/
def lower (j : Fin 3072) : Fin 8 := ⟨j.val / 768, by omega⟩
/-- The block of the same column of the second half. -/
def upper (j : Fin 3072) : Fin 8 := ⟨j.val / 768 + 4, by omega⟩
/-- A column within its block. -/
def within (j : Fin 3072) : Fin 768 := ⟨j.val % 768, by omega⟩

/-- The gated activations. -/
def act (x : Acts) (w : Weight) (cw : Taps) : Wide := fun i =>
  silu (branch x w cw (upper (i 1)) (within (i 1)) (i 0)) * branch x w cw (lower (i 1)) (within (i 1)) (i 0)
/-- The gate. -/
def opened (x : Acts) (w : Weight) (cw : Taps) : Wide := fun i => silu (branch x w cw (upper (i 1)) (within (i 1)) (i 0))
/-- The gated branch times the gate's slope. -/
def sloped (x : Acts) (w : Weight) (cw : Taps) : Wide := fun i =>
  branch x w cw (lower (i 1)) (within (i 1)) (i 0) * siluSlope (branch x w cw (upper (i 1)) (within (i 1)) (i 0))
/-- The product's first half. -/
def firstHalf (x : Acts) (w : Weight) : Wide := fun i => product x w (lower (i 1)) (within (i 1)) (i 0)
/-- The product's second half. -/
def secondHalf (x : Acts) (w : Weight) : Wide := fun i => product x w (upper (i 1)) (within (i 1)) (i 0)

section
open Cert.KernelUpGateIdeal Cert.KernelUpGateIdeal.Gen

variable (m : (ℓ : Loc nD τ sig) → Buf (Elt Ideal) ℓ)

/-- The blocks a point stages: 1024 rows, the sixteen before them, and one block of columns of either half. -/
theorem staged : ∀ t : Fin cfg0.N, win0_0.index t = ![t.val % 8, 0] ∧ win0_1.index t = ![64 * (t.val % 8) - 1, 0]
    ∧ win0_2.index t = ![t.val / 8, 0, 0] ∧ win0_3.index t = ![t.val / 8 + 4, 0, 0]
    ∧ win0_4.index t = ![t.val / 8, 0, 0] ∧ win0_5.index t = ![t.val / 8 + 4, 0, 0]
    ∧ win0_6.index t = ![t.val % 8, t.val / 8] ∧ win0_7.index t = ![t.val % 8, t.val / 8] ∧ win0_8.index t = ![t.val % 8, t.val / 8]
    ∧ win0_9.index t = ![t.val % 8, t.val / 8] ∧ win0_10.index t = ![t.val % 8, t.val / 8] := by decide +kernel

/-- Row `r` of a point's block. -/
def row (t : Fin cfg0.N) (r : Fin 1024) : Fin 8192 := ⟨1024 * (t.val % 8) + r.val, by omega⟩
/-- Column `p` of a point's block. -/
def col (t : Fin cfg0.N) (p : Fin 768) : Fin 3072 := ⟨768 * (t.val / 8) + p.val, by have : t.val < 32 := t.isLt; omega⟩

/-- A point's column, within its block. -/
theorem within_col (t : Fin cfg0.N) (p : Fin 768) : within (col t p) = p := Fin.ext (by simp only [within, col]; omega)

/-- Whether a block of rows is a sequence's first, as the kernel decides it. -/
abbrev starts (j : ℕ) : BitVec 1 :=
  Scalar.cmpi .eq (Scalar.select (Scalar.andi (Scalar.xori (Scalar.cmpi .slt (Scalar.remsi (BitVec.ofNat 32 j) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 j) (Scalar.select (Scalar.cmpi .eq 4#32 0#32) 1#32 4#32)) 0#32)) (Scalar.addi (Scalar.remsi (BitVec.ofNat 32 j) (Scalar.select (Scalar.cmpi .eq 4#32 0#32) 1#32 4#32)) (Scalar.select (Scalar.cmpi .eq 4#32 0#32) 1#32 4#32)) (Scalar.remsi (BitVec.ofNat 32 j) (Scalar.select (Scalar.cmpi .eq 4#32 0#32) 1#32 4#32))) 0#32

/-- Every fourth block of rows is a sequence's first. -/
theorem starts_at : ∀ t : Fin cfg0.N, starts (grid0.coords t 1).val = if t.val % 4 = 0 then 1#1 else 0#1 := by decide +kernel

/-- The rotated rows of a block behind the sixteen before them: the column `n` rows earlier. -/
theorem rotated (n : ℕ) (hn : 0 < n) (hn' : n ≤ 2) (t : Fin cfg0.N) (bit : BitVec 1) (hb : bit = if t.val % 4 = 0 then 1#1 else 0#1)
    (v : FVec Ideal S1024x768 .f32) (z : FVec Ideal S16x768 .f32) (h : Fin 8192 → EReal) (p : Fin 768)
    (hv : ∀ r, v (ix2 r p) = h (row t r))
    (hz : ∀ (i : Fin 16) (r : Fin 8192), t.val % 4 ≠ 0 → r.val + 16 = 1024 * (t.val % 8) + i.val → z (ix2 i p) = h r) (r : Fin 1024) :
    (if hr : (16 + r.val + 1040 - n) % 1040 < 16 then Scalar.select bit (0 : EReal) (z (ix2 ⟨(16 + r.val + 1040 - n) % 1040, hr⟩ p))
      else v (ix2 ⟨(16 + r.val + 1040 - n) % 1040 - 16, by omega⟩ p)) = before n h (row t r) := by
  have hrow : (row t r).val = 1024 * (t.val % 8) + r.val := rfl
  have hlt := r.isLt
  unfold before
  split
  · next hr =>
    by_cases ht : t.val % 4 = 0
    · rw [hb, if_pos ht, if_pos (by omega)]
      rfl
    · rw [hb, if_neg ht, if_neg (by omega)]
      exact hz _ _ ht (by simp only [hrow]; omega)
  · next hr =>
    rw [if_neg (by omega), hv]
    exact congrArg h (Fin.ext (by simp only [row]; omega))

/-- The filter of a block of rows of the first half. -/
theorem block_filtered (t : Fin cfg0.N) (bit : BitVec 1) (hb : bit = if t.val % 4 = 0 then 1#1 else 0#1)
    (v : FVec Ideal S1024x768 .f32) (z : FVec Ideal S16x768 .f32) (c0 c1 c2 c3 : Vec Ideal S1x1x768 .f32)
    (h : Fin 8192 → EReal) (c : Fin 8 → EReal) (p : Fin 768)
    (hv : ∀ r, v (ix2 r p) = h (row t r))
    (hz : ∀ (i : Fin 16) (r : Fin 8192), t.val % 4 ≠ 0 → r.val + 16 = 1024 * (t.val % 8) + i.val → z (ix2 i p) = h r)
    (h2 : c2 (ix3 0 0 p) = c 2) (h1 : c1 (ix3 0 0 p) = c 1) (h0 : c0 (ix3 0 0 p) = c 0) (h3 : c3 (ix3 0 0 p) = c 3) (r : Fin 1024) :
    k0_pay6 bit v z (Scalar.ofBits .f32 0#32) c2 c1 c0 c3 (ix2 r p) = filtered c h (row t r) := by
  unfold k0_pay6
  pointwise
  unfold filtered
  rw [h0, h1, h2, h3, hv]
  refine congrArg₂ (fun a b : EReal => a + b) (congrArg₂ (fun a b : EReal => a + b) (congrArg (fun a : EReal => c 2 * h (row t r) + a)
    (congrArg (fun a : EReal => c 1 * a) ?_)) (congrArg (fun a : EReal => c 0 * a) ?_)) rfl
  · exact rotated 1 (by omega) (by omega) t bit hb v z h p hv hz r
  · exact rotated 2 (by omega) (by omega) t bit hb v z h p hv hz r

/-- The filter of a block of rows of the second half. -/
theorem block_filtered_again (t : Fin cfg0.N) (bit : BitVec 1) (hb : bit = if t.val % 4 = 0 then 1#1 else 0#1)
    (v : FVec Ideal S1024x768 .f32) (z : FVec Ideal S16x768 .f32) (c0 c1 c2 c3 : Vec Ideal S1x1x768 .f32)
    (h : Fin 8192 → EReal) (c : Fin 8 → EReal) (p : Fin 768)
    (hv : ∀ r, v (ix2 r p) = h (row t r))
    (hz : ∀ (i : Fin 16) (r : Fin 8192), t.val % 4 ≠ 0 → r.val + 16 = 1024 * (t.val % 8) + i.val → z (ix2 i p) = h r)
    (h2 : c2 (ix3 0 0 p) = c 2) (h1 : c1 (ix3 0 0 p) = c 1) (h0 : c0 (ix3 0 0 p) = c 0) (h3 : c3 (ix3 0 0 p) = c 3) (r : Fin 1024) :
    k0_pay11 (k0_pay8 bit v z) (k0_pay9 bit v z c2) (k0_pay10 c1) 1#32 c0 c3 (ix2 r p) = filtered c h (row t r) := by
  refine Eq.trans ?_ (block_filtered t bit hb v z c0 c1 c2 c3 h c p hv hz h2 h1 h0 h3 r)
  unfold k0_pay11 k0_pay9 k0_pay8 k0_pay10 k0_pay6
  pointwise

/-- A block of rows' product, entry by entry. -/
theorem block_product (x : Vec Ideal S1024x1024 .bf16) (w : Vec Ideal S1x1024x768 .bf16) (f : Fin 1024 → Fin 1024 → EReal)
    (e : Fin 1024 → EReal) (p : Fin 768) (hx : ∀ r k, x (ix2 r k) = f r k) (hw : ∀ k, w (ix3 0 k p) = e k) (r : Fin 1024) :
    k0_pay1 x w (ix2 r p) = ∑ k, f r k * e k := by
  unfold k0_pay1
  pointwise
  simp only [hx, hw]

/-- The same product in the array of the first half. -/
theorem block_first (x : Vec Ideal S1024x1024 .bf16) (w : Vec Ideal S1x1024x768 .bf16) (f : Fin 1024 → Fin 1024 → EReal)
    (e : Fin 1024 → EReal) (p : Fin 768) (hx : ∀ r k, x (ix2 r k) = f r k) (hw : ∀ k, w (ix3 0 k p) = e k) (r : Fin 1024) :
    k0_pay5 x w (ix2 r p) = ∑ k, f r k * e k := by
  refine Eq.trans ?_ (block_product x w f e p hx hw r)
  unfold k0_pay5
  generalize k0_pay1 x w = y
  pointwise

/-- The product of the sixteen rows before a block. -/
theorem block_halo (x : Vec Ideal S16x1024 .bf16) (w : Vec Ideal S1x1024x768 .bf16) (f e : Fin 1024 → EReal)
    (p : Fin 768) (i : Fin 16) (hx : ∀ k, x (ix2 i k) = f k) (hw : ∀ k, w (ix3 0 k p) = e k) :
    k0_pay2 x w (ix2 i p) = ∑ k, f k * e k := by
  unfold k0_pay2
  pointwise
  simp only [hx, hw]

/-- The rows a point stages. -/
theorem block_rows (c : Dev nD) (t : Fin cfg0.N) (r k : Fin 1024) :
    (fun (x : Vec Ideal S1024x1024 .bf16) => (x (ix2 r k) : EReal)) (View.ld (iblk m c 0 t) r0_0) = (V m c main_arg0 : Acts) (ix2 (row t r) k) := by
  pointwise
  unfold row
  blk_ext [iblk, V, staged t]

/-- The rows before them. -/
theorem block_earlier (c : Dev nD) (t : Fin cfg0.N) (i : Fin 16) (k : Fin 1024) (r : Fin 8192) (ht : t.val % 4 ≠ 0)
    (hr : r.val + 16 = 1024 * (t.val % 8) + i.val) :
    (fun (x : Vec Ideal S16x1024 .bf16) => (x (ix2 i k) : EReal)) (View.ld (iblk m c 1 t) r0_1) = (V m c main_arg0 : Acts) (ix2 r k) := by
  pointwise
  have h : r = ⟨16 * (64 * (t.val % 8) - 1) + i.val, by omega⟩ := Fin.ext (by simp only; omega)
  rw [h]
  blk_ext [iblk, V, staged t]

/-- A point's block of the weight's first half. -/
theorem lower_weight (c : Dev nD) (t : Fin cfg0.N) (k : Fin 1024) (p : Fin 768) :
    (fun (w : Vec Ideal S1x1024x768 .bf16) => (w (ix3 0 k p) : EReal)) (View.ld (iblk m c 2 t) r0_2)
      = (V m c main_arg1 : Weight) (ix3 (lower (col t p)) k p) := by
  pointwise
  have h : lower (col t p) = ⟨t.val / 8, by have : t.val < 32 := t.isLt; omega⟩ := Fin.ext (by simp only [lower, col]; omega)
  rw [h]
  blk_ext [iblk, V, staged t]

/-- A point's block of the weight's second half. -/
theorem upper_weight (c : Dev nD) (t : Fin cfg0.N) (k : Fin 1024) (p : Fin 768) :
    (fun (w : Vec Ideal S1x1024x768 .bf16) => (w (ix3 0 k p) : EReal)) (View.ld (iblk m c 3 t) r0_2)
      = (V m c main_arg1 : Weight) (ix3 (upper (col t p)) k p) := by
  pointwise
  have h : upper (col t p) = ⟨t.val / 8 + 4, by have : t.val < 32 := t.isLt; omega⟩ := Fin.ext (by simp only [upper, col]; omega)
  rw [h]
  blk_ext [iblk, V, staged t]

/-- A point's taps of the first half. -/
theorem lower_tap (c : Dev nD) (t : Fin cfg0.N) (i : Fin 8) (p : Fin 768) :
    (fun (w : Vec Ideal S1x8x768 .f32) => (w (ix3 0 i p) : EReal)) (iblk m c 4 t)
      = (V m c main_arg2 : Taps) (ix3 (lower (col t p)) i p) := by
  have h : lower (col t p) = ⟨t.val / 8, by have : t.val < 32 := t.isLt; omega⟩ := Fin.ext (by simp only [lower, col]; omega)
  rw [h]
  blk_ext [iblk, V, staged t]

/-- A point's taps of the second half. -/
theorem upper_tap (c : Dev nD) (t : Fin cfg0.N) (i : Fin 8) (p : Fin 768) :
    (fun (w : Vec Ideal S1x8x768 .f32) => (w (ix3 0 i p) : EReal)) (iblk m c 5 t)
      = (V m c main_arg2 : Taps) (ix3 (upper (col t p)) i p) := by
  have h : upper (col t p) = ⟨t.val / 8 + 4, by have : t.val < 32 := t.isLt; omega⟩ := Fin.ext (by simp only [upper, col]; omega)
  rw [h]
  blk_ext [iblk, V, staged t]

/-- A point's filtered block of the first half. -/
theorem block_lower (c : Dev nD) (t : Fin cfg0.N) (r : Fin 1024) (p : Fin 768) :
    k0_pay19 (F := Ideal) (grid0.coords t) (iblk m c 0 t) (iblk m c 1 t) (iblk m c 2 t) (iblk m c 3 t) (iblk m c 4 t) (iblk m c 5 t) (ix2 r p)
      = branch (V m c main_arg0) (V m c main_arg1) (V m c main_arg2) (lower (col t p)) p (row t r) := by
  unfold k0_pay19
  refine block_filtered t _ (starts_at t) _ _ _ _ _ _ _ _ p
    (fun r => block_product _ _ _ _ p (block_rows m c t) (fun k => lower_weight m c t k p) r)
    (fun i r ht hr => block_halo _ _ _ _ p i (fun k => block_earlier m c t i k r ht hr) (fun k => lower_weight m c t k p)) ?_ ?_ ?_ ?_ r
  · refine Eq.trans ?_ (lower_tap m c t 2 p); pointwise
  · refine Eq.trans ?_ (lower_tap m c t 1 p); pointwise
  · refine Eq.trans ?_ (lower_tap m c t 0 p); pointwise
  · refine Eq.trans ?_ (lower_tap m c t 3 p); pointwise

/-- A point's filtered block of the second half. -/
theorem block_upper (c : Dev nD) (t : Fin cfg0.N) (r : Fin 1024) (p : Fin 768) :
    k0_pay11 (F := Ideal) (k0_pay20 (grid0.coords t) (iblk m c 0 t) (iblk m c 1 t) (iblk m c 2 t) (iblk m c 3 t) (iblk m c 4 t) (iblk m c 5 t))
      (k0_pay21 (grid0.coords t) (iblk m c 0 t) (iblk m c 1 t) (iblk m c 2 t) (iblk m c 3 t) (iblk m c 4 t) (iblk m c 5 t))
      (k0_pay22 (grid0.coords t) (iblk m c 0 t) (iblk m c 1 t) (iblk m c 2 t) (iblk m c 3 t) (iblk m c 4 t) (iblk m c 5 t))
      1#32 (View.ld (iblk m c 5 t) r0_6) (View.ld (iblk m c 5 t) r0_7) (ix2 r p)
      = branch (V m c main_arg0) (V m c main_arg1) (V m c main_arg2) (upper (col t p)) p (row t r) := by
  unfold k0_pay20 k0_pay21 k0_pay22 k0_pay17 k0_pay18
  refine block_filtered_again t _ (starts_at t) _ _ _ _ _ _ _ _ p
    (fun r => block_product _ _ _ _ p (block_rows m c t) (fun k => upper_weight m c t k p) r)
    (fun i r ht hr => block_halo _ _ _ _ p i (fun k => block_earlier m c t i k r ht hr) (fun k => upper_weight m c t k p)) ?_ ?_ ?_ ?_ r
  · refine Eq.trans ?_ (upper_tap m c t 2 p); pointwise
  · refine Eq.trans ?_ (upper_tap m c t 1 p); pointwise
  · refine Eq.trans ?_ (upper_tap m c t 0 p); pointwise
  · refine Eq.trans ?_ (upper_tap m c t 3 p); pointwise

/-- The gated block, from its two branches. -/
theorem block_act (v : FVec Ideal S1024x768 .f32) (a b : FVec Ideal S1040x768 .f32) (d : FVec Ideal S1x768 .f32) (e f : Vec Ideal S1x1x768 .f32)
    (g u : EReal) (r : Fin 1024) (p : Fin 768) (hu : v (ix2 r p) = u) (hg : k0_pay11 a b d 1#32 e f (ix2 r p) = g) :
    k0_pay14 v a b d 1#32 e f (ix2 r p) = silu g * u := by
  unfold k0_pay14 k0_pay13 k0_pay12
  generalize k0_pay11 a b d 1#32 e f = y at hg ⊢
  pointwise
  rw [hg, hu]
  rfl

/-- The gate's block. -/
theorem block_opened (a b : FVec Ideal S1040x768 .f32) (d : FVec Ideal S1x768 .f32) (e f : Vec Ideal S1x1x768 .f32)
    (g : EReal) (r : Fin 1024) (p : Fin 768) (hg : k0_pay11 a b d 1#32 e f (ix2 r p) = g) :
    k0_pay15 a b d 1#32 e f (ix2 r p) = silu g := by
  unfold k0_pay15 k0_pay13 k0_pay12
  generalize k0_pay11 a b d 1#32 e f = y at hg ⊢
  pointwise
  rw [hg]
  rfl

/-- The block of the branch times the slope. -/
theorem block_sloped (v : FVec Ideal S1024x768 .f32) (a b : FVec Ideal S1040x768 .f32) (d : FVec Ideal S1x768 .f32) (e f : Vec Ideal S1x1x768 .f32)
    (g u : EReal) (r : Fin 1024) (p : Fin 768) (hu : v (ix2 r p) = u) (hg : k0_pay11 a b d 1#32 e f (ix2 r p) = g) :
    k0_pay16 v a b d 1#32 e f (ix2 r p) = u * siluSlope g := by
  unfold k0_pay16 k0_pay12
  generalize k0_pay11 a b d 1#32 e f = y at hg ⊢
  pointwise
  rw [hg, hu]
  rfl

/-- The gated activations after the run. -/
theorem kernel_act (c : Dev nD) : (dats m 0 c).arrAt 6 cfg0.N = act (V m c main_arg0) (V m c main_arg1) (V m c main_arg2) := by
  refine (dats m 0 c).arrAt_eq_of_covers 6 _ (by decide +kernel) fun t hf y => ?_
  blk_simp
  rw [after0_6]
  idx_vars y
  unfold out0_6
  frame_out
  refine (block_act _ _ _ _ _ _ _ _ y0 y1 (block_lower m c t y0 y1) (block_upper m c t y0 y1)).trans ?_
  have h : act (V m c main_arg0) (V m c main_arg1) (V m c main_arg2) (ix2 (row t y0) (col t y1))
      = silu (branch (V m c main_arg0) (V m c main_arg1) (V m c main_arg2) (upper (col t y1)) y1 (row t y0))
        * branch (V m c main_arg0) (V m c main_arg1) (V m c main_arg2) (lower (col t y1)) y1 (row t y0) := by
    exact congrArg (fun p => silu (branch _ _ _ (upper (col t y1)) p (row t y0)) * branch _ _ _ (lower (col t y1)) p (row t y0)) (within_col t y1)
  refine h.symm.trans ?_
  unfold row col
  blk_ext [iblk, V, staged t]

/-- The gate after the run. -/
theorem kernel_opened (c : Dev nD) : (dats m 0 c).arrAt 7 cfg0.N = opened (V m c main_arg0) (V m c main_arg1) (V m c main_arg2) := by
  refine (dats m 0 c).arrAt_eq_of_covers 7 _ (by decide +kernel) fun t hf y => ?_
  blk_simp
  rw [after0_7]
  idx_vars y
  unfold out0_7
  frame_out
  refine (block_opened _ _ _ _ _ _ y0 y1 (block_upper m c t y0 y1)).trans ?_
  have h : opened (V m c main_arg0) (V m c main_arg1) (V m c main_arg2) (ix2 (row t y0) (col t y1))
      = silu (branch (V m c main_arg0) (V m c main_arg1) (V m c main_arg2) (upper (col t y1)) y1 (row t y0)) := by
    exact congrArg (fun p => silu (branch _ _ _ (upper (col t y1)) p (row t y0))) (within_col t y1)
  refine h.symm.trans ?_
  unfold row col
  blk_ext [iblk, V, staged t]

/-- The branch times the gate's slope after the run. -/
theorem kernel_sloped (c : Dev nD) : (dats m 0 c).arrAt 8 cfg0.N = sloped (V m c main_arg0) (V m c main_arg1) (V m c main_arg2) := by
  refine (dats m 0 c).arrAt_eq_of_covers 8 _ (by decide +kernel) fun t hf y => ?_
  blk_simp
  rw [after0_8]
  idx_vars y
  unfold out0_8
  frame_out
  refine (block_sloped _ _ _ _ _ _ _ _ y0 y1 (block_lower m c t y0 y1) (block_upper m c t y0 y1)).trans ?_
  have h : sloped (V m c main_arg0) (V m c main_arg1) (V m c main_arg2) (ix2 (row t y0) (col t y1))
      = branch (V m c main_arg0) (V m c main_arg1) (V m c main_arg2) (lower (col t y1)) y1 (row t y0)
        * siluSlope (branch (V m c main_arg0) (V m c main_arg1) (V m c main_arg2) (upper (col t y1)) y1 (row t y0)) := by
    exact congrArg (fun p => branch _ _ _ (lower (col t y1)) p (row t y0) * siluSlope (branch _ _ _ (upper (col t y1)) p (row t y0))) (within_col t y1)
  refine h.symm.trans ?_
  unfold row col
  blk_ext [iblk, V, staged t]

set_option maxHeartbeats 2000000 in
/-- The product's first half after the run. -/
theorem kernel_first (c : Dev nD) : (dats m 0 c).arrAt 9 cfg0.N = firstHalf (V m c main_arg0) (V m c main_arg1) := by
  refine (dats m 0 c).arrAt_eq_of_covers 9 _ (by decide +kernel) fun t hf y => ?_
  blk_simp
  rw [after0_9]
  idx_vars y
  unfold out0_9
  frame_out
  refine (block_first (iblk m c 0 t) (iblk m c 2 t) _ _ y1 (fun r k => Eq.trans ?_ (block_rows m c t r k))
    (fun k => Eq.trans ?_ (lower_weight m c t k y1)) y0).trans ?_
  on_goal 1 => pointwise
  on_goal 1 => pointwise
  have h : firstHalf (V m c main_arg0) (V m c main_arg1) (ix2 (row t y0) (col t y1))
      = product (V m c main_arg0) (V m c main_arg1) (lower (col t y1)) y1 (row t y0) := by
    exact congrArg (fun p => product _ _ (lower (col t y1)) p (row t y0)) (within_col t y1)
  refine h.symm.trans ?_
  unfold row col
  blk_ext [iblk, V, staged t]

/-- The product's second half after the run. -/
theorem kernel_second (c : Dev nD) : (dats m 0 c).arrAt 10 cfg0.N = secondHalf (V m c main_arg0) (V m c main_arg1) := by
  refine (dats m 0 c).arrAt_eq_of_covers 10 _ (by decide +kernel) fun t hf y => ?_
  blk_simp
  rw [after0_10]
  idx_vars y
  unfold out0_10
  frame_out
  refine (block_product _ _ _ _ y1 (block_rows m c t) (fun k => upper_weight m c t k y1) y0).trans ?_
  have h : secondHalf (V m c main_arg0) (V m c main_arg1) (ix2 (row t y0) (col t y1))
      = product (V m c main_arg0) (V m c main_arg1) (upper (col t y1)) y1 (row t y0) := by
    exact congrArg (fun p => product _ _ (upper (col t y1)) p (row t y0)) (within_col t y1)
  refine h.symm.trans ?_
  unfold row col
  blk_ext [iblk, V, staged t]
end

section
open Cert.ReferenceUpGateIdeal Cert.ReferenceUpGateIdeal.Read

variable (x : Acts) (w : Weight) (cw : Taps)

/-- Column `p` of block `q`, of the whole width. -/
def column (q : Fin 8) (p : Fin 768) : Fin 6144 := ⟨768 * q.val + p.val, by omega⟩
/-- Row `s` of sequence `b`. -/
def line (b : Fin 2) (s : Fin 4096) : Fin 8192 := ⟨4096 * b.val + s.val, by omega⟩

/-- The reference's product, by sequences. -/
theorem reference_product (b : Fin 2) (s : Fin 4096) (q : Fin 8) (p : Fin 768) :
    val_main_v5 (F := Ideal) x w (ix3 b s (column q p)) = product x w q p (line b s) := by
  have hw : ∀ k : Fin 1024, val_main_v2 (F := Ideal) w (ix2 k (column q p)) = w (ix3 q k p) := by
    intro k
    rw [val_main_v2_apply, val_main_v1_apply, val_main_v0_apply]
    refine congrArg w ?_
    funext a
    match a with
    | ⟨0, _⟩ => exact Fin.ext (by simp [idx_main_v1, idx_main_v2, column]; omega)
    | ⟨1, _⟩ => exact Fin.ext (by simp [idx_main_v1, idx_main_v2, column]; omega)
    | ⟨2, _⟩ => exact Fin.ext (by simp [idx_main_v1, idx_main_v2, column]; omega)
  have hp : val_main_v4 (F := Ideal) x w (ix2 (line b s) (column q p)) = product x w q p (line b s) := by
    unfold val_main_v4 val_main_v3
    generalize val_main_v2 (F := Ideal) w = z at hw ⊢
    pointwise
    simp only [hw]
    rfl
  rw [val_main_v5_apply, ← hp]
  refine congrArg (val_main_v4 (F := Ideal) x w) ?_
  funext a
  match a with
  | ⟨0, _⟩ => exact Fin.ext (by simp [idx_main_v5, column, line]; omega)
  | ⟨1, _⟩ => exact Fin.ext (by simp [idx_main_v5, column, line]; omega)

/-- The reference's taps, over the whole width. -/
theorem reference_taps (i : Fin 8) (q : Fin 8) (p : Fin 768) : val_main_v7 (F := Ideal) cw (ix2 i (column q p)) = cw (ix3 q i p) := by
  rw [val_main_v7_apply, val_main_v6_apply]
  refine congrArg cw ?_
  funext a
  match a with
  | ⟨0, _⟩ => exact Fin.ext (by simp [idx_main_v6, idx_main_v7, column]; omega)
  | ⟨1, _⟩ => exact Fin.ext (by simp [idx_main_v6, idx_main_v7, column]; omega)
  | ⟨2, _⟩ => exact Fin.ext (by simp [idx_main_v6, idx_main_v7, column]; omega)

/-- The reference's sums of shifted sequences. -/
theorem reference_branch (b : Fin 2) (s : Fin 4096) (q : Fin 8) (p : Fin 768) :
    val_main_v36 (F := Ideal) x w cw (ix3 b s (column q p)) = branch x w cw q p (line b s) := by
  have h := fun s => reference_product x w b s q p
  have ht := fun i => reference_taps cw i q p
  unfold val_main_v36 val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_cst val_main_cst_0
  generalize val_main_v5 (F := Ideal) x w = y at h ⊢
  generalize val_main_v7 (F := Ideal) cw = z at ht ⊢
  pointwise
  have e : ∀ n : ℕ, ∀ hn : n ≤ 2, (if hs : s.val < n then (0 : EReal) else y (ix3 b ⟨s.val - n, by omega⟩ (column q p)))
      = before n (product x w q p) (line b s) := by
    intro n hn
    have hl : (line b s).val = 4096 * b.val + s.val := rfl
    have hs := s.isLt
    unfold before
    split
    · rw [if_pos (by omega)]
    · rw [if_neg (by omega), h]
      exact congrArg (product x w q p) (Fin.ext (by simp only [line]; omega))
  refine (congrArg₂ (fun a b : EReal => a + b) (congrArg₂ (fun a b : EReal => a + b) (congrArg₂ (fun a b : EReal => a + b)
    (congrArg₂ (fun a b : EReal => a * b) (ht 0) (e 2 (by omega))) (congrArg₂ (fun a b : EReal => a * b) (ht 1) (e 1 (by omega))))
    (congrArg₂ (fun a b : EReal => a * b) (ht 2) (h s))) (ht 3)).trans ?_
  unfold branch filtered
  refine congrArg (fun a : EReal => a + cw (ix3 q 3 p)) ?_
  change cw (ix3 q 0 p) * before 2 (product x w q p) (line b s) + cw (ix3 q 1 p) * before 1 (product x w q p) (line b s)
    + cw (ix3 q 2 p) * product x w q p (line b s) = _
  rw [add_comm (cw (ix3 q 0 p) * _), add_comm (_ + _) (cw (ix3 q 2 p) * _), ← add_assoc]

/-- The reference's branch, of the first half. -/
theorem reference_lower (b : Fin 2) (s : Fin 4096) (j : Fin 3072) :
    val_main_v37 (F := Ideal) x w cw (ix3 b s j) = branch x w cw (lower j) (within j) (line b s) := by
  rw [← reference_branch]
  unfold val_main_v37
  generalize val_main_v36 (F := Ideal) x w cw = y
  pointwise
  exact congrArg y (congrArg (ix3 b s) (Fin.ext (by simp only [column, lower, within]; omega)))

/-- The reference's branch, of the second half. -/
theorem reference_upper (b : Fin 2) (s : Fin 4096) (j : Fin 3072) :
    val_main_v38 (F := Ideal) x w cw (ix3 b s j) = branch x w cw (upper j) (within j) (line b s) := by
  rw [← reference_branch]
  unfold val_main_v38
  generalize val_main_v36 (F := Ideal) x w cw = y
  pointwise
  exact congrArg y (congrArg (ix3 b s) (Fin.ext (by simp only [column, upper, within]; omega)))

/-- The reference's logistic function. -/
theorem reference_logistic (b : Fin 2) (s : Fin 4096) (j : Fin 3072) :
    val_main_v39_2 (F := Ideal) x w cw (ix3 b s j) = logistic (branch x w cw (upper j) (within j) (line b s)) := by
  have h := reference_upper x w cw b s j
  unfold val_main_v39_2 val_main_call0_v4 val_main_call0_v3 val_main_call0_v2 val_main_call0_v1 val_main_call0_v0 val_main_call0_cst val_main_call0_cst_0
  generalize val_main_v38 (F := Ideal) x w cw = y at h ⊢
  pointwise
  rw [h]
  unfold Gate.logistic
  rw [sub_eq_add_neg, zero_add]

/-- The reference's gate. -/
theorem reference_silu (b : Fin 2) (s : Fin 4096) (j : Fin 3072) :
    val_main_v39_0 (F := Ideal) x w cw (ix3 b s j) = silu (branch x w cw (upper j) (within j) (line b s)) := by
  have h := reference_upper x w cw b s j
  have h' := reference_logistic x w cw b s j
  unfold val_main_v39_0
  generalize val_main_v38 (F := Ideal) x w cw = y at h ⊢
  generalize val_main_v39_2 (F := Ideal) x w cw = z at h' ⊢
  pointwise
  rw [h, h']
  rfl

/-- The reference's product rule. -/
theorem reference_rule (b : Fin 2) (s : Fin 4096) (j : Fin 3072) :
    val_main_v43 (F := Ideal) x w cw (ix3 b s j)
      = branch x w cw (lower j) (within j) (line b s) * logistic (branch x w cw (upper j) (within j) (line b s))
        + branch x w cw (upper j) (within j) (line b s) * branch x w cw (lower j) (within j) (line b s)
          * (logistic (branch x w cw (upper j) (within j) (line b s)) * (1 - logistic (branch x w cw (upper j) (within j) (line b s)))) := by
  have h := reference_upper x w cw b s j
  have h' := reference_logistic x w cw b s j
  have hl := reference_lower x w cw b s j
  unfold val_main_v43 val_main_call1_v2 val_main_call1_v1 val_main_call1_v0 val_main_v39_1 val_main_call0_v7 val_main_call0_v6 val_main_call0_cst_1
  generalize val_main_v38 (F := Ideal) x w cw = y at h ⊢
  generalize val_main_v39_2 (F := Ideal) x w cw = z at h' ⊢
  generalize val_main_v37 (F := Ideal) x w cw = u at hl ⊢
  pointwise
  rw [h, h', hl]

/-- The sequence a row lies in. -/
def sequence (r : Fin 8192) : Fin 2 := ⟨r.val / 4096, by omega⟩
/-- Its place in the sequence. -/
def place (r : Fin 8192) : Fin 4096 := ⟨r.val % 4096, by omega⟩
/-- A row is its place in its sequence. -/
theorem line_place (r : Fin 8192) : line (sequence r) (place r) = r := Fin.ext (by simp only [line, sequence, place]; omega)

/-- An array of sequences as an array of rows. -/
theorem flattened (y : (⟨3, ![2, 4096, 3072]⟩ : Shape).Idx → EReal) (f : Fin 2 → Fin 4096 → Fin 3072 → EReal)
    (h : ∀ b s j, y (ix3 b s j) = f b s j) (i : (⟨3, ![2, 4096, 3072]⟩ : Shape).Idx) (r : Fin 8192) (j : Fin 3072)
    (h0 : (i 0).val = r.val / 4096) (h1 : (i 1).val = r.val % 4096) (h2 : (i 2).val = j.val) :
    y i = f (sequence r) (place r) j := by
  rw [← h]
  refine congrArg y ?_
  funext a
  match a with
  | ⟨0, _⟩ => exact Fin.ext h0
  | ⟨1, _⟩ => exact Fin.ext h1
  | ⟨2, _⟩ => exact Fin.ext h2

/-- The reference's gated activations. -/
theorem reference_act : val_main_v45 (F := Ideal) x w cw = act x w cw := by
  funext i
  idx_vars i
  have h : ∀ b s j, val_main_v42 (F := Ideal) x w cw (ix3 b s j)
      = silu (branch x w cw (upper j) (within j) (line b s)) * branch x w cw (lower j) (within j) (line b s) := by
    intro b s j
    have h := reference_silu x w cw b s j
    have h' := reference_lower x w cw b s j
    unfold val_main_v42
    generalize val_main_v39_0 (F := Ideal) x w cw = y at h ⊢
    generalize val_main_v37 (F := Ideal) x w cw = z at h' ⊢
    pointwise
    rw [h, h']
  rw [val_main_v45_apply, val_main_v44_apply]
  refine (flattened (val_main_v42 (F := Ideal) x w cw) _ h _ i0 i1 ?_ ?_ ?_).trans ?_
  · simp [idx_main_v44]; omega
  · simp [idx_main_v44]; omega
  · simp [idx_main_v44]
  · rw [line_place]
    rfl

/-- The reference's gate, by rows. -/
theorem reference_opened : val_main_v47 (F := Ideal) x w cw = opened x w cw := by
  funext i
  idx_vars i
  rw [val_main_v47_apply, val_main_v46_apply]
  refine (flattened (val_main_v39_0 (F := Ideal) x w cw) _ (reference_silu x w cw) _ i0 i1 ?_ ?_ ?_).trans ?_
  · simp [idx_main_v46]; omega
  · simp [idx_main_v46]; omega
  · simp [idx_main_v46]
  · rw [line_place]
    rfl

/-- The reference's branch times the gate's slope, for reals. -/
theorem reference_sloped (hr : ∀ q p r, ∃ z : ℝ, branch x w cw q p r = (z : EReal)) : val_main_v49 (F := Ideal) x w cw = sloped x w cw := by
  funext i
  idx_vars i
  have h : ∀ b s j, val_main_v43 (F := Ideal) x w cw (ix3 b s j)
      = branch x w cw (lower j) (within j) (line b s) * siluSlope (branch x w cw (upper j) (within j) (line b s)) := fun b s j =>
    (reference_rule x w cw b s j).trans (product_rule (hr _ _ _) (hr _ _ _))
  rw [val_main_v49_apply, val_main_v48_apply]
  refine (flattened (val_main_v43 (F := Ideal) x w cw) _ h _ i0 i1 ?_ ?_ ?_).trans ?_
  · simp [idx_main_v48]; omega
  · simp [idx_main_v48]; omega
  · simp [idx_main_v48]
  · rw [line_place]
    rfl

/-- The reference's product, first half. -/
theorem reference_first : val_main_v51 (F := Ideal) x w = firstHalf x w := by
  funext i
  idx_vars i
  have h : ∀ b s j, val_main_v40 (F := Ideal) x w (ix3 b s j) = product x w (lower j) (within j) (line b s) := by
    intro b s j
    rw [← reference_product]
    unfold val_main_v40
    generalize val_main_v5 (F := Ideal) x w = y
    pointwise
    exact congrArg y (congrArg (ix3 b s) (Fin.ext (by simp only [column, lower, within]; omega)))
  rw [val_main_v51_apply, val_main_v50_apply]
  refine (flattened (val_main_v40 (F := Ideal) x w) _ h _ i0 i1 ?_ ?_ ?_).trans ?_
  · simp [idx_main_v50]; omega
  · simp [idx_main_v50]; omega
  · simp [idx_main_v50]
  · rw [line_place]
    rfl

/-- The reference's product, second half. -/
theorem reference_second : val_main_v53 (F := Ideal) x w = secondHalf x w := by
  funext i
  idx_vars i
  have h : ∀ b s j, val_main_v41 (F := Ideal) x w (ix3 b s j) = product x w (upper j) (within j) (line b s) := by
    intro b s j
    rw [← reference_product]
    unfold val_main_v41
    generalize val_main_v5 (F := Ideal) x w = y
    pointwise
    exact congrArg y (congrArg (ix3 b s) (Fin.ext (by simp only [column, upper, within]; omega)))
  rw [val_main_v53_apply, val_main_v52_apply]
  refine (flattened (val_main_v41 (F := Ideal) x w) _ h _ i0 i1 ?_ ?_ ?_).trans ?_
  · simp [idx_main_v52]; omega
  · simp [idx_main_v52]; omega
  · simp [idx_main_v52]
  · rw [line_place]
    rfl

/-- The reference ends with every counter at zero: it has none. -/
theorem frame_reference : Cert.quiescent_ReferenceUpGateIdeal := by
  intro m ρ _
  exact (θ_run defs _ _).mono (fun r h => ⟨fun c => (h c).2.2.2.2.2, sem_eq_zero_of_no_sems (by decide) r.2⟩) (Value.run (F := Ideal) m ρ)
end

section
variable [Cert.Pre_finite_up_gate.Facts] (x : Acts) (w : Weight) (cw : Taps)

/-- Under the precondition the branches are reals. -/
theorem branch_real (h0 : (Cert.Pre_finite_up_gate.fn (F := Ideal) x w cw).1 = fun _ => 1#1)
    (h1 : (Cert.Pre_finite_up_gate.fn (F := Ideal) x w cw).2.1 = fun _ => 1#1)
    (h2 : (Cert.Pre_finite_up_gate.fn (F := Ideal) x w cw).2.2 = fun _ => 1#1)
    (q : Fin 8) (p : Fin 768) (r : Fin 8192) : ∃ z : ℝ, branch x w cw q p r = (z : EReal) := by
  unfold Cert.Pre_finite_up_gate.fn at h0 h1 h2
  have hp : ∀ r, ∃ z : ℝ, product x w q p r = (z : EReal) := by
    intro r
    refine Cert.Norm.real_sum fun k => Cert.Norm.real_mul ?_ ?_
    · have h := congrFun h0 (ix2 r k)
      pointwise at h
      exact Cert.Pre_finite.Hand.real_of_cmp (φ := .f32) h
    · have h := congrFun h1 (ix3 q k p)
      pointwise at h
      exact Cert.Pre_finite.Hand.real_of_cmp (φ := .f32) h
  have hc : ∀ i, ∃ z : ℝ, cw (ix3 q i p) = (z : EReal) := by
    intro i
    have h := congrFun h2 (ix3 q i p)
    pointwise at h
    exact Cert.Pre_finite.Hand.real_of_cmp (φ := .f32) h
  have hb : ∀ n r, ∃ z : ℝ, before n (product x w q p) r = (z : EReal) := by
    intro n r
    unfold before
    split
    · exact ⟨0, rfl⟩
    · exact hp _
  exact Cert.Norm.real_add (Cert.Norm.real_add (Cert.Norm.real_add (Cert.Norm.real_mul (hc 2) (hp r)) (Cert.Norm.real_mul (hc 1) (hb 1 r)))
    (Cert.Norm.real_mul (hc 0) (hb 2 r))) (hc 3)

set_option maxHeartbeats 1000000 in
/-- Kernel and reference leave the same arrays. -/
theorem equal : Cert.algebraic_KernelUpGateIdeal_ReferenceUpGateIdeal_pre_finite_up_gate := by
  intro m ρ m' ρ' hpre hag
  refine ⟨fun c => act (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)) (m ((c.tc : Thread Cert.KernelUpGateIdeal.nD Cert.KernelUpGateIdeal.τ).loc Cert.KernelUpGateIdeal.main_arg2)), fun c => opened (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)) (m ((c.tc : Thread Cert.KernelUpGateIdeal.nD Cert.KernelUpGateIdeal.τ).loc Cert.KernelUpGateIdeal.main_arg2)), fun c => sloped (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)) (m ((c.tc : Thread Cert.KernelUpGateIdeal.nD Cert.KernelUpGateIdeal.τ).loc Cert.KernelUpGateIdeal.main_arg2)), fun c => firstHalf (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)), fun c => secondHalf (m ((c.tc : Thread Cert.KernelUpGateIdeal.nD Cert.KernelUpGateIdeal.τ).loc Cert.KernelUpGateIdeal.main_arg0)) (m ((c.tc : Thread Cert.KernelUpGateIdeal.nD Cert.KernelUpGateIdeal.τ).loc Cert.KernelUpGateIdeal.main_arg1)),
    (θ_run Cert.KernelUpGateIdeal.defs _ _).mono (fun r h c => ?_) (Cert.KernelUpGateIdeal.Value.run_blocks m ρ), ?_⟩
  · exact ⟨(h c).1.trans (kernel_act m c), (h c).2.1.trans (kernel_opened m c), (h c).2.2.1.trans (kernel_sloped m c),
      (h c).2.2.2.1.trans (kernel_first m c), (h c).2.2.2.2.1.trans (kernel_second m c), (h c).2.2.2.2.2⟩
  · refine (θ_run Cert.ReferenceUpGateIdeal.defs _ _).mono (fun r h c => ?_) (Cert.ReferenceUpGateIdeal.Value.run m' ρ')
    obtain ⟨a0, a1, a2⟩ := hag c
    obtain ⟨p0, p1, p2⟩ := hpre c
    have hb := branch_real _ _ _ p0 p1 p2
    refine ⟨((h c).1.trans (Cert.ReferenceUpGateIdeal.Read.val_main_v45_eq m' c)).trans ?_,
      ((h c).2.1.trans (Cert.ReferenceUpGateIdeal.Read.val_main_v47_eq m' c)).trans ?_,
      ((h c).2.2.1.trans (Cert.ReferenceUpGateIdeal.Read.val_main_v49_eq m' c)).trans ?_,
      ((h c).2.2.2.1.trans (Cert.ReferenceUpGateIdeal.Read.val_main_v51_eq _ _)).trans ?_,
      ((h c).2.2.2.2.1.trans (Cert.ReferenceUpGateIdeal.Read.val_main_v53_eq _ _)).trans ?_, (h c).2.2.2.2.2⟩
    · rw [a0, a1, a2]
      exact reference_act _ _ _
    · rw [a0, a1, a2]
      exact reference_opened _ _ _
    · rw [a0, a1, a2]
      exact reference_sloped _ _ _ hb
    · rw [a0, a1]
      exact reference_first _ _
    · rw [a0, a1]
      exact reference_second _ _
end

end Cert.UpGate
end
-- ==== Proof.DownNorm.lean ====
/-
  The norm after the product that ends a layer: the weighted residual plus a product, brought row by row to mean zero and variance one.
-/
module
public import proofs.«01_k».proof.Defs
public import proofs.«01_k».proof.Proof.Norm
public import proofs.«01_k».proof.Proof.Gen.KernelDownNormIdeal.Value
public import proofs.«01_k».proof.Proof.Gen.ReferenceDownNormIdeal.Run
public import proofs.«01_k».proof.Proof.Gen.ReferenceDownNormIdeal.Read

@[expose] public section
set_option maxRecDepth 16384
noncomputable section
namespace Cert.DownNorm
open Idealize.ShloMosaic Idealize.ShloMosaic.TcCoe Idealize.SL.Sem Cert.Norm

/-- Rows of the residual stream, over the extended reals. -/
abbrev Acts := (⟨2, ![8192, 1024]⟩ : Shape).Idx → EReal
/-- The product's left factor, over the extended reals. -/
abbrev Left := (⟨2, ![8192, 3072]⟩ : Shape).Idx → EReal
/-- The product's weight, over the extended reals. -/
abbrev Weight := (⟨2, ![3072, 1024]⟩ : Shape).Idx → EReal
/-- The norm's gain or shift, over the extended reals. -/
abbrev Gain := (⟨2, ![1, 1024]⟩ : Shape).Idx → EReal
/-- A scale per row, written 128 times. -/
abbrev Scales := (⟨2, ![8192, 128]⟩ : Shape).Idx → EReal

/-- The row that is normed. -/
def line (x : Acts) (a : Left) (w : Weight) : Fin 8192 → Fin 1024 → EReal :=
  weighted (fun r j => x (ix2 r j)) (fun r k => a (ix2 r k)) (fun k j => w (ix2 k j))
/-- The normed rows. -/
def hat (x : Acts) (a : Left) (w : Weight) : Acts := fun i => normed (line x a w (i 0)) (i 1)
/-- The normed rows, times the gain, plus the shift. -/
def out (x : Acts) (a : Left) (w : Weight) (g b : Gain) : Acts := fun i => hat x a w i * g (ix2 0 (i 1)) + b (ix2 0 (i 1))
/-- The rows' scales. -/
def scales (x : Acts) (a : Left) (w : Weight) : Scales := fun i => scale (line x a w (i 0))

section
open Cert.KernelDownNormIdeal Cert.KernelDownNormIdeal.Gen

variable (m : (ℓ : Loc nD τ sig) → Buf (Elt Ideal) ℓ)

/-- The blocks a point stages: 512 rows, the whole weight, the gain and the shift. -/
theorem staged : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![t.val, 0]
    ∧ win0_6.index t = ![t.val, 0] ∧ win0_7.index t = ![t.val, 0] ∧ win0_8.index t = ![t.val, 0] := by decide +kernel

/-- Row `r` of a point's block. -/
def row (t : Fin cfg0.N) (r : Fin 512) : Fin 8192 := ⟨512 * t.val + r.val, by have : t.val < 16 := t.isLt; omega⟩

/-- A point's rows less their means. -/
theorem block_centred (c : Dev nD) (t : Fin cfg0.N) (r : Fin 512) (j : Fin 1024) :
    k0_pay2 (F := Ideal) (iblk m c 0 t) (iblk m c 1 t) (iblk m c 2 t) (ix2 r j)
      = centred (line (V m c main_arg0) (V m c main_arg1) (V m c main_arg2) (row t r)) j := by
  have h : ∀ j : Fin 1024, (fun (x : Vec Ideal S512x1024 .f32) (a : Vec Ideal S512x3072 .bf16) (w : Vec Ideal S3072x1024 .bf16) =>
      (keep * x (ix2 r j) + ∑ k, a (ix2 r k) * w (ix2 k j) : EReal)) (iblk m c 0 t) (iblk m c 1 t) (iblk m c 2 t)
      = line (V m c main_arg0) (V m c main_arg1) (V m c main_arg2) (row t r) j := by
    intro j
    beta_reduce
    unfold line weighted
    refine congrArg₂ (fun a b : EReal => a + b) (congrArg (fun a : EReal => keep * a) ?_) ?_
    · unfold row; blk_ext [iblk, V, staged t]
    · refine Finset.sum_congr rfl fun k _ => congrArg₂ (fun a b : EReal => a * b) ?_ ?_
      · unfold row; blk_ext [iblk, V, staged t]
      · blk_ext [iblk, V, staged t]
  unfold k0_pay2
  pointwise
  change keep * _ + _ - Ideal.div (∑ x, (keep * _ + _)) columns = _
  unfold centred mean
  refine congrArg₂ (fun a b : EReal => a - b) (h j) (congrArg (fun a : EReal => Ideal.div a columns) ?_)
  exact Finset.sum_congr rfl fun k _ => h k

/-- A point's scales. -/
theorem block_scale (c : Dev nD) (t : Fin cfg0.N) (r : Fin 512) (j : Fin 1) :
    k0_pay3 (F := Ideal) (iblk m c 0 t) (iblk m c 1 t) (iblk m c 2 t) (ix2 r j)
      = scale (line (V m c main_arg0) (V m c main_arg1) (V m c main_arg2) (row t r)) := by
  have h := block_centred m c t r
  unfold k0_pay3
  generalize k0_pay2 (F := Ideal) (iblk m c 0 t) (iblk m c 1 t) (iblk m c 2 t) = A at h ⊢
  pointwise
  unfold scale mean columns tiny
  simp only [h]

/-- A point's normed rows. -/
theorem block_hat (c : Dev nD) (t : Fin cfg0.N) (r : Fin 512) (j : Fin 1024) :
    k0_pay4 (F := Ideal) (iblk m c 0 t) (iblk m c 1 t) (iblk m c 2 t) (ix2 r j)
      = hat (V m c main_arg0) (V m c main_arg1) (V m c main_arg2) (ix2 (row t r) j) := by
  have h := block_centred m c t r j
  have h' := block_scale m c t r 0
  unfold k0_pay4
  generalize k0_pay2 (F := Ideal) (iblk m c 0 t) (iblk m c 1 t) (iblk m c 2 t) = A at h ⊢
  generalize k0_pay3 (F := Ideal) (iblk m c 0 t) (iblk m c 1 t) (iblk m c 2 t) = B at h' ⊢
  pointwise
  rw [h, h']
  rfl

/-- A point's results. -/
theorem block_out (c : Dev nD) (t : Fin cfg0.N) (r : Fin 512) (j : Fin 1024) :
    k0_pay5 (F := Ideal) (iblk m c 0 t) (iblk m c 1 t) (iblk m c 2 t) (iblk m c 3 t) (iblk m c 4 t) (ix2 r j)
      = out (V m c main_arg0) (V m c main_arg1) (V m c main_arg2) (V m c main_arg3) (V m c main_arg4) (ix2 (row t r) j) := by
  have h := block_hat m c t r j
  unfold k0_pay5
  generalize k0_pay4 (F := Ideal) (iblk m c 0 t) (iblk m c 1 t) (iblk m c 2 t) = A at h ⊢
  pointwise
  rw [h]
  unfold out
  refine congrArg₂ (fun a b : EReal => (hat (V m c main_arg0) (V m c main_arg1) (V m c main_arg2) (ix2 (row t r) j) : EReal) * a + b) ?_ ?_
  · blk_ext [iblk, V, staged t]
  · blk_ext [iblk, V, staged t]

/-- The results after the run. -/
theorem kernel_out (c : Dev nD) : (dats m 0 c).arrAt 5 cfg0.N
    = out (V m c main_arg0) (V m c main_arg1) (V m c main_arg2) (V m c main_arg3) (V m c main_arg4) := by
  refine (dats m 0 c).arrAt_eq_of_covers 5 _ (by decide +kernel) fun t hf y => ?_
  blk_simp
  rw [after0_5]
  idx_vars y
  unfold out0_5
  frame_out
  refine (block_out m c t y0 y1).trans ?_
  unfold row
  blk_ext [iblk, V, staged t]

/-- The same results in the second array. -/
theorem kernel_out_rounded (c : Dev nD) : (dats m 0 c).arrAt 6 cfg0.N
    = out (V m c main_arg0) (V m c main_arg1) (V m c main_arg2) (V m c main_arg3) (V m c main_arg4) := by
  refine (dats m 0 c).arrAt_eq_of_covers 6 _ (by decide +kernel) fun t hf y => ?_
  blk_simp
  rw [after0_6]
  idx_vars y
  unfold out0_6
  frame_out
  refine Eq.trans ?_ ((block_out m c t y0 y1).trans ?_)
  · rfl
  · unfold row
    blk_ext [iblk, V, staged t]

/-- The normed rows after the run. -/
theorem kernel_hat (c : Dev nD) : (dats m 0 c).arrAt 7 cfg0.N
    = hat (V m c main_arg0) (V m c main_arg1) (V m c main_arg2) := by
  refine (dats m 0 c).arrAt_eq_of_covers 7 _ (by decide +kernel) fun t hf y => ?_
  blk_simp
  rw [after0_7]
  idx_vars y
  unfold out0_7
  frame_out
  refine (block_hat m c t y0 y1).trans ?_
  unfold row
  blk_ext [iblk, V, staged t]

/-- The scales after the run. -/
theorem kernel_scales (c : Dev nD) : (dats m 0 c).arrAt 8 cfg0.N
    = scales (V m c main_arg0) (V m c main_arg1) (V m c main_arg2) := by
  refine (dats m 0 c).arrAt_eq_of_covers 8 _ (by decide +kernel) fun t hf y => ?_
  blk_simp
  rw [after0_8]
  idx_vars y
  unfold out0_8
  frame_out
  refine Eq.trans ?_ ((block_scale m c t y0 0).trans ?_)
  · unfold k0_pay1
    generalize k0_pay3 (F := Ideal) (iblk m c 0 t) (iblk m c 1 t) (iblk m c 2 t) = B
    pointwise
  · have e : row t y0 = (win0_8.blk t).view.emb (ix2 y0 y1) 0 := by
      refine Fin.ext ?_
      unfold row
      blk_simp [staged t]
      simp
      omega
    exact congrArg (fun r : Fin 8192 => scale (line (V m c main_arg0) (V m c main_arg1) (V m c main_arg2) r)) e
end

section
open Cert.ReferenceDownNormIdeal Cert.ReferenceDownNormIdeal.Read

variable (x : Acts) (a : Left) (w : Weight) (g b : Gain)

/-- The reference's row before its norm. -/
theorem reference_line (r : Fin 8192) (j : Fin 1024) : val_main_v5 (F := Ideal) x a w (ix2 r j) = line x a w r j := by
  unfold val_main_v5 val_main_v4 val_main_v3 val_main_v2 val_main_v1 val_main_v0 val_main_cst
  pointwise
  rfl

/-- The reference's mean of a row. -/
theorem reference_mean (r : Fin 8192) (k : Fin 1) : val_main_v9 (F := Ideal) x a w (ix2 r k) = mean (line x a w r) := by
  have h := reference_line x a w r
  unfold val_main_v9 val_main_v8 val_main_v7 val_main_v6 val_main_cst_1 val_main_cst_0
  generalize val_main_v5 (F := Ideal) x a w = y at h ⊢
  pointwise
  unfold mean columns
  simp only [h]

/-- The reference's row less its mean. -/
theorem reference_centred (r : Fin 8192) (j : Fin 1024) : val_main_v11 (F := Ideal) x a w (ix2 r j) = centred (line x a w r) j := by
  have h := reference_line x a w r j
  have h' := reference_mean x a w r 0
  unfold val_main_v11 val_main_v10
  generalize val_main_v5 (F := Ideal) x a w = y at h ⊢
  generalize val_main_v9 (F := Ideal) x a w = z at h' ⊢
  pointwise
  rw [h, h']
  rfl

/-- The reference's scale of a row. -/
theorem reference_scale (r : Fin 8192) (k : Fin 1) : val_main_v21 (F := Ideal) x a w (ix2 r k) = scale (line x a w r) := by
  have h := reference_centred x a w r
  unfold val_main_v21 val_main_v20 val_main_v19 val_main_v16 val_main_v15 val_main_v14 val_main_v13 val_main_v12
    val_main_cst_2 val_main_cst_3 val_main_cst_4
  generalize val_main_v11 (F := Ideal) x a w = y at h ⊢
  pointwise
  unfold scale mean columns tiny
  simp only [h]

/-- The reference's normed rows. -/
theorem reference_hat : val_main_v23 (F := Ideal) x a w = hat x a w := by
  funext i
  idx_vars i
  have h := reference_centred x a w i0 i1
  have h' := reference_scale x a w i0 0
  change val_main_v11 (F := Ideal) x a w (ix2 i0 i1) * val_main_v22 (F := Ideal) x a w (ix2 i0 i1) = _
  rw [h]
  unfold val_main_v22
  generalize val_main_v21 (F := Ideal) x a w = z at h' ⊢
  pointwise
  rw [h']
  rfl

/-- The reference's normed rows, as the forward keeps them. -/
theorem reference_kept : val_main_v45 (F := Ideal) x a w = hat x a w := reference_hat x a w

/-- The reference's scales. -/
theorem reference_scales : val_main_v46 (F := Ideal) x a w = scales x a w := by
  funext i
  idx_vars i
  have h' := reference_scale x a w i0 0
  change broadcastInDim _ _ _ (val_main_v21 (F := Ideal) x a w) _ = _
  generalize val_main_v21 (F := Ideal) x a w = z at h' ⊢
  pointwise
  rw [h']
  rfl

/-- The reference's results. -/
theorem reference_out : val_main_v27 (F := Ideal) x a w g b = out x a w g b := by
  funext i
  idx_vars i
  have h := congrFun (reference_hat x a w) (ix2 i0 i1)
  unfold val_main_v27 val_main_v26 val_main_v25 val_main_v24
  generalize val_main_v23 (F := Ideal) x a w = z at h ⊢
  pointwise
  rw [h]
  rfl

/-- The reference's results in the second array. -/
theorem reference_out_rounded : val_main_v47 (F := Ideal) x a w g b = out x a w g b := by
  funext i
  rw [val_main_v47_apply]
  exact congrFun (reference_out x a w g b) i

/-- The reference ends with every counter at zero: it has none. -/
theorem frame_reference : Cert.quiescent_ReferenceDownNormIdeal := by
  intro m ρ _
  exact (θ_run defs _ _).mono (fun r h => ⟨fun c => (h c).2.2.2.2, sem_eq_zero_of_no_sems (by decide) r.2⟩) (Value.run (F := Ideal) m ρ)
end

/-- Kernel and reference leave the same arrays. -/
theorem equal : Cert.algebraic_KernelDownNormIdeal_ReferenceDownNormIdeal := by
  intro m ρ m' ρ' _ hag
  refine ⟨fun c => out (m ((c.tc : Thread Cert.KernelDownNormIdeal.nD Cert.KernelDownNormIdeal.τ).loc Cert.KernelDownNormIdeal.main_arg0)) (m ((c.tc : Thread Cert.KernelDownNormIdeal.nD Cert.KernelDownNormIdeal.τ).loc Cert.KernelDownNormIdeal.main_arg1)) (m ((c.tc : Thread Cert.KernelDownNormIdeal.nD Cert.KernelDownNormIdeal.τ).loc Cert.KernelDownNormIdeal.main_arg2)) (m ((c.tc : Thread Cert.KernelDownNormIdeal.nD Cert.KernelDownNormIdeal.τ).loc Cert.KernelDownNormIdeal.main_arg3)) (m ((c.tc : Thread Cert.KernelDownNormIdeal.nD Cert.KernelDownNormIdeal.τ).loc Cert.KernelDownNormIdeal.main_arg4)),
    fun c => out (m ((c.tc : Thread Cert.KernelDownNormIdeal.nD Cert.KernelDownNormIdeal.τ).loc Cert.KernelDownNormIdeal.main_arg0)) (m ((c.tc : Thread Cert.KernelDownNormIdeal.nD Cert.KernelDownNormIdeal.τ).loc Cert.KernelDownNormIdeal.main_arg1)) (m ((c.tc : Thread Cert.KernelDownNormIdeal.nD Cert.KernelDownNormIdeal.τ).loc Cert.KernelDownNormIdeal.main_arg2)) (m ((c.tc : Thread Cert.KernelDownNormIdeal.nD Cert.KernelDownNormIdeal.τ).loc Cert.KernelDownNormIdeal.main_arg3)) (m ((c.tc : Thread Cert.KernelDownNormIdeal.nD Cert.KernelDownNormIdeal.τ).loc Cert.KernelDownNormIdeal.main_arg4)),
    fun c => hat (m ((c.tc : Thread Cert.KernelDownNormIdeal.nD Cert.KernelDownNormIdeal.τ).loc Cert.KernelDownNormIdeal.main_arg0)) (m ((c.tc : Thread Cert.KernelDownNormIdeal.nD Cert.KernelDownNormIdeal.τ).loc Cert.KernelDownNormIdeal.main_arg1)) (m ((c.tc : Thread Cert.KernelDownNormIdeal.nD Cert.KernelDownNormIdeal.τ).loc Cert.KernelDownNormIdeal.main_arg2)),
    fun c => scales (m ((c.tc : Thread Cert.KernelDownNormIdeal.nD Cert.KernelDownNormIdeal.τ).loc Cert.KernelDownNormIdeal.main_arg0)) (m ((c.tc : Thread Cert.KernelDownNormIdeal.nD Cert.KernelDownNormIdeal.τ).loc Cert.KernelDownNormIdeal.main_arg1)) (m ((c.tc : Thread Cert.KernelDownNormIdeal.nD Cert.KernelDownNormIdeal.τ).loc Cert.KernelDownNormIdeal.main_arg2)),
    (θ_run Cert.KernelDownNormIdeal.defs _ _).mono (fun r h c => ?_) (Cert.KernelDownNormIdeal.Value.run_blocks m ρ), ?_⟩
  · exact ⟨(h c).1.trans (kernel_out m c), (h c).2.1.trans (kernel_out_rounded m c), (h c).2.2.1.trans (kernel_hat m c),
      (h c).2.2.2.1.trans (kernel_scales m c), (h c).2.2.2.2⟩
  · refine (θ_run Cert.ReferenceDownNormIdeal.defs _ _).mono (fun r h c => ?_) (Cert.ReferenceDownNormIdeal.Value.run m' ρ')
    obtain ⟨a0, a1, a2, a3, a4⟩ := hag c
    refine ⟨((h c).1.trans (Cert.ReferenceDownNormIdeal.Read.val_main_v27_eq _ _ _ _ _)).trans ?_,
      ((h c).2.1.trans (Cert.ReferenceDownNormIdeal.Read.val_main_v47_eq _ _ _ _ _)).trans ?_,
      ((h c).2.2.1.trans (Cert.ReferenceDownNormIdeal.Read.val_main_v45_eq _ _ _)).trans ?_,
      ((h c).2.2.2.1.trans (Cert.ReferenceDownNormIdeal.Read.val_main_v46_eq _ _ _)).trans ?_, (h c).2.2.2.2⟩
    · rw [a0, a1, a2, a3, a4]
      exact reference_out _ _ _ _ _
    · rw [a0, a1, a2, a3, a4]
      exact reference_out_rounded _ _ _ _ _
    · rw [a0, a1, a2]
      exact reference_kept _ _ _
    · rw [a0, a1, a2]
      exact reference_scales _ _ _

end Cert.DownNorm
end
-- ==== Proof.Adam.lean ====
/-
  AdamW for one number: the sum of the eight devices' parts of its gradient, the two running means, and
  the step taken, over the extended reals.
-/
module
public import proofs.«01_k».proof.Defs

@[expose] public section
noncomputable section
namespace Cert.Adam
open Idealize.ShloMosaic

/-- The gradient: the sum of the eight devices' parts. -/
def total (p : Fin 8 → EReal) : EReal := ∑ d, p d

/-- Adding the parts one after another makes the sum. -/
theorem total_chain (p : Fin 8 → EReal) : p 0 + p 1 + p 2 + p 3 + p 4 + p 5 + p 6 + p 7 = total p :=
  (Fin.sum_univ_eight p).symm

/-- The new mean of the gradient: nine tenths of the old one, and a tenth of the gradient. -/
def mean (m g : EReal) : EReal :=
  Ideal.ofBits FTy.f32 0x3F666666#32 * m + Ideal.ofBits FTy.f32 0x3DCCCCCD#32 * g

/-- The new mean of the gradient's square: all but a thousandth of the old one, and a thousandth of the
    square. -/
def square (v g : EReal) : EReal :=
  Ideal.ofBits FTy.f32 0x3F7FBE77#32 * v + Ideal.ofBits FTy.f32 0x3A83126F#32 * (g * g)

/-- The step: the corrected mean over the root of the corrected square, with the weight's decay added, all
    times minus the rate. -/
def step (w m v g : EReal) : EReal :=
  Ideal.ofBits FTy.f32 0xBA83126F#32 *
    (Ideal.div (Ideal.div (mean m g) (Ideal.ofBits FTy.f32 0x3F26BD02#32))
        (Ideal.sqrt (Ideal.div (square v g) (Ideal.ofBits FTy.f32 0x3C231ACC#32)) + Ideal.ofBits FTy.f32 0x322BCC77#32)
      + Ideal.ofBits FTy.f32 0x3C23D70A#32 * w)

end Cert.Adam
end
-- ==== Proof.SquareStep.lean ====
/-
  The AdamW step of a square weight: the eight devices' parts of its gradient are added, and the weight's
  means and its step follow. Each point takes 64 rows.
-/
module
public import proofs.«01_k».proof.Defs
public import proofs.«01_k».proof.Proof.Adam
public import proofs.«01_k».proof.Proof.Products
public import proofs.«01_k».proof.Proof.Gen.KernelSquareStepIdeal.Value
public import proofs.«01_k».proof.Proof.Gen.ReferenceSquareStepIdeal.Run
public import proofs.«01_k».proof.Proof.Gen.ReferenceSquareStepIdeal.Read

@[expose] public section
set_option maxRecDepth 16384
noncomputable section
namespace Cert.SquareStep
open Idealize.ShloMosaic Idealize.ShloMosaic.TcCoe Idealize.SL.Sem Cert.Adam

/-- The eight devices' parts of the gradient, over the extended reals. -/
abbrev Parts := (⟨3, ![8, 128, 1024]⟩ : Shape).Idx → EReal
/-- One device's shard of the weight, and its means, over the extended reals. -/
abbrev Shard := (⟨3, ![1, 128, 1024]⟩ : Shape).Idx → EReal

/-- The gradient. -/
def gradient (p : Parts) : Shard := fun i => total fun d => p (ix3 d (i 1) (i 2))
/-- The step. -/
def stepped (p : Parts) (w a s : Shard) : Shard := fun i => step (w i) (a i) (s i) (gradient p i)
/-- The gradient's new mean. -/
def newMean (p : Parts) (a : Shard) : Shard := fun i => mean (a i) (gradient p i)
/-- The new mean of the gradient's square. -/
def newSquare (p : Parts) (s : Shard) : Shard := fun i => square (s i) (gradient p i)

section
open Cert.KernelSquareStepIdeal Cert.KernelSquareStepIdeal.Gen

variable (m : (ℓ : Loc nD τ sig) → Buf (Elt Ideal) ℓ)

/-- The blocks a point stages: 64 rows of every array. -/
theorem staged : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] := by
  decide +kernel

/-- Row `r` of a point's block. -/
def row (t : Fin cfg0.N) (r : Fin 64) : Fin 128 := ⟨64 * t.val + r.val, by have : t.val < 2 := t.isLt; omega⟩

/-- The body's sum of the parts, entry by entry. -/
theorem body_total (x : Vec Ideal S8x64x1024 .bf16) (w a s : Vec Ideal S1x64x1024 .f32) (r : Fin 64) (j : Fin 1024)
    (p : Fin 8 → EReal) (h : ∀ d, x (ix3 d r j) = p d) : k0_pay10 (F := Ideal) x w a s (ix2 r j) = total p := by
  unfold_payloads
  pointwise
  rw [← total_chain]
  simp only [← h]

/-- The body's new mean, entry by entry. -/
theorem body_mean (g : FVec Ideal S64x1024 .f32) (a : Vec Ideal S1x64x1024 .f32) (r : Fin 64) (j : Fin 1024) (g' a' : EReal)
    (hg : g (ix2 r j) = g') (ha : a (ix3 0 r j) = a') : k0_pay6 (F := Ideal) g a (ix3 0 r j) = mean a' g' := by
  subst hg ha
  unfold_payloads
  pointwise
  rfl

/-- The body's new mean of the square, entry by entry. -/
theorem body_square (g : FVec Ideal S64x1024 .f32) (s : Vec Ideal S1x64x1024 .f32) (r : Fin 64) (j : Fin 1024) (g' s' : EReal)
    (hg : g (ix2 r j) = g') (hs : s (ix3 0 r j) = s') : k0_pay7 (F := Ideal) g s (ix3 0 r j) = square s' g' := by
  subst hg hs
  unfold_payloads
  pointwise
  rfl

/-- The body's step, entry by entry. -/
theorem body_step (g : FVec Ideal S64x1024 .f32) (w a s : Vec Ideal S1x64x1024 .f32) (r : Fin 64) (j : Fin 1024)
    (g' w' a' s' : EReal) (hg : g (ix2 r j) = g') (hw : w (ix3 0 r j) = w') (ha : a (ix3 0 r j) = a')
    (hs : s (ix3 0 r j) = s') :
    k0_pay1 (F := Ideal) (k0_pay8 g a s) (k0_pay9 w) (Scalar.ofBits .f32 0x3C23D70A#32) (ix3 0 r j) = step w' a' s' g' := by
  subst hg hw ha hs
  unfold_payloads
  pointwise
  rfl

/-- A point's sum of the parts is the gradient's row. -/
theorem block_total (c : Dev nD) (t : Fin cfg0.N) (r : Fin 64) (j : Fin 1024) :
    k0_pay10 (F := Ideal) (iblk m c 0 t) (iblk m c 1 t) (iblk m c 2 t) (iblk m c 3 t) (ix2 r j)
      = gradient (V m c main_arg0) (ix3 0 (row t r) j) := by
  refine body_total _ _ _ _ r j _ fun d => ?_
  unfold row; blk_ext [iblk, V, staged t]

/-- The gradient's array after the run. -/
theorem kernel_gradient (c : Dev nD) : (dats m 0 c).arrAt 4 cfg0.N = gradient (V m c main_arg0) := by
  refine (dats m 0 c).arrAt_eq_of_covers 4 _ (by decide +kernel) fun t hf y => ?_
  blk_simp
  rw [after0_4]
  idx_vars y
  obtain rfl : y0 = 0 := Fin.eq_zero y0
  unfold out0_4
  frame_out
  unfold k0_pay5
  pointwise
  refine (block_total m c t y1 y2).trans ?_
  unfold row
  blk_ext [iblk, V, staged t]

/-- The step's array after the run. -/
theorem kernel_step (c : Dev nD) : (dats m 0 c).arrAt 5 cfg0.N
    = stepped (V m c main_arg0) (V m c main_arg1) (V m c main_arg2) (V m c main_arg3) := by
  refine (dats m 0 c).arrAt_eq_of_covers 5 _ (by decide +kernel) fun t hf y => ?_
  blk_simp
  rw [after0_5]
  idx_vars y
  obtain rfl : y0 = 0 := Fin.eq_zero y0
  unfold out0_5
  frame_out
  refine (body_step _ _ _ _ y1 y2 _ (V m c main_arg1 (ix3 0 (row t y1) y2)) (V m c main_arg2 (ix3 0 (row t y1) y2))
    (V m c main_arg3 (ix3 0 (row t y1) y2)) (block_total m c t y1 y2) ?_ ?_ ?_).trans ?_
  all_goals unfold row
  · blk_ext [iblk, V, staged t]
  · blk_ext [iblk, V, staged t]
  · blk_ext [iblk, V, staged t]
  · change stepped (V m c main_arg0) (V m c main_arg1) (V m c main_arg2) (V m c main_arg3) (ix3 0 (row t y1) y2) = _
    unfold row
    blk_ext [iblk, V, staged t]

/-- The new mean's array after the run. -/
theorem kernel_mean (c : Dev nD) : (dats m 0 c).arrAt 6 cfg0.N = newMean (V m c main_arg0) (V m c main_arg2) := by
  refine (dats m 0 c).arrAt_eq_of_covers 6 _ (by decide +kernel) fun t hf y => ?_
  blk_simp
  rw [after0_6]
  idx_vars y
  obtain rfl : y0 = 0 := Fin.eq_zero y0
  unfold out0_6
  frame_out
  refine (body_mean _ _ y1 y2 _ (V m c main_arg2 (ix3 0 (row t y1) y2)) (block_total m c t y1 y2) ?_).trans ?_
  · unfold row; blk_ext [iblk, V, staged t]
  · change newMean (V m c main_arg0) (V m c main_arg2) (ix3 0 (row t y1) y2) = _
    unfold row
    blk_ext [iblk, V, staged t]

/-- The array of the square's new mean after the run. -/
theorem kernel_square (c : Dev nD) : (dats m 0 c).arrAt 7 cfg0.N = newSquare (V m c main_arg0) (V m c main_arg3) := by
  refine (dats m 0 c).arrAt_eq_of_covers 7 _ (by decide +kernel) fun t hf y => ?_
  blk_simp
  rw [after0_7]
  idx_vars y
  obtain rfl : y0 = 0 := Fin.eq_zero y0
  unfold out0_7
  frame_out
  refine (body_square _ _ y1 y2 _ (V m c main_arg3 (ix3 0 (row t y1) y2)) (block_total m c t y1 y2) ?_).trans ?_
  · unfold row; blk_ext [iblk, V, staged t]
  · change newSquare (V m c main_arg0) (V m c main_arg3) (ix3 0 (row t y1) y2) = _
    unfold row
    blk_ext [iblk, V, staged t]
end

section
open Cert.ReferenceSquareStepIdeal Cert.ReferenceSquareStepIdeal.Read

/-- The reference's gradient. -/
theorem reference_gradient (p : Parts) : val_main_v2 (F := Ideal) p = gradient p := by
  funext i
  idx_vars i
  obtain rfl : i0 = 0 := Fin.eq_zero i0
  unfold val_main_v2 val_main_v1 val_main_v0 val_main_cst
  pointwise
  rfl

/-- The reference's new mean. -/
theorem reference_mean (p : Parts) (a : Shard) : val_main_v7 (F := Ideal) p a = newMean p a := by
  funext i
  have h := congrFun (reference_gradient p) i
  idx_vars i
  unfold val_main_v7 val_main_v6 val_main_v5 val_main_v4 val_main_v3 val_main_cst_0 val_main_cst_1
  generalize val_main_v2 (F := Ideal) p = y at h ⊢
  pointwise
  rw [h]
  rfl

/-- The reference's new mean of the square. -/
theorem reference_square (p : Parts) (s : Shard) : val_main_v13 (F := Ideal) p s = newSquare p s := by
  funext i
  have h := congrFun (reference_gradient p) i
  idx_vars i
  unfold val_main_v13 val_main_v12 val_main_v11 val_main_v10 val_main_v9 val_main_v8 val_main_cst_2 val_main_cst_3
  generalize val_main_v2 (F := Ideal) p = y at h ⊢
  pointwise
  rw [h]
  rfl

/-- The reference's step. -/
theorem reference_step (p : Parts) (w a s : Shard) : val_main_v26 (F := Ideal) p w a s = stepped p w a s := by
  funext i
  have ha := congrFun (reference_mean p a) i
  have hs := congrFun (reference_square p s) i
  idx_vars i
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8
  generalize val_main_v7 (F := Ideal) p a = y at ha ⊢
  generalize val_main_v13 (F := Ideal) p s = z at hs ⊢
  pointwise
  rw [ha, hs]
  rfl

/-- The reference ends with every counter at zero: it has none. -/
theorem frame_reference : Cert.quiescent_ReferenceSquareStepIdeal := by
  intro m ρ _
  exact (θ_run defs _ _).mono (fun r h => ⟨fun c => (h c).2.2.2.2, sem_eq_zero_of_no_sems (by decide) r.2⟩) (Value.run (F := Ideal) m ρ)
end

section
open Cert.KernelSquareStepIdeal Cert.KernelSquareStepIdeal.Gen

/-- Kernel and reference leave the same gradient, step and means. -/
theorem equal : Cert.algebraic_KernelSquareStepIdeal_ReferenceSquareStepIdeal := by
  intro m ρ m' ρ' _ hag
  refine ⟨fun c => gradient (V m c main_arg0),
    fun c => stepped (V m c main_arg0) (V m c main_arg1) (V m c main_arg2) (V m c main_arg3),
    fun c => newMean (V m c main_arg0) (V m c main_arg2),
    fun c => newSquare (V m c main_arg0) (V m c main_arg3),
    (θ_run defs _ _).mono (fun r h c => ?_) (Value.run_blocks m ρ), ?_⟩
  · obtain ⟨h0, h1, h2, h3, h4⟩ := h c
    exact ⟨h0.trans (kernel_gradient m c), h1.trans (kernel_step m c), h2.trans (kernel_mean m c), h3.trans (kernel_square m c), h4⟩
  · refine (θ_run Cert.ReferenceSquareStepIdeal.defs _ _).mono (fun r h c => ?_) (Cert.ReferenceSquareStepIdeal.Value.run m' ρ')
    obtain ⟨a0, a1, a2, a3⟩ := hag c
    obtain ⟨h0, h1, h2, h3, h4⟩ := h c
    refine ⟨(h0.trans (Cert.ReferenceSquareStepIdeal.Read.val_main_v2_eq _)).trans ?_,
      (h1.trans (Cert.ReferenceSquareStepIdeal.Read.val_main_v26_eq _ _ _ _)).trans ?_,
      (h2.trans (Cert.ReferenceSquareStepIdeal.Read.val_main_v7_eq _ _)).trans ?_,
      (h3.trans (Cert.ReferenceSquareStepIdeal.Read.val_main_v13_eq _ _)).trans ?_, h4⟩
    · rw [a0]; exact reference_gradient _
    · rw [a0, a1, a2, a3]; exact reference_step _ _ _ _
    · rw [a0, a2]; exact reference_mean _ _
    · rw [a0, a3]; exact reference_square _ _
end

end Cert.SquareStep
end
-- ==== Proof.KvStep.lean ====
/-
  The AdamW step of the weight of keys and values: the eight devices' parts of its gradient are added, and the weight's
  means and its step follow. Each point takes 64 rows.
-/
module
public import proofs.«01_k».proof.Defs
public import proofs.«01_k».proof.Proof.Adam
public import proofs.«01_k».proof.Proof.Products
public import proofs.«01_k».proof.Proof.Gen.KernelKvStepIdeal.Value
public import proofs.«01_k».proof.Proof.Gen.ReferenceKvStepIdeal.Run
public import proofs.«01_k».proof.Proof.Gen.ReferenceKvStepIdeal.Read

@[expose] public section
set_option maxRecDepth 16384
noncomputable section
namespace Cert.KvStep
open Idealize.ShloMosaic Idealize.ShloMosaic.TcCoe Idealize.SL.Sem Cert.Adam

/-- The eight devices' parts of the gradient, over the extended reals. -/
abbrev Parts := (⟨3, ![8, 128, 1548]⟩ : Shape).Idx → EReal
/-- One device's shard of the weight, and its means, over the extended reals. -/
abbrev Shard := (⟨3, ![1, 128, 1548]⟩ : Shape).Idx → EReal

/-- The gradient. -/
def gradient (p : Parts) : Shard := fun i => total fun d => p (ix3 d (i 1) (i 2))
/-- The step. -/
def stepped (p : Parts) (w a s : Shard) : Shard := fun i => step (w i) (a i) (s i) (gradient p i)
/-- The gradient's new mean. -/
def newMean (p : Parts) (a : Shard) : Shard := fun i => mean (a i) (gradient p i)
/-- The new mean of the gradient's square. -/
def newSquare (p : Parts) (s : Shard) : Shard := fun i => square (s i) (gradient p i)

section
open Cert.KernelKvStepIdeal Cert.KernelKvStepIdeal.Gen

variable (m : (ℓ : Loc nD τ sig) → Buf (Elt Ideal) ℓ)

/-- The blocks a point stages: 64 rows of every array. -/
theorem staged : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] := by
  decide +kernel

/-- Row `r` of a point's block. -/
def row (t : Fin cfg0.N) (r : Fin 64) : Fin 128 := ⟨64 * t.val + r.val, by have : t.val < 2 := t.isLt; omega⟩

/-- The body's sum of the parts, entry by entry. -/
theorem body_total (x : Vec Ideal S8x64x1548 .bf16) (w a s : Vec Ideal S1x64x1548 .f32) (r : Fin 64) (j : Fin 1548)
    (p : Fin 8 → EReal) (h : ∀ d, x (ix3 d r j) = p d) : k0_pay10 (F := Ideal) x w a s (ix2 r j) = total p := by
  unfold_payloads
  pointwise
  rw [← total_chain]
  simp only [← h]

/-- The body's new mean, entry by entry. -/
theorem body_mean (g : FVec Ideal S64x1548 .f32) (a : Vec Ideal S1x64x1548 .f32) (r : Fin 64) (j : Fin 1548) (g' a' : EReal)
    (hg : g (ix2 r j) = g') (ha : a (ix3 0 r j) = a') : k0_pay6 (F := Ideal) g a (ix3 0 r j) = mean a' g' := by
  subst hg ha
  unfold_payloads
  pointwise
  rfl

/-- The body's new mean of the square, entry by entry. -/
theorem body_square (g : FVec Ideal S64x1548 .f32) (s : Vec Ideal S1x64x1548 .f32) (r : Fin 64) (j : Fin 1548) (g' s' : EReal)
    (hg : g (ix2 r j) = g') (hs : s (ix3 0 r j) = s') : k0_pay7 (F := Ideal) g s (ix3 0 r j) = square s' g' := by
  subst hg hs
  unfold_payloads
  pointwise
  rfl

/-- The body's step, entry by entry. -/
theorem body_step (g : FVec Ideal S64x1548 .f32) (w a s : Vec Ideal S1x64x1548 .f32) (r : Fin 64) (j : Fin 1548)
    (g' w' a' s' : EReal) (hg : g (ix2 r j) = g') (hw : w (ix3 0 r j) = w') (ha : a (ix3 0 r j) = a')
    (hs : s (ix3 0 r j) = s') :
    k0_pay1 (F := Ideal) (k0_pay8 g a s) (k0_pay9 w) (Scalar.ofBits .f32 0x3C23D70A#32) (ix3 0 r j) = step w' a' s' g' := by
  subst hg hw ha hs
  unfold_payloads
  pointwise
  rfl

/-- A point's sum of the parts is the gradient's row. -/
theorem block_total (c : Dev nD) (t : Fin cfg0.N) (r : Fin 64) (j : Fin 1548) :
    k0_pay10 (F := Ideal) (iblk m c 0 t) (iblk m c 1 t) (iblk m c 2 t) (iblk m c 3 t) (ix2 r j)
      = gradient (V m c main_arg0) (ix3 0 (row t r) j) := by
  refine body_total _ _ _ _ r j _ fun d => ?_
  unfold row; blk_ext [iblk, V, staged t]

/-- The gradient's array after the run. -/
theorem kernel_gradient (c : Dev nD) : (dats m 0 c).arrAt 4 cfg0.N = gradient (V m c main_arg0) := by
  refine (dats m 0 c).arrAt_eq_of_covers 4 _ (by decide +kernel) fun t hf y => ?_
  blk_simp
  rw [after0_4]
  idx_vars y
  obtain rfl : y0 = 0 := Fin.eq_zero y0
  unfold out0_4
  frame_out
  unfold k0_pay5
  pointwise
  refine (block_total m c t y1 y2).trans ?_
  unfold row
  blk_ext [iblk, V, staged t]

/-- The step's array after the run. -/
theorem kernel_step (c : Dev nD) : (dats m 0 c).arrAt 5 cfg0.N
    = stepped (V m c main_arg0) (V m c main_arg1) (V m c main_arg2) (V m c main_arg3) := by
  refine (dats m 0 c).arrAt_eq_of_covers 5 _ (by decide +kernel) fun t hf y => ?_
  blk_simp
  rw [after0_5]
  idx_vars y
  obtain rfl : y0 = 0 := Fin.eq_zero y0
  unfold out0_5
  frame_out
  refine (body_step _ _ _ _ y1 y2 _ (V m c main_arg1 (ix3 0 (row t y1) y2)) (V m c main_arg2 (ix3 0 (row t y1) y2))
    (V m c main_arg3 (ix3 0 (row t y1) y2)) (block_total m c t y1 y2) ?_ ?_ ?_).trans ?_
  all_goals unfold row
  · blk_ext [iblk, V, staged t]
  · blk_ext [iblk, V, staged t]
  · blk_ext [iblk, V, staged t]
  · change stepped (V m c main_arg0) (V m c main_arg1) (V m c main_arg2) (V m c main_arg3) (ix3 0 (row t y1) y2) = _
    unfold row
    blk_ext [iblk, V, staged t]

/-- The new mean's array after the run. -/
theorem kernel_mean (c : Dev nD) : (dats m 0 c).arrAt 6 cfg0.N = newMean (V m c main_arg0) (V m c main_arg2) := by
  refine (dats m 0 c).arrAt_eq_of_covers 6 _ (by decide +kernel) fun t hf y => ?_
  blk_simp
  rw [after0_6]
  idx_vars y
  obtain rfl : y0 = 0 := Fin.eq_zero y0
  unfold out0_6
  frame_out
  refine (body_mean _ _ y1 y2 _ (V m c main_arg2 (ix3 0 (row t y1) y2)) (block_total m c t y1 y2) ?_).trans ?_
  · unfold row; blk_ext [iblk, V, staged t]
  · change newMean (V m c main_arg0) (V m c main_arg2) (ix3 0 (row t y1) y2) = _
    unfold row
    blk_ext [iblk, V, staged t]

/-- The array of the square's new mean after the run. -/
theorem kernel_square (c : Dev nD) : (dats m 0 c).arrAt 7 cfg0.N = newSquare (V m c main_arg0) (V m c main_arg3) := by
  refine (dats m 0 c).arrAt_eq_of_covers 7 _ (by decide +kernel) fun t hf y => ?_
  blk_simp
  rw [after0_7]
  idx_vars y
  obtain rfl : y0 = 0 := Fin.eq_zero y0
  unfold out0_7
  frame_out
  refine (body_square _ _ y1 y2 _ (V m c main_arg3 (ix3 0 (row t y1) y2)) (block_total m c t y1 y2) ?_).trans ?_
  · unfold row; blk_ext [iblk, V, staged t]
  · change newSquare (V m c main_arg0) (V m c main_arg3) (ix3 0 (row t y1) y2) = _
    unfold row
    blk_ext [iblk, V, staged t]
end

section
open Cert.ReferenceKvStepIdeal Cert.ReferenceKvStepIdeal.Read

/-- The reference's gradient. -/
theorem reference_gradient (p : Parts) : val_main_v2 (F := Ideal) p = gradient p := by
  funext i
  idx_vars i
  obtain rfl : i0 = 0 := Fin.eq_zero i0
  unfold val_main_v2 val_main_v1 val_main_v0 val_main_cst
  pointwise
  rfl

/-- The reference's new mean. -/
theorem reference_mean (p : Parts) (a : Shard) : val_main_v7 (F := Ideal) p a = newMean p a := by
  funext i
  have h := congrFun (reference_gradient p) i
  idx_vars i
  unfold val_main_v7 val_main_v6 val_main_v5 val_main_v4 val_main_v3 val_main_cst_0 val_main_cst_1
  generalize val_main_v2 (F := Ideal) p = y at h ⊢
  pointwise
  rw [h]
  rfl

/-- The reference's new mean of the square. -/
theorem reference_square (p : Parts) (s : Shard) : val_main_v13 (F := Ideal) p s = newSquare p s := by
  funext i
  have h := congrFun (reference_gradient p) i
  idx_vars i
  unfold val_main_v13 val_main_v12 val_main_v11 val_main_v10 val_main_v9 val_main_v8 val_main_cst_2 val_main_cst_3
  generalize val_main_v2 (F := Ideal) p = y at h ⊢
  pointwise
  rw [h]
  rfl

/-- The reference's step. -/
theorem reference_step (p : Parts) (w a s : Shard) : val_main_v26 (F := Ideal) p w a s = stepped p w a s := by
  funext i
  have ha := congrFun (reference_mean p a) i
  have hs := congrFun (reference_square p s) i
  idx_vars i
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8
  generalize val_main_v7 (F := Ideal) p a = y at ha ⊢
  generalize val_main_v13 (F := Ideal) p s = z at hs ⊢
  pointwise
  rw [ha, hs]
  rfl

/-- The reference ends with every counter at zero: it has none. -/
theorem frame_reference : Cert.quiescent_ReferenceKvStepIdeal := by
  intro m ρ _
  exact (θ_run defs _ _).mono (fun r h => ⟨fun c => (h c).2.2.2.2, sem_eq_zero_of_no_sems (by decide) r.2⟩) (Value.run (F := Ideal) m ρ)
end

section
open Cert.KernelKvStepIdeal Cert.KernelKvStepIdeal.Gen

/-- Kernel and reference leave the same gradient, step and means. -/
theorem equal : Cert.algebraic_KernelKvStepIdeal_ReferenceKvStepIdeal := by
  intro m ρ m' ρ' _ hag
  refine ⟨fun c => gradient (V m c main_arg0),
    fun c => stepped (V m c main_arg0) (V m c main_arg1) (V m c main_arg2) (V m c main_arg3),
    fun c => newMean (V m c main_arg0) (V m c main_arg2),
    fun c => newSquare (V m c main_arg0) (V m c main_arg3),
    (θ_run defs _ _).mono (fun r h c => ?_) (Value.run_blocks m ρ), ?_⟩
  · obtain ⟨h0, h1, h2, h3, h4⟩ := h c
    exact ⟨h0.trans (kernel_gradient m c), h1.trans (kernel_step m c), h2.trans (kernel_mean m c), h3.trans (kernel_square m c), h4⟩
  · refine (θ_run Cert.ReferenceKvStepIdeal.defs _ _).mono (fun r h c => ?_) (Cert.ReferenceKvStepIdeal.Value.run m' ρ')
    obtain ⟨a0, a1, a2, a3⟩ := hag c
    obtain ⟨h0, h1, h2, h3, h4⟩ := h c
    refine ⟨(h0.trans (Cert.ReferenceKvStepIdeal.Read.val_main_v2_eq _)).trans ?_,
      (h1.trans (Cert.ReferenceKvStepIdeal.Read.val_main_v26_eq _ _ _ _)).trans ?_,
      (h2.trans (Cert.ReferenceKvStepIdeal.Read.val_main_v7_eq _ _)).trans ?_,
      (h3.trans (Cert.ReferenceKvStepIdeal.Read.val_main_v13_eq _ _)).trans ?_, h4⟩
    · rw [a0]; exact reference_gradient _
    · rw [a0, a1, a2, a3]; exact reference_step _ _ _ _
    · rw [a0, a2]; exact reference_mean _ _
    · rw [a0, a3]; exact reference_square _ _
end

end Cert.KvStep
end
-- ==== Proof.MemStep.lean ====
/-
  The AdamW step of the memory's weight of keys and values, two layers at once: the eight devices' parts of each layer's
  gradient are added, and the weight's means and its step follow. Each point takes 64 rows of one layer.
-/
module
public import proofs.«01_k».proof.Defs
public import proofs.«01_k».proof.Proof.Adam
public import proofs.«01_k».proof.Proof.Products
public import proofs.«01_k».proof.Proof.Gen.KernelMemStepIdeal.Value
public import proofs.«01_k».proof.Proof.Gen.ReferenceMemStepIdeal.Run
public import proofs.«01_k».proof.Proof.Gen.ReferenceMemStepIdeal.Read

@[expose] public section
set_option maxRecDepth 16384
noncomputable section
namespace Cert.MemStep
open Idealize.ShloMosaic Idealize.ShloMosaic.TcCoe Idealize.SL.Sem Cert.Adam

/-- The eight devices' parts of one layer's gradient, over the extended reals. -/
abbrev Parts := (⟨3, ![8, 128, 512]⟩ : Shape).Idx → EReal
/-- One device's shard of both layers' weights, and their means, over the extended reals. -/
abbrev Shard := (⟨3, ![2, 128, 512]⟩ : Shape).Idx → EReal

/-- The gradient: the first layer's from its parts, the second's from its own. -/
def gradient (p q : Parts) : Shard := fun i =>
  if (i 0).val = 0 then total fun d => p (ix3 d (i 1) (i 2)) else total fun d => q (ix3 d (i 1) (i 2))
/-- The step. -/
def stepped (p q : Parts) (w a s : Shard) : Shard := fun i => step (w i) (a i) (s i) (gradient p q i)
/-- The gradient's new mean. -/
def newMean (p q : Parts) (a : Shard) : Shard := fun i => mean (a i) (gradient p q i)
/-- The new mean of the gradient's square. -/
def newSquare (p q : Parts) (s : Shard) : Shard := fun i => square (s i) (gradient p q i)

section
open Cert.KernelMemStepIdeal Cert.KernelMemStepIdeal.Gen

variable (m : (ℓ : Loc nD τ sig) → Buf (Elt Ideal) ℓ)

/-- The blocks a point stages: 64 rows of every array, and of one layer where there are two. -/
theorem staged : ∀ t : Fin cfg0.N, win0_0.index t = ![0, t.val % 2, 0] ∧ win0_1.index t = ![0, t.val % 2, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0] := by
  decide +kernel

/-- A point's layer. -/
def layer (t : Fin cfg0.N) : Fin 2 := ⟨t.val / 2, by have : t.val < 4 := t.isLt; omega⟩
/-- Row `r` of a point's block. -/
def row (t : Fin cfg0.N) (r : Fin 64) : Fin 128 := ⟨64 * (t.val % 2) + r.val, by omega⟩

/-- The first layer's sum of the parts, as the body makes it. -/
abbrev sumFirst (x : Vec Ideal S8x64x512 .bf16) : FVec Ideal S64x512 .f32 :=
  k0_pay3 (F := Ideal) (View.ld x (Rect.unit ![0, 0, 0] ![1, 64, 512] inb_S8x64x512_S1x64x512_0_0_0)) (View.ld x (Rect.unit ![1, 0, 0] ![1, 64, 512] inb_S8x64x512_S1x64x512_1_0_0)) (View.ld x (Rect.unit ![2, 0, 0] ![1, 64, 512] inb_S8x64x512_S1x64x512_2_0_0)) (View.ld x (Rect.unit ![3, 0, 0] ![1, 64, 512] inb_S8x64x512_S1x64x512_3_0_0)) (View.ld x (Rect.unit ![4, 0, 0] ![1, 64, 512] inb_S8x64x512_S1x64x512_4_0_0)) (View.ld x (Rect.unit ![5, 0, 0] ![1, 64, 512] inb_S8x64x512_S1x64x512_5_0_0)) (View.ld x (Rect.unit ![6, 0, 0] ![1, 64, 512] inb_S8x64x512_S1x64x512_6_0_0)) (View.ld x (Rect.unit ![7, 0, 0] ![1, 64, 512] inb_S8x64x512_S1x64x512_7_0_0))

/-- The second layer's sum of the parts, as the body makes it. -/
abbrev sumSecond (x : Vec Ideal S8x64x512 .bf16) : FVec Ideal S64x512 .f32 :=
  k0_pay12 (F := Ideal) (View.ld x (Rect.unit ![0, 0, 0] ![1, 64, 512] inb_S8x64x512_S1x64x512_0_0_0)) (View.ld x (Rect.unit ![1, 0, 0] ![1, 64, 512] inb_S8x64x512_S1x64x512_1_0_0)) (View.ld x (Rect.unit ![2, 0, 0] ![1, 64, 512] inb_S8x64x512_S1x64x512_2_0_0)) (View.ld x (Rect.unit ![3, 0, 0] ![1, 64, 512] inb_S8x64x512_S1x64x512_3_0_0)) (View.ld x (Rect.unit ![4, 0, 0] ![1, 64, 512] inb_S8x64x512_S1x64x512_4_0_0)) (View.ld x (Rect.unit ![5, 0, 0] ![1, 64, 512] inb_S8x64x512_S1x64x512_5_0_0)) (View.ld x (Rect.unit ![6, 0, 0] ![1, 64, 512] inb_S8x64x512_S1x64x512_6_0_0)) (View.ld x (Rect.unit ![7, 0, 0] ![1, 64, 512] inb_S8x64x512_S1x64x512_7_0_0))

/-- The first layer's sum, entry by entry. -/
theorem first_total (x : Vec Ideal S8x64x512 .bf16) (r : Fin 64) (j : Fin 512)
    (p : Fin 8 → EReal) (h : ∀ d, x (ix3 d r j) = p d) : sumFirst x (ix2 r j) = total p := by
  unfold sumFirst
  unfold_payloads
  pointwise
  rw [← total_chain]
  simp only [← h]

/-- The second layer's sum, entry by entry. -/
theorem second_total (x : Vec Ideal S8x64x512 .bf16) (r : Fin 64) (j : Fin 512)
    (p : Fin 8 → EReal) (h : ∀ d, x (ix3 d r j) = p d) : sumSecond x (ix2 r j) = total p :=
  first_total x r j p h

/-- The body's gradient, entry by entry: the sum. -/
theorem body_gradient (g : FVec Ideal S64x512 .f32) (r : Fin 64) (j : Fin 512) :
    k0_pay7 (F := Ideal) g (ix3 0 r j) = g (ix2 r j) := by
  unfold k0_pay7
  pointwise

/-- The body's new mean, entry by entry. -/
theorem body_mean (g : FVec Ideal S64x512 .f32) (a : Vec Ideal S1x64x512 .f32) (r : Fin 64) (j : Fin 512)
    (g' a' : EReal) (hg : g (ix2 r j) = g') (ha : a (ix3 0 r j) = a') :
    k0_pay8 (F := Ideal) g (k0_pay4 a) (ix3 0 r j) = mean a' g' := by
  subst hg ha
  unfold_payloads
  pointwise
  rfl

/-- The body's new mean of the square, entry by entry. -/
theorem body_square (g : FVec Ideal S64x512 .f32) (s : Vec Ideal S1x64x512 .f32) (r : Fin 64) (j : Fin 512)
    (g' s' : EReal) (hg : g (ix2 r j) = g') (hs : s (ix3 0 r j) = s') :
    k0_pay9 (F := Ideal) g s (ix3 0 r j) = square s' g' := by
  subst hg hs
  unfold_payloads
  pointwise
  rfl

/-- The body's step, entry by entry. -/
theorem body_step (g : FVec Ideal S64x512 .f32) (w a s : Vec Ideal S1x64x512 .f32) (r : Fin 64) (j : Fin 512)
    (g' w' a' s' : EReal) (hg : g (ix2 r j) = g') (hw : w (ix3 0 r j) = w') (ha : a (ix3 0 r j) = a')
    (hs : s (ix3 0 r j) = s') :
    k0_pay1 (F := Ideal) (k0_pay10 g (k0_pay4 a) s) (k0_pay11 w) (ix3 0 r j) = step w' a' s' g' := by
  subst hg hw ha hs
  unfold_payloads
  pointwise
  rfl

/-- At a point of the first layer the sum is the gradient's row. -/
theorem block_first (c : Dev nD) (t : Fin cfg0.N) (ht : t.val < 2) (r : Fin 64) (j : Fin 512) :
    sumFirst (iblk m c 0 t) (ix2 r j) = gradient (V m c main_arg0) (V m c main_arg1) (ix3 (layer t) (row t r) j) := by
  refine (first_total _ r j (fun d => V m c main_arg0 (ix3 d (row t r) j)) fun d => ?_).trans ?_
  · unfold row; blk_ext [iblk, V, staged t]
  · exact (if_pos (show t.val / 2 = 0 by omega)).symm

/-- At a point of the second layer the sum is the gradient's row. -/
theorem block_second (c : Dev nD) (t : Fin cfg0.N) (ht : ¬t.val < 2) (r : Fin 64) (j : Fin 512) :
    sumSecond (iblk m c 1 t) (ix2 r j) = gradient (V m c main_arg0) (V m c main_arg1) (ix3 (layer t) (row t r) j) := by
  refine (second_total _ r j (fun d => V m c main_arg1 (ix3 d (row t r) j)) fun d => ?_).trans ?_
  · unfold row; blk_ext [iblk, V, staged t]
  · exact (if_neg (show ¬t.val / 2 = 0 by omega)).symm

/-- The weight a point stages. -/
theorem block_weight (c : Dev nD) (t : Fin cfg0.N) (r : Fin 64) (j : Fin 512) :
    (show Vec Ideal S1x64x512 .f32 from iblk m c 2 t) (ix3 0 r j) = V m c main_arg2 (ix3 (layer t) (row t r) j) := by
  unfold layer row; blk_ext [iblk, V, staged t]

/-- The mean a point stages. -/
theorem block_mean (c : Dev nD) (t : Fin cfg0.N) (r : Fin 64) (j : Fin 512) :
    (show Vec Ideal S1x64x512 .f32 from iblk m c 3 t) (ix3 0 r j) = V m c main_arg3 (ix3 (layer t) (row t r) j) := by
  unfold layer row; blk_ext [iblk, V, staged t]

/-- The square's mean a point stages. -/
theorem block_square (c : Dev nD) (t : Fin cfg0.N) (r : Fin 64) (j : Fin 512) :
    (show Vec Ideal S1x64x512 .f32 from iblk m c 4 t) (ix3 0 r j) = V m c main_arg4 (ix3 (layer t) (row t r) j) := by
  unfold layer row; blk_ext [iblk, V, staged t]

/-- A point's gradient, entry by entry. -/
theorem point_gradient (c : Dev nD) (t : Fin cfg0.N) (r : Fin 64) (j : Fin 512) :
    (outsAt0 m c t.val t.isLt).1 (ix3 0 r j)
      = gradient (V m c main_arg0) (V m c main_arg1) (ix3 (layer t) (row t r) j) := by
  by_cases h : t.val < 2
  · rw [outsAt0_A m c t h (by omega)]
    frame_out
    exact (body_gradient _ r j).trans (block_first m c t h r j)
  · rw [outsAt0_B m c t h (by omega)]
    frame_out
    exact (body_gradient _ r j).trans (block_second m c t h r j)

/-- A point's step, entry by entry. -/
theorem point_step (c : Dev nD) (t : Fin cfg0.N) (r : Fin 64) (j : Fin 512) :
    (outsAt0 m c t.val t.isLt).2.1 (ix3 0 r j)
      = stepped (V m c main_arg0) (V m c main_arg1) (V m c main_arg2) (V m c main_arg3) (V m c main_arg4)
          (ix3 (layer t) (row t r) j) := by
  by_cases h : t.val < 2
  · rw [outsAt0_A m c t h (by omega)]
    frame_out
    exact body_step _ _ _ _ r j _ _ _ _ (block_first m c t h r j) (block_weight m c t r j) (block_mean m c t r j)
      (block_square m c t r j)
  · rw [outsAt0_B m c t h (by omega)]
    frame_out
    exact body_step _ _ _ _ r j _ _ _ _ (block_second m c t h r j) (block_weight m c t r j) (block_mean m c t r j)
      (block_square m c t r j)

/-- A point's new mean, entry by entry. -/
theorem point_mean (c : Dev nD) (t : Fin cfg0.N) (r : Fin 64) (j : Fin 512) :
    (outsAt0 m c t.val t.isLt).2.2.1 (ix3 0 r j)
      = newMean (V m c main_arg0) (V m c main_arg1) (V m c main_arg3) (ix3 (layer t) (row t r) j) := by
  by_cases h : t.val < 2
  · rw [outsAt0_A m c t h (by omega)]
    frame_out
    exact body_mean _ _ r j _ _ (block_first m c t h r j) (block_mean m c t r j)
  · rw [outsAt0_B m c t h (by omega)]
    frame_out
    exact body_mean _ _ r j _ _ (block_second m c t h r j) (block_mean m c t r j)

/-- A point's new mean of the square, entry by entry. -/
theorem point_square (c : Dev nD) (t : Fin cfg0.N) (r : Fin 64) (j : Fin 512) :
    (outsAt0 m c t.val t.isLt).2.2.2 (ix3 0 r j)
      = newSquare (V m c main_arg0) (V m c main_arg1) (V m c main_arg4) (ix3 (layer t) (row t r) j) := by
  by_cases h : t.val < 2
  · rw [outsAt0_A m c t h (by omega)]
    frame_out
    exact body_square _ _ r j _ _ (block_first m c t h r j) (block_square m c t r j)
  · rw [outsAt0_B m c t h (by omega)]
    frame_out
    exact body_square _ _ r j _ _ (block_second m c t h r j) (block_square m c t r j)

/-- The gradient's array after the run. -/
theorem kernel_gradient (c : Dev nD) : (dats m 0 c).arrAt 5 cfg0.N = gradient (V m c main_arg0) (V m c main_arg1) := by
  refine (dats m 0 c).arrAt_eq_of_covers 5 _ (by decide +kernel) fun t hf y => ?_
  blk_simp
  rw [after0_5]
  idx_vars y
  obtain rfl : y0 = 0 := Fin.eq_zero y0
  refine (point_gradient m c t y1 y2).trans ?_
  unfold layer row
  blk_ext [iblk, V, staged t]

/-- The step's array after the run. -/
theorem kernel_step (c : Dev nD) : (dats m 0 c).arrAt 6 cfg0.N = stepped (V m c main_arg0) (V m c main_arg1) (V m c main_arg2) (V m c main_arg3) (V m c main_arg4) := by
  refine (dats m 0 c).arrAt_eq_of_covers 6 _ (by decide +kernel) fun t hf y => ?_
  blk_simp
  rw [after0_6]
  idx_vars y
  obtain rfl : y0 = 0 := Fin.eq_zero y0
  refine (point_step m c t y1 y2).trans ?_
  unfold layer row
  blk_ext [iblk, V, staged t]

/-- The new mean's array after the run. -/
theorem kernel_mean (c : Dev nD) : (dats m 0 c).arrAt 7 cfg0.N = newMean (V m c main_arg0) (V m c main_arg1) (V m c main_arg3) := by
  refine (dats m 0 c).arrAt_eq_of_covers 7 _ (by decide +kernel) fun t hf y => ?_
  blk_simp
  rw [after0_7]
  idx_vars y
  obtain rfl : y0 = 0 := Fin.eq_zero y0
  refine (point_mean m c t y1 y2).trans ?_
  unfold layer row
  blk_ext [iblk, V, staged t]

/-- The array of the square's new mean after the run. -/
theorem kernel_square (c : Dev nD) : (dats m 0 c).arrAt 8 cfg0.N = newSquare (V m c main_arg0) (V m c main_arg1) (V m c main_arg4) := by
  refine (dats m 0 c).arrAt_eq_of_covers 8 _ (by decide +kernel) fun t hf y => ?_
  blk_simp
  rw [after0_8]
  idx_vars y
  obtain rfl : y0 = 0 := Fin.eq_zero y0
  refine (point_square m c t y1 y2).trans ?_
  unfold layer row
  blk_ext [iblk, V, staged t]

end

section
open Cert.ReferenceMemStepIdeal Cert.ReferenceMemStepIdeal.Read

/-- The reference's gradient. -/
theorem reference_gradient (p q : Parts) : val_main_v6 (F := Ideal) p q = gradient p q := by
  funext i
  idx_vars i
  unfold val_main_v6 val_main_v5 val_main_v4 val_main_v3 val_main_v2 val_main_v1 val_main_v0 val_main_cst val_main_cst_0
  pointwise
  unfold gradient total
  match i0 with
  | 0 => pointwise
  | 1 => pointwise

/-- The reference's new mean. -/
theorem reference_mean (p q : Parts) (a : Shard) : val_main_v11 (F := Ideal) p q a = newMean p q a := by
  funext i
  have h := congrFun (reference_gradient p q) i
  idx_vars i
  unfold val_main_v11 val_main_v10 val_main_v9 val_main_v8 val_main_v7 val_main_cst_1 val_main_cst_2
  generalize val_main_v6 (F := Ideal) p q = y at h ⊢
  pointwise
  rw [h]
  rfl

/-- The reference's new mean of the square. -/
theorem reference_square (p q : Parts) (s : Shard) : val_main_v17 (F := Ideal) p q s = newSquare p q s := by
  funext i
  have h := congrFun (reference_gradient p q) i
  idx_vars i
  unfold val_main_v17 val_main_v16 val_main_v15 val_main_v14 val_main_v13 val_main_v12 val_main_cst_3 val_main_cst_4
  generalize val_main_v6 (F := Ideal) p q = y at h ⊢
  pointwise
  rw [h]
  rfl

/-- The reference's step. -/
theorem reference_step (p q : Parts) (w a s : Shard) : val_main_v30 (F := Ideal) p q w a s = stepped p q w a s := by
  funext i
  have ha := congrFun (reference_mean p q a) i
  have hs := congrFun (reference_square p q s) i
  idx_vars i
  unfold val_main_v30 val_main_v29 val_main_v28 val_main_v27 val_main_v26 val_main_v25 val_main_v24 val_main_v23 val_main_v22 val_main_v21 val_main_v20 val_main_v19 val_main_v18 val_main_cst_5 val_main_cst_6 val_main_cst_7 val_main_cst_8 val_main_cst_9
  generalize val_main_v11 (F := Ideal) p q a = y at ha ⊢
  generalize val_main_v17 (F := Ideal) p q s = z at hs ⊢
  pointwise
  rw [ha, hs]
  rfl

/-- The reference ends with every counter at zero: it has none. -/
theorem frame_reference : Cert.quiescent_ReferenceMemStepIdeal := by
  intro m ρ _
  exact (θ_run defs _ _).mono (fun r h => ⟨fun c => (h c).2.2.2.2, sem_eq_zero_of_no_sems (by decide) r.2⟩) (Value.run (F := Ideal) m ρ)
end

section
open Cert.KernelMemStepIdeal Cert.KernelMemStepIdeal.Gen

/-- Kernel and reference leave the same gradient, step and means. -/
theorem equal : Cert.algebraic_KernelMemStepIdeal_ReferenceMemStepIdeal := by
  intro m ρ m' ρ' _ hag
  refine ⟨fun c => gradient (V m c main_arg0) (V m c main_arg1),
    fun c => stepped (V m c main_arg0) (V m c main_arg1) (V m c main_arg2) (V m c main_arg3) (V m c main_arg4),
    fun c => newMean (V m c main_arg0) (V m c main_arg1) (V m c main_arg3),
    fun c => newSquare (V m c main_arg0) (V m c main_arg1) (V m c main_arg4),
    (θ_run defs _ _).mono (fun r h c => ?_) (Value.run_blocks m ρ), ?_⟩
  · obtain ⟨h0, h1, h2, h3, h4⟩ := h c
    exact ⟨h0.trans (kernel_gradient m c), h1.trans (kernel_step m c), h2.trans (kernel_mean m c), h3.trans (kernel_square m c), h4⟩
  · refine (θ_run Cert.ReferenceMemStepIdeal.defs _ _).mono (fun r h c => ?_) (Cert.ReferenceMemStepIdeal.Value.run m' ρ')
    obtain ⟨a0, a1, a2, a3, a4⟩ := hag c
    obtain ⟨h0, h1, h2, h3, h4⟩ := h c
    refine ⟨(h0.trans (Cert.ReferenceMemStepIdeal.Read.val_main_v6_eq _ _)).trans ?_,
      (h1.trans (Cert.ReferenceMemStepIdeal.Read.val_main_v30_eq _ _ _ _ _)).trans ?_,
      (h2.trans (Cert.ReferenceMemStepIdeal.Read.val_main_v11_eq _ _ _)).trans ?_,
      (h3.trans (Cert.ReferenceMemStepIdeal.Read.val_main_v17_eq _ _ _)).trans ?_, h4⟩
    · rw [a0, a1]; exact reference_gradient _ _
    · rw [a0, a1, a2, a3, a4]; exact reference_step _ _ _ _ _
    · rw [a0, a1, a3]; exact reference_mean _ _ _
    · rw [a0, a1, a4]; exact reference_square _ _ _
end

end Cert.MemStep
end
-- ==== Proof.UpStep.lean ====
/-
  The AdamW step of the expanding weight, two layers at once: the eight devices' parts of each layer's
  gradient are added, and the weight's means and its step follow. Each point takes 128 rows of one layer.
-/
module
public import proofs.«01_k».proof.Defs
public import proofs.«01_k».proof.Proof.Adam
public import proofs.«01_k».proof.Proof.Products
public import proofs.«01_k».proof.Proof.Gen.KernelUpStepIdeal.Value
public import proofs.«01_k».proof.Proof.Gen.ReferenceUpStepIdeal.Run
public import proofs.«01_k».proof.Proof.Gen.ReferenceUpStepIdeal.Read

@[expose] public section
set_option maxRecDepth 16384
noncomputable section
namespace Cert.UpStep
open Idealize.ShloMosaic Idealize.ShloMosaic.TcCoe Idealize.SL.Sem Cert.Adam

/-- The eight devices' parts of one layer's gradient, over the extended reals. -/
abbrev Parts := (⟨3, ![8, 1024, 688]⟩ : Shape).Idx → EReal
/-- One device's shard of both layers' weights, and their means, over the extended reals. -/
abbrev Shard := (⟨3, ![2, 1024, 688]⟩ : Shape).Idx → EReal

/-- The gradient: the first layer's from its parts, the second's from its own. -/
def gradient (p q : Parts) : Shard := fun i =>
  if (i 0).val = 0 then total fun d => p (ix3 d (i 1) (i 2)) else total fun d => q (ix3 d (i 1) (i 2))
/-- The step. -/
def stepped (p q : Parts) (w a s : Shard) : Shard := fun i => step (w i) (a i) (s i) (gradient p q i)
/-- The gradient's new mean. -/
def newMean (p q : Parts) (a : Shard) : Shard := fun i => mean (a i) (gradient p q i)
/-- The new mean of the gradient's square. -/
def newSquare (p q : Parts) (s : Shard) : Shard := fun i => square (s i) (gradient p q i)

section
open Cert.KernelUpStepIdeal Cert.KernelUpStepIdeal.Gen

variable (m : (ℓ : Loc nD τ sig) → Buf (Elt Ideal) ℓ)

/-- The blocks a point stages: 128 rows of every array, and of one layer where there are two. -/
theorem staged : ∀ t : Fin cfg0.N, win0_0.index t = ![0, t.val % 8, 0] ∧ win0_1.index t = ![0, t.val % 8, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, t.val % 8, 0] := by
  decide +kernel

/-- A point's layer. -/
def layer (t : Fin cfg0.N) : Fin 2 := ⟨t.val / 8, by have : t.val < 16 := t.isLt; omega⟩
/-- Row `r` of a point's block. -/
def row (t : Fin cfg0.N) (r : Fin 128) : Fin 1024 := ⟨128 * (t.val % 8) + r.val, by omega⟩

/-- The first layer's sum of the parts, as the body makes it. -/
abbrev sumFirst (x : Vec Ideal S8x128x688 .bf16) : FVec Ideal S128x688 .f32 :=
  k0_pay3 (F := Ideal) (View.ld x (Rect.unit ![0, 0, 0] ![1, 128, 688] inb_S8x128x688_S1x128x688_0_0_0)) (View.ld x (Rect.unit ![1, 0, 0] ![1, 128, 688] inb_S8x128x688_S1x128x688_1_0_0)) (View.ld x (Rect.unit ![2, 0, 0] ![1, 128, 688] inb_S8x128x688_S1x128x688_2_0_0)) (View.ld x (Rect.unit ![3, 0, 0] ![1, 128, 688] inb_S8x128x688_S1x128x688_3_0_0)) (View.ld x (Rect.unit ![4, 0, 0] ![1, 128, 688] inb_S8x128x688_S1x128x688_4_0_0)) (View.ld x (Rect.unit ![5, 0, 0] ![1, 128, 688] inb_S8x128x688_S1x128x688_5_0_0)) (View.ld x (Rect.unit ![6, 0, 0] ![1, 128, 688] inb_S8x128x688_S1x128x688_6_0_0)) (View.ld x (Rect.unit ![7, 0, 0] ![1, 128, 688] inb_S8x128x688_S1x128x688_7_0_0))

/-- The second layer's sum of the parts, as the body makes it. -/
abbrev sumSecond (x : Vec Ideal S8x128x688 .bf16) : FVec Ideal S128x688 .f32 :=
  k0_pay12 (F := Ideal) (View.ld x (Rect.unit ![0, 0, 0] ![1, 128, 688] inb_S8x128x688_S1x128x688_0_0_0)) (View.ld x (Rect.unit ![1, 0, 0] ![1, 128, 688] inb_S8x128x688_S1x128x688_1_0_0)) (View.ld x (Rect.unit ![2, 0, 0] ![1, 128, 688] inb_S8x128x688_S1x128x688_2_0_0)) (View.ld x (Rect.unit ![3, 0, 0] ![1, 128, 688] inb_S8x128x688_S1x128x688_3_0_0)) (View.ld x (Rect.unit ![4, 0, 0] ![1, 128, 688] inb_S8x128x688_S1x128x688_4_0_0)) (View.ld x (Rect.unit ![5, 0, 0] ![1, 128, 688] inb_S8x128x688_S1x128x688_5_0_0)) (View.ld x (Rect.unit ![6, 0, 0] ![1, 128, 688] inb_S8x128x688_S1x128x688_6_0_0)) (View.ld x (Rect.unit ![7, 0, 0] ![1, 128, 688] inb_S8x128x688_S1x128x688_7_0_0))

/-- The first layer's sum, entry by entry. -/
theorem first_total (x : Vec Ideal S8x128x688 .bf16) (r : Fin 128) (j : Fin 688)
    (p : Fin 8 → EReal) (h : ∀ d, x (ix3 d r j) = p d) : sumFirst x (ix2 r j) = total p := by
  unfold sumFirst
  unfold_payloads
  pointwise
  rw [← total_chain]
  simp only [← h]

/-- The second layer's sum, entry by entry. -/
theorem second_total (x : Vec Ideal S8x128x688 .bf16) (r : Fin 128) (j : Fin 688)
    (p : Fin 8 → EReal) (h : ∀ d, x (ix3 d r j) = p d) : sumSecond x (ix2 r j) = total p :=
  first_total x r j p h

/-- The body's gradient, entry by entry: the sum. -/
theorem body_gradient (g : FVec Ideal S128x688 .f32) (r : Fin 128) (j : Fin 688) :
    k0_pay7 (F := Ideal) g (ix3 0 r j) = g (ix2 r j) := by
  unfold k0_pay7
  pointwise

/-- The body's new mean, entry by entry. -/
theorem body_mean (g : FVec Ideal S128x688 .f32) (a : Vec Ideal S1x128x688 .f32) (r : Fin 128) (j : Fin 688)
    (g' a' : EReal) (hg : g (ix2 r j) = g') (ha : a (ix3 0 r j) = a') :
    k0_pay8 (F := Ideal) g (k0_pay4 a) (ix3 0 r j) = mean a' g' := by
  subst hg ha
  unfold_payloads
  pointwise
  rfl

/-- The body's new mean of the square, entry by entry. -/
theorem body_square (g : FVec Ideal S128x688 .f32) (s : Vec Ideal S1x128x688 .f32) (r : Fin 128) (j : Fin 688)
    (g' s' : EReal) (hg : g (ix2 r j) = g') (hs : s (ix3 0 r j) = s') :
    k0_pay9 (F := Ideal) g s (ix3 0 r j) = square s' g' := by
  subst hg hs
  unfold_payloads
  pointwise
  rfl

/-- The body's step, entry by entry. -/
theorem body_step (g : FVec Ideal S128x688 .f32) (w a s : Vec Ideal S1x128x688 .f32) (r : Fin 128) (j : Fin 688)
    (g' w' a' s' : EReal) (hg : g (ix2 r j) = g') (hw : w (ix3 0 r j) = w') (ha : a (ix3 0 r j) = a')
    (hs : s (ix3 0 r j) = s') :
    k0_pay1 (F := Ideal) (k0_pay10 g (k0_pay4 a) s) (k0_pay11 w) (ix3 0 r j) = step w' a' s' g' := by
  subst hg hw ha hs
  unfold_payloads
  pointwise
  rfl

/-- At a point of the first layer the sum is the gradient's row. -/
theorem block_first (c : Dev nD) (t : Fin cfg0.N) (ht : t.val < 8) (r : Fin 128) (j : Fin 688) :
    sumFirst (iblk m c 0 t) (ix2 r j) = gradient (V m c main_arg0) (V m c main_arg1) (ix3 (layer t) (row t r) j) := by
  refine (first_total _ r j (fun d => V m c main_arg0 (ix3 d (row t r) j)) fun d => ?_).trans ?_
  · unfold row; blk_ext [iblk, V, staged t]
  · exact (if_pos (show t.val / 8 = 0 by omega)).symm

/-- At a point of the second layer the sum is the gradient's row. -/
theorem block_second (c : Dev nD) (t : Fin cfg0.N) (ht : ¬t.val < 8) (r : Fin 128) (j : Fin 688) :
    sumSecond (iblk m c 1 t) (ix2 r j) = gradient (V m c main_arg0) (V m c main_arg1) (ix3 (layer t) (row t r) j) := by
  refine (second_total _ r j (fun d => V m c main_arg1 (ix3 d (row t r) j)) fun d => ?_).trans ?_
  · unfold row; blk_ext [iblk, V, staged t]
  · exact (if_neg (show ¬t.val / 8 = 0 by omega)).symm

/-- The weight a point stages. -/
theorem block_weight (c : Dev nD) (t : Fin cfg0.N) (r : Fin 128) (j : Fin 688) :
    (show Vec Ideal S1x128x688 .f32 from iblk m c 2 t) (ix3 0 r j) = V m c main_arg2 (ix3 (layer t) (row t r) j) := by
  unfold layer row; blk_ext [iblk, V, staged t]

/-- The mean a point stages. -/
theorem block_mean (c : Dev nD) (t : Fin cfg0.N) (r : Fin 128) (j : Fin 688) :
    (show Vec Ideal S1x128x688 .f32 from iblk m c 3 t) (ix3 0 r j) = V m c main_arg3 (ix3 (layer t) (row t r) j) := by
  unfold layer row; blk_ext [iblk, V, staged t]

/-- The square's mean a point stages. -/
theorem block_square (c : Dev nD) (t : Fin cfg0.N) (r : Fin 128) (j : Fin 688) :
    (show Vec Ideal S1x128x688 .f32 from iblk m c 4 t) (ix3 0 r j) = V m c main_arg4 (ix3 (layer t) (row t r) j) := by
  unfold layer row; blk_ext [iblk, V, staged t]

/-- A point's gradient, entry by entry. -/
theorem point_gradient (c : Dev nD) (t : Fin cfg0.N) (r : Fin 128) (j : Fin 688) :
    (outsAt0 m c t.val t.isLt).1 (ix3 0 r j)
      = gradient (V m c main_arg0) (V m c main_arg1) (ix3 (layer t) (row t r) j) := by
  by_cases h : t.val < 8
  · rw [outsAt0_A m c t h (by omega)]
    frame_out
    exact (body_gradient _ r j).trans (block_first m c t h r j)
  · rw [outsAt0_B m c t h (by omega)]
    frame_out
    exact (body_gradient _ r j).trans (block_second m c t h r j)

/-- A point's step, entry by entry. -/
theorem point_step (c : Dev nD) (t : Fin cfg0.N) (r : Fin 128) (j : Fin 688) :
    (outsAt0 m c t.val t.isLt).2.1 (ix3 0 r j)
      = stepped (V m c main_arg0) (V m c main_arg1) (V m c main_arg2) (V m c main_arg3) (V m c main_arg4)
          (ix3 (layer t) (row t r) j) := by
  by_cases h : t.val < 8
  · rw [outsAt0_A m c t h (by omega)]
    frame_out
    exact body_step _ _ _ _ r j _ _ _ _ (block_first m c t h r j) (block_weight m c t r j) (block_mean m c t r j)
      (block_square m c t r j)
  · rw [outsAt0_B m c t h (by omega)]
    frame_out
    exact body_step _ _ _ _ r j _ _ _ _ (block_second m c t h r j) (block_weight m c t r j) (block_mean m c t r j)
      (block_square m c t r j)

/-- A point's new mean, entry by entry. -/
theorem point_mean (c : Dev nD) (t : Fin cfg0.N) (r : Fin 128) (j : Fin 688) :
    (outsAt0 m c t.val t.isLt).2.2.1 (ix3 0 r j)
      = newMean (V m c main_arg0) (V m c main_arg1) (V m c main_arg3) (ix3 (layer t) (row t r) j) := by
  by_cases h : t.val < 8
  · rw [outsAt0_A m c t h (by omega)]
    frame_out
    exact body_mean _ _ r j _ _ (block_first m c t h r j) (block_mean m c t r j)
  · rw [outsAt0_B m c t h (by omega)]
    frame_out
    exact body_mean _ _ r j _ _ (block_second m c t h r j) (block_mean m c t r j)

/-- A point's new mean of the square, entry by entry. -/
theorem point_square (c : Dev nD) (t : Fin cfg0.N) (r : Fin 128) (j : Fin 688) :
    (outsAt0 m c t.val t.isLt).2.2.2 (ix3 0 r j)
      = newSquare (V m c main_arg0) (V m c main_arg1) (V m c main_arg4) (ix3 (layer t) (row t r) j) := by
  by_cases h : t.val < 8
  · rw [outsAt0_A m c t h (by omega)]
    frame_out
    exact body_square _ _ r j _ _ (block_first m c t h r j) (block_square m c t r j)
  · rw [outsAt0_B m c t h (by omega)]
    frame_out
    exact body_square _ _ r j _ _ (block_second m c t h r j) (block_square m c t r j)

/-- The gradient's array after the run. -/
theorem kernel_gradient (c : Dev nD) : (dats m 0 c).arrAt 5 cfg0.N = gradient (V m c main_arg0) (V m c main_arg1) := by
  refine (dats m 0 c).arrAt_eq_of_covers 5 _ (by decide +kernel) fun t hf y => ?_
  blk_simp
  rw [after0_5]
  idx_vars y
  obtain rfl : y0 = 0 := Fin.eq_zero y0
  refine (point_gradient m c t y1 y2).trans ?_
  unfold layer row
  blk_ext [iblk, V, staged t]

/-- The step's array after the run. -/
theorem kernel_step (c : Dev nD) : (dats m 0 c).arrAt 6 cfg0.N = stepped (V m c main_arg0) (V m c main_arg1) (V m c main_arg2) (V m c main_arg3) (V m c main_arg4) := by
  refine (dats m 0 c).arrAt_eq_of_covers 6 _ (by decide +kernel) fun t hf y => ?_
  blk_simp
  rw [after0_6]
  idx_vars y
  obtain rfl : y0 = 0 := Fin.eq_zero y0
  refine (point_step m c t y1 y2).trans ?_
  unfold layer row
  blk_ext [iblk, V, staged t]

/-- The new mean's array after the run. -/
theorem kernel_mean (c : Dev nD) : (dats m 0 c).arrAt 7 cfg0.N = newMean (V m c main_arg0) (V m c main_arg1) (V m c main_arg3) := by
  refine (dats m 0 c).arrAt_eq_of_covers 7 _ (by decide +kernel) fun t hf y => ?_
  blk_simp
  rw [after0_7]
  idx_vars y
  obtain rfl : y0 = 0 := Fin.eq_zero y0
  refine (point_mean m c t y1 y2).trans ?_
  unfold layer row
  blk_ext [iblk, V, staged t]

/-- The array of the square's new mean after the run. -/
theorem kernel_square (c : Dev nD) : (dats m 0 c).arrAt 8 cfg0.N = newSquare (V m c main_arg0) (V m c main_arg1) (V m c main_arg4) := by
  refine (dats m 0 c).arrAt_eq_of_covers 8 _ (by decide +kernel) fun t hf y => ?_
  blk_simp
  rw [after0_8]
  idx_vars y
  obtain rfl : y0 = 0 := Fin.eq_zero y0
  refine (point_square m c t y1 y2).trans ?_
  unfold layer row
  blk_ext [iblk, V, staged t]

end

section
open Cert.ReferenceUpStepIdeal Cert.ReferenceUpStepIdeal.Read

/-- The reference's gradient. -/
theorem reference_gradient (p q : Parts) : val_main_v6 (F := Ideal) p q = gradient p q := by
  funext i
  idx_vars i
  unfold val_main_v6 val_main_v5 val_main_v4 val_main_v3 val_main_v2 val_main_v1 val_main_v0 val_main_cst val_main_cst_0
  pointwise
  unfold gradient total
  match i0 with
  | 0 => pointwise
  | 1 => pointwise

/-- The reference's new mean. -/
theorem reference_mean (p q : Parts) (a : Shard) : val_main_v11 (F := Ideal) p q a = newMean p q a := by
  funext i
  have h := congrFun (reference_gradient p q) i
  idx_vars i
  unfold val_main_v11 val_main_v10 val_main_v9 val_main_v8 val_main_v7 val_main_cst_1 val_main_cst_2
  generalize val_main_v6 (F := Ideal) p q = y at h ⊢
  pointwise
  rw [h]
  rfl

/-- The reference's new mean of the square. -/
theorem reference_square (p q : Parts) (s : Shard) : val_main_v17 (F := Ideal) p q s = newSquare p q s := by
  funext i
  have h := congrFun (reference_gradient p q) i
  idx_vars i
  unfold val_main_v17 val_main_v16 val_main_v15 val_main_v14 val_main_v13 val_main_v12 val_main_cst_3 val_main_cst_4
  generalize val_main_v6 (F := Ideal) p q = y at h ⊢
  pointwise
  rw [h]
  rfl

/-- The reference's step. -/
theorem reference_step (p q : Parts) (w a s : Shard) : val_main_v30 (F := Ideal) p q w a s = stepped p q w a s := by
  funext i
  have ha := congrFun (reference_mean p q a) i
  have hs := congrFun (reference_square p q s) i
  idx_vars i
  unfold val_main_v30 val_main_v29 val_main_v28 val_main_v27 val_main_v26 val_main_v25 val_main_v24 val_main_v23 val_main_v22 val_main_v21 val_main_v20 val_main_v19 val_main_v18 val_main_cst_5 val_main_cst_6 val_main_cst_7 val_main_cst_8 val_main_cst_9
  generalize val_main_v11 (F := Ideal) p q a = y at ha ⊢
  generalize val_main_v17 (F := Ideal) p q s = z at hs ⊢
  pointwise
  rw [ha, hs]
  rfl

/-- The reference ends with every counter at zero: it has none. -/
theorem frame_reference : Cert.quiescent_ReferenceUpStepIdeal := by
  intro m ρ _
  exact (θ_run defs _ _).mono (fun r h => ⟨fun c => (h c).2.2.2.2, sem_eq_zero_of_no_sems (by decide) r.2⟩) (Value.run (F := Ideal) m ρ)
end

section
open Cert.KernelUpStepIdeal Cert.KernelUpStepIdeal.Gen

/-- Kernel and reference leave the same gradient, step and means. -/
theorem equal : Cert.algebraic_KernelUpStepIdeal_ReferenceUpStepIdeal := by
  intro m ρ m' ρ' _ hag
  refine ⟨fun c => gradient (V m c main_arg0) (V m c main_arg1),
    fun c => stepped (V m c main_arg0) (V m c main_arg1) (V m c main_arg2) (V m c main_arg3) (V m c main_arg4),
    fun c => newMean (V m c main_arg0) (V m c main_arg1) (V m c main_arg3),
    fun c => newSquare (V m c main_arg0) (V m c main_arg1) (V m c main_arg4),
    (θ_run defs _ _).mono (fun r h c => ?_) (Value.run_blocks m ρ), ?_⟩
  · obtain ⟨h0, h1, h2, h3, h4⟩ := h c
    exact ⟨h0.trans (kernel_gradient m c), h1.trans (kernel_step m c), h2.trans (kernel_mean m c), h3.trans (kernel_square m c), h4⟩
  · refine (θ_run Cert.ReferenceUpStepIdeal.defs _ _).mono (fun r h c => ?_) (Cert.ReferenceUpStepIdeal.Value.run m' ρ')
    obtain ⟨a0, a1, a2, a3, a4⟩ := hag c
    obtain ⟨h0, h1, h2, h3, h4⟩ := h c
    refine ⟨(h0.trans (Cert.ReferenceUpStepIdeal.Read.val_main_v6_eq _ _)).trans ?_,
      (h1.trans (Cert.ReferenceUpStepIdeal.Read.val_main_v30_eq _ _ _ _ _)).trans ?_,
      (h2.trans (Cert.ReferenceUpStepIdeal.Read.val_main_v11_eq _ _ _)).trans ?_,
      (h3.trans (Cert.ReferenceUpStepIdeal.Read.val_main_v17_eq _ _ _)).trans ?_, h4⟩
    · rw [a0, a1]; exact reference_gradient _ _
    · rw [a0, a1, a2, a3, a4]; exact reference_step _ _ _ _ _
    · rw [a0, a1, a3]; exact reference_mean _ _ _
    · rw [a0, a1, a4]; exact reference_square _ _ _
end

end Cert.UpStep
end
-- ==== Proof.DownStep.lean ====
/-
  The AdamW step of the contracting weight, two layers at once: the eight devices' parts of each layer's
  gradient are added, and the weight's means and its step follow. Each point takes 344 rows of one layer.
-/
module
public import proofs.«01_k».proof.Defs
public import proofs.«01_k».proof.Proof.Adam
public import proofs.«01_k».proof.Proof.Products
public import proofs.«01_k».proof.Proof.Gen.KernelDownStepIdeal.Value
public import proofs.«01_k».proof.Proof.Gen.ReferenceDownStepIdeal.Run
public import proofs.«01_k».proof.Proof.Gen.ReferenceDownStepIdeal.Read

@[expose] public section
set_option maxRecDepth 16384
noncomputable section
namespace Cert.DownStep
open Idealize.ShloMosaic Idealize.ShloMosaic.TcCoe Idealize.SL.Sem Cert.Adam

/-- The eight devices' parts of one layer's gradient, over the extended reals. -/
abbrev Parts := (⟨3, ![8, 344, 1024]⟩ : Shape).Idx → EReal
/-- One device's shard of both layers' weights, and their means, over the extended reals. -/
abbrev Shard := (⟨3, ![2, 344, 1024]⟩ : Shape).Idx → EReal

/-- The gradient: the first layer's from its parts, the second's from its own. -/
def gradient (p q : Parts) : Shard := fun i =>
  if (i 0).val = 0 then total fun d => p (ix3 d (i 1) (i 2)) else total fun d => q (ix3 d (i 1) (i 2))
/-- The step. -/
def stepped (p q : Parts) (w a s : Shard) : Shard := fun i => step (w i) (a i) (s i) (gradient p q i)
/-- The gradient's new mean. -/
def newMean (p q : Parts) (a : Shard) : Shard := fun i => mean (a i) (gradient p q i)
/-- The new mean of the gradient's square. -/
def newSquare (p q : Parts) (s : Shard) : Shard := fun i => square (s i) (gradient p q i)

section
open Cert.KernelDownStepIdeal Cert.KernelDownStepIdeal.Gen

variable (m : (ℓ : Loc nD τ sig) → Buf (Elt Ideal) ℓ)

/-- The blocks a point stages: 344 rows of every array, and of one layer where there are two. -/
theorem staged : ∀ t : Fin cfg0.N, win0_0.index t = ![0, 0, 0] ∧ win0_1.index t = ![0, 0, 0]
    ∧ win0_2.index t = ![t.val, 0, 0] ∧ win0_3.index t = ![t.val, 0, 0]
    ∧ win0_4.index t = ![t.val, 0, 0] ∧ win0_5.index t = ![t.val, 0, 0]
    ∧ win0_6.index t = ![t.val, 0, 0] ∧ win0_7.index t = ![t.val, 0, 0]
    ∧ win0_8.index t = ![t.val, 0, 0] := by
  decide +kernel

/-- A point's layer. -/
def layer (t : Fin cfg0.N) : Fin 2 := ⟨t.val, by have : t.val < 2 := t.isLt; omega⟩
/-- Row `r` of a point's block. -/
def row (t : Fin cfg0.N) (r : Fin 344) : Fin 344 := ⟨r.val, by omega⟩

/-- The first layer's sum of the parts, as the body makes it. -/
abbrev sumFirst (x : Vec Ideal S8x344x1024 .bf16) : FVec Ideal S344x1024 .f32 :=
  k0_pay3 (F := Ideal) (View.ld x (Rect.unit ![0, 0, 0] ![1, 344, 1024] inb_S8x344x1024_S1x344x1024_0_0_0)) (View.ld x (Rect.unit ![1, 0, 0] ![1, 344, 1024] inb_S8x344x1024_S1x344x1024_1_0_0)) (View.ld x (Rect.unit ![2, 0, 0] ![1, 344, 1024] inb_S8x344x1024_S1x344x1024_2_0_0)) (View.ld x (Rect.unit ![3, 0, 0] ![1, 344, 1024] inb_S8x344x1024_S1x344x1024_3_0_0)) (View.ld x (Rect.unit ![4, 0, 0] ![1, 344, 1024] inb_S8x344x1024_S1x344x1024_4_0_0)) (View.ld x (Rect.unit ![5, 0, 0] ![1, 344, 1024] inb_S8x344x1024_S1x344x1024_5_0_0)) (View.ld x (Rect.unit ![6, 0, 0] ![1, 344, 1024] inb_S8x344x1024_S1x344x1024_6_0_0)) (View.ld x (Rect.unit ![7, 0, 0] ![1, 344, 1024] inb_S8x344x1024_S1x344x1024_7_0_0))

/-- The second layer's sum of the parts, as the body makes it. -/
abbrev sumSecond (x : Vec Ideal S8x344x1024 .bf16) : FVec Ideal S344x1024 .f32 :=
  k0_pay12 (F := Ideal) (View.ld x (Rect.unit ![0, 0, 0] ![1, 344, 1024] inb_S8x344x1024_S1x344x1024_0_0_0)) (View.ld x (Rect.unit ![1, 0, 0] ![1, 344, 1024] inb_S8x344x1024_S1x344x1024_1_0_0)) (View.ld x (Rect.unit ![2, 0, 0] ![1, 344, 1024] inb_S8x344x1024_S1x344x1024_2_0_0)) (View.ld x (Rect.unit ![3, 0, 0] ![1, 344, 1024] inb_S8x344x1024_S1x344x1024_3_0_0)) (View.ld x (Rect.unit ![4, 0, 0] ![1, 344, 1024] inb_S8x344x1024_S1x344x1024_4_0_0)) (View.ld x (Rect.unit ![5, 0, 0] ![1, 344, 1024] inb_S8x344x1024_S1x344x1024_5_0_0)) (View.ld x (Rect.unit ![6, 0, 0] ![1, 344, 1024] inb_S8x344x1024_S1x344x1024_6_0_0)) (View.ld x (Rect.unit ![7, 0, 0] ![1, 344, 1024] inb_S8x344x1024_S1x344x1024_7_0_0))

/-- The first layer's sum, entry by entry. -/
theorem first_total (x : Vec Ideal S8x344x1024 .bf16) (r : Fin 344) (j : Fin 1024)
    (p : Fin 8 → EReal) (h : ∀ d, x (ix3 d r j) = p d) : sumFirst x (ix2 r j) = total p := by
  unfold sumFirst
  unfold_payloads
  pointwise
  rw [← total_chain]
  simp only [← h]

/-- The second layer's sum, entry by entry. -/
theorem second_total (x : Vec Ideal S8x344x1024 .bf16) (r : Fin 344) (j : Fin 1024)
    (p : Fin 8 → EReal) (h : ∀ d, x (ix3 d r j) = p d) : sumSecond x (ix2 r j) = total p :=
  first_total x r j p h

/-- The body's gradient, entry by entry: the sum. -/
theorem body_gradient (g : FVec Ideal S344x1024 .f32) (r : Fin 344) (j : Fin 1024) :
    k0_pay7 (F := Ideal) g (ix3 0 r j) = g (ix2 r j) := by
  unfold k0_pay7
  pointwise

/-- The body's new mean, entry by entry. -/
theorem body_mean (g : FVec Ideal S344x1024 .f32) (a : Vec Ideal S1x344x1024 .f32) (r : Fin 344) (j : Fin 1024)
    (g' a' : EReal) (hg : g (ix2 r j) = g') (ha : a (ix3 0 r j) = a') :
    k0_pay8 (F := Ideal) g (k0_pay4 a) (ix3 0 r j) = mean a' g' := by
  subst hg ha
  unfold_payloads
  pointwise
  rfl

/-- The body's new mean of the square, entry by entry. -/
theorem body_square (g : FVec Ideal S344x1024 .f32) (s : Vec Ideal S1x344x1024 .f32) (r : Fin 344) (j : Fin 1024)
    (g' s' : EReal) (hg : g (ix2 r j) = g') (hs : s (ix3 0 r j) = s') :
    k0_pay9 (F := Ideal) g s (ix3 0 r j) = square s' g' := by
  subst hg hs
  unfold_payloads
  pointwise
  rfl

/-- The body's step, entry by entry. -/
theorem body_step (g : FVec Ideal S344x1024 .f32) (w a s : Vec Ideal S1x344x1024 .f32) (r : Fin 344) (j : Fin 1024)
    (g' w' a' s' : EReal) (hg : g (ix2 r j) = g') (hw : w (ix3 0 r j) = w') (ha : a (ix3 0 r j) = a')
    (hs : s (ix3 0 r j) = s') :
    k0_pay1 (F := Ideal) (k0_pay10 g (k0_pay4 a) s) (k0_pay11 w) (ix3 0 r j) = step w' a' s' g' := by
  subst hg hw ha hs
  unfold_payloads
  pointwise
  rfl

/-- At a point of the first layer the sum is the gradient's row. -/
theorem block_first (c : Dev nD) (t : Fin cfg0.N) (ht : t.val < 1) (r : Fin 344) (j : Fin 1024) :
    sumFirst (iblk m c 0 t) (ix2 r j) = gradient (V m c main_arg0) (V m c main_arg1) (ix3 (layer t) (row t r) j) := by
  refine (first_total _ r j (fun d => V m c main_arg0 (ix3 d (row t r) j)) fun d => ?_).trans ?_
  · unfold row; blk_ext [iblk, V, staged t]
  · exact (if_pos (show t.val = 0 by omega)).symm

/-- At a point of the second layer the sum is the gradient's row. -/
theorem block_second (c : Dev nD) (t : Fin cfg0.N) (ht : ¬t.val < 1) (r : Fin 344) (j : Fin 1024) :
    sumSecond (iblk m c 1 t) (ix2 r j) = gradient (V m c main_arg0) (V m c main_arg1) (ix3 (layer t) (row t r) j) := by
  refine (second_total _ r j (fun d => V m c main_arg1 (ix3 d (row t r) j)) fun d => ?_).trans ?_
  · unfold row; blk_ext [iblk, V, staged t]
  · exact (if_neg (show ¬t.val = 0 by omega)).symm

/-- The weight a point stages. -/
theorem block_weight (c : Dev nD) (t : Fin cfg0.N) (r : Fin 344) (j : Fin 1024) :
    (show Vec Ideal S1x344x1024 .f32 from iblk m c 2 t) (ix3 0 r j) = V m c main_arg2 (ix3 (layer t) (row t r) j) := by
  unfold layer row; blk_ext [iblk, V, staged t]

/-- The mean a point stages. -/
theorem block_mean (c : Dev nD) (t : Fin cfg0.N) (r : Fin 344) (j : Fin 1024) :
    (show Vec Ideal S1x344x1024 .f32 from iblk m c 3 t) (ix3 0 r j) = V m c main_arg3 (ix3 (layer t) (row t r) j) := by
  unfold layer row; blk_ext [iblk, V, staged t]

/-- The square's mean a point stages. -/
theorem block_square (c : Dev nD) (t : Fin cfg0.N) (r : Fin 344) (j : Fin 1024) :
    (show Vec Ideal S1x344x1024 .f32 from iblk m c 4 t) (ix3 0 r j) = V m c main_arg4 (ix3 (layer t) (row t r) j) := by
  unfold layer row; blk_ext [iblk, V, staged t]

/-- A point's gradient, entry by entry. -/
theorem point_gradient (c : Dev nD) (t : Fin cfg0.N) (r : Fin 344) (j : Fin 1024) :
    (outsAt0 m c t.val t.isLt).1 (ix3 0 r j)
      = gradient (V m c main_arg0) (V m c main_arg1) (ix3 (layer t) (row t r) j) := by
  by_cases h : t.val < 1
  · rw [outsAt0_A m c t (by have : t.val < 2 := t.isLt; omega) (by have : t.val < 2 := t.isLt; omega)]
    frame_out
    exact (body_gradient _ r j).trans (block_first m c t h r j)
  · rw [outsAt0_B m c t (by have : t.val < 2 := t.isLt; omega) (by have : t.val < 2 := t.isLt; omega)]
    frame_out
    exact (body_gradient _ r j).trans (block_second m c t h r j)

/-- A point's step, entry by entry. -/
theorem point_step (c : Dev nD) (t : Fin cfg0.N) (r : Fin 344) (j : Fin 1024) :
    (outsAt0 m c t.val t.isLt).2.1 (ix3 0 r j)
      = stepped (V m c main_arg0) (V m c main_arg1) (V m c main_arg2) (V m c main_arg3) (V m c main_arg4)
          (ix3 (layer t) (row t r) j) := by
  by_cases h : t.val < 1
  · rw [outsAt0_A m c t (by have : t.val < 2 := t.isLt; omega) (by have : t.val < 2 := t.isLt; omega)]
    frame_out
    exact body_step _ _ _ _ r j _ _ _ _ (block_first m c t h r j) (block_weight m c t r j) (block_mean m c t r j)
      (block_square m c t r j)
  · rw [outsAt0_B m c t (by have : t.val < 2 := t.isLt; omega) (by have : t.val < 2 := t.isLt; omega)]
    frame_out
    exact body_step _ _ _ _ r j _ _ _ _ (block_second m c t h r j) (block_weight m c t r j) (block_mean m c t r j)
      (block_square m c t r j)

/-- A point's new mean, entry by entry. -/
theorem point_mean (c : Dev nD) (t : Fin cfg0.N) (r : Fin 344) (j : Fin 1024) :
    (outsAt0 m c t.val t.isLt).2.2.1 (ix3 0 r j)
      = newMean (V m c main_arg0) (V m c main_arg1) (V m c main_arg3) (ix3 (layer t) (row t r) j) := by
  by_cases h : t.val < 1
  · rw [outsAt0_A m c t (by have : t.val < 2 := t.isLt; omega) (by have : t.val < 2 := t.isLt; omega)]
    frame_out
    exact body_mean _ _ r j _ _ (block_first m c t h r j) (block_mean m c t r j)
  · rw [outsAt0_B m c t (by have : t.val < 2 := t.isLt; omega) (by have : t.val < 2 := t.isLt; omega)]
    frame_out
    exact body_mean _ _ r j _ _ (block_second m c t h r j) (block_mean m c t r j)

/-- A point's new mean of the square, entry by entry. -/
theorem point_square (c : Dev nD) (t : Fin cfg0.N) (r : Fin 344) (j : Fin 1024) :
    (outsAt0 m c t.val t.isLt).2.2.2 (ix3 0 r j)
      = newSquare (V m c main_arg0) (V m c main_arg1) (V m c main_arg4) (ix3 (layer t) (row t r) j) := by
  by_cases h : t.val < 1
  · rw [outsAt0_A m c t (by have : t.val < 2 := t.isLt; omega) (by have : t.val < 2 := t.isLt; omega)]
    frame_out
    exact body_square _ _ r j _ _ (block_first m c t h r j) (block_square m c t r j)
  · rw [outsAt0_B m c t (by have : t.val < 2 := t.isLt; omega) (by have : t.val < 2 := t.isLt; omega)]
    frame_out
    exact body_square _ _ r j _ _ (block_second m c t h r j) (block_square m c t r j)

/-- The gradient's array after the run. -/
theorem kernel_gradient (c : Dev nD) : (dats m 0 c).arrAt 5 cfg0.N = gradient (V m c main_arg0) (V m c main_arg1) := by
  refine (dats m 0 c).arrAt_eq_of_covers 5 _ (by decide +kernel) fun t hf y => ?_
  blk_simp
  rw [after0_5]
  idx_vars y
  obtain rfl : y0 = 0 := Fin.eq_zero y0
  refine (point_gradient m c t y1 y2).trans ?_
  unfold layer row
  blk_ext [iblk, V, staged t]

/-- The step's array after the run. -/
theorem kernel_step (c : Dev nD) : (dats m 0 c).arrAt 6 cfg0.N = stepped (V m c main_arg0) (V m c main_arg1) (V m c main_arg2) (V m c main_arg3) (V m c main_arg4) := by
  refine (dats m 0 c).arrAt_eq_of_covers 6 _ (by decide +kernel) fun t hf y => ?_
  blk_simp
  rw [after0_6]
  idx_vars y
  obtain rfl : y0 = 0 := Fin.eq_zero y0
  refine (point_step m c t y1 y2).trans ?_
  unfold layer row
  blk_ext [iblk, V, staged t]

/-- The new mean's array after the run. -/
theorem kernel_mean (c : Dev nD) : (dats m 0 c).arrAt 7 cfg0.N = newMean (V m c main_arg0) (V m c main_arg1) (V m c main_arg3) := by
  refine (dats m 0 c).arrAt_eq_of_covers 7 _ (by decide +kernel) fun t hf y => ?_
  blk_simp
  rw [after0_7]
  idx_vars y
  obtain rfl : y0 = 0 := Fin.eq_zero y0
  refine (point_mean m c t y1 y2).trans ?_
  unfold layer row
  blk_ext [iblk, V, staged t]

/-- The array of the square's new mean after the run. -/
theorem kernel_square (c : Dev nD) : (dats m 0 c).arrAt 8 cfg0.N = newSquare (V m c main_arg0) (V m c main_arg1) (V m c main_arg4) := by
  refine (dats m 0 c).arrAt_eq_of_covers 8 _ (by decide +kernel) fun t hf y => ?_
  blk_simp
  rw [after0_8]
  idx_vars y
  obtain rfl : y0 = 0 := Fin.eq_zero y0
  refine (point_square m c t y1 y2).trans ?_
  unfold layer row
  blk_ext [iblk, V, staged t]

end

section
open Cert.ReferenceDownStepIdeal Cert.ReferenceDownStepIdeal.Read

/-- The reference's gradient. -/
theorem reference_gradient (p q : Parts) : val_main_v6 (F := Ideal) p q = gradient p q := by
  funext i
  idx_vars i
  unfold val_main_v6 val_main_v5 val_main_v4 val_main_v3 val_main_v2 val_main_v1 val_main_v0 val_main_cst val_main_cst_0
  pointwise
  unfold gradient total
  match i0 with
  | 0 => pointwise
  | 1 => pointwise

/-- The reference's new mean. -/
theorem reference_mean (p q : Parts) (a : Shard) : val_main_v11 (F := Ideal) p q a = newMean p q a := by
  funext i
  have h := congrFun (reference_gradient p q) i
  idx_vars i
  unfold val_main_v11 val_main_v10 val_main_v9 val_main_v8 val_main_v7 val_main_cst_1 val_main_cst_2
  generalize val_main_v6 (F := Ideal) p q = y at h ⊢
  pointwise
  rw [h]
  rfl

/-- The reference's new mean of the square. -/
theorem reference_square (p q : Parts) (s : Shard) : val_main_v17 (F := Ideal) p q s = newSquare p q s := by
  funext i
  have h := congrFun (reference_gradient p q) i
  idx_vars i
  unfold val_main_v17 val_main_v16 val_main_v15 val_main_v14 val_main_v13 val_main_v12 val_main_cst_3 val_main_cst_4
  generalize val_main_v6 (F := Ideal) p q = y at h ⊢
  pointwise
  rw [h]
  rfl

/-- The reference's step. -/
theorem reference_step (p q : Parts) (w a s : Shard) : val_main_v30 (F := Ideal) p q w a s = stepped p q w a s := by
  funext i
  have ha := congrFun (reference_mean p q a) i
  have hs := congrFun (reference_square p q s) i
  idx_vars i
  unfold val_main_v30 val_main_v29 val_main_v28 val_main_v27 val_main_v26 val_main_v25 val_main_v24 val_main_v23 val_main_v22 val_main_v21 val_main_v20 val_main_v19 val_main_v18 val_main_cst_5 val_main_cst_6 val_main_cst_7 val_main_cst_8 val_main_cst_9
  generalize val_main_v11 (F := Ideal) p q a = y at ha ⊢
  generalize val_main_v17 (F := Ideal) p q s = z at hs ⊢
  pointwise
  rw [ha, hs]
  rfl

/-- The reference ends with every counter at zero: it has none. -/
theorem frame_reference : Cert.quiescent_ReferenceDownStepIdeal := by
  intro m ρ _
  exact (θ_run defs _ _).mono (fun r h => ⟨fun c => (h c).2.2.2.2, sem_eq_zero_of_no_sems (by decide) r.2⟩) (Value.run (F := Ideal) m ρ)
end

section
open Cert.KernelDownStepIdeal Cert.KernelDownStepIdeal.Gen

/-- Kernel and reference leave the same gradient, step and means. -/
theorem equal : Cert.algebraic_KernelDownStepIdeal_ReferenceDownStepIdeal := by
  intro m ρ m' ρ' _ hag
  refine ⟨fun c => gradient (V m c main_arg0) (V m c main_arg1),
    fun c => stepped (V m c main_arg0) (V m c main_arg1) (V m c main_arg2) (V m c main_arg3) (V m c main_arg4),
    fun c => newMean (V m c main_arg0) (V m c main_arg1) (V m c main_arg3),
    fun c => newSquare (V m c main_arg0) (V m c main_arg1) (V m c main_arg4),
    (θ_run defs _ _).mono (fun r h c => ?_) (Value.run_blocks m ρ), ?_⟩
  · obtain ⟨h0, h1, h2, h3, h4⟩ := h c
    exact ⟨h0.trans (kernel_gradient m c), h1.trans (kernel_step m c), h2.trans (kernel_mean m c), h3.trans (kernel_square m c), h4⟩
  · refine (θ_run Cert.ReferenceDownStepIdeal.defs _ _).mono (fun r h c => ?_) (Cert.ReferenceDownStepIdeal.Value.run m' ρ')
    obtain ⟨a0, a1, a2, a3, a4⟩ := hag c
    obtain ⟨h0, h1, h2, h3, h4⟩ := h c
    refine ⟨(h0.trans (Cert.ReferenceDownStepIdeal.Read.val_main_v6_eq _ _)).trans ?_,
      (h1.trans (Cert.ReferenceDownStepIdeal.Read.val_main_v30_eq _ _ _ _ _)).trans ?_,
      (h2.trans (Cert.ReferenceDownStepIdeal.Read.val_main_v11_eq _ _ _)).trans ?_,
      (h3.trans (Cert.ReferenceDownStepIdeal.Read.val_main_v17_eq _ _ _)).trans ?_, h4⟩
    · rw [a0, a1]; exact reference_gradient _ _
    · rw [a0, a1, a2, a3, a4]; exact reference_step _ _ _ _ _
    · rw [a0, a1, a3]; exact reference_mean _ _ _
    · rw [a0, a1, a4]; exact reference_square _ _ _
end

end Cert.DownStep
end
-- ==== Proof.SmallStep.lean ====
/-
  The AdamW step of the small weights packed together: the eight devices' parts of its gradient are added, and the weights'
  means and their steps follow. One point takes all 16 rows.
-/
module
public import proofs.«01_k».proof.Defs
public import proofs.«01_k».proof.Proof.Adam
public import proofs.«01_k».proof.Proof.Products
public import proofs.«01_k».proof.Proof.Gen.KernelSmallStepIdeal.Value
public import proofs.«01_k».proof.Proof.Gen.ReferenceSmallStepIdeal.Run
public import proofs.«01_k».proof.Proof.Gen.ReferenceSmallStepIdeal.Read

@[expose] public section
set_option maxRecDepth 16384
noncomputable section
namespace Cert.SmallStep
open Idealize.ShloMosaic Idealize.ShloMosaic.TcCoe Idealize.SL.Sem Cert.Adam

/-- The eight devices' parts of the gradient, over the extended reals. -/
abbrev Parts := (⟨3, ![8, 16, 768]⟩ : Shape).Idx → EReal
/-- One device's shard of the weights, and their means, over the extended reals. -/
abbrev Shard := (⟨3, ![1, 16, 768]⟩ : Shape).Idx → EReal

/-- The gradient. -/
def gradient (p : Parts) : Shard := fun i => total fun d => p (ix3 d (i 1) (i 2))
/-- The step. -/
def stepped (p : Parts) (w a s : Shard) : Shard := fun i => step (w i) (a i) (s i) (gradient p i)
/-- The gradient's new mean. -/
def newMean (p : Parts) (a : Shard) : Shard := fun i => mean (a i) (gradient p i)
/-- The new mean of the gradient's square. -/
def newSquare (p : Parts) (s : Shard) : Shard := fun i => square (s i) (gradient p i)

section
open Cert.KernelSmallStepIdeal Cert.KernelSmallStepIdeal.Gen

variable (m : (ℓ : Loc nD τ sig) → Buf (Elt Ideal) ℓ)

/-- The blocks a point stages: every array whole. -/
theorem staged : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] := by
  decide +kernel

/-- Row `r` of a point's block. -/
def row (t : Fin cfg0.N) (r : Fin 16) : Fin 16 := ⟨16 * t.val + r.val, by have : t.val < 1 := t.isLt; omega⟩

/-- The body's sum of the parts, entry by entry. -/
theorem body_total (x : Vec Ideal S8x16x768 .f32) (w a s : Vec Ideal S1x16x768 .f32) (r : Fin 16) (j : Fin 768)
    (p : Fin 8 → EReal) (h : ∀ d, x (ix3 d r j) = p d) : k0_pay11 (F := Ideal) x w a s (ix2 r j) = total p := by
  unfold_payloads
  pointwise
  rw [← total_chain]
  simp only [← h]

/-- The body's new mean, entry by entry. -/
theorem body_mean (x : Vec Ideal S8x16x768 .f32) (w a s : Vec Ideal S1x16x768 .f32) (r : Fin 16) (j : Fin 768)
    (p : Fin 8 → EReal) (a' : EReal) (h : ∀ d, x (ix3 d r j) = p d) (ha : a (ix3 0 r j) = a') :
    k0_pay8 (F := Ideal) (k0_pay12 x w a s) (k0_pay13 x w a s) (ix3 0 r j) = mean a' (total p) := by
  subst ha
  unfold_payloads
  pointwise
  rw [← total_chain]
  simp only [← h]
  rfl

/-- The body's new mean of the square, entry by entry. -/
theorem body_square (g : FVec Ideal S16x768 .f32) (s : Vec Ideal S1x16x768 .f32) (r : Fin 16) (j : Fin 768) (g' s' : EReal)
    (hg : g (ix2 r j) = g') (hs : s (ix3 0 r j) = s') : k0_pay9 (F := Ideal) g s (ix3 0 r j) = square s' g' := by
  subst hg hs
  unfold_payloads
  pointwise
  rfl

/-- The body's step, entry by entry. -/
theorem body_step (x : Vec Ideal S8x16x768 .f32) (w a s : Vec Ideal S1x16x768 .f32) (r : Fin 16) (j : Fin 768)
    (p : Fin 8 → EReal) (w' a' s' : EReal) (h : ∀ d, x (ix3 d r j) = p d) (hw : w (ix3 0 r j) = w')
    (ha : a (ix3 0 r j) = a') (hs : s (ix3 0 r j) = s') :
    k0_pay1 (F := Ideal) (k0_pay10 (k0_pay11 x w a s) (k0_pay12 x w a s) (k0_pay13 x w a s) s w) (ix3 0 r j)
      = step w' a' s' (total p) := by
  subst hw ha hs
  unfold_payloads
  pointwise
  rw [← total_chain]
  simp only [← h]
  rfl

/-- A point's parts are the rows of the array of parts. -/
theorem block_parts (c : Dev nD) (t : Fin cfg0.N) (r : Fin 16) (j : Fin 768) (d : Fin 8) :
    (show Vec Ideal S8x16x768 .f32 from iblk m c 0 t) (ix3 d r j) = V m c main_arg0 (ix3 d (row t r) j) := by
  unfold row; blk_ext [iblk, V, staged t]

/-- A point's sum of the parts is the gradient's row. -/
theorem block_total (c : Dev nD) (t : Fin cfg0.N) (r : Fin 16) (j : Fin 768) :
    k0_pay11 (F := Ideal) (iblk m c 0 t) (iblk m c 1 t) (iblk m c 2 t) (iblk m c 3 t) (ix2 r j)
      = gradient (V m c main_arg0) (ix3 0 (row t r) j) := by
  exact body_total _ _ _ _ r j _ fun d => block_parts m c t r j d

/-- The gradient's array after the run. -/
theorem kernel_gradient (c : Dev nD) : (dats m 0 c).arrAt 4 cfg0.N = gradient (V m c main_arg0) := by
  refine (dats m 0 c).arrAt_eq_of_covers 4 _ (by decide +kernel) fun t hf y => ?_
  blk_simp
  rw [after0_4]
  idx_vars y
  obtain rfl : y0 = 0 := Fin.eq_zero y0
  unfold out0_4
  frame_out
  unfold k0_pay7
  pointwise
  refine (block_total m c t y1 y2).trans ?_
  unfold row
  blk_ext [iblk, V, staged t]

/-- The step's array after the run. -/
theorem kernel_step (c : Dev nD) : (dats m 0 c).arrAt 5 cfg0.N
    = stepped (V m c main_arg0) (V m c main_arg1) (V m c main_arg2) (V m c main_arg3) := by
  refine (dats m 0 c).arrAt_eq_of_covers 5 _ (by decide +kernel) fun t hf y => ?_
  blk_simp
  rw [after0_5]
  idx_vars y
  obtain rfl : y0 = 0 := Fin.eq_zero y0
  unfold out0_5
  frame_out
  refine (body_step _ _ _ _ y1 y2 _ (V m c main_arg1 (ix3 0 (row t y1) y2)) (V m c main_arg2 (ix3 0 (row t y1) y2))
    (V m c main_arg3 (ix3 0 (row t y1) y2)) (block_parts m c t y1 y2) ?_ ?_ ?_).trans ?_
  all_goals unfold row
  · blk_ext [iblk, V, staged t]
  · blk_ext [iblk, V, staged t]
  · blk_ext [iblk, V, staged t]
  · change stepped (V m c main_arg0) (V m c main_arg1) (V m c main_arg2) (V m c main_arg3) (ix3 0 (row t y1) y2) = _
    unfold row
    blk_ext [iblk, V, staged t]

/-- The new mean's array after the run. -/
theorem kernel_mean (c : Dev nD) : (dats m 0 c).arrAt 6 cfg0.N = newMean (V m c main_arg0) (V m c main_arg2) := by
  refine (dats m 0 c).arrAt_eq_of_covers 6 _ (by decide +kernel) fun t hf y => ?_
  blk_simp
  rw [after0_6]
  idx_vars y
  obtain rfl : y0 = 0 := Fin.eq_zero y0
  unfold out0_6
  frame_out
  refine (body_mean _ _ _ _ y1 y2 _ (V m c main_arg2 (ix3 0 (row t y1) y2)) (block_parts m c t y1 y2) ?_).trans ?_
  · unfold row; blk_ext [iblk, V, staged t]
  · change newMean (V m c main_arg0) (V m c main_arg2) (ix3 0 (row t y1) y2) = _
    unfold row
    blk_ext [iblk, V, staged t]

/-- The array of the square's new mean after the run. -/
theorem kernel_square (c : Dev nD) : (dats m 0 c).arrAt 7 cfg0.N = newSquare (V m c main_arg0) (V m c main_arg3) := by
  refine (dats m 0 c).arrAt_eq_of_covers 7 _ (by decide +kernel) fun t hf y => ?_
  blk_simp
  rw [after0_7]
  idx_vars y
  obtain rfl : y0 = 0 := Fin.eq_zero y0
  unfold out0_7
  frame_out
  refine (body_square _ _ y1 y2 _ (V m c main_arg3 (ix3 0 (row t y1) y2)) (block_total m c t y1 y2) ?_).trans ?_
  · unfold row; blk_ext [iblk, V, staged t]
  · change newSquare (V m c main_arg0) (V m c main_arg3) (ix3 0 (row t y1) y2) = _
    unfold row
    blk_ext [iblk, V, staged t]
end

section
open Cert.ReferenceSmallStepIdeal Cert.ReferenceSmallStepIdeal.Read

/-- The reference's gradient. -/
theorem reference_gradient (p : Parts) : val_main_v1 (F := Ideal) p = gradient p := by
  funext i
  idx_vars i
  obtain rfl : i0 = 0 := Fin.eq_zero i0
  unfold val_main_v1 val_main_v0 val_main_cst
  pointwise
  rfl

/-- The reference's new mean. -/
theorem reference_mean (p : Parts) (a : Shard) : val_main_v6 (F := Ideal) p a = newMean p a := by
  funext i
  have h := congrFun (reference_gradient p) i
  idx_vars i
  unfold val_main_v6 val_main_v5 val_main_v4 val_main_v3 val_main_v2 val_main_cst_0 val_main_cst_1
  generalize val_main_v1 (F := Ideal) p = y at h ⊢
  pointwise
  rw [h]
  rfl

/-- The reference's new mean of the square. -/
theorem reference_square (p : Parts) (s : Shard) : val_main_v12 (F := Ideal) p s = newSquare p s := by
  funext i
  have h := congrFun (reference_gradient p) i
  idx_vars i
  unfold val_main_v12 val_main_v11 val_main_v10 val_main_v9 val_main_v8 val_main_v7 val_main_cst_2 val_main_cst_3
  generalize val_main_v1 (F := Ideal) p = y at h ⊢
  pointwise
  rw [h]
  rfl

/-- The reference's step. -/
theorem reference_step (p : Parts) (w a s : Shard) : val_main_v25 (F := Ideal) p w a s = stepped p w a s := by
  funext i
  have ha := congrFun (reference_mean p a) i
  have hs := congrFun (reference_square p s) i
  idx_vars i
  unfold val_main_v25 val_main_v24 val_main_v23 val_main_v22 val_main_v21 val_main_v20 val_main_v19 val_main_v18 val_main_v17 val_main_v16 val_main_v15 val_main_v14 val_main_v13 val_main_cst_4 val_main_cst_5 val_main_cst_6 val_main_cst_7 val_main_cst_8
  generalize val_main_v6 (F := Ideal) p a = y at ha ⊢
  generalize val_main_v12 (F := Ideal) p s = z at hs ⊢
  pointwise
  rw [ha, hs]
  rfl

/-- The reference ends with every counter at zero: it has none. -/
theorem frame_reference : Cert.quiescent_ReferenceSmallStepIdeal := by
  intro m ρ _
  exact (θ_run defs _ _).mono (fun r h => ⟨fun c => (h c).2.2.2.2, sem_eq_zero_of_no_sems (by decide) r.2⟩) (Value.run (F := Ideal) m ρ)
end

section
open Cert.KernelSmallStepIdeal Cert.KernelSmallStepIdeal.Gen

/-- Kernel and reference leave the same gradient, step and means. -/
theorem equal : Cert.algebraic_KernelSmallStepIdeal_ReferenceSmallStepIdeal := by
  intro m ρ m' ρ' _ hag
  refine ⟨fun c => gradient (V m c main_arg0),
    fun c => stepped (V m c main_arg0) (V m c main_arg1) (V m c main_arg2) (V m c main_arg3),
    fun c => newMean (V m c main_arg0) (V m c main_arg2),
    fun c => newSquare (V m c main_arg0) (V m c main_arg3),
    (θ_run defs _ _).mono (fun r h c => ?_) (Value.run_blocks m ρ), ?_⟩
  · obtain ⟨h0, h1, h2, h3, h4⟩ := h c
    exact ⟨h0.trans (kernel_gradient m c), h1.trans (kernel_step m c), h2.trans (kernel_mean m c), h3.trans (kernel_square m c), h4⟩
  · refine (θ_run Cert.ReferenceSmallStepIdeal.defs _ _).mono (fun r h c => ?_) (Cert.ReferenceSmallStepIdeal.Value.run m' ρ')
    obtain ⟨a0, a1, a2, a3⟩ := hag c
    obtain ⟨h0, h1, h2, h3, h4⟩ := h c
    refine ⟨(h0.trans (Cert.ReferenceSmallStepIdeal.Read.val_main_v1_eq _)).trans ?_,
      (h1.trans (Cert.ReferenceSmallStepIdeal.Read.val_main_v25_eq _ _ _ _)).trans ?_,
      (h2.trans (Cert.ReferenceSmallStepIdeal.Read.val_main_v6_eq _ _)).trans ?_,
      (h3.trans (Cert.ReferenceSmallStepIdeal.Read.val_main_v12_eq _ _)).trans ?_, h4⟩
    · rw [a0]; exact reference_gradient _
    · rw [a0, a1, a2, a3]; exact reference_step _ _ _ _
    · rw [a0, a2]; exact reference_mean _ _
    · rw [a0, a3]; exact reference_square _ _
end

end Cert.SmallStep
end
-- ==== Proof.SharedStep.lean ====
/-
  The AdamW step of the weights every device holds, packed together: the eight devices' parts of its gradient are added, and the weights'
  means and their steps follow. One point takes all 168 rows.
-/
module
public import proofs.«01_k».proof.Defs
public import proofs.«01_k».proof.Proof.Adam
public import proofs.«01_k».proof.Proof.Products
public import proofs.«01_k».proof.Proof.Gen.KernelSharedStepIdeal.Value
public import proofs.«01_k».proof.Proof.Gen.ReferenceSharedStepIdeal.Run
public import proofs.«01_k».proof.Proof.Gen.ReferenceSharedStepIdeal.Read

@[expose] public section
set_option maxRecDepth 16384
noncomputable section
namespace Cert.SharedStep
open Idealize.ShloMosaic Idealize.ShloMosaic.TcCoe Idealize.SL.Sem Cert.Adam

/-- The eight devices' parts of the gradient, over the extended reals. -/
abbrev Parts := (⟨3, ![8, 168, 1024]⟩ : Shape).Idx → EReal
/-- One device's shard of the weights, and their means, over the extended reals. -/
abbrev Shard := (⟨3, ![1, 168, 1024]⟩ : Shape).Idx → EReal

/-- The gradient. -/
def gradient (p : Parts) : Shard := fun i => total fun d => p (ix3 d (i 1) (i 2))
/-- The step. -/
def stepped (p : Parts) (w a s : Shard) : Shard := fun i => step (w i) (a i) (s i) (gradient p i)
/-- The gradient's new mean. -/
def newMean (p : Parts) (a : Shard) : Shard := fun i => mean (a i) (gradient p i)
/-- The new mean of the gradient's square. -/
def newSquare (p : Parts) (s : Shard) : Shard := fun i => square (s i) (gradient p i)

section
open Cert.KernelSharedStepIdeal Cert.KernelSharedStepIdeal.Gen

variable (m : (ℓ : Loc nD τ sig) → Buf (Elt Ideal) ℓ)

/-- The blocks a point stages: every array whole. -/
theorem staged : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] := by
  decide +kernel

/-- Row `r` of a point's block. -/
def row (t : Fin cfg0.N) (r : Fin 168) : Fin 168 := ⟨168 * t.val + r.val, by have : t.val < 1 := t.isLt; omega⟩

/-- The body's sum of the parts, entry by entry. -/
theorem body_total (x : Vec Ideal S8x168x1024 .f32) (w a s : Vec Ideal S1x168x1024 .f32) (r : Fin 168) (j : Fin 1024)
    (p : Fin 8 → EReal) (h : ∀ d, x (ix3 d r j) = p d) : k0_pay11 (F := Ideal) x w a s (ix2 r j) = total p := by
  unfold_payloads
  pointwise
  rw [← total_chain]
  simp only [← h]

/-- The body's new mean, entry by entry. -/
theorem body_mean (x : Vec Ideal S8x168x1024 .f32) (w a s : Vec Ideal S1x168x1024 .f32) (r : Fin 168) (j : Fin 1024)
    (p : Fin 8 → EReal) (a' : EReal) (h : ∀ d, x (ix3 d r j) = p d) (ha : a (ix3 0 r j) = a') :
    k0_pay8 (F := Ideal) (k0_pay12 x w a s) (k0_pay13 x w a s) (ix3 0 r j) = mean a' (total p) := by
  subst ha
  unfold_payloads
  pointwise
  rw [← total_chain]
  simp only [← h]
  rfl

/-- The body's new mean of the square, entry by entry. -/
theorem body_square (g : FVec Ideal S168x1024 .f32) (s : Vec Ideal S1x168x1024 .f32) (r : Fin 168) (j : Fin 1024) (g' s' : EReal)
    (hg : g (ix2 r j) = g') (hs : s (ix3 0 r j) = s') : k0_pay9 (F := Ideal) g s (ix3 0 r j) = square s' g' := by
  subst hg hs
  unfold_payloads
  pointwise
  rfl

/-- The body's step, entry by entry. -/
theorem body_step (x : Vec Ideal S8x168x1024 .f32) (w a s : Vec Ideal S1x168x1024 .f32) (r : Fin 168) (j : Fin 1024)
    (p : Fin 8 → EReal) (w' a' s' : EReal) (h : ∀ d, x (ix3 d r j) = p d) (hw : w (ix3 0 r j) = w')
    (ha : a (ix3 0 r j) = a') (hs : s (ix3 0 r j) = s') :
    k0_pay1 (F := Ideal) (k0_pay10 (k0_pay11 x w a s) (k0_pay12 x w a s) (k0_pay13 x w a s) s w) (ix3 0 r j)
      = step w' a' s' (total p) := by
  subst hw ha hs
  unfold_payloads
  pointwise
  rw [← total_chain]
  simp only [← h]
  rfl

/-- A point's parts are the rows of the array of parts. -/
theorem block_parts (c : Dev nD) (t : Fin cfg0.N) (r : Fin 168) (j : Fin 1024) (d : Fin 8) :
    (show Vec Ideal S8x168x1024 .f32 from iblk m c 0 t) (ix3 d r j) = V m c main_arg0 (ix3 d (row t r) j) := by
  unfold row; blk_ext [iblk, V, staged t]

/-- A point's sum of the parts is the gradient's row. -/
theorem block_total (c : Dev nD) (t : Fin cfg0.N) (r : Fin 168) (j : Fin 1024) :
    k0_pay11 (F := Ideal) (iblk m c 0 t) (iblk m c 1 t) (iblk m c 2 t) (iblk m c 3 t) (ix2 r j)
      = gradient (V m c main_arg0) (ix3 0 (row t r) j) := by
  exact body_total _ _ _ _ r j _ fun d => block_parts m c t r j d

/-- The gradient's array after the run. -/
theorem kernel_gradient (c : Dev nD) : (dats m 0 c).arrAt 4 cfg0.N = gradient (V m c main_arg0) := by
  refine (dats m 0 c).arrAt_eq_of_covers 4 _ (by decide +kernel) fun t hf y => ?_
  blk_simp
  rw [after0_4]
  idx_vars y
  obtain rfl : y0 = 0 := Fin.eq_zero y0
  unfold out0_4
  frame_out
  unfold k0_pay7
  pointwise
  refine (block_total m c t y1 y2).trans ?_
  unfold row
  blk_ext [iblk, V, staged t]

/-- The step's array after the run. -/
theorem kernel_step (c : Dev nD) : (dats m 0 c).arrAt 5 cfg0.N
    = stepped (V m c main_arg0) (V m c main_arg1) (V m c main_arg2) (V m c main_arg3) := by
  refine (dats m 0 c).arrAt_eq_of_covers 5 _ (by decide +kernel) fun t hf y => ?_
  blk_simp
  rw [after0_5]
  idx_vars y
  obtain rfl : y0 = 0 := Fin.eq_zero y0
  unfold out0_5
  frame_out
  refine (body_step _ _ _ _ y1 y2 _ (V m c main_arg1 (ix3 0 (row t y1) y2)) (V m c main_arg2 (ix3 0 (row t y1) y2))
    (V m c main_arg3 (ix3 0 (row t y1) y2)) (block_parts m c t y1 y2) ?_ ?_ ?_).trans ?_
  all_goals unfold row
  · blk_ext [iblk, V, staged t]
  · blk_ext [iblk, V, staged t]
  · blk_ext [iblk, V, staged t]
  · change stepped (V m c main_arg0) (V m c main_arg1) (V m c main_arg2) (V m c main_arg3) (ix3 0 (row t y1) y2) = _
    unfold row
    blk_ext [iblk, V, staged t]

/-- The new mean's array after the run. -/
theorem kernel_mean (c : Dev nD) : (dats m 0 c).arrAt 6 cfg0.N = newMean (V m c main_arg0) (V m c main_arg2) := by
  refine (dats m 0 c).arrAt_eq_of_covers 6 _ (by decide +kernel) fun t hf y => ?_
  blk_simp
  rw [after0_6]
  idx_vars y
  obtain rfl : y0 = 0 := Fin.eq_zero y0
  unfold out0_6
  frame_out
  refine (body_mean _ _ _ _ y1 y2 _ (V m c main_arg2 (ix3 0 (row t y1) y2)) (block_parts m c t y1 y2) ?_).trans ?_
  · unfold row; blk_ext [iblk, V, staged t]
  · change newMean (V m c main_arg0) (V m c main_arg2) (ix3 0 (row t y1) y2) = _
    unfold row
    blk_ext [iblk, V, staged t]

/-- The array of the square's new mean after the run. -/
theorem kernel_square (c : Dev nD) : (dats m 0 c).arrAt 7 cfg0.N = newSquare (V m c main_arg0) (V m c main_arg3) := by
  refine (dats m 0 c).arrAt_eq_of_covers 7 _ (by decide +kernel) fun t hf y => ?_
  blk_simp
  rw [after0_7]
  idx_vars y
  obtain rfl : y0 = 0 := Fin.eq_zero y0
  unfold out0_7
  frame_out
  refine (body_square _ _ y1 y2 _ (V m c main_arg3 (ix3 0 (row t y1) y2)) (block_total m c t y1 y2) ?_).trans ?_
  · unfold row; blk_ext [iblk, V, staged t]
  · change newSquare (V m c main_arg0) (V m c main_arg3) (ix3 0 (row t y1) y2) = _
    unfold row
    blk_ext [iblk, V, staged t]
end

section
open Cert.ReferenceSharedStepIdeal Cert.ReferenceSharedStepIdeal.Read

/-- The reference's gradient. -/
theorem reference_gradient (p : Parts) : val_main_v1 (F := Ideal) p = gradient p := by
  funext i
  idx_vars i
  obtain rfl : i0 = 0 := Fin.eq_zero i0
  unfold val_main_v1 val_main_v0 val_main_cst
  pointwise
  rfl

/-- The reference's new mean. -/
theorem reference_mean (p : Parts) (a : Shard) : val_main_v6 (F := Ideal) p a = newMean p a := by
  funext i
  have h := congrFun (reference_gradient p) i
  idx_vars i
  unfold val_main_v6 val_main_v5 val_main_v4 val_main_v3 val_main_v2 val_main_cst_0 val_main_cst_1
  generalize val_main_v1 (F := Ideal) p = y at h ⊢
  pointwise
  rw [h]
  rfl

/-- The reference's new mean of the square. -/
theorem reference_square (p : Parts) (s : Shard) : val_main_v12 (F := Ideal) p s = newSquare p s := by
  funext i
  have h := congrFun (reference_gradient p) i
  idx_vars i
  unfold val_main_v12 val_main_v11 val_main_v10 val_main_v9 val_main_v8 val_main_v7 val_main_cst_2 val_main_cst_3
  generalize val_main_v1 (F := Ideal) p = y at h ⊢
  pointwise
  rw [h]
  rfl

/-- The reference's step. -/
theorem reference_step (p : Parts) (w a s : Shard) : val_main_v25 (F := Ideal) p w a s = stepped p w a s := by
  funext i
  have ha := congrFun (reference_mean p a) i
  have hs := congrFun (reference_square p s) i
  idx_vars i
  unfold val_main_v25 val_main_v24 val_main_v23 val_main_v22 val_main_v21 val_main_v20 val_main_v19 val_main_v18 val_main_v17 val_main_v16 val_main_v15 val_main_v14 val_main_v13 val_main_cst_4 val_main_cst_5 val_main_cst_6 val_main_cst_7 val_main_cst_8
  generalize val_main_v6 (F := Ideal) p a = y at ha ⊢
  generalize val_main_v12 (F := Ideal) p s = z at hs ⊢
  pointwise
  rw [ha, hs]
  rfl

/-- The reference ends with every counter at zero: it has none. -/
theorem frame_reference : Cert.quiescent_ReferenceSharedStepIdeal := by
  intro m ρ _
  exact (θ_run defs _ _).mono (fun r h => ⟨fun c => (h c).2.2.2.2, sem_eq_zero_of_no_sems (by decide) r.2⟩) (Value.run (F := Ideal) m ρ)
end

section
open Cert.KernelSharedStepIdeal Cert.KernelSharedStepIdeal.Gen

/-- Kernel and reference leave the same gradient, step and means. -/
theorem equal : Cert.algebraic_KernelSharedStepIdeal_ReferenceSharedStepIdeal := by
  intro m ρ m' ρ' _ hag
  refine ⟨fun c => gradient (V m c main_arg0),
    fun c => stepped (V m c main_arg0) (V m c main_arg1) (V m c main_arg2) (V m c main_arg3),
    fun c => newMean (V m c main_arg0) (V m c main_arg2),
    fun c => newSquare (V m c main_arg0) (V m c main_arg3),
    (θ_run defs _ _).mono (fun r h c => ?_) (Value.run_blocks m ρ), ?_⟩
  · obtain ⟨h0, h1, h2, h3, h4⟩ := h c
    exact ⟨h0.trans (kernel_gradient m c), h1.trans (kernel_step m c), h2.trans (kernel_mean m c), h3.trans (kernel_square m c), h4⟩
  · refine (θ_run Cert.ReferenceSharedStepIdeal.defs _ _).mono (fun r h c => ?_) (Cert.ReferenceSharedStepIdeal.Value.run m' ρ')
    obtain ⟨a0, a1, a2, a3⟩ := hag c
    obtain ⟨h0, h1, h2, h3, h4⟩ := h c
    refine ⟨(h0.trans (Cert.ReferenceSharedStepIdeal.Read.val_main_v1_eq _)).trans ?_,
      (h1.trans (Cert.ReferenceSharedStepIdeal.Read.val_main_v25_eq _ _ _ _)).trans ?_,
      (h2.trans (Cert.ReferenceSharedStepIdeal.Read.val_main_v6_eq _ _)).trans ?_,
      (h3.trans (Cert.ReferenceSharedStepIdeal.Read.val_main_v12_eq _ _)).trans ?_, h4⟩
    · rw [a0]; exact reference_gradient _
    · rw [a0, a1, a2, a3]; exact reference_step _ _ _ _
    · rw [a0, a2]; exact reference_mean _ _
    · rw [a0, a3]; exact reference_square _ _
end

end Cert.SharedStep
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.MemAttn
public import proofs.«01_k».proof.Proof.Gen.KernelUpDw
public import proofs.«01_k».proof.Proof.Gen.KernelUpDw.Frame
public import proofs.«01_k».proof.Proof.Gen.KernelUpDwIdeal
public import proofs.«01_k».proof.Proof.Gen.KernelUpDwIdeal.Value
public import proofs.«01_k».proof.Proof.Gen.ReferenceUpDwIdeal
public import proofs.«01_k».proof.Proof.Gen.ReferenceUpDwIdeal.Run
public import proofs.«01_k».proof.Proof.Gen.ReferenceUpDwIdeal.Read
public import proofs.«01_k».proof.Proof.UpDw
public import proofs.«01_k».proof.Proof.Gen.KernelDownDw
public import proofs.«01_k».proof.Proof.Gen.KernelDownDw.Frame
public import proofs.«01_k».proof.Proof.Gen.KernelDownDwIdeal
public import proofs.«01_k».proof.Proof.Gen.KernelDownDwIdeal.Value
public import proofs.«01_k».proof.Proof.Gen.ReferenceDownDwIdeal
public import proofs.«01_k».proof.Proof.Gen.ReferenceDownDwIdeal.Run
public import proofs.«01_k».proof.Proof.Gen.ReferenceDownDwIdeal.Read
public import proofs.«01_k».proof.Proof.DownDw
public import proofs.«01_k».proof.Proof.Gen.KernelSquareDw
public import proofs.«01_k».proof.Proof.Gen.KernelSquareDw.Frame
public import proofs.«01_k».proof.Proof.Gen.KernelSquareDwIdeal
public import proofs.«01_k».proof.Proof.Gen.KernelSquareDwIdeal.Value
public import proofs.«01_k».proof.Proof.Gen.ReferenceSquareDwIdeal
public import proofs.«01_k».proof.Proof.Gen.ReferenceSquareDwIdeal.Run
public import proofs.«01_k».proof.Proof.Gen.ReferenceSquareDwIdeal.Read
public import proofs.«01_k».proof.Proof.SquareDw
public import proofs.«01_k».proof.Proof.Gen.KernelKvDw
public import proofs.«01_k».proof.Proof.Gen.KernelKvDw.Frame
public import proofs.«01_k».proof.Proof.Gen.KernelKvDwIdeal
public import proofs.«01_k».proof.Proof.Gen.KernelKvDwIdeal.Value
public import proofs.«01_k».proof.Proof.Gen.ReferenceKvDwIdeal
public import proofs.«01_k».proof.Proof.Gen.ReferenceKvDwIdeal.Run
public import proofs.«01_k».proof.Proof.Gen.ReferenceKvDwIdeal.Read
public import proofs.«01_k».proof.Proof.KvDw
public import proofs.«01_k».proof.Proof.Gen.KernelDownDx
public import proofs.«01_k».proof.Proof.Gen.KernelDownDx.Frame
public import proofs.«01_k».proof.Proof.Gen.KernelDownDxIdeal
public import proofs.«01_k».proof.Proof.Gen.KernelDownDxIdeal.Value
public import proofs.«01_k».proof.Proof.Gen.ReferenceDownDxIdeal
public import proofs.«01_k».proof.Proof.Gen.ReferenceDownDxIdeal.Run
public import proofs.«01_k».proof.Proof.Gen.ReferenceDownDxIdeal.Read
public import proofs.«01_k».proof.Proof.DownDx
public import proofs.«01_k».proof.Proof.Gen.KernelOutDx
public import proofs.«01_k».proof.Proof.Gen.KernelOutDx.Frame
public import proofs.«01_k».proof.Proof.Gen.KernelOutDxIdeal
public import proofs.«01_k».proof.Proof.Gen.KernelOutDxIdeal.Value
public import proofs.«01_k».proof.Proof.Gen.ReferenceOutDxIdeal
public import proofs.«01_k».proof.Proof.Gen.ReferenceOutDxIdeal.Run
public import proofs.«01_k».proof.Proof.Gen.ReferenceOutDxIdeal.Read
public import proofs.«01_k».proof.Proof.OutDx
public import proofs.«01_k».proof.Proof.Gen.KernelInDx
public import proofs.«01_k».proof.Proof.Gen.KernelInDx.Frame
public import proofs.«01_k».proof.Proof.Gen.KernelInDxIdeal
public import proofs.«01_k».proof.Proof.Gen.KernelInDxIdeal.Value
public import proofs.«01_k».proof.Proof.Gen.ReferenceInDxIdeal
public import proofs.«01_k».proof.Proof.Gen.ReferenceInDxIdeal.Run
public import proofs.«01_k».proof.Proof.Gen.ReferenceInDxIdeal.Read
public import proofs.«01_k».proof.Proof.InDx
public import proofs.«01_k».proof.Proof.Gen.KernelUpNorm
public import proofs.«01_k».proof.Proof.Gen.KernelUpNorm.Frame
public import proofs.«01_k».proof.Proof.Gen.KernelUpNormIdeal
public import proofs.«01_k».proof.Proof.Gen.KernelUpNormIdeal.Value
public import proofs.«01_k».proof.Proof.Gen.ReferenceUpNormIdeal
public import proofs.«01_k».proof.Proof.Gen.ReferenceUpNormIdeal.Run
public import proofs.«01_k».proof.Proof.Gen.ReferenceUpNormIdeal.Read
public import proofs.«01_k».proof.Proof.UpNorm
public import proofs.«01_k».proof.Proof.Gen.KernelInNorm
public import proofs.«01_k».proof.Proof.Gen.KernelInNorm.Frame
public import proofs.«01_k».proof.Proof.Gen.KernelInNormIdeal
public import proofs.«01_k».proof.Proof.Gen.KernelInNormIdeal.Value
public import proofs.«01_k».proof.Proof.Gen.ReferenceInNormIdeal
public import proofs.«01_k».proof.Proof.Gen.ReferenceInNormIdeal.Run
public import proofs.«01_k».proof.Proof.Gen.ReferenceInNormIdeal.Read
public import proofs.«01_k».proof.Proof.InNorm
public import proofs.«01_k».proof.Proof.Gen.KernelLossNorm
public import proofs.«01_k».proof.Proof.Gen.KernelLossNorm.Frame
public import proofs.«01_k».proof.Proof.Gen.KernelLossNormIdeal
public import proofs.«01_k».proof.Proof.Gen.KernelLossNormIdeal.Value
public import proofs.«01_k».proof.Proof.Gen.ReferenceLossNormIdeal
public import proofs.«01_k».proof.Proof.Gen.ReferenceLossNormIdeal.Run
public import proofs.«01_k».proof.Proof.Gen.ReferenceLossNormIdeal.Read
public import proofs.«01_k».proof.Proof.LossNorm
public import proofs.«01_k».proof.Proof.Gen.KernelOutNorm
public import proofs.«01_k».proof.Proof.Gen.KernelOutNorm.Frame
public import proofs.«01_k».proof.Proof.Gen.KernelOutNormIdeal
public import proofs.«01_k».proof.Proof.Gen.KernelOutNormIdeal.Value
public import proofs.«01_k».proof.Proof.Gen.ReferenceOutNormIdeal
public import proofs.«01_k».proof.Proof.Gen.ReferenceOutNormIdeal.Run
public import proofs.«01_k».proof.Proof.Gen.ReferenceOutNormIdeal.Read
public import proofs.«01_k».proof.Proof.OutNorm
public import proofs.«01_k».proof.Proof.Gen.KernelInProduct
public import proofs.«01_k».proof.Proof.Gen.KernelInProduct.Frame
public import proofs.«01_k».proof.Proof.Gen.KernelInProductIdeal
public import proofs.«01_k».proof.Proof.Gen.KernelInProductIdeal.Value
public import proofs.«01_k».proof.Proof.Gen.ReferenceInProductIdeal
public import proofs.«01_k».proof.Proof.Gen.ReferenceInProductIdeal.Run
public import proofs.«01_k».proof.Proof.Gen.ReferenceInProductIdeal.Read
public import proofs.«01_k».proof.Proof.InProduct
public import proofs.«01_k».proof.Proof.Gen.KernelQueryProduct
public import proofs.«01_k».proof.Proof.Gen.KernelQueryProduct.Frame
public import proofs.«01_k».proof.Proof.Gen.KernelQueryProductIdeal
public import proofs.«01_k».proof.Proof.Gen.KernelQueryProductIdeal.Value
public import proofs.«01_k».proof.Proof.Gen.ReferenceQueryProductIdeal
public import proofs.«01_k».proof.Proof.Gen.ReferenceQueryProductIdeal.Run
public import proofs.«01_k».proof.Proof.Gen.ReferenceQueryProductIdeal.Read
public import proofs.«01_k».proof.Proof.QueryProduct
public import proofs.«01_k».proof.Proof.Gen.KernelKvProduct
public import proofs.«01_k».proof.Proof.Gen.KernelKvProduct.Frame
public import proofs.«01_k».proof.Proof.Gen.KernelKvProductIdeal
public import proofs.«01_k».proof.Proof.Gen.KernelKvProductIdeal.Value
public import proofs.«01_k».proof.Proof.Gen.ReferenceKvProductIdeal
public import proofs.«01_k».proof.Proof.Gen.ReferenceKvProductIdeal.Run
public import proofs.«01_k».proof.Proof.Gen.ReferenceKvProductIdeal.Read
public import proofs.«01_k».proof.Proof.KvProduct
public import proofs.«01_k».proof.Proof.Gen.KernelMemProduct
public import proofs.«01_k».proof.Proof.Gen.KernelMemProduct.Frame
public import proofs.«01_k».proof.Proof.Gen.KernelMemProductIdeal
public import proofs.«01_k».proof.Proof.Gen.KernelMemProductIdeal.Value
public import proofs.«01_k».proof.Proof.Gen.ReferenceMemProductIdeal
public import proofs.«01_k».proof.Proof.Gen.ReferenceMemProductIdeal.Run
public import proofs.«01_k».proof.Proof.Gen.ReferenceMemProductIdeal.Read
public import proofs.«01_k».proof.Proof.MemProduct
public import proofs.«01_k».proof.Proof.Gen.KernelGateProduct
public import proofs.«01_k».proof.Proof.Gen.KernelGateProduct.Frame
public import proofs.«01_k».proof.Proof.Gen.KernelGateProductIdeal
public import proofs.«01_k».proof.Proof.Gen.KernelGateProductIdeal.Value
public import proofs.«01_k».proof.Proof.Gen.ReferenceGateProductIdeal
public import proofs.«01_k».proof.Proof.Gen.ReferenceGateProductIdeal.Run
public import proofs.«01_k».proof.Proof.Gen.ReferenceGateProductIdeal.Read
public import proofs.«01_k».proof.Proof.GateProduct
public import proofs.«01_k».proof.Proof.Gen.KernelMemDw
public import proofs.«01_k».proof.Proof.Gen.KernelMemDw.Frame
public import proofs.«01_k».proof.Proof.Gen.KernelMemDwIdeal
public import proofs.«01_k».proof.Proof.Gen.KernelMemDwIdeal.Value
public import proofs.«01_k».proof.Proof.Gen.ReferenceMemDwIdeal
public import proofs.«01_k».proof.Proof.Gen.ReferenceMemDwIdeal.Run
public import proofs.«01_k».proof.Proof.Gen.ReferenceMemDwIdeal.Read
public import proofs.«01_k».proof.Proof.MemDw
public import proofs.«01_k».proof.Proof.Gen.KernelPoolDw
public import proofs.«01_k».proof.Proof.Gen.KernelPoolDw.Frame
public import proofs.«01_k».proof.Proof.Gen.KernelPoolDwIdeal
public import proofs.«01_k».proof.Proof.Gen.KernelPoolDwIdeal.Value
public import proofs.«01_k».proof.Proof.Gen.ReferencePoolDwIdeal
public import proofs.«01_k».proof.Proof.Gen.ReferencePoolDwIdeal.Run
public import proofs.«01_k».proof.Proof.Gen.ReferencePoolDwIdeal.Read
public import proofs.«01_k».proof.Proof.PoolDw
public import proofs.«01_k».proof.Proof.Gen.KernelPoolMix
public import proofs.«01_k».proof.Proof.Gen.KernelPoolMix.Frame
public import proofs.«01_k».proof.Proof.Gen.KernelPoolMixIdeal
public import proofs.«01_k».proof.Proof.Gen.KernelPoolMixIdeal.Value
public import proofs.«01_k».proof.Proof.Gen.ReferencePoolMixIdeal
public import proofs.«01_k».proof.Proof.Gen.ReferencePoolMixIdeal.Run
public import proofs.«01_k».proof.Proof.Gen.ReferencePoolMixIdeal.Read
public import proofs.«01_k».proof.Proof.PoolMix
public import proofs.«01_k».proof.Proof.Gen.KernelUpGate
public import proofs.«01_k».proof.Proof.Gen.KernelUpGate.Frame
public import proofs.«01_k».proof.Proof.Gen.KernelUpGateIdeal
public import proofs.«01_k».proof.Proof.Gen.KernelUpGateIdeal.Value
public import proofs.«01_k».proof.Proof.Gen.ReferenceUpGateIdeal
public import proofs.«01_k».proof.Proof.Gen.ReferenceUpGateIdeal.Run
public import proofs.«01_k».proof.Proof.Gen.ReferenceUpGateIdeal.Read
public import proofs.«01_k».proof.Proof.UpGate
public import proofs.«01_k».proof.Proof.Gen.KernelDownNorm
public import proofs.«01_k».proof.Proof.Gen.KernelDownNorm.Frame
public import proofs.«01_k».proof.Proof.Gen.KernelDownNormIdeal
public import proofs.«01_k».proof.Proof.Gen.KernelDownNormIdeal.Value
public import proofs.«01_k».proof.Proof.Gen.ReferenceDownNormIdeal
public import proofs.«01_k».proof.Proof.Gen.ReferenceDownNormIdeal.Run
public import proofs.«01_k».proof.Proof.Gen.ReferenceDownNormIdeal.Read
public import proofs.«01_k».proof.Proof.DownNorm
public import proofs.«01_k».proof.Proof.Gen.KernelSquareStep
public import proofs.«01_k».proof.Proof.Gen.KernelSquareStep.Frame
public import proofs.«01_k».proof.Proof.Gen.KernelSquareStepIdeal
public import proofs.«01_k».proof.Proof.Gen.KernelSquareStepIdeal.Value
public import proofs.«01_k».proof.Proof.Gen.ReferenceSquareStepIdeal
public import proofs.«01_k».proof.Proof.Gen.ReferenceSquareStepIdeal.Run
public import proofs.«01_k».proof.Proof.Gen.ReferenceSquareStepIdeal.Read
public import proofs.«01_k».proof.Proof.SquareStep
public import proofs.«01_k».proof.Proof.Gen.KernelKvStep
public import proofs.«01_k».proof.Proof.Gen.KernelKvStep.Frame
public import proofs.«01_k».proof.Proof.Gen.KernelKvStepIdeal
public import proofs.«01_k».proof.Proof.Gen.KernelKvStepIdeal.Value
public import proofs.«01_k».proof.Proof.Gen.ReferenceKvStepIdeal
public import proofs.«01_k».proof.Proof.Gen.ReferenceKvStepIdeal.Run
public import proofs.«01_k».proof.Proof.Gen.ReferenceKvStepIdeal.Read
public import proofs.«01_k».proof.Proof.KvStep
public import proofs.«01_k».proof.Proof.Gen.KernelMemStep
public import proofs.«01_k».proof.Proof.Gen.KernelMemStep.Frame
public import proofs.«01_k».proof.Proof.Gen.KernelMemStepIdeal
public import proofs.«01_k».proof.Proof.Gen.KernelMemStepIdeal.Value
public import proofs.«01_k».proof.Proof.Gen.ReferenceMemStepIdeal
public import proofs.«01_k».proof.Proof.Gen.ReferenceMemStepIdeal.Run
public import proofs.«01_k».proof.Proof.Gen.ReferenceMemStepIdeal.Read
public import proofs.«01_k».proof.Proof.MemStep
public import proofs.«01_k».proof.Proof.Gen.KernelUpStep
public import proofs.«01_k».proof.Proof.Gen.KernelUpStep.Frame
public import proofs.«01_k».proof.Proof.Gen.KernelUpStepIdeal
public import proofs.«01_k».proof.Proof.Gen.KernelUpStepIdeal.Value
public import proofs.«01_k».proof.Proof.Gen.ReferenceUpStepIdeal
public import proofs.«01_k».proof.Proof.Gen.ReferenceUpStepIdeal.Run
public import proofs.«01_k».proof.Proof.Gen.ReferenceUpStepIdeal.Read
public import proofs.«01_k».proof.Proof.UpStep
public import proofs.«01_k».proof.Proof.Gen.KernelDownStep
public import proofs.«01_k».proof.Proof.Gen.KernelDownStep.Frame
public import proofs.«01_k».proof.Proof.Gen.KernelDownStepIdeal
public import proofs.«01_k».proof.Proof.Gen.KernelDownStepIdeal.Value
public import proofs.«01_k».proof.Proof.Gen.ReferenceDownStepIdeal
public import proofs.«01_k».proof.Proof.Gen.ReferenceDownStepIdeal.Run
public import proofs.«01_k».proof.Proof.Gen.ReferenceDownStepIdeal.Read
public import proofs.«01_k».proof.Proof.DownStep
public import proofs.«01_k».proof.Proof.Gen.KernelSmallStep
public import proofs.«01_k».proof.Proof.Gen.KernelSmallStep.Frame
public import proofs.«01_k».proof.Proof.Gen.KernelSmallStepIdeal
public import proofs.«01_k».proof.Proof.Gen.KernelSmallStepIdeal.Value
public import proofs.«01_k».proof.Proof.Gen.ReferenceSmallStepIdeal
public import proofs.«01_k».proof.Proof.Gen.ReferenceSmallStepIdeal.Run
public import proofs.«01_k».proof.Proof.Gen.ReferenceSmallStepIdeal.Read
public import proofs.«01_k».proof.Proof.SmallStep
public import proofs.«01_k».proof.Proof.Gen.KernelSharedStep
public import proofs.«01_k».proof.Proof.Gen.KernelSharedStep.Frame
public import proofs.«01_k».proof.Proof.Gen.KernelSharedStepIdeal
public import proofs.«01_k».proof.Proof.Gen.KernelSharedStepIdeal.Value
public import proofs.«01_k».proof.Proof.Gen.ReferenceSharedStepIdeal
public import proofs.«01_k».proof.Proof.Gen.ReferenceSharedStepIdeal.Run
public import proofs.«01_k».proof.Proof.Gen.ReferenceSharedStepIdeal.Read
public import proofs.«01_k».proof.Proof.SharedStep
public import proofs.«01_k».proof.Proof.Gen.Pre_finite_up_norm
public import proofs.«01_k».proof.Proof.Gen.Pre_finite_in_norm
public import proofs.«01_k».proof.Proof.Gen.Pre_finite_loss_norm
public import proofs.«01_k».proof.Proof.Gen.Pre_finite_up_gate

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.KernelUpDw.Gen.facts, Cert.KernelUpDwIdeal.Gen.facts,
    Cert.ReferenceUpDwIdeal.Gen.facts, Cert.KernelDownDw.Gen.facts, Cert.KernelDownDwIdeal.Gen.facts, Cert.ReferenceDownDwIdeal.Gen.facts,
    Cert.KernelSquareDw.Gen.facts, Cert.KernelSquareDwIdeal.Gen.facts, Cert.ReferenceSquareDwIdeal.Gen.facts, Cert.KernelKvDw.Gen.facts,
    Cert.KernelKvDwIdeal.Gen.facts, Cert.ReferenceKvDwIdeal.Gen.facts, Cert.KernelDownDx.Gen.facts, Cert.KernelDownDxIdeal.Gen.facts,
    Cert.ReferenceDownDxIdeal.Gen.facts, Cert.KernelOutDx.Gen.facts, Cert.KernelOutDxIdeal.Gen.facts, Cert.ReferenceOutDxIdeal.Gen.facts,
    Cert.KernelInDx.Gen.facts, Cert.KernelInDxIdeal.Gen.facts, Cert.ReferenceInDxIdeal.Gen.facts, Cert.KernelUpNorm.Gen.facts,
    Cert.KernelUpNormIdeal.Gen.facts, Cert.ReferenceUpNormIdeal.Gen.facts, Cert.KernelInNorm.Gen.facts, Cert.KernelInNormIdeal.Gen.facts,
    Cert.ReferenceInNormIdeal.Gen.facts, Cert.KernelLossNorm.Gen.facts, Cert.KernelLossNormIdeal.Gen.facts, Cert.ReferenceLossNormIdeal.Gen.facts,
    Cert.KernelOutNorm.Gen.facts, Cert.KernelOutNormIdeal.Gen.facts, Cert.ReferenceOutNormIdeal.Gen.facts, Cert.KernelInProduct.Gen.facts,
    Cert.KernelInProductIdeal.Gen.facts, Cert.ReferenceInProductIdeal.Gen.facts, Cert.KernelQueryProduct.Gen.facts,
    Cert.KernelQueryProductIdeal.Gen.facts, Cert.ReferenceQueryProductIdeal.Gen.facts, Cert.KernelKvProduct.Gen.facts,
    Cert.KernelKvProductIdeal.Gen.facts, Cert.ReferenceKvProductIdeal.Gen.facts, Cert.KernelMemProduct.Gen.facts,
    Cert.KernelMemProductIdeal.Gen.facts, Cert.ReferenceMemProductIdeal.Gen.facts, Cert.KernelGateProduct.Gen.facts,
    Cert.KernelGateProductIdeal.Gen.facts, Cert.ReferenceGateProductIdeal.Gen.facts, Cert.KernelMemDw.Gen.facts, Cert.KernelMemDwIdeal.Gen.facts,
    Cert.ReferenceMemDwIdeal.Gen.facts, Cert.KernelPoolDw.Gen.facts, Cert.KernelPoolDwIdeal.Gen.facts, Cert.ReferencePoolDwIdeal.Gen.facts,
    Cert.KernelPoolMix.Gen.facts, Cert.KernelPoolMixIdeal.Gen.facts, Cert.ReferencePoolMixIdeal.Gen.facts, Cert.KernelUpGate.Gen.facts,
    Cert.KernelUpGateIdeal.Gen.facts, Cert.ReferenceUpGateIdeal.Gen.facts, Cert.KernelDownNorm.Gen.facts, Cert.KernelDownNormIdeal.Gen.facts,
    Cert.ReferenceDownNormIdeal.Gen.facts, Cert.KernelSquareStep.Gen.facts, Cert.KernelSquareStepIdeal.Gen.facts,
    Cert.ReferenceSquareStepIdeal.Gen.facts, Cert.KernelKvStep.Gen.facts, Cert.KernelKvStepIdeal.Gen.facts, Cert.ReferenceKvStepIdeal.Gen.facts,
    Cert.KernelMemStep.Gen.facts, Cert.KernelMemStepIdeal.Gen.facts, Cert.ReferenceMemStepIdeal.Gen.facts, Cert.KernelUpStep.Gen.facts,
    Cert.KernelUpStepIdeal.Gen.facts, Cert.ReferenceUpStepIdeal.Gen.facts, Cert.KernelDownStep.Gen.facts, Cert.KernelDownStepIdeal.Gen.facts,
    Cert.ReferenceDownStepIdeal.Gen.facts, Cert.KernelSmallStep.Gen.facts, Cert.KernelSmallStepIdeal.Gen.facts,
    Cert.ReferenceSmallStepIdeal.Gen.facts, Cert.KernelSharedStep.Gen.facts, Cert.KernelSharedStepIdeal.Gen.facts,
    Cert.ReferenceSharedStepIdeal.Gen.facts, Cert.Pre_finite.Hand.facts, Cert.Pre_finite_up_norm.Gen.facts, Cert.Pre_finite_in_norm.Gen.facts,
    Cert.Pre_finite_loss_norm.Gen.facts, Cert.Pre_finite_up_gate.Gen.facts, fun m ρ _ => Cert.Kernel.Gen.frame m ρ,
    fun m ρ _ => Cert.KernelIdeal.Gen.frame m ρ, fun m ρ _ => Cert.KernelIdeal.Gen.frame m ρ, MemAttn.frame_ref,
    fun m ρ _ => MemAttn.frame_ref m ρ trivial, fun m ρ _ => Cert.KernelUpDw.Gen.frame m ρ, fun m ρ _ => Cert.KernelUpDwIdeal.Gen.frame m ρ,
    UpDw.frame_reference, fun m ρ _ => Cert.KernelDownDw.Gen.frame m ρ, fun m ρ _ => Cert.KernelDownDwIdeal.Gen.frame m ρ, DownDw.frame_reference,
    fun m ρ _ => Cert.KernelSquareDw.Gen.frame m ρ, fun m ρ _ => Cert.KernelSquareDwIdeal.Gen.frame m ρ, SquareDw.frame_reference,
    fun m ρ _ => Cert.KernelKvDw.Gen.frame m ρ, fun m ρ _ => Cert.KernelKvDwIdeal.Gen.frame m ρ, KvDw.frame_reference,
    fun m ρ _ => Cert.KernelDownDx.Gen.frame m ρ, fun m ρ _ => Cert.KernelDownDxIdeal.Gen.frame m ρ, DownDx.frame_reference,
    fun m ρ _ => Cert.KernelOutDx.Gen.frame m ρ, fun m ρ _ => Cert.KernelOutDxIdeal.Gen.frame m ρ, OutDx.frame_reference,
    fun m ρ _ => Cert.KernelInDx.Gen.frame m ρ, fun m ρ _ => Cert.KernelInDxIdeal.Gen.frame m ρ, InDx.frame_reference,
    fun m ρ _ => Cert.KernelUpNorm.Gen.frame m ρ, fun m ρ _ => Cert.KernelUpNormIdeal.Gen.frame m ρ,
    fun m ρ _ => Cert.KernelUpNormIdeal.Gen.frame m ρ, UpNorm.frame_reference, fun m ρ _ => UpNorm.frame_reference m ρ trivial,
    fun m ρ _ => Cert.KernelInNorm.Gen.frame m ρ, fun m ρ _ => Cert.KernelInNormIdeal.Gen.frame m ρ,
    fun m ρ _ => Cert.KernelInNormIdeal.Gen.frame m ρ, InNorm.frame_reference, fun m ρ _ => InNorm.frame_reference m ρ trivial,
    fun m ρ _ => Cert.KernelLossNorm.Gen.frame m ρ, fun m ρ _ => Cert.KernelLossNormIdeal.Gen.frame m ρ,
    fun m ρ _ => Cert.KernelLossNormIdeal.Gen.frame m ρ, LossNorm.frame_reference, fun m ρ _ => LossNorm.frame_reference m ρ trivial,
    fun m ρ _ => Cert.KernelOutNorm.Gen.frame m ρ, fun m ρ _ => Cert.KernelOutNormIdeal.Gen.frame m ρ, OutNorm.frame_reference,
    fun m ρ _ => Cert.KernelInProduct.Gen.frame m ρ, fun m ρ _ => Cert.KernelInProductIdeal.Gen.frame m ρ, InProduct.frame_reference,
    fun m ρ _ => Cert.KernelQueryProduct.Gen.frame m ρ, fun m ρ _ => Cert.KernelQueryProductIdeal.Gen.frame m ρ, QueryProduct.frame_reference,
    fun m ρ _ => Cert.KernelKvProduct.Gen.frame m ρ, fun m ρ _ => Cert.KernelKvProductIdeal.Gen.frame m ρ, KvProduct.frame_reference,
    fun m ρ _ => Cert.KernelMemProduct.Gen.frame m ρ, fun m ρ _ => Cert.KernelMemProductIdeal.Gen.frame m ρ, MemProduct.frame_reference,
    fun m ρ _ => Cert.KernelGateProduct.Gen.frame m ρ, fun m ρ _ => Cert.KernelGateProductIdeal.Gen.frame m ρ, GateProduct.frame_reference,
    fun m ρ _ => Cert.KernelMemDw.Gen.frame m ρ, fun m ρ _ => Cert.KernelMemDwIdeal.Gen.frame m ρ, MemDw.frame_reference,
    fun m ρ _ => Cert.KernelPoolDw.Gen.frame m ρ, fun m ρ _ => Cert.KernelPoolDwIdeal.Gen.frame m ρ, PoolDw.frame_reference,
    fun m ρ _ => Cert.KernelPoolMix.Gen.frame m ρ, fun m ρ _ => Cert.KernelPoolMixIdeal.Gen.frame m ρ, PoolMix.frame_reference,
    fun m ρ _ => Cert.KernelUpGate.Gen.frame m ρ, fun m ρ _ => Cert.KernelUpGateIdeal.Gen.frame m ρ,
    fun m ρ _ => Cert.KernelUpGateIdeal.Gen.frame m ρ, UpGate.frame_reference, fun m ρ _ => UpGate.frame_reference m ρ trivial,
    fun m ρ _ => Cert.KernelDownNorm.Gen.frame m ρ, fun m ρ _ => Cert.KernelDownNormIdeal.Gen.frame m ρ, DownNorm.frame_reference,
    fun m ρ _ => Cert.KernelSquareStep.Gen.frame m ρ, fun m ρ _ => Cert.KernelSquareStepIdeal.Gen.frame m ρ, SquareStep.frame_reference,
    fun m ρ _ => Cert.KernelKvStep.Gen.frame m ρ, fun m ρ _ => Cert.KernelKvStepIdeal.Gen.frame m ρ, KvStep.frame_reference,
    fun m ρ _ => Cert.KernelMemStep.Gen.frame m ρ, fun m ρ _ => Cert.KernelMemStepIdeal.Gen.frame m ρ, MemStep.frame_reference,
    fun m ρ _ => Cert.KernelUpStep.Gen.frame m ρ, fun m ρ _ => Cert.KernelUpStepIdeal.Gen.frame m ρ, UpStep.frame_reference,
    fun m ρ _ => Cert.KernelDownStep.Gen.frame m ρ, fun m ρ _ => Cert.KernelDownStepIdeal.Gen.frame m ρ, DownStep.frame_reference,
    fun m ρ _ => Cert.KernelSmallStep.Gen.frame m ρ, fun m ρ _ => Cert.KernelSmallStepIdeal.Gen.frame m ρ, SmallStep.frame_reference,
    fun m ρ _ => Cert.KernelSharedStep.Gen.frame m ρ, fun m ρ _ => Cert.KernelSharedStepIdeal.Gen.frame m ρ, SharedStep.frame_reference, trivial,
    @MemAttn.equal Cert.Pre_finite.Hand.facts, trivial, UpDw.equal, trivial, DownDw.equal, trivial, SquareDw.equal, trivial, KvDw.equal, trivial,
    DownDx.equal, trivial, OutDx.equal, trivial, InDx.equal, trivial, @UpNorm.equal Cert.Pre_finite_up_norm.Gen.facts, trivial,
    @InNorm.equal Cert.Pre_finite_in_norm.Gen.facts, trivial, @LossNorm.equal Cert.Pre_finite_loss_norm.Gen.facts, trivial, OutNorm.equal, trivial,
    InProduct.equal, trivial, QueryProduct.equal, trivial, KvProduct.equal, trivial, MemProduct.equal, trivial, GateProduct.equal, trivial,
    MemDw.equal, trivial, PoolDw.equal, trivial, PoolMix.equal, trivial, @UpGate.equal Cert.Pre_finite_up_gate.Gen.facts, trivial, DownNorm.equal,
    trivial, SquareStep.equal, trivial, KvStep.equal, trivial, MemStep.equal, trivial, UpStep.equal, trivial, DownStep.equal, trivial,
    SmallStep.equal, trivial, SharedStep.equal⟩

end Cert.Proof

end
